-- ==== Defs.lean ====
def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_PleH (m : (ℓ : Loc Cert.PleH.nD Cert.PleH.τ Cert.PleH.sig) → Buf (Elt Bits) ℓ) : Prop :=
  True

def Pre_PleHIdeal (m : (ℓ : Loc Cert.PleHIdeal.nD Cert.PleHIdeal.τ Cert.PleHIdeal.sig) → Buf (Elt Ideal) ℓ) : Prop :=
  True

def Pre_PleHRefIdeal (m : (ℓ : Loc Cert.PleHRefIdeal.nD Cert.PleHRefIdeal.τ Cert.PleHRefIdeal.sig) → Buf (Elt Ideal) ℓ) : Prop :=
  True

def Pre_PleGateW (m : (ℓ : Loc Cert.PleGateW.nD Cert.PleGateW.τ Cert.PleGateW.sig) → Buf (Elt Bits) ℓ) : Prop :=
  True

def Pre_PleGateWIdeal (m : (ℓ : Loc Cert.PleGateWIdeal.nD Cert.PleGateWIdeal.τ Cert.PleGateWIdeal.sig) → Buf (Elt Ideal) ℓ) : Prop :=
  True

def Pre_PleGateWRefIdeal (m : (ℓ : Loc Cert.PleGateWRefIdeal.nD Cert.PleGateWRefIdeal.τ Cert.PleGateWRefIdeal.sig) → Buf (Elt Ideal) ℓ) : Prop :=
  True

def Pre_PleW (m : (ℓ : Loc Cert.PleW.nD Cert.PleW.τ Cert.PleW.sig) → Buf (Elt Bits) ℓ) : Prop :=
  True

def Pre_PleWIdeal (m : (ℓ : Loc Cert.PleWIdeal.nD Cert.PleWIdeal.τ Cert.PleWIdeal.sig) → Buf (Elt Ideal) ℓ) : Prop :=
  True

def Pre_PleWRefIdeal (m : (ℓ : Loc Cert.PleWRefIdeal.nD Cert.PleWRefIdeal.τ Cert.PleWRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_GluW (m : (ℓ : Loc Cert.GluW.nD Cert.GluW.τ Cert.GluW.sig) → Buf (Elt Bits) ℓ) : Prop :=
  True

def Pre_GluWIdeal (m : (ℓ : Loc Cert.GluWIdeal.nD Cert.GluWIdeal.τ Cert.GluWIdeal.sig) → Buf (Elt Ideal) ℓ) : Prop :=
  True

def Pre_GluWRefIdeal (m : (ℓ : Loc Cert.GluWRefIdeal.nD Cert.GluWRefIdeal.τ Cert.GluWRefIdeal.sig) → Buf (Elt Ideal) ℓ) : Prop :=
  True

def Pre_GluProj (m : (ℓ : Loc Cert.GluProj.nD Cert.GluProj.τ Cert.GluProj.sig) → Buf (Elt Bits) ℓ) : Prop :=
  True

def Pre_GluProjIdeal (m : (ℓ : Loc Cert.GluProjIdeal.nD Cert.GluProjIdeal.τ Cert.GluProjIdeal.sig) → Buf (Elt Ideal) ℓ) : Prop :=
  True

def Pre_GluProjRefIdeal (m : (ℓ : Loc Cert.GluProjRefIdeal.nD Cert.GluProjRefIdeal.τ Cert.GluProjRefIdeal.sig) → Buf (Elt Ideal) ℓ) : Prop :=
  True

def Pre_GateOut (m : (ℓ : Loc Cert.GateOut.nD Cert.GateOut.τ Cert.GateOut.sig) → Buf (Elt Bits) ℓ) : Prop :=
  True

def Pre_GateOutIdeal (m : (ℓ : Loc Cert.GateOutIdeal.nD Cert.GateOutIdeal.τ Cert.GateOutIdeal.sig) → Buf (Elt Ideal) ℓ) : Prop :=
  True

def Pre_GateOutRefIdeal (m : (ℓ : Loc Cert.GateOutRefIdeal.nD Cert.GateOutRefIdeal.τ Cert.GateOutRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6)) (m ((c.tc : Thread Cert.GateIdeal.nD Cert.GateIdeal.τ).loc Cert.GateIdeal.main_arg7))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4)) (m ((c.tc : Thread Cert.GateRefIdeal.nD Cert.GateRefIdeal.τ).loc Cert.GateRefIdeal.main_arg5)) (m ((c.tc : Thread Cert.GateRefIdeal.nD Cert.GateRefIdeal.τ).loc Cert.GateRefIdeal.main_arg6)) (m ((c.tc : Thread Cert.GateRefIdeal.nD Cert.GateRefIdeal.τ).loc Cert.GateRefIdeal.main_arg7))) = (fun _ => 1#1)

def Pre_GluD (m : (ℓ : Loc Cert.GluD.nD Cert.GluD.τ Cert.GluD.sig) → Buf (Elt Bits) ℓ) : Prop :=
  True

def Pre_GluDIdeal (m : (ℓ : Loc Cert.GluDIdeal.nD Cert.GluDIdeal.τ Cert.GluDIdeal.sig) → Buf (Elt Ideal) ℓ) : Prop :=
  True

def Pre_GluDIdeal_glu_finite [hPre_glu_finite : Cert.Pre_glu_finite.Facts] (m : (ℓ : Loc Cert.GluDIdeal.nD Cert.GluDIdeal.τ Cert.GluDIdeal.sig) → Buf (Elt Ideal) ℓ) : Prop :=
  ∀ c : Dev Cert.GluDIdeal.nD,
    (Cert.Pre_glu_finite.fn (F := Ideal) (m ((c.tc : Thread Cert.GluDIdeal.nD Cert.GluDIdeal.τ).loc Cert.GluDIdeal.main_arg0)) (m ((c.tc : Thread Cert.GluDIdeal.nD Cert.GluDIdeal.τ).loc Cert.GluDIdeal.main_arg1)) (m ((c.tc : Thread Cert.GluDIdeal.nD Cert.GluDIdeal.τ).loc Cert.GluDIdeal.main_arg2)) (m ((c.tc : Thread Cert.GluDIdeal.nD Cert.GluDIdeal.τ).loc Cert.GluDIdeal.main_arg3))) = (fun _ => 1#1)

def Pre_GluDRefIdeal (m : (ℓ : Loc Cert.GluDRefIdeal.nD Cert.GluDRefIdeal.τ Cert.GluDRefIdeal.sig) → Buf (Elt Ideal) ℓ) : Prop :=
  True

def Pre_GluDRefIdeal_glu_finite [hPre_glu_finite : Cert.Pre_glu_finite.Facts] (m : (ℓ : Loc Cert.GluDRefIdeal.nD Cert.GluDRefIdeal.τ Cert.GluDRefIdeal.sig) → Buf (Elt Ideal) ℓ) : Prop :=
  ∀ c : Dev Cert.GluDRefIdeal.nD,
    (Cert.Pre_glu_finite.fn (F := Ideal) (m ((c.tc : Thread Cert.GluDRefIdeal.nD Cert.GluDRefIdeal.τ).loc Cert.GluDRefIdeal.main_arg0)) (m ((c.tc : Thread Cert.GluDRefIdeal.nD Cert.GluDRefIdeal.τ).loc Cert.GluDRefIdeal.main_arg1)) (m ((c.tc : Thread Cert.GluDRefIdeal.nD Cert.GluDRefIdeal.τ).loc Cert.GluDRefIdeal.main_arg2)) (m ((c.tc : Thread Cert.GluDRefIdeal.nD Cert.GluDRefIdeal.τ).loc Cert.GluDRefIdeal.main_arg3))) = (fun _ => 1#1)

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolRefIdeal (m : (ℓ : Loc Cert.AdamPoolRefIdeal.nD Cert.AdamPoolRefIdeal.τ Cert.AdamPoolRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamPle (m : (ℓ : Loc Cert.AdamPle.nD Cert.AdamPle.τ Cert.AdamPle.sig) → Buf (Elt Bits) ℓ) : Prop :=
  True

def Pre_AdamPleIdeal (m : (ℓ : Loc Cert.AdamPleIdeal.nD Cert.AdamPleIdeal.τ Cert.AdamPleIdeal.sig) → Buf (Elt Ideal) ℓ) : Prop :=
  True

def Pre_AdamPleRefIdeal (m : (ℓ : Loc Cert.AdamPleRefIdeal.nD Cert.AdamPleRefIdeal.τ Cert.AdamPleRefIdeal.sig) → Buf (Elt Ideal) ℓ) : Prop :=
  True

def Pre_AdamPleGate (m : (ℓ : Loc Cert.AdamPleGate.nD Cert.AdamPleGate.τ Cert.AdamPleGate.sig) → Buf (Elt Bits) ℓ) : Prop :=
  True

def Pre_AdamPleGateIdeal (m : (ℓ : Loc Cert.AdamPleGateIdeal.nD Cert.AdamPleGateIdeal.τ Cert.AdamPleGateIdeal.sig) → Buf (Elt Ideal) ℓ) : Prop :=
  True

def Pre_AdamPleGateRefIdeal (m : (ℓ : Loc Cert.AdamPleGateRefIdeal.nD Cert.AdamPleGateRefIdeal.τ Cert.AdamPleGateRefIdeal.sig) → Buf (Elt Ideal) ℓ) : Prop :=
  True

def Pre_AdamRows (m : (ℓ : Loc Cert.AdamRows.nD Cert.AdamRows.τ Cert.AdamRows.sig) → Buf (Elt Bits) ℓ) : Prop :=
  True

def Pre_AdamRowsIdeal (m : (ℓ : Loc Cert.AdamRowsIdeal.nD Cert.AdamRowsIdeal.τ Cert.AdamRowsIdeal.sig) → Buf (Elt Ideal) ℓ) : Prop :=
  True

def Pre_AdamRowsRefIdeal (m : (ℓ : Loc Cert.AdamRowsRefIdeal.nD Cert.AdamRowsRefIdeal.τ Cert.AdamRowsRefIdeal.sig) → Buf (Elt Ideal) ℓ) : Prop :=
  True

def Pre_AdamStates (m : (ℓ : Loc Cert.AdamStates.nD Cert.AdamStates.τ Cert.AdamStates.sig) → Buf (Elt Bits) ℓ) : Prop :=
  True

def Pre_AdamStatesIdeal (m : (ℓ : Loc Cert.AdamStatesIdeal.nD Cert.AdamStatesIdeal.τ Cert.AdamStatesIdeal.sig) → Buf (Elt Ideal) ℓ) : Prop :=
  True

def Pre_AdamStatesRefIdeal (m : (ℓ : Loc Cert.AdamStatesRefIdeal.nD Cert.AdamStatesRefIdeal.τ Cert.AdamStatesRefIdeal.sig) → Buf (Elt Ideal) ℓ) : Prop :=
  True

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1)
      ∧ r.2.mem ((c.tc : Thread Cert.InW.nD Cert.InW.τ).loc Cert.InW.main_arg2) = m ((c.tc : Thread Cert.InW.nD Cert.InW.τ).loc Cert.InW.main_arg2))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1)
      ∧ r.2.mem ((c.tc : Thread Cert.InWIdeal.nD Cert.InWIdeal.τ).loc Cert.InWIdeal.main_arg2) = m ((c.tc : Thread Cert.InWIdeal.nD Cert.InWIdeal.τ).loc Cert.InWIdeal.main_arg2))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1)
      ∧ r.2.mem ((c.tc : Thread Cert.InWRefIdeal.nD Cert.InWRefIdeal.τ).loc Cert.InWRefIdeal.main_arg2) = m ((c.tc : Thread Cert.InWRefIdeal.nD Cert.InWRefIdeal.τ).loc Cert.InWRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_PleH [hPleH : Cert.PleH.Facts] : Prop :=
  ∀ (m : (ℓ : Loc Cert.PleH.nD Cert.PleH.τ Cert.PleH.sig) → Buf (Elt Bits) ℓ) (g : Dev Cert.PleH.nD → PrngReg), Pre_PleH m →
    θ_run (Cert.PleH.defs (F := Bits)) (onTc (τ := Cert.PleH.τ) (Cert.PleH.main (F := Bits))) ⟨m, fun _ => 0, g⟩ (fun r => (∀ c : Dev Cert.PleH.nD,
      r.2.mem ((c.tc : Thread Cert.PleH.nD Cert.PleH.τ).loc Cert.PleH.main_arg0) = m ((c.tc : Thread Cert.PleH.nD Cert.PleH.τ).loc Cert.PleH.main_arg0)
      ∧ r.2.mem ((c.tc : Thread Cert.PleH.nD Cert.PleH.τ).loc Cert.PleH.main_arg1) = m ((c.tc : Thread Cert.PleH.nD Cert.PleH.τ).loc Cert.PleH.main_arg1)
      ∧ r.2.mem ((c.tc : Thread Cert.PleH.nD Cert.PleH.τ).loc Cert.PleH.main_arg2) = m ((c.tc : Thread Cert.PleH.nD Cert.PleH.τ).loc Cert.PleH.main_arg2))
      ∧ r.2.sem = fun _ => 0)

def quiescent_PleHIdeal [hPleHIdeal : Cert.PleHIdeal.Facts] : Prop :=
  ∀ (m : (ℓ : Loc Cert.PleHIdeal.nD Cert.PleHIdeal.τ Cert.PleHIdeal.sig) → Buf (Elt Ideal) ℓ) (g : Dev Cert.PleHIdeal.nD → PrngReg), Pre_PleHIdeal m →
    θ_run (Cert.PleHIdeal.defs (F := Ideal)) (onTc (τ := Cert.PleHIdeal.τ) (Cert.PleHIdeal.main (F := Ideal))) ⟨m, fun _ => 0, g⟩ (fun r => (∀ c : Dev Cert.PleHIdeal.nD,
      r.2.mem ((c.tc : Thread Cert.PleHIdeal.nD Cert.PleHIdeal.τ).loc Cert.PleHIdeal.main_arg0) = m ((c.tc : Thread Cert.PleHIdeal.nD Cert.PleHIdeal.τ).loc Cert.PleHIdeal.main_arg0)
      ∧ r.2.mem ((c.tc : Thread Cert.PleHIdeal.nD Cert.PleHIdeal.τ).loc Cert.PleHIdeal.main_arg1) = m ((c.tc : Thread Cert.PleHIdeal.nD Cert.PleHIdeal.τ).loc Cert.PleHIdeal.main_arg1)
      ∧ r.2.mem ((c.tc : Thread Cert.PleHIdeal.nD Cert.PleHIdeal.τ).loc Cert.PleHIdeal.main_arg2) = m ((c.tc : Thread Cert.PleHIdeal.nD Cert.PleHIdeal.τ).loc Cert.PleHIdeal.main_arg2))
      ∧ r.2.sem = fun _ => 0)

def quiescent_PleHRefIdeal [hPleHRefIdeal : Cert.PleHRefIdeal.Facts] : Prop :=
  ∀ (m : (ℓ : Loc Cert.PleHRefIdeal.nD Cert.PleHRefIdeal.τ Cert.PleHRefIdeal.sig) → Buf (Elt Ideal) ℓ) (g : Dev Cert.PleHRefIdeal.nD → PrngReg), Pre_PleHRefIdeal m →
    θ_run (Cert.PleHRefIdeal.defs (F := Ideal)) (onTc (τ := Cert.PleHRefIdeal.τ) (Cert.PleHRefIdeal.main (F := Ideal))) ⟨m, fun _ => 0, g⟩ (fun r => (∀ c : Dev Cert.PleHRefIdeal.nD,
      r.2.mem ((c.tc : Thread Cert.PleHRefIdeal.nD Cert.PleHRefIdeal.τ).loc Cert.PleHRefIdeal.main_arg0) = m ((c.tc : Thread Cert.PleHRefIdeal.nD Cert.PleHRefIdeal.τ).loc Cert.PleHRefIdeal.main_arg0)
      ∧ r.2.mem ((c.tc : Thread Cert.PleHRefIdeal.nD Cert.PleHRefIdeal.τ).loc Cert.PleHRefIdeal.main_arg1) = m ((c.tc : Thread Cert.PleHRefIdeal.nD Cert.PleHRefIdeal.τ).loc Cert.PleHRefIdeal.main_arg1)
      ∧ r.2.mem ((c.tc : Thread Cert.PleHRefIdeal.nD Cert.PleHRefIdeal.τ).loc Cert.PleHRefIdeal.main_arg2) = m ((c.tc : Thread Cert.PleHRefIdeal.nD Cert.PleHRefIdeal.τ).loc Cert.PleHRefIdeal.main_arg2))
      ∧ r.2.sem = fun _ => 0)

def quiescent_PleGateW [hPleGateW : Cert.PleGateW.Facts] : Prop :=
  ∀ (m : (ℓ : Loc Cert.PleGateW.nD Cert.PleGateW.τ Cert.PleGateW.sig) → Buf (Elt Bits) ℓ) (g : Dev Cert.PleGateW.nD → PrngReg), Pre_PleGateW m →
    θ_run (Cert.PleGateW.defs (F := Bits)) (onTc (τ := Cert.PleGateW.τ) (Cert.PleGateW.main (F := Bits))) ⟨m, fun _ => 0, g⟩ (fun r => (∀ c : Dev Cert.PleGateW.nD,
      r.2.mem ((c.tc : Thread Cert.PleGateW.nD Cert.PleGateW.τ).loc Cert.PleGateW.main_arg0) = m ((c.tc : Thread Cert.PleGateW.nD Cert.PleGateW.τ).loc Cert.PleGateW.main_arg0)
      ∧ r.2.mem ((c.tc : Thread Cert.PleGateW.nD Cert.PleGateW.τ).loc Cert.PleGateW.main_arg1) = m ((c.tc : Thread Cert.PleGateW.nD Cert.PleGateW.τ).loc Cert.PleGateW.main_arg1))
      ∧ r.2.sem = fun _ => 0)

def quiescent_PleGateWIdeal [hPleGateWIdeal : Cert.PleGateWIdeal.Facts] : Prop :=
  ∀ (m : (ℓ : Loc Cert.PleGateWIdeal.nD Cert.PleGateWIdeal.τ Cert.PleGateWIdeal.sig) → Buf (Elt Ideal) ℓ) (g : Dev Cert.PleGateWIdeal.nD → PrngReg), Pre_PleGateWIdeal m →
    θ_run (Cert.PleGateWIdeal.defs (F := Ideal)) (onTc (τ := Cert.PleGateWIdeal.τ) (Cert.PleGateWIdeal.main (F := Ideal))) ⟨m, fun _ => 0, g⟩ (fun r => (∀ c : Dev Cert.PleGateWIdeal.nD,
      r.2.mem ((c.tc : Thread Cert.PleGateWIdeal.nD Cert.PleGateWIdeal.τ).loc Cert.PleGateWIdeal.main_arg0) = m ((c.tc : Thread Cert.PleGateWIdeal.nD Cert.PleGateWIdeal.τ).loc Cert.PleGateWIdeal.main_arg0)
      ∧ r.2.mem ((c.tc : Thread Cert.PleGateWIdeal.nD Cert.PleGateWIdeal.τ).loc Cert.PleGateWIdeal.main_arg1) = m ((c.tc : Thread Cert.PleGateWIdeal.nD Cert.PleGateWIdeal.τ).loc Cert.PleGateWIdeal.main_arg1))
      ∧ r.2.sem = fun _ => 0)

def quiescent_PleGateWRefIdeal [hPleGateWRefIdeal : Cert.PleGateWRefIdeal.Facts] : Prop :=
  ∀ (m : (ℓ : Loc Cert.PleGateWRefIdeal.nD Cert.PleGateWRefIdeal.τ Cert.PleGateWRefIdeal.sig) → Buf (Elt Ideal) ℓ) (g : Dev Cert.PleGateWRefIdeal.nD → PrngReg), Pre_PleGateWRefIdeal m →
    θ_run (Cert.PleGateWRefIdeal.defs (F := Ideal)) (onTc (τ := Cert.PleGateWRefIdeal.τ) (Cert.PleGateWRefIdeal.main (F := Ideal))) ⟨m, fun _ => 0, g⟩ (fun r => (∀ c : Dev Cert.PleGateWRefIdeal.nD,
      r.2.mem ((c.tc : Thread Cert.PleGateWRefIdeal.nD Cert.PleGateWRefIdeal.τ).loc Cert.PleGateWRefIdeal.main_arg0) = m ((c.tc : Thread Cert.PleGateWRefIdeal.nD Cert.PleGateWRefIdeal.τ).loc Cert.PleGateWRefIdeal.main_arg0)
      ∧ r.2.mem ((c.tc : Thread Cert.PleGateWRefIdeal.nD Cert.PleGateWRefIdeal.τ).loc Cert.PleGateWRefIdeal.main_arg1) = m ((c.tc : Thread Cert.PleGateWRefIdeal.nD Cert.PleGateWRefIdeal.τ).loc Cert.PleGateWRefIdeal.main_arg1))
      ∧ r.2.sem = fun _ => 0)

def quiescent_PleW [hPleW : Cert.PleW.Facts] : Prop :=
  ∀ (m : (ℓ : Loc Cert.PleW.nD Cert.PleW.τ Cert.PleW.sig) → Buf (Elt Bits) ℓ) (g : Dev Cert.PleW.nD → PrngReg), Pre_PleW m →
    θ_run (Cert.PleW.defs (F := Bits)) (onTc (τ := Cert.PleW.τ) (Cert.PleW.main (F := Bits))) ⟨m, fun _ => 0, g⟩ (fun r => (∀ c : Dev Cert.PleW.nD,
      r.2.mem ((c.tc : Thread Cert.PleW.nD Cert.PleW.τ).loc Cert.PleW.main_arg0) = m ((c.tc : Thread Cert.PleW.nD Cert.PleW.τ).loc Cert.PleW.main_arg0)
      ∧ r.2.mem ((c.tc : Thread Cert.PleW.nD Cert.PleW.τ).loc Cert.PleW.main_arg1) = m ((c.tc : Thread Cert.PleW.nD Cert.PleW.τ).loc Cert.PleW.main_arg1))
      ∧ r.2.sem = fun _ => 0)

def quiescent_PleWIdeal [hPleWIdeal : Cert.PleWIdeal.Facts] : Prop :=
  ∀ (m : (ℓ : Loc Cert.PleWIdeal.nD Cert.PleWIdeal.τ Cert.PleWIdeal.sig) → Buf (Elt Ideal) ℓ) (g : Dev Cert.PleWIdeal.nD → PrngReg), Pre_PleWIdeal m →
    θ_run (Cert.PleWIdeal.defs (F := Ideal)) (onTc (τ := Cert.PleWIdeal.τ) (Cert.PleWIdeal.main (F := Ideal))) ⟨m, fun _ => 0, g⟩ (fun r => (∀ c : Dev Cert.PleWIdeal.nD,
      r.2.mem ((c.tc : Thread Cert.PleWIdeal.nD Cert.PleWIdeal.τ).loc Cert.PleWIdeal.main_arg0) = m ((c.tc : Thread Cert.PleWIdeal.nD Cert.PleWIdeal.τ).loc Cert.PleWIdeal.main_arg0)
      ∧ r.2.mem ((c.tc : Thread Cert.PleWIdeal.nD Cert.PleWIdeal.τ).loc Cert.PleWIdeal.main_arg1) = m ((c.tc : Thread Cert.PleWIdeal.nD Cert.PleWIdeal.τ).loc Cert.PleWIdeal.main_arg1))
      ∧ r.2.sem = fun _ => 0)

def quiescent_PleWRefIdeal [hPleWRefIdeal : Cert.PleWRefIdeal.Facts] : Prop :=
  ∀ (m : (ℓ : Loc Cert.PleWRefIdeal.nD Cert.PleWRefIdeal.τ Cert.PleWRefIdeal.sig) → Buf (Elt Ideal) ℓ) (g : Dev Cert.PleWRefIdeal.nD → PrngReg), Pre_PleWRefIdeal m →
    θ_run (Cert.PleWRefIdeal.defs (F := Ideal)) (onTc (τ := Cert.PleWRefIdeal.τ) (Cert.PleWRefIdeal.main (F := Ideal))) ⟨m, fun _ => 0, g⟩ (fun r => (∀ c : Dev Cert.PleWRefIdeal.nD,
      r.2.mem ((c.tc : Thread Cert.PleWRefIdeal.nD Cert.PleWRefIdeal.τ).loc Cert.PleWRefIdeal.main_arg0) = m ((c.tc : Thread Cert.PleWRefIdeal.nD Cert.PleWRefIdeal.τ).loc Cert.PleWRefIdeal.main_arg0)
      ∧ r.2.mem ((c.tc : Thread Cert.PleWRefIdeal.nD Cert.PleWRefIdeal.τ).loc Cert.PleWRefIdeal.main_arg1) = m ((c.tc : Thread Cert.PleWRefIdeal.nD Cert.PleWRefIdeal.τ).loc Cert.PleWRefIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1))
      ∧ r.2.sem = fun _ => 0)

def quiescent_GluW [hGluW : Cert.GluW.Facts] : Prop :=
  ∀ (m : (ℓ : Loc Cert.GluW.nD Cert.GluW.τ Cert.GluW.sig) → Buf (Elt Bits) ℓ) (g : Dev Cert.GluW.nD → PrngReg), Pre_GluW m →
    θ_run (Cert.GluW.defs (F := Bits)) (onTc (τ := Cert.GluW.τ) (Cert.GluW.main (F := Bits))) ⟨m, fun _ => 0, g⟩ (fun r => (∀ c : Dev Cert.GluW.nD,
      r.2.mem ((c.tc : Thread Cert.GluW.nD Cert.GluW.τ).loc Cert.GluW.main_arg0) = m ((c.tc : Thread Cert.GluW.nD Cert.GluW.τ).loc Cert.GluW.main_arg0)
      ∧ r.2.mem ((c.tc : Thread Cert.GluW.nD Cert.GluW.τ).loc Cert.GluW.main_arg1) = m ((c.tc : Thread Cert.GluW.nD Cert.GluW.τ).loc Cert.GluW.main_arg1))
      ∧ r.2.sem = fun _ => 0)

def quiescent_GluWIdeal [hGluWIdeal : Cert.GluWIdeal.Facts] : Prop :=
  ∀ (m : (ℓ : Loc Cert.GluWIdeal.nD Cert.GluWIdeal.τ Cert.GluWIdeal.sig) → Buf (Elt Ideal) ℓ) (g : Dev Cert.GluWIdeal.nD → PrngReg), Pre_GluWIdeal m →
    θ_run (Cert.GluWIdeal.defs (F := Ideal)) (onTc (τ := Cert.GluWIdeal.τ) (Cert.GluWIdeal.main (F := Ideal))) ⟨m, fun _ => 0, g⟩ (fun r => (∀ c : Dev Cert.GluWIdeal.nD,
      r.2.mem ((c.tc : Thread Cert.GluWIdeal.nD Cert.GluWIdeal.τ).loc Cert.GluWIdeal.main_arg0) = m ((c.tc : Thread Cert.GluWIdeal.nD Cert.GluWIdeal.τ).loc Cert.GluWIdeal.main_arg0)
      ∧ r.2.mem ((c.tc : Thread Cert.GluWIdeal.nD Cert.GluWIdeal.τ).loc Cert.GluWIdeal.main_arg1) = m ((c.tc : Thread Cert.GluWIdeal.nD Cert.GluWIdeal.τ).loc Cert.GluWIdeal.main_arg1))
      ∧ r.2.sem = fun _ => 0)

def quiescent_GluWRefIdeal [hGluWRefIdeal : Cert.GluWRefIdeal.Facts] : Prop :=
  ∀ (m : (ℓ : Loc Cert.GluWRefIdeal.nD Cert.GluWRefIdeal.τ Cert.GluWRefIdeal.sig) → Buf (Elt Ideal) ℓ) (g : Dev Cert.GluWRefIdeal.nD → PrngReg), Pre_GluWRefIdeal m →
    θ_run (Cert.GluWRefIdeal.defs (F := Ideal)) (onTc (τ := Cert.GluWRefIdeal.τ) (Cert.GluWRefIdeal.main (F := Ideal))) ⟨m, fun _ => 0, g⟩ (fun r => (∀ c : Dev Cert.GluWRefIdeal.nD,
      r.2.mem ((c.tc : Thread Cert.GluWRefIdeal.nD Cert.GluWRefIdeal.τ).loc Cert.GluWRefIdeal.main_arg0) = m ((c.tc : Thread Cert.GluWRefIdeal.nD Cert.GluWRefIdeal.τ).loc Cert.GluWRefIdeal.main_arg0)
      ∧ r.2.mem ((c.tc : Thread Cert.GluWRefIdeal.nD Cert.GluWRefIdeal.τ).loc Cert.GluWRefIdeal.main_arg1) = m ((c.tc : Thread Cert.GluWRefIdeal.nD Cert.GluWRefIdeal.τ).loc Cert.GluWRefIdeal.main_arg1))
      ∧ r.2.sem = fun _ => 0)

def quiescent_GluProj [hGluProj : Cert.GluProj.Facts] : Prop :=
  ∀ (m : (ℓ : Loc Cert.GluProj.nD Cert.GluProj.τ Cert.GluProj.sig) → Buf (Elt Bits) ℓ) (g : Dev Cert.GluProj.nD → PrngReg), Pre_GluProj m →
    θ_run (Cert.GluProj.defs (F := Bits)) (onTc (τ := Cert.GluProj.τ) (Cert.GluProj.main (F := Bits))) ⟨m, fun _ => 0, g⟩ (fun r => (∀ c : Dev Cert.GluProj.nD,
      r.2.mem ((c.tc : Thread Cert.GluProj.nD Cert.GluProj.τ).loc Cert.GluProj.main_arg0) = m ((c.tc : Thread Cert.GluProj.nD Cert.GluProj.τ).loc Cert.GluProj.main_arg0)
      ∧ r.2.mem ((c.tc : Thread Cert.GluProj.nD Cert.GluProj.τ).loc Cert.GluProj.main_arg1) = m ((c.tc : Thread Cert.GluProj.nD Cert.GluProj.τ).loc Cert.GluProj.main_arg1))
      ∧ r.2.sem = fun _ => 0)

def quiescent_GluProjIdeal [hGluProjIdeal : Cert.GluProjIdeal.Facts] : Prop :=
  ∀ (m : (ℓ : Loc Cert.GluProjIdeal.nD Cert.GluProjIdeal.τ Cert.GluProjIdeal.sig) → Buf (Elt Ideal) ℓ) (g : Dev Cert.GluProjIdeal.nD → PrngReg), Pre_GluProjIdeal m →
    θ_run (Cert.GluProjIdeal.defs (F := Ideal)) (onTc (τ := Cert.GluProjIdeal.τ) (Cert.GluProjIdeal.main (F := Ideal))) ⟨m, fun _ => 0, g⟩ (fun r => (∀ c : Dev Cert.GluProjIdeal.nD,
      r.2.mem ((c.tc : Thread Cert.GluProjIdeal.nD Cert.GluProjIdeal.τ).loc Cert.GluProjIdeal.main_arg0) = m ((c.tc : Thread Cert.GluProjIdeal.nD Cert.GluProjIdeal.τ).loc Cert.GluProjIdeal.main_arg0)
      ∧ r.2.mem ((c.tc : Thread Cert.GluProjIdeal.nD Cert.GluProjIdeal.τ).loc Cert.GluProjIdeal.main_arg1) = m ((c.tc : Thread Cert.GluProjIdeal.nD Cert.GluProjIdeal.τ).loc Cert.GluProjIdeal.main_arg1))
      ∧ r.2.sem = fun _ => 0)

def quiescent_GluProjRefIdeal [hGluProjRefIdeal : Cert.GluProjRefIdeal.Facts] : Prop :=
  ∀ (m : (ℓ : Loc Cert.GluProjRefIdeal.nD Cert.GluProjRefIdeal.τ Cert.GluProjRefIdeal.sig) → Buf (Elt Ideal) ℓ) (g : Dev Cert.GluProjRefIdeal.nD → PrngReg), Pre_GluProjRefIdeal m →
    θ_run (Cert.GluProjRefIdeal.defs (F := Ideal)) (onTc (τ := Cert.GluProjRefIdeal.τ) (Cert.GluProjRefIdeal.main (F := Ideal))) ⟨m, fun _ => 0, g⟩ (fun r => (∀ c : Dev Cert.GluProjRefIdeal.nD,
      r.2.mem ((c.tc : Thread Cert.GluProjRefIdeal.nD Cert.GluProjRefIdeal.τ).loc Cert.GluProjRefIdeal.main_arg0) = m ((c.tc : Thread Cert.GluProjRefIdeal.nD Cert.GluProjRefIdeal.τ).loc Cert.GluProjRefIdeal.main_arg0)
      ∧ r.2.mem ((c.tc : Thread Cert.GluProjRefIdeal.nD Cert.GluProjRefIdeal.τ).loc Cert.GluProjRefIdeal.main_arg1) = m ((c.tc : Thread Cert.GluProjRefIdeal.nD Cert.GluProjRefIdeal.τ).loc Cert.GluProjRefIdeal.main_arg1))
      ∧ r.2.sem = fun _ => 0)

def quiescent_GateOut [hGateOut : Cert.GateOut.Facts] : Prop :=
  ∀ (m : (ℓ : Loc Cert.GateOut.nD Cert.GateOut.τ Cert.GateOut.sig) → Buf (Elt Bits) ℓ) (g : Dev Cert.GateOut.nD → PrngReg), Pre_GateOut m →
    θ_run (Cert.GateOut.defs (F := Bits)) (onTc (τ := Cert.GateOut.τ) (Cert.GateOut.main (F := Bits))) ⟨m, fun _ => 0, g⟩ (fun r => (∀ c : Dev Cert.GateOut.nD,
      r.2.mem ((c.tc : Thread Cert.GateOut.nD Cert.GateOut.τ).loc Cert.GateOut.main_arg0) = m ((c.tc : Thread Cert.GateOut.nD Cert.GateOut.τ).loc Cert.GateOut.main_arg0)
      ∧ r.2.mem ((c.tc : Thread Cert.GateOut.nD Cert.GateOut.τ).loc Cert.GateOut.main_arg1) = m ((c.tc : Thread Cert.GateOut.nD Cert.GateOut.τ).loc Cert.GateOut.main_arg1)
      ∧ r.2.mem ((c.tc : Thread Cert.GateOut.nD Cert.GateOut.τ).loc Cert.GateOut.main_arg2) = m ((c.tc : Thread Cert.GateOut.nD Cert.GateOut.τ).loc Cert.GateOut.main_arg2)
      ∧ r.2.mem ((c.tc : Thread Cert.GateOut.nD Cert.GateOut.τ).loc Cert.GateOut.main_arg3) = m ((c.tc : Thread Cert.GateOut.nD Cert.GateOut.τ).loc Cert.GateOut.main_arg3)
      ∧ r.2.mem ((c.tc : Thread Cert.GateOut.nD Cert.GateOut.τ).loc Cert.GateOut.main_arg4) = m ((c.tc : Thread Cert.GateOut.nD Cert.GateOut.τ).loc Cert.GateOut.main_arg4)
      ∧ r.2.mem ((c.tc : Thread Cert.GateOut.nD Cert.GateOut.τ).loc Cert.GateOut.main_arg5) = m ((c.tc : Thread Cert.GateOut.nD Cert.GateOut.τ).loc Cert.GateOut.main_arg5))
      ∧ r.2.sem = fun _ => 0)

def quiescent_GateOutIdeal [hGateOutIdeal : Cert.GateOutIdeal.Facts] : Prop :=
  ∀ (m : (ℓ : Loc Cert.GateOutIdeal.nD Cert.GateOutIdeal.τ Cert.GateOutIdeal.sig) → Buf (Elt Ideal) ℓ) (g : Dev Cert.GateOutIdeal.nD → PrngReg), Pre_GateOutIdeal m →
    θ_run (Cert.GateOutIdeal.defs (F := Ideal)) (onTc (τ := Cert.GateOutIdeal.τ) (Cert.GateOutIdeal.main (F := Ideal))) ⟨m, fun _ => 0, g⟩ (fun r => (∀ c : Dev Cert.GateOutIdeal.nD,
      r.2.mem ((c.tc : Thread Cert.GateOutIdeal.nD Cert.GateOutIdeal.τ).loc Cert.GateOutIdeal.main_arg0) = m ((c.tc : Thread Cert.GateOutIdeal.nD Cert.GateOutIdeal.τ).loc Cert.GateOutIdeal.main_arg0)
      ∧ r.2.mem ((c.tc : Thread Cert.GateOutIdeal.nD Cert.GateOutIdeal.τ).loc Cert.GateOutIdeal.main_arg1) = m ((c.tc : Thread Cert.GateOutIdeal.nD Cert.GateOutIdeal.τ).loc Cert.GateOutIdeal.main_arg1)
      ∧ r.2.mem ((c.tc : Thread Cert.GateOutIdeal.nD Cert.GateOutIdeal.τ).loc Cert.GateOutIdeal.main_arg2) = m ((c.tc : Thread Cert.GateOutIdeal.nD Cert.GateOutIdeal.τ).loc Cert.GateOutIdeal.main_arg2)
      ∧ r.2.mem ((c.tc : Thread Cert.GateOutIdeal.nD Cert.GateOutIdeal.τ).loc Cert.GateOutIdeal.main_arg3) = m ((c.tc : Thread Cert.GateOutIdeal.nD Cert.GateOutIdeal.τ).loc Cert.GateOutIdeal.main_arg3)
      ∧ r.2.mem ((c.tc : Thread Cert.GateOutIdeal.nD Cert.GateOutIdeal.τ).loc Cert.GateOutIdeal.main_arg4) = m ((c.tc : Thread Cert.GateOutIdeal.nD Cert.GateOutIdeal.τ).loc Cert.GateOutIdeal.main_arg4)
      ∧ r.2.mem ((c.tc : Thread Cert.GateOutIdeal.nD Cert.GateOutIdeal.τ).loc Cert.GateOutIdeal.main_arg5) = m ((c.tc : Thread Cert.GateOutIdeal.nD Cert.GateOutIdeal.τ).loc Cert.GateOutIdeal.main_arg5))
      ∧ r.2.sem = fun _ => 0)

def quiescent_GateOutRefIdeal [hGateOutRefIdeal : Cert.GateOutRefIdeal.Facts] : Prop :=
  ∀ (m : (ℓ : Loc Cert.GateOutRefIdeal.nD Cert.GateOutRefIdeal.τ Cert.GateOutRefIdeal.sig) → Buf (Elt Ideal) ℓ) (g : Dev Cert.GateOutRefIdeal.nD → PrngReg), Pre_GateOutRefIdeal m →
    θ_run (Cert.GateOutRefIdeal.defs (F := Ideal)) (onTc (τ := Cert.GateOutRefIdeal.τ) (Cert.GateOutRefIdeal.main (F := Ideal))) ⟨m, fun _ => 0, g⟩ (fun r => (∀ c : Dev Cert.GateOutRefIdeal.nD,
      r.2.mem ((c.tc : Thread Cert.GateOutRefIdeal.nD Cert.GateOutRefIdeal.τ).loc Cert.GateOutRefIdeal.main_arg0) = m ((c.tc : Thread Cert.GateOutRefIdeal.nD Cert.GateOutRefIdeal.τ).loc Cert.GateOutRefIdeal.main_arg0)
      ∧ r.2.mem ((c.tc : Thread Cert.GateOutRefIdeal.nD Cert.GateOutRefIdeal.τ).loc Cert.GateOutRefIdeal.main_arg1) = m ((c.tc : Thread Cert.GateOutRefIdeal.nD Cert.GateOutRefIdeal.τ).loc Cert.GateOutRefIdeal.main_arg1)
      ∧ r.2.mem ((c.tc : Thread Cert.GateOutRefIdeal.nD Cert.GateOutRefIdeal.τ).loc Cert.GateOutRefIdeal.main_arg2) = m ((c.tc : Thread Cert.GateOutRefIdeal.nD Cert.GateOutRefIdeal.τ).loc Cert.GateOutRefIdeal.main_arg2)
      ∧ r.2.mem ((c.tc : Thread Cert.GateOutRefIdeal.nD Cert.GateOutRefIdeal.τ).loc Cert.GateOutRefIdeal.main_arg3) = m ((c.tc : Thread Cert.GateOutRefIdeal.nD Cert.GateOutRefIdeal.τ).loc Cert.GateOutRefIdeal.main_arg3)
      ∧ r.2.mem ((c.tc : Thread Cert.GateOutRefIdeal.nD Cert.GateOutRefIdeal.τ).loc Cert.GateOutRefIdeal.main_arg4) = m ((c.tc : Thread Cert.GateOutRefIdeal.nD Cert.GateOutRefIdeal.τ).loc Cert.GateOutRefIdeal.main_arg4)
      ∧ r.2.mem ((c.tc : Thread Cert.GateOutRefIdeal.nD Cert.GateOutRefIdeal.τ).loc Cert.GateOutRefIdeal.main_arg5) = m ((c.tc : Thread Cert.GateOutRefIdeal.nD Cert.GateOutRefIdeal.τ).loc Cert.GateOutRefIdeal.main_arg5))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5)
      ∧ r.2.mem ((c.tc : Thread Cert.Gate.nD Cert.Gate.τ).loc Cert.Gate.main_arg6) = m ((c.tc : Thread Cert.Gate.nD Cert.Gate.τ).loc Cert.Gate.main_arg6)
      ∧ r.2.mem ((c.tc : Thread Cert.Gate.nD Cert.Gate.τ).loc Cert.Gate.main_arg7) = m ((c.tc : Thread Cert.Gate.nD Cert.Gate.τ).loc Cert.Gate.main_arg7))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
      ∧ r.2.mem ((c.tc : Thread Cert.GateIdeal.nD Cert.GateIdeal.τ).loc Cert.GateIdeal.main_arg7) = m ((c.tc : Thread Cert.GateIdeal.nD Cert.GateIdeal.τ).loc Cert.GateIdeal.main_arg7))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
      ∧ r.2.mem ((c.tc : Thread Cert.GateIdeal.nD Cert.GateIdeal.τ).loc Cert.GateIdeal.main_arg7) = m ((c.tc : Thread Cert.GateIdeal.nD Cert.GateIdeal.τ).loc Cert.GateIdeal.main_arg7))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5)
      ∧ r.2.mem ((c.tc : Thread Cert.GateRefIdeal.nD Cert.GateRefIdeal.τ).loc Cert.GateRefIdeal.main_arg6) = m ((c.tc : Thread Cert.GateRefIdeal.nD Cert.GateRefIdeal.τ).loc Cert.GateRefIdeal.main_arg6)
      ∧ r.2.mem ((c.tc : Thread Cert.GateRefIdeal.nD Cert.GateRefIdeal.τ).loc Cert.GateRefIdeal.main_arg7) = m ((c.tc : Thread Cert.GateRefIdeal.nD Cert.GateRefIdeal.τ).loc Cert.GateRefIdeal.main_arg7))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5)
      ∧ r.2.mem ((c.tc : Thread Cert.GateRefIdeal.nD Cert.GateRefIdeal.τ).loc Cert.GateRefIdeal.main_arg6) = m ((c.tc : Thread Cert.GateRefIdeal.nD Cert.GateRefIdeal.τ).loc Cert.GateRefIdeal.main_arg6)
      ∧ r.2.mem ((c.tc : Thread Cert.GateRefIdeal.nD Cert.GateRefIdeal.τ).loc Cert.GateRefIdeal.main_arg7) = m ((c.tc : Thread Cert.GateRefIdeal.nD Cert.GateRefIdeal.τ).loc Cert.GateRefIdeal.main_arg7))
      ∧ r.2.sem = fun _ => 0)

def quiescent_GluD [hGluD : Cert.GluD.Facts] : Prop :=
  ∀ (m : (ℓ : Loc Cert.GluD.nD Cert.GluD.τ Cert.GluD.sig) → Buf (Elt Bits) ℓ) (g : Dev Cert.GluD.nD → PrngReg), Pre_GluD m →
    θ_run (Cert.GluD.defs (F := Bits)) (onTc (τ := Cert.GluD.τ) (Cert.GluD.main (F := Bits))) ⟨m, fun _ => 0, g⟩ (fun r => (∀ c : Dev Cert.GluD.nD,
      r.2.mem ((c.tc : Thread Cert.GluD.nD Cert.GluD.τ).loc Cert.GluD.main_arg0) = m ((c.tc : Thread Cert.GluD.nD Cert.GluD.τ).loc Cert.GluD.main_arg0)
      ∧ r.2.mem ((c.tc : Thread Cert.GluD.nD Cert.GluD.τ).loc Cert.GluD.main_arg1) = m ((c.tc : Thread Cert.GluD.nD Cert.GluD.τ).loc Cert.GluD.main_arg1)
      ∧ r.2.mem ((c.tc : Thread Cert.GluD.nD Cert.GluD.τ).loc Cert.GluD.main_arg2) = m ((c.tc : Thread Cert.GluD.nD Cert.GluD.τ).loc Cert.GluD.main_arg2)
      ∧ r.2.mem ((c.tc : Thread Cert.GluD.nD Cert.GluD.τ).loc Cert.GluD.main_arg3) = m ((c.tc : Thread Cert.GluD.nD Cert.GluD.τ).loc Cert.GluD.main_arg3))
      ∧ r.2.sem = fun _ => 0)

def quiescent_GluDIdeal [hGluDIdeal : Cert.GluDIdeal.Facts] : Prop :=
  ∀ (m : (ℓ : Loc Cert.GluDIdeal.nD Cert.GluDIdeal.τ Cert.GluDIdeal.sig) → Buf (Elt Ideal) ℓ) (g : Dev Cert.GluDIdeal.nD → PrngReg), Pre_GluDIdeal m →
    θ_run (Cert.GluDIdeal.defs (F := Ideal)) (onTc (τ := Cert.GluDIdeal.τ) (Cert.GluDIdeal.main (F := Ideal))) ⟨m, fun _ => 0, g⟩ (fun r => (∀ c : Dev Cert.GluDIdeal.nD,
      r.2.mem ((c.tc : Thread Cert.GluDIdeal.nD Cert.GluDIdeal.τ).loc Cert.GluDIdeal.main_arg0) = m ((c.tc : Thread Cert.GluDIdeal.nD Cert.GluDIdeal.τ).loc Cert.GluDIdeal.main_arg0)
      ∧ r.2.mem ((c.tc : Thread Cert.GluDIdeal.nD Cert.GluDIdeal.τ).loc Cert.GluDIdeal.main_arg1) = m ((c.tc : Thread Cert.GluDIdeal.nD Cert.GluDIdeal.τ).loc Cert.GluDIdeal.main_arg1)
      ∧ r.2.mem ((c.tc : Thread Cert.GluDIdeal.nD Cert.GluDIdeal.τ).loc Cert.GluDIdeal.main_arg2) = m ((c.tc : Thread Cert.GluDIdeal.nD Cert.GluDIdeal.τ).loc Cert.GluDIdeal.main_arg2)
      ∧ r.2.mem ((c.tc : Thread Cert.GluDIdeal.nD Cert.GluDIdeal.τ).loc Cert.GluDIdeal.main_arg3) = m ((c.tc : Thread Cert.GluDIdeal.nD Cert.GluDIdeal.τ).loc Cert.GluDIdeal.main_arg3))
      ∧ r.2.sem = fun _ => 0)

def quiescent_GluDIdeal_pre_glu_finite [hGluDIdeal : Cert.GluDIdeal.Facts] [hPre_glu_finite : Cert.Pre_glu_finite.Facts] : Prop :=
  ∀ (m : (ℓ : Loc Cert.GluDIdeal.nD Cert.GluDIdeal.τ Cert.GluDIdeal.sig) → Buf (Elt Ideal) ℓ) (g : Dev Cert.GluDIdeal.nD → PrngReg), Pre_GluDIdeal_glu_finite m →
    θ_run (Cert.GluDIdeal.defs (F := Ideal)) (onTc (τ := Cert.GluDIdeal.τ) (Cert.GluDIdeal.main (F := Ideal))) ⟨m, fun _ => 0, g⟩ (fun r => (∀ c : Dev Cert.GluDIdeal.nD,
      r.2.mem ((c.tc : Thread Cert.GluDIdeal.nD Cert.GluDIdeal.τ).loc Cert.GluDIdeal.main_arg0) = m ((c.tc : Thread Cert.GluDIdeal.nD Cert.GluDIdeal.τ).loc Cert.GluDIdeal.main_arg0)
      ∧ r.2.mem ((c.tc : Thread Cert.GluDIdeal.nD Cert.GluDIdeal.τ).loc Cert.GluDIdeal.main_arg1) = m ((c.tc : Thread Cert.GluDIdeal.nD Cert.GluDIdeal.τ).loc Cert.GluDIdeal.main_arg1)
      ∧ r.2.mem ((c.tc : Thread Cert.GluDIdeal.nD Cert.GluDIdeal.τ).loc Cert.GluDIdeal.main_arg2) = m ((c.tc : Thread Cert.GluDIdeal.nD Cert.GluDIdeal.τ).loc Cert.GluDIdeal.main_arg2)
      ∧ r.2.mem ((c.tc : Thread Cert.GluDIdeal.nD Cert.GluDIdeal.τ).loc Cert.GluDIdeal.main_arg3) = m ((c.tc : Thread Cert.GluDIdeal.nD Cert.GluDIdeal.τ).loc Cert.GluDIdeal.main_arg3))
      ∧ r.2.sem = fun _ => 0)

def quiescent_GluDRefIdeal [hGluDRefIdeal : Cert.GluDRefIdeal.Facts] : Prop :=
  ∀ (m : (ℓ : Loc Cert.GluDRefIdeal.nD Cert.GluDRefIdeal.τ Cert.GluDRefIdeal.sig) → Buf (Elt Ideal) ℓ) (g : Dev Cert.GluDRefIdeal.nD → PrngReg), Pre_GluDRefIdeal m →
    θ_run (Cert.GluDRefIdeal.defs (F := Ideal)) (onTc (τ := Cert.GluDRefIdeal.τ) (Cert.GluDRefIdeal.main (F := Ideal))) ⟨m, fun _ => 0, g⟩ (fun r => (∀ c : Dev Cert.GluDRefIdeal.nD,
      r.2.mem ((c.tc : Thread Cert.GluDRefIdeal.nD Cert.GluDRefIdeal.τ).loc Cert.GluDRefIdeal.main_arg0) = m ((c.tc : Thread Cert.GluDRefIdeal.nD Cert.GluDRefIdeal.τ).loc Cert.GluDRefIdeal.main_arg0)
      ∧ r.2.mem ((c.tc : Thread Cert.GluDRefIdeal.nD Cert.GluDRefIdeal.τ).loc Cert.GluDRefIdeal.main_arg1) = m ((c.tc : Thread Cert.GluDRefIdeal.nD Cert.GluDRefIdeal.τ).loc Cert.GluDRefIdeal.main_arg1)
      ∧ r.2.mem ((c.tc : Thread Cert.GluDRefIdeal.nD Cert.GluDRefIdeal.τ).loc Cert.GluDRefIdeal.main_arg2) = m ((c.tc : Thread Cert.GluDRefIdeal.nD Cert.GluDRefIdeal.τ).loc Cert.GluDRefIdeal.main_arg2)
      ∧ r.2.mem ((c.tc : Thread Cert.GluDRefIdeal.nD Cert.GluDRefIdeal.τ).loc Cert.GluDRefIdeal.main_arg3) = m ((c.tc : Thread Cert.GluDRefIdeal.nD Cert.GluDRefIdeal.τ).loc Cert.GluDRefIdeal.main_arg3))
      ∧ r.2.sem = fun _ => 0)

def quiescent_GluDRefIdeal_pre_glu_finite [hGluDRefIdeal : Cert.GluDRefIdeal.Facts] [hPre_glu_finite : Cert.Pre_glu_finite.Facts] : Prop :=
  ∀ (m : (ℓ : Loc Cert.GluDRefIdeal.nD Cert.GluDRefIdeal.τ Cert.GluDRefIdeal.sig) → Buf (Elt Ideal) ℓ) (g : Dev Cert.GluDRefIdeal.nD → PrngReg), Pre_GluDRefIdeal_glu_finite m →
    θ_run (Cert.GluDRefIdeal.defs (F := Ideal)) (onTc (τ := Cert.GluDRefIdeal.τ) (Cert.GluDRefIdeal.main (F := Ideal))) ⟨m, fun _ => 0, g⟩ (fun r => (∀ c : Dev Cert.GluDRefIdeal.nD,
      r.2.mem ((c.tc : Thread Cert.GluDRefIdeal.nD Cert.GluDRefIdeal.τ).loc Cert.GluDRefIdeal.main_arg0) = m ((c.tc : Thread Cert.GluDRefIdeal.nD Cert.GluDRefIdeal.τ).loc Cert.GluDRefIdeal.main_arg0)
      ∧ r.2.mem ((c.tc : Thread Cert.GluDRefIdeal.nD Cert.GluDRefIdeal.τ).loc Cert.GluDRefIdeal.main_arg1) = m ((c.tc : Thread Cert.GluDRefIdeal.nD Cert.GluDRefIdeal.τ).loc Cert.GluDRefIdeal.main_arg1)
      ∧ r.2.mem ((c.tc : Thread Cert.GluDRefIdeal.nD Cert.GluDRefIdeal.τ).loc Cert.GluDRefIdeal.main_arg2) = m ((c.tc : Thread Cert.GluDRefIdeal.nD Cert.GluDRefIdeal.τ).loc Cert.GluDRefIdeal.main_arg2)
      ∧ r.2.mem ((c.tc : Thread Cert.GluDRefIdeal.nD Cert.GluDRefIdeal.τ).loc Cert.GluDRefIdeal.main_arg3) = m ((c.tc : Thread Cert.GluDRefIdeal.nD Cert.GluDRefIdeal.τ).loc Cert.GluDRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3)
      ∧ r.2.mem ((c.tc : Thread Cert.AdamPool.nD Cert.AdamPool.τ).loc Cert.AdamPool.main_arg4) = m ((c.tc : Thread Cert.AdamPool.nD Cert.AdamPool.τ).loc Cert.AdamPool.main_arg4))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3)
      ∧ r.2.mem ((c.tc : Thread Cert.AdamPoolIdeal.nD Cert.AdamPoolIdeal.τ).loc Cert.AdamPoolIdeal.main_arg4) = m ((c.tc : Thread Cert.AdamPoolIdeal.nD Cert.AdamPoolIdeal.τ).loc Cert.AdamPoolIdeal.main_arg4))
      ∧ r.2.sem = fun _ => 0)

def quiescent_AdamPoolRefIdeal [hAdamPoolRefIdeal : Cert.AdamPoolRefIdeal.Facts] : Prop :=
  ∀ (m : (ℓ : Loc Cert.AdamPoolRefIdeal.nD Cert.AdamPoolRefIdeal.τ Cert.AdamPoolRefIdeal.sig) → Buf (Elt Ideal) ℓ) (g : Dev Cert.AdamPoolRefIdeal.nD → PrngReg), Pre_AdamPoolRefIdeal m →
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3)
      ∧ r.2.mem ((c.tc : Thread Cert.AdamPoolRefIdeal.nD Cert.AdamPoolRefIdeal.τ).loc Cert.AdamPoolRefIdeal.main_arg4) = m ((c.tc : Thread Cert.AdamPoolRefIdeal.nD Cert.AdamPoolRefIdeal.τ).loc Cert.AdamPoolRefIdeal.main_arg4))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3)
      ∧ r.2.mem ((c.tc : Thread Cert.AdamGlu.nD Cert.AdamGlu.τ).loc Cert.AdamGlu.main_arg4) = m ((c.tc : Thread Cert.AdamGlu.nD Cert.AdamGlu.τ).loc Cert.AdamGlu.main_arg4))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3)
      ∧ r.2.mem ((c.tc : Thread Cert.AdamGluIdeal.nD Cert.AdamGluIdeal.τ).loc Cert.AdamGluIdeal.main_arg4) = m ((c.tc : Thread Cert.AdamGluIdeal.nD Cert.AdamGluIdeal.τ).loc Cert.AdamGluIdeal.main_arg4))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3)
      ∧ r.2.mem ((c.tc : Thread Cert.AdamGluRefIdeal.nD Cert.AdamGluRefIdeal.τ).loc Cert.AdamGluRefIdeal.main_arg4) = m ((c.tc : Thread Cert.AdamGluRefIdeal.nD Cert.AdamGluRefIdeal.τ).loc Cert.AdamGluRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamPle [hAdamPle : Cert.AdamPle.Facts] : Prop :=
  ∀ (m : (ℓ : Loc Cert.AdamPle.nD Cert.AdamPle.τ Cert.AdamPle.sig) → Buf (Elt Bits) ℓ) (g : Dev Cert.AdamPle.nD → PrngReg), Pre_AdamPle m →
    θ_run (Cert.AdamPle.defs (F := Bits)) (onTc (τ := Cert.AdamPle.τ) (Cert.AdamPle.main (F := Bits))) ⟨m, fun _ => 0, g⟩ (fun r => (∀ c : Dev Cert.AdamPle.nD,
      r.2.mem ((c.tc : Thread Cert.AdamPle.nD Cert.AdamPle.τ).loc Cert.AdamPle.main_arg0) = m ((c.tc : Thread Cert.AdamPle.nD Cert.AdamPle.τ).loc Cert.AdamPle.main_arg0)
      ∧ r.2.mem ((c.tc : Thread Cert.AdamPle.nD Cert.AdamPle.τ).loc Cert.AdamPle.main_arg1) = m ((c.tc : Thread Cert.AdamPle.nD Cert.AdamPle.τ).loc Cert.AdamPle.main_arg1)
      ∧ r.2.mem ((c.tc : Thread Cert.AdamPle.nD Cert.AdamPle.τ).loc Cert.AdamPle.main_arg2) = m ((c.tc : Thread Cert.AdamPle.nD Cert.AdamPle.τ).loc Cert.AdamPle.main_arg2)
      ∧ r.2.mem ((c.tc : Thread Cert.AdamPle.nD Cert.AdamPle.τ).loc Cert.AdamPle.main_arg3) = m ((c.tc : Thread Cert.AdamPle.nD Cert.AdamPle.τ).loc Cert.AdamPle.main_arg3)
      ∧ r.2.mem ((c.tc : Thread Cert.AdamPle.nD Cert.AdamPle.τ).loc Cert.AdamPle.main_arg4) = m ((c.tc : Thread Cert.AdamPle.nD Cert.AdamPle.τ).loc Cert.AdamPle.main_arg4))
      ∧ r.2.sem = fun _ => 0)

def quiescent_AdamPleIdeal [hAdamPleIdeal : Cert.AdamPleIdeal.Facts] : Prop :=
  ∀ (m : (ℓ : Loc Cert.AdamPleIdeal.nD Cert.AdamPleIdeal.τ Cert.AdamPleIdeal.sig) → Buf (Elt Ideal) ℓ) (g : Dev Cert.AdamPleIdeal.nD → PrngReg), Pre_AdamPleIdeal m →
    θ_run (Cert.AdamPleIdeal.defs (F := Ideal)) (onTc (τ := Cert.AdamPleIdeal.τ) (Cert.AdamPleIdeal.main (F := Ideal))) ⟨m, fun _ => 0, g⟩ (fun r => (∀ c : Dev Cert.AdamPleIdeal.nD,
      r.2.mem ((c.tc : Thread Cert.AdamPleIdeal.nD Cert.AdamPleIdeal.τ).loc Cert.AdamPleIdeal.main_arg0) = m ((c.tc : Thread Cert.AdamPleIdeal.nD Cert.AdamPleIdeal.τ).loc Cert.AdamPleIdeal.main_arg0)
      ∧ r.2.mem ((c.tc : Thread Cert.AdamPleIdeal.nD Cert.AdamPleIdeal.τ).loc Cert.AdamPleIdeal.main_arg1) = m ((c.tc : Thread Cert.AdamPleIdeal.nD Cert.AdamPleIdeal.τ).loc Cert.AdamPleIdeal.main_arg1)
      ∧ r.2.mem ((c.tc : Thread Cert.AdamPleIdeal.nD Cert.AdamPleIdeal.τ).loc Cert.AdamPleIdeal.main_arg2) = m ((c.tc : Thread Cert.AdamPleIdeal.nD Cert.AdamPleIdeal.τ).loc Cert.AdamPleIdeal.main_arg2)
      ∧ r.2.mem ((c.tc : Thread Cert.AdamPleIdeal.nD Cert.AdamPleIdeal.τ).loc Cert.AdamPleIdeal.main_arg3) = m ((c.tc : Thread Cert.AdamPleIdeal.nD Cert.AdamPleIdeal.τ).loc Cert.AdamPleIdeal.main_arg3)
      ∧ r.2.mem ((c.tc : Thread Cert.AdamPleIdeal.nD Cert.AdamPleIdeal.τ).loc Cert.AdamPleIdeal.main_arg4) = m ((c.tc : Thread Cert.AdamPleIdeal.nD Cert.AdamPleIdeal.τ).loc Cert.AdamPleIdeal.main_arg4))
      ∧ r.2.sem = fun _ => 0)

def quiescent_AdamPleRefIdeal [hAdamPleRefIdeal : Cert.AdamPleRefIdeal.Facts] : Prop :=
  ∀ (m : (ℓ : Loc Cert.AdamPleRefIdeal.nD Cert.AdamPleRefIdeal.τ Cert.AdamPleRefIdeal.sig) → Buf (Elt Ideal) ℓ) (g : Dev Cert.AdamPleRefIdeal.nD → PrngReg), Pre_AdamPleRefIdeal m →
    θ_run (Cert.AdamPleRefIdeal.defs (F := Ideal)) (onTc (τ := Cert.AdamPleRefIdeal.τ) (Cert.AdamPleRefIdeal.main (F := Ideal))) ⟨m, fun _ => 0, g⟩ (fun r => (∀ c : Dev Cert.AdamPleRefIdeal.nD,
      r.2.mem ((c.tc : Thread Cert.AdamPleRefIdeal.nD Cert.AdamPleRefIdeal.τ).loc Cert.AdamPleRefIdeal.main_arg0) = m ((c.tc : Thread Cert.AdamPleRefIdeal.nD Cert.AdamPleRefIdeal.τ).loc Cert.AdamPleRefIdeal.main_arg0)
      ∧ r.2.mem ((c.tc : Thread Cert.AdamPleRefIdeal.nD Cert.AdamPleRefIdeal.τ).loc Cert.AdamPleRefIdeal.main_arg1) = m ((c.tc : Thread Cert.AdamPleRefIdeal.nD Cert.AdamPleRefIdeal.τ).loc Cert.AdamPleRefIdeal.main_arg1)
      ∧ r.2.mem ((c.tc : Thread Cert.AdamPleRefIdeal.nD Cert.AdamPleRefIdeal.τ).loc Cert.AdamPleRefIdeal.main_arg2) = m ((c.tc : Thread Cert.AdamPleRefIdeal.nD Cert.AdamPleRefIdeal.τ).loc Cert.AdamPleRefIdeal.main_arg2)
      ∧ r.2.mem ((c.tc : Thread Cert.AdamPleRefIdeal.nD Cert.AdamPleRefIdeal.τ).loc Cert.AdamPleRefIdeal.main_arg3) = m ((c.tc : Thread Cert.AdamPleRefIdeal.nD Cert.AdamPleRefIdeal.τ).loc Cert.AdamPleRefIdeal.main_arg3)
      ∧ r.2.mem ((c.tc : Thread Cert.AdamPleRefIdeal.nD Cert.AdamPleRefIdeal.τ).loc Cert.AdamPleRefIdeal.main_arg4) = m ((c.tc : Thread Cert.AdamPleRefIdeal.nD Cert.AdamPleRefIdeal.τ).loc Cert.AdamPleRefIdeal.main_arg4))
      ∧ r.2.sem = fun _ => 0)

def quiescent_AdamPleGate [hAdamPleGate : Cert.AdamPleGate.Facts] : Prop :=
  ∀ (m : (ℓ : Loc Cert.AdamPleGate.nD Cert.AdamPleGate.τ Cert.AdamPleGate.sig) → Buf (Elt Bits) ℓ) (g : Dev Cert.AdamPleGate.nD → PrngReg), Pre_AdamPleGate m →
    θ_run (Cert.AdamPleGate.defs (F := Bits)) (onTc (τ := Cert.AdamPleGate.τ) (Cert.AdamPleGate.main (F := Bits))) ⟨m, fun _ => 0, g⟩ (fun r => (∀ c : Dev Cert.AdamPleGate.nD,
      r.2.mem ((c.tc : Thread Cert.AdamPleGate.nD Cert.AdamPleGate.τ).loc Cert.AdamPleGate.main_arg0) = m ((c.tc : Thread Cert.AdamPleGate.nD Cert.AdamPleGate.τ).loc Cert.AdamPleGate.main_arg0)
      ∧ r.2.mem ((c.tc : Thread Cert.AdamPleGate.nD Cert.AdamPleGate.τ).loc Cert.AdamPleGate.main_arg1) = m ((c.tc : Thread Cert.AdamPleGate.nD Cert.AdamPleGate.τ).loc Cert.AdamPleGate.main_arg1)
      ∧ r.2.mem ((c.tc : Thread Cert.AdamPleGate.nD Cert.AdamPleGate.τ).loc Cert.AdamPleGate.main_arg2) = m ((c.tc : Thread Cert.AdamPleGate.nD Cert.AdamPleGate.τ).loc Cert.AdamPleGate.main_arg2)
      ∧ r.2.mem ((c.tc : Thread Cert.AdamPleGate.nD Cert.AdamPleGate.τ).loc Cert.AdamPleGate.main_arg3) = m ((c.tc : Thread Cert.AdamPleGate.nD Cert.AdamPleGate.τ).loc Cert.AdamPleGate.main_arg3)
      ∧ r.2.mem ((c.tc : Thread Cert.AdamPleGate.nD Cert.AdamPleGate.τ).loc Cert.AdamPleGate.main_arg4) = m ((c.tc : Thread Cert.AdamPleGate.nD Cert.AdamPleGate.τ).loc Cert.AdamPleGate.main_arg4))
      ∧ r.2.sem = fun _ => 0)

def quiescent_AdamPleGateIdeal [hAdamPleGateIdeal : Cert.AdamPleGateIdeal.Facts] : Prop :=
  ∀ (m : (ℓ : Loc Cert.AdamPleGateIdeal.nD Cert.AdamPleGateIdeal.τ Cert.AdamPleGateIdeal.sig) → Buf (Elt Ideal) ℓ) (g : Dev Cert.AdamPleGateIdeal.nD → PrngReg), Pre_AdamPleGateIdeal m →
    θ_run (Cert.AdamPleGateIdeal.defs (F := Ideal)) (onTc (τ := Cert.AdamPleGateIdeal.τ) (Cert.AdamPleGateIdeal.main (F := Ideal))) ⟨m, fun _ => 0, g⟩ (fun r => (∀ c : Dev Cert.AdamPleGateIdeal.nD,
      r.2.mem ((c.tc : Thread Cert.AdamPleGateIdeal.nD Cert.AdamPleGateIdeal.τ).loc Cert.AdamPleGateIdeal.main_arg0) = m ((c.tc : Thread Cert.AdamPleGateIdeal.nD Cert.AdamPleGateIdeal.τ).loc Cert.AdamPleGateIdeal.main_arg0)
      ∧ r.2.mem ((c.tc : Thread Cert.AdamPleGateIdeal.nD Cert.AdamPleGateIdeal.τ).loc Cert.AdamPleGateIdeal.main_arg1) = m ((c.tc : Thread Cert.AdamPleGateIdeal.nD Cert.AdamPleGateIdeal.τ).loc Cert.AdamPleGateIdeal.main_arg1)
      ∧ r.2.mem ((c.tc : Thread Cert.AdamPleGateIdeal.nD Cert.AdamPleGateIdeal.τ).loc Cert.AdamPleGateIdeal.main_arg2) = m ((c.tc : Thread Cert.AdamPleGateIdeal.nD Cert.AdamPleGateIdeal.τ).loc Cert.AdamPleGateIdeal.main_arg2)
      ∧ r.2.mem ((c.tc : Thread Cert.AdamPleGateIdeal.nD Cert.AdamPleGateIdeal.τ).loc Cert.AdamPleGateIdeal.main_arg3) = m ((c.tc : Thread Cert.AdamPleGateIdeal.nD Cert.AdamPleGateIdeal.τ).loc Cert.AdamPleGateIdeal.main_arg3)
      ∧ r.2.mem ((c.tc : Thread Cert.AdamPleGateIdeal.nD Cert.AdamPleGateIdeal.τ).loc Cert.AdamPleGateIdeal.main_arg4) = m ((c.tc : Thread Cert.AdamPleGateIdeal.nD Cert.AdamPleGateIdeal.τ).loc Cert.AdamPleGateIdeal.main_arg4))
      ∧ r.2.sem = fun _ => 0)

def quiescent_AdamPleGateRefIdeal [hAdamPleGateRefIdeal : Cert.AdamPleGateRefIdeal.Facts] : Prop :=
  ∀ (m : (ℓ : Loc Cert.AdamPleGateRefIdeal.nD Cert.AdamPleGateRefIdeal.τ Cert.AdamPleGateRefIdeal.sig) → Buf (Elt Ideal) ℓ) (g : Dev Cert.AdamPleGateRefIdeal.nD → PrngReg), Pre_AdamPleGateRefIdeal m →
    θ_run (Cert.AdamPleGateRefIdeal.defs (F := Ideal)) (onTc (τ := Cert.AdamPleGateRefIdeal.τ) (Cert.AdamPleGateRefIdeal.main (F := Ideal))) ⟨m, fun _ => 0, g⟩ (fun r => (∀ c : Dev Cert.AdamPleGateRefIdeal.nD,
      r.2.mem ((c.tc : Thread Cert.AdamPleGateRefIdeal.nD Cert.AdamPleGateRefIdeal.τ).loc Cert.AdamPleGateRefIdeal.main_arg0) = m ((c.tc : Thread Cert.AdamPleGateRefIdeal.nD Cert.AdamPleGateRefIdeal.τ).loc Cert.AdamPleGateRefIdeal.main_arg0)
      ∧ r.2.mem ((c.tc : Thread Cert.AdamPleGateRefIdeal.nD Cert.AdamPleGateRefIdeal.τ).loc Cert.AdamPleGateRefIdeal.main_arg1) = m ((c.tc : Thread Cert.AdamPleGateRefIdeal.nD Cert.AdamPleGateRefIdeal.τ).loc Cert.AdamPleGateRefIdeal.main_arg1)
      ∧ r.2.mem ((c.tc : Thread Cert.AdamPleGateRefIdeal.nD Cert.AdamPleGateRefIdeal.τ).loc Cert.AdamPleGateRefIdeal.main_arg2) = m ((c.tc : Thread Cert.AdamPleGateRefIdeal.nD Cert.AdamPleGateRefIdeal.τ).loc Cert.AdamPleGateRefIdeal.main_arg2)
      ∧ r.2.mem ((c.tc : Thread Cert.AdamPleGateRefIdeal.nD Cert.AdamPleGateRefIdeal.τ).loc Cert.AdamPleGateRefIdeal.main_arg3) = m ((c.tc : Thread Cert.AdamPleGateRefIdeal.nD Cert.AdamPleGateRefIdeal.τ).loc Cert.AdamPleGateRefIdeal.main_arg3)
      ∧ r.2.mem ((c.tc : Thread Cert.AdamPleGateRefIdeal.nD Cert.AdamPleGateRefIdeal.τ).loc Cert.AdamPleGateRefIdeal.main_arg4) = m ((c.tc : Thread Cert.AdamPleGateRefIdeal.nD Cert.AdamPleGateRefIdeal.τ).loc Cert.AdamPleGateRefIdeal.main_arg4))
      ∧ r.2.sem = fun _ => 0)

def quiescent_AdamRows [hAdamRows : Cert.AdamRows.Facts] : Prop :=
  ∀ (m : (ℓ : Loc Cert.AdamRows.nD Cert.AdamRows.τ Cert.AdamRows.sig) → Buf (Elt Bits) ℓ) (g : Dev Cert.AdamRows.nD → PrngReg), Pre_AdamRows m →
    θ_run (Cert.AdamRows.defs (F := Bits)) (onTc (τ := Cert.AdamRows.τ) (Cert.AdamRows.main (F := Bits))) ⟨m, fun _ => 0, g⟩ (fun r => (∀ c : Dev Cert.AdamRows.nD,
      r.2.mem ((c.tc : Thread Cert.AdamRows.nD Cert.AdamRows.τ).loc Cert.AdamRows.main_arg0) = m ((c.tc : Thread Cert.AdamRows.nD Cert.AdamRows.τ).loc Cert.AdamRows.main_arg0)
      ∧ r.2.mem ((c.tc : Thread Cert.AdamRows.nD Cert.AdamRows.τ).loc Cert.AdamRows.main_arg1) = m ((c.tc : Thread Cert.AdamRows.nD Cert.AdamRows.τ).loc Cert.AdamRows.main_arg1)
      ∧ r.2.mem ((c.tc : Thread Cert.AdamRows.nD Cert.AdamRows.τ).loc Cert.AdamRows.main_arg2) = m ((c.tc : Thread Cert.AdamRows.nD Cert.AdamRows.τ).loc Cert.AdamRows.main_arg2)
      ∧ r.2.mem ((c.tc : Thread Cert.AdamRows.nD Cert.AdamRows.τ).loc Cert.AdamRows.main_arg3) = m ((c.tc : Thread Cert.AdamRows.nD Cert.AdamRows.τ).loc Cert.AdamRows.main_arg3)
      ∧ r.2.mem ((c.tc : Thread Cert.AdamRows.nD Cert.AdamRows.τ).loc Cert.AdamRows.main_arg4) = m ((c.tc : Thread Cert.AdamRows.nD Cert.AdamRows.τ).loc Cert.AdamRows.main_arg4)
      ∧ r.2.mem ((c.tc : Thread Cert.AdamRows.nD Cert.AdamRows.τ).loc Cert.AdamRows.main_arg5) = m ((c.tc : Thread Cert.AdamRows.nD Cert.AdamRows.τ).loc Cert.AdamRows.main_arg5)
      ∧ r.2.mem ((c.tc : Thread Cert.AdamRows.nD Cert.AdamRows.τ).loc Cert.AdamRows.main_arg6) = m ((c.tc : Thread Cert.AdamRows.nD Cert.AdamRows.τ).loc Cert.AdamRows.main_arg6)
      ∧ r.2.mem ((c.tc : Thread Cert.AdamRows.nD Cert.AdamRows.τ).loc Cert.AdamRows.main_arg7) = m ((c.tc : Thread Cert.AdamRows.nD Cert.AdamRows.τ).loc Cert.AdamRows.main_arg7)
      ∧ r.2.mem ((c.tc : Thread Cert.AdamRows.nD Cert.AdamRows.τ).loc Cert.AdamRows.main_arg8) = m ((c.tc : Thread Cert.AdamRows.nD Cert.AdamRows.τ).loc Cert.AdamRows.main_arg8)
      ∧ r.2.mem ((c.tc : Thread Cert.AdamRows.nD Cert.AdamRows.τ).loc Cert.AdamRows.main_arg9) = m ((c.tc : Thread Cert.AdamRows.nD Cert.AdamRows.τ).loc Cert.AdamRows.main_arg9)
      ∧ r.2.mem ((c.tc : Thread Cert.AdamRows.nD Cert.AdamRows.τ).loc Cert.AdamRows.main_arg10) = m ((c.tc : Thread Cert.AdamRows.nD Cert.AdamRows.τ).loc Cert.AdamRows.main_arg10)
      ∧ r.2.mem ((c.tc : Thread Cert.AdamRows.nD Cert.AdamRows.τ).loc Cert.AdamRows.main_arg11) = m ((c.tc : Thread Cert.AdamRows.nD Cert.AdamRows.τ).loc Cert.AdamRows.main_arg11)
      ∧ r.2.mem ((c.tc : Thread Cert.AdamRows.nD Cert.AdamRows.τ).loc Cert.AdamRows.main_arg12) = m ((c.tc : Thread Cert.AdamRows.nD Cert.AdamRows.τ).loc Cert.AdamRows.main_arg12)
      ∧ r.2.mem ((c.tc : Thread Cert.AdamRows.nD Cert.AdamRows.τ).loc Cert.AdamRows.main_arg13) = m ((c.tc : Thread Cert.AdamRows.nD Cert.AdamRows.τ).loc Cert.AdamRows.main_arg13)
      ∧ r.2.mem ((c.tc : Thread Cert.AdamRows.nD Cert.AdamRows.τ).loc Cert.AdamRows.main_arg14) = m ((c.tc : Thread Cert.AdamRows.nD Cert.AdamRows.τ).loc Cert.AdamRows.main_arg14)
      ∧ r.2.mem ((c.tc : Thread Cert.AdamRows.nD Cert.AdamRows.τ).loc Cert.AdamRows.main_arg15) = m ((c.tc : Thread Cert.AdamRows.nD Cert.AdamRows.τ).loc Cert.AdamRows.main_arg15)
      ∧ r.2.mem ((c.tc : Thread Cert.AdamRows.nD Cert.AdamRows.τ).loc Cert.AdamRows.main_arg16) = m ((c.tc : Thread Cert.AdamRows.nD Cert.AdamRows.τ).loc Cert.AdamRows.main_arg16)
      ∧ r.2.mem ((c.tc : Thread Cert.AdamRows.nD Cert.AdamRows.τ).loc Cert.AdamRows.main_arg17) = m ((c.tc : Thread Cert.AdamRows.nD Cert.AdamRows.τ).loc Cert.AdamRows.main_arg17)
      ∧ r.2.mem ((c.tc : Thread Cert.AdamRows.nD Cert.AdamRows.τ).loc Cert.AdamRows.main_arg18) = m ((c.tc : Thread Cert.AdamRows.nD Cert.AdamRows.τ).loc Cert.AdamRows.main_arg18)
      ∧ r.2.mem ((c.tc : Thread Cert.AdamRows.nD Cert.AdamRows.τ).loc Cert.AdamRows.main_arg19) = m ((c.tc : Thread Cert.AdamRows.nD Cert.AdamRows.τ).loc Cert.AdamRows.main_arg19)
      ∧ r.2.mem ((c.tc : Thread Cert.AdamRows.nD Cert.AdamRows.τ).loc Cert.AdamRows.main_arg20) = m ((c.tc : Thread Cert.AdamRows.nD Cert.AdamRows.τ).loc Cert.AdamRows.main_arg20)
      ∧ r.2.mem ((c.tc : Thread Cert.AdamRows.nD Cert.AdamRows.τ).loc Cert.AdamRows.main_arg21) = m ((c.tc : Thread Cert.AdamRows.nD Cert.AdamRows.τ).loc Cert.AdamRows.main_arg21)
      ∧ r.2.mem ((c.tc : Thread Cert.AdamRows.nD Cert.AdamRows.τ).loc Cert.AdamRows.main_arg22) = m ((c.tc : Thread Cert.AdamRows.nD Cert.AdamRows.τ).loc Cert.AdamRows.main_arg22)
      ∧ r.2.mem ((c.tc : Thread Cert.AdamRows.nD Cert.AdamRows.τ).loc Cert.AdamRows.main_arg23) = m ((c.tc : Thread Cert.AdamRows.nD Cert.AdamRows.τ).loc Cert.AdamRows.main_arg23)
      ∧ r.2.mem ((c.tc : Thread Cert.AdamRows.nD Cert.AdamRows.τ).loc Cert.AdamRows.main_arg24) = m ((c.tc : Thread Cert.AdamRows.nD Cert.AdamRows.τ).loc Cert.AdamRows.main_arg24)
      ∧ r.2.mem ((c.tc : Thread Cert.AdamRows.nD Cert.AdamRows.τ).loc Cert.AdamRows.main_arg25) = m ((c.tc : Thread Cert.AdamRows.nD Cert.AdamRows.τ).loc Cert.AdamRows.main_arg25)
      ∧ r.2.mem ((c.tc : Thread Cert.AdamRows.nD Cert.AdamRows.τ).loc Cert.AdamRows.main_arg26) = m ((c.tc : Thread Cert.AdamRows.nD Cert.AdamRows.τ).loc Cert.AdamRows.main_arg26)
      ∧ r.2.mem ((c.tc : Thread Cert.AdamRows.nD Cert.AdamRows.τ).loc Cert.AdamRows.main_arg27) = m ((c.tc : Thread Cert.AdamRows.nD Cert.AdamRows.τ).loc Cert.AdamRows.main_arg27)
      ∧ r.2.mem ((c.tc : Thread Cert.AdamRows.nD Cert.AdamRows.τ).loc Cert.AdamRows.main_arg28) = m ((c.tc : Thread Cert.AdamRows.nD Cert.AdamRows.τ).loc Cert.AdamRows.main_arg28)
      ∧ r.2.mem ((c.tc : Thread Cert.AdamRows.nD Cert.AdamRows.τ).loc Cert.AdamRows.main_arg29) = m ((c.tc : Thread Cert.AdamRows.nD Cert.AdamRows.τ).loc Cert.AdamRows.main_arg29)
      ∧ r.2.mem ((c.tc : Thread Cert.AdamRows.nD Cert.AdamRows.τ).loc Cert.AdamRows.main_arg30) = m ((c.tc : Thread Cert.AdamRows.nD Cert.AdamRows.τ).loc Cert.AdamRows.main_arg30)
      ∧ r.2.mem ((c.tc : Thread Cert.AdamRows.nD Cert.AdamRows.τ).loc Cert.AdamRows.main_arg31) = m ((c.tc : Thread Cert.AdamRows.nD Cert.AdamRows.τ).loc Cert.AdamRows.main_arg31)
      ∧ r.2.mem ((c.tc : Thread Cert.AdamRows.nD Cert.AdamRows.τ).loc Cert.AdamRows.main_arg32) = m ((c.tc : Thread Cert.AdamRows.nD Cert.AdamRows.τ).loc Cert.AdamRows.main_arg32)
      ∧ r.2.mem ((c.tc : Thread Cert.AdamRows.nD Cert.AdamRows.τ).loc Cert.AdamRows.main_arg33) = m ((c.tc : Thread Cert.AdamRows.nD Cert.AdamRows.τ).loc Cert.AdamRows.main_arg33)
      ∧ r.2.mem ((c.tc : Thread Cert.AdamRows.nD Cert.AdamRows.τ).loc Cert.AdamRows.main_arg34) = m ((c.tc : Thread Cert.AdamRows.nD Cert.AdamRows.τ).loc Cert.AdamRows.main_arg34)
      ∧ r.2.mem ((c.tc : Thread Cert.AdamRows.nD Cert.AdamRows.τ).loc Cert.AdamRows.main_arg35) = m ((c.tc : Thread Cert.AdamRows.nD Cert.AdamRows.τ).loc Cert.AdamRows.main_arg35)
      ∧ r.2.mem ((c.tc : Thread Cert.AdamRows.nD Cert.AdamRows.τ).loc Cert.AdamRows.main_arg36) = m ((c.tc : Thread Cert.AdamRows.nD Cert.AdamRows.τ).loc Cert.AdamRows.main_arg36)
      ∧ r.2.mem ((c.tc : Thread Cert.AdamRows.nD Cert.AdamRows.τ).loc Cert.AdamRows.main_arg37) = m ((c.tc : Thread Cert.AdamRows.nD Cert.AdamRows.τ).loc Cert.AdamRows.main_arg37)
      ∧ r.2.mem ((c.tc : Thread Cert.AdamRows.nD Cert.AdamRows.τ).loc Cert.AdamRows.main_arg38) = m ((c.tc : Thread Cert.AdamRows.nD Cert.AdamRows.τ).loc Cert.AdamRows.main_arg38)
      ∧ r.2.mem ((c.tc : Thread Cert.AdamRows.nD Cert.AdamRows.τ).loc Cert.AdamRows.main_arg39) = m ((c.tc : Thread Cert.AdamRows.nD Cert.AdamRows.τ).loc Cert.AdamRows.main_arg39)
      ∧ r.2.mem ((c.tc : Thread Cert.AdamRows.nD Cert.AdamRows.τ).loc Cert.AdamRows.main_arg40) = m ((c.tc : Thread Cert.AdamRows.nD Cert.AdamRows.τ).loc Cert.AdamRows.main_arg40)
      ∧ r.2.mem ((c.tc : Thread Cert.AdamRows.nD Cert.AdamRows.τ).loc Cert.AdamRows.main_arg41) = m ((c.tc : Thread Cert.AdamRows.nD Cert.AdamRows.τ).loc Cert.AdamRows.main_arg41)
      ∧ r.2.mem ((c.tc : Thread Cert.AdamRows.nD Cert.AdamRows.τ).loc Cert.AdamRows.main_arg42) = m ((c.tc : Thread Cert.AdamRows.nD Cert.AdamRows.τ).loc Cert.AdamRows.main_arg42)
      ∧ r.2.mem ((c.tc : Thread Cert.AdamRows.nD Cert.AdamRows.τ).loc Cert.AdamRows.main_arg43) = m ((c.tc : Thread Cert.AdamRows.nD Cert.AdamRows.τ).loc Cert.AdamRows.main_arg43)
      ∧ r.2.mem ((c.tc : Thread Cert.AdamRows.nD Cert.AdamRows.τ).loc Cert.AdamRows.main_arg44) = m ((c.tc : Thread Cert.AdamRows.nD Cert.AdamRows.τ).loc Cert.AdamRows.main_arg44))
      ∧ r.2.sem = fun _ => 0)

def quiescent_AdamRowsIdeal [hAdamRowsIdeal : Cert.AdamRowsIdeal.Facts] : Prop :=
  ∀ (m : (ℓ : Loc Cert.AdamRowsIdeal.nD Cert.AdamRowsIdeal.τ Cert.AdamRowsIdeal.sig) → Buf (Elt Ideal) ℓ) (g : Dev Cert.AdamRowsIdeal.nD → PrngReg), Pre_AdamRowsIdeal m →
    θ_run (Cert.AdamRowsIdeal.defs (F := Ideal)) (onTc (τ := Cert.AdamRowsIdeal.τ) (Cert.AdamRowsIdeal.main (F := Ideal))) ⟨m, fun _ => 0, g⟩ (fun r => (∀ c : Dev Cert.AdamRowsIdeal.nD,
      r.2.mem ((c.tc : Thread Cert.AdamRowsIdeal.nD Cert.AdamRowsIdeal.τ).loc Cert.AdamRowsIdeal.main_arg0) = m ((c.tc : Thread Cert.AdamRowsIdeal.nD Cert.AdamRowsIdeal.τ).loc Cert.AdamRowsIdeal.main_arg0)
      ∧ r.2.mem ((c.tc : Thread Cert.AdamRowsIdeal.nD Cert.AdamRowsIdeal.τ).loc Cert.AdamRowsIdeal.main_arg1) = m ((c.tc : Thread Cert.AdamRowsIdeal.nD Cert.AdamRowsIdeal.τ).loc Cert.AdamRowsIdeal.main_arg1)
      ∧ r.2.mem ((c.tc : Thread Cert.AdamRowsIdeal.nD Cert.AdamRowsIdeal.τ).loc Cert.AdamRowsIdeal.main_arg2) = m ((c.tc : Thread Cert.AdamRowsIdeal.nD Cert.AdamRowsIdeal.τ).loc Cert.AdamRowsIdeal.main_arg2)
      ∧ r.2.mem ((c.tc : Thread Cert.AdamRowsIdeal.nD Cert.AdamRowsIdeal.τ).loc Cert.AdamRowsIdeal.main_arg3) = m ((c.tc : Thread Cert.AdamRowsIdeal.nD Cert.AdamRowsIdeal.τ).loc Cert.AdamRowsIdeal.main_arg3)
      ∧ r.2.mem ((c.tc : Thread Cert.AdamRowsIdeal.nD Cert.AdamRowsIdeal.τ).loc Cert.AdamRowsIdeal.main_arg4) = m ((c.tc : Thread Cert.AdamRowsIdeal.nD Cert.AdamRowsIdeal.τ).loc Cert.AdamRowsIdeal.main_arg4)
      ∧ r.2.mem ((c.tc : Thread Cert.AdamRowsIdeal.nD Cert.AdamRowsIdeal.τ).loc Cert.AdamRowsIdeal.main_arg5) = m ((c.tc : Thread Cert.AdamRowsIdeal.nD Cert.AdamRowsIdeal.τ).loc Cert.AdamRowsIdeal.main_arg5)
      ∧ r.2.mem ((c.tc : Thread Cert.AdamRowsIdeal.nD Cert.AdamRowsIdeal.τ).loc Cert.AdamRowsIdeal.main_arg6) = m ((c.tc : Thread Cert.AdamRowsIdeal.nD Cert.AdamRowsIdeal.τ).loc Cert.AdamRowsIdeal.main_arg6)
      ∧ r.2.mem ((c.tc : Thread Cert.AdamRowsIdeal.nD Cert.AdamRowsIdeal.τ).loc Cert.AdamRowsIdeal.main_arg7) = m ((c.tc : Thread Cert.AdamRowsIdeal.nD Cert.AdamRowsIdeal.τ).loc Cert.AdamRowsIdeal.main_arg7)
      ∧ r.2.mem ((c.tc : Thread Cert.AdamRowsIdeal.nD Cert.AdamRowsIdeal.τ).loc Cert.AdamRowsIdeal.main_arg8) = m ((c.tc : Thread Cert.AdamRowsIdeal.nD Cert.AdamRowsIdeal.τ).loc Cert.AdamRowsIdeal.main_arg8)
      ∧ r.2.mem ((c.tc : Thread Cert.AdamRowsIdeal.nD Cert.AdamRowsIdeal.τ).loc Cert.AdamRowsIdeal.main_arg9) = m ((c.tc : Thread Cert.AdamRowsIdeal.nD Cert.AdamRowsIdeal.τ).loc Cert.AdamRowsIdeal.main_arg9)
      ∧ r.2.mem ((c.tc : Thread Cert.AdamRowsIdeal.nD Cert.AdamRowsIdeal.τ).loc Cert.AdamRowsIdeal.main_arg10) = m ((c.tc : Thread Cert.AdamRowsIdeal.nD Cert.AdamRowsIdeal.τ).loc Cert.AdamRowsIdeal.main_arg10)
      ∧ r.2.mem ((c.tc : Thread Cert.AdamRowsIdeal.nD Cert.AdamRowsIdeal.τ).loc Cert.AdamRowsIdeal.main_arg11) = m ((c.tc : Thread Cert.AdamRowsIdeal.nD Cert.AdamRowsIdeal.τ).loc Cert.AdamRowsIdeal.main_arg11)
      ∧ r.2.mem ((c.tc : Thread Cert.AdamRowsIdeal.nD Cert.AdamRowsIdeal.τ).loc Cert.AdamRowsIdeal.main_arg12) = m ((c.tc : Thread Cert.AdamRowsIdeal.nD Cert.AdamRowsIdeal.τ).loc Cert.AdamRowsIdeal.main_arg12)
      ∧ r.2.mem ((c.tc : Thread Cert.AdamRowsIdeal.nD Cert.AdamRowsIdeal.τ).loc Cert.AdamRowsIdeal.main_arg13) = m ((c.tc : Thread Cert.AdamRowsIdeal.nD Cert.AdamRowsIdeal.τ).loc Cert.AdamRowsIdeal.main_arg13)
      ∧ r.2.mem ((c.tc : Thread Cert.AdamRowsIdeal.nD Cert.AdamRowsIdeal.τ).loc Cert.AdamRowsIdeal.main_arg14) = m ((c.tc : Thread Cert.AdamRowsIdeal.nD Cert.AdamRowsIdeal.τ).loc Cert.AdamRowsIdeal.main_arg14)
      ∧ r.2.mem ((c.tc : Thread Cert.AdamRowsIdeal.nD Cert.AdamRowsIdeal.τ).loc Cert.AdamRowsIdeal.main_arg15) = m ((c.tc : Thread Cert.AdamRowsIdeal.nD Cert.AdamRowsIdeal.τ).loc Cert.AdamRowsIdeal.main_arg15)
      ∧ r.2.mem ((c.tc : Thread Cert.AdamRowsIdeal.nD Cert.AdamRowsIdeal.τ).loc Cert.AdamRowsIdeal.main_arg16) = m ((c.tc : Thread Cert.AdamRowsIdeal.nD Cert.AdamRowsIdeal.τ).loc Cert.AdamRowsIdeal.main_arg16)
      ∧ r.2.mem ((c.tc : Thread Cert.AdamRowsIdeal.nD Cert.AdamRowsIdeal.τ).loc Cert.AdamRowsIdeal.main_arg17) = m ((c.tc : Thread Cert.AdamRowsIdeal.nD Cert.AdamRowsIdeal.τ).loc Cert.AdamRowsIdeal.main_arg17)
      ∧ r.2.mem ((c.tc : Thread Cert.AdamRowsIdeal.nD Cert.AdamRowsIdeal.τ).loc Cert.AdamRowsIdeal.main_arg18) = m ((c.tc : Thread Cert.AdamRowsIdeal.nD Cert.AdamRowsIdeal.τ).loc Cert.AdamRowsIdeal.main_arg18)
      ∧ r.2.mem ((c.tc : Thread Cert.AdamRowsIdeal.nD Cert.AdamRowsIdeal.τ).loc Cert.AdamRowsIdeal.main_arg19) = m ((c.tc : Thread Cert.AdamRowsIdeal.nD Cert.AdamRowsIdeal.τ).loc Cert.AdamRowsIdeal.main_arg19)
      ∧ r.2.mem ((c.tc : Thread Cert.AdamRowsIdeal.nD Cert.AdamRowsIdeal.τ).loc Cert.AdamRowsIdeal.main_arg20) = m ((c.tc : Thread Cert.AdamRowsIdeal.nD Cert.AdamRowsIdeal.τ).loc Cert.AdamRowsIdeal.main_arg20)
      ∧ r.2.mem ((c.tc : Thread Cert.AdamRowsIdeal.nD Cert.AdamRowsIdeal.τ).loc Cert.AdamRowsIdeal.main_arg21) = m ((c.tc : Thread Cert.AdamRowsIdeal.nD Cert.AdamRowsIdeal.τ).loc Cert.AdamRowsIdeal.main_arg21)
      ∧ r.2.mem ((c.tc : Thread Cert.AdamRowsIdeal.nD Cert.AdamRowsIdeal.τ).loc Cert.AdamRowsIdeal.main_arg22) = m ((c.tc : Thread Cert.AdamRowsIdeal.nD Cert.AdamRowsIdeal.τ).loc Cert.AdamRowsIdeal.main_arg22)
      ∧ r.2.mem ((c.tc : Thread Cert.AdamRowsIdeal.nD Cert.AdamRowsIdeal.τ).loc Cert.AdamRowsIdeal.main_arg23) = m ((c.tc : Thread Cert.AdamRowsIdeal.nD Cert.AdamRowsIdeal.τ).loc Cert.AdamRowsIdeal.main_arg23)
      ∧ r.2.mem ((c.tc : Thread Cert.AdamRowsIdeal.nD Cert.AdamRowsIdeal.τ).loc Cert.AdamRowsIdeal.main_arg24) = m ((c.tc : Thread Cert.AdamRowsIdeal.nD Cert.AdamRowsIdeal.τ).loc Cert.AdamRowsIdeal.main_arg24)
      ∧ r.2.mem ((c.tc : Thread Cert.AdamRowsIdeal.nD Cert.AdamRowsIdeal.τ).loc Cert.AdamRowsIdeal.main_arg25) = m ((c.tc : Thread Cert.AdamRowsIdeal.nD Cert.AdamRowsIdeal.τ).loc Cert.AdamRowsIdeal.main_arg25)
      ∧ r.2.mem ((c.tc : Thread Cert.AdamRowsIdeal.nD Cert.AdamRowsIdeal.τ).loc Cert.AdamRowsIdeal.main_arg26) = m ((c.tc : Thread Cert.AdamRowsIdeal.nD Cert.AdamRowsIdeal.τ).loc Cert.AdamRowsIdeal.main_arg26)
      ∧ r.2.mem ((c.tc : Thread Cert.AdamRowsIdeal.nD Cert.AdamRowsIdeal.τ).loc Cert.AdamRowsIdeal.main_arg27) = m ((c.tc : Thread Cert.AdamRowsIdeal.nD Cert.AdamRowsIdeal.τ).loc Cert.AdamRowsIdeal.main_arg27)
      ∧ r.2.mem ((c.tc : Thread Cert.AdamRowsIdeal.nD Cert.AdamRowsIdeal.τ).loc Cert.AdamRowsIdeal.main_arg28) = m ((c.tc : Thread Cert.AdamRowsIdeal.nD Cert.AdamRowsIdeal.τ).loc Cert.AdamRowsIdeal.main_arg28)
      ∧ r.2.mem ((c.tc : Thread Cert.AdamRowsIdeal.nD Cert.AdamRowsIdeal.τ).loc Cert.AdamRowsIdeal.main_arg29) = m ((c.tc : Thread Cert.AdamRowsIdeal.nD Cert.AdamRowsIdeal.τ).loc Cert.AdamRowsIdeal.main_arg29)
      ∧ r.2.mem ((c.tc : Thread Cert.AdamRowsIdeal.nD Cert.AdamRowsIdeal.τ).loc Cert.AdamRowsIdeal.main_arg30) = m ((c.tc : Thread Cert.AdamRowsIdeal.nD Cert.AdamRowsIdeal.τ).loc Cert.AdamRowsIdeal.main_arg30)
      ∧ r.2.mem ((c.tc : Thread Cert.AdamRowsIdeal.nD Cert.AdamRowsIdeal.τ).loc Cert.AdamRowsIdeal.main_arg31) = m ((c.tc : Thread Cert.AdamRowsIdeal.nD Cert.AdamRowsIdeal.τ).loc Cert.AdamRowsIdeal.main_arg31)
      ∧ r.2.mem ((c.tc : Thread Cert.AdamRowsIdeal.nD Cert.AdamRowsIdeal.τ).loc Cert.AdamRowsIdeal.main_arg32) = m ((c.tc : Thread Cert.AdamRowsIdeal.nD Cert.AdamRowsIdeal.τ).loc Cert.AdamRowsIdeal.main_arg32)
      ∧ r.2.mem ((c.tc : Thread Cert.AdamRowsIdeal.nD Cert.AdamRowsIdeal.τ).loc Cert.AdamRowsIdeal.main_arg33) = m ((c.tc : Thread Cert.AdamRowsIdeal.nD Cert.AdamRowsIdeal.τ).loc Cert.AdamRowsIdeal.main_arg33)
      ∧ r.2.mem ((c.tc : Thread Cert.AdamRowsIdeal.nD Cert.AdamRowsIdeal.τ).loc Cert.AdamRowsIdeal.main_arg34) = m ((c.tc : Thread Cert.AdamRowsIdeal.nD Cert.AdamRowsIdeal.τ).loc Cert.AdamRowsIdeal.main_arg34)
      ∧ r.2.mem ((c.tc : Thread Cert.AdamRowsIdeal.nD Cert.AdamRowsIdeal.τ).loc Cert.AdamRowsIdeal.main_arg35) = m ((c.tc : Thread Cert.AdamRowsIdeal.nD Cert.AdamRowsIdeal.τ).loc Cert.AdamRowsIdeal.main_arg35)
      ∧ r.2.mem ((c.tc : Thread Cert.AdamRowsIdeal.nD Cert.AdamRowsIdeal.τ).loc Cert.AdamRowsIdeal.main_arg36) = m ((c.tc : Thread Cert.AdamRowsIdeal.nD Cert.AdamRowsIdeal.τ).loc Cert.AdamRowsIdeal.main_arg36)
      ∧ r.2.mem ((c.tc : Thread Cert.AdamRowsIdeal.nD Cert.AdamRowsIdeal.τ).loc Cert.AdamRowsIdeal.main_arg37) = m ((c.tc : Thread Cert.AdamRowsIdeal.nD Cert.AdamRowsIdeal.τ).loc Cert.AdamRowsIdeal.main_arg37)
      ∧ r.2.mem ((c.tc : Thread Cert.AdamRowsIdeal.nD Cert.AdamRowsIdeal.τ).loc Cert.AdamRowsIdeal.main_arg38) = m ((c.tc : Thread Cert.AdamRowsIdeal.nD Cert.AdamRowsIdeal.τ).loc Cert.AdamRowsIdeal.main_arg38)
      ∧ r.2.mem ((c.tc : Thread Cert.AdamRowsIdeal.nD Cert.AdamRowsIdeal.τ).loc Cert.AdamRowsIdeal.main_arg39) = m ((c.tc : Thread Cert.AdamRowsIdeal.nD Cert.AdamRowsIdeal.τ).loc Cert.AdamRowsIdeal.main_arg39)
      ∧ r.2.mem ((c.tc : Thread Cert.AdamRowsIdeal.nD Cert.AdamRowsIdeal.τ).loc Cert.AdamRowsIdeal.main_arg40) = m ((c.tc : Thread Cert.AdamRowsIdeal.nD Cert.AdamRowsIdeal.τ).loc Cert.AdamRowsIdeal.main_arg40)
      ∧ r.2.mem ((c.tc : Thread Cert.AdamRowsIdeal.nD Cert.AdamRowsIdeal.τ).loc Cert.AdamRowsIdeal.main_arg41) = m ((c.tc : Thread Cert.AdamRowsIdeal.nD Cert.AdamRowsIdeal.τ).loc Cert.AdamRowsIdeal.main_arg41)
      ∧ r.2.mem ((c.tc : Thread Cert.AdamRowsIdeal.nD Cert.AdamRowsIdeal.τ).loc Cert.AdamRowsIdeal.main_arg42) = m ((c.tc : Thread Cert.AdamRowsIdeal.nD Cert.AdamRowsIdeal.τ).loc Cert.AdamRowsIdeal.main_arg42)
      ∧ r.2.mem ((c.tc : Thread Cert.AdamRowsIdeal.nD Cert.AdamRowsIdeal.τ).loc Cert.AdamRowsIdeal.main_arg43) = m ((c.tc : Thread Cert.AdamRowsIdeal.nD Cert.AdamRowsIdeal.τ).loc Cert.AdamRowsIdeal.main_arg43)
      ∧ r.2.mem ((c.tc : Thread Cert.AdamRowsIdeal.nD Cert.AdamRowsIdeal.τ).loc Cert.AdamRowsIdeal.main_arg44) = m ((c.tc : Thread Cert.AdamRowsIdeal.nD Cert.AdamRowsIdeal.τ).loc Cert.AdamRowsIdeal.main_arg44))
      ∧ r.2.sem = fun _ => 0)

def quiescent_AdamRowsRefIdeal [hAdamRowsRefIdeal : Cert.AdamRowsRefIdeal.Facts] : Prop :=
  ∀ (m : (ℓ : Loc Cert.AdamRowsRefIdeal.nD Cert.AdamRowsRefIdeal.τ Cert.AdamRowsRefIdeal.sig) → Buf (Elt Ideal) ℓ) (g : Dev Cert.AdamRowsRefIdeal.nD → PrngReg), Pre_AdamRowsRefIdeal m →
    θ_run (Cert.AdamRowsRefIdeal.defs (F := Ideal)) (onTc (τ := Cert.AdamRowsRefIdeal.τ) (Cert.AdamRowsRefIdeal.main (F := Ideal))) ⟨m, fun _ => 0, g⟩ (fun r => (∀ c : Dev Cert.AdamRowsRefIdeal.nD,
      r.2.mem ((c.tc : Thread Cert.AdamRowsRefIdeal.nD Cert.AdamRowsRefIdeal.τ).loc Cert.AdamRowsRefIdeal.main_arg0) = m ((c.tc : Thread Cert.AdamRowsRefIdeal.nD Cert.AdamRowsRefIdeal.τ).loc Cert.AdamRowsRefIdeal.main_arg0)
      ∧ r.2.mem ((c.tc : Thread Cert.AdamRowsRefIdeal.nD Cert.AdamRowsRefIdeal.τ).loc Cert.AdamRowsRefIdeal.main_arg1) = m ((c.tc : Thread Cert.AdamRowsRefIdeal.nD Cert.AdamRowsRefIdeal.τ).loc Cert.AdamRowsRefIdeal.main_arg1)
      ∧ r.2.mem ((c.tc : Thread Cert.AdamRowsRefIdeal.nD Cert.AdamRowsRefIdeal.τ).loc Cert.AdamRowsRefIdeal.main_arg2) = m ((c.tc : Thread Cert.AdamRowsRefIdeal.nD Cert.AdamRowsRefIdeal.τ).loc Cert.AdamRowsRefIdeal.main_arg2)
      ∧ r.2.mem ((c.tc : Thread Cert.AdamRowsRefIdeal.nD Cert.AdamRowsRefIdeal.τ).loc Cert.AdamRowsRefIdeal.main_arg3) = m ((c.tc : Thread Cert.AdamRowsRefIdeal.nD Cert.AdamRowsRefIdeal.τ).loc Cert.AdamRowsRefIdeal.main_arg3)
      ∧ r.2.mem ((c.tc : Thread Cert.AdamRowsRefIdeal.nD Cert.AdamRowsRefIdeal.τ).loc Cert.AdamRowsRefIdeal.main_arg4) = m ((c.tc : Thread Cert.AdamRowsRefIdeal.nD Cert.AdamRowsRefIdeal.τ).loc Cert.AdamRowsRefIdeal.main_arg4)
      ∧ r.2.mem ((c.tc : Thread Cert.AdamRowsRefIdeal.nD Cert.AdamRowsRefIdeal.τ).loc Cert.AdamRowsRefIdeal.main_arg5) = m ((c.tc : Thread Cert.AdamRowsRefIdeal.nD Cert.AdamRowsRefIdeal.τ).loc Cert.AdamRowsRefIdeal.main_arg5)
      ∧ r.2.mem ((c.tc : Thread Cert.AdamRowsRefIdeal.nD Cert.AdamRowsRefIdeal.τ).loc Cert.AdamRowsRefIdeal.main_arg6) = m ((c.tc : Thread Cert.AdamRowsRefIdeal.nD Cert.AdamRowsRefIdeal.τ).loc Cert.AdamRowsRefIdeal.main_arg6)
      ∧ r.2.mem ((c.tc : Thread Cert.AdamRowsRefIdeal.nD Cert.AdamRowsRefIdeal.τ).loc Cert.AdamRowsRefIdeal.main_arg7) = m ((c.tc : Thread Cert.AdamRowsRefIdeal.nD Cert.AdamRowsRefIdeal.τ).loc Cert.AdamRowsRefIdeal.main_arg7)
      ∧ r.2.mem ((c.tc : Thread Cert.AdamRowsRefIdeal.nD Cert.AdamRowsRefIdeal.τ).loc Cert.AdamRowsRefIdeal.main_arg8) = m ((c.tc : Thread Cert.AdamRowsRefIdeal.nD Cert.AdamRowsRefIdeal.τ).loc Cert.AdamRowsRefIdeal.main_arg8)
      ∧ r.2.mem ((c.tc : Thread Cert.AdamRowsRefIdeal.nD Cert.AdamRowsRefIdeal.τ).loc Cert.AdamRowsRefIdeal.main_arg9) = m ((c.tc : Thread Cert.AdamRowsRefIdeal.nD Cert.AdamRowsRefIdeal.τ).loc Cert.AdamRowsRefIdeal.main_arg9)
      ∧ r.2.mem ((c.tc : Thread Cert.AdamRowsRefIdeal.nD Cert.AdamRowsRefIdeal.τ).loc Cert.AdamRowsRefIdeal.main_arg10) = m ((c.tc : Thread Cert.AdamRowsRefIdeal.nD Cert.AdamRowsRefIdeal.τ).loc Cert.AdamRowsRefIdeal.main_arg10)
      ∧ r.2.mem ((c.tc : Thread Cert.AdamRowsRefIdeal.nD Cert.AdamRowsRefIdeal.τ).loc Cert.AdamRowsRefIdeal.main_arg11) = m ((c.tc : Thread Cert.AdamRowsRefIdeal.nD Cert.AdamRowsRefIdeal.τ).loc Cert.AdamRowsRefIdeal.main_arg11)
      ∧ r.2.mem ((c.tc : Thread Cert.AdamRowsRefIdeal.nD Cert.AdamRowsRefIdeal.τ).loc Cert.AdamRowsRefIdeal.main_arg12) = m ((c.tc : Thread Cert.AdamRowsRefIdeal.nD Cert.AdamRowsRefIdeal.τ).loc Cert.AdamRowsRefIdeal.main_arg12)
      ∧ r.2.mem ((c.tc : Thread Cert.AdamRowsRefIdeal.nD Cert.AdamRowsRefIdeal.τ).loc Cert.AdamRowsRefIdeal.main_arg13) = m ((c.tc : Thread Cert.AdamRowsRefIdeal.nD Cert.AdamRowsRefIdeal.τ).loc Cert.AdamRowsRefIdeal.main_arg13)
      ∧ r.2.mem ((c.tc : Thread Cert.AdamRowsRefIdeal.nD Cert.AdamRowsRefIdeal.τ).loc Cert.AdamRowsRefIdeal.main_arg14) = m ((c.tc : Thread Cert.AdamRowsRefIdeal.nD Cert.AdamRowsRefIdeal.τ).loc Cert.AdamRowsRefIdeal.main_arg14)
      ∧ r.2.mem ((c.tc : Thread Cert.AdamRowsRefIdeal.nD Cert.AdamRowsRefIdeal.τ).loc Cert.AdamRowsRefIdeal.main_arg15) = m ((c.tc : Thread Cert.AdamRowsRefIdeal.nD Cert.AdamRowsRefIdeal.τ).loc Cert.AdamRowsRefIdeal.main_arg15)
      ∧ r.2.mem ((c.tc : Thread Cert.AdamRowsRefIdeal.nD Cert.AdamRowsRefIdeal.τ).loc Cert.AdamRowsRefIdeal.main_arg16) = m ((c.tc : Thread Cert.AdamRowsRefIdeal.nD Cert.AdamRowsRefIdeal.τ).loc Cert.AdamRowsRefIdeal.main_arg16)
      ∧ r.2.mem ((c.tc : Thread Cert.AdamRowsRefIdeal.nD Cert.AdamRowsRefIdeal.τ).loc Cert.AdamRowsRefIdeal.main_arg17) = m ((c.tc : Thread Cert.AdamRowsRefIdeal.nD Cert.AdamRowsRefIdeal.τ).loc Cert.AdamRowsRefIdeal.main_arg17)
      ∧ r.2.mem ((c.tc : Thread Cert.AdamRowsRefIdeal.nD Cert.AdamRowsRefIdeal.τ).loc Cert.AdamRowsRefIdeal.main_arg18) = m ((c.tc : Thread Cert.AdamRowsRefIdeal.nD Cert.AdamRowsRefIdeal.τ).loc Cert.AdamRowsRefIdeal.main_arg18)
      ∧ r.2.mem ((c.tc : Thread Cert.AdamRowsRefIdeal.nD Cert.AdamRowsRefIdeal.τ).loc Cert.AdamRowsRefIdeal.main_arg19) = m ((c.tc : Thread Cert.AdamRowsRefIdeal.nD Cert.AdamRowsRefIdeal.τ).loc Cert.AdamRowsRefIdeal.main_arg19)
      ∧ r.2.mem ((c.tc : Thread Cert.AdamRowsRefIdeal.nD Cert.AdamRowsRefIdeal.τ).loc Cert.AdamRowsRefIdeal.main_arg20) = m ((c.tc : Thread Cert.AdamRowsRefIdeal.nD Cert.AdamRowsRefIdeal.τ).loc Cert.AdamRowsRefIdeal.main_arg20)
      ∧ r.2.mem ((c.tc : Thread Cert.AdamRowsRefIdeal.nD Cert.AdamRowsRefIdeal.τ).loc Cert.AdamRowsRefIdeal.main_arg21) = m ((c.tc : Thread Cert.AdamRowsRefIdeal.nD Cert.AdamRowsRefIdeal.τ).loc Cert.AdamRowsRefIdeal.main_arg21)
      ∧ r.2.mem ((c.tc : Thread Cert.AdamRowsRefIdeal.nD Cert.AdamRowsRefIdeal.τ).loc Cert.AdamRowsRefIdeal.main_arg22) = m ((c.tc : Thread Cert.AdamRowsRefIdeal.nD Cert.AdamRowsRefIdeal.τ).loc Cert.AdamRowsRefIdeal.main_arg22)
      ∧ r.2.mem ((c.tc : Thread Cert.AdamRowsRefIdeal.nD Cert.AdamRowsRefIdeal.τ).loc Cert.AdamRowsRefIdeal.main_arg23) = m ((c.tc : Thread Cert.AdamRowsRefIdeal.nD Cert.AdamRowsRefIdeal.τ).loc Cert.AdamRowsRefIdeal.main_arg23)
      ∧ r.2.mem ((c.tc : Thread Cert.AdamRowsRefIdeal.nD Cert.AdamRowsRefIdeal.τ).loc Cert.AdamRowsRefIdeal.main_arg24) = m ((c.tc : Thread Cert.AdamRowsRefIdeal.nD Cert.AdamRowsRefIdeal.τ).loc Cert.AdamRowsRefIdeal.main_arg24)
      ∧ r.2.mem ((c.tc : Thread Cert.AdamRowsRefIdeal.nD Cert.AdamRowsRefIdeal.τ).loc Cert.AdamRowsRefIdeal.main_arg25) = m ((c.tc : Thread Cert.AdamRowsRefIdeal.nD Cert.AdamRowsRefIdeal.τ).loc Cert.AdamRowsRefIdeal.main_arg25)
      ∧ r.2.mem ((c.tc : Thread Cert.AdamRowsRefIdeal.nD Cert.AdamRowsRefIdeal.τ).loc Cert.AdamRowsRefIdeal.main_arg26) = m ((c.tc : Thread Cert.AdamRowsRefIdeal.nD Cert.AdamRowsRefIdeal.τ).loc Cert.AdamRowsRefIdeal.main_arg26)
      ∧ r.2.mem ((c.tc : Thread Cert.AdamRowsRefIdeal.nD Cert.AdamRowsRefIdeal.τ).loc Cert.AdamRowsRefIdeal.main_arg27) = m ((c.tc : Thread Cert.AdamRowsRefIdeal.nD Cert.AdamRowsRefIdeal.τ).loc Cert.AdamRowsRefIdeal.main_arg27)
      ∧ r.2.mem ((c.tc : Thread Cert.AdamRowsRefIdeal.nD Cert.AdamRowsRefIdeal.τ).loc Cert.AdamRowsRefIdeal.main_arg28) = m ((c.tc : Thread Cert.AdamRowsRefIdeal.nD Cert.AdamRowsRefIdeal.τ).loc Cert.AdamRowsRefIdeal.main_arg28)
      ∧ r.2.mem ((c.tc : Thread Cert.AdamRowsRefIdeal.nD Cert.AdamRowsRefIdeal.τ).loc Cert.AdamRowsRefIdeal.main_arg29) = m ((c.tc : Thread Cert.AdamRowsRefIdeal.nD Cert.AdamRowsRefIdeal.τ).loc Cert.AdamRowsRefIdeal.main_arg29)
      ∧ r.2.mem ((c.tc : Thread Cert.AdamRowsRefIdeal.nD Cert.AdamRowsRefIdeal.τ).loc Cert.AdamRowsRefIdeal.main_arg30) = m ((c.tc : Thread Cert.AdamRowsRefIdeal.nD Cert.AdamRowsRefIdeal.τ).loc Cert.AdamRowsRefIdeal.main_arg30)
      ∧ r.2.mem ((c.tc : Thread Cert.AdamRowsRefIdeal.nD Cert.AdamRowsRefIdeal.τ).loc Cert.AdamRowsRefIdeal.main_arg31) = m ((c.tc : Thread Cert.AdamRowsRefIdeal.nD Cert.AdamRowsRefIdeal.τ).loc Cert.AdamRowsRefIdeal.main_arg31)
      ∧ r.2.mem ((c.tc : Thread Cert.AdamRowsRefIdeal.nD Cert.AdamRowsRefIdeal.τ).loc Cert.AdamRowsRefIdeal.main_arg32) = m ((c.tc : Thread Cert.AdamRowsRefIdeal.nD Cert.AdamRowsRefIdeal.τ).loc Cert.AdamRowsRefIdeal.main_arg32)
      ∧ r.2.mem ((c.tc : Thread Cert.AdamRowsRefIdeal.nD Cert.AdamRowsRefIdeal.τ).loc Cert.AdamRowsRefIdeal.main_arg33) = m ((c.tc : Thread Cert.AdamRowsRefIdeal.nD Cert.AdamRowsRefIdeal.τ).loc Cert.AdamRowsRefIdeal.main_arg33)
      ∧ r.2.mem ((c.tc : Thread Cert.AdamRowsRefIdeal.nD Cert.AdamRowsRefIdeal.τ).loc Cert.AdamRowsRefIdeal.main_arg34) = m ((c.tc : Thread Cert.AdamRowsRefIdeal.nD Cert.AdamRowsRefIdeal.τ).loc Cert.AdamRowsRefIdeal.main_arg34)
      ∧ r.2.mem ((c.tc : Thread Cert.AdamRowsRefIdeal.nD Cert.AdamRowsRefIdeal.τ).loc Cert.AdamRowsRefIdeal.main_arg35) = m ((c.tc : Thread Cert.AdamRowsRefIdeal.nD Cert.AdamRowsRefIdeal.τ).loc Cert.AdamRowsRefIdeal.main_arg35)
      ∧ r.2.mem ((c.tc : Thread Cert.AdamRowsRefIdeal.nD Cert.AdamRowsRefIdeal.τ).loc Cert.AdamRowsRefIdeal.main_arg36) = m ((c.tc : Thread Cert.AdamRowsRefIdeal.nD Cert.AdamRowsRefIdeal.τ).loc Cert.AdamRowsRefIdeal.main_arg36)
      ∧ r.2.mem ((c.tc : Thread Cert.AdamRowsRefIdeal.nD Cert.AdamRowsRefIdeal.τ).loc Cert.AdamRowsRefIdeal.main_arg37) = m ((c.tc : Thread Cert.AdamRowsRefIdeal.nD Cert.AdamRowsRefIdeal.τ).loc Cert.AdamRowsRefIdeal.main_arg37)
      ∧ r.2.mem ((c.tc : Thread Cert.AdamRowsRefIdeal.nD Cert.AdamRowsRefIdeal.τ).loc Cert.AdamRowsRefIdeal.main_arg38) = m ((c.tc : Thread Cert.AdamRowsRefIdeal.nD Cert.AdamRowsRefIdeal.τ).loc Cert.AdamRowsRefIdeal.main_arg38)
      ∧ r.2.mem ((c.tc : Thread Cert.AdamRowsRefIdeal.nD Cert.AdamRowsRefIdeal.τ).loc Cert.AdamRowsRefIdeal.main_arg39) = m ((c.tc : Thread Cert.AdamRowsRefIdeal.nD Cert.AdamRowsRefIdeal.τ).loc Cert.AdamRowsRefIdeal.main_arg39)
      ∧ r.2.mem ((c.tc : Thread Cert.AdamRowsRefIdeal.nD Cert.AdamRowsRefIdeal.τ).loc Cert.AdamRowsRefIdeal.main_arg40) = m ((c.tc : Thread Cert.AdamRowsRefIdeal.nD Cert.AdamRowsRefIdeal.τ).loc Cert.AdamRowsRefIdeal.main_arg40)
      ∧ r.2.mem ((c.tc : Thread Cert.AdamRowsRefIdeal.nD Cert.AdamRowsRefIdeal.τ).loc Cert.AdamRowsRefIdeal.main_arg41) = m ((c.tc : Thread Cert.AdamRowsRefIdeal.nD Cert.AdamRowsRefIdeal.τ).loc Cert.AdamRowsRefIdeal.main_arg41)
      ∧ r.2.mem ((c.tc : Thread Cert.AdamRowsRefIdeal.nD Cert.AdamRowsRefIdeal.τ).loc Cert.AdamRowsRefIdeal.main_arg42) = m ((c.tc : Thread Cert.AdamRowsRefIdeal.nD Cert.AdamRowsRefIdeal.τ).loc Cert.AdamRowsRefIdeal.main_arg42)
      ∧ r.2.mem ((c.tc : Thread Cert.AdamRowsRefIdeal.nD Cert.AdamRowsRefIdeal.τ).loc Cert.AdamRowsRefIdeal.main_arg43) = m ((c.tc : Thread Cert.AdamRowsRefIdeal.nD Cert.AdamRowsRefIdeal.τ).loc Cert.AdamRowsRefIdeal.main_arg43)
      ∧ r.2.mem ((c.tc : Thread Cert.AdamRowsRefIdeal.nD Cert.AdamRowsRefIdeal.τ).loc Cert.AdamRowsRefIdeal.main_arg44) = m ((c.tc : Thread Cert.AdamRowsRefIdeal.nD Cert.AdamRowsRefIdeal.τ).loc Cert.AdamRowsRefIdeal.main_arg44))
      ∧ r.2.sem = fun _ => 0)

def quiescent_AdamStates [hAdamStates : Cert.AdamStates.Facts] : Prop :=
  ∀ (m : (ℓ : Loc Cert.AdamStates.nD Cert.AdamStates.τ Cert.AdamStates.sig) → Buf (Elt Bits) ℓ) (g : Dev Cert.AdamStates.nD → PrngReg), Pre_AdamStates m →
    θ_run (Cert.AdamStates.defs (F := Bits)) (onTc (τ := Cert.AdamStates.τ) (Cert.AdamStates.main (F := Bits))) ⟨m, fun _ => 0, g⟩ (fun r => (∀ c : Dev Cert.AdamStates.nD,
      r.2.mem ((c.tc : Thread Cert.AdamStates.nD Cert.AdamStates.τ).loc Cert.AdamStates.main_arg0) = m ((c.tc : Thread Cert.AdamStates.nD Cert.AdamStates.τ).loc Cert.AdamStates.main_arg0)
      ∧ r.2.mem ((c.tc : Thread Cert.AdamStates.nD Cert.AdamStates.τ).loc Cert.AdamStates.main_arg1) = m ((c.tc : Thread Cert.AdamStates.nD Cert.AdamStates.τ).loc Cert.AdamStates.main_arg1)
      ∧ r.2.mem ((c.tc : Thread Cert.AdamStates.nD Cert.AdamStates.τ).loc Cert.AdamStates.main_arg2) = m ((c.tc : Thread Cert.AdamStates.nD Cert.AdamStates.τ).loc Cert.AdamStates.main_arg2)
      ∧ r.2.mem ((c.tc : Thread Cert.AdamStates.nD Cert.AdamStates.τ).loc Cert.AdamStates.main_arg3) = m ((c.tc : Thread Cert.AdamStates.nD Cert.AdamStates.τ).loc Cert.AdamStates.main_arg3)
      ∧ r.2.mem ((c.tc : Thread Cert.AdamStates.nD Cert.AdamStates.τ).loc Cert.AdamStates.main_arg4) = m ((c.tc : Thread Cert.AdamStates.nD Cert.AdamStates.τ).loc Cert.AdamStates.main_arg4)
      ∧ r.2.mem ((c.tc : Thread Cert.AdamStates.nD Cert.AdamStates.τ).loc Cert.AdamStates.main_arg5) = m ((c.tc : Thread Cert.AdamStates.nD Cert.AdamStates.τ).loc Cert.AdamStates.main_arg5)
      ∧ r.2.mem ((c.tc : Thread Cert.AdamStates.nD Cert.AdamStates.τ).loc Cert.AdamStates.main_arg6) = m ((c.tc : Thread Cert.AdamStates.nD Cert.AdamStates.τ).loc Cert.AdamStates.main_arg6)
      ∧ r.2.mem ((c.tc : Thread Cert.AdamStates.nD Cert.AdamStates.τ).loc Cert.AdamStates.main_arg7) = m ((c.tc : Thread Cert.AdamStates.nD Cert.AdamStates.τ).loc Cert.AdamStates.main_arg7)
      ∧ r.2.mem ((c.tc : Thread Cert.AdamStates.nD Cert.AdamStates.τ).loc Cert.AdamStates.main_arg8) = m ((c.tc : Thread Cert.AdamStates.nD Cert.AdamStates.τ).loc Cert.AdamStates.main_arg8)
      ∧ r.2.mem ((c.tc : Thread Cert.AdamStates.nD Cert.AdamStates.τ).loc Cert.AdamStates.main_arg9) = m ((c.tc : Thread Cert.AdamStates.nD Cert.AdamStates.τ).loc Cert.AdamStates.main_arg9)
      ∧ r.2.mem ((c.tc : Thread Cert.AdamStates.nD Cert.AdamStates.τ).loc Cert.AdamStates.main_arg10) = m ((c.tc : Thread Cert.AdamStates.nD Cert.AdamStates.τ).loc Cert.AdamStates.main_arg10)
      ∧ r.2.mem ((c.tc : Thread Cert.AdamStates.nD Cert.AdamStates.τ).loc Cert.AdamStates.main_arg11) = m ((c.tc : Thread Cert.AdamStates.nD Cert.AdamStates.τ).loc Cert.AdamStates.main_arg11)
      ∧ r.2.mem ((c.tc : Thread Cert.AdamStates.nD Cert.AdamStates.τ).loc Cert.AdamStates.main_arg12) = m ((c.tc : Thread Cert.AdamStates.nD Cert.AdamStates.τ).loc Cert.AdamStates.main_arg12)
      ∧ r.2.mem ((c.tc : Thread Cert.AdamStates.nD Cert.AdamStates.τ).loc Cert.AdamStates.main_arg13) = m ((c.tc : Thread Cert.AdamStates.nD Cert.AdamStates.τ).loc Cert.AdamStates.main_arg13)
      ∧ r.2.mem ((c.tc : Thread Cert.AdamStates.nD Cert.AdamStates.τ).loc Cert.AdamStates.main_arg14) = m ((c.tc : Thread Cert.AdamStates.nD Cert.AdamStates.τ).loc Cert.AdamStates.main_arg14)
      ∧ r.2.mem ((c.tc : Thread Cert.AdamStates.nD Cert.AdamStates.τ).loc Cert.AdamStates.main_arg15) = m ((c.tc : Thread Cert.AdamStates.nD Cert.AdamStates.τ).loc Cert.AdamStates.main_arg15)
      ∧ r.2.mem ((c.tc : Thread Cert.AdamStates.nD Cert.AdamStates.τ).loc Cert.AdamStates.main_arg16) = m ((c.tc : Thread Cert.AdamStates.nD Cert.AdamStates.τ).loc Cert.AdamStates.main_arg16)
      ∧ r.2.mem ((c.tc : Thread Cert.AdamStates.nD Cert.AdamStates.τ).loc Cert.AdamStates.main_arg17) = m ((c.tc : Thread Cert.AdamStates.nD Cert.AdamStates.τ).loc Cert.AdamStates.main_arg17)
      ∧ r.2.mem ((c.tc : Thread Cert.AdamStates.nD Cert.AdamStates.τ).loc Cert.AdamStates.main_arg18) = m ((c.tc : Thread Cert.AdamStates.nD Cert.AdamStates.τ).loc Cert.AdamStates.main_arg18)
      ∧ r.2.mem ((c.tc : Thread Cert.AdamStates.nD Cert.AdamStates.τ).loc Cert.AdamStates.main_arg19) = m ((c.tc : Thread Cert.AdamStates.nD Cert.AdamStates.τ).loc Cert.AdamStates.main_arg19)
      ∧ r.2.mem ((c.tc : Thread Cert.AdamStates.nD Cert.AdamStates.τ).loc Cert.AdamStates.main_arg20) = m ((c.tc : Thread Cert.AdamStates.nD Cert.AdamStates.τ).loc Cert.AdamStates.main_arg20)
      ∧ r.2.mem ((c.tc : Thread Cert.AdamStates.nD Cert.AdamStates.τ).loc Cert.AdamStates.main_arg21) = m ((c.tc : Thread Cert.AdamStates.nD Cert.AdamStates.τ).loc Cert.AdamStates.main_arg21)
      ∧ r.2.mem ((c.tc : Thread Cert.AdamStates.nD Cert.AdamStates.τ).loc Cert.AdamStates.main_arg22) = m ((c.tc : Thread Cert.AdamStates.nD Cert.AdamStates.τ).loc Cert.AdamStates.main_arg22)
      ∧ r.2.mem ((c.tc : Thread Cert.AdamStates.nD Cert.AdamStates.τ).loc Cert.AdamStates.main_arg23) = m ((c.tc : Thread Cert.AdamStates.nD Cert.AdamStates.τ).loc Cert.AdamStates.main_arg23)
      ∧ r.2.mem ((c.tc : Thread Cert.AdamStates.nD Cert.AdamStates.τ).loc Cert.AdamStates.main_arg24) = m ((c.tc : Thread Cert.AdamStates.nD Cert.AdamStates.τ).loc Cert.AdamStates.main_arg24)
      ∧ r.2.mem ((c.tc : Thread Cert.AdamStates.nD Cert.AdamStates.τ).loc Cert.AdamStates.main_arg25) = m ((c.tc : Thread Cert.AdamStates.nD Cert.AdamStates.τ).loc Cert.AdamStates.main_arg25)
      ∧ r.2.mem ((c.tc : Thread Cert.AdamStates.nD Cert.AdamStates.τ).loc Cert.AdamStates.main_arg26) = m ((c.tc : Thread Cert.AdamStates.nD Cert.AdamStates.τ).loc Cert.AdamStates.main_arg26)
      ∧ r.2.mem ((c.tc : Thread Cert.AdamStates.nD Cert.AdamStates.τ).loc Cert.AdamStates.main_arg27) = m ((c.tc : Thread Cert.AdamStates.nD Cert.AdamStates.τ).loc Cert.AdamStates.main_arg27)
      ∧ r.2.mem ((c.tc : Thread Cert.AdamStates.nD Cert.AdamStates.τ).loc Cert.AdamStates.main_arg28) = m ((c.tc : Thread Cert.AdamStates.nD Cert.AdamStates.τ).loc Cert.AdamStates.main_arg28)
      ∧ r.2.mem ((c.tc : Thread Cert.AdamStates.nD Cert.AdamStates.τ).loc Cert.AdamStates.main_arg29) = m ((c.tc : Thread Cert.AdamStates.nD Cert.AdamStates.τ).loc Cert.AdamStates.main_arg29)
      ∧ r.2.mem ((c.tc : Thread Cert.AdamStates.nD Cert.AdamStates.τ).loc Cert.AdamStates.main_arg30) = m ((c.tc : Thread Cert.AdamStates.nD Cert.AdamStates.τ).loc Cert.AdamStates.main_arg30)
      ∧ r.2.mem ((c.tc : Thread Cert.AdamStates.nD Cert.AdamStates.τ).loc Cert.AdamStates.main_arg31) = m ((c.tc : Thread Cert.AdamStates.nD Cert.AdamStates.τ).loc Cert.AdamStates.main_arg31)
      ∧ r.2.mem ((c.tc : Thread Cert.AdamStates.nD Cert.AdamStates.τ).loc Cert.AdamStates.main_arg32) = m ((c.tc : Thread Cert.AdamStates.nD Cert.AdamStates.τ).loc Cert.AdamStates.main_arg32)
      ∧ r.2.mem ((c.tc : Thread Cert.AdamStates.nD Cert.AdamStates.τ).loc Cert.AdamStates.main_arg33) = m ((c.tc : Thread Cert.AdamStates.nD Cert.AdamStates.τ).loc Cert.AdamStates.main_arg33)
      ∧ r.2.mem ((c.tc : Thread Cert.AdamStates.nD Cert.AdamStates.τ).loc Cert.AdamStates.main_arg34) = m ((c.tc : Thread Cert.AdamStates.nD Cert.AdamStates.τ).loc Cert.AdamStates.main_arg34)
      ∧ r.2.mem ((c.tc : Thread Cert.AdamStates.nD Cert.AdamStates.τ).loc Cert.AdamStates.main_arg35) = m ((c.tc : Thread Cert.AdamStates.nD Cert.AdamStates.τ).loc Cert.AdamStates.main_arg35)
      ∧ r.2.mem ((c.tc : Thread Cert.AdamStates.nD Cert.AdamStates.τ).loc Cert.AdamStates.main_arg36) = m ((c.tc : Thread Cert.AdamStates.nD Cert.AdamStates.τ).loc Cert.AdamStates.main_arg36)
      ∧ r.2.mem ((c.tc : Thread Cert.AdamStates.nD Cert.AdamStates.τ).loc Cert.AdamStates.main_arg37) = m ((c.tc : Thread Cert.AdamStates.nD Cert.AdamStates.τ).loc Cert.AdamStates.main_arg37)
      ∧ r.2.mem ((c.tc : Thread Cert.AdamStates.nD Cert.AdamStates.τ).loc Cert.AdamStates.main_arg38) = m ((c.tc : Thread Cert.AdamStates.nD Cert.AdamStates.τ).loc Cert.AdamStates.main_arg38)
      ∧ r.2.mem ((c.tc : Thread Cert.AdamStates.nD Cert.AdamStates.τ).loc Cert.AdamStates.main_arg39) = m ((c.tc : Thread Cert.AdamStates.nD Cert.AdamStates.τ).loc Cert.AdamStates.main_arg39)
      ∧ r.2.mem ((c.tc : Thread Cert.AdamStates.nD Cert.AdamStates.τ).loc Cert.AdamStates.main_arg40) = m ((c.tc : Thread Cert.AdamStates.nD Cert.AdamStates.τ).loc Cert.AdamStates.main_arg40)
      ∧ r.2.mem ((c.tc : Thread Cert.AdamStates.nD Cert.AdamStates.τ).loc Cert.AdamStates.main_arg41) = m ((c.tc : Thread Cert.AdamStates.nD Cert.AdamStates.τ).loc Cert.AdamStates.main_arg41)
      ∧ r.2.mem ((c.tc : Thread Cert.AdamStates.nD Cert.AdamStates.τ).loc Cert.AdamStates.main_arg42) = m ((c.tc : Thread Cert.AdamStates.nD Cert.AdamStates.τ).loc Cert.AdamStates.main_arg42)
      ∧ r.2.mem ((c.tc : Thread Cert.AdamStates.nD Cert.AdamStates.τ).loc Cert.AdamStates.main_arg43) = m ((c.tc : Thread Cert.AdamStates.nD Cert.AdamStates.τ).loc Cert.AdamStates.main_arg43)
      ∧ r.2.mem ((c.tc : Thread Cert.AdamStates.nD Cert.AdamStates.τ).loc Cert.AdamStates.main_arg44) = m ((c.tc : Thread Cert.AdamStates.nD Cert.AdamStates.τ).loc Cert.AdamStates.main_arg44))
      ∧ r.2.sem = fun _ => 0)

def quiescent_AdamStatesIdeal [hAdamStatesIdeal : Cert.AdamStatesIdeal.Facts] : Prop :=
  ∀ (m : (ℓ : Loc Cert.AdamStatesIdeal.nD Cert.AdamStatesIdeal.τ Cert.AdamStatesIdeal.sig) → Buf (Elt Ideal) ℓ) (g : Dev Cert.AdamStatesIdeal.nD → PrngReg), Pre_AdamStatesIdeal m →
    θ_run (Cert.AdamStatesIdeal.defs (F := Ideal)) (onTc (τ := Cert.AdamStatesIdeal.τ) (Cert.AdamStatesIdeal.main (F := Ideal))) ⟨m, fun _ => 0, g⟩ (fun r => (∀ c : Dev Cert.AdamStatesIdeal.nD,
      r.2.mem ((c.tc : Thread Cert.AdamStatesIdeal.nD Cert.AdamStatesIdeal.τ).loc Cert.AdamStatesIdeal.main_arg0) = m ((c.tc : Thread Cert.AdamStatesIdeal.nD Cert.AdamStatesIdeal.τ).loc Cert.AdamStatesIdeal.main_arg0)
      ∧ r.2.mem ((c.tc : Thread Cert.AdamStatesIdeal.nD Cert.AdamStatesIdeal.τ).loc Cert.AdamStatesIdeal.main_arg1) = m ((c.tc : Thread Cert.AdamStatesIdeal.nD Cert.AdamStatesIdeal.τ).loc Cert.AdamStatesIdeal.main_arg1)
      ∧ r.2.mem ((c.tc : Thread Cert.AdamStatesIdeal.nD Cert.AdamStatesIdeal.τ).loc Cert.AdamStatesIdeal.main_arg2) = m ((c.tc : Thread Cert.AdamStatesIdeal.nD Cert.AdamStatesIdeal.τ).loc Cert.AdamStatesIdeal.main_arg2)
      ∧ r.2.mem ((c.tc : Thread Cert.AdamStatesIdeal.nD Cert.AdamStatesIdeal.τ).loc Cert.AdamStatesIdeal.main_arg3) = m ((c.tc : Thread Cert.AdamStatesIdeal.nD Cert.AdamStatesIdeal.τ).loc Cert.AdamStatesIdeal.main_arg3)
      ∧ r.2.mem ((c.tc : Thread Cert.AdamStatesIdeal.nD Cert.AdamStatesIdeal.τ).loc Cert.AdamStatesIdeal.main_arg4) = m ((c.tc : Thread Cert.AdamStatesIdeal.nD Cert.AdamStatesIdeal.τ).loc Cert.AdamStatesIdeal.main_arg4)
      ∧ r.2.mem ((c.tc : Thread Cert.AdamStatesIdeal.nD Cert.AdamStatesIdeal.τ).loc Cert.AdamStatesIdeal.main_arg5) = m ((c.tc : Thread Cert.AdamStatesIdeal.nD Cert.AdamStatesIdeal.τ).loc Cert.AdamStatesIdeal.main_arg5)
      ∧ r.2.mem ((c.tc : Thread Cert.AdamStatesIdeal.nD Cert.AdamStatesIdeal.τ).loc Cert.AdamStatesIdeal.main_arg6) = m ((c.tc : Thread Cert.AdamStatesIdeal.nD Cert.AdamStatesIdeal.τ).loc Cert.AdamStatesIdeal.main_arg6)
      ∧ r.2.mem ((c.tc : Thread Cert.AdamStatesIdeal.nD Cert.AdamStatesIdeal.τ).loc Cert.AdamStatesIdeal.main_arg7) = m ((c.tc : Thread Cert.AdamStatesIdeal.nD Cert.AdamStatesIdeal.τ).loc Cert.AdamStatesIdeal.main_arg7)
      ∧ r.2.mem ((c.tc : Thread Cert.AdamStatesIdeal.nD Cert.AdamStatesIdeal.τ).loc Cert.AdamStatesIdeal.main_arg8) = m ((c.tc : Thread Cert.AdamStatesIdeal.nD Cert.AdamStatesIdeal.τ).loc Cert.AdamStatesIdeal.main_arg8)
      ∧ r.2.mem ((c.tc : Thread Cert.AdamStatesIdeal.nD Cert.AdamStatesIdeal.τ).loc Cert.AdamStatesIdeal.main_arg9) = m ((c.tc : Thread Cert.AdamStatesIdeal.nD Cert.AdamStatesIdeal.τ).loc Cert.AdamStatesIdeal.main_arg9)
      ∧ r.2.mem ((c.tc : Thread Cert.AdamStatesIdeal.nD Cert.AdamStatesIdeal.τ).loc Cert.AdamStatesIdeal.main_arg10) = m ((c.tc : Thread Cert.AdamStatesIdeal.nD Cert.AdamStatesIdeal.τ).loc Cert.AdamStatesIdeal.main_arg10)
      ∧ r.2.mem ((c.tc : Thread Cert.AdamStatesIdeal.nD Cert.AdamStatesIdeal.τ).loc Cert.AdamStatesIdeal.main_arg11) = m ((c.tc : Thread Cert.AdamStatesIdeal.nD Cert.AdamStatesIdeal.τ).loc Cert.AdamStatesIdeal.main_arg11)
      ∧ r.2.mem ((c.tc : Thread Cert.AdamStatesIdeal.nD Cert.AdamStatesIdeal.τ).loc Cert.AdamStatesIdeal.main_arg12) = m ((c.tc : Thread Cert.AdamStatesIdeal.nD Cert.AdamStatesIdeal.τ).loc Cert.AdamStatesIdeal.main_arg12)
      ∧ r.2.mem ((c.tc : Thread Cert.AdamStatesIdeal.nD Cert.AdamStatesIdeal.τ).loc Cert.AdamStatesIdeal.main_arg13) = m ((c.tc : Thread Cert.AdamStatesIdeal.nD Cert.AdamStatesIdeal.τ).loc Cert.AdamStatesIdeal.main_arg13)
      ∧ r.2.mem ((c.tc : Thread Cert.AdamStatesIdeal.nD Cert.AdamStatesIdeal.τ).loc Cert.AdamStatesIdeal.main_arg14) = m ((c.tc : Thread Cert.AdamStatesIdeal.nD Cert.AdamStatesIdeal.τ).loc Cert.AdamStatesIdeal.main_arg14)
      ∧ r.2.mem ((c.tc : Thread Cert.AdamStatesIdeal.nD Cert.AdamStatesIdeal.τ).loc Cert.AdamStatesIdeal.main_arg15) = m ((c.tc : Thread Cert.AdamStatesIdeal.nD Cert.AdamStatesIdeal.τ).loc Cert.AdamStatesIdeal.main_arg15)
      ∧ r.2.mem ((c.tc : Thread Cert.AdamStatesIdeal.nD Cert.AdamStatesIdeal.τ).loc Cert.AdamStatesIdeal.main_arg16) = m ((c.tc : Thread Cert.AdamStatesIdeal.nD Cert.AdamStatesIdeal.τ).loc Cert.AdamStatesIdeal.main_arg16)
      ∧ r.2.mem ((c.tc : Thread Cert.AdamStatesIdeal.nD Cert.AdamStatesIdeal.τ).loc Cert.AdamStatesIdeal.main_arg17) = m ((c.tc : Thread Cert.AdamStatesIdeal.nD Cert.AdamStatesIdeal.τ).loc Cert.AdamStatesIdeal.main_arg17)
      ∧ r.2.mem ((c.tc : Thread Cert.AdamStatesIdeal.nD Cert.AdamStatesIdeal.τ).loc Cert.AdamStatesIdeal.main_arg18) = m ((c.tc : Thread Cert.AdamStatesIdeal.nD Cert.AdamStatesIdeal.τ).loc Cert.AdamStatesIdeal.main_arg18)
      ∧ r.2.mem ((c.tc : Thread Cert.AdamStatesIdeal.nD Cert.AdamStatesIdeal.τ).loc Cert.AdamStatesIdeal.main_arg19) = m ((c.tc : Thread Cert.AdamStatesIdeal.nD Cert.AdamStatesIdeal.τ).loc Cert.AdamStatesIdeal.main_arg19)
      ∧ r.2.mem ((c.tc : Thread Cert.AdamStatesIdeal.nD Cert.AdamStatesIdeal.τ).loc Cert.AdamStatesIdeal.main_arg20) = m ((c.tc : Thread Cert.AdamStatesIdeal.nD Cert.AdamStatesIdeal.τ).loc Cert.AdamStatesIdeal.main_arg20)
      ∧ r.2.mem ((c.tc : Thread Cert.AdamStatesIdeal.nD Cert.AdamStatesIdeal.τ).loc Cert.AdamStatesIdeal.main_arg21) = m ((c.tc : Thread Cert.AdamStatesIdeal.nD Cert.AdamStatesIdeal.τ).loc Cert.AdamStatesIdeal.main_arg21)
      ∧ r.2.mem ((c.tc : Thread Cert.AdamStatesIdeal.nD Cert.AdamStatesIdeal.τ).loc Cert.AdamStatesIdeal.main_arg22) = m ((c.tc : Thread Cert.AdamStatesIdeal.nD Cert.AdamStatesIdeal.τ).loc Cert.AdamStatesIdeal.main_arg22)
      ∧ r.2.mem ((c.tc : Thread Cert.AdamStatesIdeal.nD Cert.AdamStatesIdeal.τ).loc Cert.AdamStatesIdeal.main_arg23) = m ((c.tc : Thread Cert.AdamStatesIdeal.nD Cert.AdamStatesIdeal.τ).loc Cert.AdamStatesIdeal.main_arg23)
      ∧ r.2.mem ((c.tc : Thread Cert.AdamStatesIdeal.nD Cert.AdamStatesIdeal.τ).loc Cert.AdamStatesIdeal.main_arg24) = m ((c.tc : Thread Cert.AdamStatesIdeal.nD Cert.AdamStatesIdeal.τ).loc Cert.AdamStatesIdeal.main_arg24)
      ∧ r.2.mem ((c.tc : Thread Cert.AdamStatesIdeal.nD Cert.AdamStatesIdeal.τ).loc Cert.AdamStatesIdeal.main_arg25) = m ((c.tc : Thread Cert.AdamStatesIdeal.nD Cert.AdamStatesIdeal.τ).loc Cert.AdamStatesIdeal.main_arg25)
      ∧ r.2.mem ((c.tc : Thread Cert.AdamStatesIdeal.nD Cert.AdamStatesIdeal.τ).loc Cert.AdamStatesIdeal.main_arg26) = m ((c.tc : Thread Cert.AdamStatesIdeal.nD Cert.AdamStatesIdeal.τ).loc Cert.AdamStatesIdeal.main_arg26)
      ∧ r.2.mem ((c.tc : Thread Cert.AdamStatesIdeal.nD Cert.AdamStatesIdeal.τ).loc Cert.AdamStatesIdeal.main_arg27) = m ((c.tc : Thread Cert.AdamStatesIdeal.nD Cert.AdamStatesIdeal.τ).loc Cert.AdamStatesIdeal.main_arg27)
      ∧ r.2.mem ((c.tc : Thread Cert.AdamStatesIdeal.nD Cert.AdamStatesIdeal.τ).loc Cert.AdamStatesIdeal.main_arg28) = m ((c.tc : Thread Cert.AdamStatesIdeal.nD Cert.AdamStatesIdeal.τ).loc Cert.AdamStatesIdeal.main_arg28)
      ∧ r.2.mem ((c.tc : Thread Cert.AdamStatesIdeal.nD Cert.AdamStatesIdeal.τ).loc Cert.AdamStatesIdeal.main_arg29) = m ((c.tc : Thread Cert.AdamStatesIdeal.nD Cert.AdamStatesIdeal.τ).loc Cert.AdamStatesIdeal.main_arg29)
      ∧ r.2.mem ((c.tc : Thread Cert.AdamStatesIdeal.nD Cert.AdamStatesIdeal.τ).loc Cert.AdamStatesIdeal.main_arg30) = m ((c.tc : Thread Cert.AdamStatesIdeal.nD Cert.AdamStatesIdeal.τ).loc Cert.AdamStatesIdeal.main_arg30)
      ∧ r.2.mem ((c.tc : Thread Cert.AdamStatesIdeal.nD Cert.AdamStatesIdeal.τ).loc Cert.AdamStatesIdeal.main_arg31) = m ((c.tc : Thread Cert.AdamStatesIdeal.nD Cert.AdamStatesIdeal.τ).loc Cert.AdamStatesIdeal.main_arg31)
      ∧ r.2.mem ((c.tc : Thread Cert.AdamStatesIdeal.nD Cert.AdamStatesIdeal.τ).loc Cert.AdamStatesIdeal.main_arg32) = m ((c.tc : Thread Cert.AdamStatesIdeal.nD Cert.AdamStatesIdeal.τ).loc Cert.AdamStatesIdeal.main_arg32)
      ∧ r.2.mem ((c.tc : Thread Cert.AdamStatesIdeal.nD Cert.AdamStatesIdeal.τ).loc Cert.AdamStatesIdeal.main_arg33) = m ((c.tc : Thread Cert.AdamStatesIdeal.nD Cert.AdamStatesIdeal.τ).loc Cert.AdamStatesIdeal.main_arg33)
      ∧ r.2.mem ((c.tc : Thread Cert.AdamStatesIdeal.nD Cert.AdamStatesIdeal.τ).loc Cert.AdamStatesIdeal.main_arg34) = m ((c.tc : Thread Cert.AdamStatesIdeal.nD Cert.AdamStatesIdeal.τ).loc Cert.AdamStatesIdeal.main_arg34)
      ∧ r.2.mem ((c.tc : Thread Cert.AdamStatesIdeal.nD Cert.AdamStatesIdeal.τ).loc Cert.AdamStatesIdeal.main_arg35) = m ((c.tc : Thread Cert.AdamStatesIdeal.nD Cert.AdamStatesIdeal.τ).loc Cert.AdamStatesIdeal.main_arg35)
      ∧ r.2.mem ((c.tc : Thread Cert.AdamStatesIdeal.nD Cert.AdamStatesIdeal.τ).loc Cert.AdamStatesIdeal.main_arg36) = m ((c.tc : Thread Cert.AdamStatesIdeal.nD Cert.AdamStatesIdeal.τ).loc Cert.AdamStatesIdeal.main_arg36)
      ∧ r.2.mem ((c.tc : Thread Cert.AdamStatesIdeal.nD Cert.AdamStatesIdeal.τ).loc Cert.AdamStatesIdeal.main_arg37) = m ((c.tc : Thread Cert.AdamStatesIdeal.nD Cert.AdamStatesIdeal.τ).loc Cert.AdamStatesIdeal.main_arg37)
      ∧ r.2.mem ((c.tc : Thread Cert.AdamStatesIdeal.nD Cert.AdamStatesIdeal.τ).loc Cert.AdamStatesIdeal.main_arg38) = m ((c.tc : Thread Cert.AdamStatesIdeal.nD Cert.AdamStatesIdeal.τ).loc Cert.AdamStatesIdeal.main_arg38)
      ∧ r.2.mem ((c.tc : Thread Cert.AdamStatesIdeal.nD Cert.AdamStatesIdeal.τ).loc Cert.AdamStatesIdeal.main_arg39) = m ((c.tc : Thread Cert.AdamStatesIdeal.nD Cert.AdamStatesIdeal.τ).loc Cert.AdamStatesIdeal.main_arg39)
      ∧ r.2.mem ((c.tc : Thread Cert.AdamStatesIdeal.nD Cert.AdamStatesIdeal.τ).loc Cert.AdamStatesIdeal.main_arg40) = m ((c.tc : Thread Cert.AdamStatesIdeal.nD Cert.AdamStatesIdeal.τ).loc Cert.AdamStatesIdeal.main_arg40)
      ∧ r.2.mem ((c.tc : Thread Cert.AdamStatesIdeal.nD Cert.AdamStatesIdeal.τ).loc Cert.AdamStatesIdeal.main_arg41) = m ((c.tc : Thread Cert.AdamStatesIdeal.nD Cert.AdamStatesIdeal.τ).loc Cert.AdamStatesIdeal.main_arg41)
      ∧ r.2.mem ((c.tc : Thread Cert.AdamStatesIdeal.nD Cert.AdamStatesIdeal.τ).loc Cert.AdamStatesIdeal.main_arg42) = m ((c.tc : Thread Cert.AdamStatesIdeal.nD Cert.AdamStatesIdeal.τ).loc Cert.AdamStatesIdeal.main_arg42)
      ∧ r.2.mem ((c.tc : Thread Cert.AdamStatesIdeal.nD Cert.AdamStatesIdeal.τ).loc Cert.AdamStatesIdeal.main_arg43) = m ((c.tc : Thread Cert.AdamStatesIdeal.nD Cert.AdamStatesIdeal.τ).loc Cert.AdamStatesIdeal.main_arg43)
      ∧ r.2.mem ((c.tc : Thread Cert.AdamStatesIdeal.nD Cert.AdamStatesIdeal.τ).loc Cert.AdamStatesIdeal.main_arg44) = m ((c.tc : Thread Cert.AdamStatesIdeal.nD Cert.AdamStatesIdeal.τ).loc Cert.AdamStatesIdeal.main_arg44))
      ∧ r.2.sem = fun _ => 0)

def quiescent_AdamStatesRefIdeal [hAdamStatesRefIdeal : Cert.AdamStatesRefIdeal.Facts] : Prop :=
  ∀ (m : (ℓ : Loc Cert.AdamStatesRefIdeal.nD Cert.AdamStatesRefIdeal.τ Cert.AdamStatesRefIdeal.sig) → Buf (Elt Ideal) ℓ) (g : Dev Cert.AdamStatesRefIdeal.nD → PrngReg), Pre_AdamStatesRefIdeal m →
    θ_run (Cert.AdamStatesRefIdeal.defs (F := Ideal)) (onTc (τ := Cert.AdamStatesRefIdeal.τ) (Cert.AdamStatesRefIdeal.main (F := Ideal))) ⟨m, fun _ => 0, g⟩ (fun r => (∀ c : Dev Cert.AdamStatesRefIdeal.nD,
      r.2.mem ((c.tc : Thread Cert.AdamStatesRefIdeal.nD Cert.AdamStatesRefIdeal.τ).loc Cert.AdamStatesRefIdeal.main_arg0) = m ((c.tc : Thread Cert.AdamStatesRefIdeal.nD Cert.AdamStatesRefIdeal.τ).loc Cert.AdamStatesRefIdeal.main_arg0)
      ∧ r.2.mem ((c.tc : Thread Cert.AdamStatesRefIdeal.nD Cert.AdamStatesRefIdeal.τ).loc Cert.AdamStatesRefIdeal.main_arg1) = m ((c.tc : Thread Cert.AdamStatesRefIdeal.nD Cert.AdamStatesRefIdeal.τ).loc Cert.AdamStatesRefIdeal.main_arg1)
      ∧ r.2.mem ((c.tc : Thread Cert.AdamStatesRefIdeal.nD Cert.AdamStatesRefIdeal.τ).loc Cert.AdamStatesRefIdeal.main_arg2) = m ((c.tc : Thread Cert.AdamStatesRefIdeal.nD Cert.AdamStatesRefIdeal.τ).loc Cert.AdamStatesRefIdeal.main_arg2)
      ∧ r.2.mem ((c.tc : Thread Cert.AdamStatesRefIdeal.nD Cert.AdamStatesRefIdeal.τ).loc Cert.AdamStatesRefIdeal.main_arg3) = m ((c.tc : Thread Cert.AdamStatesRefIdeal.nD Cert.AdamStatesRefIdeal.τ).loc Cert.AdamStatesRefIdeal.main_arg3)
      ∧ r.2.mem ((c.tc : Thread Cert.AdamStatesRefIdeal.nD Cert.AdamStatesRefIdeal.τ).loc Cert.AdamStatesRefIdeal.main_arg4) = m ((c.tc : Thread Cert.AdamStatesRefIdeal.nD Cert.AdamStatesRefIdeal.τ).loc Cert.AdamStatesRefIdeal.main_arg4)
      ∧ r.2.mem ((c.tc : Thread Cert.AdamStatesRefIdeal.nD Cert.AdamStatesRefIdeal.τ).loc Cert.AdamStatesRefIdeal.main_arg5) = m ((c.tc : Thread Cert.AdamStatesRefIdeal.nD Cert.AdamStatesRefIdeal.τ).loc Cert.AdamStatesRefIdeal.main_arg5)
      ∧ r.2.mem ((c.tc : Thread Cert.AdamStatesRefIdeal.nD Cert.AdamStatesRefIdeal.τ).loc Cert.AdamStatesRefIdeal.main_arg6) = m ((c.tc : Thread Cert.AdamStatesRefIdeal.nD Cert.AdamStatesRefIdeal.τ).loc Cert.AdamStatesRefIdeal.main_arg6)
      ∧ r.2.mem ((c.tc : Thread Cert.AdamStatesRefIdeal.nD Cert.AdamStatesRefIdeal.τ).loc Cert.AdamStatesRefIdeal.main_arg7) = m ((c.tc : Thread Cert.AdamStatesRefIdeal.nD Cert.AdamStatesRefIdeal.τ).loc Cert.AdamStatesRefIdeal.main_arg7)
      ∧ r.2.mem ((c.tc : Thread Cert.AdamStatesRefIdeal.nD Cert.AdamStatesRefIdeal.τ).loc Cert.AdamStatesRefIdeal.main_arg8) = m ((c.tc : Thread Cert.AdamStatesRefIdeal.nD Cert.AdamStatesRefIdeal.τ).loc Cert.AdamStatesRefIdeal.main_arg8)
      ∧ r.2.mem ((c.tc : Thread Cert.AdamStatesRefIdeal.nD Cert.AdamStatesRefIdeal.τ).loc Cert.AdamStatesRefIdeal.main_arg9) = m ((c.tc : Thread Cert.AdamStatesRefIdeal.nD Cert.AdamStatesRefIdeal.τ).loc Cert.AdamStatesRefIdeal.main_arg9)
      ∧ r.2.mem ((c.tc : Thread Cert.AdamStatesRefIdeal.nD Cert.AdamStatesRefIdeal.τ).loc Cert.AdamStatesRefIdeal.main_arg10) = m ((c.tc : Thread Cert.AdamStatesRefIdeal.nD Cert.AdamStatesRefIdeal.τ).loc Cert.AdamStatesRefIdeal.main_arg10)
      ∧ r.2.mem ((c.tc : Thread Cert.AdamStatesRefIdeal.nD Cert.AdamStatesRefIdeal.τ).loc Cert.AdamStatesRefIdeal.main_arg11) = m ((c.tc : Thread Cert.AdamStatesRefIdeal.nD Cert.AdamStatesRefIdeal.τ).loc Cert.AdamStatesRefIdeal.main_arg11)
      ∧ r.2.mem ((c.tc : Thread Cert.AdamStatesRefIdeal.nD Cert.AdamStatesRefIdeal.τ).loc Cert.AdamStatesRefIdeal.main_arg12) = m ((c.tc : Thread Cert.AdamStatesRefIdeal.nD Cert.AdamStatesRefIdeal.τ).loc Cert.AdamStatesRefIdeal.main_arg12)
      ∧ r.2.mem ((c.tc : Thread Cert.AdamStatesRefIdeal.nD Cert.AdamStatesRefIdeal.τ).loc Cert.AdamStatesRefIdeal.main_arg13) = m ((c.tc : Thread Cert.AdamStatesRefIdeal.nD Cert.AdamStatesRefIdeal.τ).loc Cert.AdamStatesRefIdeal.main_arg13)
      ∧ r.2.mem ((c.tc : Thread Cert.AdamStatesRefIdeal.nD Cert.AdamStatesRefIdeal.τ).loc Cert.AdamStatesRefIdeal.main_arg14) = m ((c.tc : Thread Cert.AdamStatesRefIdeal.nD Cert.AdamStatesRefIdeal.τ).loc Cert.AdamStatesRefIdeal.main_arg14)
      ∧ r.2.mem ((c.tc : Thread Cert.AdamStatesRefIdeal.nD Cert.AdamStatesRefIdeal.τ).loc Cert.AdamStatesRefIdeal.main_arg15) = m ((c.tc : Thread Cert.AdamStatesRefIdeal.nD Cert.AdamStatesRefIdeal.τ).loc Cert.AdamStatesRefIdeal.main_arg15)
      ∧ r.2.mem ((c.tc : Thread Cert.AdamStatesRefIdeal.nD Cert.AdamStatesRefIdeal.τ).loc Cert.AdamStatesRefIdeal.main_arg16) = m ((c.tc : Thread Cert.AdamStatesRefIdeal.nD Cert.AdamStatesRefIdeal.τ).loc Cert.AdamStatesRefIdeal.main_arg16)
      ∧ r.2.mem ((c.tc : Thread Cert.AdamStatesRefIdeal.nD Cert.AdamStatesRefIdeal.τ).loc Cert.AdamStatesRefIdeal.main_arg17) = m ((c.tc : Thread Cert.AdamStatesRefIdeal.nD Cert.AdamStatesRefIdeal.τ).loc Cert.AdamStatesRefIdeal.main_arg17)
      ∧ r.2.mem ((c.tc : Thread Cert.AdamStatesRefIdeal.nD Cert.AdamStatesRefIdeal.τ).loc Cert.AdamStatesRefIdeal.main_arg18) = m ((c.tc : Thread Cert.AdamStatesRefIdeal.nD Cert.AdamStatesRefIdeal.τ).loc Cert.AdamStatesRefIdeal.main_arg18)
      ∧ r.2.mem ((c.tc : Thread Cert.AdamStatesRefIdeal.nD Cert.AdamStatesRefIdeal.τ).loc Cert.AdamStatesRefIdeal.main_arg19) = m ((c.tc : Thread Cert.AdamStatesRefIdeal.nD Cert.AdamStatesRefIdeal.τ).loc Cert.AdamStatesRefIdeal.main_arg19)
      ∧ r.2.mem ((c.tc : Thread Cert.AdamStatesRefIdeal.nD Cert.AdamStatesRefIdeal.τ).loc Cert.AdamStatesRefIdeal.main_arg20) = m ((c.tc : Thread Cert.AdamStatesRefIdeal.nD Cert.AdamStatesRefIdeal.τ).loc Cert.AdamStatesRefIdeal.main_arg20)
      ∧ r.2.mem ((c.tc : Thread Cert.AdamStatesRefIdeal.nD Cert.AdamStatesRefIdeal.τ).loc Cert.AdamStatesRefIdeal.main_arg21) = m ((c.tc : Thread Cert.AdamStatesRefIdeal.nD Cert.AdamStatesRefIdeal.τ).loc Cert.AdamStatesRefIdeal.main_arg21)
      ∧ r.2.mem ((c.tc : Thread Cert.AdamStatesRefIdeal.nD Cert.AdamStatesRefIdeal.τ).loc Cert.AdamStatesRefIdeal.main_arg22) = m ((c.tc : Thread Cert.AdamStatesRefIdeal.nD Cert.AdamStatesRefIdeal.τ).loc Cert.AdamStatesRefIdeal.main_arg22)
      ∧ r.2.mem ((c.tc : Thread Cert.AdamStatesRefIdeal.nD Cert.AdamStatesRefIdeal.τ).loc Cert.AdamStatesRefIdeal.main_arg23) = m ((c.tc : Thread Cert.AdamStatesRefIdeal.nD Cert.AdamStatesRefIdeal.τ).loc Cert.AdamStatesRefIdeal.main_arg23)
      ∧ r.2.mem ((c.tc : Thread Cert.AdamStatesRefIdeal.nD Cert.AdamStatesRefIdeal.τ).loc Cert.AdamStatesRefIdeal.main_arg24) = m ((c.tc : Thread Cert.AdamStatesRefIdeal.nD Cert.AdamStatesRefIdeal.τ).loc Cert.AdamStatesRefIdeal.main_arg24)
      ∧ r.2.mem ((c.tc : Thread Cert.AdamStatesRefIdeal.nD Cert.AdamStatesRefIdeal.τ).loc Cert.AdamStatesRefIdeal.main_arg25) = m ((c.tc : Thread Cert.AdamStatesRefIdeal.nD Cert.AdamStatesRefIdeal.τ).loc Cert.AdamStatesRefIdeal.main_arg25)
      ∧ r.2.mem ((c.tc : Thread Cert.AdamStatesRefIdeal.nD Cert.AdamStatesRefIdeal.τ).loc Cert.AdamStatesRefIdeal.main_arg26) = m ((c.tc : Thread Cert.AdamStatesRefIdeal.nD Cert.AdamStatesRefIdeal.τ).loc Cert.AdamStatesRefIdeal.main_arg26)
      ∧ r.2.mem ((c.tc : Thread Cert.AdamStatesRefIdeal.nD Cert.AdamStatesRefIdeal.τ).loc Cert.AdamStatesRefIdeal.main_arg27) = m ((c.tc : Thread Cert.AdamStatesRefIdeal.nD Cert.AdamStatesRefIdeal.τ).loc Cert.AdamStatesRefIdeal.main_arg27)
      ∧ r.2.mem ((c.tc : Thread Cert.AdamStatesRefIdeal.nD Cert.AdamStatesRefIdeal.τ).loc Cert.AdamStatesRefIdeal.main_arg28) = m ((c.tc : Thread Cert.AdamStatesRefIdeal.nD Cert.AdamStatesRefIdeal.τ).loc Cert.AdamStatesRefIdeal.main_arg28)
      ∧ r.2.mem ((c.tc : Thread Cert.AdamStatesRefIdeal.nD Cert.AdamStatesRefIdeal.τ).loc Cert.AdamStatesRefIdeal.main_arg29) = m ((c.tc : Thread Cert.AdamStatesRefIdeal.nD Cert.AdamStatesRefIdeal.τ).loc Cert.AdamStatesRefIdeal.main_arg29)
      ∧ r.2.mem ((c.tc : Thread Cert.AdamStatesRefIdeal.nD Cert.AdamStatesRefIdeal.τ).loc Cert.AdamStatesRefIdeal.main_arg30) = m ((c.tc : Thread Cert.AdamStatesRefIdeal.nD Cert.AdamStatesRefIdeal.τ).loc Cert.AdamStatesRefIdeal.main_arg30)
      ∧ r.2.mem ((c.tc : Thread Cert.AdamStatesRefIdeal.nD Cert.AdamStatesRefIdeal.τ).loc Cert.AdamStatesRefIdeal.main_arg31) = m ((c.tc : Thread Cert.AdamStatesRefIdeal.nD Cert.AdamStatesRefIdeal.τ).loc Cert.AdamStatesRefIdeal.main_arg31)
      ∧ r.2.mem ((c.tc : Thread Cert.AdamStatesRefIdeal.nD Cert.AdamStatesRefIdeal.τ).loc Cert.AdamStatesRefIdeal.main_arg32) = m ((c.tc : Thread Cert.AdamStatesRefIdeal.nD Cert.AdamStatesRefIdeal.τ).loc Cert.AdamStatesRefIdeal.main_arg32)
      ∧ r.2.mem ((c.tc : Thread Cert.AdamStatesRefIdeal.nD Cert.AdamStatesRefIdeal.τ).loc Cert.AdamStatesRefIdeal.main_arg33) = m ((c.tc : Thread Cert.AdamStatesRefIdeal.nD Cert.AdamStatesRefIdeal.τ).loc Cert.AdamStatesRefIdeal.main_arg33)
      ∧ r.2.mem ((c.tc : Thread Cert.AdamStatesRefIdeal.nD Cert.AdamStatesRefIdeal.τ).loc Cert.AdamStatesRefIdeal.main_arg34) = m ((c.tc : Thread Cert.AdamStatesRefIdeal.nD Cert.AdamStatesRefIdeal.τ).loc Cert.AdamStatesRefIdeal.main_arg34)
      ∧ r.2.mem ((c.tc : Thread Cert.AdamStatesRefIdeal.nD Cert.AdamStatesRefIdeal.τ).loc Cert.AdamStatesRefIdeal.main_arg35) = m ((c.tc : Thread Cert.AdamStatesRefIdeal.nD Cert.AdamStatesRefIdeal.τ).loc Cert.AdamStatesRefIdeal.main_arg35)
      ∧ r.2.mem ((c.tc : Thread Cert.AdamStatesRefIdeal.nD Cert.AdamStatesRefIdeal.τ).loc Cert.AdamStatesRefIdeal.main_arg36) = m ((c.tc : Thread Cert.AdamStatesRefIdeal.nD Cert.AdamStatesRefIdeal.τ).loc Cert.AdamStatesRefIdeal.main_arg36)
      ∧ r.2.mem ((c.tc : Thread Cert.AdamStatesRefIdeal.nD Cert.AdamStatesRefIdeal.τ).loc Cert.AdamStatesRefIdeal.main_arg37) = m ((c.tc : Thread Cert.AdamStatesRefIdeal.nD Cert.AdamStatesRefIdeal.τ).loc Cert.AdamStatesRefIdeal.main_arg37)
      ∧ r.2.mem ((c.tc : Thread Cert.AdamStatesRefIdeal.nD Cert.AdamStatesRefIdeal.τ).loc Cert.AdamStatesRefIdeal.main_arg38) = m ((c.tc : Thread Cert.AdamStatesRefIdeal.nD Cert.AdamStatesRefIdeal.τ).loc Cert.AdamStatesRefIdeal.main_arg38)
      ∧ r.2.mem ((c.tc : Thread Cert.AdamStatesRefIdeal.nD Cert.AdamStatesRefIdeal.τ).loc Cert.AdamStatesRefIdeal.main_arg39) = m ((c.tc : Thread Cert.AdamStatesRefIdeal.nD Cert.AdamStatesRefIdeal.τ).loc Cert.AdamStatesRefIdeal.main_arg39)
      ∧ r.2.mem ((c.tc : Thread Cert.AdamStatesRefIdeal.nD Cert.AdamStatesRefIdeal.τ).loc Cert.AdamStatesRefIdeal.main_arg40) = m ((c.tc : Thread Cert.AdamStatesRefIdeal.nD Cert.AdamStatesRefIdeal.τ).loc Cert.AdamStatesRefIdeal.main_arg40)
      ∧ r.2.mem ((c.tc : Thread Cert.AdamStatesRefIdeal.nD Cert.AdamStatesRefIdeal.τ).loc Cert.AdamStatesRefIdeal.main_arg41) = m ((c.tc : Thread Cert.AdamStatesRefIdeal.nD Cert.AdamStatesRefIdeal.τ).loc Cert.AdamStatesRefIdeal.main_arg41)
      ∧ r.2.mem ((c.tc : Thread Cert.AdamStatesRefIdeal.nD Cert.AdamStatesRefIdeal.τ).loc Cert.AdamStatesRefIdeal.main_arg42) = m ((c.tc : Thread Cert.AdamStatesRefIdeal.nD Cert.AdamStatesRefIdeal.τ).loc Cert.AdamStatesRefIdeal.main_arg42)
      ∧ r.2.mem ((c.tc : Thread Cert.AdamStatesRefIdeal.nD Cert.AdamStatesRefIdeal.τ).loc Cert.AdamStatesRefIdeal.main_arg43) = m ((c.tc : Thread Cert.AdamStatesRefIdeal.nD Cert.AdamStatesRefIdeal.τ).loc Cert.AdamStatesRefIdeal.main_arg43)
      ∧ r.2.mem ((c.tc : Thread Cert.AdamStatesRefIdeal.nD Cert.AdamStatesRefIdeal.τ).loc Cert.AdamStatesRefIdeal.main_arg44) = m ((c.tc : Thread Cert.AdamStatesRefIdeal.nD Cert.AdamStatesRefIdeal.τ).loc Cert.AdamStatesRefIdeal.main_arg44))
      ∧ r.2.sem = fun _ => 0)

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v1)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v1) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v146) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v40) = v0 c
          ∧ r.2.mem ((c.tc : Thread Cert.NormRefIdeal.nD Cert.NormRefIdeal.τ).loc Cert.NormRefIdeal.main_v41) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)
      ∧ m' ((c.tc : Thread Cert.InWRefIdeal.nD Cert.InWRefIdeal.τ).loc Cert.InWRefIdeal.main_arg2) = m ((c.tc : Thread Cert.InWIdeal.nD Cert.InWIdeal.τ).loc Cert.InWIdeal.main_arg2)) →
    ∃ (v0 : (c : Dev Cert.InWIdeal.nD) → Buf (Elt Ideal) ((c.tc : Thread Cert.InWIdeal.nD Cert.InWIdeal.τ).loc Cert.InWIdeal.main_v0)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v0) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1)
          ∧ r.2.mem ((c.tc : Thread Cert.InWIdeal.nD Cert.InWIdeal.τ).loc Cert.InWIdeal.main_arg2) = m ((c.tc : Thread Cert.InWIdeal.nD Cert.InWIdeal.τ).loc Cert.InWIdeal.main_arg2))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v6) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1)
          ∧ r.2.mem ((c.tc : Thread Cert.InWRefIdeal.nD Cert.InWRefIdeal.τ).loc Cert.InWRefIdeal.main_arg2) = m' ((c.tc : Thread Cert.InWRefIdeal.nD Cert.InWRefIdeal.τ).loc Cert.InWRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v1_0)) (v1 : (c : Dev Cert.InProjIdeal.nD) → Buf (Elt Ideal) ((c.tc : Thread Cert.InProjIdeal.nD Cert.InProjIdeal.τ).loc Cert.InProjIdeal.main_v1_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1_0) = v0 c
          ∧ r.2.mem ((c.tc : Thread Cert.InProjIdeal.nD Cert.InProjIdeal.τ).loc Cert.InProjIdeal.main_v1_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v14) = v0 c
          ∧ r.2.mem ((c.tc : Thread Cert.InProjRefIdeal.nD Cert.InProjRefIdeal.τ).loc Cert.InProjRefIdeal.main_v15) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v3_0)) (v1 : (c : Dev Cert.PleIdeal.nD) → Buf (Elt Ideal) ((c.tc : Thread Cert.PleIdeal.nD Cert.PleIdeal.τ).loc Cert.PleIdeal.main_v3_1)) (v2 : (c : Dev Cert.PleIdeal.nD) → Buf (Elt Ideal) ((c.tc : Thread Cert.PleIdeal.nD Cert.PleIdeal.τ).loc Cert.PleIdeal.main_v3_2)) (v3 : (c : Dev Cert.PleIdeal.nD) → Buf (Elt Ideal) ((c.tc : Thread Cert.PleIdeal.nD Cert.PleIdeal.τ).loc Cert.PleIdeal.main_v3_3)) (v4 : (c : Dev Cert.PleIdeal.nD) → Buf (Elt Ideal) ((c.tc : Thread Cert.PleIdeal.nD Cert.PleIdeal.τ).loc Cert.PleIdeal.main_v3_4)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v3_0) = v0 c
          ∧ r.2.mem ((c.tc : Thread Cert.PleIdeal.nD Cert.PleIdeal.τ).loc Cert.PleIdeal.main_v3_1) = v1 c
          ∧ r.2.mem ((c.tc : Thread Cert.PleIdeal.nD Cert.PleIdeal.τ).loc Cert.PleIdeal.main_v3_2) = v2 c
          ∧ r.2.mem ((c.tc : Thread Cert.PleIdeal.nD Cert.PleIdeal.τ).loc Cert.PleIdeal.main_v3_3) = v3 c
          ∧ r.2.mem ((c.tc : Thread Cert.PleIdeal.nD Cert.PleIdeal.τ).loc Cert.PleIdeal.main_v3_4) = v4 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v69) = v0 c
          ∧ r.2.mem ((c.tc : Thread Cert.PleRefIdeal.nD Cert.PleRefIdeal.τ).loc Cert.PleRefIdeal.main_v70) = v1 c
          ∧ r.2.mem ((c.tc : Thread Cert.PleRefIdeal.nD Cert.PleRefIdeal.τ).loc Cert.PleRefIdeal.main_v64) = v2 c
          ∧ r.2.mem ((c.tc : Thread Cert.PleRefIdeal.nD Cert.PleRefIdeal.τ).loc Cert.PleRefIdeal.main_v65) = v3 c
          ∧ r.2.mem ((c.tc : Thread Cert.PleRefIdeal.nD Cert.PleRefIdeal.τ).loc Cert.PleRefIdeal.main_v71) = v4 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_PleH_PleHIdeal : Prop :=
  True

def algebraic_PleHIdeal_PleHRefIdeal [hPleHIdeal : Cert.PleHIdeal.Facts] [hPleHRefIdeal : Cert.PleHRefIdeal.Facts] : Prop :=
  ∀ (m : (ℓ : Loc Cert.PleHIdeal.nD Cert.PleHIdeal.τ Cert.PleHIdeal.sig) → Buf (Elt Ideal) ℓ) (g : Dev Cert.PleHIdeal.nD → PrngReg)
    (m' : (ℓ : Loc Cert.PleHRefIdeal.nD Cert.PleHRefIdeal.τ Cert.PleHRefIdeal.sig) → Buf (Elt Ideal) ℓ) (g' : Dev Cert.PleHRefIdeal.nD → PrngReg), Pre_PleHIdeal m →
    (∀ c : Dev Cert.PleHIdeal.nD,
      m' ((c.tc : Thread Cert.PleHRefIdeal.nD Cert.PleHRefIdeal.τ).loc Cert.PleHRefIdeal.main_arg0) = m ((c.tc : Thread Cert.PleHIdeal.nD Cert.PleHIdeal.τ).loc Cert.PleHIdeal.main_arg0)
      ∧ m' ((c.tc : Thread Cert.PleHRefIdeal.nD Cert.PleHRefIdeal.τ).loc Cert.PleHRefIdeal.main_arg1) = m ((c.tc : Thread Cert.PleHIdeal.nD Cert.PleHIdeal.τ).loc Cert.PleHIdeal.main_arg1)
      ∧ m' ((c.tc : Thread Cert.PleHRefIdeal.nD Cert.PleHRefIdeal.τ).loc Cert.PleHRefIdeal.main_arg2) = m ((c.tc : Thread Cert.PleHIdeal.nD Cert.PleHIdeal.τ).loc Cert.PleHIdeal.main_arg2)) →
    ∃ (v0 : (c : Dev Cert.PleHIdeal.nD) → Buf (Elt Ideal) ((c.tc : Thread Cert.PleHIdeal.nD Cert.PleHIdeal.τ).loc Cert.PleHIdeal.main_v1_0)) (v1 : (c : Dev Cert.PleHIdeal.nD) → Buf (Elt Ideal) ((c.tc : Thread Cert.PleHIdeal.nD Cert.PleHIdeal.τ).loc Cert.PleHIdeal.main_v1_1)),
      θ_run (Cert.PleHIdeal.defs (F := Ideal)) (onTc (τ := Cert.PleHIdeal.τ) (Cert.PleHIdeal.main (F := Ideal))) ⟨m, fun _ => 0, g⟩ (fun r => ∀ c : Dev Cert.PleHIdeal.nD,
          r.2.mem ((c.tc : Thread Cert.PleHIdeal.nD Cert.PleHIdeal.τ).loc Cert.PleHIdeal.main_v1_0) = v0 c
          ∧ r.2.mem ((c.tc : Thread Cert.PleHIdeal.nD Cert.PleHIdeal.τ).loc Cert.PleHIdeal.main_v1_1) = v1 c
          ∧ r.2.mem ((c.tc : Thread Cert.PleHIdeal.nD Cert.PleHIdeal.τ).loc Cert.PleHIdeal.main_arg0) = m ((c.tc : Thread Cert.PleHIdeal.nD Cert.PleHIdeal.τ).loc Cert.PleHIdeal.main_arg0)
          ∧ r.2.mem ((c.tc : Thread Cert.PleHIdeal.nD Cert.PleHIdeal.τ).loc Cert.PleHIdeal.main_arg1) = m ((c.tc : Thread Cert.PleHIdeal.nD Cert.PleHIdeal.τ).loc Cert.PleHIdeal.main_arg1)
          ∧ r.2.mem ((c.tc : Thread Cert.PleHIdeal.nD Cert.PleHIdeal.τ).loc Cert.PleHIdeal.main_arg2) = m ((c.tc : Thread Cert.PleHIdeal.nD Cert.PleHIdeal.τ).loc Cert.PleHIdeal.main_arg2))
      ∧ θ_run (Cert.PleHRefIdeal.defs (F := Ideal)) (onTc (τ := Cert.PleHRefIdeal.τ) (Cert.PleHRefIdeal.main (F := Ideal))) ⟨m', fun _ => 0, g'⟩ (fun r => ∀ c : Dev Cert.PleHRefIdeal.nD,
          r.2.mem ((c.tc : Thread Cert.PleHRefIdeal.nD Cert.PleHRefIdeal.τ).loc Cert.PleHRefIdeal.main_v4) = v0 c
          ∧ r.2.mem ((c.tc : Thread Cert.PleHRefIdeal.nD Cert.PleHRefIdeal.τ).loc Cert.PleHRefIdeal.main_v5) = v1 c
          ∧ r.2.mem ((c.tc : Thread Cert.PleHRefIdeal.nD Cert.PleHRefIdeal.τ).loc Cert.PleHRefIdeal.main_arg0) = m' ((c.tc : Thread Cert.PleHRefIdeal.nD Cert.PleHRefIdeal.τ).loc Cert.PleHRefIdeal.main_arg0)
          ∧ r.2.mem ((c.tc : Thread Cert.PleHRefIdeal.nD Cert.PleHRefIdeal.τ).loc Cert.PleHRefIdeal.main_arg1) = m' ((c.tc : Thread Cert.PleHRefIdeal.nD Cert.PleHRefIdeal.τ).loc Cert.PleHRefIdeal.main_arg1)
          ∧ r.2.mem ((c.tc : Thread Cert.PleHRefIdeal.nD Cert.PleHRefIdeal.τ).loc Cert.PleHRefIdeal.main_arg2) = m' ((c.tc : Thread Cert.PleHRefIdeal.nD Cert.PleHRefIdeal.τ).loc Cert.PleHRefIdeal.main_arg2))

def preserves_PleGateW_PleGateWIdeal : Prop :=
  True

def algebraic_PleGateWIdeal_PleGateWRefIdeal [hPleGateWIdeal : Cert.PleGateWIdeal.Facts] [hPleGateWRefIdeal : Cert.PleGateWRefIdeal.Facts] : Prop :=
  ∀ (m : (ℓ : Loc Cert.PleGateWIdeal.nD Cert.PleGateWIdeal.τ Cert.PleGateWIdeal.sig) → Buf (Elt Ideal) ℓ) (g : Dev Cert.PleGateWIdeal.nD → PrngReg)
    (m' : (ℓ : Loc Cert.PleGateWRefIdeal.nD Cert.PleGateWRefIdeal.τ Cert.PleGateWRefIdeal.sig) → Buf (Elt Ideal) ℓ) (g' : Dev Cert.PleGateWRefIdeal.nD → PrngReg), Pre_PleGateWIdeal m →
    (∀ c : Dev Cert.PleGateWIdeal.nD,
      m' ((c.tc : Thread Cert.PleGateWRefIdeal.nD Cert.PleGateWRefIdeal.τ).loc Cert.PleGateWRefIdeal.main_arg0) = m ((c.tc : Thread Cert.PleGateWIdeal.nD Cert.PleGateWIdeal.τ).loc Cert.PleGateWIdeal.main_arg0)
      ∧ m' ((c.tc : Thread Cert.PleGateWRefIdeal.nD Cert.PleGateWRefIdeal.τ).loc Cert.PleGateWRefIdeal.main_arg1) = m ((c.tc : Thread Cert.PleGateWIdeal.nD Cert.PleGateWIdeal.τ).loc Cert.PleGateWIdeal.main_arg1)) →
    ∃ (v0 : (c : Dev Cert.PleGateWIdeal.nD) → Buf (Elt Ideal) ((c.tc : Thread Cert.PleGateWIdeal.nD Cert.PleGateWIdeal.τ).loc Cert.PleGateWIdeal.main_v0)),
      θ_run (Cert.PleGateWIdeal.defs (F := Ideal)) (onTc (τ := Cert.PleGateWIdeal.τ) (Cert.PleGateWIdeal.main (F := Ideal))) ⟨m, fun _ => 0, g⟩ (fun r => ∀ c : Dev Cert.PleGateWIdeal.nD,
          r.2.mem ((c.tc : Thread Cert.PleGateWIdeal.nD Cert.PleGateWIdeal.τ).loc Cert.PleGateWIdeal.main_v0) = v0 c
          ∧ r.2.mem ((c.tc : Thread Cert.PleGateWIdeal.nD Cert.PleGateWIdeal.τ).loc Cert.PleGateWIdeal.main_arg0) = m ((c.tc : Thread Cert.PleGateWIdeal.nD Cert.PleGateWIdeal.τ).loc Cert.PleGateWIdeal.main_arg0)
          ∧ r.2.mem ((c.tc : Thread Cert.PleGateWIdeal.nD Cert.PleGateWIdeal.τ).loc Cert.PleGateWIdeal.main_arg1) = m ((c.tc : Thread Cert.PleGateWIdeal.nD Cert.PleGateWIdeal.τ).loc Cert.PleGateWIdeal.main_arg1))
      ∧ θ_run (Cert.PleGateWRefIdeal.defs (F := Ideal)) (onTc (τ := Cert.PleGateWRefIdeal.τ) (Cert.PleGateWRefIdeal.main (F := Ideal))) ⟨m', fun _ => 0, g'⟩ (fun r => ∀ c : Dev Cert.PleGateWRefIdeal.nD,
          r.2.mem ((c.tc : Thread Cert.PleGateWRefIdeal.nD Cert.PleGateWRefIdeal.τ).loc Cert.PleGateWRefIdeal.main_v6) = v0 c
          ∧ r.2.mem ((c.tc : Thread Cert.PleGateWRefIdeal.nD Cert.PleGateWRefIdeal.τ).loc Cert.PleGateWRefIdeal.main_arg0) = m' ((c.tc : Thread Cert.PleGateWRefIdeal.nD Cert.PleGateWRefIdeal.τ).loc Cert.PleGateWRefIdeal.main_arg0)
          ∧ r.2.mem ((c.tc : Thread Cert.PleGateWRefIdeal.nD Cert.PleGateWRefIdeal.τ).loc Cert.PleGateWRefIdeal.main_arg1) = m' ((c.tc : Thread Cert.PleGateWRefIdeal.nD Cert.PleGateWRefIdeal.τ).loc Cert.PleGateWRefIdeal.main_arg1))

def preserves_PleW_PleWIdeal : Prop :=
  True

def algebraic_PleWIdeal_PleWRefIdeal [hPleWIdeal : Cert.PleWIdeal.Facts] [hPleWRefIdeal : Cert.PleWRefIdeal.Facts] : Prop :=
  ∀ (m : (ℓ : Loc Cert.PleWIdeal.nD Cert.PleWIdeal.τ Cert.PleWIdeal.sig) → Buf (Elt Ideal) ℓ) (g : Dev Cert.PleWIdeal.nD → PrngReg)
    (m' : (ℓ : Loc Cert.PleWRefIdeal.nD Cert.PleWRefIdeal.τ Cert.PleWRefIdeal.sig) → Buf (Elt Ideal) ℓ) (g' : Dev Cert.PleWRefIdeal.nD → PrngReg), Pre_PleWIdeal m →
    (∀ c : Dev Cert.PleWIdeal.nD,
      m' ((c.tc : Thread Cert.PleWRefIdeal.nD Cert.PleWRefIdeal.τ).loc Cert.PleWRefIdeal.main_arg0) = m ((c.tc : Thread Cert.PleWIdeal.nD Cert.PleWIdeal.τ).loc Cert.PleWIdeal.main_arg0)
      ∧ m' ((c.tc : Thread Cert.PleWRefIdeal.nD Cert.PleWRefIdeal.τ).loc Cert.PleWRefIdeal.main_arg1) = m ((c.tc : Thread Cert.PleWIdeal.nD Cert.PleWIdeal.τ).loc Cert.PleWIdeal.main_arg1)) →
    ∃ (v0 : (c : Dev Cert.PleWIdeal.nD) → Buf (Elt Ideal) ((c.tc : Thread Cert.PleWIdeal.nD Cert.PleWIdeal.τ).loc Cert.PleWIdeal.main_v0)),
      θ_run (Cert.PleWIdeal.defs (F := Ideal)) (onTc (τ := Cert.PleWIdeal.τ) (Cert.PleWIdeal.main (F := Ideal))) ⟨m, fun _ => 0, g⟩ (fun r => ∀ c : Dev Cert.PleWIdeal.nD,
          r.2.mem ((c.tc : Thread Cert.PleWIdeal.nD Cert.PleWIdeal.τ).loc Cert.PleWIdeal.main_v0) = v0 c
          ∧ r.2.mem ((c.tc : Thread Cert.PleWIdeal.nD Cert.PleWIdeal.τ).loc Cert.PleWIdeal.main_arg0) = m ((c.tc : Thread Cert.PleWIdeal.nD Cert.PleWIdeal.τ).loc Cert.PleWIdeal.main_arg0)
          ∧ r.2.mem ((c.tc : Thread Cert.PleWIdeal.nD Cert.PleWIdeal.τ).loc Cert.PleWIdeal.main_arg1) = m ((c.tc : Thread Cert.PleWIdeal.nD Cert.PleWIdeal.τ).loc Cert.PleWIdeal.main_arg1))
      ∧ θ_run (Cert.PleWRefIdeal.defs (F := Ideal)) (onTc (τ := Cert.PleWRefIdeal.τ) (Cert.PleWRefIdeal.main (F := Ideal))) ⟨m', fun _ => 0, g'⟩ (fun r => ∀ c : Dev Cert.PleWRefIdeal.nD,
          r.2.mem ((c.tc : Thread Cert.PleWRefIdeal.nD Cert.PleWRefIdeal.τ).loc Cert.PleWRefIdeal.main_v5) = v0 c
          ∧ r.2.mem ((c.tc : Thread Cert.PleWRefIdeal.nD Cert.PleWRefIdeal.τ).loc Cert.PleWRefIdeal.main_arg0) = m' ((c.tc : Thread Cert.PleWRefIdeal.nD Cert.PleWRefIdeal.τ).loc Cert.PleWRefIdeal.main_arg0)
          ∧ r.2.mem ((c.tc : Thread Cert.PleWRefIdeal.nD Cert.PleWRefIdeal.τ).loc Cert.PleWRefIdeal.main_arg1) = m' ((c.tc : Thread Cert.PleWRefIdeal.nD Cert.PleWRefIdeal.τ).loc Cert.PleWRefIdeal.main_arg1))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v6) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1))

def preserves_GluW_GluWIdeal : Prop :=
  True

def algebraic_GluWIdeal_GluWRefIdeal [hGluWIdeal : Cert.GluWIdeal.Facts] [hGluWRefIdeal : Cert.GluWRefIdeal.Facts] : Prop :=
  ∀ (m : (ℓ : Loc Cert.GluWIdeal.nD Cert.GluWIdeal.τ Cert.GluWIdeal.sig) → Buf (Elt Ideal) ℓ) (g : Dev Cert.GluWIdeal.nD → PrngReg)
    (m' : (ℓ : Loc Cert.GluWRefIdeal.nD Cert.GluWRefIdeal.τ Cert.GluWRefIdeal.sig) → Buf (Elt Ideal) ℓ) (g' : Dev Cert.GluWRefIdeal.nD → PrngReg), Pre_GluWIdeal m →
    (∀ c : Dev Cert.GluWIdeal.nD,
      m' ((c.tc : Thread Cert.GluWRefIdeal.nD Cert.GluWRefIdeal.τ).loc Cert.GluWRefIdeal.main_arg0) = m ((c.tc : Thread Cert.GluWIdeal.nD Cert.GluWIdeal.τ).loc Cert.GluWIdeal.main_arg0)
      ∧ m' ((c.tc : Thread Cert.GluWRefIdeal.nD Cert.GluWRefIdeal.τ).loc Cert.GluWRefIdeal.main_arg1) = m ((c.tc : Thread Cert.GluWIdeal.nD Cert.GluWIdeal.τ).loc Cert.GluWIdeal.main_arg1)) →
    ∃ (v0 : (c : Dev Cert.GluWIdeal.nD) → Buf (Elt Ideal) ((c.tc : Thread Cert.GluWIdeal.nD Cert.GluWIdeal.τ).loc Cert.GluWIdeal.main_v0)),
      θ_run (Cert.GluWIdeal.defs (F := Ideal)) (onTc (τ := Cert.GluWIdeal.τ) (Cert.GluWIdeal.main (F := Ideal))) ⟨m, fun _ => 0, g⟩ (fun r => ∀ c : Dev Cert.GluWIdeal.nD,
          r.2.mem ((c.tc : Thread Cert.GluWIdeal.nD Cert.GluWIdeal.τ).loc Cert.GluWIdeal.main_v0) = v0 c
          ∧ r.2.mem ((c.tc : Thread Cert.GluWIdeal.nD Cert.GluWIdeal.τ).loc Cert.GluWIdeal.main_arg0) = m ((c.tc : Thread Cert.GluWIdeal.nD Cert.GluWIdeal.τ).loc Cert.GluWIdeal.main_arg0)
          ∧ r.2.mem ((c.tc : Thread Cert.GluWIdeal.nD Cert.GluWIdeal.τ).loc Cert.GluWIdeal.main_arg1) = m ((c.tc : Thread Cert.GluWIdeal.nD Cert.GluWIdeal.τ).loc Cert.GluWIdeal.main_arg1))
      ∧ θ_run (Cert.GluWRefIdeal.defs (F := Ideal)) (onTc (τ := Cert.GluWRefIdeal.τ) (Cert.GluWRefIdeal.main (F := Ideal))) ⟨m', fun _ => 0, g'⟩ (fun r => ∀ c : Dev Cert.GluWRefIdeal.nD,
          r.2.mem ((c.tc : Thread Cert.GluWRefIdeal.nD Cert.GluWRefIdeal.τ).loc Cert.GluWRefIdeal.main_v6) = v0 c
          ∧ r.2.mem ((c.tc : Thread Cert.GluWRefIdeal.nD Cert.GluWRefIdeal.τ).loc Cert.GluWRefIdeal.main_arg0) = m' ((c.tc : Thread Cert.GluWRefIdeal.nD Cert.GluWRefIdeal.τ).loc Cert.GluWRefIdeal.main_arg0)
          ∧ r.2.mem ((c.tc : Thread Cert.GluWRefIdeal.nD Cert.GluWRefIdeal.τ).loc Cert.GluWRefIdeal.main_arg1) = m' ((c.tc : Thread Cert.GluWRefIdeal.nD Cert.GluWRefIdeal.τ).loc Cert.GluWRefIdeal.main_arg1))

def preserves_GluProj_GluProjIdeal : Prop :=
  True

def algebraic_GluProjIdeal_GluProjRefIdeal [hGluProjIdeal : Cert.GluProjIdeal.Facts] [hGluProjRefIdeal : Cert.GluProjRefIdeal.Facts] : Prop :=
  ∀ (m : (ℓ : Loc Cert.GluProjIdeal.nD Cert.GluProjIdeal.τ Cert.GluProjIdeal.sig) → Buf (Elt Ideal) ℓ) (g : Dev Cert.GluProjIdeal.nD → PrngReg)
    (m' : (ℓ : Loc Cert.GluProjRefIdeal.nD Cert.GluProjRefIdeal.τ Cert.GluProjRefIdeal.sig) → Buf (Elt Ideal) ℓ) (g' : Dev Cert.GluProjRefIdeal.nD → PrngReg), Pre_GluProjIdeal m →
    (∀ c : Dev Cert.GluProjIdeal.nD,
      m' ((c.tc : Thread Cert.GluProjRefIdeal.nD Cert.GluProjRefIdeal.τ).loc Cert.GluProjRefIdeal.main_arg0) = m ((c.tc : Thread Cert.GluProjIdeal.nD Cert.GluProjIdeal.τ).loc Cert.GluProjIdeal.main_arg0)
      ∧ m' ((c.tc : Thread Cert.GluProjRefIdeal.nD Cert.GluProjRefIdeal.τ).loc Cert.GluProjRefIdeal.main_arg1) = m ((c.tc : Thread Cert.GluProjIdeal.nD Cert.GluProjIdeal.τ).loc Cert.GluProjIdeal.main_arg1)) →
    ∃ (v0 : (c : Dev Cert.GluProjIdeal.nD) → Buf (Elt Ideal) ((c.tc : Thread Cert.GluProjIdeal.nD Cert.GluProjIdeal.τ).loc Cert.GluProjIdeal.main_v1)),
      θ_run (Cert.GluProjIdeal.defs (F := Ideal)) (onTc (τ := Cert.GluProjIdeal.τ) (Cert.GluProjIdeal.main (F := Ideal))) ⟨m, fun _ => 0, g⟩ (fun r => ∀ c : Dev Cert.GluProjIdeal.nD,
          r.2.mem ((c.tc : Thread Cert.GluProjIdeal.nD Cert.GluProjIdeal.τ).loc Cert.GluProjIdeal.main_v1) = v0 c
          ∧ r.2.mem ((c.tc : Thread Cert.GluProjIdeal.nD Cert.GluProjIdeal.τ).loc Cert.GluProjIdeal.main_arg0) = m ((c.tc : Thread Cert.GluProjIdeal.nD Cert.GluProjIdeal.τ).loc Cert.GluProjIdeal.main_arg0)
          ∧ r.2.mem ((c.tc : Thread Cert.GluProjIdeal.nD Cert.GluProjIdeal.τ).loc Cert.GluProjIdeal.main_arg1) = m ((c.tc : Thread Cert.GluProjIdeal.nD Cert.GluProjIdeal.τ).loc Cert.GluProjIdeal.main_arg1))
      ∧ θ_run (Cert.GluProjRefIdeal.defs (F := Ideal)) (onTc (τ := Cert.GluProjRefIdeal.τ) (Cert.GluProjRefIdeal.main (F := Ideal))) ⟨m', fun _ => 0, g'⟩ (fun r => ∀ c : Dev Cert.GluProjRefIdeal.nD,
          r.2.mem ((c.tc : Thread Cert.GluProjRefIdeal.nD Cert.GluProjRefIdeal.τ).loc Cert.GluProjRefIdeal.main_v1) = v0 c
          ∧ r.2.mem ((c.tc : Thread Cert.GluProjRefIdeal.nD Cert.GluProjRefIdeal.τ).loc Cert.GluProjRefIdeal.main_arg0) = m' ((c.tc : Thread Cert.GluProjRefIdeal.nD Cert.GluProjRefIdeal.τ).loc Cert.GluProjRefIdeal.main_arg0)
          ∧ r.2.mem ((c.tc : Thread Cert.GluProjRefIdeal.nD Cert.GluProjRefIdeal.τ).loc Cert.GluProjRefIdeal.main_arg1) = m' ((c.tc : Thread Cert.GluProjRefIdeal.nD Cert.GluProjRefIdeal.τ).loc Cert.GluProjRefIdeal.main_arg1))

def preserves_GateOut_GateOutIdeal : Prop :=
  True

def algebraic_GateOutIdeal_GateOutRefIdeal [hGateOutIdeal : Cert.GateOutIdeal.Facts] [hGateOutRefIdeal : Cert.GateOutRefIdeal.Facts] : Prop :=
  ∀ (m : (ℓ : Loc Cert.GateOutIdeal.nD Cert.GateOutIdeal.τ Cert.GateOutIdeal.sig) → Buf (Elt Ideal) ℓ) (g : Dev Cert.GateOutIdeal.nD → PrngReg)
    (m' : (ℓ : Loc Cert.GateOutRefIdeal.nD Cert.GateOutRefIdeal.τ Cert.GateOutRefIdeal.sig) → Buf (Elt Ideal) ℓ) (g' : Dev Cert.GateOutRefIdeal.nD → PrngReg), Pre_GateOutIdeal m →
    (∀ c : Dev Cert.GateOutIdeal.nD,
      m' ((c.tc : Thread Cert.GateOutRefIdeal.nD Cert.GateOutRefIdeal.τ).loc Cert.GateOutRefIdeal.main_arg0) = m ((c.tc : Thread Cert.GateOutIdeal.nD Cert.GateOutIdeal.τ).loc Cert.GateOutIdeal.main_arg0)
      ∧ m' ((c.tc : Thread Cert.GateOutRefIdeal.nD Cert.GateOutRefIdeal.τ).loc Cert.GateOutRefIdeal.main_arg1) = m ((c.tc : Thread Cert.GateOutIdeal.nD Cert.GateOutIdeal.τ).loc Cert.GateOutIdeal.main_arg1)
      ∧ m' ((c.tc : Thread Cert.GateOutRefIdeal.nD Cert.GateOutRefIdeal.τ).loc Cert.GateOutRefIdeal.main_arg2) = m ((c.tc : Thread Cert.GateOutIdeal.nD Cert.GateOutIdeal.τ).loc Cert.GateOutIdeal.main_arg2)
      ∧ m' ((c.tc : Thread Cert.GateOutRefIdeal.nD Cert.GateOutRefIdeal.τ).loc Cert.GateOutRefIdeal.main_arg3) = m ((c.tc : Thread Cert.GateOutIdeal.nD Cert.GateOutIdeal.τ).loc Cert.GateOutIdeal.main_arg3)
      ∧ m' ((c.tc : Thread Cert.GateOutRefIdeal.nD Cert.GateOutRefIdeal.τ).loc Cert.GateOutRefIdeal.main_arg4) = m ((c.tc : Thread Cert.GateOutIdeal.nD Cert.GateOutIdeal.τ).loc Cert.GateOutIdeal.main_arg4)
      ∧ m' ((c.tc : Thread Cert.GateOutRefIdeal.nD Cert.GateOutRefIdeal.τ).loc Cert.GateOutRefIdeal.main_arg5) = m ((c.tc : Thread Cert.GateOutIdeal.nD Cert.GateOutIdeal.τ).loc Cert.GateOutIdeal.main_arg5)) →
    ∃ (v0 : (c : Dev Cert.GateOutIdeal.nD) → Buf (Elt Ideal) ((c.tc : Thread Cert.GateOutIdeal.nD Cert.GateOutIdeal.τ).loc Cert.GateOutIdeal.main_v1_0)) (v1 : (c : Dev Cert.GateOutIdeal.nD) → Buf (Elt Ideal) ((c.tc : Thread Cert.GateOutIdeal.nD Cert.GateOutIdeal.τ).loc Cert.GateOutIdeal.main_v1_1)) (v2 : (c : Dev Cert.GateOutIdeal.nD) → Buf (Elt Ideal) ((c.tc : Thread Cert.GateOutIdeal.nD Cert.GateOutIdeal.τ).loc Cert.GateOutIdeal.main_v1_2)),
      θ_run (Cert.GateOutIdeal.defs (F := Ideal)) (onTc (τ := Cert.GateOutIdeal.τ) (Cert.GateOutIdeal.main (F := Ideal))) ⟨m, fun _ => 0, g⟩ (fun r => ∀ c : Dev Cert.GateOutIdeal.nD,
          r.2.mem ((c.tc : Thread Cert.GateOutIdeal.nD Cert.GateOutIdeal.τ).loc Cert.GateOutIdeal.main_v1_0) = v0 c
          ∧ r.2.mem ((c.tc : Thread Cert.GateOutIdeal.nD Cert.GateOutIdeal.τ).loc Cert.GateOutIdeal.main_v1_1) = v1 c
          ∧ r.2.mem ((c.tc : Thread Cert.GateOutIdeal.nD Cert.GateOutIdeal.τ).loc Cert.GateOutIdeal.main_v1_2) = v2 c
          ∧ r.2.mem ((c.tc : Thread Cert.GateOutIdeal.nD Cert.GateOutIdeal.τ).loc Cert.GateOutIdeal.main_arg0) = m ((c.tc : Thread Cert.GateOutIdeal.nD Cert.GateOutIdeal.τ).loc Cert.GateOutIdeal.main_arg0)
          ∧ r.2.mem ((c.tc : Thread Cert.GateOutIdeal.nD Cert.GateOutIdeal.τ).loc Cert.GateOutIdeal.main_arg1) = m ((c.tc : Thread Cert.GateOutIdeal.nD Cert.GateOutIdeal.τ).loc Cert.GateOutIdeal.main_arg1)
          ∧ r.2.mem ((c.tc : Thread Cert.GateOutIdeal.nD Cert.GateOutIdeal.τ).loc Cert.GateOutIdeal.main_arg2) = m ((c.tc : Thread Cert.GateOutIdeal.nD Cert.GateOutIdeal.τ).loc Cert.GateOutIdeal.main_arg2)
          ∧ r.2.mem ((c.tc : Thread Cert.GateOutIdeal.nD Cert.GateOutIdeal.τ).loc Cert.GateOutIdeal.main_arg3) = m ((c.tc : Thread Cert.GateOutIdeal.nD Cert.GateOutIdeal.τ).loc Cert.GateOutIdeal.main_arg3)
          ∧ r.2.mem ((c.tc : Thread Cert.GateOutIdeal.nD Cert.GateOutIdeal.τ).loc Cert.GateOutIdeal.main_arg4) = m ((c.tc : Thread Cert.GateOutIdeal.nD Cert.GateOutIdeal.τ).loc Cert.GateOutIdeal.main_arg4)
          ∧ r.2.mem ((c.tc : Thread Cert.GateOutIdeal.nD Cert.GateOutIdeal.τ).loc Cert.GateOutIdeal.main_arg5) = m ((c.tc : Thread Cert.GateOutIdeal.nD Cert.GateOutIdeal.τ).loc Cert.GateOutIdeal.main_arg5))
      ∧ θ_run (Cert.GateOutRefIdeal.defs (F := Ideal)) (onTc (τ := Cert.GateOutRefIdeal.τ) (Cert.GateOutRefIdeal.main (F := Ideal))) ⟨m', fun _ => 0, g'⟩ (fun r => ∀ c : Dev Cert.GateOutRefIdeal.nD,
          r.2.mem ((c.tc : Thread Cert.GateOutRefIdeal.nD Cert.GateOutRefIdeal.τ).loc Cert.GateOutRefIdeal.main_v22) = v0 c
          ∧ r.2.mem ((c.tc : Thread Cert.GateOutRefIdeal.nD Cert.GateOutRefIdeal.τ).loc Cert.GateOutRefIdeal.main_v21) = v1 c
          ∧ r.2.mem ((c.tc : Thread Cert.GateOutRefIdeal.nD Cert.GateOutRefIdeal.τ).loc Cert.GateOutRefIdeal.main_v23) = v2 c
          ∧ r.2.mem ((c.tc : Thread Cert.GateOutRefIdeal.nD Cert.GateOutRefIdeal.τ).loc Cert.GateOutRefIdeal.main_arg0) = m' ((c.tc : Thread Cert.GateOutRefIdeal.nD Cert.GateOutRefIdeal.τ).loc Cert.GateOutRefIdeal.main_arg0)
          ∧ r.2.mem ((c.tc : Thread Cert.GateOutRefIdeal.nD Cert.GateOutRefIdeal.τ).loc Cert.GateOutRefIdeal.main_arg1) = m' ((c.tc : Thread Cert.GateOutRefIdeal.nD Cert.GateOutRefIdeal.τ).loc Cert.GateOutRefIdeal.main_arg1)
          ∧ r.2.mem ((c.tc : Thread Cert.GateOutRefIdeal.nD Cert.GateOutRefIdeal.τ).loc Cert.GateOutRefIdeal.main_arg2) = m' ((c.tc : Thread Cert.GateOutRefIdeal.nD Cert.GateOutRefIdeal.τ).loc Cert.GateOutRefIdeal.main_arg2)
          ∧ r.2.mem ((c.tc : Thread Cert.GateOutRefIdeal.nD Cert.GateOutRefIdeal.τ).loc Cert.GateOutRefIdeal.main_arg3) = m' ((c.tc : Thread Cert.GateOutRefIdeal.nD Cert.GateOutRefIdeal.τ).loc Cert.GateOutRefIdeal.main_arg3)
          ∧ r.2.mem ((c.tc : Thread Cert.GateOutRefIdeal.nD Cert.GateOutRefIdeal.τ).loc Cert.GateOutRefIdeal.main_arg4) = m' ((c.tc : Thread Cert.GateOutRefIdeal.nD Cert.GateOutRefIdeal.τ).loc Cert.GateOutRefIdeal.main_arg4)
          ∧ r.2.mem ((c.tc : Thread Cert.GateOutRefIdeal.nD Cert.GateOutRefIdeal.τ).loc Cert.GateOutRefIdeal.main_arg5) = m' ((c.tc : Thread Cert.GateOutRefIdeal.nD Cert.GateOutRefIdeal.τ).loc Cert.GateOutRefIdeal.main_arg5))

def preserves_Gate_GateIdeal : Prop :=
  True

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)
      ∧ m' ((c.tc : Thread Cert.GateRefIdeal.nD Cert.GateRefIdeal.τ).loc Cert.GateRefIdeal.main_arg6) = m ((c.tc : Thread Cert.GateIdeal.nD Cert.GateIdeal.τ).loc Cert.GateIdeal.main_arg6)
      ∧ m' ((c.tc : Thread Cert.GateRefIdeal.nD Cert.GateRefIdeal.τ).loc Cert.GateRefIdeal.main_arg7) = m ((c.tc : Thread Cert.GateIdeal.nD Cert.GateIdeal.τ).loc Cert.GateIdeal.main_arg7)) →
    ∃ (v0 : (c : Dev Cert.GateIdeal.nD) → Buf (Elt Ideal) ((c.tc : Thread Cert.GateIdeal.nD Cert.GateIdeal.τ).loc Cert.GateIdeal.main_v1_0)) (v1 : (c : Dev Cert.GateIdeal.nD) → Buf (Elt Ideal) ((c.tc : Thread Cert.GateIdeal.nD Cert.GateIdeal.τ).loc Cert.GateIdeal.main_v1_1)) (v2 : (c : Dev Cert.GateIdeal.nD) → Buf (Elt Ideal) ((c.tc : Thread Cert.GateIdeal.nD Cert.GateIdeal.τ).loc Cert.GateIdeal.main_v1_2)) (v3 : (c : Dev Cert.GateIdeal.nD) → Buf (Elt Ideal) ((c.tc : Thread Cert.GateIdeal.nD Cert.GateIdeal.τ).loc Cert.GateIdeal.main_v1_3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v1_0) = v0 c
          ∧ r.2.mem ((c.tc : Thread Cert.GateIdeal.nD Cert.GateIdeal.τ).loc Cert.GateIdeal.main_v1_1) = v1 c
          ∧ r.2.mem ((c.tc : Thread Cert.GateIdeal.nD Cert.GateIdeal.τ).loc Cert.GateIdeal.main_v1_2) = v2 c
          ∧ r.2.mem ((c.tc : Thread Cert.GateIdeal.nD Cert.GateIdeal.τ).loc Cert.GateIdeal.main_v1_3) = v3 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
          ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
          ∧ r.2.mem ((c.tc : Thread Cert.GateIdeal.nD Cert.GateIdeal.τ).loc Cert.GateIdeal.main_arg7) = m ((c.tc : Thread Cert.GateIdeal.nD Cert.GateIdeal.τ).loc Cert.GateIdeal.main_arg7))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v49) = v0 c
          ∧ r.2.mem ((c.tc : Thread Cert.GateRefIdeal.nD Cert.GateRefIdeal.τ).loc Cert.GateRefIdeal.main_v50) = v1 c
          ∧ r.2.mem ((c.tc : Thread Cert.GateRefIdeal.nD Cert.GateRefIdeal.τ).loc Cert.GateRefIdeal.main_v51) = v2 c
          ∧ r.2.mem ((c.tc : Thread Cert.GateRefIdeal.nD Cert.GateRefIdeal.τ).loc Cert.GateRefIdeal.main_v46) = v3 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5)
          ∧ r.2.mem ((c.tc : Thread Cert.GateRefIdeal.nD Cert.GateRefIdeal.τ).loc Cert.GateRefIdeal.main_arg6) = m' ((c.tc : Thread Cert.GateRefIdeal.nD Cert.GateRefIdeal.τ).loc Cert.GateRefIdeal.main_arg6)
          ∧ r.2.mem ((c.tc : Thread Cert.GateRefIdeal.nD Cert.GateRefIdeal.τ).loc Cert.GateRefIdeal.main_arg7) = m' ((c.tc : Thread Cert.GateRefIdeal.nD Cert.GateRefIdeal.τ).loc Cert.GateRefIdeal.main_arg7))

def preserves_GluD_GluDIdeal : Prop :=
  IdealRules.named_const.Statement Cert.GluDIdeal.κ "gelu_a" .f32 0x3D372713#32 ((8943 / 200000 : ℝ) : EReal)
  ∧ IdealRules.named_const.Statement Cert.GluDIdeal.κ "gelu_3a" .f32 0x3E095D4F#32 ((26829 / 200000 : ℝ) : EReal)

def algebraic_GluDIdeal_GluDRefIdeal_pre_glu_finite [hGluDIdeal : Cert.GluDIdeal.Facts] [hGluDRefIdeal : Cert.GluDRefIdeal.Facts] [hPre_glu_finite : Cert.Pre_glu_finite.Facts] : Prop :=
  ∀ (m : (ℓ : Loc Cert.GluDIdeal.nD Cert.GluDIdeal.τ Cert.GluDIdeal.sig) → Buf (Elt Ideal) ℓ) (g : Dev Cert.GluDIdeal.nD → PrngReg)
    (m' : (ℓ : Loc Cert.GluDRefIdeal.nD Cert.GluDRefIdeal.τ Cert.GluDRefIdeal.sig) → Buf (Elt Ideal) ℓ) (g' : Dev Cert.GluDRefIdeal.nD → PrngReg), Pre_GluDIdeal_glu_finite m →
    (∀ c : Dev Cert.GluDIdeal.nD,
      m' ((c.tc : Thread Cert.GluDRefIdeal.nD Cert.GluDRefIdeal.τ).loc Cert.GluDRefIdeal.main_arg0) = m ((c.tc : Thread Cert.GluDIdeal.nD Cert.GluDIdeal.τ).loc Cert.GluDIdeal.main_arg0)
      ∧ m' ((c.tc : Thread Cert.GluDRefIdeal.nD Cert.GluDRefIdeal.τ).loc Cert.GluDRefIdeal.main_arg1) = m ((c.tc : Thread Cert.GluDIdeal.nD Cert.GluDIdeal.τ).loc Cert.GluDIdeal.main_arg1)
      ∧ m' ((c.tc : Thread Cert.GluDRefIdeal.nD Cert.GluDRefIdeal.τ).loc Cert.GluDRefIdeal.main_arg2) = m ((c.tc : Thread Cert.GluDIdeal.nD Cert.GluDIdeal.τ).loc Cert.GluDIdeal.main_arg2)
      ∧ m' ((c.tc : Thread Cert.GluDRefIdeal.nD Cert.GluDRefIdeal.τ).loc Cert.GluDRefIdeal.main_arg3) = m ((c.tc : Thread Cert.GluDIdeal.nD Cert.GluDIdeal.τ).loc Cert.GluDIdeal.main_arg3)) →
    ∃ (v0 : (c : Dev Cert.GluDIdeal.nD) → Buf (Elt Ideal) ((c.tc : Thread Cert.GluDIdeal.nD Cert.GluDIdeal.τ).loc Cert.GluDIdeal.main_v1)),
      θ_run (Cert.GluDIdeal.defs (F := Ideal)) (onTc (τ := Cert.GluDIdeal.τ) (Cert.GluDIdeal.main (F := Ideal))) ⟨m, fun _ => 0, g⟩ (fun r => ∀ c : Dev Cert.GluDIdeal.nD,
          r.2.mem ((c.tc : Thread Cert.GluDIdeal.nD Cert.GluDIdeal.τ).loc Cert.GluDIdeal.main_v1) = v0 c
          ∧ r.2.mem ((c.tc : Thread Cert.GluDIdeal.nD Cert.GluDIdeal.τ).loc Cert.GluDIdeal.main_arg0) = m ((c.tc : Thread Cert.GluDIdeal.nD Cert.GluDIdeal.τ).loc Cert.GluDIdeal.main_arg0)
          ∧ r.2.mem ((c.tc : Thread Cert.GluDIdeal.nD Cert.GluDIdeal.τ).loc Cert.GluDIdeal.main_arg1) = m ((c.tc : Thread Cert.GluDIdeal.nD Cert.GluDIdeal.τ).loc Cert.GluDIdeal.main_arg1)
          ∧ r.2.mem ((c.tc : Thread Cert.GluDIdeal.nD Cert.GluDIdeal.τ).loc Cert.GluDIdeal.main_arg2) = m ((c.tc : Thread Cert.GluDIdeal.nD Cert.GluDIdeal.τ).loc Cert.GluDIdeal.main_arg2)
          ∧ r.2.mem ((c.tc : Thread Cert.GluDIdeal.nD Cert.GluDIdeal.τ).loc Cert.GluDIdeal.main_arg3) = m ((c.tc : Thread Cert.GluDIdeal.nD Cert.GluDIdeal.τ).loc Cert.GluDIdeal.main_arg3))
      ∧ θ_run (Cert.GluDRefIdeal.defs (F := Ideal)) (onTc (τ := Cert.GluDRefIdeal.τ) (Cert.GluDRefIdeal.main (F := Ideal))) ⟨m', fun _ => 0, g'⟩ (fun r => ∀ c : Dev Cert.GluDRefIdeal.nD,
          r.2.mem ((c.tc : Thread Cert.GluDRefIdeal.nD Cert.GluDRefIdeal.τ).loc Cert.GluDRefIdeal.main_v39) = v0 c
          ∧ r.2.mem ((c.tc : Thread Cert.GluDRefIdeal.nD Cert.GluDRefIdeal.τ).loc Cert.GluDRefIdeal.main_arg0) = m' ((c.tc : Thread Cert.GluDRefIdeal.nD Cert.GluDRefIdeal.τ).loc Cert.GluDRefIdeal.main_arg0)
          ∧ r.2.mem ((c.tc : Thread Cert.GluDRefIdeal.nD Cert.GluDRefIdeal.τ).loc Cert.GluDRefIdeal.main_arg1) = m' ((c.tc : Thread Cert.GluDRefIdeal.nD Cert.GluDRefIdeal.τ).loc Cert.GluDRefIdeal.main_arg1)
          ∧ r.2.mem ((c.tc : Thread Cert.GluDRefIdeal.nD Cert.GluDRefIdeal.τ).loc Cert.GluDRefIdeal.main_arg2) = m' ((c.tc : Thread Cert.GluDRefIdeal.nD Cert.GluDRefIdeal.τ).loc Cert.GluDRefIdeal.main_arg2)
          ∧ r.2.mem ((c.tc : Thread Cert.GluDRefIdeal.nD Cert.GluDRefIdeal.τ).loc Cert.GluDRefIdeal.main_arg3) = m' ((c.tc : Thread Cert.GluDRefIdeal.nD Cert.GluDRefIdeal.τ).loc Cert.GluDRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v3) = v0 c
          ∧ r.2.mem ((c.tc : Thread Cert.AdamInRefIdeal.nD Cert.AdamInRefIdeal.τ).loc Cert.AdamInRefIdeal.main_v27) = v1 c
          ∧ r.2.mem ((c.tc : Thread Cert.AdamInRefIdeal.nD Cert.AdamInRefIdeal.τ).loc Cert.AdamInRefIdeal.main_v8) = v2 c
          ∧ r.2.mem ((c.tc : Thread Cert.AdamInRefIdeal.nD Cert.AdamInRefIdeal.τ).loc Cert.AdamInRefIdeal.main_v14) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamPool_AdamPoolIdeal : Prop :=
  True

def algebraic_AdamPoolIdeal_AdamPoolRefIdeal [hAdamPoolIdeal : Cert.AdamPoolIdeal.Facts] [hAdamPoolRefIdeal : Cert.AdamPoolRefIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolRefIdeal.nD Cert.AdamPoolRefIdeal.τ Cert.AdamPoolRefIdeal.sig) → Buf (Elt Ideal) ℓ) (g' : Dev Cert.AdamPoolRefIdeal.nD → PrngReg), Pre_AdamPoolIdeal m →
    (∀ c : Dev Cert.AdamPoolIdeal.nD,
      m' ((c.tc : Thread Cert.AdamPoolRefIdeal.nD Cert.AdamPoolRefIdeal.τ).loc Cert.AdamPoolRefIdeal.main_arg0) = m ((c.tc : Thread Cert.AdamPoolIdeal.nD Cert.AdamPoolIdeal.τ).loc Cert.AdamPoolIdeal.main_arg0)
      ∧ m' ((c.tc : Thread Cert.AdamPoolRefIdeal.nD Cert.AdamPoolRefIdeal.τ).loc Cert.AdamPoolRefIdeal.main_arg1) = m ((c.tc : Thread Cert.AdamPoolIdeal.nD Cert.AdamPoolIdeal.τ).loc Cert.AdamPoolIdeal.main_arg1)
      ∧ m' ((c.tc : Thread Cert.AdamPoolRefIdeal.nD Cert.AdamPoolRefIdeal.τ).loc Cert.AdamPoolRefIdeal.main_arg2) = m ((c.tc : Thread Cert.AdamPoolIdeal.nD Cert.AdamPoolIdeal.τ).loc Cert.AdamPoolIdeal.main_arg2)
      ∧ m' ((c.tc : Thread Cert.AdamPoolRefIdeal.nD Cert.AdamPoolRefIdeal.τ).loc Cert.AdamPoolRefIdeal.main_arg3) = m ((c.tc : Thread Cert.AdamPoolIdeal.nD Cert.AdamPoolIdeal.τ).loc Cert.AdamPoolIdeal.main_arg3)
      ∧ m' ((c.tc : Thread Cert.AdamPoolRefIdeal.nD Cert.AdamPoolRefIdeal.τ).loc Cert.AdamPoolRefIdeal.main_arg4) = m ((c.tc : Thread Cert.AdamPoolIdeal.nD Cert.AdamPoolIdeal.τ).loc Cert.AdamPoolIdeal.main_arg4)) →
    ∃ (v0 : (c : Dev Cert.AdamPoolIdeal.nD) → Buf (Elt Ideal) ((c.tc : Thread Cert.AdamPoolIdeal.nD Cert.AdamPoolIdeal.τ).loc Cert.AdamPoolIdeal.main_v5_0)) (v1 : (c : Dev Cert.AdamPoolIdeal.nD) → Buf (Elt Ideal) ((c.tc : Thread Cert.AdamPoolIdeal.nD Cert.AdamPoolIdeal.τ).loc Cert.AdamPoolIdeal.main_v5_1)) (v2 : (c : Dev Cert.AdamPoolIdeal.nD) → Buf (Elt Ideal) ((c.tc : Thread Cert.AdamPoolIdeal.nD Cert.AdamPoolIdeal.τ).loc Cert.AdamPoolIdeal.main_v5_2)) (v3 : (c : Dev Cert.AdamPoolIdeal.nD) → Buf (Elt Ideal) ((c.tc : Thread Cert.AdamPoolIdeal.nD Cert.AdamPoolIdeal.τ).loc Cert.AdamPoolIdeal.main_v5_3)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v5_0) = v0 c
          ∧ r.2.mem ((c.tc : Thread Cert.AdamPoolIdeal.nD Cert.AdamPoolIdeal.τ).loc Cert.AdamPoolIdeal.main_v5_1) = v1 c
          ∧ r.2.mem ((c.tc : Thread Cert.AdamPoolIdeal.nD Cert.AdamPoolIdeal.τ).loc Cert.AdamPoolIdeal.main_v5_2) = v2 c
          ∧ r.2.mem ((c.tc : Thread Cert.AdamPoolIdeal.nD Cert.AdamPoolIdeal.τ).loc Cert.AdamPoolIdeal.main_v5_3) = v3 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3)
          ∧ r.2.mem ((c.tc : Thread Cert.AdamPoolIdeal.nD Cert.AdamPoolIdeal.τ).loc Cert.AdamPoolIdeal.main_arg4) = m ((c.tc : Thread Cert.AdamPoolIdeal.nD Cert.AdamPoolIdeal.τ).loc Cert.AdamPoolIdeal.main_arg4))
      ∧ θ_run (Cert.AdamPoolRefIdeal.defs (F := Ideal)) (onTc (τ := Cert.AdamPoolRefIdeal.τ) (Cert.AdamPoolRefIdeal.main (F := Ideal))) ⟨m', fun _ => 0, g'⟩ (fun r => ∀ c : Dev Cert.AdamPoolRefIdeal.nD,
          r.2.mem ((c.tc : Thread Cert.AdamPoolRefIdeal.nD Cert.AdamPoolRefIdeal.τ).loc Cert.AdamPoolRefIdeal.main_v28) = v0 c
          ∧ r.2.mem ((c.tc : Thread Cert.AdamPoolRefIdeal.nD Cert.AdamPoolRefIdeal.τ).loc Cert.AdamPoolRefIdeal.main_v29) = v1 c
          ∧ r.2.mem ((c.tc : Thread Cert.AdamPoolRefIdeal.nD Cert.AdamPoolRefIdeal.τ).loc Cert.AdamPoolRefIdeal.main_v30) = v2 c
          ∧ r.2.mem ((c.tc : Thread Cert.AdamPoolRefIdeal.nD Cert.AdamPoolRefIdeal.τ).loc Cert.AdamPoolRefIdeal.main_v31) = v3 c
          ∧ r.2.mem ((c.tc : Thread Cert.AdamPoolRefIdeal.nD Cert.AdamPoolRefIdeal.τ).loc Cert.AdamPoolRefIdeal.main_arg0) = m' ((c.tc : Thread Cert.AdamPoolRefIdeal.nD Cert.AdamPoolRefIdeal.τ).loc Cert.AdamPoolRefIdeal.main_arg0)
          ∧ r.2.mem ((c.tc : Thread Cert.AdamPoolRefIdeal.nD Cert.AdamPoolRefIdeal.τ).loc Cert.AdamPoolRefIdeal.main_arg1) = m' ((c.tc : Thread Cert.AdamPoolRefIdeal.nD Cert.AdamPoolRefIdeal.τ).loc Cert.AdamPoolRefIdeal.main_arg1)
          ∧ r.2.mem ((c.tc : Thread Cert.AdamPoolRefIdeal.nD Cert.AdamPoolRefIdeal.τ).loc Cert.AdamPoolRefIdeal.main_arg2) = m' ((c.tc : Thread Cert.AdamPoolRefIdeal.nD Cert.AdamPoolRefIdeal.τ).loc Cert.AdamPoolRefIdeal.main_arg2)
          ∧ r.2.mem ((c.tc : Thread Cert.AdamPoolRefIdeal.nD Cert.AdamPoolRefIdeal.τ).loc Cert.AdamPoolRefIdeal.main_arg3) = m' ((c.tc : Thread Cert.AdamPoolRefIdeal.nD Cert.AdamPoolRefIdeal.τ).loc Cert.AdamPoolRefIdeal.main_arg3)
          ∧ r.2.mem ((c.tc : Thread Cert.AdamPoolRefIdeal.nD Cert.AdamPoolRefIdeal.τ).loc Cert.AdamPoolRefIdeal.main_arg4) = m' ((c.tc : Thread Cert.AdamPoolRefIdeal.nD Cert.AdamPoolRefIdeal.τ).loc Cert.AdamPoolRefIdeal.main_arg4))

def preserves_AdamGlu_AdamGluIdeal : Prop :=
  True

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)
      ∧ m' ((c.tc : Thread Cert.AdamGluRefIdeal.nD Cert.AdamGluRefIdeal.τ).loc Cert.AdamGluRefIdeal.main_arg4) = m ((c.tc : Thread Cert.AdamGluIdeal.nD Cert.AdamGluIdeal.τ).loc Cert.AdamGluIdeal.main_arg4)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)) (v3 : (c : Dev Cert.AdamGluIdeal.nD) → Buf (Elt Ideal) ((c.tc : Thread Cert.AdamGluIdeal.nD Cert.AdamGluIdeal.τ).loc Cert.AdamGluIdeal.main_v0_3)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_v0_3) = v3 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3)
          ∧ r.2.mem ((c.tc : Thread Cert.AdamGluIdeal.nD Cert.AdamGluIdeal.τ).loc Cert.AdamGluIdeal.main_arg4) = m ((c.tc : Thread Cert.AdamGluIdeal.nD Cert.AdamGluIdeal.τ).loc Cert.AdamGluIdeal.main_arg4))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v3) = v0 c
          ∧ r.2.mem ((c.tc : Thread Cert.AdamGluRefIdeal.nD Cert.AdamGluRefIdeal.τ).loc Cert.AdamGluRefIdeal.main_v27) = v1 c
          ∧ r.2.mem ((c.tc : Thread Cert.AdamGluRefIdeal.nD Cert.AdamGluRefIdeal.τ).loc Cert.AdamGluRefIdeal.main_v8) = v2 c
          ∧ r.2.mem ((c.tc : Thread Cert.AdamGluRefIdeal.nD Cert.AdamGluRefIdeal.τ).loc Cert.AdamGluRefIdeal.main_v14) = v3 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3)
          ∧ r.2.mem ((c.tc : Thread Cert.AdamGluRefIdeal.nD Cert.AdamGluRefIdeal.τ).loc Cert.AdamGluRefIdeal.main_arg4) = m' ((c.tc : Thread Cert.AdamGluRefIdeal.nD Cert.AdamGluRefIdeal.τ).loc Cert.AdamGluRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v3) = v0 c
          ∧ r.2.mem ((c.tc : Thread Cert.AdamOutRefIdeal.nD Cert.AdamOutRefIdeal.τ).loc Cert.AdamOutRefIdeal.main_v27) = v1 c
          ∧ r.2.mem ((c.tc : Thread Cert.AdamOutRefIdeal.nD Cert.AdamOutRefIdeal.τ).loc Cert.AdamOutRefIdeal.main_v8) = v2 c
          ∧ r.2.mem ((c.tc : Thread Cert.AdamOutRefIdeal.nD Cert.AdamOutRefIdeal.τ).loc Cert.AdamOutRefIdeal.main_v14) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamPle_AdamPleIdeal : Prop :=
  True

def algebraic_AdamPleIdeal_AdamPleRefIdeal [hAdamPleIdeal : Cert.AdamPleIdeal.Facts] [hAdamPleRefIdeal : Cert.AdamPleRefIdeal.Facts] : Prop :=
  ∀ (m : (ℓ : Loc Cert.AdamPleIdeal.nD Cert.AdamPleIdeal.τ Cert.AdamPleIdeal.sig) → Buf (Elt Ideal) ℓ) (g : Dev Cert.AdamPleIdeal.nD → PrngReg)
    (m' : (ℓ : Loc Cert.AdamPleRefIdeal.nD Cert.AdamPleRefIdeal.τ Cert.AdamPleRefIdeal.sig) → Buf (Elt Ideal) ℓ) (g' : Dev Cert.AdamPleRefIdeal.nD → PrngReg), Pre_AdamPleIdeal m →
    (∀ c : Dev Cert.AdamPleIdeal.nD,
      m' ((c.tc : Thread Cert.AdamPleRefIdeal.nD Cert.AdamPleRefIdeal.τ).loc Cert.AdamPleRefIdeal.main_arg0) = m ((c.tc : Thread Cert.AdamPleIdeal.nD Cert.AdamPleIdeal.τ).loc Cert.AdamPleIdeal.main_arg0)
      ∧ m' ((c.tc : Thread Cert.AdamPleRefIdeal.nD Cert.AdamPleRefIdeal.τ).loc Cert.AdamPleRefIdeal.main_arg1) = m ((c.tc : Thread Cert.AdamPleIdeal.nD Cert.AdamPleIdeal.τ).loc Cert.AdamPleIdeal.main_arg1)
      ∧ m' ((c.tc : Thread Cert.AdamPleRefIdeal.nD Cert.AdamPleRefIdeal.τ).loc Cert.AdamPleRefIdeal.main_arg2) = m ((c.tc : Thread Cert.AdamPleIdeal.nD Cert.AdamPleIdeal.τ).loc Cert.AdamPleIdeal.main_arg2)
      ∧ m' ((c.tc : Thread Cert.AdamPleRefIdeal.nD Cert.AdamPleRefIdeal.τ).loc Cert.AdamPleRefIdeal.main_arg3) = m ((c.tc : Thread Cert.AdamPleIdeal.nD Cert.AdamPleIdeal.τ).loc Cert.AdamPleIdeal.main_arg3)
      ∧ m' ((c.tc : Thread Cert.AdamPleRefIdeal.nD Cert.AdamPleRefIdeal.τ).loc Cert.AdamPleRefIdeal.main_arg4) = m ((c.tc : Thread Cert.AdamPleIdeal.nD Cert.AdamPleIdeal.τ).loc Cert.AdamPleIdeal.main_arg4)) →
    ∃ (v0 : (c : Dev Cert.AdamPleIdeal.nD) → Buf (Elt Ideal) ((c.tc : Thread Cert.AdamPleIdeal.nD Cert.AdamPleIdeal.τ).loc Cert.AdamPleIdeal.main_v0_0)) (v1 : (c : Dev Cert.AdamPleIdeal.nD) → Buf (Elt Ideal) ((c.tc : Thread Cert.AdamPleIdeal.nD Cert.AdamPleIdeal.τ).loc Cert.AdamPleIdeal.main_v0_1)) (v2 : (c : Dev Cert.AdamPleIdeal.nD) → Buf (Elt Ideal) ((c.tc : Thread Cert.AdamPleIdeal.nD Cert.AdamPleIdeal.τ).loc Cert.AdamPleIdeal.main_v0_2)) (v3 : (c : Dev Cert.AdamPleIdeal.nD) → Buf (Elt Ideal) ((c.tc : Thread Cert.AdamPleIdeal.nD Cert.AdamPleIdeal.τ).loc Cert.AdamPleIdeal.main_v0_3)),
      θ_run (Cert.AdamPleIdeal.defs (F := Ideal)) (onTc (τ := Cert.AdamPleIdeal.τ) (Cert.AdamPleIdeal.main (F := Ideal))) ⟨m, fun _ => 0, g⟩ (fun r => ∀ c : Dev Cert.AdamPleIdeal.nD,
          r.2.mem ((c.tc : Thread Cert.AdamPleIdeal.nD Cert.AdamPleIdeal.τ).loc Cert.AdamPleIdeal.main_v0_0) = v0 c
          ∧ r.2.mem ((c.tc : Thread Cert.AdamPleIdeal.nD Cert.AdamPleIdeal.τ).loc Cert.AdamPleIdeal.main_v0_1) = v1 c
          ∧ r.2.mem ((c.tc : Thread Cert.AdamPleIdeal.nD Cert.AdamPleIdeal.τ).loc Cert.AdamPleIdeal.main_v0_2) = v2 c
          ∧ r.2.mem ((c.tc : Thread Cert.AdamPleIdeal.nD Cert.AdamPleIdeal.τ).loc Cert.AdamPleIdeal.main_v0_3) = v3 c
          ∧ r.2.mem ((c.tc : Thread Cert.AdamPleIdeal.nD Cert.AdamPleIdeal.τ).loc Cert.AdamPleIdeal.main_arg0) = m ((c.tc : Thread Cert.AdamPleIdeal.nD Cert.AdamPleIdeal.τ).loc Cert.AdamPleIdeal.main_arg0)
          ∧ r.2.mem ((c.tc : Thread Cert.AdamPleIdeal.nD Cert.AdamPleIdeal.τ).loc Cert.AdamPleIdeal.main_arg1) = m ((c.tc : Thread Cert.AdamPleIdeal.nD Cert.AdamPleIdeal.τ).loc Cert.AdamPleIdeal.main_arg1)
          ∧ r.2.mem ((c.tc : Thread Cert.AdamPleIdeal.nD Cert.AdamPleIdeal.τ).loc Cert.AdamPleIdeal.main_arg2) = m ((c.tc : Thread Cert.AdamPleIdeal.nD Cert.AdamPleIdeal.τ).loc Cert.AdamPleIdeal.main_arg2)
          ∧ r.2.mem ((c.tc : Thread Cert.AdamPleIdeal.nD Cert.AdamPleIdeal.τ).loc Cert.AdamPleIdeal.main_arg3) = m ((c.tc : Thread Cert.AdamPleIdeal.nD Cert.AdamPleIdeal.τ).loc Cert.AdamPleIdeal.main_arg3)
          ∧ r.2.mem ((c.tc : Thread Cert.AdamPleIdeal.nD Cert.AdamPleIdeal.τ).loc Cert.AdamPleIdeal.main_arg4) = m ((c.tc : Thread Cert.AdamPleIdeal.nD Cert.AdamPleIdeal.τ).loc Cert.AdamPleIdeal.main_arg4))
      ∧ θ_run (Cert.AdamPleRefIdeal.defs (F := Ideal)) (onTc (τ := Cert.AdamPleRefIdeal.τ) (Cert.AdamPleRefIdeal.main (F := Ideal))) ⟨m', fun _ => 0, g'⟩ (fun r => ∀ c : Dev Cert.AdamPleRefIdeal.nD,
          r.2.mem ((c.tc : Thread Cert.AdamPleRefIdeal.nD Cert.AdamPleRefIdeal.τ).loc Cert.AdamPleRefIdeal.main_v3) = v0 c
          ∧ r.2.mem ((c.tc : Thread Cert.AdamPleRefIdeal.nD Cert.AdamPleRefIdeal.τ).loc Cert.AdamPleRefIdeal.main_v27) = v1 c
          ∧ r.2.mem ((c.tc : Thread Cert.AdamPleRefIdeal.nD Cert.AdamPleRefIdeal.τ).loc Cert.AdamPleRefIdeal.main_v8) = v2 c
          ∧ r.2.mem ((c.tc : Thread Cert.AdamPleRefIdeal.nD Cert.AdamPleRefIdeal.τ).loc Cert.AdamPleRefIdeal.main_v14) = v3 c
          ∧ r.2.mem ((c.tc : Thread Cert.AdamPleRefIdeal.nD Cert.AdamPleRefIdeal.τ).loc Cert.AdamPleRefIdeal.main_arg0) = m' ((c.tc : Thread Cert.AdamPleRefIdeal.nD Cert.AdamPleRefIdeal.τ).loc Cert.AdamPleRefIdeal.main_arg0)
          ∧ r.2.mem ((c.tc : Thread Cert.AdamPleRefIdeal.nD Cert.AdamPleRefIdeal.τ).loc Cert.AdamPleRefIdeal.main_arg1) = m' ((c.tc : Thread Cert.AdamPleRefIdeal.nD Cert.AdamPleRefIdeal.τ).loc Cert.AdamPleRefIdeal.main_arg1)
          ∧ r.2.mem ((c.tc : Thread Cert.AdamPleRefIdeal.nD Cert.AdamPleRefIdeal.τ).loc Cert.AdamPleRefIdeal.main_arg2) = m' ((c.tc : Thread Cert.AdamPleRefIdeal.nD Cert.AdamPleRefIdeal.τ).loc Cert.AdamPleRefIdeal.main_arg2)
          ∧ r.2.mem ((c.tc : Thread Cert.AdamPleRefIdeal.nD Cert.AdamPleRefIdeal.τ).loc Cert.AdamPleRefIdeal.main_arg3) = m' ((c.tc : Thread Cert.AdamPleRefIdeal.nD Cert.AdamPleRefIdeal.τ).loc Cert.AdamPleRefIdeal.main_arg3)
          ∧ r.2.mem ((c.tc : Thread Cert.AdamPleRefIdeal.nD Cert.AdamPleRefIdeal.τ).loc Cert.AdamPleRefIdeal.main_arg4) = m' ((c.tc : Thread Cert.AdamPleRefIdeal.nD Cert.AdamPleRefIdeal.τ).loc Cert.AdamPleRefIdeal.main_arg4))

def preserves_AdamPleGate_AdamPleGateIdeal : Prop :=
  True

def algebraic_AdamPleGateIdeal_AdamPleGateRefIdeal [hAdamPleGateIdeal : Cert.AdamPleGateIdeal.Facts] [hAdamPleGateRefIdeal : Cert.AdamPleGateRefIdeal.Facts] : Prop :=
  ∀ (m : (ℓ : Loc Cert.AdamPleGateIdeal.nD Cert.AdamPleGateIdeal.τ Cert.AdamPleGateIdeal.sig) → Buf (Elt Ideal) ℓ) (g : Dev Cert.AdamPleGateIdeal.nD → PrngReg)
    (m' : (ℓ : Loc Cert.AdamPleGateRefIdeal.nD Cert.AdamPleGateRefIdeal.τ Cert.AdamPleGateRefIdeal.sig) → Buf (Elt Ideal) ℓ) (g' : Dev Cert.AdamPleGateRefIdeal.nD → PrngReg), Pre_AdamPleGateIdeal m →
    (∀ c : Dev Cert.AdamPleGateIdeal.nD,
      m' ((c.tc : Thread Cert.AdamPleGateRefIdeal.nD Cert.AdamPleGateRefIdeal.τ).loc Cert.AdamPleGateRefIdeal.main_arg0) = m ((c.tc : Thread Cert.AdamPleGateIdeal.nD Cert.AdamPleGateIdeal.τ).loc Cert.AdamPleGateIdeal.main_arg0)
      ∧ m' ((c.tc : Thread Cert.AdamPleGateRefIdeal.nD Cert.AdamPleGateRefIdeal.τ).loc Cert.AdamPleGateRefIdeal.main_arg1) = m ((c.tc : Thread Cert.AdamPleGateIdeal.nD Cert.AdamPleGateIdeal.τ).loc Cert.AdamPleGateIdeal.main_arg1)
      ∧ m' ((c.tc : Thread Cert.AdamPleGateRefIdeal.nD Cert.AdamPleGateRefIdeal.τ).loc Cert.AdamPleGateRefIdeal.main_arg2) = m ((c.tc : Thread Cert.AdamPleGateIdeal.nD Cert.AdamPleGateIdeal.τ).loc Cert.AdamPleGateIdeal.main_arg2)
      ∧ m' ((c.tc : Thread Cert.AdamPleGateRefIdeal.nD Cert.AdamPleGateRefIdeal.τ).loc Cert.AdamPleGateRefIdeal.main_arg3) = m ((c.tc : Thread Cert.AdamPleGateIdeal.nD Cert.AdamPleGateIdeal.τ).loc Cert.AdamPleGateIdeal.main_arg3)
      ∧ m' ((c.tc : Thread Cert.AdamPleGateRefIdeal.nD Cert.AdamPleGateRefIdeal.τ).loc Cert.AdamPleGateRefIdeal.main_arg4) = m ((c.tc : Thread Cert.AdamPleGateIdeal.nD Cert.AdamPleGateIdeal.τ).loc Cert.AdamPleGateIdeal.main_arg4)) →
    ∃ (v0 : (c : Dev Cert.AdamPleGateIdeal.nD) → Buf (Elt Ideal) ((c.tc : Thread Cert.AdamPleGateIdeal.nD Cert.AdamPleGateIdeal.τ).loc Cert.AdamPleGateIdeal.main_v0_0)) (v1 : (c : Dev Cert.AdamPleGateIdeal.nD) → Buf (Elt Ideal) ((c.tc : Thread Cert.AdamPleGateIdeal.nD Cert.AdamPleGateIdeal.τ).loc Cert.AdamPleGateIdeal.main_v0_1)) (v2 : (c : Dev Cert.AdamPleGateIdeal.nD) → Buf (Elt Ideal) ((c.tc : Thread Cert.AdamPleGateIdeal.nD Cert.AdamPleGateIdeal.τ).loc Cert.AdamPleGateIdeal.main_v0_2)) (v3 : (c : Dev Cert.AdamPleGateIdeal.nD) → Buf (Elt Ideal) ((c.tc : Thread Cert.AdamPleGateIdeal.nD Cert.AdamPleGateIdeal.τ).loc Cert.AdamPleGateIdeal.main_v0_3)),
      θ_run (Cert.AdamPleGateIdeal.defs (F := Ideal)) (onTc (τ := Cert.AdamPleGateIdeal.τ) (Cert.AdamPleGateIdeal.main (F := Ideal))) ⟨m, fun _ => 0, g⟩ (fun r => ∀ c : Dev Cert.AdamPleGateIdeal.nD,
          r.2.mem ((c.tc : Thread Cert.AdamPleGateIdeal.nD Cert.AdamPleGateIdeal.τ).loc Cert.AdamPleGateIdeal.main_v0_0) = v0 c
          ∧ r.2.mem ((c.tc : Thread Cert.AdamPleGateIdeal.nD Cert.AdamPleGateIdeal.τ).loc Cert.AdamPleGateIdeal.main_v0_1) = v1 c
          ∧ r.2.mem ((c.tc : Thread Cert.AdamPleGateIdeal.nD Cert.AdamPleGateIdeal.τ).loc Cert.AdamPleGateIdeal.main_v0_2) = v2 c
          ∧ r.2.mem ((c.tc : Thread Cert.AdamPleGateIdeal.nD Cert.AdamPleGateIdeal.τ).loc Cert.AdamPleGateIdeal.main_v0_3) = v3 c
          ∧ r.2.mem ((c.tc : Thread Cert.AdamPleGateIdeal.nD Cert.AdamPleGateIdeal.τ).loc Cert.AdamPleGateIdeal.main_arg0) = m ((c.tc : Thread Cert.AdamPleGateIdeal.nD Cert.AdamPleGateIdeal.τ).loc Cert.AdamPleGateIdeal.main_arg0)
          ∧ r.2.mem ((c.tc : Thread Cert.AdamPleGateIdeal.nD Cert.AdamPleGateIdeal.τ).loc Cert.AdamPleGateIdeal.main_arg1) = m ((c.tc : Thread Cert.AdamPleGateIdeal.nD Cert.AdamPleGateIdeal.τ).loc Cert.AdamPleGateIdeal.main_arg1)
          ∧ r.2.mem ((c.tc : Thread Cert.AdamPleGateIdeal.nD Cert.AdamPleGateIdeal.τ).loc Cert.AdamPleGateIdeal.main_arg2) = m ((c.tc : Thread Cert.AdamPleGateIdeal.nD Cert.AdamPleGateIdeal.τ).loc Cert.AdamPleGateIdeal.main_arg2)
          ∧ r.2.mem ((c.tc : Thread Cert.AdamPleGateIdeal.nD Cert.AdamPleGateIdeal.τ).loc Cert.AdamPleGateIdeal.main_arg3) = m ((c.tc : Thread Cert.AdamPleGateIdeal.nD Cert.AdamPleGateIdeal.τ).loc Cert.AdamPleGateIdeal.main_arg3)
          ∧ r.2.mem ((c.tc : Thread Cert.AdamPleGateIdeal.nD Cert.AdamPleGateIdeal.τ).loc Cert.AdamPleGateIdeal.main_arg4) = m ((c.tc : Thread Cert.AdamPleGateIdeal.nD Cert.AdamPleGateIdeal.τ).loc Cert.AdamPleGateIdeal.main_arg4))
      ∧ θ_run (Cert.AdamPleGateRefIdeal.defs (F := Ideal)) (onTc (τ := Cert.AdamPleGateRefIdeal.τ) (Cert.AdamPleGateRefIdeal.main (F := Ideal))) ⟨m', fun _ => 0, g'⟩ (fun r => ∀ c : Dev Cert.AdamPleGateRefIdeal.nD,
          r.2.mem ((c.tc : Thread Cert.AdamPleGateRefIdeal.nD Cert.AdamPleGateRefIdeal.τ).loc Cert.AdamPleGateRefIdeal.main_v3) = v0 c
          ∧ r.2.mem ((c.tc : Thread Cert.AdamPleGateRefIdeal.nD Cert.AdamPleGateRefIdeal.τ).loc Cert.AdamPleGateRefIdeal.main_v27) = v1 c
          ∧ r.2.mem ((c.tc : Thread Cert.AdamPleGateRefIdeal.nD Cert.AdamPleGateRefIdeal.τ).loc Cert.AdamPleGateRefIdeal.main_v8) = v2 c
          ∧ r.2.mem ((c.tc : Thread Cert.AdamPleGateRefIdeal.nD Cert.AdamPleGateRefIdeal.τ).loc Cert.AdamPleGateRefIdeal.main_v14) = v3 c
          ∧ r.2.mem ((c.tc : Thread Cert.AdamPleGateRefIdeal.nD Cert.AdamPleGateRefIdeal.τ).loc Cert.AdamPleGateRefIdeal.main_arg0) = m' ((c.tc : Thread Cert.AdamPleGateRefIdeal.nD Cert.AdamPleGateRefIdeal.τ).loc Cert.AdamPleGateRefIdeal.main_arg0)
          ∧ r.2.mem ((c.tc : Thread Cert.AdamPleGateRefIdeal.nD Cert.AdamPleGateRefIdeal.τ).loc Cert.AdamPleGateRefIdeal.main_arg1) = m' ((c.tc : Thread Cert.AdamPleGateRefIdeal.nD Cert.AdamPleGateRefIdeal.τ).loc Cert.AdamPleGateRefIdeal.main_arg1)
          ∧ r.2.mem ((c.tc : Thread Cert.AdamPleGateRefIdeal.nD Cert.AdamPleGateRefIdeal.τ).loc Cert.AdamPleGateRefIdeal.main_arg2) = m' ((c.tc : Thread Cert.AdamPleGateRefIdeal.nD Cert.AdamPleGateRefIdeal.τ).loc Cert.AdamPleGateRefIdeal.main_arg2)
          ∧ r.2.mem ((c.tc : Thread Cert.AdamPleGateRefIdeal.nD Cert.AdamPleGateRefIdeal.τ).loc Cert.AdamPleGateRefIdeal.main_arg3) = m' ((c.tc : Thread Cert.AdamPleGateRefIdeal.nD Cert.AdamPleGateRefIdeal.τ).loc Cert.AdamPleGateRefIdeal.main_arg3)
          ∧ r.2.mem ((c.tc : Thread Cert.AdamPleGateRefIdeal.nD Cert.AdamPleGateRefIdeal.τ).loc Cert.AdamPleGateRefIdeal.main_arg4) = m' ((c.tc : Thread Cert.AdamPleGateRefIdeal.nD Cert.AdamPleGateRefIdeal.τ).loc Cert.AdamPleGateRefIdeal.main_arg4))

def preserves_AdamRows_AdamRowsIdeal : Prop :=
  True

def algebraic_AdamRowsIdeal_AdamRowsRefIdeal [hAdamRowsIdeal : Cert.AdamRowsIdeal.Facts] [hAdamRowsRefIdeal : Cert.AdamRowsRefIdeal.Facts] : Prop :=
  ∀ (m : (ℓ : Loc Cert.AdamRowsIdeal.nD Cert.AdamRowsIdeal.τ Cert.AdamRowsIdeal.sig) → Buf (Elt Ideal) ℓ) (g : Dev Cert.AdamRowsIdeal.nD → PrngReg)
    (m' : (ℓ : Loc Cert.AdamRowsRefIdeal.nD Cert.AdamRowsRefIdeal.τ Cert.AdamRowsRefIdeal.sig) → Buf (Elt Ideal) ℓ) (g' : Dev Cert.AdamRowsRefIdeal.nD → PrngReg), Pre_AdamRowsIdeal m →
    (∀ c : Dev Cert.AdamRowsIdeal.nD,
      m' ((c.tc : Thread Cert.AdamRowsRefIdeal.nD Cert.AdamRowsRefIdeal.τ).loc Cert.AdamRowsRefIdeal.main_arg0) = m ((c.tc : Thread Cert.AdamRowsIdeal.nD Cert.AdamRowsIdeal.τ).loc Cert.AdamRowsIdeal.main_arg0)
      ∧ m' ((c.tc : Thread Cert.AdamRowsRefIdeal.nD Cert.AdamRowsRefIdeal.τ).loc Cert.AdamRowsRefIdeal.main_arg1) = m ((c.tc : Thread Cert.AdamRowsIdeal.nD Cert.AdamRowsIdeal.τ).loc Cert.AdamRowsIdeal.main_arg1)
      ∧ m' ((c.tc : Thread Cert.AdamRowsRefIdeal.nD Cert.AdamRowsRefIdeal.τ).loc Cert.AdamRowsRefIdeal.main_arg2) = m ((c.tc : Thread Cert.AdamRowsIdeal.nD Cert.AdamRowsIdeal.τ).loc Cert.AdamRowsIdeal.main_arg2)
      ∧ m' ((c.tc : Thread Cert.AdamRowsRefIdeal.nD Cert.AdamRowsRefIdeal.τ).loc Cert.AdamRowsRefIdeal.main_arg3) = m ((c.tc : Thread Cert.AdamRowsIdeal.nD Cert.AdamRowsIdeal.τ).loc Cert.AdamRowsIdeal.main_arg3)
      ∧ m' ((c.tc : Thread Cert.AdamRowsRefIdeal.nD Cert.AdamRowsRefIdeal.τ).loc Cert.AdamRowsRefIdeal.main_arg4) = m ((c.tc : Thread Cert.AdamRowsIdeal.nD Cert.AdamRowsIdeal.τ).loc Cert.AdamRowsIdeal.main_arg4)
      ∧ m' ((c.tc : Thread Cert.AdamRowsRefIdeal.nD Cert.AdamRowsRefIdeal.τ).loc Cert.AdamRowsRefIdeal.main_arg5) = m ((c.tc : Thread Cert.AdamRowsIdeal.nD Cert.AdamRowsIdeal.τ).loc Cert.AdamRowsIdeal.main_arg5)
      ∧ m' ((c.tc : Thread Cert.AdamRowsRefIdeal.nD Cert.AdamRowsRefIdeal.τ).loc Cert.AdamRowsRefIdeal.main_arg6) = m ((c.tc : Thread Cert.AdamRowsIdeal.nD Cert.AdamRowsIdeal.τ).loc Cert.AdamRowsIdeal.main_arg6)
      ∧ m' ((c.tc : Thread Cert.AdamRowsRefIdeal.nD Cert.AdamRowsRefIdeal.τ).loc Cert.AdamRowsRefIdeal.main_arg7) = m ((c.tc : Thread Cert.AdamRowsIdeal.nD Cert.AdamRowsIdeal.τ).loc Cert.AdamRowsIdeal.main_arg7)
      ∧ m' ((c.tc : Thread Cert.AdamRowsRefIdeal.nD Cert.AdamRowsRefIdeal.τ).loc Cert.AdamRowsRefIdeal.main_arg8) = m ((c.tc : Thread Cert.AdamRowsIdeal.nD Cert.AdamRowsIdeal.τ).loc Cert.AdamRowsIdeal.main_arg8)
      ∧ m' ((c.tc : Thread Cert.AdamRowsRefIdeal.nD Cert.AdamRowsRefIdeal.τ).loc Cert.AdamRowsRefIdeal.main_arg9) = m ((c.tc : Thread Cert.AdamRowsIdeal.nD Cert.AdamRowsIdeal.τ).loc Cert.AdamRowsIdeal.main_arg9)
      ∧ m' ((c.tc : Thread Cert.AdamRowsRefIdeal.nD Cert.AdamRowsRefIdeal.τ).loc Cert.AdamRowsRefIdeal.main_arg10) = m ((c.tc : Thread Cert.AdamRowsIdeal.nD Cert.AdamRowsIdeal.τ).loc Cert.AdamRowsIdeal.main_arg10)
      ∧ m' ((c.tc : Thread Cert.AdamRowsRefIdeal.nD Cert.AdamRowsRefIdeal.τ).loc Cert.AdamRowsRefIdeal.main_arg11) = m ((c.tc : Thread Cert.AdamRowsIdeal.nD Cert.AdamRowsIdeal.τ).loc Cert.AdamRowsIdeal.main_arg11)
      ∧ m' ((c.tc : Thread Cert.AdamRowsRefIdeal.nD Cert.AdamRowsRefIdeal.τ).loc Cert.AdamRowsRefIdeal.main_arg12) = m ((c.tc : Thread Cert.AdamRowsIdeal.nD Cert.AdamRowsIdeal.τ).loc Cert.AdamRowsIdeal.main_arg12)
      ∧ m' ((c.tc : Thread Cert.AdamRowsRefIdeal.nD Cert.AdamRowsRefIdeal.τ).loc Cert.AdamRowsRefIdeal.main_arg13) = m ((c.tc : Thread Cert.AdamRowsIdeal.nD Cert.AdamRowsIdeal.τ).loc Cert.AdamRowsIdeal.main_arg13)
      ∧ m' ((c.tc : Thread Cert.AdamRowsRefIdeal.nD Cert.AdamRowsRefIdeal.τ).loc Cert.AdamRowsRefIdeal.main_arg14) = m ((c.tc : Thread Cert.AdamRowsIdeal.nD Cert.AdamRowsIdeal.τ).loc Cert.AdamRowsIdeal.main_arg14)
      ∧ m' ((c.tc : Thread Cert.AdamRowsRefIdeal.nD Cert.AdamRowsRefIdeal.τ).loc Cert.AdamRowsRefIdeal.main_arg15) = m ((c.tc : Thread Cert.AdamRowsIdeal.nD Cert.AdamRowsIdeal.τ).loc Cert.AdamRowsIdeal.main_arg15)
      ∧ m' ((c.tc : Thread Cert.AdamRowsRefIdeal.nD Cert.AdamRowsRefIdeal.τ).loc Cert.AdamRowsRefIdeal.main_arg16) = m ((c.tc : Thread Cert.AdamRowsIdeal.nD Cert.AdamRowsIdeal.τ).loc Cert.AdamRowsIdeal.main_arg16)
      ∧ m' ((c.tc : Thread Cert.AdamRowsRefIdeal.nD Cert.AdamRowsRefIdeal.τ).loc Cert.AdamRowsRefIdeal.main_arg17) = m ((c.tc : Thread Cert.AdamRowsIdeal.nD Cert.AdamRowsIdeal.τ).loc Cert.AdamRowsIdeal.main_arg17)
      ∧ m' ((c.tc : Thread Cert.AdamRowsRefIdeal.nD Cert.AdamRowsRefIdeal.τ).loc Cert.AdamRowsRefIdeal.main_arg18) = m ((c.tc : Thread Cert.AdamRowsIdeal.nD Cert.AdamRowsIdeal.τ).loc Cert.AdamRowsIdeal.main_arg18)
      ∧ m' ((c.tc : Thread Cert.AdamRowsRefIdeal.nD Cert.AdamRowsRefIdeal.τ).loc Cert.AdamRowsRefIdeal.main_arg19) = m ((c.tc : Thread Cert.AdamRowsIdeal.nD Cert.AdamRowsIdeal.τ).loc Cert.AdamRowsIdeal.main_arg19)
      ∧ m' ((c.tc : Thread Cert.AdamRowsRefIdeal.nD Cert.AdamRowsRefIdeal.τ).loc Cert.AdamRowsRefIdeal.main_arg20) = m ((c.tc : Thread Cert.AdamRowsIdeal.nD Cert.AdamRowsIdeal.τ).loc Cert.AdamRowsIdeal.main_arg20)
      ∧ m' ((c.tc : Thread Cert.AdamRowsRefIdeal.nD Cert.AdamRowsRefIdeal.τ).loc Cert.AdamRowsRefIdeal.main_arg21) = m ((c.tc : Thread Cert.AdamRowsIdeal.nD Cert.AdamRowsIdeal.τ).loc Cert.AdamRowsIdeal.main_arg21)
      ∧ m' ((c.tc : Thread Cert.AdamRowsRefIdeal.nD Cert.AdamRowsRefIdeal.τ).loc Cert.AdamRowsRefIdeal.main_arg22) = m ((c.tc : Thread Cert.AdamRowsIdeal.nD Cert.AdamRowsIdeal.τ).loc Cert.AdamRowsIdeal.main_arg22)
      ∧ m' ((c.tc : Thread Cert.AdamRowsRefIdeal.nD Cert.AdamRowsRefIdeal.τ).loc Cert.AdamRowsRefIdeal.main_arg23) = m ((c.tc : Thread Cert.AdamRowsIdeal.nD Cert.AdamRowsIdeal.τ).loc Cert.AdamRowsIdeal.main_arg23)
      ∧ m' ((c.tc : Thread Cert.AdamRowsRefIdeal.nD Cert.AdamRowsRefIdeal.τ).loc Cert.AdamRowsRefIdeal.main_arg24) = m ((c.tc : Thread Cert.AdamRowsIdeal.nD Cert.AdamRowsIdeal.τ).loc Cert.AdamRowsIdeal.main_arg24)
      ∧ m' ((c.tc : Thread Cert.AdamRowsRefIdeal.nD Cert.AdamRowsRefIdeal.τ).loc Cert.AdamRowsRefIdeal.main_arg25) = m ((c.tc : Thread Cert.AdamRowsIdeal.nD Cert.AdamRowsIdeal.τ).loc Cert.AdamRowsIdeal.main_arg25)
      ∧ m' ((c.tc : Thread Cert.AdamRowsRefIdeal.nD Cert.AdamRowsRefIdeal.τ).loc Cert.AdamRowsRefIdeal.main_arg26) = m ((c.tc : Thread Cert.AdamRowsIdeal.nD Cert.AdamRowsIdeal.τ).loc Cert.AdamRowsIdeal.main_arg26)
      ∧ m' ((c.tc : Thread Cert.AdamRowsRefIdeal.nD Cert.AdamRowsRefIdeal.τ).loc Cert.AdamRowsRefIdeal.main_arg27) = m ((c.tc : Thread Cert.AdamRowsIdeal.nD Cert.AdamRowsIdeal.τ).loc Cert.AdamRowsIdeal.main_arg27)
      ∧ m' ((c.tc : Thread Cert.AdamRowsRefIdeal.nD Cert.AdamRowsRefIdeal.τ).loc Cert.AdamRowsRefIdeal.main_arg28) = m ((c.tc : Thread Cert.AdamRowsIdeal.nD Cert.AdamRowsIdeal.τ).loc Cert.AdamRowsIdeal.main_arg28)
      ∧ m' ((c.tc : Thread Cert.AdamRowsRefIdeal.nD Cert.AdamRowsRefIdeal.τ).loc Cert.AdamRowsRefIdeal.main_arg29) = m ((c.tc : Thread Cert.AdamRowsIdeal.nD Cert.AdamRowsIdeal.τ).loc Cert.AdamRowsIdeal.main_arg29)
      ∧ m' ((c.tc : Thread Cert.AdamRowsRefIdeal.nD Cert.AdamRowsRefIdeal.τ).loc Cert.AdamRowsRefIdeal.main_arg30) = m ((c.tc : Thread Cert.AdamRowsIdeal.nD Cert.AdamRowsIdeal.τ).loc Cert.AdamRowsIdeal.main_arg30)
      ∧ m' ((c.tc : Thread Cert.AdamRowsRefIdeal.nD Cert.AdamRowsRefIdeal.τ).loc Cert.AdamRowsRefIdeal.main_arg31) = m ((c.tc : Thread Cert.AdamRowsIdeal.nD Cert.AdamRowsIdeal.τ).loc Cert.AdamRowsIdeal.main_arg31)
      ∧ m' ((c.tc : Thread Cert.AdamRowsRefIdeal.nD Cert.AdamRowsRefIdeal.τ).loc Cert.AdamRowsRefIdeal.main_arg32) = m ((c.tc : Thread Cert.AdamRowsIdeal.nD Cert.AdamRowsIdeal.τ).loc Cert.AdamRowsIdeal.main_arg32)
      ∧ m' ((c.tc : Thread Cert.AdamRowsRefIdeal.nD Cert.AdamRowsRefIdeal.τ).loc Cert.AdamRowsRefIdeal.main_arg33) = m ((c.tc : Thread Cert.AdamRowsIdeal.nD Cert.AdamRowsIdeal.τ).loc Cert.AdamRowsIdeal.main_arg33)
      ∧ m' ((c.tc : Thread Cert.AdamRowsRefIdeal.nD Cert.AdamRowsRefIdeal.τ).loc Cert.AdamRowsRefIdeal.main_arg34) = m ((c.tc : Thread Cert.AdamRowsIdeal.nD Cert.AdamRowsIdeal.τ).loc Cert.AdamRowsIdeal.main_arg34)
      ∧ m' ((c.tc : Thread Cert.AdamRowsRefIdeal.nD Cert.AdamRowsRefIdeal.τ).loc Cert.AdamRowsRefIdeal.main_arg35) = m ((c.tc : Thread Cert.AdamRowsIdeal.nD Cert.AdamRowsIdeal.τ).loc Cert.AdamRowsIdeal.main_arg35)
      ∧ m' ((c.tc : Thread Cert.AdamRowsRefIdeal.nD Cert.AdamRowsRefIdeal.τ).loc Cert.AdamRowsRefIdeal.main_arg36) = m ((c.tc : Thread Cert.AdamRowsIdeal.nD Cert.AdamRowsIdeal.τ).loc Cert.AdamRowsIdeal.main_arg36)
      ∧ m' ((c.tc : Thread Cert.AdamRowsRefIdeal.nD Cert.AdamRowsRefIdeal.τ).loc Cert.AdamRowsRefIdeal.main_arg37) = m ((c.tc : Thread Cert.AdamRowsIdeal.nD Cert.AdamRowsIdeal.τ).loc Cert.AdamRowsIdeal.main_arg37)
      ∧ m' ((c.tc : Thread Cert.AdamRowsRefIdeal.nD Cert.AdamRowsRefIdeal.τ).loc Cert.AdamRowsRefIdeal.main_arg38) = m ((c.tc : Thread Cert.AdamRowsIdeal.nD Cert.AdamRowsIdeal.τ).loc Cert.AdamRowsIdeal.main_arg38)
      ∧ m' ((c.tc : Thread Cert.AdamRowsRefIdeal.nD Cert.AdamRowsRefIdeal.τ).loc Cert.AdamRowsRefIdeal.main_arg39) = m ((c.tc : Thread Cert.AdamRowsIdeal.nD Cert.AdamRowsIdeal.τ).loc Cert.AdamRowsIdeal.main_arg39)
      ∧ m' ((c.tc : Thread Cert.AdamRowsRefIdeal.nD Cert.AdamRowsRefIdeal.τ).loc Cert.AdamRowsRefIdeal.main_arg40) = m ((c.tc : Thread Cert.AdamRowsIdeal.nD Cert.AdamRowsIdeal.τ).loc Cert.AdamRowsIdeal.main_arg40)
      ∧ m' ((c.tc : Thread Cert.AdamRowsRefIdeal.nD Cert.AdamRowsRefIdeal.τ).loc Cert.AdamRowsRefIdeal.main_arg41) = m ((c.tc : Thread Cert.AdamRowsIdeal.nD Cert.AdamRowsIdeal.τ).loc Cert.AdamRowsIdeal.main_arg41)
      ∧ m' ((c.tc : Thread Cert.AdamRowsRefIdeal.nD Cert.AdamRowsRefIdeal.τ).loc Cert.AdamRowsRefIdeal.main_arg42) = m ((c.tc : Thread Cert.AdamRowsIdeal.nD Cert.AdamRowsIdeal.τ).loc Cert.AdamRowsIdeal.main_arg42)
      ∧ m' ((c.tc : Thread Cert.AdamRowsRefIdeal.nD Cert.AdamRowsRefIdeal.τ).loc Cert.AdamRowsRefIdeal.main_arg43) = m ((c.tc : Thread Cert.AdamRowsIdeal.nD Cert.AdamRowsIdeal.τ).loc Cert.AdamRowsIdeal.main_arg43)
      ∧ m' ((c.tc : Thread Cert.AdamRowsRefIdeal.nD Cert.AdamRowsRefIdeal.τ).loc Cert.AdamRowsRefIdeal.main_arg44) = m ((c.tc : Thread Cert.AdamRowsIdeal.nD Cert.AdamRowsIdeal.τ).loc Cert.AdamRowsIdeal.main_arg44)) →
    ∃ (v0 : (c : Dev Cert.AdamRowsIdeal.nD) → Buf (Elt Ideal) ((c.tc : Thread Cert.AdamRowsIdeal.nD Cert.AdamRowsIdeal.τ).loc Cert.AdamRowsIdeal.main_v9_0)) (v1 : (c : Dev Cert.AdamRowsIdeal.nD) → Buf (Elt Ideal) ((c.tc : Thread Cert.AdamRowsIdeal.nD Cert.AdamRowsIdeal.τ).loc Cert.AdamRowsIdeal.main_v9_11)) (v2 : (c : Dev Cert.AdamRowsIdeal.nD) → Buf (Elt Ideal) ((c.tc : Thread Cert.AdamRowsIdeal.nD Cert.AdamRowsIdeal.τ).loc Cert.AdamRowsIdeal.main_v9_22)) (v3 : (c : Dev Cert.AdamRowsIdeal.nD) → Buf (Elt Ideal) ((c.tc : Thread Cert.AdamRowsIdeal.nD Cert.AdamRowsIdeal.τ).loc Cert.AdamRowsIdeal.main_v9_33)) (v4 : (c : Dev Cert.AdamRowsIdeal.nD) → Buf (Elt Ideal) ((c.tc : Thread Cert.AdamRowsIdeal.nD Cert.AdamRowsIdeal.τ).loc Cert.AdamRowsIdeal.main_v9_1)) (v5 : (c : Dev Cert.AdamRowsIdeal.nD) → Buf (Elt Ideal) ((c.tc : Thread Cert.AdamRowsIdeal.nD Cert.AdamRowsIdeal.τ).loc Cert.AdamRowsIdeal.main_v9_12)) (v6 : (c : Dev Cert.AdamRowsIdeal.nD) → Buf (Elt Ideal) ((c.tc : Thread Cert.AdamRowsIdeal.nD Cert.AdamRowsIdeal.τ).loc Cert.AdamRowsIdeal.main_v9_23)) (v7 : (c : Dev Cert.AdamRowsIdeal.nD) → Buf (Elt Ideal) ((c.tc : Thread Cert.AdamRowsIdeal.nD Cert.AdamRowsIdeal.τ).loc Cert.AdamRowsIdeal.main_v9_34)) (v8 : (c : Dev Cert.AdamRowsIdeal.nD) → Buf (Elt Ideal) ((c.tc : Thread Cert.AdamRowsIdeal.nD Cert.AdamRowsIdeal.τ).loc Cert.AdamRowsIdeal.main_v9_4)) (v9 : (c : Dev Cert.AdamRowsIdeal.nD) → Buf (Elt Ideal) ((c.tc : Thread Cert.AdamRowsIdeal.nD Cert.AdamRowsIdeal.τ).loc Cert.AdamRowsIdeal.main_v9_15)) (v10 : (c : Dev Cert.AdamRowsIdeal.nD) → Buf (Elt Ideal) ((c.tc : Thread Cert.AdamRowsIdeal.nD Cert.AdamRowsIdeal.τ).loc Cert.AdamRowsIdeal.main_v9_26)) (v11 : (c : Dev Cert.AdamRowsIdeal.nD) → Buf (Elt Ideal) ((c.tc : Thread Cert.AdamRowsIdeal.nD Cert.AdamRowsIdeal.τ).loc Cert.AdamRowsIdeal.main_v9_37)) (v12 : (c : Dev Cert.AdamRowsIdeal.nD) → Buf (Elt Ideal) ((c.tc : Thread Cert.AdamRowsIdeal.nD Cert.AdamRowsIdeal.τ).loc Cert.AdamRowsIdeal.main_v9_9)) (v13 : (c : Dev Cert.AdamRowsIdeal.nD) → Buf (Elt Ideal) ((c.tc : Thread Cert.AdamRowsIdeal.nD Cert.AdamRowsIdeal.τ).loc Cert.AdamRowsIdeal.main_v9_20)) (v14 : (c : Dev Cert.AdamRowsIdeal.nD) → Buf (Elt Ideal) ((c.tc : Thread Cert.AdamRowsIdeal.nD Cert.AdamRowsIdeal.τ).loc Cert.AdamRowsIdeal.main_v9_31)) (v15 : (c : Dev Cert.AdamRowsIdeal.nD) → Buf (Elt Ideal) ((c.tc : Thread Cert.AdamRowsIdeal.nD Cert.AdamRowsIdeal.τ).loc Cert.AdamRowsIdeal.main_v9_42)) (v16 : (c : Dev Cert.AdamRowsIdeal.nD) → Buf (Elt Ideal) ((c.tc : Thread Cert.AdamRowsIdeal.nD Cert.AdamRowsIdeal.τ).loc Cert.AdamRowsIdeal.main_v9_10)) (v17 : (c : Dev Cert.AdamRowsIdeal.nD) → Buf (Elt Ideal) ((c.tc : Thread Cert.AdamRowsIdeal.nD Cert.AdamRowsIdeal.τ).loc Cert.AdamRowsIdeal.main_v9_21)) (v18 : (c : Dev Cert.AdamRowsIdeal.nD) → Buf (Elt Ideal) ((c.tc : Thread Cert.AdamRowsIdeal.nD Cert.AdamRowsIdeal.τ).loc Cert.AdamRowsIdeal.main_v9_32)) (v19 : (c : Dev Cert.AdamRowsIdeal.nD) → Buf (Elt Ideal) ((c.tc : Thread Cert.AdamRowsIdeal.nD Cert.AdamRowsIdeal.τ).loc Cert.AdamRowsIdeal.main_v9_43)) (v20 : (c : Dev Cert.AdamRowsIdeal.nD) → Buf (Elt Ideal) ((c.tc : Thread Cert.AdamRowsIdeal.nD Cert.AdamRowsIdeal.τ).loc Cert.AdamRowsIdeal.main_v9_44)),
      θ_run (Cert.AdamRowsIdeal.defs (F := Ideal)) (onTc (τ := Cert.AdamRowsIdeal.τ) (Cert.AdamRowsIdeal.main (F := Ideal))) ⟨m, fun _ => 0, g⟩ (fun r => ∀ c : Dev Cert.AdamRowsIdeal.nD,
          r.2.mem ((c.tc : Thread Cert.AdamRowsIdeal.nD Cert.AdamRowsIdeal.τ).loc Cert.AdamRowsIdeal.main_v9_0) = v0 c
          ∧ r.2.mem ((c.tc : Thread Cert.AdamRowsIdeal.nD Cert.AdamRowsIdeal.τ).loc Cert.AdamRowsIdeal.main_v9_11) = v1 c
          ∧ r.2.mem ((c.tc : Thread Cert.AdamRowsIdeal.nD Cert.AdamRowsIdeal.τ).loc Cert.AdamRowsIdeal.main_v9_22) = v2 c
          ∧ r.2.mem ((c.tc : Thread Cert.AdamRowsIdeal.nD Cert.AdamRowsIdeal.τ).loc Cert.AdamRowsIdeal.main_v9_33) = v3 c
          ∧ r.2.mem ((c.tc : Thread Cert.AdamRowsIdeal.nD Cert.AdamRowsIdeal.τ).loc Cert.AdamRowsIdeal.main_v9_1) = v4 c
          ∧ r.2.mem ((c.tc : Thread Cert.AdamRowsIdeal.nD Cert.AdamRowsIdeal.τ).loc Cert.AdamRowsIdeal.main_v9_12) = v5 c
          ∧ r.2.mem ((c.tc : Thread Cert.AdamRowsIdeal.nD Cert.AdamRowsIdeal.τ).loc Cert.AdamRowsIdeal.main_v9_23) = v6 c
          ∧ r.2.mem ((c.tc : Thread Cert.AdamRowsIdeal.nD Cert.AdamRowsIdeal.τ).loc Cert.AdamRowsIdeal.main_v9_34) = v7 c
          ∧ r.2.mem ((c.tc : Thread Cert.AdamRowsIdeal.nD Cert.AdamRowsIdeal.τ).loc Cert.AdamRowsIdeal.main_v9_4) = v8 c
          ∧ r.2.mem ((c.tc : Thread Cert.AdamRowsIdeal.nD Cert.AdamRowsIdeal.τ).loc Cert.AdamRowsIdeal.main_v9_15) = v9 c
          ∧ r.2.mem ((c.tc : Thread Cert.AdamRowsIdeal.nD Cert.AdamRowsIdeal.τ).loc Cert.AdamRowsIdeal.main_v9_26) = v10 c
          ∧ r.2.mem ((c.tc : Thread Cert.AdamRowsIdeal.nD Cert.AdamRowsIdeal.τ).loc Cert.AdamRowsIdeal.main_v9_37) = v11 c
          ∧ r.2.mem ((c.tc : Thread Cert.AdamRowsIdeal.nD Cert.AdamRowsIdeal.τ).loc Cert.AdamRowsIdeal.main_v9_9) = v12 c
          ∧ r.2.mem ((c.tc : Thread Cert.AdamRowsIdeal.nD Cert.AdamRowsIdeal.τ).loc Cert.AdamRowsIdeal.main_v9_20) = v13 c
          ∧ r.2.mem ((c.tc : Thread Cert.AdamRowsIdeal.nD Cert.AdamRowsIdeal.τ).loc Cert.AdamRowsIdeal.main_v9_31) = v14 c
          ∧ r.2.mem ((c.tc : Thread Cert.AdamRowsIdeal.nD Cert.AdamRowsIdeal.τ).loc Cert.AdamRowsIdeal.main_v9_42) = v15 c
          ∧ r.2.mem ((c.tc : Thread Cert.AdamRowsIdeal.nD Cert.AdamRowsIdeal.τ).loc Cert.AdamRowsIdeal.main_v9_10) = v16 c
          ∧ r.2.mem ((c.tc : Thread Cert.AdamRowsIdeal.nD Cert.AdamRowsIdeal.τ).loc Cert.AdamRowsIdeal.main_v9_21) = v17 c
          ∧ r.2.mem ((c.tc : Thread Cert.AdamRowsIdeal.nD Cert.AdamRowsIdeal.τ).loc Cert.AdamRowsIdeal.main_v9_32) = v18 c
          ∧ r.2.mem ((c.tc : Thread Cert.AdamRowsIdeal.nD Cert.AdamRowsIdeal.τ).loc Cert.AdamRowsIdeal.main_v9_43) = v19 c
          ∧ r.2.mem ((c.tc : Thread Cert.AdamRowsIdeal.nD Cert.AdamRowsIdeal.τ).loc Cert.AdamRowsIdeal.main_v9_44) = v20 c
          ∧ r.2.mem ((c.tc : Thread Cert.AdamRowsIdeal.nD Cert.AdamRowsIdeal.τ).loc Cert.AdamRowsIdeal.main_arg0) = m ((c.tc : Thread Cert.AdamRowsIdeal.nD Cert.AdamRowsIdeal.τ).loc Cert.AdamRowsIdeal.main_arg0)
          ∧ r.2.mem ((c.tc : Thread Cert.AdamRowsIdeal.nD Cert.AdamRowsIdeal.τ).loc Cert.AdamRowsIdeal.main_arg1) = m ((c.tc : Thread Cert.AdamRowsIdeal.nD Cert.AdamRowsIdeal.τ).loc Cert.AdamRowsIdeal.main_arg1)
          ∧ r.2.mem ((c.tc : Thread Cert.AdamRowsIdeal.nD Cert.AdamRowsIdeal.τ).loc Cert.AdamRowsIdeal.main_arg2) = m ((c.tc : Thread Cert.AdamRowsIdeal.nD Cert.AdamRowsIdeal.τ).loc Cert.AdamRowsIdeal.main_arg2)
          ∧ r.2.mem ((c.tc : Thread Cert.AdamRowsIdeal.nD Cert.AdamRowsIdeal.τ).loc Cert.AdamRowsIdeal.main_arg3) = m ((c.tc : Thread Cert.AdamRowsIdeal.nD Cert.AdamRowsIdeal.τ).loc Cert.AdamRowsIdeal.main_arg3)
          ∧ r.2.mem ((c.tc : Thread Cert.AdamRowsIdeal.nD Cert.AdamRowsIdeal.τ).loc Cert.AdamRowsIdeal.main_arg4) = m ((c.tc : Thread Cert.AdamRowsIdeal.nD Cert.AdamRowsIdeal.τ).loc Cert.AdamRowsIdeal.main_arg4)
          ∧ r.2.mem ((c.tc : Thread Cert.AdamRowsIdeal.nD Cert.AdamRowsIdeal.τ).loc Cert.AdamRowsIdeal.main_arg5) = m ((c.tc : Thread Cert.AdamRowsIdeal.nD Cert.AdamRowsIdeal.τ).loc Cert.AdamRowsIdeal.main_arg5)
          ∧ r.2.mem ((c.tc : Thread Cert.AdamRowsIdeal.nD Cert.AdamRowsIdeal.τ).loc Cert.AdamRowsIdeal.main_arg6) = m ((c.tc : Thread Cert.AdamRowsIdeal.nD Cert.AdamRowsIdeal.τ).loc Cert.AdamRowsIdeal.main_arg6)
          ∧ r.2.mem ((c.tc : Thread Cert.AdamRowsIdeal.nD Cert.AdamRowsIdeal.τ).loc Cert.AdamRowsIdeal.main_arg7) = m ((c.tc : Thread Cert.AdamRowsIdeal.nD Cert.AdamRowsIdeal.τ).loc Cert.AdamRowsIdeal.main_arg7)
          ∧ r.2.mem ((c.tc : Thread Cert.AdamRowsIdeal.nD Cert.AdamRowsIdeal.τ).loc Cert.AdamRowsIdeal.main_arg8) = m ((c.tc : Thread Cert.AdamRowsIdeal.nD Cert.AdamRowsIdeal.τ).loc Cert.AdamRowsIdeal.main_arg8)
          ∧ r.2.mem ((c.tc : Thread Cert.AdamRowsIdeal.nD Cert.AdamRowsIdeal.τ).loc Cert.AdamRowsIdeal.main_arg9) = m ((c.tc : Thread Cert.AdamRowsIdeal.nD Cert.AdamRowsIdeal.τ).loc Cert.AdamRowsIdeal.main_arg9)
          ∧ r.2.mem ((c.tc : Thread Cert.AdamRowsIdeal.nD Cert.AdamRowsIdeal.τ).loc Cert.AdamRowsIdeal.main_arg10) = m ((c.tc : Thread Cert.AdamRowsIdeal.nD Cert.AdamRowsIdeal.τ).loc Cert.AdamRowsIdeal.main_arg10)
          ∧ r.2.mem ((c.tc : Thread Cert.AdamRowsIdeal.nD Cert.AdamRowsIdeal.τ).loc Cert.AdamRowsIdeal.main_arg11) = m ((c.tc : Thread Cert.AdamRowsIdeal.nD Cert.AdamRowsIdeal.τ).loc Cert.AdamRowsIdeal.main_arg11)
          ∧ r.2.mem ((c.tc : Thread Cert.AdamRowsIdeal.nD Cert.AdamRowsIdeal.τ).loc Cert.AdamRowsIdeal.main_arg12) = m ((c.tc : Thread Cert.AdamRowsIdeal.nD Cert.AdamRowsIdeal.τ).loc Cert.AdamRowsIdeal.main_arg12)
          ∧ r.2.mem ((c.tc : Thread Cert.AdamRowsIdeal.nD Cert.AdamRowsIdeal.τ).loc Cert.AdamRowsIdeal.main_arg13) = m ((c.tc : Thread Cert.AdamRowsIdeal.nD Cert.AdamRowsIdeal.τ).loc Cert.AdamRowsIdeal.main_arg13)
          ∧ r.2.mem ((c.tc : Thread Cert.AdamRowsIdeal.nD Cert.AdamRowsIdeal.τ).loc Cert.AdamRowsIdeal.main_arg14) = m ((c.tc : Thread Cert.AdamRowsIdeal.nD Cert.AdamRowsIdeal.τ).loc Cert.AdamRowsIdeal.main_arg14)
          ∧ r.2.mem ((c.tc : Thread Cert.AdamRowsIdeal.nD Cert.AdamRowsIdeal.τ).loc Cert.AdamRowsIdeal.main_arg15) = m ((c.tc : Thread Cert.AdamRowsIdeal.nD Cert.AdamRowsIdeal.τ).loc Cert.AdamRowsIdeal.main_arg15)
          ∧ r.2.mem ((c.tc : Thread Cert.AdamRowsIdeal.nD Cert.AdamRowsIdeal.τ).loc Cert.AdamRowsIdeal.main_arg16) = m ((c.tc : Thread Cert.AdamRowsIdeal.nD Cert.AdamRowsIdeal.τ).loc Cert.AdamRowsIdeal.main_arg16)
          ∧ r.2.mem ((c.tc : Thread Cert.AdamRowsIdeal.nD Cert.AdamRowsIdeal.τ).loc Cert.AdamRowsIdeal.main_arg17) = m ((c.tc : Thread Cert.AdamRowsIdeal.nD Cert.AdamRowsIdeal.τ).loc Cert.AdamRowsIdeal.main_arg17)
          ∧ r.2.mem ((c.tc : Thread Cert.AdamRowsIdeal.nD Cert.AdamRowsIdeal.τ).loc Cert.AdamRowsIdeal.main_arg18) = m ((c.tc : Thread Cert.AdamRowsIdeal.nD Cert.AdamRowsIdeal.τ).loc Cert.AdamRowsIdeal.main_arg18)
          ∧ r.2.mem ((c.tc : Thread Cert.AdamRowsIdeal.nD Cert.AdamRowsIdeal.τ).loc Cert.AdamRowsIdeal.main_arg19) = m ((c.tc : Thread Cert.AdamRowsIdeal.nD Cert.AdamRowsIdeal.τ).loc Cert.AdamRowsIdeal.main_arg19)
          ∧ r.2.mem ((c.tc : Thread Cert.AdamRowsIdeal.nD Cert.AdamRowsIdeal.τ).loc Cert.AdamRowsIdeal.main_arg20) = m ((c.tc : Thread Cert.AdamRowsIdeal.nD Cert.AdamRowsIdeal.τ).loc Cert.AdamRowsIdeal.main_arg20)
          ∧ r.2.mem ((c.tc : Thread Cert.AdamRowsIdeal.nD Cert.AdamRowsIdeal.τ).loc Cert.AdamRowsIdeal.main_arg21) = m ((c.tc : Thread Cert.AdamRowsIdeal.nD Cert.AdamRowsIdeal.τ).loc Cert.AdamRowsIdeal.main_arg21)
          ∧ r.2.mem ((c.tc : Thread Cert.AdamRowsIdeal.nD Cert.AdamRowsIdeal.τ).loc Cert.AdamRowsIdeal.main_arg22) = m ((c.tc : Thread Cert.AdamRowsIdeal.nD Cert.AdamRowsIdeal.τ).loc Cert.AdamRowsIdeal.main_arg22)
          ∧ r.2.mem ((c.tc : Thread Cert.AdamRowsIdeal.nD Cert.AdamRowsIdeal.τ).loc Cert.AdamRowsIdeal.main_arg23) = m ((c.tc : Thread Cert.AdamRowsIdeal.nD Cert.AdamRowsIdeal.τ).loc Cert.AdamRowsIdeal.main_arg23)
          ∧ r.2.mem ((c.tc : Thread Cert.AdamRowsIdeal.nD Cert.AdamRowsIdeal.τ).loc Cert.AdamRowsIdeal.main_arg24) = m ((c.tc : Thread Cert.AdamRowsIdeal.nD Cert.AdamRowsIdeal.τ).loc Cert.AdamRowsIdeal.main_arg24)
          ∧ r.2.mem ((c.tc : Thread Cert.AdamRowsIdeal.nD Cert.AdamRowsIdeal.τ).loc Cert.AdamRowsIdeal.main_arg25) = m ((c.tc : Thread Cert.AdamRowsIdeal.nD Cert.AdamRowsIdeal.τ).loc Cert.AdamRowsIdeal.main_arg25)
          ∧ r.2.mem ((c.tc : Thread Cert.AdamRowsIdeal.nD Cert.AdamRowsIdeal.τ).loc Cert.AdamRowsIdeal.main_arg26) = m ((c.tc : Thread Cert.AdamRowsIdeal.nD Cert.AdamRowsIdeal.τ).loc Cert.AdamRowsIdeal.main_arg26)
          ∧ r.2.mem ((c.tc : Thread Cert.AdamRowsIdeal.nD Cert.AdamRowsIdeal.τ).loc Cert.AdamRowsIdeal.main_arg27) = m ((c.tc : Thread Cert.AdamRowsIdeal.nD Cert.AdamRowsIdeal.τ).loc Cert.AdamRowsIdeal.main_arg27)
          ∧ r.2.mem ((c.tc : Thread Cert.AdamRowsIdeal.nD Cert.AdamRowsIdeal.τ).loc Cert.AdamRowsIdeal.main_arg28) = m ((c.tc : Thread Cert.AdamRowsIdeal.nD Cert.AdamRowsIdeal.τ).loc Cert.AdamRowsIdeal.main_arg28)
          ∧ r.2.mem ((c.tc : Thread Cert.AdamRowsIdeal.nD Cert.AdamRowsIdeal.τ).loc Cert.AdamRowsIdeal.main_arg29) = m ((c.tc : Thread Cert.AdamRowsIdeal.nD Cert.AdamRowsIdeal.τ).loc Cert.AdamRowsIdeal.main_arg29)
          ∧ r.2.mem ((c.tc : Thread Cert.AdamRowsIdeal.nD Cert.AdamRowsIdeal.τ).loc Cert.AdamRowsIdeal.main_arg30) = m ((c.tc : Thread Cert.AdamRowsIdeal.nD Cert.AdamRowsIdeal.τ).loc Cert.AdamRowsIdeal.main_arg30)
          ∧ r.2.mem ((c.tc : Thread Cert.AdamRowsIdeal.nD Cert.AdamRowsIdeal.τ).loc Cert.AdamRowsIdeal.main_arg31) = m ((c.tc : Thread Cert.AdamRowsIdeal.nD Cert.AdamRowsIdeal.τ).loc Cert.AdamRowsIdeal.main_arg31)
          ∧ r.2.mem ((c.tc : Thread Cert.AdamRowsIdeal.nD Cert.AdamRowsIdeal.τ).loc Cert.AdamRowsIdeal.main_arg32) = m ((c.tc : Thread Cert.AdamRowsIdeal.nD Cert.AdamRowsIdeal.τ).loc Cert.AdamRowsIdeal.main_arg32)
          ∧ r.2.mem ((c.tc : Thread Cert.AdamRowsIdeal.nD Cert.AdamRowsIdeal.τ).loc Cert.AdamRowsIdeal.main_arg33) = m ((c.tc : Thread Cert.AdamRowsIdeal.nD Cert.AdamRowsIdeal.τ).loc Cert.AdamRowsIdeal.main_arg33)
          ∧ r.2.mem ((c.tc : Thread Cert.AdamRowsIdeal.nD Cert.AdamRowsIdeal.τ).loc Cert.AdamRowsIdeal.main_arg34) = m ((c.tc : Thread Cert.AdamRowsIdeal.nD Cert.AdamRowsIdeal.τ).loc Cert.AdamRowsIdeal.main_arg34)
          ∧ r.2.mem ((c.tc : Thread Cert.AdamRowsIdeal.nD Cert.AdamRowsIdeal.τ).loc Cert.AdamRowsIdeal.main_arg35) = m ((c.tc : Thread Cert.AdamRowsIdeal.nD Cert.AdamRowsIdeal.τ).loc Cert.AdamRowsIdeal.main_arg35)
          ∧ r.2.mem ((c.tc : Thread Cert.AdamRowsIdeal.nD Cert.AdamRowsIdeal.τ).loc Cert.AdamRowsIdeal.main_arg36) = m ((c.tc : Thread Cert.AdamRowsIdeal.nD Cert.AdamRowsIdeal.τ).loc Cert.AdamRowsIdeal.main_arg36)
          ∧ r.2.mem ((c.tc : Thread Cert.AdamRowsIdeal.nD Cert.AdamRowsIdeal.τ).loc Cert.AdamRowsIdeal.main_arg37) = m ((c.tc : Thread Cert.AdamRowsIdeal.nD Cert.AdamRowsIdeal.τ).loc Cert.AdamRowsIdeal.main_arg37)
          ∧ r.2.mem ((c.tc : Thread Cert.AdamRowsIdeal.nD Cert.AdamRowsIdeal.τ).loc Cert.AdamRowsIdeal.main_arg38) = m ((c.tc : Thread Cert.AdamRowsIdeal.nD Cert.AdamRowsIdeal.τ).loc Cert.AdamRowsIdeal.main_arg38)
          ∧ r.2.mem ((c.tc : Thread Cert.AdamRowsIdeal.nD Cert.AdamRowsIdeal.τ).loc Cert.AdamRowsIdeal.main_arg39) = m ((c.tc : Thread Cert.AdamRowsIdeal.nD Cert.AdamRowsIdeal.τ).loc Cert.AdamRowsIdeal.main_arg39)
          ∧ r.2.mem ((c.tc : Thread Cert.AdamRowsIdeal.nD Cert.AdamRowsIdeal.τ).loc Cert.AdamRowsIdeal.main_arg40) = m ((c.tc : Thread Cert.AdamRowsIdeal.nD Cert.AdamRowsIdeal.τ).loc Cert.AdamRowsIdeal.main_arg40)
          ∧ r.2.mem ((c.tc : Thread Cert.AdamRowsIdeal.nD Cert.AdamRowsIdeal.τ).loc Cert.AdamRowsIdeal.main_arg41) = m ((c.tc : Thread Cert.AdamRowsIdeal.nD Cert.AdamRowsIdeal.τ).loc Cert.AdamRowsIdeal.main_arg41)
          ∧ r.2.mem ((c.tc : Thread Cert.AdamRowsIdeal.nD Cert.AdamRowsIdeal.τ).loc Cert.AdamRowsIdeal.main_arg42) = m ((c.tc : Thread Cert.AdamRowsIdeal.nD Cert.AdamRowsIdeal.τ).loc Cert.AdamRowsIdeal.main_arg42)
          ∧ r.2.mem ((c.tc : Thread Cert.AdamRowsIdeal.nD Cert.AdamRowsIdeal.τ).loc Cert.AdamRowsIdeal.main_arg43) = m ((c.tc : Thread Cert.AdamRowsIdeal.nD Cert.AdamRowsIdeal.τ).loc Cert.AdamRowsIdeal.main_arg43)
          ∧ r.2.mem ((c.tc : Thread Cert.AdamRowsIdeal.nD Cert.AdamRowsIdeal.τ).loc Cert.AdamRowsIdeal.main_arg44) = m ((c.tc : Thread Cert.AdamRowsIdeal.nD Cert.AdamRowsIdeal.τ).loc Cert.AdamRowsIdeal.main_arg44))
      ∧ θ_run (Cert.AdamRowsRefIdeal.defs (F := Ideal)) (onTc (τ := Cert.AdamRowsRefIdeal.τ) (Cert.AdamRowsRefIdeal.main (F := Ideal))) ⟨m', fun _ => 0, g'⟩ (fun r => ∀ c : Dev Cert.AdamRowsRefIdeal.nD,
          r.2.mem ((c.tc : Thread Cert.AdamRowsRefIdeal.nD Cert.AdamRowsRefIdeal.τ).loc Cert.AdamRowsRefIdeal.main_v30) = v0 c
          ∧ r.2.mem ((c.tc : Thread Cert.AdamRowsRefIdeal.nD Cert.AdamRowsRefIdeal.τ).loc Cert.AdamRowsRefIdeal.main_v54) = v1 c
          ∧ r.2.mem ((c.tc : Thread Cert.AdamRowsRefIdeal.nD Cert.AdamRowsRefIdeal.τ).loc Cert.AdamRowsRefIdeal.main_v35) = v2 c
          ∧ r.2.mem ((c.tc : Thread Cert.AdamRowsRefIdeal.nD Cert.AdamRowsRefIdeal.τ).loc Cert.AdamRowsRefIdeal.main_v41) = v3 c
          ∧ r.2.mem ((c.tc : Thread Cert.AdamRowsRefIdeal.nD Cert.AdamRowsRefIdeal.τ).loc Cert.AdamRowsRefIdeal.main_v55) = v4 c
          ∧ r.2.mem ((c.tc : Thread Cert.AdamRowsRefIdeal.nD Cert.AdamRowsRefIdeal.τ).loc Cert.AdamRowsRefIdeal.main_v79) = v5 c
          ∧ r.2.mem ((c.tc : Thread Cert.AdamRowsRefIdeal.nD Cert.AdamRowsRefIdeal.τ).loc Cert.AdamRowsRefIdeal.main_v60) = v6 c
          ∧ r.2.mem ((c.tc : Thread Cert.AdamRowsRefIdeal.nD Cert.AdamRowsRefIdeal.τ).loc Cert.AdamRowsRefIdeal.main_v66) = v7 c
          ∧ r.2.mem ((c.tc : Thread Cert.AdamRowsRefIdeal.nD Cert.AdamRowsRefIdeal.τ).loc Cert.AdamRowsRefIdeal.main_v80) = v8 c
          ∧ r.2.mem ((c.tc : Thread Cert.AdamRowsRefIdeal.nD Cert.AdamRowsRefIdeal.τ).loc Cert.AdamRowsRefIdeal.main_v104) = v9 c
          ∧ r.2.mem ((c.tc : Thread Cert.AdamRowsRefIdeal.nD Cert.AdamRowsRefIdeal.τ).loc Cert.AdamRowsRefIdeal.main_v85) = v10 c
          ∧ r.2.mem ((c.tc : Thread Cert.AdamRowsRefIdeal.nD Cert.AdamRowsRefIdeal.τ).loc Cert.AdamRowsRefIdeal.main_v91) = v11 c
          ∧ r.2.mem ((c.tc : Thread Cert.AdamRowsRefIdeal.nD Cert.AdamRowsRefIdeal.τ).loc Cert.AdamRowsRefIdeal.main_v105) = v12 c
          ∧ r.2.mem ((c.tc : Thread Cert.AdamRowsRefIdeal.nD Cert.AdamRowsRefIdeal.τ).loc Cert.AdamRowsRefIdeal.main_v129) = v13 c
          ∧ r.2.mem ((c.tc : Thread Cert.AdamRowsRefIdeal.nD Cert.AdamRowsRefIdeal.τ).loc Cert.AdamRowsRefIdeal.main_v110) = v14 c
          ∧ r.2.mem ((c.tc : Thread Cert.AdamRowsRefIdeal.nD Cert.AdamRowsRefIdeal.τ).loc Cert.AdamRowsRefIdeal.main_v116) = v15 c
          ∧ r.2.mem ((c.tc : Thread Cert.AdamRowsRefIdeal.nD Cert.AdamRowsRefIdeal.τ).loc Cert.AdamRowsRefIdeal.main_v26) = v16 c
          ∧ r.2.mem ((c.tc : Thread Cert.AdamRowsRefIdeal.nD Cert.AdamRowsRefIdeal.τ).loc Cert.AdamRowsRefIdeal.main_v27) = v17 c
          ∧ r.2.mem ((c.tc : Thread Cert.AdamRowsRefIdeal.nD Cert.AdamRowsRefIdeal.τ).loc Cert.AdamRowsRefIdeal.main_v28) = v18 c
          ∧ r.2.mem ((c.tc : Thread Cert.AdamRowsRefIdeal.nD Cert.AdamRowsRefIdeal.τ).loc Cert.AdamRowsRefIdeal.main_v29) = v19 c
          ∧ r.2.mem ((c.tc : Thread Cert.AdamRowsRefIdeal.nD Cert.AdamRowsRefIdeal.τ).loc Cert.AdamRowsRefIdeal.main_v130) = v20 c
          ∧ r.2.mem ((c.tc : Thread Cert.AdamRowsRefIdeal.nD Cert.AdamRowsRefIdeal.τ).loc Cert.AdamRowsRefIdeal.main_arg0) = m' ((c.tc : Thread Cert.AdamRowsRefIdeal.nD Cert.AdamRowsRefIdeal.τ).loc Cert.AdamRowsRefIdeal.main_arg0)
          ∧ r.2.mem ((c.tc : Thread Cert.AdamRowsRefIdeal.nD Cert.AdamRowsRefIdeal.τ).loc Cert.AdamRowsRefIdeal.main_arg1) = m' ((c.tc : Thread Cert.AdamRowsRefIdeal.nD Cert.AdamRowsRefIdeal.τ).loc Cert.AdamRowsRefIdeal.main_arg1)
          ∧ r.2.mem ((c.tc : Thread Cert.AdamRowsRefIdeal.nD Cert.AdamRowsRefIdeal.τ).loc Cert.AdamRowsRefIdeal.main_arg2) = m' ((c.tc : Thread Cert.AdamRowsRefIdeal.nD Cert.AdamRowsRefIdeal.τ).loc Cert.AdamRowsRefIdeal.main_arg2)
          ∧ r.2.mem ((c.tc : Thread Cert.AdamRowsRefIdeal.nD Cert.AdamRowsRefIdeal.τ).loc Cert.AdamRowsRefIdeal.main_arg3) = m' ((c.tc : Thread Cert.AdamRowsRefIdeal.nD Cert.AdamRowsRefIdeal.τ).loc Cert.AdamRowsRefIdeal.main_arg3)
          ∧ r.2.mem ((c.tc : Thread Cert.AdamRowsRefIdeal.nD Cert.AdamRowsRefIdeal.τ).loc Cert.AdamRowsRefIdeal.main_arg4) = m' ((c.tc : Thread Cert.AdamRowsRefIdeal.nD Cert.AdamRowsRefIdeal.τ).loc Cert.AdamRowsRefIdeal.main_arg4)
          ∧ r.2.mem ((c.tc : Thread Cert.AdamRowsRefIdeal.nD Cert.AdamRowsRefIdeal.τ).loc Cert.AdamRowsRefIdeal.main_arg5) = m' ((c.tc : Thread Cert.AdamRowsRefIdeal.nD Cert.AdamRowsRefIdeal.τ).loc Cert.AdamRowsRefIdeal.main_arg5)
          ∧ r.2.mem ((c.tc : Thread Cert.AdamRowsRefIdeal.nD Cert.AdamRowsRefIdeal.τ).loc Cert.AdamRowsRefIdeal.main_arg6) = m' ((c.tc : Thread Cert.AdamRowsRefIdeal.nD Cert.AdamRowsRefIdeal.τ).loc Cert.AdamRowsRefIdeal.main_arg6)
          ∧ r.2.mem ((c.tc : Thread Cert.AdamRowsRefIdeal.nD Cert.AdamRowsRefIdeal.τ).loc Cert.AdamRowsRefIdeal.main_arg7) = m' ((c.tc : Thread Cert.AdamRowsRefIdeal.nD Cert.AdamRowsRefIdeal.τ).loc Cert.AdamRowsRefIdeal.main_arg7)
          ∧ r.2.mem ((c.tc : Thread Cert.AdamRowsRefIdeal.nD Cert.AdamRowsRefIdeal.τ).loc Cert.AdamRowsRefIdeal.main_arg8) = m' ((c.tc : Thread Cert.AdamRowsRefIdeal.nD Cert.AdamRowsRefIdeal.τ).loc Cert.AdamRowsRefIdeal.main_arg8)
          ∧ r.2.mem ((c.tc : Thread Cert.AdamRowsRefIdeal.nD Cert.AdamRowsRefIdeal.τ).loc Cert.AdamRowsRefIdeal.main_arg9) = m' ((c.tc : Thread Cert.AdamRowsRefIdeal.nD Cert.AdamRowsRefIdeal.τ).loc Cert.AdamRowsRefIdeal.main_arg9)
          ∧ r.2.mem ((c.tc : Thread Cert.AdamRowsRefIdeal.nD Cert.AdamRowsRefIdeal.τ).loc Cert.AdamRowsRefIdeal.main_arg10) = m' ((c.tc : Thread Cert.AdamRowsRefIdeal.nD Cert.AdamRowsRefIdeal.τ).loc Cert.AdamRowsRefIdeal.main_arg10)
          ∧ r.2.mem ((c.tc : Thread Cert.AdamRowsRefIdeal.nD Cert.AdamRowsRefIdeal.τ).loc Cert.AdamRowsRefIdeal.main_arg11) = m' ((c.tc : Thread Cert.AdamRowsRefIdeal.nD Cert.AdamRowsRefIdeal.τ).loc Cert.AdamRowsRefIdeal.main_arg11)
          ∧ r.2.mem ((c.tc : Thread Cert.AdamRowsRefIdeal.nD Cert.AdamRowsRefIdeal.τ).loc Cert.AdamRowsRefIdeal.main_arg12) = m' ((c.tc : Thread Cert.AdamRowsRefIdeal.nD Cert.AdamRowsRefIdeal.τ).loc Cert.AdamRowsRefIdeal.main_arg12)
          ∧ r.2.mem ((c.tc : Thread Cert.AdamRowsRefIdeal.nD Cert.AdamRowsRefIdeal.τ).loc Cert.AdamRowsRefIdeal.main_arg13) = m' ((c.tc : Thread Cert.AdamRowsRefIdeal.nD Cert.AdamRowsRefIdeal.τ).loc Cert.AdamRowsRefIdeal.main_arg13)
          ∧ r.2.mem ((c.tc : Thread Cert.AdamRowsRefIdeal.nD Cert.AdamRowsRefIdeal.τ).loc Cert.AdamRowsRefIdeal.main_arg14) = m' ((c.tc : Thread Cert.AdamRowsRefIdeal.nD Cert.AdamRowsRefIdeal.τ).loc Cert.AdamRowsRefIdeal.main_arg14)
          ∧ r.2.mem ((c.tc : Thread Cert.AdamRowsRefIdeal.nD Cert.AdamRowsRefIdeal.τ).loc Cert.AdamRowsRefIdeal.main_arg15) = m' ((c.tc : Thread Cert.AdamRowsRefIdeal.nD Cert.AdamRowsRefIdeal.τ).loc Cert.AdamRowsRefIdeal.main_arg15)
          ∧ r.2.mem ((c.tc : Thread Cert.AdamRowsRefIdeal.nD Cert.AdamRowsRefIdeal.τ).loc Cert.AdamRowsRefIdeal.main_arg16) = m' ((c.tc : Thread Cert.AdamRowsRefIdeal.nD Cert.AdamRowsRefIdeal.τ).loc Cert.AdamRowsRefIdeal.main_arg16)
          ∧ r.2.mem ((c.tc : Thread Cert.AdamRowsRefIdeal.nD Cert.AdamRowsRefIdeal.τ).loc Cert.AdamRowsRefIdeal.main_arg17) = m' ((c.tc : Thread Cert.AdamRowsRefIdeal.nD Cert.AdamRowsRefIdeal.τ).loc Cert.AdamRowsRefIdeal.main_arg17)
          ∧ r.2.mem ((c.tc : Thread Cert.AdamRowsRefIdeal.nD Cert.AdamRowsRefIdeal.τ).loc Cert.AdamRowsRefIdeal.main_arg18) = m' ((c.tc : Thread Cert.AdamRowsRefIdeal.nD Cert.AdamRowsRefIdeal.τ).loc Cert.AdamRowsRefIdeal.main_arg18)
          ∧ r.2.mem ((c.tc : Thread Cert.AdamRowsRefIdeal.nD Cert.AdamRowsRefIdeal.τ).loc Cert.AdamRowsRefIdeal.main_arg19) = m' ((c.tc : Thread Cert.AdamRowsRefIdeal.nD Cert.AdamRowsRefIdeal.τ).loc Cert.AdamRowsRefIdeal.main_arg19)
          ∧ r.2.mem ((c.tc : Thread Cert.AdamRowsRefIdeal.nD Cert.AdamRowsRefIdeal.τ).loc Cert.AdamRowsRefIdeal.main_arg20) = m' ((c.tc : Thread Cert.AdamRowsRefIdeal.nD Cert.AdamRowsRefIdeal.τ).loc Cert.AdamRowsRefIdeal.main_arg20)
          ∧ r.2.mem ((c.tc : Thread Cert.AdamRowsRefIdeal.nD Cert.AdamRowsRefIdeal.τ).loc Cert.AdamRowsRefIdeal.main_arg21) = m' ((c.tc : Thread Cert.AdamRowsRefIdeal.nD Cert.AdamRowsRefIdeal.τ).loc Cert.AdamRowsRefIdeal.main_arg21)
          ∧ r.2.mem ((c.tc : Thread Cert.AdamRowsRefIdeal.nD Cert.AdamRowsRefIdeal.τ).loc Cert.AdamRowsRefIdeal.main_arg22) = m' ((c.tc : Thread Cert.AdamRowsRefIdeal.nD Cert.AdamRowsRefIdeal.τ).loc Cert.AdamRowsRefIdeal.main_arg22)
          ∧ r.2.mem ((c.tc : Thread Cert.AdamRowsRefIdeal.nD Cert.AdamRowsRefIdeal.τ).loc Cert.AdamRowsRefIdeal.main_arg23) = m' ((c.tc : Thread Cert.AdamRowsRefIdeal.nD Cert.AdamRowsRefIdeal.τ).loc Cert.AdamRowsRefIdeal.main_arg23)
          ∧ r.2.mem ((c.tc : Thread Cert.AdamRowsRefIdeal.nD Cert.AdamRowsRefIdeal.τ).loc Cert.AdamRowsRefIdeal.main_arg24) = m' ((c.tc : Thread Cert.AdamRowsRefIdeal.nD Cert.AdamRowsRefIdeal.τ).loc Cert.AdamRowsRefIdeal.main_arg24)
          ∧ r.2.mem ((c.tc : Thread Cert.AdamRowsRefIdeal.nD Cert.AdamRowsRefIdeal.τ).loc Cert.AdamRowsRefIdeal.main_arg25) = m' ((c.tc : Thread Cert.AdamRowsRefIdeal.nD Cert.AdamRowsRefIdeal.τ).loc Cert.AdamRowsRefIdeal.main_arg25)
          ∧ r.2.mem ((c.tc : Thread Cert.AdamRowsRefIdeal.nD Cert.AdamRowsRefIdeal.τ).loc Cert.AdamRowsRefIdeal.main_arg26) = m' ((c.tc : Thread Cert.AdamRowsRefIdeal.nD Cert.AdamRowsRefIdeal.τ).loc Cert.AdamRowsRefIdeal.main_arg26)
          ∧ r.2.mem ((c.tc : Thread Cert.AdamRowsRefIdeal.nD Cert.AdamRowsRefIdeal.τ).loc Cert.AdamRowsRefIdeal.main_arg27) = m' ((c.tc : Thread Cert.AdamRowsRefIdeal.nD Cert.AdamRowsRefIdeal.τ).loc Cert.AdamRowsRefIdeal.main_arg27)
          ∧ r.2.mem ((c.tc : Thread Cert.AdamRowsRefIdeal.nD Cert.AdamRowsRefIdeal.τ).loc Cert.AdamRowsRefIdeal.main_arg28) = m' ((c.tc : Thread Cert.AdamRowsRefIdeal.nD Cert.AdamRowsRefIdeal.τ).loc Cert.AdamRowsRefIdeal.main_arg28)
          ∧ r.2.mem ((c.tc : Thread Cert.AdamRowsRefIdeal.nD Cert.AdamRowsRefIdeal.τ).loc Cert.AdamRowsRefIdeal.main_arg29) = m' ((c.tc : Thread Cert.AdamRowsRefIdeal.nD Cert.AdamRowsRefIdeal.τ).loc Cert.AdamRowsRefIdeal.main_arg29)
          ∧ r.2.mem ((c.tc : Thread Cert.AdamRowsRefIdeal.nD Cert.AdamRowsRefIdeal.τ).loc Cert.AdamRowsRefIdeal.main_arg30) = m' ((c.tc : Thread Cert.AdamRowsRefIdeal.nD Cert.AdamRowsRefIdeal.τ).loc Cert.AdamRowsRefIdeal.main_arg30)
          ∧ r.2.mem ((c.tc : Thread Cert.AdamRowsRefIdeal.nD Cert.AdamRowsRefIdeal.τ).loc Cert.AdamRowsRefIdeal.main_arg31) = m' ((c.tc : Thread Cert.AdamRowsRefIdeal.nD Cert.AdamRowsRefIdeal.τ).loc Cert.AdamRowsRefIdeal.main_arg31)
          ∧ r.2.mem ((c.tc : Thread Cert.AdamRowsRefIdeal.nD Cert.AdamRowsRefIdeal.τ).loc Cert.AdamRowsRefIdeal.main_arg32) = m' ((c.tc : Thread Cert.AdamRowsRefIdeal.nD Cert.AdamRowsRefIdeal.τ).loc Cert.AdamRowsRefIdeal.main_arg32)
          ∧ r.2.mem ((c.tc : Thread Cert.AdamRowsRefIdeal.nD Cert.AdamRowsRefIdeal.τ).loc Cert.AdamRowsRefIdeal.main_arg33) = m' ((c.tc : Thread Cert.AdamRowsRefIdeal.nD Cert.AdamRowsRefIdeal.τ).loc Cert.AdamRowsRefIdeal.main_arg33)
          ∧ r.2.mem ((c.tc : Thread Cert.AdamRowsRefIdeal.nD Cert.AdamRowsRefIdeal.τ).loc Cert.AdamRowsRefIdeal.main_arg34) = m' ((c.tc : Thread Cert.AdamRowsRefIdeal.nD Cert.AdamRowsRefIdeal.τ).loc Cert.AdamRowsRefIdeal.main_arg34)
          ∧ r.2.mem ((c.tc : Thread Cert.AdamRowsRefIdeal.nD Cert.AdamRowsRefIdeal.τ).loc Cert.AdamRowsRefIdeal.main_arg35) = m' ((c.tc : Thread Cert.AdamRowsRefIdeal.nD Cert.AdamRowsRefIdeal.τ).loc Cert.AdamRowsRefIdeal.main_arg35)
          ∧ r.2.mem ((c.tc : Thread Cert.AdamRowsRefIdeal.nD Cert.AdamRowsRefIdeal.τ).loc Cert.AdamRowsRefIdeal.main_arg36) = m' ((c.tc : Thread Cert.AdamRowsRefIdeal.nD Cert.AdamRowsRefIdeal.τ).loc Cert.AdamRowsRefIdeal.main_arg36)
          ∧ r.2.mem ((c.tc : Thread Cert.AdamRowsRefIdeal.nD Cert.AdamRowsRefIdeal.τ).loc Cert.AdamRowsRefIdeal.main_arg37) = m' ((c.tc : Thread Cert.AdamRowsRefIdeal.nD Cert.AdamRowsRefIdeal.τ).loc Cert.AdamRowsRefIdeal.main_arg37)
          ∧ r.2.mem ((c.tc : Thread Cert.AdamRowsRefIdeal.nD Cert.AdamRowsRefIdeal.τ).loc Cert.AdamRowsRefIdeal.main_arg38) = m' ((c.tc : Thread Cert.AdamRowsRefIdeal.nD Cert.AdamRowsRefIdeal.τ).loc Cert.AdamRowsRefIdeal.main_arg38)
          ∧ r.2.mem ((c.tc : Thread Cert.AdamRowsRefIdeal.nD Cert.AdamRowsRefIdeal.τ).loc Cert.AdamRowsRefIdeal.main_arg39) = m' ((c.tc : Thread Cert.AdamRowsRefIdeal.nD Cert.AdamRowsRefIdeal.τ).loc Cert.AdamRowsRefIdeal.main_arg39)
          ∧ r.2.mem ((c.tc : Thread Cert.AdamRowsRefIdeal.nD Cert.AdamRowsRefIdeal.τ).loc Cert.AdamRowsRefIdeal.main_arg40) = m' ((c.tc : Thread Cert.AdamRowsRefIdeal.nD Cert.AdamRowsRefIdeal.τ).loc Cert.AdamRowsRefIdeal.main_arg40)
          ∧ r.2.mem ((c.tc : Thread Cert.AdamRowsRefIdeal.nD Cert.AdamRowsRefIdeal.τ).loc Cert.AdamRowsRefIdeal.main_arg41) = m' ((c.tc : Thread Cert.AdamRowsRefIdeal.nD Cert.AdamRowsRefIdeal.τ).loc Cert.AdamRowsRefIdeal.main_arg41)
          ∧ r.2.mem ((c.tc : Thread Cert.AdamRowsRefIdeal.nD Cert.AdamRowsRefIdeal.τ).loc Cert.AdamRowsRefIdeal.main_arg42) = m' ((c.tc : Thread Cert.AdamRowsRefIdeal.nD Cert.AdamRowsRefIdeal.τ).loc Cert.AdamRowsRefIdeal.main_arg42)
          ∧ r.2.mem ((c.tc : Thread Cert.AdamRowsRefIdeal.nD Cert.AdamRowsRefIdeal.τ).loc Cert.AdamRowsRefIdeal.main_arg43) = m' ((c.tc : Thread Cert.AdamRowsRefIdeal.nD Cert.AdamRowsRefIdeal.τ).loc Cert.AdamRowsRefIdeal.main_arg43)
          ∧ r.2.mem ((c.tc : Thread Cert.AdamRowsRefIdeal.nD Cert.AdamRowsRefIdeal.τ).loc Cert.AdamRowsRefIdeal.main_arg44) = m' ((c.tc : Thread Cert.AdamRowsRefIdeal.nD Cert.AdamRowsRefIdeal.τ).loc Cert.AdamRowsRefIdeal.main_arg44))

def preserves_AdamStates_AdamStatesIdeal : Prop :=
  True

def algebraic_AdamStatesIdeal_AdamStatesRefIdeal [hAdamStatesIdeal : Cert.AdamStatesIdeal.Facts] [hAdamStatesRefIdeal : Cert.AdamStatesRefIdeal.Facts] : Prop :=
  ∀ (m : (ℓ : Loc Cert.AdamStatesIdeal.nD Cert.AdamStatesIdeal.τ Cert.AdamStatesIdeal.sig) → Buf (Elt Ideal) ℓ) (g : Dev Cert.AdamStatesIdeal.nD → PrngReg)
    (m' : (ℓ : Loc Cert.AdamStatesRefIdeal.nD Cert.AdamStatesRefIdeal.τ Cert.AdamStatesRefIdeal.sig) → Buf (Elt Ideal) ℓ) (g' : Dev Cert.AdamStatesRefIdeal.nD → PrngReg), Pre_AdamStatesIdeal m →
    (∀ c : Dev Cert.AdamStatesIdeal.nD,
      m' ((c.tc : Thread Cert.AdamStatesRefIdeal.nD Cert.AdamStatesRefIdeal.τ).loc Cert.AdamStatesRefIdeal.main_arg0) = m ((c.tc : Thread Cert.AdamStatesIdeal.nD Cert.AdamStatesIdeal.τ).loc Cert.AdamStatesIdeal.main_arg0)
      ∧ m' ((c.tc : Thread Cert.AdamStatesRefIdeal.nD Cert.AdamStatesRefIdeal.τ).loc Cert.AdamStatesRefIdeal.main_arg1) = m ((c.tc : Thread Cert.AdamStatesIdeal.nD Cert.AdamStatesIdeal.τ).loc Cert.AdamStatesIdeal.main_arg1)
      ∧ m' ((c.tc : Thread Cert.AdamStatesRefIdeal.nD Cert.AdamStatesRefIdeal.τ).loc Cert.AdamStatesRefIdeal.main_arg2) = m ((c.tc : Thread Cert.AdamStatesIdeal.nD Cert.AdamStatesIdeal.τ).loc Cert.AdamStatesIdeal.main_arg2)
      ∧ m' ((c.tc : Thread Cert.AdamStatesRefIdeal.nD Cert.AdamStatesRefIdeal.τ).loc Cert.AdamStatesRefIdeal.main_arg3) = m ((c.tc : Thread Cert.AdamStatesIdeal.nD Cert.AdamStatesIdeal.τ).loc Cert.AdamStatesIdeal.main_arg3)
      ∧ m' ((c.tc : Thread Cert.AdamStatesRefIdeal.nD Cert.AdamStatesRefIdeal.τ).loc Cert.AdamStatesRefIdeal.main_arg4) = m ((c.tc : Thread Cert.AdamStatesIdeal.nD Cert.AdamStatesIdeal.τ).loc Cert.AdamStatesIdeal.main_arg4)
      ∧ m' ((c.tc : Thread Cert.AdamStatesRefIdeal.nD Cert.AdamStatesRefIdeal.τ).loc Cert.AdamStatesRefIdeal.main_arg5) = m ((c.tc : Thread Cert.AdamStatesIdeal.nD Cert.AdamStatesIdeal.τ).loc Cert.AdamStatesIdeal.main_arg5)
      ∧ m' ((c.tc : Thread Cert.AdamStatesRefIdeal.nD Cert.AdamStatesRefIdeal.τ).loc Cert.AdamStatesRefIdeal.main_arg6) = m ((c.tc : Thread Cert.AdamStatesIdeal.nD Cert.AdamStatesIdeal.τ).loc Cert.AdamStatesIdeal.main_arg6)
      ∧ m' ((c.tc : Thread Cert.AdamStatesRefIdeal.nD Cert.AdamStatesRefIdeal.τ).loc Cert.AdamStatesRefIdeal.main_arg7) = m ((c.tc : Thread Cert.AdamStatesIdeal.nD Cert.AdamStatesIdeal.τ).loc Cert.AdamStatesIdeal.main_arg7)
      ∧ m' ((c.tc : Thread Cert.AdamStatesRefIdeal.nD Cert.AdamStatesRefIdeal.τ).loc Cert.AdamStatesRefIdeal.main_arg8) = m ((c.tc : Thread Cert.AdamStatesIdeal.nD Cert.AdamStatesIdeal.τ).loc Cert.AdamStatesIdeal.main_arg8)
      ∧ m' ((c.tc : Thread Cert.AdamStatesRefIdeal.nD Cert.AdamStatesRefIdeal.τ).loc Cert.AdamStatesRefIdeal.main_arg9) = m ((c.tc : Thread Cert.AdamStatesIdeal.nD Cert.AdamStatesIdeal.τ).loc Cert.AdamStatesIdeal.main_arg9)
      ∧ m' ((c.tc : Thread Cert.AdamStatesRefIdeal.nD Cert.AdamStatesRefIdeal.τ).loc Cert.AdamStatesRefIdeal.main_arg10) = m ((c.tc : Thread Cert.AdamStatesIdeal.nD Cert.AdamStatesIdeal.τ).loc Cert.AdamStatesIdeal.main_arg10)
      ∧ m' ((c.tc : Thread Cert.AdamStatesRefIdeal.nD Cert.AdamStatesRefIdeal.τ).loc Cert.AdamStatesRefIdeal.main_arg11) = m ((c.tc : Thread Cert.AdamStatesIdeal.nD Cert.AdamStatesIdeal.τ).loc Cert.AdamStatesIdeal.main_arg11)
      ∧ m' ((c.tc : Thread Cert.AdamStatesRefIdeal.nD Cert.AdamStatesRefIdeal.τ).loc Cert.AdamStatesRefIdeal.main_arg12) = m ((c.tc : Thread Cert.AdamStatesIdeal.nD Cert.AdamStatesIdeal.τ).loc Cert.AdamStatesIdeal.main_arg12)
      ∧ m' ((c.tc : Thread Cert.AdamStatesRefIdeal.nD Cert.AdamStatesRefIdeal.τ).loc Cert.AdamStatesRefIdeal.main_arg13) = m ((c.tc : Thread Cert.AdamStatesIdeal.nD Cert.AdamStatesIdeal.τ).loc Cert.AdamStatesIdeal.main_arg13)
      ∧ m' ((c.tc : Thread Cert.AdamStatesRefIdeal.nD Cert.AdamStatesRefIdeal.τ).loc Cert.AdamStatesRefIdeal.main_arg14) = m ((c.tc : Thread Cert.AdamStatesIdeal.nD Cert.AdamStatesIdeal.τ).loc Cert.AdamStatesIdeal.main_arg14)
      ∧ m' ((c.tc : Thread Cert.AdamStatesRefIdeal.nD Cert.AdamStatesRefIdeal.τ).loc Cert.AdamStatesRefIdeal.main_arg15) = m ((c.tc : Thread Cert.AdamStatesIdeal.nD Cert.AdamStatesIdeal.τ).loc Cert.AdamStatesIdeal.main_arg15)
      ∧ m' ((c.tc : Thread Cert.AdamStatesRefIdeal.nD Cert.AdamStatesRefIdeal.τ).loc Cert.AdamStatesRefIdeal.main_arg16) = m ((c.tc : Thread Cert.AdamStatesIdeal.nD Cert.AdamStatesIdeal.τ).loc Cert.AdamStatesIdeal.main_arg16)
      ∧ m' ((c.tc : Thread Cert.AdamStatesRefIdeal.nD Cert.AdamStatesRefIdeal.τ).loc Cert.AdamStatesRefIdeal.main_arg17) = m ((c.tc : Thread Cert.AdamStatesIdeal.nD Cert.AdamStatesIdeal.τ).loc Cert.AdamStatesIdeal.main_arg17)
      ∧ m' ((c.tc : Thread Cert.AdamStatesRefIdeal.nD Cert.AdamStatesRefIdeal.τ).loc Cert.AdamStatesRefIdeal.main_arg18) = m ((c.tc : Thread Cert.AdamStatesIdeal.nD Cert.AdamStatesIdeal.τ).loc Cert.AdamStatesIdeal.main_arg18)
      ∧ m' ((c.tc : Thread Cert.AdamStatesRefIdeal.nD Cert.AdamStatesRefIdeal.τ).loc Cert.AdamStatesRefIdeal.main_arg19) = m ((c.tc : Thread Cert.AdamStatesIdeal.nD Cert.AdamStatesIdeal.τ).loc Cert.AdamStatesIdeal.main_arg19)
      ∧ m' ((c.tc : Thread Cert.AdamStatesRefIdeal.nD Cert.AdamStatesRefIdeal.τ).loc Cert.AdamStatesRefIdeal.main_arg20) = m ((c.tc : Thread Cert.AdamStatesIdeal.nD Cert.AdamStatesIdeal.τ).loc Cert.AdamStatesIdeal.main_arg20)
      ∧ m' ((c.tc : Thread Cert.AdamStatesRefIdeal.nD Cert.AdamStatesRefIdeal.τ).loc Cert.AdamStatesRefIdeal.main_arg21) = m ((c.tc : Thread Cert.AdamStatesIdeal.nD Cert.AdamStatesIdeal.τ).loc Cert.AdamStatesIdeal.main_arg21)
      ∧ m' ((c.tc : Thread Cert.AdamStatesRefIdeal.nD Cert.AdamStatesRefIdeal.τ).loc Cert.AdamStatesRefIdeal.main_arg22) = m ((c.tc : Thread Cert.AdamStatesIdeal.nD Cert.AdamStatesIdeal.τ).loc Cert.AdamStatesIdeal.main_arg22)
      ∧ m' ((c.tc : Thread Cert.AdamStatesRefIdeal.nD Cert.AdamStatesRefIdeal.τ).loc Cert.AdamStatesRefIdeal.main_arg23) = m ((c.tc : Thread Cert.AdamStatesIdeal.nD Cert.AdamStatesIdeal.τ).loc Cert.AdamStatesIdeal.main_arg23)
      ∧ m' ((c.tc : Thread Cert.AdamStatesRefIdeal.nD Cert.AdamStatesRefIdeal.τ).loc Cert.AdamStatesRefIdeal.main_arg24) = m ((c.tc : Thread Cert.AdamStatesIdeal.nD Cert.AdamStatesIdeal.τ).loc Cert.AdamStatesIdeal.main_arg24)
      ∧ m' ((c.tc : Thread Cert.AdamStatesRefIdeal.nD Cert.AdamStatesRefIdeal.τ).loc Cert.AdamStatesRefIdeal.main_arg25) = m ((c.tc : Thread Cert.AdamStatesIdeal.nD Cert.AdamStatesIdeal.τ).loc Cert.AdamStatesIdeal.main_arg25)
      ∧ m' ((c.tc : Thread Cert.AdamStatesRefIdeal.nD Cert.AdamStatesRefIdeal.τ).loc Cert.AdamStatesRefIdeal.main_arg26) = m ((c.tc : Thread Cert.AdamStatesIdeal.nD Cert.AdamStatesIdeal.τ).loc Cert.AdamStatesIdeal.main_arg26)
      ∧ m' ((c.tc : Thread Cert.AdamStatesRefIdeal.nD Cert.AdamStatesRefIdeal.τ).loc Cert.AdamStatesRefIdeal.main_arg27) = m ((c.tc : Thread Cert.AdamStatesIdeal.nD Cert.AdamStatesIdeal.τ).loc Cert.AdamStatesIdeal.main_arg27)
      ∧ m' ((c.tc : Thread Cert.AdamStatesRefIdeal.nD Cert.AdamStatesRefIdeal.τ).loc Cert.AdamStatesRefIdeal.main_arg28) = m ((c.tc : Thread Cert.AdamStatesIdeal.nD Cert.AdamStatesIdeal.τ).loc Cert.AdamStatesIdeal.main_arg28)
      ∧ m' ((c.tc : Thread Cert.AdamStatesRefIdeal.nD Cert.AdamStatesRefIdeal.τ).loc Cert.AdamStatesRefIdeal.main_arg29) = m ((c.tc : Thread Cert.AdamStatesIdeal.nD Cert.AdamStatesIdeal.τ).loc Cert.AdamStatesIdeal.main_arg29)
      ∧ m' ((c.tc : Thread Cert.AdamStatesRefIdeal.nD Cert.AdamStatesRefIdeal.τ).loc Cert.AdamStatesRefIdeal.main_arg30) = m ((c.tc : Thread Cert.AdamStatesIdeal.nD Cert.AdamStatesIdeal.τ).loc Cert.AdamStatesIdeal.main_arg30)
      ∧ m' ((c.tc : Thread Cert.AdamStatesRefIdeal.nD Cert.AdamStatesRefIdeal.τ).loc Cert.AdamStatesRefIdeal.main_arg31) = m ((c.tc : Thread Cert.AdamStatesIdeal.nD Cert.AdamStatesIdeal.τ).loc Cert.AdamStatesIdeal.main_arg31)
      ∧ m' ((c.tc : Thread Cert.AdamStatesRefIdeal.nD Cert.AdamStatesRefIdeal.τ).loc Cert.AdamStatesRefIdeal.main_arg32) = m ((c.tc : Thread Cert.AdamStatesIdeal.nD Cert.AdamStatesIdeal.τ).loc Cert.AdamStatesIdeal.main_arg32)
      ∧ m' ((c.tc : Thread Cert.AdamStatesRefIdeal.nD Cert.AdamStatesRefIdeal.τ).loc Cert.AdamStatesRefIdeal.main_arg33) = m ((c.tc : Thread Cert.AdamStatesIdeal.nD Cert.AdamStatesIdeal.τ).loc Cert.AdamStatesIdeal.main_arg33)
      ∧ m' ((c.tc : Thread Cert.AdamStatesRefIdeal.nD Cert.AdamStatesRefIdeal.τ).loc Cert.AdamStatesRefIdeal.main_arg34) = m ((c.tc : Thread Cert.AdamStatesIdeal.nD Cert.AdamStatesIdeal.τ).loc Cert.AdamStatesIdeal.main_arg34)
      ∧ m' ((c.tc : Thread Cert.AdamStatesRefIdeal.nD Cert.AdamStatesRefIdeal.τ).loc Cert.AdamStatesRefIdeal.main_arg35) = m ((c.tc : Thread Cert.AdamStatesIdeal.nD Cert.AdamStatesIdeal.τ).loc Cert.AdamStatesIdeal.main_arg35)
      ∧ m' ((c.tc : Thread Cert.AdamStatesRefIdeal.nD Cert.AdamStatesRefIdeal.τ).loc Cert.AdamStatesRefIdeal.main_arg36) = m ((c.tc : Thread Cert.AdamStatesIdeal.nD Cert.AdamStatesIdeal.τ).loc Cert.AdamStatesIdeal.main_arg36)
      ∧ m' ((c.tc : Thread Cert.AdamStatesRefIdeal.nD Cert.AdamStatesRefIdeal.τ).loc Cert.AdamStatesRefIdeal.main_arg37) = m ((c.tc : Thread Cert.AdamStatesIdeal.nD Cert.AdamStatesIdeal.τ).loc Cert.AdamStatesIdeal.main_arg37)
      ∧ m' ((c.tc : Thread Cert.AdamStatesRefIdeal.nD Cert.AdamStatesRefIdeal.τ).loc Cert.AdamStatesRefIdeal.main_arg38) = m ((c.tc : Thread Cert.AdamStatesIdeal.nD Cert.AdamStatesIdeal.τ).loc Cert.AdamStatesIdeal.main_arg38)
      ∧ m' ((c.tc : Thread Cert.AdamStatesRefIdeal.nD Cert.AdamStatesRefIdeal.τ).loc Cert.AdamStatesRefIdeal.main_arg39) = m ((c.tc : Thread Cert.AdamStatesIdeal.nD Cert.AdamStatesIdeal.τ).loc Cert.AdamStatesIdeal.main_arg39)
      ∧ m' ((c.tc : Thread Cert.AdamStatesRefIdeal.nD Cert.AdamStatesRefIdeal.τ).loc Cert.AdamStatesRefIdeal.main_arg40) = m ((c.tc : Thread Cert.AdamStatesIdeal.nD Cert.AdamStatesIdeal.τ).loc Cert.AdamStatesIdeal.main_arg40)
      ∧ m' ((c.tc : Thread Cert.AdamStatesRefIdeal.nD Cert.AdamStatesRefIdeal.τ).loc Cert.AdamStatesRefIdeal.main_arg41) = m ((c.tc : Thread Cert.AdamStatesIdeal.nD Cert.AdamStatesIdeal.τ).loc Cert.AdamStatesIdeal.main_arg41)
      ∧ m' ((c.tc : Thread Cert.AdamStatesRefIdeal.nD Cert.AdamStatesRefIdeal.τ).loc Cert.AdamStatesRefIdeal.main_arg42) = m ((c.tc : Thread Cert.AdamStatesIdeal.nD Cert.AdamStatesIdeal.τ).loc Cert.AdamStatesIdeal.main_arg42)
      ∧ m' ((c.tc : Thread Cert.AdamStatesRefIdeal.nD Cert.AdamStatesRefIdeal.τ).loc Cert.AdamStatesRefIdeal.main_arg43) = m ((c.tc : Thread Cert.AdamStatesIdeal.nD Cert.AdamStatesIdeal.τ).loc Cert.AdamStatesIdeal.main_arg43)
      ∧ m' ((c.tc : Thread Cert.AdamStatesRefIdeal.nD Cert.AdamStatesRefIdeal.τ).loc Cert.AdamStatesRefIdeal.main_arg44) = m ((c.tc : Thread Cert.AdamStatesIdeal.nD Cert.AdamStatesIdeal.τ).loc Cert.AdamStatesIdeal.main_arg44)) →
    ∃ (v0 : (c : Dev Cert.AdamStatesIdeal.nD) → Buf (Elt Ideal) ((c.tc : Thread Cert.AdamStatesIdeal.nD Cert.AdamStatesIdeal.τ).loc Cert.AdamStatesIdeal.main_v9_2)) (v1 : (c : Dev Cert.AdamStatesIdeal.nD) → Buf (Elt Ideal) ((c.tc : Thread Cert.AdamStatesIdeal.nD Cert.AdamStatesIdeal.τ).loc Cert.AdamStatesIdeal.main_v9_13)) (v2 : (c : Dev Cert.AdamStatesIdeal.nD) → Buf (Elt Ideal) ((c.tc : Thread Cert.AdamStatesIdeal.nD Cert.AdamStatesIdeal.τ).loc Cert.AdamStatesIdeal.main_v9_24)) (v3 : (c : Dev Cert.AdamStatesIdeal.nD) → Buf (Elt Ideal) ((c.tc : Thread Cert.AdamStatesIdeal.nD Cert.AdamStatesIdeal.τ).loc Cert.AdamStatesIdeal.main_v9_35)) (v4 : (c : Dev Cert.AdamStatesIdeal.nD) → Buf (Elt Ideal) ((c.tc : Thread Cert.AdamStatesIdeal.nD Cert.AdamStatesIdeal.τ).loc Cert.AdamStatesIdeal.main_v9_3)) (v5 : (c : Dev Cert.AdamStatesIdeal.nD) → Buf (Elt Ideal) ((c.tc : Thread Cert.AdamStatesIdeal.nD Cert.AdamStatesIdeal.τ).loc Cert.AdamStatesIdeal.main_v9_14)) (v6 : (c : Dev Cert.AdamStatesIdeal.nD) → Buf (Elt Ideal) ((c.tc : Thread Cert.AdamStatesIdeal.nD Cert.AdamStatesIdeal.τ).loc Cert.AdamStatesIdeal.main_v9_25)) (v7 : (c : Dev Cert.AdamStatesIdeal.nD) → Buf (Elt Ideal) ((c.tc : Thread Cert.AdamStatesIdeal.nD Cert.AdamStatesIdeal.τ).loc Cert.AdamStatesIdeal.main_v9_36)) (v8 : (c : Dev Cert.AdamStatesIdeal.nD) → Buf (Elt Ideal) ((c.tc : Thread Cert.AdamStatesIdeal.nD Cert.AdamStatesIdeal.τ).loc Cert.AdamStatesIdeal.main_v9_5)) (v9 : (c : Dev Cert.AdamStatesIdeal.nD) → Buf (Elt Ideal) ((c.tc : Thread Cert.AdamStatesIdeal.nD Cert.AdamStatesIdeal.τ).loc Cert.AdamStatesIdeal.main_v9_16)) (v10 : (c : Dev Cert.AdamStatesIdeal.nD) → Buf (Elt Ideal) ((c.tc : Thread Cert.AdamStatesIdeal.nD Cert.AdamStatesIdeal.τ).loc Cert.AdamStatesIdeal.main_v9_27)) (v11 : (c : Dev Cert.AdamStatesIdeal.nD) → Buf (Elt Ideal) ((c.tc : Thread Cert.AdamStatesIdeal.nD Cert.AdamStatesIdeal.τ).loc Cert.AdamStatesIdeal.main_v9_38)) (v12 : (c : Dev Cert.AdamStatesIdeal.nD) → Buf (Elt Ideal) ((c.tc : Thread Cert.AdamStatesIdeal.nD Cert.AdamStatesIdeal.τ).loc Cert.AdamStatesIdeal.main_v9_6)) (v13 : (c : Dev Cert.AdamStatesIdeal.nD) → Buf (Elt Ideal) ((c.tc : Thread Cert.AdamStatesIdeal.nD Cert.AdamStatesIdeal.τ).loc Cert.AdamStatesIdeal.main_v9_17)) (v14 : (c : Dev Cert.AdamStatesIdeal.nD) → Buf (Elt Ideal) ((c.tc : Thread Cert.AdamStatesIdeal.nD Cert.AdamStatesIdeal.τ).loc Cert.AdamStatesIdeal.main_v9_28)) (v15 : (c : Dev Cert.AdamStatesIdeal.nD) → Buf (Elt Ideal) ((c.tc : Thread Cert.AdamStatesIdeal.nD Cert.AdamStatesIdeal.τ).loc Cert.AdamStatesIdeal.main_v9_39)) (v16 : (c : Dev Cert.AdamStatesIdeal.nD) → Buf (Elt Ideal) ((c.tc : Thread Cert.AdamStatesIdeal.nD Cert.AdamStatesIdeal.τ).loc Cert.AdamStatesIdeal.main_v9_7)) (v17 : (c : Dev Cert.AdamStatesIdeal.nD) → Buf (Elt Ideal) ((c.tc : Thread Cert.AdamStatesIdeal.nD Cert.AdamStatesIdeal.τ).loc Cert.AdamStatesIdeal.main_v9_18)) (v18 : (c : Dev Cert.AdamStatesIdeal.nD) → Buf (Elt Ideal) ((c.tc : Thread Cert.AdamStatesIdeal.nD Cert.AdamStatesIdeal.τ).loc Cert.AdamStatesIdeal.main_v9_29)) (v19 : (c : Dev Cert.AdamStatesIdeal.nD) → Buf (Elt Ideal) ((c.tc : Thread Cert.AdamStatesIdeal.nD Cert.AdamStatesIdeal.τ).loc Cert.AdamStatesIdeal.main_v9_40)) (v20 : (c : Dev Cert.AdamStatesIdeal.nD) → Buf (Elt Ideal) ((c.tc : Thread Cert.AdamStatesIdeal.nD Cert.AdamStatesIdeal.τ).loc Cert.AdamStatesIdeal.main_v9_8)) (v21 : (c : Dev Cert.AdamStatesIdeal.nD) → Buf (Elt Ideal) ((c.tc : Thread Cert.AdamStatesIdeal.nD Cert.AdamStatesIdeal.τ).loc Cert.AdamStatesIdeal.main_v9_19)) (v22 : (c : Dev Cert.AdamStatesIdeal.nD) → Buf (Elt Ideal) ((c.tc : Thread Cert.AdamStatesIdeal.nD Cert.AdamStatesIdeal.τ).loc Cert.AdamStatesIdeal.main_v9_30)) (v23 : (c : Dev Cert.AdamStatesIdeal.nD) → Buf (Elt Ideal) ((c.tc : Thread Cert.AdamStatesIdeal.nD Cert.AdamStatesIdeal.τ).loc Cert.AdamStatesIdeal.main_v9_41)),
      θ_run (Cert.AdamStatesIdeal.defs (F := Ideal)) (onTc (τ := Cert.AdamStatesIdeal.τ) (Cert.AdamStatesIdeal.main (F := Ideal))) ⟨m, fun _ => 0, g⟩ (fun r => ∀ c : Dev Cert.AdamStatesIdeal.nD,
          r.2.mem ((c.tc : Thread Cert.AdamStatesIdeal.nD Cert.AdamStatesIdeal.τ).loc Cert.AdamStatesIdeal.main_v9_2) = v0 c
          ∧ r.2.mem ((c.tc : Thread Cert.AdamStatesIdeal.nD Cert.AdamStatesIdeal.τ).loc Cert.AdamStatesIdeal.main_v9_13) = v1 c
          ∧ r.2.mem ((c.tc : Thread Cert.AdamStatesIdeal.nD Cert.AdamStatesIdeal.τ).loc Cert.AdamStatesIdeal.main_v9_24) = v2 c
          ∧ r.2.mem ((c.tc : Thread Cert.AdamStatesIdeal.nD Cert.AdamStatesIdeal.τ).loc Cert.AdamStatesIdeal.main_v9_35) = v3 c
          ∧ r.2.mem ((c.tc : Thread Cert.AdamStatesIdeal.nD Cert.AdamStatesIdeal.τ).loc Cert.AdamStatesIdeal.main_v9_3) = v4 c
          ∧ r.2.mem ((c.tc : Thread Cert.AdamStatesIdeal.nD Cert.AdamStatesIdeal.τ).loc Cert.AdamStatesIdeal.main_v9_14) = v5 c
          ∧ r.2.mem ((c.tc : Thread Cert.AdamStatesIdeal.nD Cert.AdamStatesIdeal.τ).loc Cert.AdamStatesIdeal.main_v9_25) = v6 c
          ∧ r.2.mem ((c.tc : Thread Cert.AdamStatesIdeal.nD Cert.AdamStatesIdeal.τ).loc Cert.AdamStatesIdeal.main_v9_36) = v7 c
          ∧ r.2.mem ((c.tc : Thread Cert.AdamStatesIdeal.nD Cert.AdamStatesIdeal.τ).loc Cert.AdamStatesIdeal.main_v9_5) = v8 c
          ∧ r.2.mem ((c.tc : Thread Cert.AdamStatesIdeal.nD Cert.AdamStatesIdeal.τ).loc Cert.AdamStatesIdeal.main_v9_16) = v9 c
          ∧ r.2.mem ((c.tc : Thread Cert.AdamStatesIdeal.nD Cert.AdamStatesIdeal.τ).loc Cert.AdamStatesIdeal.main_v9_27) = v10 c
          ∧ r.2.mem ((c.tc : Thread Cert.AdamStatesIdeal.nD Cert.AdamStatesIdeal.τ).loc Cert.AdamStatesIdeal.main_v9_38) = v11 c
          ∧ r.2.mem ((c.tc : Thread Cert.AdamStatesIdeal.nD Cert.AdamStatesIdeal.τ).loc Cert.AdamStatesIdeal.main_v9_6) = v12 c
          ∧ r.2.mem ((c.tc : Thread Cert.AdamStatesIdeal.nD Cert.AdamStatesIdeal.τ).loc Cert.AdamStatesIdeal.main_v9_17) = v13 c
          ∧ r.2.mem ((c.tc : Thread Cert.AdamStatesIdeal.nD Cert.AdamStatesIdeal.τ).loc Cert.AdamStatesIdeal.main_v9_28) = v14 c
          ∧ r.2.mem ((c.tc : Thread Cert.AdamStatesIdeal.nD Cert.AdamStatesIdeal.τ).loc Cert.AdamStatesIdeal.main_v9_39) = v15 c
          ∧ r.2.mem ((c.tc : Thread Cert.AdamStatesIdeal.nD Cert.AdamStatesIdeal.τ).loc Cert.AdamStatesIdeal.main_v9_7) = v16 c
          ∧ r.2.mem ((c.tc : Thread Cert.AdamStatesIdeal.nD Cert.AdamStatesIdeal.τ).loc Cert.AdamStatesIdeal.main_v9_18) = v17 c
          ∧ r.2.mem ((c.tc : Thread Cert.AdamStatesIdeal.nD Cert.AdamStatesIdeal.τ).loc Cert.AdamStatesIdeal.main_v9_29) = v18 c
          ∧ r.2.mem ((c.tc : Thread Cert.AdamStatesIdeal.nD Cert.AdamStatesIdeal.τ).loc Cert.AdamStatesIdeal.main_v9_40) = v19 c
          ∧ r.2.mem ((c.tc : Thread Cert.AdamStatesIdeal.nD Cert.AdamStatesIdeal.τ).loc Cert.AdamStatesIdeal.main_v9_8) = v20 c
          ∧ r.2.mem ((c.tc : Thread Cert.AdamStatesIdeal.nD Cert.AdamStatesIdeal.τ).loc Cert.AdamStatesIdeal.main_v9_19) = v21 c
          ∧ r.2.mem ((c.tc : Thread Cert.AdamStatesIdeal.nD Cert.AdamStatesIdeal.τ).loc Cert.AdamStatesIdeal.main_v9_30) = v22 c
          ∧ r.2.mem ((c.tc : Thread Cert.AdamStatesIdeal.nD Cert.AdamStatesIdeal.τ).loc Cert.AdamStatesIdeal.main_v9_41) = v23 c
          ∧ r.2.mem ((c.tc : Thread Cert.AdamStatesIdeal.nD Cert.AdamStatesIdeal.τ).loc Cert.AdamStatesIdeal.main_arg0) = m ((c.tc : Thread Cert.AdamStatesIdeal.nD Cert.AdamStatesIdeal.τ).loc Cert.AdamStatesIdeal.main_arg0)
          ∧ r.2.mem ((c.tc : Thread Cert.AdamStatesIdeal.nD Cert.AdamStatesIdeal.τ).loc Cert.AdamStatesIdeal.main_arg1) = m ((c.tc : Thread Cert.AdamStatesIdeal.nD Cert.AdamStatesIdeal.τ).loc Cert.AdamStatesIdeal.main_arg1)
          ∧ r.2.mem ((c.tc : Thread Cert.AdamStatesIdeal.nD Cert.AdamStatesIdeal.τ).loc Cert.AdamStatesIdeal.main_arg2) = m ((c.tc : Thread Cert.AdamStatesIdeal.nD Cert.AdamStatesIdeal.τ).loc Cert.AdamStatesIdeal.main_arg2)
          ∧ r.2.mem ((c.tc : Thread Cert.AdamStatesIdeal.nD Cert.AdamStatesIdeal.τ).loc Cert.AdamStatesIdeal.main_arg3) = m ((c.tc : Thread Cert.AdamStatesIdeal.nD Cert.AdamStatesIdeal.τ).loc Cert.AdamStatesIdeal.main_arg3)
          ∧ r.2.mem ((c.tc : Thread Cert.AdamStatesIdeal.nD Cert.AdamStatesIdeal.τ).loc Cert.AdamStatesIdeal.main_arg4) = m ((c.tc : Thread Cert.AdamStatesIdeal.nD Cert.AdamStatesIdeal.τ).loc Cert.AdamStatesIdeal.main_arg4)
          ∧ r.2.mem ((c.tc : Thread Cert.AdamStatesIdeal.nD Cert.AdamStatesIdeal.τ).loc Cert.AdamStatesIdeal.main_arg5) = m ((c.tc : Thread Cert.AdamStatesIdeal.nD Cert.AdamStatesIdeal.τ).loc Cert.AdamStatesIdeal.main_arg5)
          ∧ r.2.mem ((c.tc : Thread Cert.AdamStatesIdeal.nD Cert.AdamStatesIdeal.τ).loc Cert.AdamStatesIdeal.main_arg6) = m ((c.tc : Thread Cert.AdamStatesIdeal.nD Cert.AdamStatesIdeal.τ).loc Cert.AdamStatesIdeal.main_arg6)
          ∧ r.2.mem ((c.tc : Thread Cert.AdamStatesIdeal.nD Cert.AdamStatesIdeal.τ).loc Cert.AdamStatesIdeal.main_arg7) = m ((c.tc : Thread Cert.AdamStatesIdeal.nD Cert.AdamStatesIdeal.τ).loc Cert.AdamStatesIdeal.main_arg7)
          ∧ r.2.mem ((c.tc : Thread Cert.AdamStatesIdeal.nD Cert.AdamStatesIdeal.τ).loc Cert.AdamStatesIdeal.main_arg8) = m ((c.tc : Thread Cert.AdamStatesIdeal.nD Cert.AdamStatesIdeal.τ).loc Cert.AdamStatesIdeal.main_arg8)
          ∧ r.2.mem ((c.tc : Thread Cert.AdamStatesIdeal.nD Cert.AdamStatesIdeal.τ).loc Cert.AdamStatesIdeal.main_arg9) = m ((c.tc : Thread Cert.AdamStatesIdeal.nD Cert.AdamStatesIdeal.τ).loc Cert.AdamStatesIdeal.main_arg9)
          ∧ r.2.mem ((c.tc : Thread Cert.AdamStatesIdeal.nD Cert.AdamStatesIdeal.τ).loc Cert.AdamStatesIdeal.main_arg10) = m ((c.tc : Thread Cert.AdamStatesIdeal.nD Cert.AdamStatesIdeal.τ).loc Cert.AdamStatesIdeal.main_arg10)
          ∧ r.2.mem ((c.tc : Thread Cert.AdamStatesIdeal.nD Cert.AdamStatesIdeal.τ).loc Cert.AdamStatesIdeal.main_arg11) = m ((c.tc : Thread Cert.AdamStatesIdeal.nD Cert.AdamStatesIdeal.τ).loc Cert.AdamStatesIdeal.main_arg11)
          ∧ r.2.mem ((c.tc : Thread Cert.AdamStatesIdeal.nD Cert.AdamStatesIdeal.τ).loc Cert.AdamStatesIdeal.main_arg12) = m ((c.tc : Thread Cert.AdamStatesIdeal.nD Cert.AdamStatesIdeal.τ).loc Cert.AdamStatesIdeal.main_arg12)
          ∧ r.2.mem ((c.tc : Thread Cert.AdamStatesIdeal.nD Cert.AdamStatesIdeal.τ).loc Cert.AdamStatesIdeal.main_arg13) = m ((c.tc : Thread Cert.AdamStatesIdeal.nD Cert.AdamStatesIdeal.τ).loc Cert.AdamStatesIdeal.main_arg13)
          ∧ r.2.mem ((c.tc : Thread Cert.AdamStatesIdeal.nD Cert.AdamStatesIdeal.τ).loc Cert.AdamStatesIdeal.main_arg14) = m ((c.tc : Thread Cert.AdamStatesIdeal.nD Cert.AdamStatesIdeal.τ).loc Cert.AdamStatesIdeal.main_arg14)
          ∧ r.2.mem ((c.tc : Thread Cert.AdamStatesIdeal.nD Cert.AdamStatesIdeal.τ).loc Cert.AdamStatesIdeal.main_arg15) = m ((c.tc : Thread Cert.AdamStatesIdeal.nD Cert.AdamStatesIdeal.τ).loc Cert.AdamStatesIdeal.main_arg15)
          ∧ r.2.mem ((c.tc : Thread Cert.AdamStatesIdeal.nD Cert.AdamStatesIdeal.τ).loc Cert.AdamStatesIdeal.main_arg16) = m ((c.tc : Thread Cert.AdamStatesIdeal.nD Cert.AdamStatesIdeal.τ).loc Cert.AdamStatesIdeal.main_arg16)
          ∧ r.2.mem ((c.tc : Thread Cert.AdamStatesIdeal.nD Cert.AdamStatesIdeal.τ).loc Cert.AdamStatesIdeal.main_arg17) = m ((c.tc : Thread Cert.AdamStatesIdeal.nD Cert.AdamStatesIdeal.τ).loc Cert.AdamStatesIdeal.main_arg17)
          ∧ r.2.mem ((c.tc : Thread Cert.AdamStatesIdeal.nD Cert.AdamStatesIdeal.τ).loc Cert.AdamStatesIdeal.main_arg18) = m ((c.tc : Thread Cert.AdamStatesIdeal.nD Cert.AdamStatesIdeal.τ).loc Cert.AdamStatesIdeal.main_arg18)
          ∧ r.2.mem ((c.tc : Thread Cert.AdamStatesIdeal.nD Cert.AdamStatesIdeal.τ).loc Cert.AdamStatesIdeal.main_arg19) = m ((c.tc : Thread Cert.AdamStatesIdeal.nD Cert.AdamStatesIdeal.τ).loc Cert.AdamStatesIdeal.main_arg19)
          ∧ r.2.mem ((c.tc : Thread Cert.AdamStatesIdeal.nD Cert.AdamStatesIdeal.τ).loc Cert.AdamStatesIdeal.main_arg20) = m ((c.tc : Thread Cert.AdamStatesIdeal.nD Cert.AdamStatesIdeal.τ).loc Cert.AdamStatesIdeal.main_arg20)
          ∧ r.2.mem ((c.tc : Thread Cert.AdamStatesIdeal.nD Cert.AdamStatesIdeal.τ).loc Cert.AdamStatesIdeal.main_arg21) = m ((c.tc : Thread Cert.AdamStatesIdeal.nD Cert.AdamStatesIdeal.τ).loc Cert.AdamStatesIdeal.main_arg21)
          ∧ r.2.mem ((c.tc : Thread Cert.AdamStatesIdeal.nD Cert.AdamStatesIdeal.τ).loc Cert.AdamStatesIdeal.main_arg22) = m ((c.tc : Thread Cert.AdamStatesIdeal.nD Cert.AdamStatesIdeal.τ).loc Cert.AdamStatesIdeal.main_arg22)
          ∧ r.2.mem ((c.tc : Thread Cert.AdamStatesIdeal.nD Cert.AdamStatesIdeal.τ).loc Cert.AdamStatesIdeal.main_arg23) = m ((c.tc : Thread Cert.AdamStatesIdeal.nD Cert.AdamStatesIdeal.τ).loc Cert.AdamStatesIdeal.main_arg23)
          ∧ r.2.mem ((c.tc : Thread Cert.AdamStatesIdeal.nD Cert.AdamStatesIdeal.τ).loc Cert.AdamStatesIdeal.main_arg24) = m ((c.tc : Thread Cert.AdamStatesIdeal.nD Cert.AdamStatesIdeal.τ).loc Cert.AdamStatesIdeal.main_arg24)
          ∧ r.2.mem ((c.tc : Thread Cert.AdamStatesIdeal.nD Cert.AdamStatesIdeal.τ).loc Cert.AdamStatesIdeal.main_arg25) = m ((c.tc : Thread Cert.AdamStatesIdeal.nD Cert.AdamStatesIdeal.τ).loc Cert.AdamStatesIdeal.main_arg25)
          ∧ r.2.mem ((c.tc : Thread Cert.AdamStatesIdeal.nD Cert.AdamStatesIdeal.τ).loc Cert.AdamStatesIdeal.main_arg26) = m ((c.tc : Thread Cert.AdamStatesIdeal.nD Cert.AdamStatesIdeal.τ).loc Cert.AdamStatesIdeal.main_arg26)
          ∧ r.2.mem ((c.tc : Thread Cert.AdamStatesIdeal.nD Cert.AdamStatesIdeal.τ).loc Cert.AdamStatesIdeal.main_arg27) = m ((c.tc : Thread Cert.AdamStatesIdeal.nD Cert.AdamStatesIdeal.τ).loc Cert.AdamStatesIdeal.main_arg27)
          ∧ r.2.mem ((c.tc : Thread Cert.AdamStatesIdeal.nD Cert.AdamStatesIdeal.τ).loc Cert.AdamStatesIdeal.main_arg28) = m ((c.tc : Thread Cert.AdamStatesIdeal.nD Cert.AdamStatesIdeal.τ).loc Cert.AdamStatesIdeal.main_arg28)
          ∧ r.2.mem ((c.tc : Thread Cert.AdamStatesIdeal.nD Cert.AdamStatesIdeal.τ).loc Cert.AdamStatesIdeal.main_arg29) = m ((c.tc : Thread Cert.AdamStatesIdeal.nD Cert.AdamStatesIdeal.τ).loc Cert.AdamStatesIdeal.main_arg29)
          ∧ r.2.mem ((c.tc : Thread Cert.AdamStatesIdeal.nD Cert.AdamStatesIdeal.τ).loc Cert.AdamStatesIdeal.main_arg30) = m ((c.tc : Thread Cert.AdamStatesIdeal.nD Cert.AdamStatesIdeal.τ).loc Cert.AdamStatesIdeal.main_arg30)
          ∧ r.2.mem ((c.tc : Thread Cert.AdamStatesIdeal.nD Cert.AdamStatesIdeal.τ).loc Cert.AdamStatesIdeal.main_arg31) = m ((c.tc : Thread Cert.AdamStatesIdeal.nD Cert.AdamStatesIdeal.τ).loc Cert.AdamStatesIdeal.main_arg31)
          ∧ r.2.mem ((c.tc : Thread Cert.AdamStatesIdeal.nD Cert.AdamStatesIdeal.τ).loc Cert.AdamStatesIdeal.main_arg32) = m ((c.tc : Thread Cert.AdamStatesIdeal.nD Cert.AdamStatesIdeal.τ).loc Cert.AdamStatesIdeal.main_arg32)
          ∧ r.2.mem ((c.tc : Thread Cert.AdamStatesIdeal.nD Cert.AdamStatesIdeal.τ).loc Cert.AdamStatesIdeal.main_arg33) = m ((c.tc : Thread Cert.AdamStatesIdeal.nD Cert.AdamStatesIdeal.τ).loc Cert.AdamStatesIdeal.main_arg33)
          ∧ r.2.mem ((c.tc : Thread Cert.AdamStatesIdeal.nD Cert.AdamStatesIdeal.τ).loc Cert.AdamStatesIdeal.main_arg34) = m ((c.tc : Thread Cert.AdamStatesIdeal.nD Cert.AdamStatesIdeal.τ).loc Cert.AdamStatesIdeal.main_arg34)
          ∧ r.2.mem ((c.tc : Thread Cert.AdamStatesIdeal.nD Cert.AdamStatesIdeal.τ).loc Cert.AdamStatesIdeal.main_arg35) = m ((c.tc : Thread Cert.AdamStatesIdeal.nD Cert.AdamStatesIdeal.τ).loc Cert.AdamStatesIdeal.main_arg35)
          ∧ r.2.mem ((c.tc : Thread Cert.AdamStatesIdeal.nD Cert.AdamStatesIdeal.τ).loc Cert.AdamStatesIdeal.main_arg36) = m ((c.tc : Thread Cert.AdamStatesIdeal.nD Cert.AdamStatesIdeal.τ).loc Cert.AdamStatesIdeal.main_arg36)
          ∧ r.2.mem ((c.tc : Thread Cert.AdamStatesIdeal.nD Cert.AdamStatesIdeal.τ).loc Cert.AdamStatesIdeal.main_arg37) = m ((c.tc : Thread Cert.AdamStatesIdeal.nD Cert.AdamStatesIdeal.τ).loc Cert.AdamStatesIdeal.main_arg37)
          ∧ r.2.mem ((c.tc : Thread Cert.AdamStatesIdeal.nD Cert.AdamStatesIdeal.τ).loc Cert.AdamStatesIdeal.main_arg38) = m ((c.tc : Thread Cert.AdamStatesIdeal.nD Cert.AdamStatesIdeal.τ).loc Cert.AdamStatesIdeal.main_arg38)
          ∧ r.2.mem ((c.tc : Thread Cert.AdamStatesIdeal.nD Cert.AdamStatesIdeal.τ).loc Cert.AdamStatesIdeal.main_arg39) = m ((c.tc : Thread Cert.AdamStatesIdeal.nD Cert.AdamStatesIdeal.τ).loc Cert.AdamStatesIdeal.main_arg39)
          ∧ r.2.mem ((c.tc : Thread Cert.AdamStatesIdeal.nD Cert.AdamStatesIdeal.τ).loc Cert.AdamStatesIdeal.main_arg40) = m ((c.tc : Thread Cert.AdamStatesIdeal.nD Cert.AdamStatesIdeal.τ).loc Cert.AdamStatesIdeal.main_arg40)
          ∧ r.2.mem ((c.tc : Thread Cert.AdamStatesIdeal.nD Cert.AdamStatesIdeal.τ).loc Cert.AdamStatesIdeal.main_arg41) = m ((c.tc : Thread Cert.AdamStatesIdeal.nD Cert.AdamStatesIdeal.τ).loc Cert.AdamStatesIdeal.main_arg41)
          ∧ r.2.mem ((c.tc : Thread Cert.AdamStatesIdeal.nD Cert.AdamStatesIdeal.τ).loc Cert.AdamStatesIdeal.main_arg42) = m ((c.tc : Thread Cert.AdamStatesIdeal.nD Cert.AdamStatesIdeal.τ).loc Cert.AdamStatesIdeal.main_arg42)
          ∧ r.2.mem ((c.tc : Thread Cert.AdamStatesIdeal.nD Cert.AdamStatesIdeal.τ).loc Cert.AdamStatesIdeal.main_arg43) = m ((c.tc : Thread Cert.AdamStatesIdeal.nD Cert.AdamStatesIdeal.τ).loc Cert.AdamStatesIdeal.main_arg43)
          ∧ r.2.mem ((c.tc : Thread Cert.AdamStatesIdeal.nD Cert.AdamStatesIdeal.τ).loc Cert.AdamStatesIdeal.main_arg44) = m ((c.tc : Thread Cert.AdamStatesIdeal.nD Cert.AdamStatesIdeal.τ).loc Cert.AdamStatesIdeal.main_arg44))
      ∧ θ_run (Cert.AdamStatesRefIdeal.defs (F := Ideal)) (onTc (τ := Cert.AdamStatesRefIdeal.τ) (Cert.AdamStatesRefIdeal.main (F := Ideal))) ⟨m', fun _ => 0, g'⟩ (fun r => ∀ c : Dev Cert.AdamStatesRefIdeal.nD,
          r.2.mem ((c.tc : Thread Cert.AdamStatesRefIdeal.nD Cert.AdamStatesRefIdeal.τ).loc Cert.AdamStatesRefIdeal.main_v0) = v0 c
          ∧ r.2.mem ((c.tc : Thread Cert.AdamStatesRefIdeal.nD Cert.AdamStatesRefIdeal.τ).loc Cert.AdamStatesRefIdeal.main_v24) = v1 c
          ∧ r.2.mem ((c.tc : Thread Cert.AdamStatesRefIdeal.nD Cert.AdamStatesRefIdeal.τ).loc Cert.AdamStatesRefIdeal.main_v5) = v2 c
          ∧ r.2.mem ((c.tc : Thread Cert.AdamStatesRefIdeal.nD Cert.AdamStatesRefIdeal.τ).loc Cert.AdamStatesRefIdeal.main_v11) = v3 c
          ∧ r.2.mem ((c.tc : Thread Cert.AdamStatesRefIdeal.nD Cert.AdamStatesRefIdeal.τ).loc Cert.AdamStatesRefIdeal.main_v25) = v4 c
          ∧ r.2.mem ((c.tc : Thread Cert.AdamStatesRefIdeal.nD Cert.AdamStatesRefIdeal.τ).loc Cert.AdamStatesRefIdeal.main_v49) = v5 c
          ∧ r.2.mem ((c.tc : Thread Cert.AdamStatesRefIdeal.nD Cert.AdamStatesRefIdeal.τ).loc Cert.AdamStatesRefIdeal.main_v30) = v6 c
          ∧ r.2.mem ((c.tc : Thread Cert.AdamStatesRefIdeal.nD Cert.AdamStatesRefIdeal.τ).loc Cert.AdamStatesRefIdeal.main_v36) = v7 c
          ∧ r.2.mem ((c.tc : Thread Cert.AdamStatesRefIdeal.nD Cert.AdamStatesRefIdeal.τ).loc Cert.AdamStatesRefIdeal.main_v77) = v8 c
          ∧ r.2.mem ((c.tc : Thread Cert.AdamStatesRefIdeal.nD Cert.AdamStatesRefIdeal.τ).loc Cert.AdamStatesRefIdeal.main_v78) = v9 c
          ∧ r.2.mem ((c.tc : Thread Cert.AdamStatesRefIdeal.nD Cert.AdamStatesRefIdeal.τ).loc Cert.AdamStatesRefIdeal.main_v79) = v10 c
          ∧ r.2.mem ((c.tc : Thread Cert.AdamStatesRefIdeal.nD Cert.AdamStatesRefIdeal.τ).loc Cert.AdamStatesRefIdeal.main_v80) = v11 c
          ∧ r.2.mem ((c.tc : Thread Cert.AdamStatesRefIdeal.nD Cert.AdamStatesRefIdeal.τ).loc Cert.AdamStatesRefIdeal.main_v108) = v12 c
          ∧ r.2.mem ((c.tc : Thread Cert.AdamStatesRefIdeal.nD Cert.AdamStatesRefIdeal.τ).loc Cert.AdamStatesRefIdeal.main_v109) = v13 c
          ∧ r.2.mem ((c.tc : Thread Cert.AdamStatesRefIdeal.nD Cert.AdamStatesRefIdeal.τ).loc Cert.AdamStatesRefIdeal.main_v110) = v14 c
          ∧ r.2.mem ((c.tc : Thread Cert.AdamStatesRefIdeal.nD Cert.AdamStatesRefIdeal.τ).loc Cert.AdamStatesRefIdeal.main_v111) = v15 c
          ∧ r.2.mem ((c.tc : Thread Cert.AdamStatesRefIdeal.nD Cert.AdamStatesRefIdeal.τ).loc Cert.AdamStatesRefIdeal.main_v113) = v16 c
          ∧ r.2.mem ((c.tc : Thread Cert.AdamStatesRefIdeal.nD Cert.AdamStatesRefIdeal.τ).loc Cert.AdamStatesRefIdeal.main_v137) = v17 c
          ∧ r.2.mem ((c.tc : Thread Cert.AdamStatesRefIdeal.nD Cert.AdamStatesRefIdeal.τ).loc Cert.AdamStatesRefIdeal.main_v118) = v18 c
          ∧ r.2.mem ((c.tc : Thread Cert.AdamStatesRefIdeal.nD Cert.AdamStatesRefIdeal.τ).loc Cert.AdamStatesRefIdeal.main_v124) = v19 c
          ∧ r.2.mem ((c.tc : Thread Cert.AdamStatesRefIdeal.nD Cert.AdamStatesRefIdeal.τ).loc Cert.AdamStatesRefIdeal.main_v139) = v20 c
          ∧ r.2.mem ((c.tc : Thread Cert.AdamStatesRefIdeal.nD Cert.AdamStatesRefIdeal.τ).loc Cert.AdamStatesRefIdeal.main_v163) = v21 c
          ∧ r.2.mem ((c.tc : Thread Cert.AdamStatesRefIdeal.nD Cert.AdamStatesRefIdeal.τ).loc Cert.AdamStatesRefIdeal.main_v144) = v22 c
          ∧ r.2.mem ((c.tc : Thread Cert.AdamStatesRefIdeal.nD Cert.AdamStatesRefIdeal.τ).loc Cert.AdamStatesRefIdeal.main_v150) = v23 c
          ∧ r.2.mem ((c.tc : Thread Cert.AdamStatesRefIdeal.nD Cert.AdamStatesRefIdeal.τ).loc Cert.AdamStatesRefIdeal.main_arg0) = m' ((c.tc : Thread Cert.AdamStatesRefIdeal.nD Cert.AdamStatesRefIdeal.τ).loc Cert.AdamStatesRefIdeal.main_arg0)
          ∧ r.2.mem ((c.tc : Thread Cert.AdamStatesRefIdeal.nD Cert.AdamStatesRefIdeal.τ).loc Cert.AdamStatesRefIdeal.main_arg1) = m' ((c.tc : Thread Cert.AdamStatesRefIdeal.nD Cert.AdamStatesRefIdeal.τ).loc Cert.AdamStatesRefIdeal.main_arg1)
          ∧ r.2.mem ((c.tc : Thread Cert.AdamStatesRefIdeal.nD Cert.AdamStatesRefIdeal.τ).loc Cert.AdamStatesRefIdeal.main_arg2) = m' ((c.tc : Thread Cert.AdamStatesRefIdeal.nD Cert.AdamStatesRefIdeal.τ).loc Cert.AdamStatesRefIdeal.main_arg2)
          ∧ r.2.mem ((c.tc : Thread Cert.AdamStatesRefIdeal.nD Cert.AdamStatesRefIdeal.τ).loc Cert.AdamStatesRefIdeal.main_arg3) = m' ((c.tc : Thread Cert.AdamStatesRefIdeal.nD Cert.AdamStatesRefIdeal.τ).loc Cert.AdamStatesRefIdeal.main_arg3)
          ∧ r.2.mem ((c.tc : Thread Cert.AdamStatesRefIdeal.nD Cert.AdamStatesRefIdeal.τ).loc Cert.AdamStatesRefIdeal.main_arg4) = m' ((c.tc : Thread Cert.AdamStatesRefIdeal.nD Cert.AdamStatesRefIdeal.τ).loc Cert.AdamStatesRefIdeal.main_arg4)
          ∧ r.2.mem ((c.tc : Thread Cert.AdamStatesRefIdeal.nD Cert.AdamStatesRefIdeal.τ).loc Cert.AdamStatesRefIdeal.main_arg5) = m' ((c.tc : Thread Cert.AdamStatesRefIdeal.nD Cert.AdamStatesRefIdeal.τ).loc Cert.AdamStatesRefIdeal.main_arg5)
          ∧ r.2.mem ((c.tc : Thread Cert.AdamStatesRefIdeal.nD Cert.AdamStatesRefIdeal.τ).loc Cert.AdamStatesRefIdeal.main_arg6) = m' ((c.tc : Thread Cert.AdamStatesRefIdeal.nD Cert.AdamStatesRefIdeal.τ).loc Cert.AdamStatesRefIdeal.main_arg6)
          ∧ r.2.mem ((c.tc : Thread Cert.AdamStatesRefIdeal.nD Cert.AdamStatesRefIdeal.τ).loc Cert.AdamStatesRefIdeal.main_arg7) = m' ((c.tc : Thread Cert.AdamStatesRefIdeal.nD Cert.AdamStatesRefIdeal.τ).loc Cert.AdamStatesRefIdeal.main_arg7)
          ∧ r.2.mem ((c.tc : Thread Cert.AdamStatesRefIdeal.nD Cert.AdamStatesRefIdeal.τ).loc Cert.AdamStatesRefIdeal.main_arg8) = m' ((c.tc : Thread Cert.AdamStatesRefIdeal.nD Cert.AdamStatesRefIdeal.τ).loc Cert.AdamStatesRefIdeal.main_arg8)
          ∧ r.2.mem ((c.tc : Thread Cert.AdamStatesRefIdeal.nD Cert.AdamStatesRefIdeal.τ).loc Cert.AdamStatesRefIdeal.main_arg9) = m' ((c.tc : Thread Cert.AdamStatesRefIdeal.nD Cert.AdamStatesRefIdeal.τ).loc Cert.AdamStatesRefIdeal.main_arg9)
          ∧ r.2.mem ((c.tc : Thread Cert.AdamStatesRefIdeal.nD Cert.AdamStatesRefIdeal.τ).loc Cert.AdamStatesRefIdeal.main_arg10) = m' ((c.tc : Thread Cert.AdamStatesRefIdeal.nD Cert.AdamStatesRefIdeal.τ).loc Cert.AdamStatesRefIdeal.main_arg10)
          ∧ r.2.mem ((c.tc : Thread Cert.AdamStatesRefIdeal.nD Cert.AdamStatesRefIdeal.τ).loc Cert.AdamStatesRefIdeal.main_arg11) = m' ((c.tc : Thread Cert.AdamStatesRefIdeal.nD Cert.AdamStatesRefIdeal.τ).loc Cert.AdamStatesRefIdeal.main_arg11)
          ∧ r.2.mem ((c.tc : Thread Cert.AdamStatesRefIdeal.nD Cert.AdamStatesRefIdeal.τ).loc Cert.AdamStatesRefIdeal.main_arg12) = m' ((c.tc : Thread Cert.AdamStatesRefIdeal.nD Cert.AdamStatesRefIdeal.τ).loc Cert.AdamStatesRefIdeal.main_arg12)
          ∧ r.2.mem ((c.tc : Thread Cert.AdamStatesRefIdeal.nD Cert.AdamStatesRefIdeal.τ).loc Cert.AdamStatesRefIdeal.main_arg13) = m' ((c.tc : Thread Cert.AdamStatesRefIdeal.nD Cert.AdamStatesRefIdeal.τ).loc Cert.AdamStatesRefIdeal.main_arg13)
          ∧ r.2.mem ((c.tc : Thread Cert.AdamStatesRefIdeal.nD Cert.AdamStatesRefIdeal.τ).loc Cert.AdamStatesRefIdeal.main_arg14) = m' ((c.tc : Thread Cert.AdamStatesRefIdeal.nD Cert.AdamStatesRefIdeal.τ).loc Cert.AdamStatesRefIdeal.main_arg14)
          ∧ r.2.mem ((c.tc : Thread Cert.AdamStatesRefIdeal.nD Cert.AdamStatesRefIdeal.τ).loc Cert.AdamStatesRefIdeal.main_arg15) = m' ((c.tc : Thread Cert.AdamStatesRefIdeal.nD Cert.AdamStatesRefIdeal.τ).loc Cert.AdamStatesRefIdeal.main_arg15)
          ∧ r.2.mem ((c.tc : Thread Cert.AdamStatesRefIdeal.nD Cert.AdamStatesRefIdeal.τ).loc Cert.AdamStatesRefIdeal.main_arg16) = m' ((c.tc : Thread Cert.AdamStatesRefIdeal.nD Cert.AdamStatesRefIdeal.τ).loc Cert.AdamStatesRefIdeal.main_arg16)
          ∧ r.2.mem ((c.tc : Thread Cert.AdamStatesRefIdeal.nD Cert.AdamStatesRefIdeal.τ).loc Cert.AdamStatesRefIdeal.main_arg17) = m' ((c.tc : Thread Cert.AdamStatesRefIdeal.nD Cert.AdamStatesRefIdeal.τ).loc Cert.AdamStatesRefIdeal.main_arg17)
          ∧ r.2.mem ((c.tc : Thread Cert.AdamStatesRefIdeal.nD Cert.AdamStatesRefIdeal.τ).loc Cert.AdamStatesRefIdeal.main_arg18) = m' ((c.tc : Thread Cert.AdamStatesRefIdeal.nD Cert.AdamStatesRefIdeal.τ).loc Cert.AdamStatesRefIdeal.main_arg18)
          ∧ r.2.mem ((c.tc : Thread Cert.AdamStatesRefIdeal.nD Cert.AdamStatesRefIdeal.τ).loc Cert.AdamStatesRefIdeal.main_arg19) = m' ((c.tc : Thread Cert.AdamStatesRefIdeal.nD Cert.AdamStatesRefIdeal.τ).loc Cert.AdamStatesRefIdeal.main_arg19)
          ∧ r.2.mem ((c.tc : Thread Cert.AdamStatesRefIdeal.nD Cert.AdamStatesRefIdeal.τ).loc Cert.AdamStatesRefIdeal.main_arg20) = m' ((c.tc : Thread Cert.AdamStatesRefIdeal.nD Cert.AdamStatesRefIdeal.τ).loc Cert.AdamStatesRefIdeal.main_arg20)
          ∧ r.2.mem ((c.tc : Thread Cert.AdamStatesRefIdeal.nD Cert.AdamStatesRefIdeal.τ).loc Cert.AdamStatesRefIdeal.main_arg21) = m' ((c.tc : Thread Cert.AdamStatesRefIdeal.nD Cert.AdamStatesRefIdeal.τ).loc Cert.AdamStatesRefIdeal.main_arg21)
          ∧ r.2.mem ((c.tc : Thread Cert.AdamStatesRefIdeal.nD Cert.AdamStatesRefIdeal.τ).loc Cert.AdamStatesRefIdeal.main_arg22) = m' ((c.tc : Thread Cert.AdamStatesRefIdeal.nD Cert.AdamStatesRefIdeal.τ).loc Cert.AdamStatesRefIdeal.main_arg22)
          ∧ r.2.mem ((c.tc : Thread Cert.AdamStatesRefIdeal.nD Cert.AdamStatesRefIdeal.τ).loc Cert.AdamStatesRefIdeal.main_arg23) = m' ((c.tc : Thread Cert.AdamStatesRefIdeal.nD Cert.AdamStatesRefIdeal.τ).loc Cert.AdamStatesRefIdeal.main_arg23)
          ∧ r.2.mem ((c.tc : Thread Cert.AdamStatesRefIdeal.nD Cert.AdamStatesRefIdeal.τ).loc Cert.AdamStatesRefIdeal.main_arg24) = m' ((c.tc : Thread Cert.AdamStatesRefIdeal.nD Cert.AdamStatesRefIdeal.τ).loc Cert.AdamStatesRefIdeal.main_arg24)
          ∧ r.2.mem ((c.tc : Thread Cert.AdamStatesRefIdeal.nD Cert.AdamStatesRefIdeal.τ).loc Cert.AdamStatesRefIdeal.main_arg25) = m' ((c.tc : Thread Cert.AdamStatesRefIdeal.nD Cert.AdamStatesRefIdeal.τ).loc Cert.AdamStatesRefIdeal.main_arg25)
          ∧ r.2.mem ((c.tc : Thread Cert.AdamStatesRefIdeal.nD Cert.AdamStatesRefIdeal.τ).loc Cert.AdamStatesRefIdeal.main_arg26) = m' ((c.tc : Thread Cert.AdamStatesRefIdeal.nD Cert.AdamStatesRefIdeal.τ).loc Cert.AdamStatesRefIdeal.main_arg26)
          ∧ r.2.mem ((c.tc : Thread Cert.AdamStatesRefIdeal.nD Cert.AdamStatesRefIdeal.τ).loc Cert.AdamStatesRefIdeal.main_arg27) = m' ((c.tc : Thread Cert.AdamStatesRefIdeal.nD Cert.AdamStatesRefIdeal.τ).loc Cert.AdamStatesRefIdeal.main_arg27)
          ∧ r.2.mem ((c.tc : Thread Cert.AdamStatesRefIdeal.nD Cert.AdamStatesRefIdeal.τ).loc Cert.AdamStatesRefIdeal.main_arg28) = m' ((c.tc : Thread Cert.AdamStatesRefIdeal.nD Cert.AdamStatesRefIdeal.τ).loc Cert.AdamStatesRefIdeal.main_arg28)
          ∧ r.2.mem ((c.tc : Thread Cert.AdamStatesRefIdeal.nD Cert.AdamStatesRefIdeal.τ).loc Cert.AdamStatesRefIdeal.main_arg29) = m' ((c.tc : Thread Cert.AdamStatesRefIdeal.nD Cert.AdamStatesRefIdeal.τ).loc Cert.AdamStatesRefIdeal.main_arg29)
          ∧ r.2.mem ((c.tc : Thread Cert.AdamStatesRefIdeal.nD Cert.AdamStatesRefIdeal.τ).loc Cert.AdamStatesRefIdeal.main_arg30) = m' ((c.tc : Thread Cert.AdamStatesRefIdeal.nD Cert.AdamStatesRefIdeal.τ).loc Cert.AdamStatesRefIdeal.main_arg30)
          ∧ r.2.mem ((c.tc : Thread Cert.AdamStatesRefIdeal.nD Cert.AdamStatesRefIdeal.τ).loc Cert.AdamStatesRefIdeal.main_arg31) = m' ((c.tc : Thread Cert.AdamStatesRefIdeal.nD Cert.AdamStatesRefIdeal.τ).loc Cert.AdamStatesRefIdeal.main_arg31)
          ∧ r.2.mem ((c.tc : Thread Cert.AdamStatesRefIdeal.nD Cert.AdamStatesRefIdeal.τ).loc Cert.AdamStatesRefIdeal.main_arg32) = m' ((c.tc : Thread Cert.AdamStatesRefIdeal.nD Cert.AdamStatesRefIdeal.τ).loc Cert.AdamStatesRefIdeal.main_arg32)
          ∧ r.2.mem ((c.tc : Thread Cert.AdamStatesRefIdeal.nD Cert.AdamStatesRefIdeal.τ).loc Cert.AdamStatesRefIdeal.main_arg33) = m' ((c.tc : Thread Cert.AdamStatesRefIdeal.nD Cert.AdamStatesRefIdeal.τ).loc Cert.AdamStatesRefIdeal.main_arg33)
          ∧ r.2.mem ((c.tc : Thread Cert.AdamStatesRefIdeal.nD Cert.AdamStatesRefIdeal.τ).loc Cert.AdamStatesRefIdeal.main_arg34) = m' ((c.tc : Thread Cert.AdamStatesRefIdeal.nD Cert.AdamStatesRefIdeal.τ).loc Cert.AdamStatesRefIdeal.main_arg34)
          ∧ r.2.mem ((c.tc : Thread Cert.AdamStatesRefIdeal.nD Cert.AdamStatesRefIdeal.τ).loc Cert.AdamStatesRefIdeal.main_arg35) = m' ((c.tc : Thread Cert.AdamStatesRefIdeal.nD Cert.AdamStatesRefIdeal.τ).loc Cert.AdamStatesRefIdeal.main_arg35)
          ∧ r.2.mem ((c.tc : Thread Cert.AdamStatesRefIdeal.nD Cert.AdamStatesRefIdeal.τ).loc Cert.AdamStatesRefIdeal.main_arg36) = m' ((c.tc : Thread Cert.AdamStatesRefIdeal.nD Cert.AdamStatesRefIdeal.τ).loc Cert.AdamStatesRefIdeal.main_arg36)
          ∧ r.2.mem ((c.tc : Thread Cert.AdamStatesRefIdeal.nD Cert.AdamStatesRefIdeal.τ).loc Cert.AdamStatesRefIdeal.main_arg37) = m' ((c.tc : Thread Cert.AdamStatesRefIdeal.nD Cert.AdamStatesRefIdeal.τ).loc Cert.AdamStatesRefIdeal.main_arg37)
          ∧ r.2.mem ((c.tc : Thread Cert.AdamStatesRefIdeal.nD Cert.AdamStatesRefIdeal.τ).loc Cert.AdamStatesRefIdeal.main_arg38) = m' ((c.tc : Thread Cert.AdamStatesRefIdeal.nD Cert.AdamStatesRefIdeal.τ).loc Cert.AdamStatesRefIdeal.main_arg38)
          ∧ r.2.mem ((c.tc : Thread Cert.AdamStatesRefIdeal.nD Cert.AdamStatesRefIdeal.τ).loc Cert.AdamStatesRefIdeal.main_arg39) = m' ((c.tc : Thread Cert.AdamStatesRefIdeal.nD Cert.AdamStatesRefIdeal.τ).loc Cert.AdamStatesRefIdeal.main_arg39)
          ∧ r.2.mem ((c.tc : Thread Cert.AdamStatesRefIdeal.nD Cert.AdamStatesRefIdeal.τ).loc Cert.AdamStatesRefIdeal.main_arg40) = m' ((c.tc : Thread Cert.AdamStatesRefIdeal.nD Cert.AdamStatesRefIdeal.τ).loc Cert.AdamStatesRefIdeal.main_arg40)
          ∧ r.2.mem ((c.tc : Thread Cert.AdamStatesRefIdeal.nD Cert.AdamStatesRefIdeal.τ).loc Cert.AdamStatesRefIdeal.main_arg41) = m' ((c.tc : Thread Cert.AdamStatesRefIdeal.nD Cert.AdamStatesRefIdeal.τ).loc Cert.AdamStatesRefIdeal.main_arg41)
          ∧ r.2.mem ((c.tc : Thread Cert.AdamStatesRefIdeal.nD Cert.AdamStatesRefIdeal.τ).loc Cert.AdamStatesRefIdeal.main_arg42) = m' ((c.tc : Thread Cert.AdamStatesRefIdeal.nD Cert.AdamStatesRefIdeal.τ).loc Cert.AdamStatesRefIdeal.main_arg42)
          ∧ r.2.mem ((c.tc : Thread Cert.AdamStatesRefIdeal.nD Cert.AdamStatesRefIdeal.τ).loc Cert.AdamStatesRefIdeal.main_arg43) = m' ((c.tc : Thread Cert.AdamStatesRefIdeal.nD Cert.AdamStatesRefIdeal.τ).loc Cert.AdamStatesRefIdeal.main_arg43)
          ∧ r.2.mem ((c.tc : Thread Cert.AdamStatesRefIdeal.nD Cert.AdamStatesRefIdeal.τ).loc Cert.AdamStatesRefIdeal.main_arg44) = m' ((c.tc : Thread Cert.AdamStatesRefIdeal.nD Cert.AdamStatesRefIdeal.τ).loc Cert.AdamStatesRefIdeal.main_arg44))

def Claim : Prop :=
  ∃ (hPool : Cert.Pool.Facts) (hPoolIdeal : Cert.PoolIdeal.Facts) (hPoolRefIdeal : Cert.PoolRefIdeal.Facts) (hNorm : Cert.Norm.Facts) (hNormIdeal : Cert.NormIdeal.Facts) (hNormRefIdeal : Cert.NormRefIdeal.Facts) (hInW : Cert.InW.Facts) (hInWIdeal : Cert.InWIdeal.Facts) (hInWRefIdeal : Cert.InWRefIdeal.Facts) (hInProj : Cert.InProj.Facts) (hInProjIdeal : Cert.InProjIdeal.Facts) (hInProjRefIdeal : Cert.InProjRefIdeal.Facts) (hPle : Cert.Ple.Facts) (hPleIdeal : Cert.PleIdeal.Facts) (hPleRefIdeal : Cert.PleRefIdeal.Facts) (hPleH : Cert.PleH.Facts) (hPleHIdeal : Cert.PleHIdeal.Facts) (hPleHRefIdeal : Cert.PleHRefIdeal.Facts) (hPleGateW : Cert.PleGateW.Facts) (hPleGateWIdeal : Cert.PleGateWIdeal.Facts) (hPleGateWRefIdeal : Cert.PleGateWRefIdeal.Facts) (hPleW : Cert.PleW.Facts) (hPleWIdeal : Cert.PleWIdeal.Facts) (hPleWRefIdeal : Cert.PleWRefIdeal.Facts) (hOutW : Cert.OutW.Facts) (hOutWIdeal : Cert.OutWIdeal.Facts) (hOutWRefIdeal : Cert.OutWRefIdeal.Facts) (hGluW : Cert.GluW.Facts) (hGluWIdeal : Cert.GluWIdeal.Facts) (hGluWRefIdeal : Cert.GluWRefIdeal.Facts) (hGluProj : Cert.GluProj.Facts) (hGluProjIdeal : Cert.GluProjIdeal.Facts) (hGluProjRefIdeal : Cert.GluProjRefIdeal.Facts) (hGateOut : Cert.GateOut.Facts) (hGateOutIdeal : Cert.GateOutIdeal.Facts) (hGateOutRefIdeal : Cert.GateOutRefIdeal.Facts) (hGate : Cert.Gate.Facts) (hGateIdeal : Cert.GateIdeal.Facts) (hGateRefIdeal : Cert.GateRefIdeal.Facts) (hGluD : Cert.GluD.Facts) (hGluDIdeal : Cert.GluDIdeal.Facts) (hGluDRefIdeal : Cert.GluDRefIdeal.Facts) (hAdamIn : Cert.AdamIn.Facts) (hAdamInIdeal : Cert.AdamInIdeal.Facts) (hAdamInRefIdeal : Cert.AdamInRefIdeal.Facts) (hAdamPool : Cert.AdamPool.Facts) (hAdamPoolIdeal : Cert.AdamPoolIdeal.Facts) (hAdamPoolRefIdeal : Cert.AdamPoolRefIdeal.Facts) (hAdamGlu : Cert.AdamGlu.Facts) (hAdamGluIdeal : Cert.AdamGluIdeal.Facts) (hAdamGluRefIdeal : Cert.AdamGluRefIdeal.Facts) (hAdamOut : Cert.AdamOut.Facts) (hAdamOutIdeal : Cert.AdamOutIdeal.Facts) (hAdamOutRefIdeal : Cert.AdamOutRefIdeal.Facts) (hAdamPle : Cert.AdamPle.Facts) (hAdamPleIdeal : Cert.AdamPleIdeal.Facts) (hAdamPleRefIdeal : Cert.AdamPleRefIdeal.Facts) (hAdamPleGate : Cert.AdamPleGate.Facts) (hAdamPleGateIdeal : Cert.AdamPleGateIdeal.Facts) (hAdamPleGateRefIdeal : Cert.AdamPleGateRefIdeal.Facts) (hAdamRows : Cert.AdamRows.Facts) (hAdamRowsIdeal : Cert.AdamRowsIdeal.Facts) (hAdamRowsRefIdeal : Cert.AdamRowsRefIdeal.Facts) (hAdamStates : Cert.AdamStates.Facts) (hAdamStatesIdeal : Cert.AdamStatesIdeal.Facts) (hAdamStatesRefIdeal : Cert.AdamStatesRefIdeal.Facts) (hPre_pool_finite : Cert.Pre_pool_finite.Facts) (hPre_gate_finite : Cert.Pre_gate_finite.Facts) (hPre_glu_finite : Cert.Pre_glu_finite.Facts),
    quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_Norm (hNorm := hNorm)
    ∧ quiescent_NormIdeal (hNormIdeal := hNormIdeal)
    ∧ quiescent_NormRefIdeal (hNormRefIdeal := hNormRefIdeal)
    ∧ quiescent_InW (hInW := hInW)
    ∧ quiescent_InWIdeal (hInWIdeal := hInWIdeal)
    ∧ quiescent_InWRefIdeal (hInWRefIdeal := hInWRefIdeal)
    ∧ quiescent_InProj (hInProj := hInProj)
    ∧ quiescent_InProjIdeal (hInProjIdeal := hInProjIdeal)
    ∧ quiescent_InProjRefIdeal (hInProjRefIdeal := hInProjRefIdeal)
    ∧ quiescent_Ple (hPle := hPle)
    ∧ quiescent_PleIdeal (hPleIdeal := hPleIdeal)
    ∧ quiescent_PleRefIdeal (hPleRefIdeal := hPleRefIdeal)
    ∧ quiescent_PleH (hPleH := hPleH)
    ∧ quiescent_PleHIdeal (hPleHIdeal := hPleHIdeal)
    ∧ quiescent_PleHRefIdeal (hPleHRefIdeal := hPleHRefIdeal)
    ∧ quiescent_PleGateW (hPleGateW := hPleGateW)
    ∧ quiescent_PleGateWIdeal (hPleGateWIdeal := hPleGateWIdeal)
    ∧ quiescent_PleGateWRefIdeal (hPleGateWRefIdeal := hPleGateWRefIdeal)
    ∧ quiescent_PleW (hPleW := hPleW)
    ∧ quiescent_PleWIdeal (hPleWIdeal := hPleWIdeal)
    ∧ quiescent_PleWRefIdeal (hPleWRefIdeal := hPleWRefIdeal)
    ∧ quiescent_OutW (hOutW := hOutW)
    ∧ quiescent_OutWIdeal (hOutWIdeal := hOutWIdeal)
    ∧ quiescent_OutWRefIdeal (hOutWRefIdeal := hOutWRefIdeal)
    ∧ quiescent_GluW (hGluW := hGluW)
    ∧ quiescent_GluWIdeal (hGluWIdeal := hGluWIdeal)
    ∧ quiescent_GluWRefIdeal (hGluWRefIdeal := hGluWRefIdeal)
    ∧ quiescent_GluProj (hGluProj := hGluProj)
    ∧ quiescent_GluProjIdeal (hGluProjIdeal := hGluProjIdeal)
    ∧ quiescent_GluProjRefIdeal (hGluProjRefIdeal := hGluProjRefIdeal)
    ∧ quiescent_GateOut (hGateOut := hGateOut)
    ∧ quiescent_GateOutIdeal (hGateOutIdeal := hGateOutIdeal)
    ∧ quiescent_GateOutRefIdeal (hGateOutRefIdeal := hGateOutRefIdeal)
    ∧ quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_GluD (hGluD := hGluD)
    ∧ quiescent_GluDIdeal (hGluDIdeal := hGluDIdeal)
    ∧ quiescent_GluDIdeal_pre_glu_finite (hGluDIdeal := hGluDIdeal) (hPre_glu_finite := hPre_glu_finite)
    ∧ quiescent_GluDRefIdeal (hGluDRefIdeal := hGluDRefIdeal)
    ∧ quiescent_GluDRefIdeal_pre_glu_finite (hGluDRefIdeal := hGluDRefIdeal) (hPre_glu_finite := hPre_glu_finite)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamPool (hAdamPool := hAdamPool)
    ∧ quiescent_AdamPoolIdeal (hAdamPoolIdeal := hAdamPoolIdeal)
    ∧ quiescent_AdamPoolRefIdeal (hAdamPoolRefIdeal := hAdamPoolRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamPle (hAdamPle := hAdamPle)
    ∧ quiescent_AdamPleIdeal (hAdamPleIdeal := hAdamPleIdeal)
    ∧ quiescent_AdamPleRefIdeal (hAdamPleRefIdeal := hAdamPleRefIdeal)
    ∧ quiescent_AdamPleGate (hAdamPleGate := hAdamPleGate)
    ∧ quiescent_AdamPleGateIdeal (hAdamPleGateIdeal := hAdamPleGateIdeal)
    ∧ quiescent_AdamPleGateRefIdeal (hAdamPleGateRefIdeal := hAdamPleGateRefIdeal)
    ∧ quiescent_AdamRows (hAdamRows := hAdamRows)
    ∧ quiescent_AdamRowsIdeal (hAdamRowsIdeal := hAdamRowsIdeal)
    ∧ quiescent_AdamRowsRefIdeal (hAdamRowsRefIdeal := hAdamRowsRefIdeal)
    ∧ quiescent_AdamStates (hAdamStates := hAdamStates)
    ∧ quiescent_AdamStatesIdeal (hAdamStatesIdeal := hAdamStatesIdeal)
    ∧ quiescent_AdamStatesRefIdeal (hAdamStatesRefIdeal := hAdamStatesRefIdeal)
    ∧ preserves_Pool_PoolIdeal
    ∧ algebraic_PoolIdeal_PoolRefIdeal_pre_pool_finite (hPoolIdeal := hPoolIdeal) (hPoolRefIdeal := hPoolRefIdeal) (hPre_pool_finite := hPre_pool_finite)
    ∧ preserves_Norm_NormIdeal
    ∧ algebraic_NormIdeal_NormRefIdeal (hNormIdeal := hNormIdeal) (hNormRefIdeal := hNormRefIdeal)
    ∧ preserves_InW_InWIdeal
    ∧ algebraic_InWIdeal_InWRefIdeal (hInWIdeal := hInWIdeal) (hInWRefIdeal := hInWRefIdeal)
    ∧ preserves_InProj_InProjIdeal
    ∧ algebraic_InProjIdeal_InProjRefIdeal (hInProjIdeal := hInProjIdeal) (hInProjRefIdeal := hInProjRefIdeal)
    ∧ preserves_Ple_PleIdeal
    ∧ algebraic_PleIdeal_PleRefIdeal (hPleIdeal := hPleIdeal) (hPleRefIdeal := hPleRefIdeal)
    ∧ preserves_PleH_PleHIdeal
    ∧ algebraic_PleHIdeal_PleHRefIdeal (hPleHIdeal := hPleHIdeal) (hPleHRefIdeal := hPleHRefIdeal)
    ∧ preserves_PleGateW_PleGateWIdeal
    ∧ algebraic_PleGateWIdeal_PleGateWRefIdeal (hPleGateWIdeal := hPleGateWIdeal) (hPleGateWRefIdeal := hPleGateWRefIdeal)
    ∧ preserves_PleW_PleWIdeal
    ∧ algebraic_PleWIdeal_PleWRefIdeal (hPleWIdeal := hPleWIdeal) (hPleWRefIdeal := hPleWRefIdeal)
    ∧ preserves_OutW_OutWIdeal
    ∧ algebraic_OutWIdeal_OutWRefIdeal (hOutWIdeal := hOutWIdeal) (hOutWRefIdeal := hOutWRefIdeal)
    ∧ preserves_GluW_GluWIdeal
    ∧ algebraic_GluWIdeal_GluWRefIdeal (hGluWIdeal := hGluWIdeal) (hGluWRefIdeal := hGluWRefIdeal)
    ∧ preserves_GluProj_GluProjIdeal
    ∧ algebraic_GluProjIdeal_GluProjRefIdeal (hGluProjIdeal := hGluProjIdeal) (hGluProjRefIdeal := hGluProjRefIdeal)
    ∧ preserves_GateOut_GateOutIdeal
    ∧ algebraic_GateOutIdeal_GateOutRefIdeal (hGateOutIdeal := hGateOutIdeal) (hGateOutRefIdeal := hGateOutRefIdeal)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_GluD_GluDIdeal
    ∧ algebraic_GluDIdeal_GluDRefIdeal_pre_glu_finite (hGluDIdeal := hGluDIdeal) (hGluDRefIdeal := hGluDRefIdeal) (hPre_glu_finite := hPre_glu_finite)
    ∧ preserves_AdamIn_AdamInIdeal
    ∧ algebraic_AdamInIdeal_AdamInRefIdeal (hAdamInIdeal := hAdamInIdeal) (hAdamInRefIdeal := hAdamInRefIdeal)
    ∧ preserves_AdamPool_AdamPoolIdeal
    ∧ algebraic_AdamPoolIdeal_AdamPoolRefIdeal (hAdamPoolIdeal := hAdamPoolIdeal) (hAdamPoolRefIdeal := hAdamPoolRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamPle_AdamPleIdeal
    ∧ algebraic_AdamPleIdeal_AdamPleRefIdeal (hAdamPleIdeal := hAdamPleIdeal) (hAdamPleRefIdeal := hAdamPleRefIdeal)
    ∧ preserves_AdamPleGate_AdamPleGateIdeal
    ∧ algebraic_AdamPleGateIdeal_AdamPleGateRefIdeal (hAdamPleGateIdeal := hAdamPleGateIdeal) (hAdamPleGateRefIdeal := hAdamPleGateRefIdeal)
    ∧ preserves_AdamRows_AdamRowsIdeal
    ∧ algebraic_AdamRowsIdeal_AdamRowsRefIdeal (hAdamRowsIdeal := hAdamRowsIdeal) (hAdamRowsRefIdeal := hAdamRowsRefIdeal)
    ∧ preserves_AdamStates_AdamStatesIdeal
    ∧ algebraic_AdamStatesIdeal_AdamStatesRefIdeal (hAdamStatesIdeal := hAdamStatesIdeal) (hAdamStatesRefIdeal := hAdamStatesRefIdeal)
-- ==== Pre_gate_finite.lean ====
abbrev S4096x2048 : Shape := ⟨2, ![4096, 2048]⟩
abbrev S2048x2048 : Shape := ⟨2, ![2048, 2048]⟩
abbrev S4096x1024 : Shape := ⟨2, ![4096, 1024]⟩
abbrev S4096x4096 : Shape := ⟨2, ![4096, 4096]⟩
abbrev S1x1024 : Shape := ⟨2, ![1, 1024]⟩
abbrev S8x128 : Shape := ⟨2, ![8, 128]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg5 : FVec F S1x1024 .f32) (main_v14 : IVec S_ 1) (main_v15 : FVec F S4096x2048 .f32) (main_v16 : FVec F S4096x2048 .f32) : IVec S_ 1 :=
  let main_v17 : IVec S4096x2048 1 := cmpf .olt main_v15 main_v16
  let main_c_5 : IVec S_ 1 := constantI S_ 1 1#1
  let main_v18 : IVec S_ 1 := (fun x v => Host.reduce IntOp.andi x v reducesTo_S4096x2048_S_d0_1 h_S_) main_v17 main_c_5
  let main_v19 : IVec S_ 1 := andi main_v14 main_v18
  let main_v20 : FVec F S1x1024 .f32 := Host.absf main_arg5
  let main_cst_6 : FVec F S_ .f32 := constant S_ .f32 0x7F800000#32
  let main_v21 : FVec F S1x1024 .f32 := broadcastInDim S1x1024 ![] bcast_S_S1x1024 main_cst_6
  let main_v22 : IVec S1x1024 1 := cmpf .olt main_v20 main_v21
  let main_c_7 : IVec S_ 1 := constantI S_ 1 1#1
  let main_v23 : IVec S_ 1 := (fun x v => Host.reduce IntOp.andi x v reducesTo_S1x1024_S_d0_1 h_S_) main_v22 main_c_7
  let main_v24 : IVec S_ 1 := andi main_v19 main_v23
  main_v24

def fn {F : FTy → Type} [FloatOps F] (main_arg0 : FVec F S4096x2048 .bf16) (main_arg1 : FVec F S2048x2048 .f32) (main_arg2 : FVec F S4096x1024 .f32) (main_arg3 : FVec F S4096x4096 .f32) (main_arg4 : FVec F S4096x2048 .f32) (main_arg5 : FVec F S1x1024 .f32) (main_arg6 : FVec F S8x128 .f32) (main_arg7 : FVec F S8x128 .f32) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S2048x2048 .f32 := Host.absf main_arg1
  let main_cst_0 : FVec F S_ .f32 := constant S_ .f32 0x7F800000#32
  let main_v6 : FVec F S2048x2048 .f32 := broadcastInDim S2048x2048 ![] bcast_S_S2048x2048 main_cst_0
  let main_v7 : IVec S2048x2048 1 := cmpf .olt main_v5 main_v6
  let main_c_1 : IVec S_ 1 := constantI S_ 1 1#1
  let main_v8 : IVec S_ 1 := (fun x v => Host.reduce IntOp.andi x v reducesTo_S2048x2048_S_d0_1 h_S_) main_v7 main_c_1
  let main_v9 : IVec S_ 1 := andi main_v4 main_v8
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v9 main_v13
  let main_v15 : FVec F S4096x2048 .f32 := Host.absf main_arg4
  let main_cst_4 : FVec F S_ .f32 := constant S_ .f32 0x7F800000#32
  let main_v16 : FVec F S4096x2048 .f32 := broadcastInDim S4096x2048 ![] bcast_S_S4096x2048 main_cst_4
  fn_part1 (F := F) main_arg5 main_v14 main_v15 main_v16
-- ==== Pre_glu_finite.lean ====
abbrev S4096x2048 : Shape := ⟨2, ![4096, 2048]⟩
abbrev S1024x2048 : Shape := ⟨2, ![1024, 2048]⟩
abbrev S4096x1024 : Shape := ⟨2, ![4096, 1024]⟩
abbrev S8x128 : Shape := ⟨2, ![8, 128]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S4096x2048 .bf16) (main_arg1 : FVec F S1024x2048 .f32) (main_arg2 : FVec F S4096x1024 .f32) (main_arg3 : FVec F S8x128 .f32) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S1024x2048 .f32 := Host.absf main_arg1
  let main_cst_0 : FVec F S_ .f32 := constant S_ .f32 0x7F800000#32
  let main_v6 : FVec F S1024x2048 .f32 := broadcastInDim S1024x2048 ![] bcast_S_S1024x2048 main_cst_0
  let main_v7 : IVec S1024x2048 1 := cmpf .olt main_v5 main_v6
  let main_c_1 : IVec S_ 1 := constantI S_ 1 1#1
  let main_v8 : IVec S_ 1 := (fun x v => Host.reduce IntOp.andi x v reducesTo_S1024x2048_S_d0_1 h_S_) main_v7 main_c_1
  let main_v9 : IVec S_ 1 := andi main_v4 main_v8
  main_v9
-- ==== Pre_pool_finite.lean ====
abbrev S4096x1024 : Shape := ⟨2, ![4096, 1024]⟩
abbrev S4x256x256 : Shape := ⟨3, ![4, 256, 256]⟩
abbrev S4096x4096 : Shape := ⟨2, ![4096, 4096]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x256x256 : S_.BroadcastsInDim S4x256x256 (![] : Fin 0 → Fin S4x256x256.rank)
  reducesTo_S4x256x256_S_d0_1_2 : S4x256x256.ReducesTo [0, 1, 2] S_

variable [Facts]

def fn {F : FTy → Type} [FloatOps F] (main_arg0 : FVec F S4096x1024 .bf16) (main_arg1 : FVec F S4x256x256 .f32) (main_arg2 : FVec F S4096x4096 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4x256x256 .f32 := Host.absf main_arg1
  let main_cst_0 : FVec F S_ .f32 := constant S_ .f32 0x7F800000#32
  let main_v6 : FVec F S4x256x256 .f32 := broadcastInDim S4x256x256 ![] bcast_S_S4x256x256 main_cst_0
  let main_v7 : IVec S4x256x256 1 := cmpf .olt main_v5 main_v6
  let main_c_1 : IVec S_ 1 := constantI S_ 1 1#1
  let main_v8 : IVec S_ 1 := (fun x v => Host.reduce IntOp.andi x v reducesTo_S4x256x256_S_d0_1_2 h_S_) main_v7 main_c_1
  let main_v9 : IVec S_ 1 := andi main_v4 main_v8
  main_v9
-- ==== Pool.lean ====
abbrev S4096x1024 : Shape := ⟨2, ![4096, 1024]⟩
abbrev S4x256x256 : Shape := ⟨3, ![4, 256, 256]⟩
abbrev S4096x4096 : Shape := ⟨2, ![4096, 4096]⟩
abbrev S4096x256 : Shape := ⟨2, ![4096, 256]⟩
abbrev S1x256x256 : Shape := ⟨3, ![1, 256, 256]⟩
abbrev S4096x128 : Shape := ⟨2, ![4096, 128]⟩
abbrev S256x256 : Shape := ⟨2, ![256, 256]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x256x256, .f32⟩
  | .hbm, ⟨2, _⟩ => ⟨S4096x4096, .bf16⟩
  | .hbm, ⟨3, _⟩ => ⟨S4x256x256, .bf16⟩
  | .hbm, ⟨4, _⟩ => ⟨S4096x4096, .bf16⟩
  | .local _ .vmem, ⟨0, _⟩ => ⟨S4096x256, .bf16⟩
  | .local _ .vmem, ⟨1, _⟩ => ⟨S4096x256, .bf16⟩
  | .local _ .vmem, ⟨2, _⟩ => ⟨S1x256x256, .bf16⟩
  | .local _ .vmem, ⟨3, _⟩ => ⟨S1x256x256, .bf16⟩
  | .local _ .vmem, ⟨4, _⟩ => ⟨S4096x256, .bf16⟩
  | .local _ .vmem, ⟨5, _⟩ => ⟨S4096x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PoolRefIdeal.lean ====
abbrev S4096x1024 : Shape := ⟨2, ![4096, 1024]⟩
abbrev S4x256x256 : Shape := ⟨3, ![4, 256, 256]⟩
abbrev S4096x4096 : Shape := ⟨2, ![4096, 4096]⟩
abbrev S_ : Shape := ⟨0, ![]⟩
abbrev S4096x4x256 : Shape := ⟨3, ![4096, 4, 256]⟩
abbrev S4096 : Shape := ⟨1, ![4096]⟩
abbrev S4096x1x256 : Shape := ⟨3, ![4096, 1, 256]⟩
abbrev S4096x256 : Shape := ⟨2, ![4096, 256]⟩
abbrev S2x256 : Shape := ⟨2, ![2, 256]⟩
abbrev S4094x256 : Shape := ⟨2, ![4094, 256]⟩
abbrev S4096x1 : Shape := ⟨2, ![4096, 1]⟩
abbrev S4x256 : Shape := ⟨2, ![4, 256]⟩
abbrev S4092x256 : Shape := ⟨2, ![4092, 256]⟩
abbrev S8x256 : Shape := ⟨2, ![8, 256]⟩
abbrev S4088x256 : Shape := ⟨2, ![4088, 256]⟩
abbrev S16x256 : Shape := ⟨2, ![16, 256]⟩
abbrev S4080x256 : Shape := ⟨2, ![4080, 256]⟩
abbrev S4x256x4096 : Shape := ⟨3, ![4, 256, 4096]⟩
abbrev S4x4096x256 : Shape := ⟨3, ![4, 4096, 256]⟩
abbrev S4096x3072 : Shape := ⟨2, ![4096, 3072]⟩

abbrev nBuf : Space → Nat
  | .hbm => 191
  | .vmem => 0
  | .smem => 0
  | _ => 0

abbrev hbmTy0_0 (i : Nat) : BufTy := match i % 128 with
  | 0 => ⟨S4096x1024, .bf16⟩
  | 1 => ⟨S4x256x256, .f32⟩
  | 2 => ⟨S4096x4096, .bf16⟩
  | 3 => ⟨S_, .f32⟩
  | 4 => ⟨S4096x1024, .f32⟩
  | 5 => ⟨S4096x4x256, .f32⟩
  | 6 => ⟨S4096, .i32⟩
  | 7 => ⟨S4096x1x256, .f32⟩
  | 8 => ⟨S4096x256, .f32⟩
  | 9 => ⟨S_, .f32⟩
  | 10 => ⟨S_, .f32⟩
  | 11 => ⟨S4096x256, .f32⟩
  | 12 => ⟨S_, .f32⟩
  | 13 => ⟨S2x256, .f32⟩
  | 14 => ⟨S4094x256, .f32⟩
  | 15 => ⟨S4096x256, .f32⟩
  | 16 => ⟨S_, .f32⟩
  | 17 => ⟨S2x256, .f32⟩
  | 18 => ⟨S_, .i32⟩
  | 19 => ⟨S4096, .i32⟩
  | 20 => ⟨S4096, .i32⟩
  | 21 => ⟨S_, .i32⟩
  | 22 => ⟨S4096, .i32⟩
  | 23 => ⟨S4096, .i32⟩
  | 24 => ⟨S4096, .f32⟩
  | 25 => ⟨S4096x1, .f32⟩
  | 26 => ⟨S4096x256, .f32⟩
  | 27 => ⟨S4096x256, .f32⟩
  | 28 => ⟨S4096x256, .f32⟩
  | 29 => ⟨S4096x256, .f32⟩
  | 30 => ⟨S4096x1x256, .f32⟩
  | 31 => ⟨S4096x256, .f32⟩
  | 32 => ⟨S_, .f32⟩
  | 33 => ⟨S_, .f32⟩
  | 34 => ⟨S4096x256, .f32⟩
  | 35 => ⟨S_, .f32⟩
  | 36 => ⟨S4x256, .f32⟩
  | 37 => ⟨S4092x256, .f32⟩
  | 38 => ⟨S4096x256, .f32⟩
  | 39 => ⟨S_, .f32⟩
  | 40 => ⟨S4x256, .f32⟩
  | 41 => ⟨S_, .i32⟩
  | 42 => ⟨S4096, .i32⟩
  | 43 => ⟨S4096, .i32⟩
  | 44 => ⟨S_, .i32⟩
  | 45 => ⟨S4096, .i32⟩
  | 46 => ⟨S4096, .i32⟩
  | 47 => ⟨S4096, .f32⟩
  | 48 => ⟨S4096x1, .f32⟩
  | 49 => ⟨S4096x256, .f32⟩
  | 50 => ⟨S4096x256, .f32⟩
  | 51 => ⟨S4096x256, .f32⟩
  | 52 => ⟨S4096x256, .f32⟩
  | 53 => ⟨S4096x1x256, .f32⟩
  | 54 => ⟨S4096x256, .f32⟩
  | 55 => ⟨S_, .f32⟩
  | 56 => ⟨S_, .f32⟩
  | 57 => ⟨S4096x256, .f32⟩
  | 58 => ⟨S_, .f32⟩
  | 59 => ⟨S8x256, .f32⟩
  | 60 => ⟨S4088x256, .f32⟩
  | 61 => ⟨S4096x256, .f32⟩
  | 62 => ⟨S_, .f32⟩
  | 63 => ⟨S8x256, .f32⟩
  | 64 => ⟨S_, .i32⟩
  | 65 => ⟨S4096, .i32⟩
  | 66 => ⟨S4096, .i32⟩
  | 67 => ⟨S_, .i32⟩
  | 68 => ⟨S4096, .i32⟩
  | 69 => ⟨S4096, .i32⟩
  | 70 => ⟨S4096, .f32⟩
  | 71 => ⟨S4096x1, .f32⟩
  | 72 => ⟨S4096x256, .f32⟩
  | 73 => ⟨S4096x256, .f32⟩
  | 74 => ⟨S4096x256, .f32⟩
  | 75 => ⟨S4096x256, .f32⟩
  | 76 => ⟨S4096x1x256, .f32⟩
  | 77 => ⟨S4096x256, .f32⟩
  | 78 => ⟨S_, .f32⟩
  | 79 => ⟨S_, .f32⟩
  | 80 => ⟨S4096x256, .f32⟩
  | 81 => ⟨S_, .f32⟩
  | 82 => ⟨S16x256, .f32⟩
  | 83 => ⟨S4080x256, .f32⟩
  | 84 => ⟨S4096x256, .f32⟩
  | 85 => ⟨S_, .f32⟩
  | 86 => ⟨S16x256, .f32⟩
  | 87 => ⟨S_, .i32⟩
  | 88 => ⟨S4096, .i32⟩
  | 89 => ⟨S4096, .i32⟩
  | 90 => ⟨S_, .i32⟩
  | 91 => ⟨S4096, .i32⟩
  | 92 => ⟨S4096, .i32⟩
  | 93 => ⟨S4096, .f32⟩
  | 94 => ⟨S4096x1, .f32⟩
  | 95 => ⟨S4096x256, .f32⟩
  | 96 => ⟨S4096x256, .f32⟩
  | 97 => ⟨S4096x256, .f32⟩
  | 98 => ⟨S4096x256, .f32⟩
  | 99 => ⟨S4096x1x256, .f32⟩
  | 100 => ⟨S4096x1x256, .f32⟩
  | 101 => ⟨S4096x1x256, .f32⟩
  | 102 => ⟨S4096x1x256, .f32⟩
  | 103 => ⟨S4096x4x256, .f32⟩
  | 104 => ⟨S4x256x4096, .f32⟩
  | 105 => ⟨S4096x4x256, .f32⟩
  | 106 => ⟨S4096x1024, .f32⟩
  | 107 => ⟨S4096x1024, .f32⟩
  | 108 => ⟨S4096x4x256, .f32⟩
  | 109 => ⟨S4x256x4096, .f32⟩
  | 110 => ⟨S4x4096x256, .f32⟩
  | 111 => ⟨S4096x4x256, .f32⟩
  | 112 => ⟨S4096x1x256, .f32⟩
  | 113 => ⟨S4096x256, .f32⟩
  | 114 => ⟨S4096x1x256, .f32⟩
  | 115 => ⟨S4096x256, .f32⟩
  | 116 => ⟨S4096x1x256, .f32⟩
  | 117 => ⟨S4096x256, .f32⟩
  | 118 => ⟨S4096x1x256, .f32⟩
  | 119 => ⟨S4096x256, .f32⟩
  | 120 => ⟨S4096x256, .f32⟩
  | 121 => ⟨S4096x256, .f32⟩
  | 122 => ⟨S4096x256, .f32⟩
  | 123 => ⟨S4096x256, .f32⟩
  | 124 => ⟨S16x256, .f32⟩
  | 125 => ⟨S4080x256, .f32⟩
  | 126 => ⟨S_, .f32⟩
  | 127 => ⟨S4096x256, .f32⟩
  | _ => ⟨S4096x1024, .bf16⟩

abbrev hbmTy0_1 (i : Nat) : BufTy := match i % 128 with
  | 0 => ⟨S4096x256, .f32⟩
  | 1 => ⟨S_, .f32⟩
  | 2 => ⟨S_, .f32⟩
  | 3 => ⟨S4096x256, .f32⟩
  | 4 => ⟨S4096x256, .f32⟩
  | 5 => ⟨S4096x1x256, .f32⟩
  | 6 => ⟨S_, .f32⟩
  | 7 => ⟨S4096x4x256, .f32⟩
  | 8 => ⟨S4096x256, .f32⟩
  | 9 => ⟨S4096x256, .f32⟩
  | 10 => ⟨S4096x256, .f32⟩
  | 11 => ⟨S4096x256, .f32⟩
  | 12 => ⟨S8x256, .f32⟩
  | 13 => ⟨S4088x256, .f32⟩
  | 14 => ⟨S_, .f32⟩
  | 15 => ⟨S4096x256, .f32⟩
  | 16 => ⟨S4096x256, .f32⟩
  | 17 => ⟨S_, .f32⟩
  | 18 => ⟨S_, .f32⟩
  | 19 => ⟨S4096x256, .f32⟩
  | 20 => ⟨S4096x256, .f32⟩
  | 21 => ⟨S4096x1x256, .f32⟩
  | 22 => ⟨S_, .f32⟩
  | 23 => ⟨S4096x4x256, .f32⟩
  | 24 => ⟨S4096x4x256, .f32⟩
  | 25 => ⟨S4096x256, .f32⟩
  | 26 => ⟨S4096x256, .f32⟩
  | 27 => ⟨S4096x256, .f32⟩
  | 28 => ⟨S4096x256, .f32⟩
  | 29 => ⟨S4x256, .f32⟩
  | 30 => ⟨S4092x256, .f32⟩
  | 31 => ⟨S_, .f32⟩
  | 32 => ⟨S4096x256, .f32⟩
  | 33 => ⟨S4096x256, .f32⟩
  | 34 => ⟨S_, .f32⟩
  | 35 => ⟨S_, .f32⟩
  | 36 => ⟨S4096x256, .f32⟩
  | 37 => ⟨S4096x256, .f32⟩
  | 38 => ⟨S4096x1x256, .f32⟩
  | 39 => ⟨S_, .f32⟩
  | 40 => ⟨S4096x4x256, .f32⟩
  | 41 => ⟨S4096x4x256, .f32⟩
  | 42 => ⟨S4096x256, .f32⟩
  | 43 => ⟨S4096x256, .f32⟩
  | 44 => ⟨S4096x256, .f32⟩
  | 45 => ⟨S4096x256, .f32⟩
  | 46 => ⟨S2x256, .f32⟩
  | 47 => ⟨S4094x256, .f32⟩
  | 48 => ⟨S_, .f32⟩
  | 49 => ⟨S4096x256, .f32⟩
  | 50 => ⟨S4096x256, .f32⟩
  | 51 => ⟨S_, .f32⟩
  | 52 => ⟨S_, .f32⟩
  | 53 => ⟨S4096x256, .f32⟩
  | 54 => ⟨S4096x256, .f32⟩
  | 55 => ⟨S4096x1x256, .f32⟩
  | 56 => ⟨S_, .f32⟩
  | 57 => ⟨S4096x4x256, .f32⟩
  | 58 => ⟨S4096x4x256, .f32⟩
  | 59 => ⟨S4096x1024, .f32⟩
  | 60 => ⟨S4096x1024, .bf16⟩
  | 61 => ⟨S4096x3072, .bf16⟩
  | 62 => ⟨S4096x4096, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_call0_cst : Ref sig .tc := ⟨.hbm, 9, rfl⟩
abbrev main_call0_call0_v0 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call1_call0_cst : Ref sig .tc := ⟨.hbm, 32, rfl⟩
abbrev main_call1_call0_v0 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call2_call0_cst : Ref sig .tc := ⟨.hbm, 55, rfl⟩
abbrev main_call2_call0_v0 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_c_9 : Ref sig .tc := ⟨.hbm, 64, rfl⟩
abbrev main_v44 : Ref sig .tc := ⟨.hbm, 65, rfl⟩
abbrev main_v45 : Ref sig .tc := ⟨.hbm, 66, rfl⟩
abbrev main_c_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_call3_call0_cst : Ref sig .tc := ⟨.hbm, 78, rfl⟩
abbrev main_call3_call0_v0 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_c_13 : Ref sig .tc := ⟨.hbm, 87, rfl⟩
abbrev main_v61 : Ref sig .tc := ⟨.hbm, 88, rfl⟩
abbrev main_v62 : Ref sig .tc := ⟨.hbm, 89, rfl⟩
abbrev main_c_14 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_15 : Ref sig .tc := ⟨.hbm, 126, rfl⟩
abbrev main_v98 : Ref sig .tc := ⟨.hbm, 127, rfl⟩
abbrev main_v99 : Ref sig .tc := ⟨.hbm, 128, rfl⟩
abbrev main_call4_call0_cst : Ref sig .tc := ⟨.hbm, 129, rfl⟩
abbrev main_call4_call0_v0 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_16 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_cst_17 : Ref sig .tc := ⟨.hbm, 142, rfl⟩
abbrev main_v110 : Ref sig .tc := ⟨.hbm, 143, rfl⟩
abbrev main_v111 : Ref sig .tc := ⟨.hbm, 144, rfl⟩
abbrev main_call5_call0_cst : Ref sig .tc := ⟨.hbm, 145, rfl⟩
abbrev main_call5_call0_v0 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_cst_18 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_cst_19 : Ref sig .tc := ⟨.hbm, 159, rfl⟩
abbrev main_v123 : Ref sig .tc := ⟨.hbm, 160, rfl⟩
abbrev main_v124 : Ref sig .tc := ⟨.hbm, 161, rfl⟩
abbrev main_call6_call0_cst : Ref sig .tc := ⟨.hbm, 162, rfl⟩
abbrev main_call6_call0_v0 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_cst_20 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_cst_21 : Ref sig .tc := ⟨.hbm, 176, rfl⟩
abbrev main_v136 : Ref sig .tc := ⟨.hbm, 177, rfl⟩
abbrev main_v137 : Ref sig .tc := ⟨.hbm, 178, rfl⟩
abbrev main_call7_call0_cst : Ref sig .tc := ⟨.hbm, 179, rfl⟩
abbrev main_call7_call0_v0 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_cst_22 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩

abbrev nD : Nat := 1
abbrev τ : Topo := Topo.v7x

variable {F : FTy → Type} [FloatOps F]
-- ==== Norm.lean ====
abbrev S4096x4096 : Shape := ⟨2, ![4096, 4096]⟩
abbrev S2048x4096 : Shape := ⟨2, ![2048, 4096]⟩
abbrev S4096x2048 : Shape := ⟨2, ![4096, 2048]⟩
abbrev S1x2048 : Shape := ⟨2, ![1, 2048]⟩
abbrev S8x128 : Shape := ⟨2, ![8, 128]⟩
abbrev S256x4096 : Shape := ⟨2, ![256, 4096]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S8x128, .f32⟩
  | .hbm, ⟨6, _⟩ => ⟨S2048x4096, .bf16⟩
  | .hbm, ⟨7, _⟩ => ⟨S4096x2048, .f32⟩
  | .hbm, ⟨8, _⟩ => ⟨S1x2048, .f32⟩
  | .local _ .vmem, ⟨0, _⟩ => ⟨S256x4096, .bf16⟩
  | .local _ .vmem, ⟨1, _⟩ => ⟨S256x4096, .bf16⟩
  | .local _ .vmem, ⟨2, _⟩ => ⟨S2048x4096, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S8x128, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormRefIdeal.lean ====
abbrev S4096x4096 : Shape := ⟨2, ![4096, 4096]⟩
abbrev S2048x4096 : Shape := ⟨2, ![2048, 4096]⟩
abbrev S4096x2048 : Shape := ⟨2, ![4096, 2048]⟩
abbrev S1x2048 : Shape := ⟨2, ![1, 2048]⟩
abbrev S8x128 : Shape := ⟨2, ![8, 128]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 57
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S8x128, .f32⟩
  | .hbm, ⟨6, _⟩ => ⟨S2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S4096x4096, .f32⟩
  | .hbm, ⟨28, _⟩ => ⟨S4096x4096, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S2048, .f32⟩
  | .hbm, ⟨38, _⟩ => ⟨S4096x2048, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S1x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== InW.lean ====
abbrev S4096x2048 : Shape := ⟨2, ![4096, 2048]⟩
abbrev S4096x4096 : Shape := ⟨2, ![4096, 4096]⟩
abbrev S8x128 : Shape := ⟨2, ![8, 128]⟩
abbrev S2048x4096 : Shape := ⟨2, ![2048, 4096]⟩
abbrev S1024x512 : Shape := ⟨2, ![1024, 512]⟩
abbrev S1024x4096 : Shape := ⟨2, ![1024, 4096]⟩
abbrev S512x4096 : Shape := ⟨2, ![512, 4096]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S8x128, .f32⟩
  | .hbm, ⟨3, _⟩ => ⟨S2048x4096, .bf16⟩
  | .local _ .vmem, ⟨0, _⟩ => ⟨S1024x512, .bf16⟩
  | .local _ .vmem, ⟨1, _⟩ => ⟨S1024x512, .bf16⟩
  | .local _ .vmem, ⟨2, _⟩ => ⟨S1024x4096, .bf16⟩
  | .local _ .vmem, ⟨3, _⟩ => ⟨S1024x4096, .bf16⟩
  | .local _ .vmem, ⟨4, _⟩ => ⟨S8x128, .f32⟩
  | .local _ .vmem, ⟨5, _⟩ => ⟨S512x4096, .bf16⟩
  | .local _ .vmem, ⟨6, _⟩ => ⟨S512x4096, .bf16⟩
  | .local _ .vmem, ⟨7, _⟩ => ⟨S512x4096, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InWRefIdeal.lean ====
abbrev S4096x2048 : Shape := ⟨2, ![4096, 2048]⟩
abbrev S4096x4096 : Shape := ⟨2, ![4096, 4096]⟩
abbrev S8x128 : Shape := ⟨2, ![8, 128]⟩
abbrev S_ : Shape := ⟨0, ![]⟩
abbrev S2048x4096 : Shape := ⟨2, ![2048, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S8x128, .f32⟩
  | .hbm, ⟨3, _⟩ => ⟨S_, .f32⟩
  | .hbm, ⟨4, _⟩ => ⟨S2048x4096, .f32⟩
  | .hbm, ⟨5, _⟩ => ⟨S4096x2048, .f32⟩
  | .hbm, ⟨6, _⟩ => ⟨S4096x4096, .f32⟩
  | .hbm, ⟨7, _⟩ => ⟨S4096x4096, .f32⟩
  | .hbm, ⟨8, _⟩ => ⟨S4096x2048, .f32⟩
  | .hbm, ⟨9, _⟩ => ⟨S2048x4096, .f32⟩
  | .hbm, ⟨10, _⟩ => ⟨S2048x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== InProj.lean ====
abbrev S4096x2048 : Shape := ⟨2, ![4096, 2048]⟩
abbrev S1x2048 : Shape := ⟨2, ![1, 2048]⟩
abbrev S2048x4096 : Shape := ⟨2, ![2048, 4096]⟩
abbrev S8x128 : Shape := ⟨2, ![8, 128]⟩
abbrev S4096x4096 : Shape := ⟨2, ![4096, 4096]⟩
abbrev S256x2048 : Shape := ⟨2, ![256, 2048]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x4096, .f32⟩
  | .hbm, ⟨3, _⟩ => ⟨S8x128, .f32⟩
  | .hbm, ⟨4, _⟩ => ⟨S2048x4096, .bf16⟩
  | .hbm, ⟨5, _⟩ => ⟨S4096x2048, .bf16⟩
  | .hbm, ⟨6, _⟩ => ⟨S4096x4096, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x4096, .bf16⟩
  | .local _ .vmem, ⟨4, _⟩ => ⟨S8x128, .f32⟩
  | .local _ .vmem, ⟨5, _⟩ => ⟨S256x2048, .bf16⟩
  | .local _ .vmem, ⟨6, _⟩ => ⟨S256x2048, .bf16⟩
  | .local _ .vmem, ⟨7, _⟩ => ⟨S256x4096, .f32⟩
  | .local _ .vmem, ⟨8, _⟩ => ⟨S256x4096, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InProjRefIdeal.lean ====
abbrev S4096x2048 : Shape := ⟨2, ![4096, 2048]⟩
abbrev S1x2048 : Shape := ⟨2, ![1, 2048]⟩
abbrev S2048x4096 : Shape := ⟨2, ![2048, 4096]⟩
abbrev S8x128 : Shape := ⟨2, ![8, 128]⟩
abbrev S2048 : Shape := ⟨1, ![2048]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x4096, .f32⟩
  | .hbm, ⟨3, _⟩ => ⟨S8x128, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S1x2048, .f32⟩
  | .hbm, ⟨19, _⟩ => ⟨S4096x2048, .f32⟩
  | .hbm, ⟨20, _⟩ => ⟨S4096x2048, .f32⟩
  | .hbm, ⟨21, _⟩ => ⟨S4096x2048, .bf16⟩
  | .hbm, ⟨22, _⟩ => ⟨S4096x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Ple.lean ====
abbrev S4096x2048 : Shape := ⟨2, ![4096, 2048]⟩
abbrev S4096x256 : Shape := ⟨2, ![4096, 256]⟩
abbrev S2048x2048 : Shape := ⟨2, ![2048, 2048]⟩
abbrev S256x2048 : Shape := ⟨2, ![256, 2048]⟩
abbrev S1x2048 : Shape := ⟨2, ![1, 2048]⟩
abbrev S1x1 : Shape := ⟨2, ![1, 1]⟩
abbrev S256x256 : Shape := ⟨2, ![256, 256]⟩
abbrev S256 : Shape := ⟨1, ![256]⟩
abbrev S256x1 : Shape := ⟨2, ![256, 1]⟩
abbrev S1 : Shape := ⟨1, ![1]⟩
abbrev S2048 : Shape := ⟨1, ![2048]⟩

abbrev nBuf : Space → Nat
  | .hbm => 14
  | .vmem => 19
  | .smem => 0
  | _ => 0

abbrev bufTy : (tb : Table) → Fin (tcTables nBuf tb) → BufTy
  | .hbm, ⟨0, _⟩ => ⟨S4096x2048, .f32⟩
  | .hbm, ⟨1, _⟩ => ⟨S4096x256, .f32⟩
  | .hbm, ⟨2, _⟩ => ⟨S2048x2048, .f32⟩
  | .hbm, ⟨3, _⟩ => ⟨S256x2048, .f32⟩
  | .hbm, ⟨4, _⟩ => ⟨S4096x2048, .f32⟩
  | .hbm, ⟨5, _⟩ => ⟨S1x2048, .f32⟩
  | .hbm, ⟨6, _⟩ => ⟨S4096x2048, .bf16⟩
  | .hbm, ⟨7, _⟩ => ⟨S2048x2048, .bf16⟩
  | .hbm, ⟨8, _⟩ => ⟨S256x2048, .bf16⟩
  | .hbm, ⟨9, _⟩ => ⟨S4096x2048, .bf16⟩
  | .hbm, ⟨10, _⟩ => ⟨S4096x2048, .bf16⟩
  | .hbm, ⟨11, _⟩ => ⟨S4096x2048, .f32⟩
  | .hbm, ⟨12, _⟩ => ⟨S1x2048, .f32⟩
  | .hbm, ⟨13, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x256, .f32⟩
  | .local _ .vmem, ⟨5, _⟩ => ⟨S256x256, .f32⟩
  | .local _ .vmem, ⟨6, _⟩ => ⟨S2048x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .f32⟩
  | .local _ .vmem, ⟨16, _⟩ => ⟨S256x2048, .f32⟩
  | .local _ .vmem, ⟨17, _⟩ => ⟨S1x2048, .f32⟩
  | .local _ .vmem, ⟨18, _⟩ => ⟨S1x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== PleRefIdeal.lean ====
abbrev S4096x2048 : Shape := ⟨2, ![4096, 2048]⟩
abbrev S4096x256 : Shape := ⟨2, ![4096, 256]⟩
abbrev S2048x2048 : Shape := ⟨2, ![2048, 2048]⟩
abbrev S256x2048 : Shape := ⟨2, ![256, 2048]⟩
abbrev S1x2048 : Shape := ⟨2, ![1, 2048]⟩
abbrev S_ : Shape := ⟨0, ![]⟩
abbrev S2048 : Shape := ⟨1, ![2048]⟩
abbrev S4096 : Shape := ⟨1, ![4096]⟩
abbrev S4096x1 : Shape := ⟨2, ![4096, 1]⟩
abbrev S1x1 : Shape := ⟨2, ![1, 1]⟩

abbrev nBuf : Space → Nat
  | .hbm => 98
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x256, .f32⟩
  | .hbm, ⟨2, _⟩ => ⟨S2048x2048, .f32⟩
  | .hbm, ⟨3, _⟩ => ⟨S256x2048, .f32⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S2048, .f32⟩
  | .hbm, ⟨23, _⟩ => ⟨S4096x2048, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4096, .f32⟩
  | .hbm, ⟨61, _⟩ => ⟨S_, .f32⟩
  | .hbm, ⟨62, _⟩ => ⟨S4096, .f32⟩
  | .hbm, ⟨63, _⟩ => ⟨S4096, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S_, .f32⟩
  | .hbm, ⟨68, _⟩ => ⟨S2048, .f32⟩
  | .hbm, ⟨69, _⟩ => ⟨S1x2048, .f32⟩
  | .hbm, ⟨70, _⟩ => ⟨S4096x2048, .f32⟩
  | .hbm, ⟨71, _⟩ => ⟨S4096x2048, .f32⟩
  | .hbm, ⟨72, _⟩ => ⟨S_, .f32⟩
  | .hbm, ⟨73, _⟩ => ⟨S2048, .f32⟩
  | .hbm, ⟨74, _⟩ => ⟨S4096x2048, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S4096x2048, .f32⟩
  | .hbm, ⟨79, _⟩ => ⟨S4096x2048, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x2048, .f32⟩
  | .hbm, ⟨87, _⟩ => ⟨S4096x2048, .f32⟩
  | .hbm, ⟨88, _⟩ => ⟨S4096x2048, .f32⟩
  | .hbm, ⟨89, _⟩ => ⟨S4096x2048, .f32⟩
  | .hbm, ⟨90, _⟩ => ⟨S4096x2048, .f32⟩
  | .hbm, ⟨91, _⟩ => ⟨S1x2048, .f32⟩
  | .hbm, ⟨92, _⟩ => ⟨S4096x2048, .f32⟩
  | .hbm, ⟨93, _⟩ => ⟨S4096x2048, .f32⟩
  | .hbm, ⟨94, _⟩ => ⟨S4096x2048, .f32⟩
  | .hbm, ⟨95, _⟩ => ⟨S4096x2048, .bf16⟩
  | .hbm, ⟨96, _⟩ => ⟨S4096x2048, .bf16⟩
  | .hbm, ⟨97, _⟩ => ⟨S1x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_cst_11 : Ref sig .tc := ⟨.hbm, 57, rfl⟩
abbrev main_cst_12 : Ref sig .tc := ⟨.hbm, 58, rfl⟩
abbrev main_v39 : Ref sig .tc := ⟨.hbm, 59, rfl⟩
abbrev main_v40 : Ref sig .tc := ⟨.hbm, 60, rfl⟩
abbrev main_cst_13 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_14 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_15 : Ref sig .tc := ⟨.hbm, 72, rfl⟩
abbrev main_v50 : Ref sig .tc := ⟨.hbm, 73, rfl⟩
abbrev main_v51 : Ref sig .tc := ⟨.hbm, 74, rfl⟩
abbrev main_cst_16 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_17 : Ref sig .tc := ⟨.hbm, 81, rfl⟩
abbrev main_v57 : Ref sig .tc := ⟨.hbm, 82, rfl⟩
abbrev main_v58 : Ref sig .tc := ⟨.hbm, 83, rfl⟩
abbrev main_cst_18 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]
-- ==== PleH.lean ====
abbrev S4096x2048 : Shape := ⟨2, ![4096, 2048]⟩
abbrev S2048x2048 : Shape := ⟨2, ![2048, 2048]⟩
abbrev S512x2048 : Shape := ⟨2, ![512, 2048]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S2048x2048, .bf16⟩
  | .hbm, ⟨4, _⟩ => ⟨S4096x2048, .f32⟩
  | .hbm, ⟨5, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PleHRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== PleGateW.lean ====
abbrev S4096x2048 : Shape := ⟨2, ![4096, 2048]⟩
abbrev S2048x2048 : Shape := ⟨2, ![2048, 2048]⟩
abbrev S1024x512 : Shape := ⟨2, ![1024, 512]⟩
abbrev S1024x2048 : Shape := ⟨2, ![1024, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleGateWRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== PleW.lean ====
abbrev S4096x256 : Shape := ⟨2, ![4096, 256]⟩
abbrev S4096x2048 : Shape := ⟨2, ![4096, 2048]⟩
abbrev S256x2048 : Shape := ⟨2, ![256, 2048]⟩
abbrev S1024x256 : Shape := ⟨2, ![1024, 256]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x2048, .bf16⟩
  | .hbm, ⟨2, _⟩ => ⟨S256x2048, .bf16⟩
  | .local _ .vmem, ⟨0, _⟩ => ⟨S1024x256, .f32⟩
  | .local _ .vmem, ⟨1, _⟩ => ⟨S1024x256, .f32⟩
  | .local _ .vmem, ⟨2, _⟩ => ⟨S1024x2048, .bf16⟩
  | .local _ .vmem, ⟨3, _⟩ => ⟨S1024x2048, .bf16⟩
  | .local _ .vmem, ⟨4, _⟩ => ⟨S256x2048, .bf16⟩
  | .local _ .vmem, ⟨5, _⟩ => ⟨S256x2048, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PleWRefIdeal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x2048, .bf16⟩
  | .hbm, ⟨2, _⟩ => ⟨S_, .f32⟩
  | .hbm, ⟨3, _⟩ => ⟨S256x2048, .f32⟩
  | .hbm, ⟨4, _⟩ => ⟨S4096x2048, .f32⟩
  | .hbm, ⟨5, _⟩ => ⟨S4096x2048, .f32⟩
  | .hbm, ⟨6, _⟩ => ⟨S2048x256, .f32⟩
  | .hbm, ⟨7, _⟩ => ⟨S256x2048, .f32⟩
  | .hbm, ⟨8, _⟩ => ⟨S256x2048, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutW.lean ====
abbrev S4096x2048 : Shape := ⟨2, ![4096, 2048]⟩
abbrev S2048x2048 : Shape := ⟨2, ![2048, 2048]⟩
abbrev S1024x512 : Shape := ⟨2, ![1024, 512]⟩
abbrev S1024x2048 : Shape := ⟨2, ![1024, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GluW.lean ====
abbrev S4096x1024 : Shape := ⟨2, ![4096, 1024]⟩
abbrev S4096x2048 : Shape := ⟨2, ![4096, 2048]⟩
abbrev S1024x2048 : Shape := ⟨2, ![1024, 2048]⟩
abbrev S1024x512 : Shape := ⟨2, ![1024, 512]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluWRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GluProj.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .f32⟩
  | .hbm, ⟨2, _⟩ => ⟨S1024x2048, .bf16⟩
  | .hbm, ⟨3, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluProjRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .f32⟩
  | .hbm, ⟨2, _⟩ => ⟨S4096x1024, .f32⟩
  | .hbm, ⟨3, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GateOut.lean ====
abbrev S4096x1024 : Shape := ⟨2, ![4096, 1024]⟩
abbrev S4096x4096 : Shape := ⟨2, ![4096, 4096]⟩
abbrev S4096x2048 : Shape := ⟨2, ![4096, 2048]⟩
abbrev S1x1024 : Shape := ⟨2, ![1, 1024]⟩
abbrev S2048x2048 : Shape := ⟨2, ![2048, 2048]⟩
abbrev S256x1024 : Shape := ⟨2, ![256, 1024]⟩
abbrev S256x2048 : Shape := ⟨2, ![256, 2048]⟩

abbrev nBuf : Space → Nat
  | .hbm => 10
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x2048, .f32⟩
  | .hbm, ⟨3, _⟩ => ⟨S1x1024, .f32⟩
  | .hbm, ⟨4, _⟩ => ⟨S2048x2048, .f32⟩
  | .hbm, ⟨5, _⟩ => ⟨S4096x2048, .f32⟩
  | .hbm, ⟨6, _⟩ => ⟨S2048x2048, .bf16⟩
  | .hbm, ⟨7, _⟩ => ⟨S4096x2048, .bf16⟩
  | .hbm, ⟨8, _⟩ => ⟨S4096x2048, .f32⟩
  | .hbm, ⟨9, _⟩ => ⟨S4096x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x2048, .f32⟩
  | .local _ .vmem, ⟨7, _⟩ => ⟨S256x2048, .f32⟩
  | .local _ .vmem, ⟨8, _⟩ => ⟨S1x1024, .f32⟩
  | .local _ .vmem, ⟨9, _⟩ => ⟨S2048x2048, .bf16⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GateOutRefIdeal.lean ====
abbrev S4096x1024 : Shape := ⟨2, ![4096, 1024]⟩
abbrev S4096x4096 : Shape := ⟨2, ![4096, 4096]⟩
abbrev S4096x2048 : Shape := ⟨2, ![4096, 2048]⟩
abbrev S1x1024 : Shape := ⟨2, ![1, 1024]⟩
abbrev S2048x2048 : Shape := ⟨2, ![2048, 2048]⟩
abbrev S1024 : Shape := ⟨1, ![1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x2048, .f32⟩
  | .hbm, ⟨3, _⟩ => ⟨S1x1024, .f32⟩
  | .hbm, ⟨4, _⟩ => ⟨S2048x2048, .f32⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .bf16⟩
  | .hbm, ⟨47, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩

abbrev nD : Nat := 1
abbrev τ : Topo := Topo.v7x

variable {F : FTy → Type} [FloatOps F]
-- ==== Gate.lean ====
abbrev S4096x2048 : Shape := ⟨2, ![4096, 2048]⟩
abbrev S2048x2048 : Shape := ⟨2, ![2048, 2048]⟩
abbrev S4096x1024 : Shape := ⟨2, ![4096, 1024]⟩
abbrev S4096x4096 : Shape := ⟨2, ![4096, 4096]⟩
abbrev S1x1024 : Shape := ⟨2, ![1, 1024]⟩
abbrev S8x128 : Shape := ⟨2, ![8, 128]⟩
abbrev S256x2048 : Shape := ⟨2, ![256, 2048]⟩
abbrev S256x1024 : Shape := ⟨2, ![256, 1024]⟩
abbrev S256x4096 : Shape := ⟨2, ![256, 4096]⟩
abbrev S1024 : Shape := ⟨1, ![1024]⟩

abbrev nBuf : Space → Nat
  | .hbm => 13
  | .vmem => 21
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x1024, .f32⟩
  | .hbm, ⟨3, _⟩ => ⟨S4096x4096, .f32⟩
  | .hbm, ⟨4, _⟩ => ⟨S4096x2048, .f32⟩
  | .hbm, ⟨5, _⟩ => ⟨S1x1024, .f32⟩
  | .hbm, ⟨6, _⟩ => ⟨S8x128, .f32⟩
  | .hbm, ⟨7, _⟩ => ⟨S8x128, .f32⟩
  | .hbm, ⟨8, _⟩ => ⟨S2048x2048, .bf16⟩
  | .hbm, ⟨9, _⟩ => ⟨S4096x1024, .bf16⟩
  | .hbm, ⟨10, _⟩ => ⟨S4096x4096, .bf16⟩
  | .hbm, ⟨11, _⟩ => ⟨S4096x2048, .bf16⟩
  | .hbm, ⟨12, _⟩ => ⟨S1x1024, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x2048, .f32⟩
  | .local _ .vmem, ⟨10, _⟩ => ⟨S256x2048, .f32⟩
  | .local _ .vmem, ⟨11, _⟩ => ⟨S1x1024, .f32⟩
  | .local _ .vmem, ⟨12, _⟩ => ⟨S8x128, .f32⟩
  | .local _ .vmem, ⟨13, _⟩ => ⟨S8x128, .f32⟩
  | .local _ .vmem, ⟨14, _⟩ => ⟨S256x1024, .bf16⟩
  | .local _ .vmem, ⟨15, _⟩ => ⟨S256x1024, .bf16⟩
  | .local _ .vmem, ⟨16, _⟩ => ⟨S256x4096, .bf16⟩
  | .local _ .vmem, ⟨17, _⟩ => ⟨S256x4096, .bf16⟩
  | .local _ .vmem, ⟨18, _⟩ => ⟨S256x2048, .bf16⟩
  | .local _ .vmem, ⟨19, _⟩ => ⟨S256x2048, .bf16⟩
  | .local _ .vmem, ⟨20, _⟩ => ⟨S1x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== GateRefIdeal.lean ====
abbrev S4096x2048 : Shape := ⟨2, ![4096, 2048]⟩
abbrev S2048x2048 : Shape := ⟨2, ![2048, 2048]⟩
abbrev S4096x1024 : Shape := ⟨2, ![4096, 1024]⟩
abbrev S4096x4096 : Shape := ⟨2, ![4096, 4096]⟩
abbrev S1x1024 : Shape := ⟨2, ![1, 1024]⟩
abbrev S8x128 : Shape := ⟨2, ![8, 128]⟩
abbrev S1024 : Shape := ⟨1, ![1024]⟩
abbrev S_ : Shape := ⟨0, ![]⟩

abbrev nBuf : Space → Nat
  | .hbm => 98
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x1024, .f32⟩
  | .hbm, ⟨3, _⟩ => ⟨S4096x4096, .f32⟩
  | .hbm, ⟨4, _⟩ => ⟨S4096x2048, .f32⟩
  | .hbm, ⟨5, _⟩ => ⟨S1x1024, .f32⟩
  | .hbm, ⟨6, _⟩ => ⟨S8x128, .f32⟩
  | .hbm, ⟨7, _⟩ => ⟨S8x128, .f32⟩
  | .hbm, ⟨8, _⟩ => ⟨S4096x1024, .f32⟩
  | .hbm, ⟨9, _⟩ => ⟨S4096x1024, .f32⟩
  | .hbm, ⟨10, _⟩ => ⟨S1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4096x2048, .f32⟩
  | .hbm, ⟨74, _⟩ => ⟨S_, .f32⟩
  | .hbm, ⟨75, _⟩ => ⟨S4096x2048, .f32⟩
  | .hbm, ⟨76, _⟩ => ⟨S4096x2048, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S1024, .f32⟩
  | .hbm, ⟨86, _⟩ => ⟨S1x1024, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S1024, .f32⟩
  | .hbm, ⟨91, _⟩ => ⟨S1x1024, .f32⟩
  | .hbm, ⟨92, _⟩ => ⟨S_, .f32⟩
  | .hbm, ⟨93, _⟩ => ⟨S4096x1024, .f32⟩
  | .hbm, ⟨94, _⟩ => ⟨S4096x4096, .f32⟩
  | .hbm, ⟨95, _⟩ => ⟨S4096x1024, .bf16⟩
  | .hbm, ⟨96, _⟩ => ⟨S4096x4096, .bf16⟩
  | .hbm, ⟨97, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v6_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v6_1 : Ref sig .tc := ⟨.hbm, 25, rfl⟩
abbrev main_v6_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_cst_0 : Ref sig .tc := ⟨.hbm, 35, rfl⟩
abbrev main_v14 : Ref sig .tc := ⟨.hbm, 36, rfl⟩
abbrev main_v15 : Ref sig .tc := ⟨.hbm, 37, rfl⟩
abbrev main_cst_1 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_v20_2 : Ref sig .tc := ⟨.hbm, 50, rfl⟩
abbrev main_call1_cst_1 : Ref sig .tc := ⟨.hbm, 51, rfl⟩
abbrev main_call1_v6 : Ref sig .tc := ⟨.hbm, 52, rfl⟩
abbrev main_call1_v7 : Ref sig .tc := ⟨.hbm, 53, rfl⟩
abbrev main_v20_1 : Ref sig .tc := ⟨.hbm, 54, rfl⟩
abbrev main_v20_0 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_cst_2 : Ref sig .tc := ⟨.hbm, 72, rfl⟩
abbrev main_v34 : Ref sig .tc := ⟨.hbm, 73, rfl⟩
abbrev main_cst_3 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_v39 : Ref sig .tc := ⟨.hbm, 82, rfl⟩
abbrev main_v40 : Ref sig .tc := ⟨.hbm, 83, rfl⟩
abbrev main_cst_4 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_cst_5 : Ref sig .tc := ⟨.hbm, 89, rfl⟩
abbrev main_v45 : Ref sig .tc := ⟨.hbm, 90, rfl⟩
abbrev main_v46 : Ref sig .tc := ⟨.hbm, 91, rfl⟩
abbrev main_cst_6 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩

abbrev nD : Nat := 1
abbrev τ : Topo := Topo.v7x

variable {F : FTy → Type} [FloatOps F]
-- ==== GluD.lean ====
abbrev S4096x2048 : Shape := ⟨2, ![4096, 2048]⟩
abbrev S1024x2048 : Shape := ⟨2, ![1024, 2048]⟩
abbrev S4096x1024 : Shape := ⟨2, ![4096, 1024]⟩
abbrev S8x128 : Shape := ⟨2, ![8, 128]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .f32⟩
  | .hbm, ⟨2, _⟩ => ⟨S4096x1024, .f32⟩
  | .hbm, ⟨3, _⟩ => ⟨S8x128, .f32⟩
  | .hbm, ⟨4, _⟩ => ⟨S1024x2048, .bf16⟩
  | .hbm, ⟨5, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== GluDIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== GluDRefIdeal.lean ====
abbrev S4096x2048 : Shape := ⟨2, ![4096, 2048]⟩
abbrev S1024x2048 : Shape := ⟨2, ![1024, 2048]⟩
abbrev S4096x1024 : Shape := ⟨2, ![4096, 1024]⟩
abbrev S8x128 : Shape := ⟨2, ![8, 128]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .f32⟩
  | .hbm, ⟨2, _⟩ => ⟨S4096x1024, .f32⟩
  | .hbm, ⟨3, _⟩ => ⟨S8x128, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x2048, .f32⟩
  | .hbm, ⟨36, _⟩ => ⟨S4096x2048, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_10 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== AdamIn.lean ====
abbrev S2048x512 : Shape := ⟨2, ![2048, 512]⟩
abbrev S7x2048x512 : Shape := ⟨3, ![7, 2048, 512]⟩
abbrev S256x512 : Shape := ⟨2, ![256, 512]⟩
abbrev S7x256x512 : Shape := ⟨3, ![7, 256, 512]⟩
abbrev S1x256x512 : Shape := ⟨3, ![1, 256, 512]⟩

abbrev nBuf : Space → Nat
  | .hbm => 9
  | .vmem => 18
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .bf16⟩
  | .hbm, ⟨4, _⟩ => ⟨S7x2048x512, .bf16⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .bf16⟩
  | .local _ .vmem, ⟨7, _⟩ => ⟨S256x512, .bf16⟩
  | .local _ .vmem, ⟨8, _⟩ => ⟨S7x256x512, .bf16⟩
  | .local _ .vmem, ⟨9, _⟩ => ⟨S7x256x512, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S7x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInRefIdeal.lean ====
abbrev S2048x512 : Shape := ⟨2, ![2048, 512]⟩
abbrev S7x2048x512 : Shape := ⟨3, ![7, 2048, 512]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .bf16⟩
  | .hbm, ⟨4, _⟩ => ⟨S7x2048x512, .bf16⟩
  | .hbm, ⟨5, _⟩ => ⟨S2048x512, .f32⟩
  | .hbm, ⟨6, _⟩ => ⟨S7x2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S_, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S_, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S_, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S_, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S_, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S_, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S_, .f32⟩
  | .hbm, ⟨41, _⟩ => ⟨S2048x512, .f32⟩
  | .hbm, ⟨42, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== AdamPool.lean ====
abbrev S4x32x256 : Shape := ⟨3, ![4, 32, 256]⟩
abbrev S7x4x32x256 : Shape := ⟨4, ![7, 4, 32, 256]⟩
abbrev S128x256 : Shape := ⟨2, ![128, 256]⟩
abbrev S7x128x256 : Shape := ⟨3, ![7, 128, 256]⟩
abbrev S1x128x256 : Shape := ⟨3, ![1, 128, 256]⟩

abbrev nBuf : Space → Nat
  | .hbm => 14
  | .vmem => 9
  | .smem => 0
  | _ => 0

abbrev bufTy : (tb : Table) → Fin (tcTables nBuf tb) → BufTy
  | .hbm, ⟨0, _⟩ => ⟨S4x32x256, .f32⟩
  | .hbm, ⟨1, _⟩ => ⟨S4x32x256, .f32⟩
  | .hbm, ⟨2, _⟩ => ⟨S4x32x256, .f32⟩
  | .hbm, ⟨3, _⟩ => ⟨S4x32x256, .bf16⟩
  | .hbm, ⟨4, _⟩ => ⟨S7x4x32x256, .bf16⟩
  | .hbm, ⟨5, _⟩ => ⟨S128x256, .f32⟩
  | .hbm, ⟨6, _⟩ => ⟨S128x256, .f32⟩
  | .hbm, ⟨7, _⟩ => ⟨S128x256, .f32⟩
  | .hbm, ⟨8, _⟩ => ⟨S128x256, .bf16⟩
  | .hbm, ⟨9, _⟩ => ⟨S7x128x256, .bf16⟩
  | .hbm, ⟨10, _⟩ => ⟨S128x256, .f32⟩
  | .hbm, ⟨11, _⟩ => ⟨S128x256, .f32⟩
  | .hbm, ⟨12, _⟩ => ⟨S128x256, .f32⟩
  | .hbm, ⟨13, _⟩ => ⟨S128x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .bf16⟩
  | .local _ .vmem, ⟨4, _⟩ => ⟨S7x128x256, .bf16⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | _, _ => ⟨S4x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S7x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamPoolRefIdeal.lean ====
abbrev S4x32x256 : Shape := ⟨3, ![4, 32, 256]⟩
abbrev S7x4x32x256 : Shape := ⟨4, ![7, 4, 32, 256]⟩
abbrev S_ : Shape := ⟨0, ![]⟩
abbrev S128x256 : Shape := ⟨2, ![128, 256]⟩

abbrev nBuf : Space → Nat
  | .hbm => 47
  | .vmem => 0
  | .smem => 0
  | _ => 0

abbrev bufTy : (tb : Table) → Fin (tcTables nBuf tb) → BufTy
  | .hbm, ⟨0, _⟩ => ⟨S4x32x256, .f32⟩
  | .hbm, ⟨1, _⟩ => ⟨S4x32x256, .f32⟩
  | .hbm, ⟨2, _⟩ => ⟨S4x32x256, .f32⟩
  | .hbm, ⟨3, _⟩ => ⟨S4x32x256, .bf16⟩
  | .hbm, ⟨4, _⟩ => ⟨S7x4x32x256, .bf16⟩
  | .hbm, ⟨5, _⟩ => ⟨S4x32x256, .f32⟩
  | .hbm, ⟨6, _⟩ => ⟨S7x4x32x256, .f32⟩
  | .hbm, ⟨7, _⟩ => ⟨S_, .f32⟩
  | .hbm, ⟨8, _⟩ => ⟨S4x32x256, .f32⟩
  | .hbm, ⟨9, _⟩ => ⟨S4x32x256, .f32⟩
  | .hbm, ⟨10, _⟩ => ⟨S_, .f32⟩
  | .hbm, ⟨11, _⟩ => ⟨S4x32x256, .f32⟩
  | .hbm, ⟨12, _⟩ => ⟨S4x32x256, .f32⟩
  | .hbm, ⟨13, _⟩ => ⟨S_, .f32⟩
  | .hbm, ⟨14, _⟩ => ⟨S4x32x256, .f32⟩
  | .hbm, ⟨15, _⟩ => ⟨S4x32x256, .f32⟩
  | .hbm, ⟨16, _⟩ => ⟨S4x32x256, .f32⟩
  | .hbm, ⟨17, _⟩ => ⟨S_, .f32⟩
  | .hbm, ⟨18, _⟩ => ⟨S4x32x256, .f32⟩
  | .hbm, ⟨19, _⟩ => ⟨S4x32x256, .f32⟩
  | .hbm, ⟨20, _⟩ => ⟨S4x32x256, .f32⟩
  | .hbm, ⟨21, _⟩ => ⟨S_, .f32⟩
  | .hbm, ⟨22, _⟩ => ⟨S4x32x256, .f32⟩
  | .hbm, ⟨23, _⟩ => ⟨S4x32x256, .f32⟩
  | .hbm, ⟨24, _⟩ => ⟨S4x32x256, .f32⟩
  | .hbm, ⟨25, _⟩ => ⟨S_, .f32⟩
  | .hbm, ⟨26, _⟩ => ⟨S4x32x256, .f32⟩
  | .hbm, ⟨27, _⟩ => ⟨S4x32x256, .f32⟩
  | .hbm, ⟨28, _⟩ => ⟨S_, .f32⟩
  | .hbm, ⟨29, _⟩ => ⟨S4x32x256, .f32⟩
  | .hbm, ⟨30, _⟩ => ⟨S4x32x256, .f32⟩
  | .hbm, ⟨31, _⟩ => ⟨S4x32x256, .f32⟩
  | .hbm, ⟨32, _⟩ => ⟨S_, .f32⟩
  | .hbm, ⟨33, _⟩ => ⟨S4x32x256, .f32⟩
  | .hbm, ⟨34, _⟩ => ⟨S4x32x256, .f32⟩
  | .hbm, ⟨35, _⟩ => ⟨S4x32x256, .f32⟩
  | .hbm, ⟨36, _⟩ => ⟨S_, .f32⟩
  | .hbm, ⟨37, _⟩ => ⟨S4x32x256, .f32⟩
  | .hbm, ⟨38, _⟩ => ⟨S4x32x256, .f32⟩
  | .hbm, ⟨39, _⟩ => ⟨S4x32x256, .f32⟩
  | .hbm, ⟨40, _⟩ => ⟨S_, .f32⟩
  | .hbm, ⟨41, _⟩ => ⟨S4x32x256, .f32⟩
  | .hbm, ⟨42, _⟩ => ⟨S4x32x256, .f32⟩
  | .hbm, ⟨43, _⟩ => ⟨S128x256, .f32⟩
  | .hbm, ⟨44, _⟩ => ⟨S128x256, .f32⟩
  | .hbm, ⟨45, _⟩ => ⟨S128x256, .f32⟩
  | .hbm, ⟨46, _⟩ => ⟨S128x256, .f32⟩
  | _, _ => ⟨S4x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== AdamGlu.lean ====
abbrev S1024x256 : Shape := ⟨2, ![1024, 256]⟩
abbrev S7x1024x256 : Shape := ⟨3, ![7, 1024, 256]⟩
abbrev S256x256 : Shape := ⟨2, ![256, 256]⟩
abbrev S7x256x256 : Shape := ⟨3, ![7, 256, 256]⟩
abbrev S1x256x256 : Shape := ⟨3, ![1, 256, 256]⟩

abbrev nBuf : Space → Nat
  | .hbm => 9
  | .vmem => 18
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .bf16⟩
  | .hbm, ⟨4, _⟩ => ⟨S7x1024x256, .bf16⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .bf16⟩
  | .local _ .vmem, ⟨7, _⟩ => ⟨S256x256, .bf16⟩
  | .local _ .vmem, ⟨8, _⟩ => ⟨S7x256x256, .bf16⟩
  | .local _ .vmem, ⟨9, _⟩ => ⟨S7x256x256, .bf16⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S7x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamGluRefIdeal.lean ====
abbrev S1024x256 : Shape := ⟨2, ![1024, 256]⟩
abbrev S7x1024x256 : Shape := ⟨3, ![7, 1024, 256]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .bf16⟩
  | .hbm, ⟨4, _⟩ => ⟨S7x1024x256, .bf16⟩
  | .hbm, ⟨5, _⟩ => ⟨S1024x256, .f32⟩
  | .hbm, ⟨6, _⟩ => ⟨S7x1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S_, .f32⟩
  | .hbm, ⟨14, _⟩ => ⟨S1024x256, .f32⟩
  | .hbm, ⟨15, _⟩ => ⟨S1024x256, .f32⟩
  | .hbm, ⟨16, _⟩ => ⟨S1024x256, .f32⟩
  | .hbm, ⟨17, _⟩ => ⟨S_, .f32⟩
  | .hbm, ⟨18, _⟩ => ⟨S1024x256, .f32⟩
  | .hbm, ⟨19, _⟩ => ⟨S1024x256, .f32⟩
  | .hbm, ⟨20, _⟩ => ⟨S1024x256, .f32⟩
  | .hbm, ⟨21, _⟩ => ⟨S_, .f32⟩
  | .hbm, ⟨22, _⟩ => ⟨S1024x256, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S_, .f32⟩
  | .hbm, ⟨29, _⟩ => ⟨S1024x256, .f32⟩
  | .hbm, ⟨30, _⟩ => ⟨S1024x256, .f32⟩
  | .hbm, ⟨31, _⟩ => ⟨S1024x256, .f32⟩
  | .hbm, ⟨32, _⟩ => ⟨S_, .f32⟩
  | .hbm, ⟨33, _⟩ => ⟨S1024x256, .f32⟩
  | .hbm, ⟨34, _⟩ => ⟨S1024x256, .f32⟩
  | .hbm, ⟨35, _⟩ => ⟨S1024x256, .f32⟩
  | .hbm, ⟨36, _⟩ => ⟨S_, .f32⟩
  | .hbm, ⟨37, _⟩ => ⟨S1024x256, .f32⟩
  | .hbm, ⟨38, _⟩ => ⟨S1024x256, .f32⟩
  | .hbm, ⟨39, _⟩ => ⟨S1024x256, .f32⟩
  | .hbm, ⟨40, _⟩ => ⟨S_, .f32⟩
  | .hbm, ⟨41, _⟩ => ⟨S1024x256, .f32⟩
  | .hbm, ⟨42, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== AdamOut.lean ====
abbrev S256x2048 : Shape := ⟨2, ![256, 2048]⟩
abbrev S7x256x2048 : Shape := ⟨3, ![7, 256, 2048]⟩
abbrev S1x256x2048 : Shape := ⟨3, ![1, 256, 2048]⟩

abbrev nBuf : Space → Nat
  | .hbm => 9
  | .vmem => 9
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S256x2048, .bf16⟩
  | .hbm, ⟨4, _⟩ => ⟨S7x256x2048, .bf16⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .bf16⟩
  | .local _ .vmem, ⟨4, _⟩ => ⟨S7x256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S7x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamOutRefIdeal.lean ====
abbrev S256x2048 : Shape := ⟨2, ![256, 2048]⟩
abbrev S7x256x2048 : Shape := ⟨3, ![7, 256, 2048]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S256x2048, .bf16⟩
  | .hbm, ⟨4, _⟩ => ⟨S7x256x2048, .bf16⟩
  | .hbm, ⟨5, _⟩ => ⟨S256x2048, .f32⟩
  | .hbm, ⟨6, _⟩ => ⟨S7x256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S_, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S_, .f32⟩
  | .hbm, ⟨22, _⟩ => ⟨S256x2048, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S256x2048, .f32⟩
  | .hbm, ⟨36, _⟩ => ⟨S_, .f32⟩
  | .hbm, ⟨37, _⟩ => ⟨S256x2048, .f32⟩
  | .hbm, ⟨38, _⟩ => ⟨S256x2048, .f32⟩
  | .hbm, ⟨39, _⟩ => ⟨S256x2048, .f32⟩
  | .hbm, ⟨40, _⟩ => ⟨S_, .f32⟩
  | .hbm, ⟨41, _⟩ => ⟨S256x2048, .f32⟩
  | .hbm, ⟨42, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== AdamPle.lean ====
abbrev S256x256 : Shape := ⟨2, ![256, 256]⟩
abbrev S7x256x256 : Shape := ⟨3, ![7, 256, 256]⟩
abbrev S1x256x256 : Shape := ⟨3, ![1, 256, 256]⟩

abbrev nBuf : Space → Nat
  | .hbm => 9
  | .vmem => 9
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .bf16⟩
  | .hbm, ⟨4, _⟩ => ⟨S7x256x256, .bf16⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .bf16⟩
  | .local _ .vmem, ⟨4, _⟩ => ⟨S7x256x256, .bf16⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S7x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamPleRefIdeal.lean ====
abbrev S256x256 : Shape := ⟨2, ![256, 256]⟩
abbrev S7x256x256 : Shape := ⟨3, ![7, 256, 256]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .bf16⟩
  | .hbm, ⟨4, _⟩ => ⟨S7x256x256, .bf16⟩
  | .hbm, ⟨5, _⟩ => ⟨S256x256, .f32⟩
  | .hbm, ⟨6, _⟩ => ⟨S7x256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S_, .f32⟩
  | .hbm, ⟨11, _⟩ => ⟨S256x256, .f32⟩
  | .hbm, ⟨12, _⟩ => ⟨S256x256, .f32⟩
  | .hbm, ⟨13, _⟩ => ⟨S_, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S_, .f32⟩
  | .hbm, ⟨22, _⟩ => ⟨S256x256, .f32⟩
  | .hbm, ⟨23, _⟩ => ⟨S256x256, .f32⟩
  | .hbm, ⟨24, _⟩ => ⟨S256x256, .f32⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S_, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S_, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S_, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S_, .f32⟩
  | .hbm, ⟨41, _⟩ => ⟨S256x256, .f32⟩
  | .hbm, ⟨42, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== AdamPleGate.lean ====
abbrev S256x2048 : Shape := ⟨2, ![256, 2048]⟩
abbrev S7x256x2048 : Shape := ⟨3, ![7, 256, 2048]⟩
abbrev S1x256x2048 : Shape := ⟨3, ![1, 256, 2048]⟩

abbrev nBuf : Space → Nat
  | .hbm => 9
  | .vmem => 9
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S256x2048, .bf16⟩
  | .hbm, ⟨4, _⟩ => ⟨S7x256x2048, .bf16⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .bf16⟩
  | .local _ .vmem, ⟨4, _⟩ => ⟨S7x256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S7x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamPleGateRefIdeal.lean ====
abbrev S256x2048 : Shape := ⟨2, ![256, 2048]⟩
abbrev S7x256x2048 : Shape := ⟨3, ![7, 256, 2048]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S256x2048, .bf16⟩
  | .hbm, ⟨4, _⟩ => ⟨S7x256x2048, .bf16⟩
  | .hbm, ⟨5, _⟩ => ⟨S256x2048, .f32⟩
  | .hbm, ⟨6, _⟩ => ⟨S7x256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S_, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S_, .f32⟩
  | .hbm, ⟨22, _⟩ => ⟨S256x2048, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S256x2048, .f32⟩
  | .hbm, ⟨36, _⟩ => ⟨S_, .f32⟩
  | .hbm, ⟨37, _⟩ => ⟨S256x2048, .f32⟩
  | .hbm, ⟨38, _⟩ => ⟨S256x2048, .f32⟩
  | .hbm, ⟨39, _⟩ => ⟨S256x2048, .f32⟩
  | .hbm, ⟨40, _⟩ => ⟨S_, .f32⟩
  | .hbm, ⟨41, _⟩ => ⟨S256x2048, .f32⟩
  | .hbm, ⟨42, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== AdamRows.lean ====
abbrev S1x2048 : Shape := ⟨2, ![1, 2048]⟩
abbrev S1x1024 : Shape := ⟨2, ![1, 1024]⟩
abbrev S64x64 : Shape := ⟨2, ![64, 64]⟩
abbrev S1x64 : Shape := ⟨2, ![1, 64]⟩
abbrev S64x64x16 : Shape := ⟨3, ![64, 64, 16]⟩
abbrev S64x16x64 : Shape := ⟨3, ![64, 16, 64]⟩
abbrev S2048 : Shape := ⟨1, ![2048]⟩
abbrev S8x1x2048 : Shape := ⟨3, ![8, 1, 2048]⟩
abbrev S8x1x1024 : Shape := ⟨3, ![8, 1, 1024]⟩
abbrev S8x64x64 : Shape := ⟨3, ![8, 64, 64]⟩
abbrev S8x1x64 : Shape := ⟨3, ![8, 1, 64]⟩
abbrev S8x64x16x64 : Shape := ⟨4, ![8, 64, 16, 64]⟩
abbrev S8x1x128 : Shape := ⟨3, ![8, 1, 128]⟩
abbrev S1x128 : Shape := ⟨2, ![1, 128]⟩
abbrev S1x1x2048 : Shape := ⟨3, ![1, 1, 2048]⟩
abbrev S1x1x1024 : Shape := ⟨3, ![1, 1, 1024]⟩
abbrev S1x64x64 : Shape := ⟨3, ![1, 64, 64]⟩
abbrev S1x1x64 : Shape := ⟨3, ![1, 1, 64]⟩
abbrev S1x64x16x64 : Shape := ⟨4, ![1, 64, 16, 64]⟩
abbrev S1x1x128 : Shape := ⟨3, ![1, 1, 128]⟩

abbrev nBuf : Space → Nat
  | .hbm => 99
  | .vmem => 90
  | .smem => 0
  | _ => 0

abbrev bufTy : (tb : Table) → Fin (tcTables nBuf tb) → BufTy
  | .hbm, ⟨0, _⟩ => ⟨S1x2048, .f32⟩
  | .hbm, ⟨1, _⟩ => ⟨S1x1024, .f32⟩
  | .hbm, ⟨2, _⟩ => ⟨S64x64, .f32⟩
  | .hbm, ⟨3, _⟩ => ⟨S64x64, .f32⟩
  | .hbm, ⟨4, _⟩ => ⟨S1x64, .f32⟩
  | .hbm, ⟨5, _⟩ => ⟨S64x64x16, .f32⟩
  | .hbm, ⟨6, _⟩ => ⟨S64x64x16, .f32⟩
  | .hbm, ⟨7, _⟩ => ⟨S64x16x64, .f32⟩
  | .hbm, ⟨8, _⟩ => ⟨S64x16x64, .f32⟩
  | .hbm, ⟨9, _⟩ => ⟨S1x1024, .f32⟩
  | .hbm, ⟨10, _⟩ => ⟨S2048, .f32⟩
  | .hbm, ⟨11, _⟩ => ⟨S1x2048, .f32⟩
  | .hbm, ⟨12, _⟩ => ⟨S1x1024, .f32⟩
  | .hbm, ⟨13, _⟩ => ⟨S64x64, .f32⟩
  | .hbm, ⟨14, _⟩ => ⟨S64x64, .f32⟩
  | .hbm, ⟨15, _⟩ => ⟨S1x64, .f32⟩
  | .hbm, ⟨16, _⟩ => ⟨S64x64x16, .f32⟩
  | .hbm, ⟨17, _⟩ => ⟨S64x64x16, .f32⟩
  | .hbm, ⟨18, _⟩ => ⟨S64x16x64, .f32⟩
  | .hbm, ⟨19, _⟩ => ⟨S64x16x64, .f32⟩
  | .hbm, ⟨20, _⟩ => ⟨S1x1024, .f32⟩
  | .hbm, ⟨21, _⟩ => ⟨S2048, .f32⟩
  | .hbm, ⟨22, _⟩ => ⟨S1x2048, .f32⟩
  | .hbm, ⟨23, _⟩ => ⟨S1x1024, .f32⟩
  | .hbm, ⟨24, _⟩ => ⟨S64x64, .f32⟩
  | .hbm, ⟨25, _⟩ => ⟨S64x64, .f32⟩
  | .hbm, ⟨26, _⟩ => ⟨S1x64, .f32⟩
  | .hbm, ⟨27, _⟩ => ⟨S64x64x16, .f32⟩
  | .hbm, ⟨28, _⟩ => ⟨S64x64x16, .f32⟩
  | .hbm, ⟨29, _⟩ => ⟨S64x16x64, .f32⟩
  | .hbm, ⟨30, _⟩ => ⟨S64x16x64, .f32⟩
  | .hbm, ⟨31, _⟩ => ⟨S1x1024, .f32⟩
  | .hbm, ⟨32, _⟩ => ⟨S2048, .f32⟩
  | .hbm, ⟨33, _⟩ => ⟨S8x1x2048, .f32⟩
  | .hbm, ⟨34, _⟩ => ⟨S8x1x1024, .f32⟩
  | .hbm, ⟨35, _⟩ => ⟨S8x64x64, .f32⟩
  | .hbm, ⟨36, _⟩ => ⟨S8x64x64, .f32⟩
  | .hbm, ⟨37, _⟩ => ⟨S8x1x64, .f32⟩
  | .hbm, ⟨38, _⟩ => ⟨S8x64x16x64, .bf16⟩
  | .hbm, ⟨39, _⟩ => ⟨S8x64x16x64, .bf16⟩
  | .hbm, ⟨40, _⟩ => ⟨S8x64x16x64, .bf16⟩
  | .hbm, ⟨41, _⟩ => ⟨S8x64x16x64, .bf16⟩
  | .hbm, ⟨42, _⟩ => ⟨S8x1x1024, .f32⟩
  | .hbm, ⟨43, _⟩ => ⟨S8x1x2048, .f32⟩
  | .hbm, ⟨44, _⟩ => ⟨S8x1x128, .f32⟩
  | .hbm, ⟨45, _⟩ => ⟨S64x16x64, .f32⟩
  | .hbm, ⟨46, _⟩ => ⟨S64x16x64, .f32⟩
  | .hbm, ⟨47, _⟩ => ⟨S1x2048, .f32⟩
  | .hbm, ⟨48, _⟩ => ⟨S64x16x64, .f32⟩
  | .hbm, ⟨49, _⟩ => ⟨S64x16x64, .f32⟩
  | .hbm, ⟨50, _⟩ => ⟨S1x2048, .f32⟩
  | .hbm, ⟨51, _⟩ => ⟨S64x16x64, .f32⟩
  | .hbm, ⟨52, _⟩ => ⟨S64x16x64, .f32⟩
  | .hbm, ⟨53, _⟩ => ⟨S1x2048, .f32⟩
  | .hbm, ⟨54, _⟩ => ⟨S1x2048, .f32⟩
  | .hbm, ⟨55, _⟩ => ⟨S1x1024, .f32⟩
  | .hbm, ⟨56, _⟩ => ⟨S64x64, .f32⟩
  | .hbm, ⟨57, _⟩ => ⟨S64x64, .f32⟩
  | .hbm, ⟨58, _⟩ => ⟨S1x64, .f32⟩
  | .hbm, ⟨59, _⟩ => ⟨S64x16x64, .f32⟩
  | .hbm, ⟨60, _⟩ => ⟨S64x16x64, .f32⟩
  | .hbm, ⟨61, _⟩ => ⟨S64x16x64, .f32⟩
  | .hbm, ⟨62, _⟩ => ⟨S64x16x64, .f32⟩
  | .hbm, ⟨63, _⟩ => ⟨S1x1024, .f32⟩
  | .hbm, ⟨64, _⟩ => ⟨S1x2048, .f32⟩
  | .hbm, ⟨65, _⟩ => ⟨S1x2048, .f32⟩
  | .hbm, ⟨66, _⟩ => ⟨S1x1024, .f32⟩
  | .hbm, ⟨67, _⟩ => ⟨S64x64, .f32⟩
  | .hbm, ⟨68, _⟩ => ⟨S64x64, .f32⟩
  | .hbm, ⟨69, _⟩ => ⟨S1x64, .f32⟩
  | .hbm, ⟨70, _⟩ => ⟨S64x16x64, .f32⟩
  | .hbm, ⟨71, _⟩ => ⟨S64x16x64, .f32⟩
  | .hbm, ⟨72, _⟩ => ⟨S64x16x64, .f32⟩
  | .hbm, ⟨73, _⟩ => ⟨S64x16x64, .f32⟩
  | .hbm, ⟨74, _⟩ => ⟨S1x1024, .f32⟩
  | .hbm, ⟨75, _⟩ => ⟨S1x2048, .f32⟩
  | .hbm, ⟨76, _⟩ => ⟨S1x2048, .f32⟩
  | .hbm, ⟨77, _⟩ => ⟨S1x1024, .f32⟩
  | .hbm, ⟨78, _⟩ => ⟨S64x64, .f32⟩
  | .hbm, ⟨79, _⟩ => ⟨S64x64, .f32⟩
  | .hbm, ⟨80, _⟩ => ⟨S1x64, .f32⟩
  | .hbm, ⟨81, _⟩ => ⟨S64x16x64, .f32⟩
  | .hbm, ⟨82, _⟩ => ⟨S64x16x64, .f32⟩
  | .hbm, ⟨83, _⟩ => ⟨S64x16x64, .f32⟩
  | .hbm, ⟨84, _⟩ => ⟨S64x16x64, .f32⟩
  | .hbm, ⟨85, _⟩ => ⟨S1x1024, .f32⟩
  | .hbm, ⟨86, _⟩ => ⟨S1x2048, .f32⟩
  | .hbm, ⟨87, _⟩ => ⟨S1x2048, .f32⟩
  | .hbm, ⟨88, _⟩ => ⟨S1x1024, .f32⟩
  | .hbm, ⟨89, _⟩ => ⟨S64x64, .f32⟩
  | .hbm, ⟨90, _⟩ => ⟨S64x64, .f32⟩
  | .hbm, ⟨91, _⟩ => ⟨S1x64, .f32⟩
  | .hbm, ⟨92, _⟩ => ⟨S64x16x64, .f32⟩
  | .hbm, ⟨93, _⟩ => ⟨S64x16x64, .f32⟩
  | .hbm, ⟨94, _⟩ => ⟨S64x16x64, .f32⟩
  | .hbm, ⟨95, _⟩ => ⟨S64x16x64, .f32⟩
  | .hbm, ⟨96, _⟩ => ⟨S1x1024, .f32⟩
  | .hbm, ⟨97, _⟩ => ⟨S1x2048, .f32⟩
  | .hbm, ⟨98, _⟩ => ⟨S1x128, .f32⟩
  | .local _ .vmem, ⟨0, _⟩ => ⟨S1x2048, .f32⟩
  | .local _ .vmem, ⟨1, _⟩ => ⟨S1x1024, .f32⟩
  | .local _ .vmem, ⟨2, _⟩ => ⟨S64x64, .f32⟩
  | .local _ .vmem, ⟨3, _⟩ => ⟨S64x64, .f32⟩
  | .local _ .vmem, ⟨4, _⟩ => ⟨S1x64, .f32⟩
  | .local _ .vmem, ⟨5, _⟩ => ⟨S64x16x64, .f32⟩
  | .local _ .vmem, ⟨6, _⟩ => ⟨S64x16x64, .f32⟩
  | .local _ .vmem, ⟨7, _⟩ => ⟨S64x16x64, .f32⟩
  | .local _ .vmem, ⟨8, _⟩ => ⟨S64x16x64, .f32⟩
  | .local _ .vmem, ⟨9, _⟩ => ⟨S1x1024, .f32⟩
  | .local _ .vmem, ⟨10, _⟩ => ⟨S1x2048, .f32⟩
  | .local _ .vmem, ⟨11, _⟩ => ⟨S1x2048, .f32⟩
  | .local _ .vmem, ⟨12, _⟩ => ⟨S1x1024, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S64x16x64, .f32⟩
  | .local _ .vmem, ⟨17, _⟩ => ⟨S64x16x64, .f32⟩
  | .local _ .vmem, ⟨18, _⟩ => ⟨S64x16x64, .f32⟩
  | .local _ .vmem, ⟨19, _⟩ => ⟨S64x16x64, .f32⟩
  | .local _ .vmem, ⟨20, _⟩ => ⟨S1x1024, .f32⟩
  | .local _ .vmem, ⟨21, _⟩ => ⟨S1x2048, .f32⟩
  | .local _ .vmem, ⟨22, _⟩ => ⟨S1x2048, .f32⟩
  | .local _ .vmem, ⟨23, _⟩ => ⟨S1x1024, .f32⟩
  | .local _ .vmem, ⟨24, _⟩ => ⟨S64x64, .f32⟩
  | .local _ .vmem, ⟨25, _⟩ => ⟨S64x64, .f32⟩
  | .local _ .vmem, ⟨26, _⟩ => ⟨S1x64, .f32⟩
  | .local _ .vmem, ⟨27, _⟩ => ⟨S64x16x64, .f32⟩
  | .local _ .vmem, ⟨28, _⟩ => ⟨S64x16x64, .f32⟩
  | .local _ .vmem, ⟨29, _⟩ => ⟨S64x16x64, .f32⟩
  | .local _ .vmem, ⟨30, _⟩ => ⟨S64x16x64, .f32⟩
  | .local _ .vmem, ⟨31, _⟩ => ⟨S1x1024, .f32⟩
  | .local _ .vmem, ⟨32, _⟩ => ⟨S1x2048, .f32⟩
  | .local _ .vmem, ⟨33, _⟩ => ⟨S8x1x2048, .f32⟩
  | .local _ .vmem, ⟨34, _⟩ => ⟨S8x1x1024, .f32⟩
  | .local _ .vmem, ⟨35, _⟩ => ⟨S8x64x64, .f32⟩
  | .local _ .vmem, ⟨36, _⟩ => ⟨S8x64x64, .f32⟩
  | .local _ .vmem, ⟨37, _⟩ => ⟨S8x1x64, .f32⟩
  | .local _ .vmem, ⟨38, _⟩ => ⟨S8x64x16x64, .bf16⟩
  | .local _ .vmem, ⟨39, _⟩ => ⟨S8x64x16x64, .bf16⟩
  | .local _ .vmem, ⟨40, _⟩ => ⟨S8x64x16x64, .bf16⟩
  | .local _ .vmem, ⟨41, _⟩ => ⟨S8x64x16x64, .bf16⟩
  | .local _ .vmem, ⟨42, _⟩ => ⟨S8x1x1024, .f32⟩
  | .local _ .vmem, ⟨43, _⟩ => ⟨S8x1x2048, .f32⟩
  | .local _ .vmem, ⟨44, _⟩ => ⟨S8x1x128, .f32⟩
  | .local _ .vmem, ⟨45, _⟩ => ⟨S1x2048, .f32⟩
  | .local _ .vmem, ⟨46, _⟩ => ⟨S1x1024, .f32⟩
  | .local _ .vmem, ⟨47, _⟩ => ⟨S64x64, .f32⟩
  | .local _ .vmem, ⟨48, _⟩ => ⟨S64x64, .f32⟩
  | .local _ .vmem, ⟨49, _⟩ => ⟨S1x64, .f32⟩
  | .local _ .vmem, ⟨50, _⟩ => ⟨S64x16x64, .f32⟩
  | .local _ .vmem, ⟨51, _⟩ => ⟨S64x16x64, .f32⟩
  | .local _ .vmem, ⟨52, _⟩ => ⟨S64x16x64, .f32⟩
  | .local _ .vmem, ⟨53, _⟩ => ⟨S64x16x64, .f32⟩
  | .local _ .vmem, ⟨54, _⟩ => ⟨S1x1024, .f32⟩
  | .local _ .vmem, ⟨55, _⟩ => ⟨S1x2048, .f32⟩
  | .local _ .vmem, ⟨56, _⟩ => ⟨S1x2048, .f32⟩
  | .local _ .vmem, ⟨57, _⟩ => ⟨S1x1024, .f32⟩
  | .local _ .vmem, ⟨58, _⟩ => ⟨S64x64, .f32⟩
  | .local _ .vmem, ⟨59, _⟩ => ⟨S64x64, .f32⟩
  | .local _ .vmem, ⟨60, _⟩ => ⟨S1x64, .f32⟩
  | .local _ .vmem, ⟨61, _⟩ => ⟨S64x16x64, .f32⟩
  | .local _ .vmem, ⟨62, _⟩ => ⟨S64x16x64, .f32⟩
  | .local _ .vmem, ⟨63, _⟩ => ⟨S64x16x64, .f32⟩
  | .local _ .vmem, ⟨64, _⟩ => ⟨S64x16x64, .f32⟩
  | .local _ .vmem, ⟨65, _⟩ => ⟨S1x1024, .f32⟩
  | .local _ .vmem, ⟨66, _⟩ => ⟨S1x2048, .f32⟩
  | .local _ .vmem, ⟨67, _⟩ => ⟨S1x2048, .f32⟩
  | .local _ .vmem, ⟨68, _⟩ => ⟨S1x1024, .f32⟩
  | .local _ .vmem, ⟨69, _⟩ => ⟨S64x64, .f32⟩
  | .local _ .vmem, ⟨70, _⟩ => ⟨S64x64, .f32⟩
  | .local _ .vmem, ⟨71, _⟩ => ⟨S1x64, .f32⟩
  | .local _ .vmem, ⟨72, _⟩ => ⟨S64x16x64, .f32⟩
  | .local _ .vmem, ⟨73, _⟩ => ⟨S64x16x64, .f32⟩
  | .local _ .vmem, ⟨74, _⟩ => ⟨S64x16x64, .f32⟩
  | .local _ .vmem, ⟨75, _⟩ => ⟨S64x16x64, .f32⟩
  | .local _ .vmem, ⟨76, _⟩ => ⟨S1x1024, .f32⟩
  | .local _ .vmem, ⟨77, _⟩ => ⟨S1x2048, .f32⟩
  | .local _ .vmem, ⟨78, _⟩ => ⟨S1x2048, .f32⟩
  | .local _ .vmem, ⟨79, _⟩ => ⟨S1x1024, .f32⟩
  | .local _ .vmem, ⟨80, _⟩ => ⟨S64x64, .f32⟩
  | .local _ .vmem, ⟨81, _⟩ => ⟨S64x64, .f32⟩
  | .local _ .vmem, ⟨82, _⟩ => ⟨S1x64, .f32⟩
  | .local _ .vmem, ⟨83, _⟩ => ⟨S64x16x64, .f32⟩
  | .local _ .vmem, ⟨84, _⟩ => ⟨S64x16x64, .f32⟩
  | .local _ .vmem, ⟨85, _⟩ => ⟨S64x16x64, .f32⟩
  | .local _ .vmem, ⟨86, _⟩ => ⟨S64x16x64, .f32⟩
  | .local _ .vmem, ⟨87, _⟩ => ⟨S1x1024, .f32⟩
  | .local _ .vmem, ⟨88, _⟩ => ⟨S1x2048, .f32⟩
  | .local _ .vmem, ⟨89, _⟩ => ⟨S1x128, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_v0 : Ref sig .tc := ⟨.hbm, 45, rfl⟩
abbrev main_v1 : Ref sig .tc := ⟨.hbm, 46, rfl⟩
abbrev main_v2 : Ref sig .tc := ⟨.hbm, 47, rfl⟩
abbrev main_v3 : Ref sig .tc := ⟨.hbm, 48, rfl⟩
abbrev main_v4 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩
abbrev main_v8 : Ref sig .tc := ⟨.hbm, 53, rfl⟩
abbrev main_v9_0 : Ref sig .tc := ⟨.hbm, 54, rfl⟩
abbrev main_v9_1 : Ref sig .tc := ⟨.hbm, 55, rfl⟩
abbrev main_v9_2 : Ref sig .tc := ⟨.hbm, 56, rfl⟩
abbrev main_v9_3 : Ref sig .tc := ⟨.hbm, 57, rfl⟩
abbrev main_v9_4 : Ref sig .tc := ⟨.hbm, 58, rfl⟩
abbrev main_v9_5 : Ref sig .tc := ⟨.hbm, 59, rfl⟩
abbrev main_v9_6 : Ref sig .tc := ⟨.hbm, 60, rfl⟩
abbrev main_v9_7 : Ref sig .tc := ⟨.hbm, 61, rfl⟩
abbrev main_v9_8 : Ref sig .tc := ⟨.hbm, 62, rfl⟩
abbrev main_v9_9 : Ref sig .tc := ⟨.hbm, 63, rfl⟩
abbrev main_v9_10 : Ref sig .tc := ⟨.hbm, 64, rfl⟩
abbrev main_v9_11 : Ref sig .tc := ⟨.hbm, 65, rfl⟩
abbrev main_v9_12 : Ref sig .tc := ⟨.hbm, 66, rfl⟩
abbrev main_v9_13 : Ref sig .tc := ⟨.hbm, 67, rfl⟩
abbrev main_v9_14 : Ref sig .tc := ⟨.hbm, 68, rfl⟩
abbrev main_v9_15 : Ref sig .tc := ⟨.hbm, 69, rfl⟩
abbrev main_v9_16 : Ref sig .tc := ⟨.hbm, 70, rfl⟩
abbrev main_v9_17 : Ref sig .tc := ⟨.hbm, 71, rfl⟩
abbrev main_v9_18 : Ref sig .tc := ⟨.hbm, 72, rfl⟩
abbrev main_v9_19 : Ref sig .tc := ⟨.hbm, 73, rfl⟩
abbrev main_v9_20 : Ref sig .tc := ⟨.hbm, 74, rfl⟩
abbrev main_v9_21 : Ref sig .tc := ⟨.hbm, 75, rfl⟩
abbrev main_v9_22 : Ref sig .tc := ⟨.hbm, 76, rfl⟩
abbrev main_v9_23 : Ref sig .tc := ⟨.hbm, 77, rfl⟩
abbrev main_v9_24 : Ref sig .tc := ⟨.hbm, 78, rfl⟩
abbrev main_v9_25 : Ref sig .tc := ⟨.hbm, 79, rfl⟩
abbrev main_v9_26 : Ref sig .tc := ⟨.hbm, 80, rfl⟩
abbrev main_v9_27 : Ref sig .tc := ⟨.hbm, 81, rfl⟩
abbrev main_v9_28 : Ref sig .tc := ⟨.hbm, 82, rfl⟩
abbrev main_v9_29 : Ref sig .tc := ⟨.hbm, 83, rfl⟩
abbrev main_v9_30 : Ref sig .tc := ⟨.hbm, 84, rfl⟩
abbrev main_v9_31 : Ref sig .tc := ⟨.hbm, 85, rfl⟩
abbrev main_v9_32 : Ref sig .tc := ⟨.hbm, 86, rfl⟩
abbrev main_v9_33 : Ref sig .tc := ⟨.hbm, 87, rfl⟩
abbrev main_v9_34 : Ref sig .tc := ⟨.hbm, 88, rfl⟩
abbrev main_v9_35 : Ref sig .tc := ⟨.hbm, 89, rfl⟩
abbrev main_v9_36 : Ref sig .tc := ⟨.hbm, 90, rfl⟩
abbrev main_v9_37 : Ref sig .tc := ⟨.hbm, 91, rfl⟩
abbrev main_v9_38 : Ref sig .tc := ⟨.hbm, 92, rfl⟩
abbrev main_v9_39 : Ref sig .tc := ⟨.hbm, 93, rfl⟩
abbrev main_v9_40 : Ref sig .tc := ⟨.hbm, 94, rfl⟩
abbrev main_v9_41 : Ref sig .tc := ⟨.hbm, 95, rfl⟩
abbrev main_v9_42 : Ref sig .tc := ⟨.hbm, 96, rfl⟩
abbrev main_v9_43 : Ref sig .tc := ⟨.hbm, 97, rfl⟩
abbrev main_v9_44 : Ref sig .tc := ⟨.hbm, 98, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_stg70_0 : Ref sig .tc := ⟨.vmem, 70, rfl⟩
abbrev cc0_stg71_0 : Ref sig .tc := ⟨.vmem, 71, rfl⟩
abbrev cc0_stg72_0 : Ref sig .tc := ⟨.vmem, 72, rfl⟩
abbrev cc0_stg73_0 : Ref sig .tc := ⟨.vmem, 73, rfl⟩
abbrev cc0_stg74_0 : Ref sig .tc := ⟨.vmem, 74, rfl⟩
abbrev cc0_stg75_0 : Ref sig .tc := ⟨.vmem, 75, rfl⟩
abbrev cc0_stg76_0 : Ref sig .tc := ⟨.vmem, 76, rfl⟩
abbrev cc0_stg77_0 : Ref sig .tc := ⟨.vmem, 77, rfl⟩
abbrev cc0_stg78_0 : Ref sig .tc := ⟨.vmem, 78, rfl⟩
abbrev cc0_stg79_0 : Ref sig .tc := ⟨.vmem, 79, rfl⟩
abbrev cc0_stg80_0 : Ref sig .tc := ⟨.vmem, 80, rfl⟩
abbrev cc0_stg81_0 : Ref sig .tc := ⟨.vmem, 81, rfl⟩
abbrev cc0_stg82_0 : Ref sig .tc := ⟨.vmem, 82, rfl⟩
abbrev cc0_stg83_0 : Ref sig .tc := ⟨.vmem, 83, rfl⟩
abbrev cc0_stg84_0 : Ref sig .tc := ⟨.vmem, 84, rfl⟩
abbrev cc0_stg85_0 : Ref sig .tc := ⟨.vmem, 85, rfl⟩
abbrev cc0_stg86_0 : Ref sig .tc := ⟨.vmem, 86, rfl⟩
abbrev cc0_stg87_0 : Ref sig .tc := ⟨.vmem, 87, rfl⟩
abbrev cc0_stg88_0 : Ref sig .tc := ⟨.vmem, 88, rfl⟩
abbrev cc0_stg89_0 : Ref sig .tc := ⟨.vmem, 89, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69
abbrev cc0_sem70_0 : DmaSem sig := 70
abbrev cc0_sem71_0 : DmaSem sig := 71
abbrev cc0_sem72_0 : DmaSem sig := 72
abbrev cc0_sem73_0 : DmaSem sig := 73
abbrev cc0_sem74_0 : DmaSem sig := 74
abbrev cc0_sem75_0 : DmaSem sig := 75
abbrev cc0_sem76_0 : DmaSem sig := 76
abbrev cc0_sem77_0 : DmaSem sig := 77
abbrev cc0_sem78_0 : DmaSem sig := 78
abbrev cc0_sem79_0 : DmaSem sig := 79
abbrev cc0_sem80_0 : DmaSem sig := 80
abbrev cc0_sem81_0 : DmaSem sig := 81
abbrev cc0_sem82_0 : DmaSem sig := 82
abbrev cc0_sem83_0 : DmaSem sig := 83
abbrev cc0_sem84_0 : DmaSem sig := 84
abbrev cc0_sem85_0 : DmaSem sig := 85
abbrev cc0_sem86_0 : DmaSem sig := 86
abbrev cc0_sem87_0 : DmaSem sig := 87
abbrev cc0_sem88_0 : DmaSem sig := 88
abbrev cc0_sem89_0 : DmaSem sig := 89

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S64x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S64x16x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S64x16x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S64x16x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S64x16x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x2048 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x2048 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S64x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S64x64 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x64 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S64x16x64 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S64x16x64 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S64x16x64 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S64x16x64 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x2048 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S8x1x2048 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S8x1x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S8x64x64 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S8x64x64 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S8x1x64 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S8x64x16x64 .bf16 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S8x64x16x64 .bf16 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S8x64x16x64 .bf16 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S8x64x16x64 .bf16 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S8x1x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S8x1x2048 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S8x1x128 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x2048 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x1024 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S64x64 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S64x64 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x64 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S64x16x64 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S64x16x64 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S64x16x64 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S64x16x64 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x1024 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x2048 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x2048 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x1024 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S64x64 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S64x64 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x64 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S64x16x64 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S64x16x64 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S64x16x64 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S64x16x64 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S1x1024 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S1x2048 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S1x2048 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S1x1024 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S64x64 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))

abbrev stage0_70 : Fin 1 → Memref sig .tc .vmem S64x64 .f32 := fun | 0 => Memref.whole cc0_stg70_0 | ⟨_ + 1, h⟩ => absurd h (Nat.not_lt.2 (Nat.le_add_left _ _))
abbrev sem0_70 : Fin 1 → DmaSem sig := fun | 0 => cc0_sem70_0 | ⟨_ + 1, h⟩ => absurd h (Nat.not_lt.2 (Nat.le_add_left _ _))

abbrev stage0_71 : Fin 1 → Memref sig .tc .vmem S1x64 .f32 := fun | 0 => Memref.whole cc0_stg71_0 | ⟨_ + 1, h⟩ => absurd h (Nat.not_lt.2 (Nat.le_add_left _ _))
abbrev sem0_71 : Fin 1 → DmaSem sig := fun | 0 => cc0_sem71_0 | ⟨_ + 1, h⟩ => absurd h (Nat.not_lt.2 (Nat.le_add_left _ _))

abbrev stage0_72 : Fin 1 → Memref sig .tc .vmem S64x16x64 .f32 := fun | 0 => Memref.whole cc0_stg72_0 | ⟨_ + 1, h⟩ => absurd h (Nat.not_lt.2 (Nat.le_add_left _ _))
abbrev sem0_72 : Fin 1 → DmaSem sig := fun | 0 => cc0_sem72_0 | ⟨_ + 1, h⟩ => absurd h (Nat.not_lt.2 (Nat.le_add_left _ _))

abbrev stage0_73 : Fin 1 → Memref sig .tc .vmem S64x16x64 .f32 := fun | 0 => Memref.whole cc0_stg73_0 | ⟨_ + 1, h⟩ => absurd h (Nat.not_lt.2 (Nat.le_add_left _ _))
abbrev sem0_73 : Fin 1 → DmaSem sig := fun | 0 => cc0_sem73_0 | ⟨_ + 1, h⟩ => absurd h (Nat.not_lt.2 (Nat.le_add_left _ _))

abbrev stage0_74 : Fin 1 → Memref sig .tc .vmem S64x16x64 .f32 := fun | 0 => Memref.whole cc0_stg74_0 | ⟨_ + 1, h⟩ => absurd h (Nat.not_lt.2 (Nat.le_add_left _ _))
abbrev sem0_74 : Fin 1 → DmaSem sig := fun | 0 => cc0_sem74_0 | ⟨_ + 1, h⟩ => absurd h (Nat.not_lt.2 (Nat.le_add_left _ _))

abbrev stage0_75 : Fin 1 → Memref sig .tc .vmem S64x16x64 .f32 := fun | 0 => Memref.whole cc0_stg75_0 | ⟨_ + 1, h⟩ => absurd h (Nat.not_lt.2 (Nat.le_add_left _ _))
abbrev sem0_75 : Fin 1 → DmaSem sig := fun | 0 => cc0_sem75_0 | ⟨_ + 1, h⟩ => absurd h (Nat.not_lt.2 (Nat.le_add_left _ _))

abbrev stage0_76 : Fin 1 → Memref sig .tc .vmem S1x1024 .f32 := fun | 0 => Memref.whole cc0_stg76_0 | ⟨_ + 1, h⟩ => absurd h (Nat.not_lt.2 (Nat.le_add_left _ _))
abbrev sem0_76 : Fin 1 → DmaSem sig := fun | 0 => cc0_sem76_0 | ⟨_ + 1, h⟩ => absurd h (Nat.not_lt.2 (Nat.le_add_left _ _))

abbrev stage0_77 : Fin 1 → Memref sig .tc .vmem S1x2048 .f32 := fun | 0 => Memref.whole cc0_stg77_0 | ⟨_ + 1, h⟩ => absurd h (Nat.not_lt.2 (Nat.le_add_left _ _))
abbrev sem0_77 : Fin 1 → DmaSem sig := fun | 0 => cc0_sem77_0 | ⟨_ + 1, h⟩ => absurd h (Nat.not_lt.2 (Nat.le_add_left _ _))

abbrev stage0_78 : Fin 1 → Memref sig .tc .vmem S1x2048 .f32 := fun | 0 => Memref.whole cc0_stg78_0 | ⟨_ + 1, h⟩ => absurd h (Nat.not_lt.2 (Nat.le_add_left _ _))
abbrev sem0_78 : Fin 1 → DmaSem sig := fun | 0 => cc0_sem78_0 | ⟨_ + 1, h⟩ => absurd h (Nat.not_lt.2 (Nat.le_add_left _ _))

abbrev stage0_79 : Fin 1 → Memref sig .tc .vmem S1x1024 .f32 := fun | 0 => Memref.whole cc0_stg79_0 | ⟨_ + 1, h⟩ => absurd h (Nat.not_lt.2 (Nat.le_add_left _ _))
abbrev sem0_79 : Fin 1 → DmaSem sig := fun | 0 => cc0_sem79_0 | ⟨_ + 1, h⟩ => absurd h (Nat.not_lt.2 (Nat.le_add_left _ _))

abbrev stage0_80 : Fin 1 → Memref sig .tc .vmem S64x64 .f32 := fun | 0 => Memref.whole cc0_stg80_0 | ⟨_ + 1, h⟩ => absurd h (Nat.not_lt.2 (Nat.le_add_left _ _))
abbrev sem0_80 : Fin 1 → DmaSem sig := fun | 0 => cc0_sem80_0 | ⟨_ + 1, h⟩ => absurd h (Nat.not_lt.2 (Nat.le_add_left _ _))

abbrev stage0_81 : Fin 1 → Memref sig .tc .vmem S64x64 .f32 := fun | 0 => Memref.whole cc0_stg81_0 | ⟨_ + 1, h⟩ => absurd h (Nat.not_lt.2 (Nat.le_add_left _ _))
abbrev sem0_81 : Fin 1 → DmaSem sig := fun | 0 => cc0_sem81_0 | ⟨_ + 1, h⟩ => absurd h (Nat.not_lt.2 (Nat.le_add_left _ _))

abbrev stage0_82 : Fin 1 → Memref sig .tc .vmem S1x64 .f32 := fun | 0 => Memref.whole cc0_stg82_0 | ⟨_ + 1, h⟩ => absurd h (Nat.not_lt.2 (Nat.le_add_left _ _))
abbrev sem0_82 : Fin 1 → DmaSem sig := fun | 0 => cc0_sem82_0 | ⟨_ + 1, h⟩ => absurd h (Nat.not_lt.2 (Nat.le_add_left _ _))

abbrev stage0_83 : Fin 1 → Memref sig .tc .vmem S64x16x64 .f32 := fun | 0 => Memref.whole cc0_stg83_0 | ⟨_ + 1, h⟩ => absurd h (Nat.not_lt.2 (Nat.le_add_left _ _))
abbrev sem0_83 : Fin 1 → DmaSem sig := fun | 0 => cc0_sem83_0 | ⟨_ + 1, h⟩ => absurd h (Nat.not_lt.2 (Nat.le_add_left _ _))

abbrev stage0_84 : Fin 1 → Memref sig .tc .vmem S64x16x64 .f32 := fun | 0 => Memref.whole cc0_stg84_0 | ⟨_ + 1, h⟩ => absurd h (Nat.not_lt.2 (Nat.le_add_left _ _))
abbrev sem0_84 : Fin 1 → DmaSem sig := fun | 0 => cc0_sem84_0 | ⟨_ + 1, h⟩ => absurd h (Nat.not_lt.2 (Nat.le_add_left _ _))

abbrev stage0_85 : Fin 1 → Memref sig .tc .vmem S64x16x64 .f32 := fun | 0 => Memref.whole cc0_stg85_0 | ⟨_ + 1, h⟩ => absurd h (Nat.not_lt.2 (Nat.le_add_left _ _))
abbrev sem0_85 : Fin 1 → DmaSem sig := fun | 0 => cc0_sem85_0 | ⟨_ + 1, h⟩ => absurd h (Nat.not_lt.2 (Nat.le_add_left _ _))

abbrev stage0_86 : Fin 1 → Memref sig .tc .vmem S64x16x64 .f32 := fun | 0 => Memref.whole cc0_stg86_0 | ⟨_ + 1, h⟩ => absurd h (Nat.not_lt.2 (Nat.le_add_left _ _))
abbrev sem0_86 : Fin 1 → DmaSem sig := fun | 0 => cc0_sem86_0 | ⟨_ + 1, h⟩ => absurd h (Nat.not_lt.2 (Nat.le_add_left _ _))

abbrev stage0_87 : Fin 1 → Memref sig .tc .vmem S1x1024 .f32 := fun | 0 => Memref.whole cc0_stg87_0 | ⟨_ + 1, h⟩ => absurd h (Nat.not_lt.2 (Nat.le_add_left _ _))
abbrev sem0_87 : Fin 1 → DmaSem sig := fun | 0 => cc0_sem87_0 | ⟨_ + 1, h⟩ => absurd h (Nat.not_lt.2 (Nat.le_add_left _ _))

abbrev stage0_88 : Fin 1 → Memref sig .tc .vmem S1x2048 .f32 := fun | 0 => Memref.whole cc0_stg88_0 | ⟨_ + 1, h⟩ => absurd h (Nat.not_lt.2 (Nat.le_add_left _ _))
abbrev sem0_88 : Fin 1 → DmaSem sig := fun | 0 => cc0_sem88_0 | ⟨_ + 1, h⟩ => absurd h (Nat.not_lt.2 (Nat.le_add_left _ _))

abbrev stage0_89 : Fin 1 → Memref sig .tc .vmem S1x128 .f32 := fun | 0 => Memref.whole cc0_stg89_0 | ⟨_ + 1, h⟩ => absurd h (Nat.not_lt.2 (Nat.le_add_left _ _))
abbrev sem0_89 : Fin 1 → DmaSem sig := fun | 0 => cc0_sem89_0 | ⟨_ + 1, h⟩ => absurd h (Nat.not_lt.2 (Nat.le_add_left _ _))
-- ==== AdamRowsRefIdeal.lean ====
abbrev S1x2048 : Shape := ⟨2, ![1, 2048]⟩
abbrev S1x1024 : Shape := ⟨2, ![1, 1024]⟩
abbrev S64x64 : Shape := ⟨2, ![64, 64]⟩
abbrev S1x64 : Shape := ⟨2, ![1, 64]⟩
abbrev S64x64x16 : Shape := ⟨3, ![64, 64, 16]⟩
abbrev S64x16x64 : Shape := ⟨3, ![64, 16, 64]⟩
abbrev S2048 : Shape := ⟨1, ![2048]⟩
abbrev S8x1x2048 : Shape := ⟨3, ![8, 1, 2048]⟩
abbrev S8x1x1024 : Shape := ⟨3, ![8, 1, 1024]⟩
abbrev S8x64x64 : Shape := ⟨3, ![8, 64, 64]⟩
abbrev S8x1x64 : Shape := ⟨3, ![8, 1, 64]⟩
abbrev S8x64x16x64 : Shape := ⟨4, ![8, 64, 16, 64]⟩
abbrev S8x1x128 : Shape := ⟨3, ![8, 1, 128]⟩
abbrev S_ : Shape := ⟨0, ![]⟩
abbrev S1x128 : Shape := ⟨2, ![1, 128]⟩

abbrev nBuf : Space → Nat
  | .hbm => 227
  | .vmem => 0
  | .smem => 0
  | _ => 0

abbrev hbmTy0_0 (i : Nat) : BufTy := match i % 128 with
  | 0 => ⟨S1x2048, .f32⟩
  | 1 => ⟨S1x1024, .f32⟩
  | 2 => ⟨S64x64, .f32⟩
  | 3 => ⟨S64x64, .f32⟩
  | 4 => ⟨S1x64, .f32⟩
  | 5 => ⟨S64x64x16, .f32⟩
  | 6 => ⟨S64x64x16, .f32⟩
  | 7 => ⟨S64x16x64, .f32⟩
  | 8 => ⟨S64x16x64, .f32⟩
  | 9 => ⟨S1x1024, .f32⟩
  | 10 => ⟨S2048, .f32⟩
  | 11 => ⟨S1x2048, .f32⟩
  | 12 => ⟨S1x1024, .f32⟩
  | 13 => ⟨S64x64, .f32⟩
  | 14 => ⟨S64x64, .f32⟩
  | 15 => ⟨S1x64, .f32⟩
  | 16 => ⟨S64x64x16, .f32⟩
  | 17 => ⟨S64x64x16, .f32⟩
  | 18 => ⟨S64x16x64, .f32⟩
  | 19 => ⟨S64x16x64, .f32⟩
  | 20 => ⟨S1x1024, .f32⟩
  | 21 => ⟨S2048, .f32⟩
  | 22 => ⟨S1x2048, .f32⟩
  | 23 => ⟨S1x1024, .f32⟩
  | 24 => ⟨S64x64, .f32⟩
  | 25 => ⟨S64x64, .f32⟩
  | 26 => ⟨S1x64, .f32⟩
  | 27 => ⟨S64x64x16, .f32⟩
  | 28 => ⟨S64x64x16, .f32⟩
  | 29 => ⟨S64x16x64, .f32⟩
  | 30 => ⟨S64x16x64, .f32⟩
  | 31 => ⟨S1x1024, .f32⟩
  | 32 => ⟨S2048, .f32⟩
  | 33 => ⟨S8x1x2048, .f32⟩
  | 34 => ⟨S8x1x1024, .f32⟩
  | 35 => ⟨S8x64x64, .f32⟩
  | 36 => ⟨S8x64x64, .f32⟩
  | 37 => ⟨S8x1x64, .f32⟩
  | 38 => ⟨S8x64x16x64, .bf16⟩
  | 39 => ⟨S8x64x16x64, .bf16⟩
  | 40 => ⟨S8x64x16x64, .bf16⟩
  | 41 => ⟨S8x64x16x64, .bf16⟩
  | 42 => ⟨S8x1x1024, .f32⟩
  | 43 => ⟨S8x1x2048, .f32⟩
  | 44 => ⟨S8x1x128, .f32⟩
  | 45 => ⟨S_, .f32⟩
  | 46 => ⟨S1x2048, .f32⟩
  | 47 => ⟨S2048, .f32⟩
  | 48 => ⟨S_, .f32⟩
  | 49 => ⟨S2048, .f32⟩
  | 50 => ⟨S2048, .f32⟩
  | 51 => ⟨S_, .f32⟩
  | 52 => ⟨S2048, .f32⟩
  | 53 => ⟨S2048, .f32⟩
  | 54 => ⟨S2048, .f32⟩
  | 55 => ⟨S_, .f32⟩
  | 56 => ⟨S2048, .f32⟩
  | 57 => ⟨S2048, .f32⟩
  | 58 => ⟨S2048, .f32⟩
  | 59 => ⟨S_, .f32⟩
  | 60 => ⟨S2048, .f32⟩
  | 61 => ⟨S2048, .f32⟩
  | 62 => ⟨S2048, .f32⟩
  | 63 => ⟨S_, .f32⟩
  | 64 => ⟨S2048, .f32⟩
  | 65 => ⟨S2048, .f32⟩
  | 66 => ⟨S_, .f32⟩
  | 67 => ⟨S2048, .f32⟩
  | 68 => ⟨S2048, .f32⟩
  | 69 => ⟨S2048, .f32⟩
  | 70 => ⟨S_, .f32⟩
  | 71 => ⟨S2048, .f32⟩
  | 72 => ⟨S2048, .f32⟩
  | 73 => ⟨S2048, .f32⟩
  | 74 => ⟨S_, .f32⟩
  | 75 => ⟨S2048, .f32⟩
  | 76 => ⟨S2048, .f32⟩
  | 77 => ⟨S2048, .f32⟩
  | 78 => ⟨S_, .f32⟩
  | 79 => ⟨S2048, .f32⟩
  | 80 => ⟨S2048, .f32⟩
  | 81 => ⟨S1x2048, .f32⟩
  | 82 => ⟨S1x2048, .f32⟩
  | 83 => ⟨S1x2048, .f32⟩
  | 84 => ⟨S1x2048, .f32⟩
  | 85 => ⟨S_, .f32⟩
  | 86 => ⟨S1x2048, .f32⟩
  | 87 => ⟨S_, .f32⟩
  | 88 => ⟨S1x2048, .f32⟩
  | 89 => ⟨S1x2048, .f32⟩
  | 90 => ⟨S_, .f32⟩
  | 91 => ⟨S1x2048, .f32⟩
  | 92 => ⟨S1x2048, .f32⟩
  | 93 => ⟨S1x2048, .f32⟩
  | 94 => ⟨S_, .f32⟩
  | 95 => ⟨S1x2048, .f32⟩
  | 96 => ⟨S1x2048, .f32⟩
  | 97 => ⟨S1x2048, .f32⟩
  | 98 => ⟨S_, .f32⟩
  | 99 => ⟨S1x2048, .f32⟩
  | 100 => ⟨S1x2048, .f32⟩
  | 101 => ⟨S1x2048, .f32⟩
  | 102 => ⟨S_, .f32⟩
  | 103 => ⟨S1x2048, .f32⟩
  | 104 => ⟨S1x2048, .f32⟩
  | 105 => ⟨S_, .f32⟩
  | 106 => ⟨S1x2048, .f32⟩
  | 107 => ⟨S1x2048, .f32⟩
  | 108 => ⟨S1x2048, .f32⟩
  | 109 => ⟨S_, .f32⟩
  | 110 => ⟨S1x2048, .f32⟩
  | 111 => ⟨S1x2048, .f32⟩
  | 112 => ⟨S1x2048, .f32⟩
  | 113 => ⟨S_, .f32⟩
  | 114 => ⟨S1x2048, .f32⟩
  | 115 => ⟨S1x2048, .f32⟩
  | 116 => ⟨S1x2048, .f32⟩
  | 117 => ⟨S_, .f32⟩
  | 118 => ⟨S1x2048, .f32⟩
  | 119 => ⟨S1x2048, .f32⟩
  | 120 => ⟨S_, .f32⟩
  | 121 => ⟨S1x1024, .f32⟩
  | 122 => ⟨S_, .f32⟩
  | 123 => ⟨S1x1024, .f32⟩
  | 124 => ⟨S1x1024, .f32⟩
  | 125 => ⟨S_, .f32⟩
  | 126 => ⟨S1x1024, .f32⟩
  | 127 => ⟨S1x1024, .f32⟩
  | _ => ⟨S1x2048, .f32⟩

abbrev hbmTy0_1 (i : Nat) : BufTy := match i % 128 with
  | 0 => ⟨S1x1024, .f32⟩
  | 1 => ⟨S_, .f32⟩
  | 2 => ⟨S1x1024, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S1x1024, .f32⟩
  | 9 => ⟨S_, .f32⟩
  | 10 => ⟨S1x1024, .f32⟩
  | 11 => ⟨S1x1024, .f32⟩
  | 12 => ⟨S_, .f32⟩
  | 13 => ⟨S1x1024, .f32⟩
  | 14 => ⟨S1x1024, .f32⟩
  | 15 => ⟨S1x1024, .f32⟩
  | 16 => ⟨S_, .f32⟩
  | 17 => ⟨S1x1024, .f32⟩
  | 18 => ⟨S1x1024, .f32⟩
  | 19 => ⟨S1x1024, .f32⟩
  | 20 => ⟨S_, .f32⟩
  | 21 => ⟨S1x1024, .f32⟩
  | 22 => ⟨S1x1024, .f32⟩
  | 23 => ⟨S1x1024, .f32⟩
  | 24 => ⟨S_, .f32⟩
  | 25 => ⟨S1x1024, .f32⟩
  | 26 => ⟨S1x1024, .f32⟩
  | 27 => ⟨S_, .f32⟩
  | 28 => ⟨S1x64, .f32⟩
  | 29 => ⟨S_, .f32⟩
  | 30 => ⟨S1x64, .f32⟩
  | 31 => ⟨S1x64, .f32⟩
  | 32 => ⟨S_, .f32⟩
  | 33 => ⟨S1x64, .f32⟩
  | 34 => ⟨S1x64, .f32⟩
  | 35 => ⟨S1x64, .f32⟩
  | 36 => ⟨S_, .f32⟩
  | 37 => ⟨S1x64, .f32⟩
  | 38 => ⟨S1x64, .f32⟩
  | 39 => ⟨S1x64, .f32⟩
  | 40 => ⟨S_, .f32⟩
  | 41 => ⟨S1x64, .f32⟩
  | 42 => ⟨S1x64, .f32⟩
  | 43 => ⟨S1x64, .f32⟩
  | 44 => ⟨S_, .f32⟩
  | 45 => ⟨S1x64, .f32⟩
  | 46 => ⟨S1x64, .f32⟩
  | 47 => ⟨S_, .f32⟩
  | 48 => ⟨S1x64, .f32⟩
  | 49 => ⟨S1x64, .f32⟩
  | 50 => ⟨S1x64, .f32⟩
  | 51 => ⟨S_, .f32⟩
  | 52 => ⟨S1x64, .f32⟩
  | 53 => ⟨S1x64, .f32⟩
  | 54 => ⟨S1x64, .f32⟩
  | 55 => ⟨S_, .f32⟩
  | 56 => ⟨S1x64, .f32⟩
  | 57 => ⟨S1x64, .f32⟩
  | 58 => ⟨S1x64, .f32⟩
  | 59 => ⟨S_, .f32⟩
  | 60 => ⟨S1x64, .f32⟩
  | 61 => ⟨S1x64, .f32⟩
  | 62 => ⟨S_, .f32⟩
  | 63 => ⟨S1x1024, .f32⟩
  | 64 => ⟨S_, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S_, .f32⟩
  | 83 => ⟨S1x1024, .f32⟩
  | 84 => ⟨S1x1024, .f32⟩
  | 85 => ⟨S1x1024, .f32⟩
  | 86 => ⟨S_, .f32⟩
  | 87 => ⟨S1x1024, .f32⟩
  | 88 => ⟨S1x1024, .f32⟩
  | 89 => ⟨S1x1024, .f32⟩
  | 90 => ⟨S_, .f32⟩
  | 91 => ⟨S1x1024, .f32⟩
  | 92 => ⟨S1x1024, .f32⟩
  | 93 => ⟨S1x1024, .f32⟩
  | 94 => ⟨S_, .f32⟩
  | 95 => ⟨S1x1024, .f32⟩
  | 96 => ⟨S1x1024, .f32⟩
  | 97 => ⟨S_, .f32⟩
  | 98 => ⟨S1x128, .f32⟩
  | _ => ⟨S1x2048, .f32⟩

abbrev hbmTy (i : Nat) : BufTy := match i / 128 with
  | 0 => hbmTy0_0 i
  | 1 => hbmTy0_1 i
  | _ => ⟨S1x2048, .f32⟩

abbrev bufTy : (tb : Table) → Fin (tcTables nBuf tb) → BufTy
  | .hbm, ⟨i, _⟩ => hbmTy i
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_cst : Ref sig .tc := ⟨.hbm, 45, rfl⟩
abbrev main_v0 : Ref sig .tc := ⟨.hbm, 46, rfl⟩
abbrev main_v1 : Ref sig .tc := ⟨.hbm, 47, rfl⟩
abbrev main_cst_0 : Ref sig .tc := ⟨.hbm, 48, rfl⟩
abbrev main_v2 : Ref sig .tc := ⟨.hbm, 49, rfl⟩
abbrev main_v3 : Ref sig .tc := ⟨.hbm, 50, rfl⟩
abbrev main_cst_1 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_cst_2 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_cst_3 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_cst_4 : Ref sig .tc := ⟨.hbm, 63, rfl⟩
abbrev main_v13 : Ref sig .tc := ⟨.hbm, 64, rfl⟩
abbrev main_v14 : Ref sig .tc := ⟨.hbm, 65, rfl⟩
abbrev main_cst_5 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_cst_6 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_cst_7 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_cst_8 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_cst_9 : Ref sig .tc := ⟨.hbm, 85, rfl⟩
abbrev main_v30 : Ref sig .tc := ⟨.hbm, 86, rfl⟩
abbrev main_cst_10 : Ref sig .tc := ⟨.hbm, 87, rfl⟩
abbrev main_v31 : Ref sig .tc := ⟨.hbm, 88, rfl⟩
abbrev main_v32 : Ref sig .tc := ⟨.hbm, 89, rfl⟩
abbrev main_cst_11 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_cst_12 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_cst_13 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_cst_14 : Ref sig .tc := ⟨.hbm, 102, rfl⟩
abbrev main_v42 : Ref sig .tc := ⟨.hbm, 103, rfl⟩
abbrev main_v43 : Ref sig .tc := ⟨.hbm, 104, rfl⟩
abbrev main_cst_15 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_cst_16 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_cst_17 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_cst_18 : Ref sig .tc := ⟨.hbm, 117, rfl⟩
abbrev main_v53 : Ref sig .tc := ⟨.hbm, 118, rfl⟩
abbrev main_v54 : Ref sig .tc := ⟨.hbm, 119, rfl⟩
abbrev main_cst_19 : Ref sig .tc := ⟨.hbm, 120, rfl⟩
abbrev main_v55 : Ref sig .tc := ⟨.hbm, 121, rfl⟩
abbrev main_cst_20 : Ref sig .tc := ⟨.hbm, 122, rfl⟩
abbrev main_v56 : Ref sig .tc := ⟨.hbm, 123, rfl⟩
abbrev main_v57 : Ref sig .tc := ⟨.hbm, 124, rfl⟩
abbrev main_cst_21 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_cst_22 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_cst_23 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_cst_24 : Ref sig .tc := ⟨.hbm, 137, rfl⟩
abbrev main_v67 : Ref sig .tc := ⟨.hbm, 138, rfl⟩
abbrev main_v68 : Ref sig .tc := ⟨.hbm, 139, rfl⟩
abbrev main_cst_25 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_cst_26 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_cst_27 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_cst_28 : Ref sig .tc := ⟨.hbm, 152, rfl⟩
abbrev main_v78 : Ref sig .tc := ⟨.hbm, 153, rfl⟩
abbrev main_v79 : Ref sig .tc := ⟨.hbm, 154, rfl⟩
abbrev main_cst_29 : Ref sig .tc := ⟨.hbm, 155, rfl⟩
abbrev main_v80 : Ref sig .tc := ⟨.hbm, 156, rfl⟩
abbrev main_cst_30 : Ref sig .tc := ⟨.hbm, 157, rfl⟩
abbrev main_v81 : Ref sig .tc := ⟨.hbm, 158, rfl⟩
abbrev main_v82 : Ref sig .tc := ⟨.hbm, 159, rfl⟩
abbrev main_cst_31 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_cst_32 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_cst_33 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_cst_34 : Ref sig .tc := ⟨.hbm, 172, rfl⟩
abbrev main_v92 : Ref sig .tc := ⟨.hbm, 173, rfl⟩
abbrev main_v93 : Ref sig .tc := ⟨.hbm, 174, rfl⟩
abbrev main_cst_35 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_cst_36 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_cst_37 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_cst_38 : Ref sig .tc := ⟨.hbm, 187, rfl⟩
abbrev main_v103 : Ref sig .tc := ⟨.hbm, 188, rfl⟩
abbrev main_v104 : Ref sig .tc := ⟨.hbm, 189, rfl⟩
abbrev main_cst_39 : Ref sig .tc := ⟨.hbm, 190, rfl⟩
abbrev main_v105 : Ref sig .tc := ⟨.hbm, 191, rfl⟩
abbrev main_cst_40 : Ref sig .tc := ⟨.hbm, 192, rfl⟩
abbrev main_v106 : Ref sig .tc := ⟨.hbm, 193, rfl⟩
abbrev main_v107 : Ref sig .tc := ⟨.hbm, 194, rfl⟩
abbrev main_cst_41 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_cst_42 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_cst_43 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_cst_44 : Ref sig .tc := ⟨.hbm, 207, rfl⟩
abbrev main_v117 : Ref sig .tc := ⟨.hbm, 208, rfl⟩
abbrev main_v118 : Ref sig .tc := ⟨.hbm, 209, rfl⟩
abbrev main_cst_45 : Ref sig .tc := ⟨.hbm, 210, rfl⟩
abbrev main_v119 : Ref sig .tc := ⟨.hbm, 211, rfl⟩
abbrev main_v120 : Ref sig .tc := ⟨.hbm, 212, rfl⟩
abbrev main_v121 : Ref sig .tc := ⟨.hbm, 213, rfl⟩
abbrev main_cst_46 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_cst_47 : Ref sig .tc := ⟨.hbm, 218, rfl⟩
abbrev main_v125 : Ref sig .tc := ⟨.hbm, 219, rfl⟩
abbrev main_v126 : Ref sig .tc := ⟨.hbm, 220, rfl⟩
abbrev main_v127 : Ref sig .tc := ⟨.hbm, 221, rfl⟩
abbrev main_cst_48 : Ref sig .tc := ⟨.hbm, 222, rfl⟩
abbrev main_v128 : Ref sig .tc := ⟨.hbm, 223, rfl⟩
abbrev main_v129 : Ref sig .tc := ⟨.hbm, 224, rfl⟩
abbrev main_cst_49 : Ref sig .tc := ⟨.hbm, 225, rfl⟩
abbrev main_v130 : Ref sig .tc := ⟨.hbm, 226, rfl⟩

abbrev nD : Nat := 1
abbrev τ : Topo := Topo.v7x

variable {F : FTy → Type} [FloatOps F]
-- ==== AdamStates.lean ====
abbrev S1x2048 : Shape := ⟨2, ![1, 2048]⟩
abbrev S1x1024 : Shape := ⟨2, ![1, 1024]⟩
abbrev S64x64 : Shape := ⟨2, ![64, 64]⟩
abbrev S1x64 : Shape := ⟨2, ![1, 64]⟩
abbrev S64x64x16 : Shape := ⟨3, ![64, 64, 16]⟩
abbrev S64x16x64 : Shape := ⟨3, ![64, 16, 64]⟩
abbrev S2048 : Shape := ⟨1, ![2048]⟩
abbrev S8x1x2048 : Shape := ⟨3, ![8, 1, 2048]⟩
abbrev S8x1x1024 : Shape := ⟨3, ![8, 1, 1024]⟩
abbrev S8x64x64 : Shape := ⟨3, ![8, 64, 64]⟩
abbrev S8x1x64 : Shape := ⟨3, ![8, 1, 64]⟩
abbrev S8x64x16x64 : Shape := ⟨4, ![8, 64, 16, 64]⟩
abbrev S8x1x128 : Shape := ⟨3, ![8, 1, 128]⟩
abbrev S1x128 : Shape := ⟨2, ![1, 128]⟩
abbrev S1x1x2048 : Shape := ⟨3, ![1, 1, 2048]⟩
abbrev S1x1x1024 : Shape := ⟨3, ![1, 1, 1024]⟩
abbrev S1x64x64 : Shape := ⟨3, ![1, 64, 64]⟩
abbrev S1x1x64 : Shape := ⟨3, ![1, 1, 64]⟩
abbrev S1x64x16x64 : Shape := ⟨4, ![1, 64, 16, 64]⟩
abbrev S1x1x128 : Shape := ⟨3, ![1, 1, 128]⟩

abbrev nBuf : Space → Nat
  | .hbm => 99
  | .vmem => 90
  | .smem => 0
  | _ => 0

abbrev bufTy : (tb : Table) → Fin (tcTables nBuf tb) → BufTy
  | .hbm, ⟨0, _⟩ => ⟨S1x2048, .f32⟩
  | .hbm, ⟨1, _⟩ => ⟨S1x1024, .f32⟩
  | .hbm, ⟨2, _⟩ => ⟨S64x64, .f32⟩
  | .hbm, ⟨3, _⟩ => ⟨S64x64, .f32⟩
  | .hbm, ⟨4, _⟩ => ⟨S1x64, .f32⟩
  | .hbm, ⟨5, _⟩ => ⟨S64x64x16, .f32⟩
  | .hbm, ⟨6, _⟩ => ⟨S64x64x16, .f32⟩
  | .hbm, ⟨7, _⟩ => ⟨S64x16x64, .f32⟩
  | .hbm, ⟨8, _⟩ => ⟨S64x16x64, .f32⟩
  | .hbm, ⟨9, _⟩ => ⟨S1x1024, .f32⟩
  | .hbm, ⟨10, _⟩ => ⟨S2048, .f32⟩
  | .hbm, ⟨11, _⟩ => ⟨S1x2048, .f32⟩
  | .hbm, ⟨12, _⟩ => ⟨S1x1024, .f32⟩
  | .hbm, ⟨13, _⟩ => ⟨S64x64, .f32⟩
  | .hbm, ⟨14, _⟩ => ⟨S64x64, .f32⟩
  | .hbm, ⟨15, _⟩ => ⟨S1x64, .f32⟩
  | .hbm, ⟨16, _⟩ => ⟨S64x64x16, .f32⟩
  | .hbm, ⟨17, _⟩ => ⟨S64x64x16, .f32⟩
  | .hbm, ⟨18, _⟩ => ⟨S64x16x64, .f32⟩
  | .hbm, ⟨19, _⟩ => ⟨S64x16x64, .f32⟩
  | .hbm, ⟨20, _⟩ => ⟨S1x1024, .f32⟩
  | .hbm, ⟨21, _⟩ => ⟨S2048, .f32⟩
  | .hbm, ⟨22, _⟩ => ⟨S1x2048, .f32⟩
  | .hbm, ⟨23, _⟩ => ⟨S1x1024, .f32⟩
  | .hbm, ⟨24, _⟩ => ⟨S64x64, .f32⟩
  | .hbm, ⟨25, _⟩ => ⟨S64x64, .f32⟩
  | .hbm, ⟨26, _⟩ => ⟨S1x64, .f32⟩
  | .hbm, ⟨27, _⟩ => ⟨S64x64x16, .f32⟩
  | .hbm, ⟨28, _⟩ => ⟨S64x64x16, .f32⟩
  | .hbm, ⟨29, _⟩ => ⟨S64x16x64, .f32⟩
  | .hbm, ⟨30, _⟩ => ⟨S64x16x64, .f32⟩
  | .hbm, ⟨31, _⟩ => ⟨S1x1024, .f32⟩
  | .hbm, ⟨32, _⟩ => ⟨S2048, .f32⟩
  | .hbm, ⟨33, _⟩ => ⟨S8x1x2048, .f32⟩
  | .hbm, ⟨34, _⟩ => ⟨S8x1x1024, .f32⟩
  | .hbm, ⟨35, _⟩ => ⟨S8x64x64, .f32⟩
  | .hbm, ⟨36, _⟩ => ⟨S8x64x64, .f32⟩
  | .hbm, ⟨37, _⟩ => ⟨S8x1x64, .f32⟩
  | .hbm, ⟨38, _⟩ => ⟨S8x64x16x64, .bf16⟩
  | .hbm, ⟨39, _⟩ => ⟨S8x64x16x64, .bf16⟩
  | .hbm, ⟨40, _⟩ => ⟨S8x64x16x64, .bf16⟩
  | .hbm, ⟨41, _⟩ => ⟨S8x64x16x64, .bf16⟩
  | .hbm, ⟨42, _⟩ => ⟨S8x1x1024, .f32⟩
  | .hbm, ⟨43, _⟩ => ⟨S8x1x2048, .f32⟩
  | .hbm, ⟨44, _⟩ => ⟨S8x1x128, .f32⟩
  | .hbm, ⟨45, _⟩ => ⟨S64x16x64, .f32⟩
  | .hbm, ⟨46, _⟩ => ⟨S64x16x64, .f32⟩
  | .hbm, ⟨47, _⟩ => ⟨S1x2048, .f32⟩
  | .hbm, ⟨48, _⟩ => ⟨S64x16x64, .f32⟩
  | .hbm, ⟨49, _⟩ => ⟨S64x16x64, .f32⟩
  | .hbm, ⟨50, _⟩ => ⟨S1x2048, .f32⟩
  | .hbm, ⟨51, _⟩ => ⟨S64x16x64, .f32⟩
  | .hbm, ⟨52, _⟩ => ⟨S64x16x64, .f32⟩
  | .hbm, ⟨53, _⟩ => ⟨S1x2048, .f32⟩
  | .hbm, ⟨54, _⟩ => ⟨S1x2048, .f32⟩
  | .hbm, ⟨55, _⟩ => ⟨S1x1024, .f32⟩
  | .hbm, ⟨56, _⟩ => ⟨S64x64, .f32⟩
  | .hbm, ⟨57, _⟩ => ⟨S64x64, .f32⟩
  | .hbm, ⟨58, _⟩ => ⟨S1x64, .f32⟩
  | .hbm, ⟨59, _⟩ => ⟨S64x16x64, .f32⟩
  | .hbm, ⟨60, _⟩ => ⟨S64x16x64, .f32⟩
  | .hbm, ⟨61, _⟩ => ⟨S64x16x64, .f32⟩
  | .hbm, ⟨62, _⟩ => ⟨S64x16x64, .f32⟩
  | .hbm, ⟨63, _⟩ => ⟨S1x1024, .f32⟩
  | .hbm, ⟨64, _⟩ => ⟨S1x2048, .f32⟩
  | .hbm, ⟨65, _⟩ => ⟨S1x2048, .f32⟩
  | .hbm, ⟨66, _⟩ => ⟨S1x1024, .f32⟩
  | .hbm, ⟨67, _⟩ => ⟨S64x64, .f32⟩
  | .hbm, ⟨68, _⟩ => ⟨S64x64, .f32⟩
  | .hbm, ⟨69, _⟩ => ⟨S1x64, .f32⟩
  | .hbm, ⟨70, _⟩ => ⟨S64x16x64, .f32⟩
  | .hbm, ⟨71, _⟩ => ⟨S64x16x64, .f32⟩
  | .hbm, ⟨72, _⟩ => ⟨S64x16x64, .f32⟩
  | .hbm, ⟨73, _⟩ => ⟨S64x16x64, .f32⟩
  | .hbm, ⟨74, _⟩ => ⟨S1x1024, .f32⟩
  | .hbm, ⟨75, _⟩ => ⟨S1x2048, .f32⟩
  | .hbm, ⟨76, _⟩ => ⟨S1x2048, .f32⟩
  | .hbm, ⟨77, _⟩ => ⟨S1x1024, .f32⟩
  | .hbm, ⟨78, _⟩ => ⟨S64x64, .f32⟩
  | .hbm, ⟨79, _⟩ => ⟨S64x64, .f32⟩
  | .hbm, ⟨80, _⟩ => ⟨S1x64, .f32⟩
  | .hbm, ⟨81, _⟩ => ⟨S64x16x64, .f32⟩
  | .hbm, ⟨82, _⟩ => ⟨S64x16x64, .f32⟩
  | .hbm, ⟨83, _⟩ => ⟨S64x16x64, .f32⟩
  | .hbm, ⟨84, _⟩ => ⟨S64x16x64, .f32⟩
  | .hbm, ⟨85, _⟩ => ⟨S1x1024, .f32⟩
  | .hbm, ⟨86, _⟩ => ⟨S1x2048, .f32⟩
  | .hbm, ⟨87, _⟩ => ⟨S1x2048, .f32⟩
  | .hbm, ⟨88, _⟩ => ⟨S1x1024, .f32⟩
  | .hbm, ⟨89, _⟩ => ⟨S64x64, .f32⟩
  | .hbm, ⟨90, _⟩ => ⟨S64x64, .f32⟩
  | .hbm, ⟨91, _⟩ => ⟨S1x64, .f32⟩
  | .hbm, ⟨92, _⟩ => ⟨S64x16x64, .f32⟩
  | .hbm, ⟨93, _⟩ => ⟨S64x16x64, .f32⟩
  | .hbm, ⟨94, _⟩ => ⟨S64x16x64, .f32⟩
  | .hbm, ⟨95, _⟩ => ⟨S64x16x64, .f32⟩
  | .hbm, ⟨96, _⟩ => ⟨S1x1024, .f32⟩
  | .hbm, ⟨97, _⟩ => ⟨S1x2048, .f32⟩
  | .hbm, ⟨98, _⟩ => ⟨S1x128, .f32⟩
  | .local _ .vmem, ⟨0, _⟩ => ⟨S1x2048, .f32⟩
  | .local _ .vmem, ⟨1, _⟩ => ⟨S1x1024, .f32⟩
  | .local _ .vmem, ⟨2, _⟩ => ⟨S64x64, .f32⟩
  | .local _ .vmem, ⟨3, _⟩ => ⟨S64x64, .f32⟩
  | .local _ .vmem, ⟨4, _⟩ => ⟨S1x64, .f32⟩
  | .local _ .vmem, ⟨5, _⟩ => ⟨S64x16x64, .f32⟩
  | .local _ .vmem, ⟨6, _⟩ => ⟨S64x16x64, .f32⟩
  | .local _ .vmem, ⟨7, _⟩ => ⟨S64x16x64, .f32⟩
  | .local _ .vmem, ⟨8, _⟩ => ⟨S64x16x64, .f32⟩
  | .local _ .vmem, ⟨9, _⟩ => ⟨S1x1024, .f32⟩
  | .local _ .vmem, ⟨10, _⟩ => ⟨S1x2048, .f32⟩
  | .local _ .vmem, ⟨11, _⟩ => ⟨S1x2048, .f32⟩
  | .local _ .vmem, ⟨12, _⟩ => ⟨S1x1024, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S64x16x64, .f32⟩
  | .local _ .vmem, ⟨17, _⟩ => ⟨S64x16x64, .f32⟩
  | .local _ .vmem, ⟨18, _⟩ => ⟨S64x16x64, .f32⟩
  | .local _ .vmem, ⟨19, _⟩ => ⟨S64x16x64, .f32⟩
  | .local _ .vmem, ⟨20, _⟩ => ⟨S1x1024, .f32⟩
  | .local _ .vmem, ⟨21, _⟩ => ⟨S1x2048, .f32⟩
  | .local _ .vmem, ⟨22, _⟩ => ⟨S1x2048, .f32⟩
  | .local _ .vmem, ⟨23, _⟩ => ⟨S1x1024, .f32⟩
  | .local _ .vmem, ⟨24, _⟩ => ⟨S64x64, .f32⟩
  | .local _ .vmem, ⟨25, _⟩ => ⟨S64x64, .f32⟩
  | .local _ .vmem, ⟨26, _⟩ => ⟨S1x64, .f32⟩
  | .local _ .vmem, ⟨27, _⟩ => ⟨S64x16x64, .f32⟩
  | .local _ .vmem, ⟨28, _⟩ => ⟨S64x16x64, .f32⟩
  | .local _ .vmem, ⟨29, _⟩ => ⟨S64x16x64, .f32⟩
  | .local _ .vmem, ⟨30, _⟩ => ⟨S64x16x64, .f32⟩
  | .local _ .vmem, ⟨31, _⟩ => ⟨S1x1024, .f32⟩
  | .local _ .vmem, ⟨32, _⟩ => ⟨S1x2048, .f32⟩
  | .local _ .vmem, ⟨33, _⟩ => ⟨S8x1x2048, .f32⟩
  | .local _ .vmem, ⟨34, _⟩ => ⟨S8x1x1024, .f32⟩
  | .local _ .vmem, ⟨35, _⟩ => ⟨S8x64x64, .f32⟩
  | .local _ .vmem, ⟨36, _⟩ => ⟨S8x64x64, .f32⟩
  | .local _ .vmem, ⟨37, _⟩ => ⟨S8x1x64, .f32⟩
  | .local _ .vmem, ⟨38, _⟩ => ⟨S8x64x16x64, .bf16⟩
  | .local _ .vmem, ⟨39, _⟩ => ⟨S8x64x16x64, .bf16⟩
  | .local _ .vmem, ⟨40, _⟩ => ⟨S8x64x16x64, .bf16⟩
  | .local _ .vmem, ⟨41, _⟩ => ⟨S8x64x16x64, .bf16⟩
  | .local _ .vmem, ⟨42, _⟩ => ⟨S8x1x1024, .f32⟩
  | .local _ .vmem, ⟨43, _⟩ => ⟨S8x1x2048, .f32⟩
  | .local _ .vmem, ⟨44, _⟩ => ⟨S8x1x128, .f32⟩
  | .local _ .vmem, ⟨45, _⟩ => ⟨S1x2048, .f32⟩
  | .local _ .vmem, ⟨46, _⟩ => ⟨S1x1024, .f32⟩
  | .local _ .vmem, ⟨47, _⟩ => ⟨S64x64, .f32⟩
  | .local _ .vmem, ⟨48, _⟩ => ⟨S64x64, .f32⟩
  | .local _ .vmem, ⟨49, _⟩ => ⟨S1x64, .f32⟩
  | .local _ .vmem, ⟨50, _⟩ => ⟨S64x16x64, .f32⟩
  | .local _ .vmem, ⟨51, _⟩ => ⟨S64x16x64, .f32⟩
  | .local _ .vmem, ⟨52, _⟩ => ⟨S64x16x64, .f32⟩
  | .local _ .vmem, ⟨53, _⟩ => ⟨S64x16x64, .f32⟩
  | .local _ .vmem, ⟨54, _⟩ => ⟨S1x1024, .f32⟩
  | .local _ .vmem, ⟨55, _⟩ => ⟨S1x2048, .f32⟩
  | .local _ .vmem, ⟨56, _⟩ => ⟨S1x2048, .f32⟩
  | .local _ .vmem, ⟨57, _⟩ => ⟨S1x1024, .f32⟩
  | .local _ .vmem, ⟨58, _⟩ => ⟨S64x64, .f32⟩
  | .local _ .vmem, ⟨59, _⟩ => ⟨S64x64, .f32⟩
  | .local _ .vmem, ⟨60, _⟩ => ⟨S1x64, .f32⟩
  | .local _ .vmem, ⟨61, _⟩ => ⟨S64x16x64, .f32⟩
  | .local _ .vmem, ⟨62, _⟩ => ⟨S64x16x64, .f32⟩
  | .local _ .vmem, ⟨63, _⟩ => ⟨S64x16x64, .f32⟩
  | .local _ .vmem, ⟨64, _⟩ => ⟨S64x16x64, .f32⟩
  | .local _ .vmem, ⟨65, _⟩ => ⟨S1x1024, .f32⟩
  | .local _ .vmem, ⟨66, _⟩ => ⟨S1x2048, .f32⟩
  | .local _ .vmem, ⟨67, _⟩ => ⟨S1x2048, .f32⟩
  | .local _ .vmem, ⟨68, _⟩ => ⟨S1x1024, .f32⟩
  | .local _ .vmem, ⟨69, _⟩ => ⟨S64x64, .f32⟩
  | .local _ .vmem, ⟨70, _⟩ => ⟨S64x64, .f32⟩
  | .local _ .vmem, ⟨71, _⟩ => ⟨S1x64, .f32⟩
  | .local _ .vmem, ⟨72, _⟩ => ⟨S64x16x64, .f32⟩
  | .local _ .vmem, ⟨73, _⟩ => ⟨S64x16x64, .f32⟩
  | .local _ .vmem, ⟨74, _⟩ => ⟨S64x16x64, .f32⟩
  | .local _ .vmem, ⟨75, _⟩ => ⟨S64x16x64, .f32⟩
  | .local _ .vmem, ⟨76, _⟩ => ⟨S1x1024, .f32⟩
  | .local _ .vmem, ⟨77, _⟩ => ⟨S1x2048, .f32⟩
  | .local _ .vmem, ⟨78, _⟩ => ⟨S1x2048, .f32⟩
  | .local _ .vmem, ⟨79, _⟩ => ⟨S1x1024, .f32⟩
  | .local _ .vmem, ⟨80, _⟩ => ⟨S64x64, .f32⟩
  | .local _ .vmem, ⟨81, _⟩ => ⟨S64x64, .f32⟩
  | .local _ .vmem, ⟨82, _⟩ => ⟨S1x64, .f32⟩
  | .local _ .vmem, ⟨83, _⟩ => ⟨S64x16x64, .f32⟩
  | .local _ .vmem, ⟨84, _⟩ => ⟨S64x16x64, .f32⟩
  | .local _ .vmem, ⟨85, _⟩ => ⟨S64x16x64, .f32⟩
  | .local _ .vmem, ⟨86, _⟩ => ⟨S64x16x64, .f32⟩
  | .local _ .vmem, ⟨87, _⟩ => ⟨S1x1024, .f32⟩
  | .local _ .vmem, ⟨88, _⟩ => ⟨S1x2048, .f32⟩
  | .local _ .vmem, ⟨89, _⟩ => ⟨S1x128, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_v0 : Ref sig .tc := ⟨.hbm, 45, rfl⟩
abbrev main_v1 : Ref sig .tc := ⟨.hbm, 46, rfl⟩
abbrev main_v2 : Ref sig .tc := ⟨.hbm, 47, rfl⟩
abbrev main_v3 : Ref sig .tc := ⟨.hbm, 48, rfl⟩
abbrev main_v4 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩
abbrev main_v8 : Ref sig .tc := ⟨.hbm, 53, rfl⟩
abbrev main_v9_0 : Ref sig .tc := ⟨.hbm, 54, rfl⟩
abbrev main_v9_1 : Ref sig .tc := ⟨.hbm, 55, rfl⟩
abbrev main_v9_2 : Ref sig .tc := ⟨.hbm, 56, rfl⟩
abbrev main_v9_3 : Ref sig .tc := ⟨.hbm, 57, rfl⟩
abbrev main_v9_4 : Ref sig .tc := ⟨.hbm, 58, rfl⟩
abbrev main_v9_5 : Ref sig .tc := ⟨.hbm, 59, rfl⟩
abbrev main_v9_6 : Ref sig .tc := ⟨.hbm, 60, rfl⟩
abbrev main_v9_7 : Ref sig .tc := ⟨.hbm, 61, rfl⟩
abbrev main_v9_8 : Ref sig .tc := ⟨.hbm, 62, rfl⟩
abbrev main_v9_9 : Ref sig .tc := ⟨.hbm, 63, rfl⟩
abbrev main_v9_10 : Ref sig .tc := ⟨.hbm, 64, rfl⟩
abbrev main_v9_11 : Ref sig .tc := ⟨.hbm, 65, rfl⟩
abbrev main_v9_12 : Ref sig .tc := ⟨.hbm, 66, rfl⟩
abbrev main_v9_13 : Ref sig .tc := ⟨.hbm, 67, rfl⟩
abbrev main_v9_14 : Ref sig .tc := ⟨.hbm, 68, rfl⟩
abbrev main_v9_15 : Ref sig .tc := ⟨.hbm, 69, rfl⟩
abbrev main_v9_16 : Ref sig .tc := ⟨.hbm, 70, rfl⟩
abbrev main_v9_17 : Ref sig .tc := ⟨.hbm, 71, rfl⟩
abbrev main_v9_18 : Ref sig .tc := ⟨.hbm, 72, rfl⟩
abbrev main_v9_19 : Ref sig .tc := ⟨.hbm, 73, rfl⟩
abbrev main_v9_20 : Ref sig .tc := ⟨.hbm, 74, rfl⟩
abbrev main_v9_21 : Ref sig .tc := ⟨.hbm, 75, rfl⟩
abbrev main_v9_22 : Ref sig .tc := ⟨.hbm, 76, rfl⟩
abbrev main_v9_23 : Ref sig .tc := ⟨.hbm, 77, rfl⟩
abbrev main_v9_24 : Ref sig .tc := ⟨.hbm, 78, rfl⟩
abbrev main_v9_25 : Ref sig .tc := ⟨.hbm, 79, rfl⟩
abbrev main_v9_26 : Ref sig .tc := ⟨.hbm, 80, rfl⟩
abbrev main_v9_27 : Ref sig .tc := ⟨.hbm, 81, rfl⟩
abbrev main_v9_28 : Ref sig .tc := ⟨.hbm, 82, rfl⟩
abbrev main_v9_29 : Ref sig .tc := ⟨.hbm, 83, rfl⟩
abbrev main_v9_30 : Ref sig .tc := ⟨.hbm, 84, rfl⟩
abbrev main_v9_31 : Ref sig .tc := ⟨.hbm, 85, rfl⟩
abbrev main_v9_32 : Ref sig .tc := ⟨.hbm, 86, rfl⟩
abbrev main_v9_33 : Ref sig .tc := ⟨.hbm, 87, rfl⟩
abbrev main_v9_34 : Ref sig .tc := ⟨.hbm, 88, rfl⟩
abbrev main_v9_35 : Ref sig .tc := ⟨.hbm, 89, rfl⟩
abbrev main_v9_36 : Ref sig .tc := ⟨.hbm, 90, rfl⟩
abbrev main_v9_37 : Ref sig .tc := ⟨.hbm, 91, rfl⟩
abbrev main_v9_38 : Ref sig .tc := ⟨.hbm, 92, rfl⟩
abbrev main_v9_39 : Ref sig .tc := ⟨.hbm, 93, rfl⟩
abbrev main_v9_40 : Ref sig .tc := ⟨.hbm, 94, rfl⟩
abbrev main_v9_41 : Ref sig .tc := ⟨.hbm, 95, rfl⟩
abbrev main_v9_42 : Ref sig .tc := ⟨.hbm, 96, rfl⟩
abbrev main_v9_43 : Ref sig .tc := ⟨.hbm, 97, rfl⟩
abbrev main_v9_44 : Ref sig .tc := ⟨.hbm, 98, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_stg70_0 : Ref sig .tc := ⟨.vmem, 70, rfl⟩
abbrev cc0_stg71_0 : Ref sig .tc := ⟨.vmem, 71, rfl⟩
abbrev cc0_stg72_0 : Ref sig .tc := ⟨.vmem, 72, rfl⟩
abbrev cc0_stg73_0 : Ref sig .tc := ⟨.vmem, 73, rfl⟩
abbrev cc0_stg74_0 : Ref sig .tc := ⟨.vmem, 74, rfl⟩
abbrev cc0_stg75_0 : Ref sig .tc := ⟨.vmem, 75, rfl⟩
abbrev cc0_stg76_0 : Ref sig .tc := ⟨.vmem, 76, rfl⟩
abbrev cc0_stg77_0 : Ref sig .tc := ⟨.vmem, 77, rfl⟩
abbrev cc0_stg78_0 : Ref sig .tc := ⟨.vmem, 78, rfl⟩
abbrev cc0_stg79_0 : Ref sig .tc := ⟨.vmem, 79, rfl⟩
abbrev cc0_stg80_0 : Ref sig .tc := ⟨.vmem, 80, rfl⟩
abbrev cc0_stg81_0 : Ref sig .tc := ⟨.vmem, 81, rfl⟩
abbrev cc0_stg82_0 : Ref sig .tc := ⟨.vmem, 82, rfl⟩
abbrev cc0_stg83_0 : Ref sig .tc := ⟨.vmem, 83, rfl⟩
abbrev cc0_stg84_0 : Ref sig .tc := ⟨.vmem, 84, rfl⟩
abbrev cc0_stg85_0 : Ref sig .tc := ⟨.vmem, 85, rfl⟩
abbrev cc0_stg86_0 : Ref sig .tc := ⟨.vmem, 86, rfl⟩
abbrev cc0_stg87_0 : Ref sig .tc := ⟨.vmem, 87, rfl⟩
abbrev cc0_stg88_0 : Ref sig .tc := ⟨.vmem, 88, rfl⟩
abbrev cc0_stg89_0 : Ref sig .tc := ⟨.vmem, 89, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69
abbrev cc0_sem70_0 : DmaSem sig := 70
abbrev cc0_sem71_0 : DmaSem sig := 71
abbrev cc0_sem72_0 : DmaSem sig := 72
abbrev cc0_sem73_0 : DmaSem sig := 73
abbrev cc0_sem74_0 : DmaSem sig := 74
abbrev cc0_sem75_0 : DmaSem sig := 75
abbrev cc0_sem76_0 : DmaSem sig := 76
abbrev cc0_sem77_0 : DmaSem sig := 77
abbrev cc0_sem78_0 : DmaSem sig := 78
abbrev cc0_sem79_0 : DmaSem sig := 79
abbrev cc0_sem80_0 : DmaSem sig := 80
abbrev cc0_sem81_0 : DmaSem sig := 81
abbrev cc0_sem82_0 : DmaSem sig := 82
abbrev cc0_sem83_0 : DmaSem sig := 83
abbrev cc0_sem84_0 : DmaSem sig := 84
abbrev cc0_sem85_0 : DmaSem sig := 85
abbrev cc0_sem86_0 : DmaSem sig := 86
abbrev cc0_sem87_0 : DmaSem sig := 87
abbrev cc0_sem88_0 : DmaSem sig := 88
abbrev cc0_sem89_0 : DmaSem sig := 89

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S64x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S64x16x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S64x16x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S64x16x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S64x16x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x2048 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x2048 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S64x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S64x64 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x64 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S64x16x64 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S64x16x64 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S64x16x64 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S64x16x64 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x2048 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S8x1x2048 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S8x1x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S8x64x64 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S8x64x64 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S8x1x64 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S8x64x16x64 .bf16 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S8x64x16x64 .bf16 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S8x64x16x64 .bf16 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S8x64x16x64 .bf16 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S8x1x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S8x1x2048 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S8x1x128 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x2048 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x1024 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S64x64 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S64x64 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x64 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S64x16x64 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S64x16x64 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S64x16x64 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S64x16x64 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x1024 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x2048 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x2048 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x1024 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S64x64 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S64x64 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x64 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S64x16x64 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S64x16x64 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S64x16x64 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S64x16x64 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S1x1024 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S1x2048 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S1x2048 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S1x1024 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S64x64 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))

abbrev stage0_70 : Fin 1 → Memref sig .tc .vmem S64x64 .f32 := fun | 0 => Memref.whole cc0_stg70_0 | ⟨_ + 1, h⟩ => absurd h (Nat.not_lt.2 (Nat.le_add_left _ _))
abbrev sem0_70 : Fin 1 → DmaSem sig := fun | 0 => cc0_sem70_0 | ⟨_ + 1, h⟩ => absurd h (Nat.not_lt.2 (Nat.le_add_left _ _))

abbrev stage0_71 : Fin 1 → Memref sig .tc .vmem S1x64 .f32 := fun | 0 => Memref.whole cc0_stg71_0 | ⟨_ + 1, h⟩ => absurd h (Nat.not_lt.2 (Nat.le_add_left _ _))
abbrev sem0_71 : Fin 1 → DmaSem sig := fun | 0 => cc0_sem71_0 | ⟨_ + 1, h⟩ => absurd h (Nat.not_lt.2 (Nat.le_add_left _ _))

abbrev stage0_72 : Fin 1 → Memref sig .tc .vmem S64x16x64 .f32 := fun | 0 => Memref.whole cc0_stg72_0 | ⟨_ + 1, h⟩ => absurd h (Nat.not_lt.2 (Nat.le_add_left _ _))
abbrev sem0_72 : Fin 1 → DmaSem sig := fun | 0 => cc0_sem72_0 | ⟨_ + 1, h⟩ => absurd h (Nat.not_lt.2 (Nat.le_add_left _ _))

abbrev stage0_73 : Fin 1 → Memref sig .tc .vmem S64x16x64 .f32 := fun | 0 => Memref.whole cc0_stg73_0 | ⟨_ + 1, h⟩ => absurd h (Nat.not_lt.2 (Nat.le_add_left _ _))
abbrev sem0_73 : Fin 1 → DmaSem sig := fun | 0 => cc0_sem73_0 | ⟨_ + 1, h⟩ => absurd h (Nat.not_lt.2 (Nat.le_add_left _ _))

abbrev stage0_74 : Fin 1 → Memref sig .tc .vmem S64x16x64 .f32 := fun | 0 => Memref.whole cc0_stg74_0 | ⟨_ + 1, h⟩ => absurd h (Nat.not_lt.2 (Nat.le_add_left _ _))
abbrev sem0_74 : Fin 1 → DmaSem sig := fun | 0 => cc0_sem74_0 | ⟨_ + 1, h⟩ => absurd h (Nat.not_lt.2 (Nat.le_add_left _ _))

abbrev stage0_75 : Fin 1 → Memref sig .tc .vmem S64x16x64 .f32 := fun | 0 => Memref.whole cc0_stg75_0 | ⟨_ + 1, h⟩ => absurd h (Nat.not_lt.2 (Nat.le_add_left _ _))
abbrev sem0_75 : Fin 1 → DmaSem sig := fun | 0 => cc0_sem75_0 | ⟨_ + 1, h⟩ => absurd h (Nat.not_lt.2 (Nat.le_add_left _ _))

abbrev stage0_76 : Fin 1 → Memref sig .tc .vmem S1x1024 .f32 := fun | 0 => Memref.whole cc0_stg76_0 | ⟨_ + 1, h⟩ => absurd h (Nat.not_lt.2 (Nat.le_add_left _ _))
abbrev sem0_76 : Fin 1 → DmaSem sig := fun | 0 => cc0_sem76_0 | ⟨_ + 1, h⟩ => absurd h (Nat.not_lt.2 (Nat.le_add_left _ _))

abbrev stage0_77 : Fin 1 → Memref sig .tc .vmem S1x2048 .f32 := fun | 0 => Memref.whole cc0_stg77_0 | ⟨_ + 1, h⟩ => absurd h (Nat.not_lt.2 (Nat.le_add_left _ _))
abbrev sem0_77 : Fin 1 → DmaSem sig := fun | 0 => cc0_sem77_0 | ⟨_ + 1, h⟩ => absurd h (Nat.not_lt.2 (Nat.le_add_left _ _))

abbrev stage0_78 : Fin 1 → Memref sig .tc .vmem S1x2048 .f32 := fun | 0 => Memref.whole cc0_stg78_0 | ⟨_ + 1, h⟩ => absurd h (Nat.not_lt.2 (Nat.le_add_left _ _))
abbrev sem0_78 : Fin 1 → DmaSem sig := fun | 0 => cc0_sem78_0 | ⟨_ + 1, h⟩ => absurd h (Nat.not_lt.2 (Nat.le_add_left _ _))

abbrev stage0_79 : Fin 1 → Memref sig .tc .vmem S1x1024 .f32 := fun | 0 => Memref.whole cc0_stg79_0 | ⟨_ + 1, h⟩ => absurd h (Nat.not_lt.2 (Nat.le_add_left _ _))
abbrev sem0_79 : Fin 1 → DmaSem sig := fun | 0 => cc0_sem79_0 | ⟨_ + 1, h⟩ => absurd h (Nat.not_lt.2 (Nat.le_add_left _ _))

abbrev stage0_80 : Fin 1 → Memref sig .tc .vmem S64x64 .f32 := fun | 0 => Memref.whole cc0_stg80_0 | ⟨_ + 1, h⟩ => absurd h (Nat.not_lt.2 (Nat.le_add_left _ _))
abbrev sem0_80 : Fin 1 → DmaSem sig := fun | 0 => cc0_sem80_0 | ⟨_ + 1, h⟩ => absurd h (Nat.not_lt.2 (Nat.le_add_left _ _))

abbrev stage0_81 : Fin 1 → Memref sig .tc .vmem S64x64 .f32 := fun | 0 => Memref.whole cc0_stg81_0 | ⟨_ + 1, h⟩ => absurd h (Nat.not_lt.2 (Nat.le_add_left _ _))
abbrev sem0_81 : Fin 1 → DmaSem sig := fun | 0 => cc0_sem81_0 | ⟨_ + 1, h⟩ => absurd h (Nat.not_lt.2 (Nat.le_add_left _ _))

abbrev stage0_82 : Fin 1 → Memref sig .tc .vmem S1x64 .f32 := fun | 0 => Memref.whole cc0_stg82_0 | ⟨_ + 1, h⟩ => absurd h (Nat.not_lt.2 (Nat.le_add_left _ _))
abbrev sem0_82 : Fin 1 → DmaSem sig := fun | 0 => cc0_sem82_0 | ⟨_ + 1, h⟩ => absurd h (Nat.not_lt.2 (Nat.le_add_left _ _))

abbrev stage0_83 : Fin 1 → Memref sig .tc .vmem S64x16x64 .f32 := fun | 0 => Memref.whole cc0_stg83_0 | ⟨_ + 1, h⟩ => absurd h (Nat.not_lt.2 (Nat.le_add_left _ _))
abbrev sem0_83 : Fin 1 → DmaSem sig := fun | 0 => cc0_sem83_0 | ⟨_ + 1, h⟩ => absurd h (Nat.not_lt.2 (Nat.le_add_left _ _))

abbrev stage0_84 : Fin 1 → Memref sig .tc .vmem S64x16x64 .f32 := fun | 0 => Memref.whole cc0_stg84_0 | ⟨_ + 1, h⟩ => absurd h (Nat.not_lt.2 (Nat.le_add_left _ _))
abbrev sem0_84 : Fin 1 → DmaSem sig := fun | 0 => cc0_sem84_0 | ⟨_ + 1, h⟩ => absurd h (Nat.not_lt.2 (Nat.le_add_left _ _))

abbrev stage0_85 : Fin 1 → Memref sig .tc .vmem S64x16x64 .f32 := fun | 0 => Memref.whole cc0_stg85_0 | ⟨_ + 1, h⟩ => absurd h (Nat.not_lt.2 (Nat.le_add_left _ _))
abbrev sem0_85 : Fin 1 → DmaSem sig := fun | 0 => cc0_sem85_0 | ⟨_ + 1, h⟩ => absurd h (Nat.not_lt.2 (Nat.le_add_left _ _))

abbrev stage0_86 : Fin 1 → Memref sig .tc .vmem S64x16x64 .f32 := fun | 0 => Memref.whole cc0_stg86_0 | ⟨_ + 1, h⟩ => absurd h (Nat.not_lt.2 (Nat.le_add_left _ _))
abbrev sem0_86 : Fin 1 → DmaSem sig := fun | 0 => cc0_sem86_0 | ⟨_ + 1, h⟩ => absurd h (Nat.not_lt.2 (Nat.le_add_left _ _))

abbrev stage0_87 : Fin 1 → Memref sig .tc .vmem S1x1024 .f32 := fun | 0 => Memref.whole cc0_stg87_0 | ⟨_ + 1, h⟩ => absurd h (Nat.not_lt.2 (Nat.le_add_left _ _))
abbrev sem0_87 : Fin 1 → DmaSem sig := fun | 0 => cc0_sem87_0 | ⟨_ + 1, h⟩ => absurd h (Nat.not_lt.2 (Nat.le_add_left _ _))

abbrev stage0_88 : Fin 1 → Memref sig .tc .vmem S1x2048 .f32 := fun | 0 => Memref.whole cc0_stg88_0 | ⟨_ + 1, h⟩ => absurd h (Nat.not_lt.2 (Nat.le_add_left _ _))
abbrev sem0_88 : Fin 1 → DmaSem sig := fun | 0 => cc0_sem88_0 | ⟨_ + 1, h⟩ => absurd h (Nat.not_lt.2 (Nat.le_add_left _ _))

abbrev stage0_89 : Fin 1 → Memref sig .tc .vmem S1x128 .f32 := fun | 0 => Memref.whole cc0_stg89_0 | ⟨_ + 1, h⟩ => absurd h (Nat.not_lt.2 (Nat.le_add_left _ _))
abbrev sem0_89 : Fin 1 → DmaSem sig := fun | 0 => cc0_sem89_0 | ⟨_ + 1, h⟩ => absurd h (Nat.not_lt.2 (Nat.le_add_left _ _))
-- ==== AdamStatesRefIdeal.lean ====
abbrev S1x2048 : Shape := ⟨2, ![1, 2048]⟩
abbrev S1x1024 : Shape := ⟨2, ![1, 1024]⟩
abbrev S64x64 : Shape := ⟨2, ![64, 64]⟩
abbrev S1x64 : Shape := ⟨2, ![1, 64]⟩
abbrev S64x64x16 : Shape := ⟨3, ![64, 64, 16]⟩
abbrev S64x16x64 : Shape := ⟨3, ![64, 16, 64]⟩
abbrev S2048 : Shape := ⟨1, ![2048]⟩
abbrev S8x1x2048 : Shape := ⟨3, ![8, 1, 2048]⟩
abbrev S8x1x1024 : Shape := ⟨3, ![8, 1, 1024]⟩
abbrev S8x64x64 : Shape := ⟨3, ![8, 64, 64]⟩
abbrev S8x1x64 : Shape := ⟨3, ![8, 1, 64]⟩
abbrev S8x64x16x64 : Shape := ⟨4, ![8, 64, 16, 64]⟩
abbrev S8x1x128 : Shape := ⟨3, ![8, 1, 128]⟩
abbrev S_ : Shape := ⟨0, ![]⟩

abbrev nBuf : Space → Nat
  | .hbm => 269
  | .vmem => 0
  | .smem => 0
  | _ => 0

abbrev hbmTy0_0 (i : Nat) : BufTy := match i % 128 with
  | 0 => ⟨S1x2048, .f32⟩
  | 1 => ⟨S1x1024, .f32⟩
  | 2 => ⟨S64x64, .f32⟩
  | 3 => ⟨S64x64, .f32⟩
  | 4 => ⟨S1x64, .f32⟩
  | 5 => ⟨S64x64x16, .f32⟩
  | 6 => ⟨S64x64x16, .f32⟩
  | 7 => ⟨S64x16x64, .f32⟩
  | 8 => ⟨S64x16x64, .f32⟩
  | 9 => ⟨S1x1024, .f32⟩
  | 10 => ⟨S2048, .f32⟩
  | 11 => ⟨S1x2048, .f32⟩
  | 12 => ⟨S1x1024, .f32⟩
  | 13 => ⟨S64x64, .f32⟩
  | 14 => ⟨S64x64, .f32⟩
  | 15 => ⟨S1x64, .f32⟩
  | 16 => ⟨S64x64x16, .f32⟩
  | 17 => ⟨S64x64x16, .f32⟩
  | 18 => ⟨S64x16x64, .f32⟩
  | 19 => ⟨S64x16x64, .f32⟩
  | 20 => ⟨S1x1024, .f32⟩
  | 21 => ⟨S2048, .f32⟩
  | 22 => ⟨S1x2048, .f32⟩
  | 23 => ⟨S1x1024, .f32⟩
  | 24 => ⟨S64x64, .f32⟩
  | 25 => ⟨S64x64, .f32⟩
  | 26 => ⟨S1x64, .f32⟩
  | 27 => ⟨S64x64x16, .f32⟩
  | 28 => ⟨S64x64x16, .f32⟩
  | 29 => ⟨S64x16x64, .f32⟩
  | 30 => ⟨S64x16x64, .f32⟩
  | 31 => ⟨S1x1024, .f32⟩
  | 32 => ⟨S2048, .f32⟩
  | 33 => ⟨S8x1x2048, .f32⟩
  | 34 => ⟨S8x1x1024, .f32⟩
  | 35 => ⟨S8x64x64, .f32⟩
  | 36 => ⟨S8x64x64, .f32⟩
  | 37 => ⟨S8x1x64, .f32⟩
  | 38 => ⟨S8x64x16x64, .bf16⟩
  | 39 => ⟨S8x64x16x64, .bf16⟩
  | 40 => ⟨S8x64x16x64, .bf16⟩
  | 41 => ⟨S8x64x16x64, .bf16⟩
  | 42 => ⟨S8x1x1024, .f32⟩
  | 43 => ⟨S8x1x2048, .f32⟩
  | 44 => ⟨S8x1x128, .f32⟩
  | 45 => ⟨S_, .f32⟩
  | 46 => ⟨S64x64, .f32⟩
  | 47 => ⟨S_, .f32⟩
  | 48 => ⟨S64x64, .f32⟩
  | 49 => ⟨S64x64, .f32⟩
  | 50 => ⟨S_, .f32⟩
  | 51 => ⟨S64x64, .f32⟩
  | 52 => ⟨S64x64, .f32⟩
  | 53 => ⟨S64x64, .f32⟩
  | 54 => ⟨S_, .f32⟩
  | 55 => ⟨S64x64, .f32⟩
  | 56 => ⟨S64x64, .f32⟩
  | 57 => ⟨S64x64, .f32⟩
  | 58 => ⟨S_, .f32⟩
  | 59 => ⟨S64x64, .f32⟩
  | 60 => ⟨S64x64, .f32⟩
  | 61 => ⟨S64x64, .f32⟩
  | 62 => ⟨S_, .f32⟩
  | 63 => ⟨S64x64, .f32⟩
  | 64 => ⟨S64x64, .f32⟩
  | 65 => ⟨S_, .f32⟩
  | 66 => ⟨S64x64, .f32⟩
  | 67 => ⟨S64x64, .f32⟩
  | 68 => ⟨S64x64, .f32⟩
  | 69 => ⟨S_, .f32⟩
  | 70 => ⟨S64x64, .f32⟩
  | 71 => ⟨S64x64, .f32⟩
  | 72 => ⟨S64x64, .f32⟩
  | 73 => ⟨S_, .f32⟩
  | 74 => ⟨S64x64, .f32⟩
  | 75 => ⟨S64x64, .f32⟩
  | 76 => ⟨S64x64, .f32⟩
  | 77 => ⟨S_, .f32⟩
  | 78 => ⟨S64x64, .f32⟩
  | 79 => ⟨S64x64, .f32⟩
  | 80 => ⟨S_, .f32⟩
  | 81 => ⟨S64x64, .f32⟩
  | 82 => ⟨S_, .f32⟩
  | 83 => ⟨S64x64, .f32⟩
  | 84 => ⟨S64x64, .f32⟩
  | 85 => ⟨S_, .f32⟩
  | 86 => ⟨S64x64, .f32⟩
  | 87 => ⟨S64x64, .f32⟩
  | 88 => ⟨S64x64, .f32⟩
  | 89 => ⟨S_, .f32⟩
  | 90 => ⟨S64x64, .f32⟩
  | 91 => ⟨S64x64, .f32⟩
  | 92 => ⟨S64x64, .f32⟩
  | 93 => ⟨S_, .f32⟩
  | 94 => ⟨S64x64, .f32⟩
  | 95 => ⟨S64x64, .f32⟩
  | 96 => ⟨S64x64, .f32⟩
  | 97 => ⟨S_, .f32⟩
  | 98 => ⟨S64x64, .f32⟩
  | 99 => ⟨S64x64, .f32⟩
  | 100 => ⟨S_, .f32⟩
  | 101 => ⟨S64x64, .f32⟩
  | 102 => ⟨S64x64, .f32⟩
  | 103 => ⟨S64x64, .f32⟩
  | 104 => ⟨S_, .f32⟩
  | 105 => ⟨S64x64, .f32⟩
  | 106 => ⟨S64x64, .f32⟩
  | 107 => ⟨S64x64, .f32⟩
  | 108 => ⟨S_, .f32⟩
  | 109 => ⟨S64x64, .f32⟩
  | 110 => ⟨S64x64, .f32⟩
  | 111 => ⟨S64x64, .f32⟩
  | 112 => ⟨S_, .f32⟩
  | 113 => ⟨S64x64, .f32⟩
  | 114 => ⟨S64x64, .f32⟩
  | 115 => ⟨S8x64x16x64, .f32⟩
  | 116 => ⟨S_, .f32⟩
  | 117 => ⟨S64x16x64, .f32⟩
  | 118 => ⟨S64x64x16, .f32⟩
  | 119 => ⟨S_, .f32⟩
  | 120 => ⟨S64x64x16, .f32⟩
  | 121 => ⟨S64x64x16, .f32⟩
  | 122 => ⟨S_, .f32⟩
  | 123 => ⟨S64x64x16, .f32⟩
  | 124 => ⟨S64x64x16, .f32⟩
  | 125 => ⟨S64x64x16, .f32⟩
  | 126 => ⟨S_, .f32⟩
  | 127 => ⟨S64x64x16, .f32⟩
  | _ => ⟨S1x2048, .f32⟩

abbrev hbmTy0_1 (i : Nat) : BufTy := match i % 128 with
  | 0 => ⟨S64x64x16, .f32⟩
  | 1 => ⟨S64x64x16, .f32⟩
  | 2 => ⟨S_, .f32⟩
  | 3 => ⟨S64x64x16, .f32⟩
  | 4 => ⟨S64x64x16, .f32⟩
  | 5 => ⟨S64x64x16, .f32⟩
  | 6 => ⟨S_, .f32⟩
  | 7 => ⟨S64x64x16, .f32⟩
  | 8 => ⟨S64x64x16, .f32⟩
  | 9 => ⟨S_, .f32⟩
  | 10 => ⟨S64x64x16, .f32⟩
  | 11 => ⟨S64x64x16, .f32⟩
  | 12 => ⟨S64x64x16, .f32⟩
  | 13 => ⟨S_, .f32⟩
  | 14 => ⟨S64x64x16, .f32⟩
  | 15 => ⟨S64x64x16, .f32⟩
  | 16 => ⟨S64x64x16, .f32⟩
  | 17 => ⟨S_, .f32⟩
  | 18 => ⟨S64x64x16, .f32⟩
  | 19 => ⟨S64x64x16, .f32⟩
  | 20 => ⟨S64x64x16, .f32⟩
  | 21 => ⟨S_, .f32⟩
  | 22 => ⟨S64x64x16, .f32⟩
  | 23 => ⟨S64x64x16, .f32⟩
  | 24 => ⟨S64x16x64, .f32⟩
  | 25 => ⟨S64x16x64, .f32⟩
  | 26 => ⟨S64x16x64, .f32⟩
  | 27 => ⟨S64x16x64, .f32⟩
  | 28 => ⟨S8x64x16x64, .f32⟩
  | 29 => ⟨S_, .f32⟩
  | 30 => ⟨S64x16x64, .f32⟩
  | 31 => ⟨S64x64x16, .f32⟩
  | 32 => ⟨S_, .f32⟩
  | 33 => ⟨S64x64x16, .f32⟩
  | 34 => ⟨S64x64x16, .f32⟩
  | 35 => ⟨S_, .f32⟩
  | 36 => ⟨S64x64x16, .f32⟩
  | 37 => ⟨S64x64x16, .f32⟩
  | 38 => ⟨S64x64x16, .f32⟩
  | 39 => ⟨S_, .f32⟩
  | 40 => ⟨S64x64x16, .f32⟩
  | 41 => ⟨S64x64x16, .f32⟩
  | 42 => ⟨S64x64x16, .f32⟩
  | 43 => ⟨S_, .f32⟩
  | 44 => ⟨S64x64x16, .f32⟩
  | 45 => ⟨S64x64x16, .f32⟩
  | 46 => ⟨S64x64x16, .f32⟩
  | 47 => ⟨S_, .f32⟩
  | 48 => ⟨S64x64x16, .f32⟩
  | 49 => ⟨S64x64x16, .f32⟩
  | 50 => ⟨S_, .f32⟩
  | 51 => ⟨S64x64x16, .f32⟩
  | 52 => ⟨S64x64x16, .f32⟩
  | 53 => ⟨S64x64x16, .f32⟩
  | 54 => ⟨S_, .f32⟩
  | 55 => ⟨S64x64x16, .f32⟩
  | 56 => ⟨S64x64x16, .f32⟩
  | 57 => ⟨S64x64x16, .f32⟩
  | 58 => ⟨S_, .f32⟩
  | 59 => ⟨S64x64x16, .f32⟩
  | 60 => ⟨S64x64x16, .f32⟩
  | 61 => ⟨S64x64x16, .f32⟩
  | 62 => ⟨S_, .f32⟩
  | 63 => ⟨S64x64x16, .f32⟩
  | 64 => ⟨S64x64x16, .f32⟩
  | 65 => ⟨S64x16x64, .f32⟩
  | 66 => ⟨S64x16x64, .f32⟩
  | 67 => ⟨S64x16x64, .f32⟩
  | 68 => ⟨S64x16x64, .f32⟩
  | 69 => ⟨S8x64x16x64, .f32⟩
  | 70 => ⟨S_, .f32⟩
  | 71 => ⟨S64x16x64, .f32⟩
  | 72 => ⟨S_, .f32⟩
  | 73 => ⟨S64x16x64, .f32⟩
  | 74 => ⟨S64x16x64, .f32⟩
  | 75 => ⟨S_, .f32⟩
  | 76 => ⟨S64x16x64, .f32⟩
  | 77 => ⟨S64x16x64, .f32⟩
  | 78 => ⟨S64x16x64, .f32⟩
  | 79 => ⟨S_, .f32⟩
  | 80 => ⟨S64x16x64, .f32⟩
  | 81 => ⟨S64x16x64, .f32⟩
  | 82 => ⟨S64x16x64, .f32⟩
  | 83 => ⟨S_, .f32⟩
  | 84 => ⟨S64x16x64, .f32⟩
  | 85 => ⟨S64x16x64, .f32⟩
  | 86 => ⟨S64x16x64, .f32⟩
  | 87 => ⟨S_, .f32⟩
  | 88 => ⟨S64x16x64, .f32⟩
  | 89 => ⟨S64x16x64, .f32⟩
  | 90 => ⟨S_, .f32⟩
  | 91 => ⟨S64x16x64, .f32⟩
  | 92 => ⟨S64x16x64, .f32⟩
  | 93 => ⟨S64x16x64, .f32⟩
  | 94 => ⟨S_, .f32⟩
  | 95 => ⟨S64x16x64, .f32⟩
  | 96 => ⟨S64x16x64, .f32⟩
  | 97 => ⟨S64x16x64, .f32⟩
  | 98 => ⟨S_, .f32⟩
  | 99 => ⟨S64x16x64, .f32⟩
  | 100 => ⟨S64x16x64, .f32⟩
  | 101 => ⟨S64x16x64, .f32⟩
  | 102 => ⟨S_, .f32⟩
  | 103 => ⟨S64x16x64, .f32⟩
  | 104 => ⟨S64x16x64, .f32⟩
  | 105 => ⟨S8x64x16x64, .f32⟩
  | 106 => ⟨S_, .f32⟩
  | 107 => ⟨S64x16x64, .f32⟩
  | 108 => ⟨S_, .f32⟩
  | 109 => ⟨S64x16x64, .f32⟩
  | 110 => ⟨S64x16x64, .f32⟩
  | 111 => ⟨S_, .f32⟩
  | 112 => ⟨S64x16x64, .f32⟩
  | 113 => ⟨S64x16x64, .f32⟩
  | 114 => ⟨S64x16x64, .f32⟩
  | 115 => ⟨S_, .f32⟩
  | 116 => ⟨S64x16x64, .f32⟩
  | 117 => ⟨S64x16x64, .f32⟩
  | 118 => ⟨S64x16x64, .f32⟩
  | 119 => ⟨S_, .f32⟩
  | 120 => ⟨S64x16x64, .f32⟩
  | 121 => ⟨S64x16x64, .f32⟩
  | 122 => ⟨S64x16x64, .f32⟩
  | 123 => ⟨S_, .f32⟩
  | 124 => ⟨S64x16x64, .f32⟩
  | 125 => ⟨S64x16x64, .f32⟩
  | 126 => ⟨S_, .f32⟩
  | 127 => ⟨S64x16x64, .f32⟩
  | _ => ⟨S1x2048, .f32⟩

abbrev hbmTy0_2 (i : Nat) : BufTy := match i % 128 with
  | 0 => ⟨S64x16x64, .f32⟩
  | 1 => ⟨S64x16x64, .f32⟩
  | 2 => ⟨S_, .f32⟩
  | 3 => ⟨S64x16x64, .f32⟩
  | 4 => ⟨S64x16x64, .f32⟩
  | 5 => ⟨S64x16x64, .f32⟩
  | 6 => ⟨S_, .f32⟩
  | 7 => ⟨S64x16x64, .f32⟩
  | 8 => ⟨S64x16x64, .f32⟩
  | 9 => ⟨S64x16x64, .f32⟩
  | 10 => ⟨S_, .f32⟩
  | 11 => ⟨S64x16x64, .f32⟩
  | 12 => ⟨S64x16x64, .f32⟩
  | _ => ⟨S1x2048, .f32⟩

abbrev hbmTy (i : Nat) : BufTy := match i / 128 with
  | 0 => hbmTy0_0 i
  | 1 => hbmTy0_1 i
  | 2 => hbmTy0_2 i
  | _ => ⟨S1x2048, .f32⟩

abbrev bufTy : (tb : Table) → Fin (tcTables nBuf tb) → BufTy
  | .hbm, ⟨i, _⟩ => hbmTy i
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_cst : Ref sig .tc := ⟨.hbm, 45, rfl⟩
abbrev main_v0 : Ref sig .tc := ⟨.hbm, 46, rfl⟩
abbrev main_cst_0 : Ref sig .tc := ⟨.hbm, 47, rfl⟩
abbrev main_v1 : Ref sig .tc := ⟨.hbm, 48, rfl⟩
abbrev main_v2 : Ref sig .tc := ⟨.hbm, 49, rfl⟩
abbrev main_cst_1 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_cst_2 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_cst_3 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_cst_4 : Ref sig .tc := ⟨.hbm, 62, rfl⟩
abbrev main_v12 : Ref sig .tc := ⟨.hbm, 63, rfl⟩
abbrev main_v13 : Ref sig .tc := ⟨.hbm, 64, rfl⟩
abbrev main_cst_5 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_cst_6 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_cst_7 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_cst_8 : Ref sig .tc := ⟨.hbm, 77, rfl⟩
abbrev main_v23 : Ref sig .tc := ⟨.hbm, 78, rfl⟩
abbrev main_v24 : Ref sig .tc := ⟨.hbm, 79, rfl⟩
abbrev main_cst_9 : Ref sig .tc := ⟨.hbm, 80, rfl⟩
abbrev main_v25 : Ref sig .tc := ⟨.hbm, 81, rfl⟩
abbrev main_cst_10 : Ref sig .tc := ⟨.hbm, 82, rfl⟩
abbrev main_v26 : Ref sig .tc := ⟨.hbm, 83, rfl⟩
abbrev main_v27 : Ref sig .tc := ⟨.hbm, 84, rfl⟩
abbrev main_cst_11 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_cst_12 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_cst_13 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_cst_14 : Ref sig .tc := ⟨.hbm, 97, rfl⟩
abbrev main_v37 : Ref sig .tc := ⟨.hbm, 98, rfl⟩
abbrev main_v38 : Ref sig .tc := ⟨.hbm, 99, rfl⟩
abbrev main_cst_15 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_cst_16 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_cst_17 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_cst_18 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_cst_19 : Ref sig .tc := ⟨.hbm, 116, rfl⟩
abbrev main_v51 : Ref sig .tc := ⟨.hbm, 117, rfl⟩
abbrev main_v52 : Ref sig .tc := ⟨.hbm, 118, rfl⟩
abbrev main_cst_20 : Ref sig .tc := ⟨.hbm, 119, rfl⟩
abbrev main_v53 : Ref sig .tc := ⟨.hbm, 120, rfl⟩
abbrev main_v54 : Ref sig .tc := ⟨.hbm, 121, rfl⟩
abbrev main_cst_21 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_cst_22 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_cst_23 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_cst_24 : Ref sig .tc := ⟨.hbm, 134, rfl⟩
abbrev main_v64 : Ref sig .tc := ⟨.hbm, 135, rfl⟩
abbrev main_v65 : Ref sig .tc := ⟨.hbm, 136, rfl⟩
abbrev main_cst_25 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_cst_26 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_cst_27 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_cst_28 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_cst_29 : Ref sig .tc := ⟨.hbm, 157, rfl⟩
abbrev main_v82 : Ref sig .tc := ⟨.hbm, 158, rfl⟩
abbrev main_v83 : Ref sig .tc := ⟨.hbm, 159, rfl⟩
abbrev main_cst_30 : Ref sig .tc := ⟨.hbm, 160, rfl⟩
abbrev main_v84 : Ref sig .tc := ⟨.hbm, 161, rfl⟩
abbrev main_v85 : Ref sig .tc := ⟨.hbm, 162, rfl⟩
abbrev main_cst_31 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_cst_32 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_cst_33 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_cst_34 : Ref sig .tc := ⟨.hbm, 175, rfl⟩
abbrev main_v95 : Ref sig .tc := ⟨.hbm, 176, rfl⟩
abbrev main_v96 : Ref sig .tc := ⟨.hbm, 177, rfl⟩
abbrev main_cst_35 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_cst_36 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_cst_37 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_cst_38 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_cst_39 : Ref sig .tc := ⟨.hbm, 198, rfl⟩
abbrev main_v113 : Ref sig .tc := ⟨.hbm, 199, rfl⟩
abbrev main_cst_40 : Ref sig .tc := ⟨.hbm, 200, rfl⟩
abbrev main_v114 : Ref sig .tc := ⟨.hbm, 201, rfl⟩
abbrev main_v115 : Ref sig .tc := ⟨.hbm, 202, rfl⟩
abbrev main_cst_41 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_cst_42 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_cst_43 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_cst_44 : Ref sig .tc := ⟨.hbm, 215, rfl⟩
abbrev main_v125 : Ref sig .tc := ⟨.hbm, 216, rfl⟩
abbrev main_v126 : Ref sig .tc := ⟨.hbm, 217, rfl⟩
abbrev main_cst_45 : Ref sig .tc := ⟨.hbm, 218, rfl⟩
abbrev main_v127 : Ref sig .tc := ⟨.hbm, 219, rfl⟩
abbrev main_v128 : Ref sig .tc := ⟨.hbm, 220, rfl⟩
abbrev main_v129 : Ref sig .tc := ⟨.hbm, 221, rfl⟩
abbrev main_cst_46 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_cst_47 : Ref sig .tc := ⟨.hbm, 226, rfl⟩
abbrev main_v133 : Ref sig .tc := ⟨.hbm, 227, rfl⟩
abbrev main_v134 : Ref sig .tc := ⟨.hbm, 228, rfl⟩
abbrev main_v135 : Ref sig .tc := ⟨.hbm, 229, rfl⟩
abbrev main_cst_48 : Ref sig .tc := ⟨.hbm, 230, rfl⟩
abbrev main_v136 : Ref sig .tc := ⟨.hbm, 231, rfl⟩
abbrev main_v137 : Ref sig .tc := ⟨.hbm, 232, rfl⟩
abbrev main_v138 : Ref sig .tc := ⟨.hbm, 233, rfl⟩
abbrev main_cst_49 : Ref sig .tc := ⟨.hbm, 234, rfl⟩
abbrev main_v139 : Ref sig .tc := ⟨.hbm, 235, rfl⟩
abbrev main_cst_50 : Ref sig .tc := ⟨.hbm, 236, rfl⟩
abbrev main_v140 : Ref sig .tc := ⟨.hbm, 237, rfl⟩
abbrev main_v141 : Ref sig .tc := ⟨.hbm, 238, rfl⟩
abbrev main_cst_51 : Ref sig .tc := ⟨.hbm, 239, rfl⟩
abbrev main_v142 : Ref sig .tc := ⟨.hbm, 240, rfl⟩
abbrev main_v143 : Ref sig .tc := ⟨.hbm, 241, rfl⟩
abbrev main_v144 : Ref sig .tc := ⟨.hbm, 242, rfl⟩
abbrev main_cst_52 : Ref sig .tc := ⟨.hbm, 243, rfl⟩
abbrev main_v145 : Ref sig .tc := ⟨.hbm, 244, rfl⟩
abbrev main_v146 : Ref sig .tc := ⟨.hbm, 245, rfl⟩
abbrev main_v147 : Ref sig .tc := ⟨.hbm, 246, rfl⟩
abbrev main_cst_53 : Ref sig .tc := ⟨.hbm, 247, rfl⟩
abbrev main_v148 : Ref sig .tc := ⟨.hbm, 248, rfl⟩
abbrev main_v149 : Ref sig .tc := ⟨.hbm, 249, rfl⟩
abbrev main_v150 : Ref sig .tc := ⟨.hbm, 250, rfl⟩
abbrev main_cst_54 : Ref sig .tc := ⟨.hbm, 251, rfl⟩
abbrev main_v151 : Ref sig .tc := ⟨.hbm, 252, rfl⟩
abbrev main_v152 : Ref sig .tc := ⟨.hbm, 253, rfl⟩
abbrev main_cst_55 : Ref sig .tc := ⟨.hbm, 254, rfl⟩
abbrev main_v153 : Ref sig .tc := ⟨.hbm, 255, rfl⟩
abbrev main_v154 : Ref sig .tc := ⟨.hbm, 256, rfl⟩
abbrev main_v155 : Ref sig .tc := ⟨.hbm, 257, rfl⟩
abbrev main_cst_56 : Ref sig .tc := ⟨.hbm, 258, rfl⟩
abbrev main_v156 : Ref sig .tc := ⟨.hbm, 259, rfl⟩
abbrev main_v157 : Ref sig .tc := ⟨.hbm, 260, rfl⟩
abbrev main_v158 : Ref sig .tc := ⟨.hbm, 261, rfl⟩
abbrev main_cst_57 : Ref sig .tc := ⟨.hbm, 262, rfl⟩
abbrev main_v159 : Ref sig .tc := ⟨.hbm, 263, rfl⟩
abbrev main_v160 : Ref sig .tc := ⟨.hbm, 264, rfl⟩
abbrev main_v161 : Ref sig .tc := ⟨.hbm, 265, rfl⟩
abbrev main_cst_58 : Ref sig .tc := ⟨.hbm, 266, rfl⟩
abbrev main_v162 : Ref sig .tc := ⟨.hbm, 267, rfl⟩
abbrev main_v163 : Ref sig .tc := ⟨.hbm, 268, rfl⟩

abbrev nD : Nat := 1
abbrev τ : Topo := Topo.v7x

variable {F : FTy → Type} [FloatOps F]
-- ==== Proof.Finite.lean ====
/-
  What a precondition `all (abs x < inf)` says of an array's entries: each is a real number.
-/
module

public import Idealize.ShloMosaic.Lib.ReduceAll
public import Idealize.ShloMosaic.PureOps.Ideal.Laws

@[expose] public section

noncomputable section

namespace Cert.Finite

open Idealize.ShloMosaic

/-- An extended real whose absolute value compares below infinity is its real part. -/
theorem real_of_abs_lt (x : EReal) (h : Ideal.cmp .olt (max x (-x)) (Ideal.ofBits .f32 0x7F800000#32) = 1#1) : x = (x.toReal : EReal) := by
  have h : max x (-x) < ⊤ := by
    by_contra hn
    have : Ideal.cmp .olt (max x (-x)) (Ideal.ofBits .f32 0x7F800000#32) = 0#1 := by
      rw [show Ideal.ofBits .f32 0x7F800000#32 = (⊤ : EReal) by simp [Ideal.ofBits, Ideal.ieee]]
      simp [Ideal.cmp, hn]
    rw [this] at h
    exact absurd h (by decide)
  obtain ⟨h1, h2⟩ := max_lt_iff.1 h
  exact (EReal.coe_toReal h1.ne fun e => by rw [e] at h2; simp at h2).symm

end Cert.Finite

end
-- ==== Proof.Extended.lean ====
/-
  Facts about sums of extended reals that all the value modules share: a finite sum of real numbers read as an
  extended real, and an array of a known length read as a function of every natural number (zero past its end).
-/
module

public import Idealize.ShloMosaic.Lib.Pointwise

@[expose] public section

noncomputable section

namespace Cert.Extended

open Idealize.ShloMosaic

/-- A finite sum of reals, coerced, is the sum of the coerced reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An array of `n` entries as a function of all natural numbers: zero past the end. -/
def past {α : Type*} [Zero α] (n : ℕ) (f : Fin n → α) (k : ℕ) : α := if h : k < n then f ⟨k, h⟩ else 0

theorem past_lt {α : Type*} [Zero α] {n : ℕ} (f : Fin n → α) {k : ℕ} (h : k < n) : past n f k = f ⟨k, h⟩ := dif_pos h
theorem past_ge {α : Type*} [Zero α] {n : ℕ} (f : Fin n → α) {k : ℕ} (h : n ≤ k) : past n f k = 0 := dif_neg (by omega)
theorem past_val {α : Type*} [Zero α] {n : ℕ} (f : Fin n → α) (k : Fin n) : past n f k.val = f k := dif_pos k.isLt

/-- A sum over `n + 1` tiles of `b` entries is the sum over the first `n` tiles plus the last tile's. -/
theorem sum_tiles {α : Type*} [AddCommMonoid α] (f : ℕ → α) (n b : ℕ) :
    ∑ k ∈ Finset.range ((n + 1) * b), f k = ∑ k ∈ Finset.range (n * b), f k + ∑ r : Fin b, f (n * b + r.val) := by
  rw [Nat.succ_mul, Finset.sum_range_add, Fin.sum_univ_eq_sum_range (fun r => f (n * b + r))]

/-- All entries of an array, summed as a function of the natural numbers. -/
theorem sum_past {α : Type*} [AddCommMonoid α] (n : ℕ) (f : Fin n → α) : ∑ k ∈ Finset.range n, past n f k = ∑ k, f k := by
  rw [← Fin.sum_univ_eq_sum_range]
  exact Finset.sum_congr rfl fun k _ => past_val f k

/-- The sum of the `w` entries from `k` on. -/
def ahead {α : Type*} [AddCommMonoid α] (q : ℕ → α) (w k : ℕ) : α := ∑ j ∈ Finset.range w, q (k + j)

/-- A window twice as wide is two windows side by side. -/
theorem ahead_double {α : Type*} [AddCommMonoid α] (q : ℕ → α) (w k : ℕ) :
    ahead q w k + ahead q w (k + w) = ahead q (w + w) k := by
  unfold ahead
  rw [Finset.sum_range_add]
  simp only [add_assoc]

/-- The word `min (s + 1) w`, read signed, for a row number and a window width. -/
theorem toInt_min (s w : ℕ) (hs : s < 4096) (hw : w < 4096) :
    (IntOp.minsi (IntOp.addi (BitVec.ofNat 32 s) 1#32) (BitVec.ofNat 32 w)).toInt = ((min (s + 1) w : ℕ) : ℤ) := by
  have e : IntOp.addi (BitVec.ofNat 32 s) 1#32 = BitVec.ofNat 32 (s + 1) := (BitVec.ofNat_add s 1).symm
  have t : ∀ k, k < 4097 → (BitVec.ofNat 32 k).toInt = (k : ℤ) := fun k hk => by
    rw [BitVec.toInt_eq_toNat_cond, BitVec.toNat_ofNat, Nat.mod_eq_of_lt (by omega), if_pos (by omega)]
  rw [e]
  unfold IntOp.minsi
  rw [BitVec.slt, t _ (by omega), t _ (by omega)]
  by_cases h : s + 1 < w
  · rw [if_pos (by simpa using (by exact_mod_cast h)), t _ (by omega), min_eq_left (by omega)]
  · rw [if_neg (by simpa using (by exact_mod_cast Nat.not_lt.mp h)), t _ (by omega), min_eq_right (by omega)]

end Cert.Extended

end
-- ==== Proof.PoolKernel.lean ====
module

public import proofs.«01_k».proof.Proof.Gen.PoolIdeal.Value
public import proofs.«01_k».proof.Proof.Extended

@[expose] public section
noncomputable section
namespace Cert.PoolIdeal.Body
open Idealize.ShloMosaic Cert.PoolIdeal Cert.PoolIdeal.Gen Cert.Extended

set_option maxRecDepth 16384

/-- Row `r + sh` of a column, or zero where there is none: how the body rotates the rows and masks those that came round. -/
theorem shift_apply (sh : ℕ) (h0 : 0 < sh) (h1 : sh < 4096) (n : BitVec 32) (hn : n.toNat = 4096 - sh) (x : FVec Ideal S4096x128 .f32)
    (hi) (hr) (r : Fin 4096) (l : Fin 128) :
    select (cmpi .slt (iota .tc S4096x128 32 [0] hi) (broadcast S4096x128 n)) (dynamicRotate 0 n none x hr)
      (broadcast S4096x128 (Scalar.ofBits (F := Ideal) .f32 0x00000000#32)) (ix2 r l)
      = past 4096 (fun s => x (ix2 s l)) (r.val + sh) := by
  have hnt : n = BitVec.ofNat 32 (4096 - sh) := by apply BitVec.eq_of_toNat_eq; rw [hn, BitVec.toNat_ofNat]; omega
  have hm : (BitVec.ofNat 32 r.val).slt n = decide (r.val + sh < 4096) := by
    rw [BitVec.slt_eq_decide, hnt]
    have e1 : (BitVec.ofNat 32 r.val).toInt = r.val := by rw [BitVec.toInt_ofNat']; have := r.isLt; simp only [Int.bmod_def]; omega
    have e2 : (BitVec.ofNat 32 (4096 - sh)).toInt = ((4096 - sh : ℕ) : ℤ) := by rw [BitVec.toInt_ofNat']; simp only [Int.bmod_def]; omega
    rw [e1, e2]
    exact decide_eq_decide.mpr (by omega)
  pointwise
  show Scalar.select (BitVec.ofBool ((BitVec.ofNat 32 r.val).slt n)) _ _ = _
  rw [hm]
  have hr := r.isLt
  by_cases h : r.val + sh < 4096
  · rw [decide_eq_true h, past_lt _ h]
    show x _ = x _
    congr 2
    apply Fin.ext
    show (r.val + 4096 - n.toNat % 4096) % 4096 = r.val + sh
    omega
  · rw [decide_eq_false h, past_ge _ (by omega)]
    rfl

theorem pay3_apply (v7 : Vec Ideal S4096x256 .bf16) (v8 : Vec Ideal S1x256x256 .bf16) (r : Fin 4096) (l : Fin 256) :
    k0_pay3 v7 v8 (ix2 r l) = ∑ k : Fin 256, v7 (ix2 r k) * v8 (ix3 0 l k) := by
  pointwise [k0_pay3]

/-- One doubling: a column of windows of `w` entries plus itself `w` rows on is the column of windows of `2 w` entries. -/
theorem double_apply (w : ℕ) (h0 : 0 < w) (h1 : w < 4096) (n : BitVec 32) (hn : n.toNat = 4096 - w) (x : FVec Ideal S4096x128 .f32)
    (l : Fin 128) (q : Fin 4096 → EReal) (hx : ∀ s : Fin 4096, x (ix2 s l) = ahead (past 4096 q) w s.val) (hi) (hr) (r : Fin 4096) :
    addf x (select (cmpi .slt (iota .tc S4096x128 32 [0] hi) (broadcast S4096x128 n)) (dynamicRotate 0 n none x hr)
      (broadcast S4096x128 (Scalar.ofBits (F := Ideal) .f32 0x00000000#32))) (ix2 r l)
      = ahead (past 4096 q) (w + w) r.val := by
  rw [addf_apply, Ideal.addf_def, shift_apply w h0 h1 n hn, hx, ← ahead_double]
  congr 1
  by_cases h : r.val + w < 4096
  · rw [past_lt _ h, hx]
  · rw [past_ge _ (by omega)]
    exact (Finset.sum_eq_zero fun j _ => past_ge _ (by omega)).symm

/-- One doubling step of the body: the array plus itself `4096 - n` rows on. -/
def doubled (n : BitVec 32) (x : FVec Ideal S4096x128 .f32) : FVec Ideal S4096x128 .f32 :=
  addf x (select (cmpi .slt (iota .tc S4096x128 32 [0] iota_S4096x128_d0_w32) (broadcast S4096x128 n))
    (dynamicRotate 0 n none x rotates_S4096x128_d0) (broadcast S4096x128 (Scalar.ofBits (F := Ideal) .f32 0x00000000#32)))

/-- The number of rows the mean at row `s` is over, as the body makes it: `min (s + 1) (2 · 2ⁱ)`. -/
def count (i : grid0.Coords) (s : Fin 4096) : EReal :=
  FloatOps.sitofp (F := Ideal) .f32 (IntOp.minsi (IntOp.addi (BitVec.ofNat 32 s.val) 1#32) (Scalar.shli (2#32) (BitVec.ofNat 32 (i 0).val)))

theorem pay2_apply (i : grid0.Coords) (r : Fin 4096) (l : Fin 128) : k0_pay2 (F := Ideal) i (ix2 r l) = count i r := by
  pointwise [k0_pay2]
  rfl

/-- Row `s` of a column of the product, divided by its count. -/
def ratio (i : grid0.Coords) (v : FVec Ideal S4096x256 .f32) (l : Fin 256) (s : Fin 4096) : EReal := Ideal.div (v (ix2 s l)) (count i s)

variable (i : grid0.Coords) (v7 : Vec Ideal S4096x256 .bf16) (v8 : Vec Ideal S1x256x256 .bf16) (r : Fin 4096) (l : Fin 128)

/-- The same lane in the first and in the second half of the block. -/
def lo (l : Fin 128) : Fin 256 := ⟨l.val, by omega⟩
def hi (l : Fin 128) : Fin 256 := ⟨128 + l.val, by omega⟩

theorem pay4_apply : k0_pay4 v7 v8 (ix2 r l) = k0_pay3 v7 v8 (ix2 r (lo l)) := by
  pointwise [k0_pay4]
  rfl
theorem pay10_apply (v : FVec Ideal S4096x256 .f32) : k0_pay10 v (ix2 r l) = v (ix2 r (hi l)) := by
  pointwise [k0_pay10]
  rfl

theorem quot_apply (d : FVec Ideal S4096x128 .f32) (v : FVec Ideal S4096x256 .f32) (l' : Fin 256) (hd : ∀ s, d (ix2 s l) = v (ix2 s l')) :
    divf d (k0_pay2 (F := Ideal) i) (ix2 r l) = ahead (past 4096 (ratio i v l')) 1 r.val := by
  unfold ahead
  rw [Finset.sum_range_one, Nat.add_zero, past_val, ratio, ← hd, ← pay2_apply i r l]
  rfl

/-- Which of four arrays the grid coordinate picks. -/
theorem pick_apply {α : Type} (p : ℕ) (hp : p < 4) (a b c d : α) :
    Scalar.select (Scalar.cmpi .eq (BitVec.ofNat 32 p) 0#32) a (Scalar.select (Scalar.cmpi .eq (BitVec.ofNat 32 p) 1#32) b
      (Scalar.select (Scalar.cmpi .eq (BitVec.ofNat 32 p) 2#32) c d)) = ![a, b, c, d] ⟨p, hp⟩ := by
  obtain rfl | rfl | rfl | rfl : p = 0 ∨ p = 1 ∨ p = 2 ∨ p = 3 := by omega
  all_goals rfl

theorem pick_window (q : ℕ → EReal) (r : ℕ) (p : Fin 4) :
    ![ahead q 2 r, ahead q 4 r, ahead q 8 r, ahead q 16 r] p = ahead q (2 ^ (p.val + 1)) r := by
  fin_cases p <;> rfl

theorem pick_at {α ι : Type} (a b c d : ι → α) (p : Fin 4) (j : ι) : ![a, b, c, d] p j = ![a j, b j, c j, d j] p := by
  fin_cases p <;> rfl

/-- The block a grid point writes: the window sum of the divided column, less the column. -/
def group (v : FVec Ideal S4096x256 .f32) : S4096x256.Idx → EReal := fun j =>
  ahead (past 4096 (ratio i v (j 1))) (2 ^ ((i 0).val + 1)) (j 0).val - v j

/-- The two halves of the block carry the same computation: double four times, pick one, subtract. -/
theorem pyramid (d : FVec Ideal S4096x128 .f32) (v : FVec Ideal S4096x256 .f32) (l' : Fin 256) (hd : ∀ s, d (ix2 s l) = v (ix2 s l')) :
    Scalar.select (Scalar.cmpi .eq (BitVec.ofNat 32 (i 0).val) 0#32) (doubled 4095#32 (divf d (k0_pay2 (F := Ideal) i)))
      (Scalar.select (Scalar.cmpi .eq (BitVec.ofNat 32 (i 0).val) 1#32) (doubled 4094#32 (doubled 4095#32 (divf d (k0_pay2 (F := Ideal) i))))
      (Scalar.select (Scalar.cmpi .eq (BitVec.ofNat 32 (i 0).val) 2#32)
        (doubled 4092#32 (doubled 4094#32 (doubled 4095#32 (divf d (k0_pay2 (F := Ideal) i)))))
        (doubled 4088#32 (doubled 4092#32 (doubled 4094#32 (doubled 4095#32 (divf d (k0_pay2 (F := Ideal) i)))))))) (ix2 r l)
      - d (ix2 r l) = group i v (ix2 r l') := by
  have h1 : ∀ s, doubled 4095#32 (divf d (k0_pay2 (F := Ideal) i)) (ix2 s l) = ahead (past 4096 (ratio i v l')) 2 s.val := fun s =>
    double_apply 1 (by decide) (by decide) _ (by decide) _ l _ (fun s => quot_apply i s l d v l' hd) _ _ s
  have h2 : ∀ s, doubled 4094#32 (doubled 4095#32 (divf d (k0_pay2 (F := Ideal) i))) (ix2 s l) = ahead (past 4096 (ratio i v l')) 4 s.val := fun s =>
    double_apply 2 (by decide) (by decide) _ (by decide) _ l _ h1 _ _ s
  have h3 : ∀ s, doubled 4092#32 (doubled 4094#32 (doubled 4095#32 (divf d (k0_pay2 (F := Ideal) i)))) (ix2 s l)
      = ahead (past 4096 (ratio i v l')) 8 s.val := fun s =>
    double_apply 4 (by decide) (by decide) _ (by decide) _ l _ h2 _ _ s
  have h4 : ∀ s, doubled 4088#32 (doubled 4092#32 (doubled 4094#32 (doubled 4095#32 (divf d (k0_pay2 (F := Ideal) i))))) (ix2 s l)
      = ahead (past 4096 (ratio i v l')) 16 s.val := fun s =>
    double_apply 8 (by decide) (by decide) _ (by decide) _ l _ h3 _ _ s
  rw [pick_apply _ (i 0).isLt, pick_at, hd, h1, h2, h3, h4, pick_window]
  rfl

theorem pay9_apply : k0_pay9 (BitVec.ofNat 32 (i 0).val) (k0_pay4 v7 v8) (k0_pay5 i v7 v8) (k0_pay6 i v7 v8) (k0_pay7 i v7 v8)
    (k0_pay8 i v7 v8) (Scalar.cmpi .eq (BitVec.ofNat 32 (i 0).val) 0#32) (ix2 r l) = group i (k0_pay3 v7 v8) (ix2 r (lo l)) :=
  pyramid i r l (k0_pay4 v7 v8) (k0_pay3 v7 v8) (lo l) fun s => pay4_apply v7 v8 s l

theorem pay1_apply (v : FVec Ideal S4096x256 .f32) :
    k0_pay1 (k0_pay10 v) (k0_pay11 (BitVec.ofNat 32 (i 0).val) (iota .tc S4096x128 32 [0] iota_S4096x128_d0_w32) (k0_pay2 (F := Ideal) i) v) (ix2 r l)
      = group i v (ix2 r (hi l)) :=
  pyramid i r l (k0_pay10 v) v (hi l) fun s => pay10_apply s l v

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output block. -/
theorem out_A (c : Dev nD) (a1 : Memref sig .tc .vmem S4096x256 .bf16) (h1 : a1.IsWhole) (a2 : Memref sig .tc .vmem S1x256x256 .bf16)
    (h2 : a2.IsWhole) (a4 : Memref sig .tc .vmem S4096x256 .bf16) (h4 : a4.IsWhole) :
    out0_A_2 c i a1 h1 a2 h2 a4 h4 v7 v8 = group i (k0_pay3 v7 v8) := by
  unfold out0_A_2
  rw [View.read_writes_eq_canon _ _ _ (cover0_A_2 c i a1 h1 a2 h2 a4 h4 v7 v8)]
  funext y
  refine View.canon_apply_of_pieces (Val := Elt Ideal) (e := .bf16) (group i (k0_pay3 v7 v8)) _ ?_ y (cover0_A_2 c i a1 h1 a2 h2 a4 h4 v7 v8 y)
  unfold kernelRun0_A
  dsimp only
  sl_unfold_words
  simp only [View.readAt_eq_ld, h1.read_unread, h2.read_unread, View.ld_unit_zero (S := S4096x256) hz2, View.ld_unit_zero (S := S1x256x256) hz3]
  intro p hp x
  simp only [List.mem_cons, List.not_mem_nil, or_false] at hp
  rcases hp with rfl | rfl
  · obtain ⟨r, l, rfl⟩ : ∃ (r : Fin 4096) (l : Fin 128), x = ix2 r l := ⟨x 0, x 1, eq_ix2 x⟩
    refine (pay1_apply i r l _).trans (congrArg _ ?_)
    funext a; fin_cases a
    · exact Fin.ext (by show r.val = 0 + 1 * r.val; omega)
    · exact Fin.ext (by show 128 + l.val = 128 + 1 * l.val; omega)
  · obtain ⟨r, l, rfl⟩ : ∃ (r : Fin 4096) (l : Fin 128), x = ix2 r l := ⟨x 0, x 1, eq_ix2 x⟩
    refine (pay9_apply i v7 v8 r l).trans (congrArg _ ?_)
    funext a; fin_cases a
    · exact Fin.ext (by show r.val = 0 + 1 * r.val; omega)
    · exact Fin.ext (by show l.val = 0 + 1 * l.val; omega)

end Cert.PoolIdeal.Body

end
-- ==== Proof.PoolValue.lean ====
/-
  The pooling mixer's gradient, kernel side: the result array of `pool_mix_bwd` as one function of the arguments. Column
  group `g` (256 columns) of the first 1024 columns is the window sum the kernel's body leaves (PoolKernel.lean); the
  other columns keep what the third argument holds.
-/
module

public import proofs.«01_k».proof.Proof.PoolKernel
public import Idealize.ShloMosaic.Lib.Pipeline.ValueKit.Basic

@[expose] public section

set_option maxRecDepth 16384

noncomputable section

namespace Cert.PoolIdeal.Body

open Cert.PoolIdeal Cert.PoolIdeal.Gen Cert.Extended Idealize.ShloMosaic Idealize.ShloMosaic.TcCoe Idealize.SL.Sem
open Idealize.ShloMosaic.Pipeline (Dat)

variable (m : (ℓ : Loc nD τ sig) → Buf (Elt Ideal) ℓ) (c : Dev nD)

theorem V_v0 : V m c main_v0 = m ((c : Thread nD τ).loc main_arg1) := by
  unfold V
  after_results
  rfl
theorem V_v1 : V m c main_v1 = m ((c : Thread nD τ).loc main_arg2) := by
  unfold V
  after_results
  rfl

/-- The gradient of group `g`'s pooled columns at row `r`: row `r` of `dmixed`'s group times the group's weights transposed. -/
def pooled (D : S4096x1024.Idx → EReal) (W : S4x256x256.Idx → EReal) (g : Fin 4) (l : Fin 256) (r : Fin 4096) : EReal :=
  ∑ k : Fin 256, D (ix2 r ⟨256 * g.val + k.val, by omega⟩) * W (ix3 g l k)

/-- How many rows the mean at row `s` is over. -/
def rows (g : Fin 4) (s : Fin 4096) : ℝ := ((min (s.val + 1) (2 ^ (g.val + 1)) : ℕ) : ℝ)

theorem count_eq (i : grid0.Coords) (s : Fin 4096) : count i s = ((rows (i 0) s : ℝ) : EReal) := by
  have e : Scalar.shli (2#32) (BitVec.ofNat 32 (i 0).val) = BitVec.ofNat 32 (2 ^ ((i 0).val + 1)) := by
    generalize i 0 = p
    revert p
    decide
  have hw : 2 ^ ((i 0).val + 1) < 4096 := by
    generalize i 0 = p
    revert p
    decide
  unfold count rows
  rw [e]
  show (((IntOp.minsi (IntOp.addi (BitVec.ofNat 32 s.val) 1#32) (BitVec.ofNat 32 (2 ^ ((i 0).val + 1)))).toInt : ℝ) : EReal) = _
  rw [toInt_min _ _ s.isLt hw, Int.cast_natCast]

/-- The result array: windows of divided pooled gradients in the first 1024 columns, the third argument in the others. -/
def result (D : S4096x1024.Idx → EReal) (W : S4x256x256.Idx → EReal) (P : S4096x4096.Idx → EReal) : S4096x4096.Idx → EReal := fun j =>
  if h : (j 1).val < 1024 then
    ahead (past 4096 fun s => Ideal.div (pooled D W ⟨(j 1).val / 256, by omega⟩ ⟨(j 1).val % 256, by omega⟩ s)
        ((rows ⟨(j 1).val / 256, by omega⟩ s : ℝ) : EReal)) (2 ^ ((j 1).val / 256 + 1)) (j 0).val
      - pooled D W ⟨(j 1).val / 256, by omega⟩ ⟨(j 1).val % 256, by omega⟩ (j 0)
  else P j

theorem index0 : ∀ t : Fin grid0.N, win0_0.index t 0 = 0 ∧ win0_0.index t 1 = t.val := by decide +kernel
theorem index1 : ∀ t : Fin grid0.N, win0_1.index t 0 = t.val ∧ win0_1.index t 1 = 0 ∧ win0_1.index t 2 = 0 := by decide +kernel
theorem index2 : ∀ t : Fin grid0.N, win0_2.index t 0 = 0 ∧ win0_2.index t 1 = t.val := by decide +kernel
theorem coord0 : ∀ t : Fin grid0.N, (grid0.coords t 0).val = t.val := by decide +kernel

/-- Block `t` of `dmixed` and of the weights, at an index. -/
theorem blk0_apply (t : Fin cfg0.N) (r : Fin 4096) (k : Fin 256) (g : Fin 4) (hg : g.val = t.val) :
    (iblk m c 0 t : Vec Ideal S4096x256 .bf16) (ix2 r k) = m ((c : Thread nD τ).loc main_arg0) (ix2 r ⟨256 * g.val + k.val, by omega⟩) := by
  unfold iblk
  rw [View.read_apply]
  show V m c main_arg0 _ = _
  rw [V_main_arg0]
  refine congrArg (m ((c : Thread nD τ).loc main_arg0)) (funext fun a => Fin.ext ?_)
  fin_cases a
  · show win0_0.index t 0 * 4096 + 1 * r.val = r.val; rw [(index0 t).1]; omega
  · show win0_0.index t 1 * 256 + 1 * k.val = 256 * g.val + k.val; rw [(index0 t).2]; omega

theorem blk1_apply (t : Fin cfg0.N) (l k : Fin 256) (g : Fin 4) (hg : g.val = t.val) :
    (iblk m c 1 t : Vec Ideal S1x256x256 .bf16) (ix3 0 l k) = m ((c : Thread nD τ).loc main_arg1) (ix3 g l k) := by
  unfold iblk
  rw [View.read_apply]
  show V m c main_v0 _ = _
  rw [V_v0]
  refine congrArg (m ((c : Thread nD τ).loc main_arg1)) (funext fun a => Fin.ext ?_)
  fin_cases a
  · show win0_1.index t 0 * 1 + 1 * 0 = g.val; rw [(index1 t).1]; omega
  · show win0_1.index t 1 * 256 + 1 * l.val = l.val; rw [(index1 t).2.1]; omega
  · show win0_1.index t 2 * 256 + 1 * k.val = k.val; rw [(index1 t).2.2]; omega

theorem product (t : Fin cfg0.N) (g : Fin 4) (hg : g.val = t.val) (r : Fin 4096) (l : Fin 256) :
    k0_pay3 (iblk m c 0 t : Vec Ideal S4096x256 .bf16) (iblk m c 1 t : Vec Ideal S1x256x256 .bf16) (ix2 r l)
      = pooled (m ((c : Thread nD τ).loc main_arg0)) (m ((c : Thread nD τ).loc main_arg1)) g l r := by
  rw [pay3_apply]
  exact Finset.sum_congr rfl fun k _ => congrArg₂ _ (blk0_apply m c t r k g hg) (blk1_apply m c t l k g hg)

/-- What point `t` writes back is its block of the result array. -/
theorem flushed_eq (t : Fin cfg0.N) (hf : (cfg0.win 2).flush t = true) : (dats m 0 c).flushed 2 t
    = ((cfg0.win 2).blk t).view.read (Elt Ideal) (result (m ((c : Thread nD τ).loc main_arg0)) (m ((c : Thread nD τ).loc main_arg1)) (m ((c : Thread nD τ).loc main_arg2))) := by
  rw [Value.flushed2_A, out_A]
  funext y
  obtain ⟨r, l, rfl⟩ : ∃ (r : Fin 4096) (l : Fin 256), y = ix2 r l := ⟨y 0, y 1, eq_ix2 y⟩
  have ht : t.val < 4 := t.isLt
  rw [View.read_apply]
  have e : ((cfg0.win 2).blk t).view.emb (ix2 r l) = (ix2 r ⟨256 * t.val + l.val, by omega⟩ : S4096x4096.Idx) := by
    funext a; fin_cases a
    · exact Fin.ext (by show win0_2.index t 0 * 4096 + 1 * r.val = r.val; rw [(index2 t).1]; omega)
    · exact Fin.ext (by show win0_2.index t 1 * 256 + 1 * l.val = 256 * t.val + l.val; rw [(index2 t).2]; omega)
  rw [e]
  show group (grid0.coords t) _ (ix2 r l) = result _ _ _ _
  unfold result group
  have h : 256 * t.val + l.val < 1024 := by omega
  have hg : (⟨(256 * t.val + l.val) / 256, by omega⟩ : Fin 4) = ⟨t.val, ht⟩ := Fin.ext (by show (256 * t.val + l.val) / 256 = t.val; omega)
  have hl : (⟨(256 * t.val + l.val) % 256, by omega⟩ : Fin 256) = l := Fin.ext (by show (256 * t.val + l.val) % 256 = l.val; omega)
  have hd : (256 * t.val + l.val) / 256 = t.val := by omega
  refine Eq.trans ?_ (dif_pos h).symm
  show _ = ahead (past 4096 fun s => Ideal.div (pooled _ _ ⟨(256 * t.val + l.val) / 256, _⟩ ⟨(256 * t.val + l.val) % 256, _⟩ s)
      ((rows ⟨(256 * t.val + l.val) / 256, _⟩ s : ℝ) : EReal)) (2 ^ ((256 * t.val + l.val) / 256 + 1)) r.val
      - pooled _ _ ⟨(256 * t.val + l.val) / 256, _⟩ ⟨(256 * t.val + l.val) % 256, _⟩ r
  rw [hg, hl, hd, coord0]
  refine congrArg₂ _ ?_ (product m c t ⟨t.val, ht⟩ rfl r l)
  refine congrArg (fun q => ahead (past 4096 q) (2 ^ (t.val + 1)) r.val) (funext fun s => ?_)
  show Ideal.div _ (count (grid0.coords t) s) = _
  rw [count_eq, show (grid0.coords t 0) = (⟨t.val, ht⟩ : Fin 4) from Fin.ext (coord0 t)]
  exact congrArg (Ideal.div · _) (product m c t ⟨t.val, ht⟩ rfl s l)

/-- The result array after the run. -/
theorem final : (dats m 0 c).arrAt 2 cfg0.N
    = result (m ((c : Thread nD τ).loc main_arg0)) (m ((c : Thread nD τ).loc main_arg1)) (m ((c : Thread nD τ).loc main_arg2)) := by
  funext j
  rw [(dats m 0 c).arrAt_eq_piecewise 2 _ (flushed_eq m c) j]
  split
  · rfl
  · rename_i h
    rw [A_eq]
    show V m c main_v1 j = _
    rw [V_v1]
    have h1 : ¬(j 1).val < 1024 := fun h1 => by
      have h0 : (j 0).val < 4096 := (j 0).isLt
      have ht : (j 1).val / 256 < cfg0.N := by rw [show cfg0.N = 4 from N_0]; omega
      refine h ⟨⟨(j 1).val / 256, ht⟩, flush0_2 _, ?_⟩
      show j ∈ ((View.whole main_v1).slice (win0_2.rect (⟨(j 1).val / 256, ht⟩ : Fin cfg0.N))).set
      rw [View.set_slice_whole, Pipeline.Window.mem_rect_iff win0_2 _ _ rfl]
      intro a
      fin_cases a
      · show win0_2.index _ 0 * 4096 ≤ (j 0).val ∧ (j 0).val < win0_2.index _ 0 * 4096 + 4096
        rw [(index2 _).1]; omega
      · show win0_2.index _ 1 * 256 ≤ (j 1).val ∧ (j 1).val < win0_2.index _ 1 * 256 + 256
        rw [(index2 _).2]; show (j 1).val / 256 * 256 ≤ (j 1).val ∧ (j 1).val < (j 1).val / 256 * 256 + 256; omega
    unfold result
    rw [dif_neg h1]

/-- The run, read: the result array, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.PoolIdeal.Body

end
-- ==== Proof.HostRead.lean ====
/-
  Three host operations read at an index: a padding of rows, a padding of the middle axis, and a float running sum from
  the far end (a window of the whole height padded at the high end), the last one as a sum of extended reals.
-/
module

public import proofs.«01_k».proof.Proof.Extended
public import Idealize.ShloMosaic.Lib.Routing.OpsOne

@[expose] public section

set_option maxRecDepth 16384

noncomputable section

namespace Cert.HostRead

open Idealize.ShloMosaic Cert.Extended

/-- Rows padded at the high end: the operand's entry where there is one, else the padding value. -/
theorem pad_rows {α : Type} {n w R C : ℕ} (x : (⟨2, ![n, C]⟩ : Shape).Idx → α) {u : Shape} (v : u.Idx → α)
    (h : (⟨2, ![n, C]⟩ : Shape).Pads ![0, 0] ![w, 0] ![0, 0] ⟨2, ![R, C]⟩) (hu : 0 < u.numel) (r : Fin R) (c : Fin C) :
    pad ⟨2, ![R, C]⟩ ![0, 0] ![w, 0] ![0, 0] x v h hu (ix2 r c)
      = if hr : r.val < n then x (ix2 ⟨r.val, hr⟩ c) else v (Shape.Idx.first hu) := by
  unfold pad
  by_cases hr : r.val < n
  · rw [dif_pos hr, dif_pos]
    · refine congrArg x (funext fun a => Fin.ext ?_)
      match a with
      | ⟨0, _⟩ => show (r.val - 0) / (0 + 1) = r.val; simp
      | ⟨1, _⟩ => show (c.val - 0) / (0 + 1) = c.val; simp
    · intro a
      match a with
      | ⟨0, _⟩ => exact ⟨Nat.zero_le _, by show (r.val - 0) % (0 + 1) = 0; simp [Nat.mod_one], by show (r.val - 0) / (0 + 1) < n; simpa using hr⟩
      | ⟨1, _⟩ => exact ⟨Nat.zero_le _, by show (c.val - 0) % (0 + 1) = 0; simp [Nat.mod_one], by show (c.val - 0) / (0 + 1) < C; simp⟩
  · rw [dif_neg hr, dif_neg]
    intro hin
    have := (hin (0 : Fin 2)).2.2
    exact hr (by have h : (r.val - 0) / (0 + 1) < n := this; simpa using h)

/-- A middle axis of size one padded to `G`: the operand at coordinate `g`, the padding value at the others. -/
theorem pad_middle {α : Type} {g G hi R C : ℕ} (x : (⟨3, ![R, 1, C]⟩ : Shape).Idx → α) {u : Shape} (v : u.Idx → α)
    (h : (⟨3, ![R, 1, C]⟩ : Shape).Pads ![0, g, 0] ![0, hi, 0] ![0, 0, 0] ⟨3, ![R, G, C]⟩) (hu : 0 < u.numel) (r : Fin R) (k : Fin G) (c : Fin C) :
    pad ⟨3, ![R, G, C]⟩ ![0, g, 0] ![0, hi, 0] ![0, 0, 0] x v h hu (ix3 r k c)
      = if k.val = g then x (ix3 r 0 c) else v (Shape.Idx.first hu) := by
  unfold pad
  by_cases hk : k.val = g
  · rw [if_pos hk, dif_pos]
    · refine congrArg x (funext fun a => Fin.ext ?_)
      match a with
      | ⟨0, _⟩ => show (r.val - 0) / (0 + 1) = r.val; simp
      | ⟨1, _⟩ => show (k.val - g) / (0 + 1) = 0; simp [hk]
      | ⟨2, _⟩ => show (c.val - 0) / (0 + 1) = c.val; simp
    · intro a
      match a with
      | ⟨0, _⟩ => exact ⟨Nat.zero_le _, by show (r.val - 0) % (0 + 1) = 0; simp [Nat.mod_one], by show (r.val - 0) / (0 + 1) < R; simp⟩
      | ⟨1, _⟩ => exact ⟨by show g ≤ k.val; omega, by show (k.val - g) % (0 + 1) = 0; simp [Nat.mod_one], by show (k.val - g) / (0 + 1) < 1; simp [hk]⟩
      | ⟨2, _⟩ => exact ⟨Nat.zero_le _, by show (c.val - 0) % (0 + 1) = 0; simp [Nat.mod_one], by show (c.val - 0) / (0 + 1) < C; simp⟩
  · rw [if_neg hk, dif_neg]
    intro hin
    have h1 : g ≤ k.val := (hin (1 : Fin 3)).1
    have h2 : (k.val - g) / (0 + 1) < 1 := (hin (1 : Fin 3)).2.2
    simp at h2
    omega

/-- A left fold of additions is the start plus the sum. -/
theorem foldl_add {ι : Type} (g : ι → EReal) : ∀ (L : List ι) (v : EReal), L.foldl (fun r n => r + g n) v = v + (L.map g).sum
  | [], v => by simp
  | a :: L, v => by rw [List.foldl_cons, foldl_add g L, List.map_cons, List.sum_cons, add_assoc]

/-- The same over a finite range of positions, from zero. -/
theorem foldl_range {N : ℕ} (g G : Fin N → EReal) (v : EReal) (hv : v = 0) (hG : ∀ n, g n = G n) :
    (List.finRange N).foldl (fun r n => r + g n) v = ∑ n, G n := by
  rw [foldl_add, hv, zero_add, ← Fin.sum_univ_def]
  exact Finset.sum_congr rfl fun n _ => hG n

/-- The running sum from the far end: entry `(r, c)` is the sum of column `c` from row `r` on. -/
theorem cumsum_back {R C p : ℕ} (x : FVec Ideal (⟨2, ![R, C]⟩ : Shape) .f32) (init : FVec Ideal (⟨0, ![]⟩ : Shape) .f32) (hinit : ∀ i, init i = 0)
    (h : (⟨2, ![R, C]⟩ : Shape).ReduceWindows ![R, 1] ![1, 1] ![0, 0] ![p, 0] ⟨2, ![R, C]⟩) (hu : 0 < (⟨0, ![]⟩ : Shape).numel) (r : Fin R) (c : Fin C) :
    Host.reduceWindowAdd ![R, 1] ![1, 1] ![0, 0] ![p, 0] x init h hu (ix2 r c)
      = ∑ k ∈ Finset.range R, past R (fun s => x (ix2 s c)) (r.val + k) := by
  have hN : (⟨2, ![R, 1]⟩ : Shape).numel = R := Routing.numel_col R
  show Host.reduceWindow (fun a b : EReal => a + b) ![R, 1] ![1, 1] ![0, 0] ![p, 0] x init h hu (ix2 r c) = _
  unfold Host.reduceWindow
  have e := Fin.sum_univ_eq_sum_range (α := EReal) (fun k : ℕ => past R (fun s => x (ix2 s c)) (r.val + k)) (⟨2, ![R, 1]⟩ : Shape).numel
  refine (foldl_range _ (fun n => past R (fun s => x (ix2 s c)) (r.val + n.val)) _ (hinit _) fun n => ?_).trans (e.trans (by rw [hN]))
  have hw0 : ((⟨2, ![R, 1]⟩ : Shape).rowMajor.symm n 0).val = n.val := by rw [Routing.symm_col]; rfl
  have hw1 : ((⟨2, ![R, 1]⟩ : Shape).rowMajor.symm n 1).val = 0 := by rw [Routing.symm_col]; rfl
  by_cases hk : r.val + n.val < R
  · rw [past, dif_pos hk, dif_pos]
    · refine congrArg x (funext fun a => Fin.ext ?_)
      match a with
      | ⟨0, _⟩ => show r.val * 1 + ((⟨2, ![R, 1]⟩ : Shape).rowMajor.symm n 0).val - 0 = r.val + n.val; rw [hw0]; omega
      | ⟨1, _⟩ => show c.val * 1 + ((⟨2, ![R, 1]⟩ : Shape).rowMajor.symm n 1).val - 0 = c.val; rw [hw1]; omega
    · intro a
      match a with
      | ⟨0, _⟩ => exact ⟨Nat.zero_le _, by show r.val * 1 + ((⟨2, ![R, 1]⟩ : Shape).rowMajor.symm n 0).val - 0 < R; rw [hw0]; omega⟩
      | ⟨1, _⟩ => exact ⟨Nat.zero_le _, by show c.val * 1 + ((⟨2, ![R, 1]⟩ : Shape).rowMajor.symm n 1).val - 0 < C; rw [hw1]; have := c.isLt; omega⟩
  · rw [past, dif_neg hk, dif_neg]
    · exact hinit _
    intro hin
    have h2 : r.val * 1 + ((⟨2, ![R, 1]⟩ : Shape).rowMajor.symm n 0).val - 0 < R := (hin (0 : Fin 2)).2
    rw [hw0] at h2
    omega

end Cert.HostRead

end
-- ==== Proof.PoolWindow.lean ====
/-
  The pooling mixer's gradient, reference side, one column group: the transpose of "running sum, minus itself lagged by
  `w`" is a running sum from the far end of the quotient minus the quotient `w` rows on; on finite entries it
  telescopes to the sum of the `w` quotients from the row on.
-/
module

public import proofs.«01_k».proof.Proof.HostRead
public import Idealize.ShloMosaic.Lib.Pipeline.Value

@[expose] public section

set_option maxRecDepth 16384

noncomputable section

namespace Cert.PoolWindow

open Idealize.ShloMosaic Cert.Extended Cert.HostRead

/-- A sequence that vanishes from `N` on: its differences at distance `w`, summed over `N` places, leave the first `w` entries. -/
theorem telescope (q : ℕ → ℝ) (w N k : ℕ) (hq : ∀ s, N ≤ s → q s = 0) :
    ∑ j ∈ Finset.range N, (q (k + j) - q (k + j + w)) = ahead q w k := by
  have a : ∑ j ∈ Finset.range (N + w), q (k + j) = ∑ j ∈ Finset.range N, q (k + j) := by
    rw [Finset.sum_range_add, add_eq_left]
    exact Finset.sum_eq_zero fun j _ => hq _ (by omega)
  have b : ∑ j ∈ Finset.range (w + N), q (k + j) = ahead q w k + ∑ j ∈ Finset.range N, q (k + j + w) := by
    rw [Finset.sum_range_add]
    exact congrArg _ (Finset.sum_congr rfl fun j _ => congrArg q (by omega))
  rw [Finset.sum_sub_distrib, ← a, Nat.add_comm N w, b, add_sub_cancel_right]

abbrev S : Shape := ⟨2, ![4096, 256]⟩

/-- One group's gradient on finite entries: `d` the gradient of the group's pooled value, `b` the row counts. -/
theorem group (w n : ℕ) (hn : n + w = 4096) (D C : FVec Ideal S .f32) (d b : Fin 4096 → Fin 256 → ℝ)
    (hD : ∀ s l, D (ix2 s l) = (d s l : EReal)) (hC : ∀ s l, C (ix2 s l) = (b s l : EReal)) (hb : ∀ s l, b s l ≠ 0)
    (z init : FVec Ideal (⟨0, ![]⟩ : Shape) .f32) (hz : ∀ i, z i = 0) (hinit : ∀ i, init i = 0)
    (hs : S.Slices ![w, 0] ⟨2, ![n, 256]⟩) (hp : (⟨2, ![n, 256]⟩ : Shape).Pads ![0, 0] ![w, 0] ![0, 0] S)
    (hr : S.ReduceWindows ![4096, 1] ![1, 1] ![0, 0] ![4095, 0] S) (hu : 0 < (⟨0, ![]⟩ : Shape).numel) (r : Fin 4096) (l : Fin 256) :
    addf (Host.negf D) (Host.reduceWindowAdd ![4096, 1] ![1, 1] ![0, 0] ![4095, 0]
        (addf (Host.divf D C) (pad S ![0, 0] ![w, 0] ![0, 0] (extractStridedSlice ⟨2, ![n, 256]⟩ ![w, 0] (Host.negf (Host.divf D C)) hs) z hp hu))
        init hr hu) (ix2 r l)
      = ahead (past 4096 fun s => Ideal.div (D (ix2 s l)) (C (ix2 s l))) w r.val - D (ix2 r l) := by
  have hq : ∀ s, Ideal.div (D (ix2 s l)) (C (ix2 s l)) = ((d s l / b s l : ℝ) : EReal) := fun s => by
    rw [hD, hC, Ideal.div_coe (hb s l), ← EReal.coe_mul, mul_one_div]
  have hlag : ∀ s : Fin 4096, addf (Host.divf D C) (pad S ![0, 0] ![w, 0] ![0, 0] (extractStridedSlice ⟨2, ![n, 256]⟩ ![w, 0] (Host.negf (Host.divf D C)) hs) z hp hu) (ix2 s l)
      = ((past 4096 (fun s => d s l / b s l) s.val - past 4096 (fun s => d s l / b s l) (s.val + w) : ℝ) : EReal) := fun s => by
    show Ideal.div (D (ix2 s l)) (C (ix2 s l)) + pad S _ _ _ _ z hp hu (ix2 s l) = _
    rw [pad_rows, hq, past_val]
    by_cases h : s.val < n
    · rw [dif_pos h, past_lt _ (by omega : s.val + w < 4096),
        extractStridedSlice_apply _ _ hs _ (ix2 ⟨s.val + w, by omega⟩ l) (fun a => by
          match a with
          | ⟨0, _⟩ => show s.val + w = w + s.val; omega
          | ⟨1, _⟩ => show l.val = 0 + l.val; omega)]
      show _ + -(Ideal.div (D (ix2 ⟨s.val + w, _⟩ l)) (C (ix2 ⟨s.val + w, _⟩ l))) = _
      rw [hq, ← EReal.coe_neg, ← EReal.coe_add, sub_eq_add_neg]
    · rw [dif_neg h, hz, past_ge _ (by omega : 4096 ≤ s.val + w), add_zero, sub_zero]
  show -(D (ix2 r l)) + Host.reduceWindowAdd _ _ _ _ _ init hr hu (ix2 r l) = _
  rw [cumsum_back _ init hinit hr hu r l]
  have e1 : ∀ k, past 4096 (fun s : Fin 4096 => addf (Host.divf D C) (pad S ![0, 0] ![w, 0] ![0, 0] (extractStridedSlice ⟨2, ![n, 256]⟩ ![w, 0] (Host.negf (Host.divf D C)) hs) z hp hu) (ix2 s l)) k
      = ((past 4096 (fun s => d s l / b s l) k - past 4096 (fun s => d s l / b s l) (k + w) : ℝ) : EReal) := fun k => by
    by_cases h : k < 4096
    · rw [past_lt _ h, hlag ⟨k, h⟩]
    · rw [past_ge _ (by omega), past_ge _ (by omega), past_ge _ (by omega), sub_zero, EReal.coe_zero]
  have e2 : ∀ k, past 4096 (fun s => Ideal.div (D (ix2 s l)) (C (ix2 s l))) k = ((past 4096 (fun s => d s l / b s l) k : ℝ) : EReal) := fun k => by
    by_cases h : k < 4096
    · rw [past_lt _ h, past_lt _ h, hq]
    · rw [past_ge _ (by omega), past_ge _ (by omega), EReal.coe_zero]
  rw [Finset.sum_congr rfl fun k _ => e1 (r.val + k), ← coe_sum, telescope _ _ _ _ fun s h => past_ge _ h]
  unfold ahead
  rw [Finset.sum_congr rfl fun k _ => e2 (r.val + k), ← coe_sum, hD, ← EReal.coe_neg, ← EReal.coe_add, ← EReal.coe_sub, neg_add_eq_sub]

end Cert.PoolWindow

end
-- ==== Proof.PoolReference.lean ====
/-
  The pooling mixer's gradient, reference side: the reference's result array, read at an index, is the kernel's (`result`
  of PoolValue.lean) on arguments with finite first and second arrays.
-/
module

public import proofs.«01_k».proof.Proof.PoolValue
public import proofs.«01_k».proof.Proof.PoolWindow
public import proofs.«01_k».proof.Proof.Gen.PoolRefIdeal.Read

@[expose] public section

set_option maxRecDepth 16384

noncomputable section

namespace Cert.PoolRefIdeal.Body

open Cert.PoolRefIdeal Cert.PoolRefIdeal.Gen Cert.PoolRefIdeal.Read Cert.Extended Idealize.ShloMosaic
open Cert.PoolIdeal.Body (pooled rows result)

variable (D : S4096x1024.Idx → EReal) (W : S4x256x256.Idx → EReal)

/-- The product of the gradient with each group's weights. -/
theorem product_apply (r : Fin 4096) (g : Fin 4) (l : Fin 256) :
    val_main_v83 (F := Ideal) D W (ix3 r g l) = pooled D W g l r := by
  rw [val_main_v83_apply, val_main_v82_apply]
  unfold pooled
  refine Finset.sum_congr rfl fun k _ => ?_
  rw [val_main_v81_apply, val_main_v80_apply]
  refine congrArg₂ (fun a b : EReal => a * b) (congrArg D (funext fun a => Fin.ext ?_)) (congrArg W (funext fun a => Fin.ext ?_))
  · match a with
    | ⟨0, _⟩ => show ((r.val * 4 + g.val) * 256 + k.val) / 1024 = r.val; omega
    | ⟨1, _⟩ => show ((r.val * 4 + g.val) * 256 + k.val) % 1024 = 256 * g.val + k.val; omega
  · match a with
    | ⟨0, _⟩ => rfl
    | ⟨1, _⟩ => rfl
    | ⟨2, _⟩ => rfl

/-- The same at an index that spells the row and the lane by the flattening of a group's slice. -/
theorem product_at (r : Fin 4096) (g : Fin 4) (l : Fin 256) (i : S4096x4x256.Idx) (h0 : (i 0).val = (r.val * 256 + l.val) / 256)
    (h1 : (i 1).val = g.val) (h2 : (i 2).val = (r.val * 256 + l.val) % 256) : val_main_v83 (F := Ideal) D W i = pooled D W g l r := by
  rw [← product_apply]
  refine congrArg _ (funext fun a => Fin.ext ?_)
  match a with
  | ⟨0, _⟩ => show (i 0).val = r.val; omega
  | ⟨1, _⟩ => exact h1
  | ⟨2, _⟩ => show (i 2).val = l.val; omega

theorem part0 (r : Fin 4096) (l : Fin 256) : val_main_v85 (F := Ideal) D W (ix2 r l) = pooled D W 0 l r := by
  rw [val_main_v85_apply, val_main_v84_apply]; exact product_at D W r 0 l _ rfl rfl rfl
theorem part1 (r : Fin 4096) (l : Fin 256) : val_main_v87 (F := Ideal) D W (ix2 r l) = pooled D W 1 l r := by
  rw [val_main_v87_apply, val_main_v86_apply]; exact product_at D W r 1 l _ rfl rfl rfl
theorem part2 (r : Fin 4096) (l : Fin 256) : val_main_v89 (F := Ideal) D W (ix2 r l) = pooled D W 2 l r := by
  rw [val_main_v89_apply, val_main_v88_apply]; exact product_at D W r 2 l _ rfl rfl rfl
theorem part3 (r : Fin 4096) (l : Fin 256) : val_main_v91 (F := Ideal) D W (ix2 r l) = pooled D W 3 l r := by
  rw [val_main_v91_apply, val_main_v90_apply]; exact product_at D W r 3 l _ rfl rfl rfl

/-- The number of rows a mean is over, as the host program counts it. -/
theorem counted (s : Fin 4096) (g : Fin 4) (w : BitVec 32) (hw : w = BitVec.ofNat 32 (2 ^ (g.val + 1))) :
    ((((IntOp.minsi (IntOp.addi (BitVec.ofNat 32 s.val) 1#32) w).toInt : ℤ) : ℝ) : EReal) = ((rows g s : ℝ) : EReal) := by
  have h : 2 ^ (g.val + 1) < 4096 := by clear hw; revert g; decide
  rw [hw, toInt_min _ _ s.isLt h]
  unfold rows
  norm_cast

theorem count0 (s : Fin 4096) (l : Fin 256) : val_main_v131 (F := Ideal) (ix2 s l) = ((rows 0 s : ℝ) : EReal) := counted s 0 _ rfl
theorem count1 (s : Fin 4096) (l : Fin 256) : val_main_v118 (F := Ideal) (ix2 s l) = ((rows 1 s : ℝ) : EReal) := counted s 1 _ rfl
theorem count2 (s : Fin 4096) (l : Fin 256) : val_main_v105 (F := Ideal) (ix2 s l) = ((rows 2 s : ℝ) : EReal) := counted s 2 _ rfl
theorem count3 (s : Fin 4096) (l : Fin 256) : val_main_v93 (F := Ideal) (ix2 s l) = ((rows 3 s : ℝ) : EReal) := counted s 3 _ rfl

/-- What one column group of the gradient comes to. -/
def grouped (g : Fin 4) (r : Fin 4096) (l : Fin 256) : EReal :=
  ahead (past 4096 fun s => Ideal.div (pooled D W g l s) ((rows g s : ℝ) : EReal)) (2 ^ (g.val + 1)) r.val - pooled D W g l r

theorem zero_word (i : S_.Idx) : (constant S_ .f32 0x00000000#32 : FVec Ideal S_ .f32) i = 0 := Ideal.ofBits_zero_f32

theorem rows_ne (g : Fin 4) (s : Fin 4096) : rows g s ≠ 0 := by
  unfold rows
  have : 0 < 2 ^ (g.val + 1) := by positivity
  exact_mod_cast (by omega : min (s.val + 1) (2 ^ (g.val + 1)) ≠ 0)

variable (d : S4096x1024.Idx → ℝ) (w : S4x256x256.Idx → ℝ) (hD : ∀ i, D i = (d i : EReal)) (hW : ∀ i, W i = (w i : EReal))
include hD hW

theorem pooled_coe (g : Fin 4) (l : Fin 256) (r : Fin 4096) :
    pooled D W g l r = ((∑ k : Fin 256, d (ix2 r ⟨256 * g.val + k.val, by omega⟩) * w (ix3 g l k) : ℝ) : EReal) := by
  unfold pooled
  rw [coe_sum]
  exact Finset.sum_congr rfl fun k _ => by rw [hD, hW, EReal.coe_mul]

/-- One group, from what the program's arrays hold: `P` the product's slice, `C` the broadcast row counts. -/
theorem group_of (g : Fin 4) (v n : ℕ) (hn : n + v = 4096) (hv : v = 2 ^ (g.val + 1)) (P C : FVec Ideal S4096x256 .f32)
    (hP : ∀ s l, P (ix2 s l) = pooled D W g l s) (hC : ∀ s l, C (ix2 s l) = ((rows g s : ℝ) : EReal)) (init : FVec Ideal S_ .f32) (hi : ∀ i, init i = 0)
    (hs : S4096x256.Slices ![v, 0] ⟨2, ![n, 256]⟩) (hp : (⟨2, ![n, 256]⟩ : Shape).Pads ![0, 0] ![v, 0] ![0, 0] S4096x256) (r : Fin 4096) (l : Fin 256) :
    addf (Host.negf P) (Host.reduceWindowAdd ![4096, 1] ![1, 1] ![0, 0] ![4095, 0]
        (addf (Host.divf P C) (pad S4096x256 ![0, 0] ![v, 0] ![0, 0] (extractStridedSlice ⟨2, ![n, 256]⟩ ![v, 0] (Host.negf (Host.divf P C)) hs)
          (constant S_ .f32 0x00000000#32) hp h_S_))
        init reduceWindows_S4096x256_S4096x256_w4096s1p0_4095_w1s1p0_0 h_S_) (ix2 r l) = grouped D W g r l := by
  have h := PoolWindow.group v n hn P C _ (fun s _ => rows g s) (fun s l => (hP s l).trans (pooled_coe D W d w hD hW g l s)) hC
    (fun s _ => rows_ne g s) (constant S_ .f32 0x00000000#32) init zero_word hi hs hp
    reduceWindows_S4096x256_S4096x256_w4096s1p0_4095_w1s1p0_0 h_S_ r l
  simp only [hP, hC, hv] at h
  subst hv
  exact h

theorem group0 (r : Fin 4096) (l : Fin 256) : val_main_v139 (F := Ideal) D W (ix2 r l) = grouped D W 0 r l :=
  group_of D W d w hD hW 0 2 4094 rfl rfl (val_main_v85 (F := Ideal) D W) (val_main_v131 (F := Ideal)) (part0 D W) count0
    (val_main_call7_call0_v0 (F := Ideal)) (fun _ => Ideal.ofBits_zero_f32) _ _ r l
theorem group1 (r : Fin 4096) (l : Fin 256) : val_main_v126 (F := Ideal) D W (ix2 r l) = grouped D W 1 r l :=
  group_of D W d w hD hW 1 4 4092 rfl rfl (val_main_v87 (F := Ideal) D W) (val_main_v118 (F := Ideal)) (part1 D W) count1
    (val_main_call6_call0_v0 (F := Ideal)) (fun _ => Ideal.ofBits_zero_f32) _ _ r l
theorem group2 (r : Fin 4096) (l : Fin 256) : val_main_v113 (F := Ideal) D W (ix2 r l) = grouped D W 2 r l :=
  group_of D W d w hD hW 2 8 4088 rfl rfl (val_main_v89 (F := Ideal) D W) (val_main_v105 (F := Ideal)) (part2 D W) count2
    (val_main_call5_call0_v0 (F := Ideal)) (fun _ => Ideal.ofBits_zero_f32) _ _ r l
theorem group3 (r : Fin 4096) (l : Fin 256) : val_main_v101 (F := Ideal) D W (ix2 r l) = grouped D W 3 r l :=
  group_of D W d w hD hW 3 16 4080 rfl rfl (val_main_v91 (F := Ideal) D W) (val_main_v93 (F := Ideal)) (part3 D W) count3
    (val_main_call4_call0_v0 (F := Ideal)) (fun _ => Ideal.ofBits_zero_f32) _ _ r l

/-- The four groups put side by side: group `g`'s entry, the other three adding zero. -/
theorem stacked (r : Fin 4096) (g : Fin 4) (l : Fin 256) : val_main_v142 (F := Ideal) D W (ix3 r g l) = grouped D W g r l := by
  have e3 : val_main_v103 (F := Ideal) D W (ix3 r g l) = if g.val = 3 then grouped D W 3 r l else 0 :=
    (HostRead.pad_middle _ _ _ _ r g l).trans (by rw [val_main_v102_apply, show idx_main_v102 (ix3 r 0 l) = ix2 r l from eq_ix2 _, group3 D W d w hD hW]; exact congrArg _ Ideal.ofBits_zero_f32)
  have e2 : val_main_v115 (F := Ideal) D W (ix3 r g l) = if g.val = 2 then grouped D W 2 r l else 0 :=
    (HostRead.pad_middle _ _ _ _ r g l).trans (by rw [val_main_v114_apply, show idx_main_v114 (ix3 r 0 l) = ix2 r l from eq_ix2 _, group2 D W d w hD hW]; exact congrArg _ Ideal.ofBits_zero_f32)
  have e1 : val_main_v128 (F := Ideal) D W (ix3 r g l) = if g.val = 1 then grouped D W 1 r l else 0 :=
    (HostRead.pad_middle _ _ _ _ r g l).trans (by rw [val_main_v127_apply, show idx_main_v127 (ix3 r 0 l) = ix2 r l from eq_ix2 _, group1 D W d w hD hW]; exact congrArg _ Ideal.ofBits_zero_f32)
  have e0 : val_main_v141 (F := Ideal) D W (ix3 r g l) = if g.val = 0 then grouped D W 0 r l else 0 :=
    (HostRead.pad_middle _ _ _ _ r g l).trans (by rw [val_main_v140_apply, show idx_main_v140 (ix3 r 0 l) = ix2 r l from eq_ix2 _, group0 D W d w hD hW]; exact congrArg _ Ideal.ofBits_zero_f32)
  show val_main_v103 (F := Ideal) D W (ix3 r g l) + val_main_v115 (F := Ideal) D W (ix3 r g l) + val_main_v128 (F := Ideal) D W (ix3 r g l)
    + val_main_v141 (F := Ideal) D W (ix3 r g l) = _
  rw [e0, e1, e2, e3]
  fin_cases g <;> simp

/-- The reference's result on finite first and second arguments. -/
theorem reads (P : S4096x4096.Idx → EReal) : val_main_v146 (F := Ideal) D W P = result D W P := by
  funext j
  unfold result
  have hj0 : (j 0).val < 4096 := (j 0).isLt
  have hj1 : (j 1).val < 4096 := (j 1).isLt
  by_cases h : (j 1).val < 1024
  · rw [dif_pos h]
    refine (Idealize.ShloMosaic.concatenate_pair_apply_left (s₁ := S4096x1024) (s₂ := S4096x3072) (1 : Fin S4096x4096.rank) _ _ _ j rfl (ix2 (⟨(j 0).val, hj0⟩ : Fin 4096) (⟨(j 1).val, h⟩ : Fin 1024)) (fun b => ?_)).trans ?_
    · match b with
      | ⟨0, _⟩ => rfl
      | ⟨1, _⟩ => rfl
    · refine (val_main_v143_apply (F := Ideal) D W _).trans ?_
      refine Eq.trans (congrArg _ ?_) (stacked D W d w hD hW ⟨(j 0).val, hj0⟩ ⟨(j 1).val / 256, by omega⟩ ⟨(j 1).val % 256, by omega⟩)
      funext a
      refine Fin.ext ?_
      match a with
      | ⟨0, _⟩ => show ((j 0).val * 1024 + (j 1).val) / 1024 = (j 0).val; omega
      | ⟨1, _⟩ => show ((j 0).val * 1024 + (j 1).val) / 256 % 4 = (j 1).val / 256; omega
      | ⟨2, _⟩ => show ((j 0).val * 1024 + (j 1).val) % 256 = (j 1).val % 256; omega
  · rw [dif_neg h]
    refine (Idealize.ShloMosaic.concatenate_pair_apply_right (s₁ := S4096x1024) (s₂ := S4096x3072) (1 : Fin S4096x4096.rank) _ _ _ j rfl rfl (ix2 (⟨(j 0).val, hj0⟩ : Fin 4096) (⟨(j 1).val - 1024, by omega⟩ : Fin 3072)) (fun b hb => ?_) ?_).trans ?_
    · match b with
      | ⟨0, _⟩ => rfl
      | ⟨1, _⟩ => exact absurd rfl hb
    · show (j 1).val - 1024 + 1024 = (j 1).val; omega
    · refine (val_main_v145_apply (F := Ideal) P _).trans (congrArg P (funext fun a => Fin.ext ?_))
      match a with
      | ⟨0, _⟩ => rfl
      | ⟨1, _⟩ => show 1024 + ((j 1).val - 1024) = (j 1).val; omega

end Cert.PoolRefIdeal.Body

end
-- ==== Proof.PoolClaim.lean ====
/-
  The pooling mixer's gradient: the value claim. The precondition gives real arrays for the two arrays the window sums are
  taken of; on those both programs' results are `result` of the arguments.
-/
module

public import proofs.«01_k».proof.Defs
public import proofs.«01_k».proof.Proof.Finite
public import proofs.«01_k».proof.Proof.PoolReference
public import proofs.«01_k».proof.Proof.Gen.Pre_pool_finite
public import Idealize.ShloMosaic.Lib.Quiescent

@[expose] public section

set_option maxRecDepth 16384

noncomputable section

namespace Cert.PoolClaim

open Idealize.ShloMosaic Idealize.SL.Sem

instance : Subsingleton Cert.Pre_pool_finite.S_.Idx := ⟨fun _ _ => funext fun a => a.elim0⟩

/-- What the precondition says: the first two arrays hold real numbers. -/
theorem real (D : Cert.PoolIdeal.S4096x1024.Idx → EReal) (W : Cert.PoolIdeal.S4x256x256.Idx → EReal) (P : Cert.PoolIdeal.S4096x4096.Idx → EReal)
    (h : Cert.Pre_pool_finite.fn (F := Ideal) D W P = fun _ => 1#1) :
    (∀ i, D i = ((D i).toReal : EReal)) ∧ ∀ i, W i = ((W i).toReal : EReal) := by
  dsimp only [Cert.Pre_pool_finite.fn] at h
  obtain ⟨h1, h2⟩ := IntOp.andi_eq_one.1 (congrFun h fun a => a.elim0)
  exact ⟨fun i => Finite.real_of_abs_lt _ (Host.reduce_andi_all _ _ _ _ _ h1 i), fun i => Finite.real_of_abs_lt _ (Host.reduce_andi_all _ _ _ _ _ h2 i)⟩

theorem algebraic : Cert.algebraic_PoolIdeal_PoolRefIdeal_pre_pool_finite := by
  intro m g m' g' hpre hargs
  refine ⟨fun c => Cert.PoolIdeal.Body.result (m ((c.tc : Thread Cert.PoolIdeal.nD Cert.PoolIdeal.τ).loc Cert.PoolIdeal.main_arg0))
      (m ((c.tc : Thread Cert.PoolIdeal.nD Cert.PoolIdeal.τ).loc Cert.PoolIdeal.main_arg1))
      (m ((c.tc : Thread Cert.PoolIdeal.nD Cert.PoolIdeal.τ).loc Cert.PoolIdeal.main_arg2)), Cert.PoolIdeal.Body.run m g,
    (θ_run Cert.PoolRefIdeal.defs _ _).mono (fun r h c => ⟨?_, (h c).2⟩) (Cert.PoolRefIdeal.Value.run m' g')⟩
  obtain ⟨e0, e1, e2⟩ := hargs c
  obtain ⟨hD, hW⟩ := real _ _ _ (hpre c)
  rw [(h c).1, Cert.PoolRefIdeal.Read.val_main_v146_eq]
  show Cert.PoolRefIdeal.Read.val_main_v146 (F := Ideal) (m' ((c.tc : Thread Cert.PoolRefIdeal.nD Cert.PoolRefIdeal.τ).loc Cert.PoolRefIdeal.main_arg0))
    (m' ((c.tc : Thread Cert.PoolRefIdeal.nD Cert.PoolRefIdeal.τ).loc Cert.PoolRefIdeal.main_arg1))
    (m' ((c.tc : Thread Cert.PoolRefIdeal.nD Cert.PoolRefIdeal.τ).loc Cert.PoolRefIdeal.main_arg2)) = _
  rw [e0, e1, e2]
  exact Cert.PoolRefIdeal.Body.reads _ _ _ _ hD hW _

/-- The reference's run keeps its arguments; its machine has no semaphore. -/
theorem reference_frame : Cert.quiescent_PoolRefIdeal := fun m g _ =>
  (θ_run Cert.PoolRefIdeal.defs _ _).mono (fun r h => ⟨fun c => (h c).2, sem_eq_zero_of_no_sems rfl r.2⟩) (Cert.PoolRefIdeal.Value.run m g)

end Cert.PoolClaim

end
-- ==== Proof.RmsNorm.lean ====
/-
  The gradient of a root-mean-square normalisation on extended reals, one row at a time. The factored form
  `r (u - (x r) mean(u (x r)))` and the form differentiation gives (the reciprocal root's derivative spelled out, its
  term added twice) agree for every row `x`, infinite entries included: the mean square is at least a positive number, so
  the reciprocal root is a real number, and it is zero as soon as one entry is infinite.
-/
module

public import proofs.«01_k».proof.Proof.Extended

@[expose] public section

noncomputable section

namespace Cert.RmsNorm

open Idealize.ShloMosaic Cert.Extended

/-- A nonnegative real distributes over any sum of extended reals. -/
theorem real_mul_add {r : ℝ} (hr : 0 ≤ r) (a b : EReal) : (r : EReal) * (a + b) = r * a + r * b :=
  EReal.left_distrib_of_nonneg_of_ne_top (by exact_mod_cast hr) (EReal.coe_ne_top r) a b

theorem real_mul_sum {ι : Type*} (s : Finset ι) {r : ℝ} (hr : 0 ≤ r) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, real_mul_add hr, ih]

theorem square_nonneg (a : EReal) : 0 ≤ a * a := by
  induction a with
  | bot => simp
  | top => simp
  | coe a => rw [← EReal.coe_mul]; exact_mod_cast mul_self_nonneg a

theorem square_top {a : EReal} (h : a = ⊤ ∨ a = ⊥) : a * a = ⊤ := by
  rcases h with rfl | rfl
  · exact EReal.top_mul_top
  · exact EReal.bot_mul_bot

variable {n : ℕ} (x : Fin n → EReal)

/-- The mean square of a row plus `e`. -/
def level (N e : ℝ) : EReal := Ideal.div (∑ k, x k * x k) (N : EReal) + (e : EReal)

/-- Its reciprocal root: what the row is scaled by. -/
def scale (N e : ℝ) : EReal := Ideal.rsqrt (level x N e)

/-- Either some entry is infinite, and the scale is zero, or the row is real and so are the level and the scale. -/
theorem cases {N e : ℝ} (hN : 0 < N) (he : 0 < e) :
    (level x N e = ⊤ ∧ scale x N e = 0)
      ∨ ∃ (a : Fin n → ℝ) (v r : ℝ), (∀ k, x k = (a k : EReal)) ∧ level x N e = (v : EReal) ∧ scale x N e = (r : EReal)
          ∧ 0 < v ∧ 0 < r ∧ r / v = r * r * r := by
  by_cases h : ∃ k, x k = ⊤ ∨ x k = ⊥
  · obtain ⟨k, hk⟩ := h
    have hs : ∑ k, x k * x k = ⊤ := by
      classical
      rw [← Finset.add_sum_erase _ _ (Finset.mem_univ k), square_top hk]
      exact EReal.top_add_of_ne_bot (fun hb => absurd (Finset.sum_nonneg fun i _ => square_nonneg (x i)) (by rw [hb]; simp))
    have hl : level x N e = ⊤ := by
      unfold level
      rw [hs, Ideal.div_coe hN.ne', EReal.top_mul_coe_of_pos (by positivity), EReal.top_add_coe]
    exact .inl ⟨hl, by unfold scale; rw [hl, Ideal.rsqrt_top]⟩
  · push Not at h
    refine .inr ⟨fun k => (x k).toReal, (∑ k, (x k).toReal * (x k).toReal) * (1 / N) + e,
      (Real.sqrt ((∑ k, (x k).toReal * (x k).toReal) * (1 / N) + e))⁻¹, ?_⟩
    have hx : ∀ k, x k = (((x k).toReal : ℝ) : EReal) := fun k => (EReal.coe_toReal (h k).1 (h k).2).symm
    have hv : 0 < (∑ k, (x k).toReal * (x k).toReal) * (1 / N) + e := by
      have := Finset.sum_nonneg fun (k : Fin n) (_ : k ∈ Finset.univ) => mul_self_nonneg (x k).toReal
      positivity
    have hl : level x N e = (((∑ k, (x k).toReal * (x k).toReal) * (1 / N) + e : ℝ) : EReal) := by
      unfold level
      rw [Ideal.div_coe hN.ne', EReal.coe_add, EReal.coe_mul, coe_sum]
      refine congrArg (fun s : EReal => s * ((1 / N : ℝ) : EReal) + (e : EReal)) (Finset.sum_congr rfl fun k _ => ?_)
      rw [EReal.coe_mul, ← hx]
    generalize (∑ k, (x k).toReal * (x k).toReal) * (1 / N) + e = v at hv hl
    refine ⟨hx, hl, ?_, hv, by positivity, ?_⟩
    · unfold scale
      rw [hl, Ideal.rsqrt_coe, if_neg (by linarith), if_neg hv.ne']
    · have hq : Real.sqrt v * Real.sqrt v = v := Real.mul_self_sqrt hv.le
      have hs : Real.sqrt v ≠ 0 := (Real.sqrt_pos.2 hv).ne'
      rw [← hq, Real.sqrt_mul_self (Real.sqrt_nonneg v)]
      field_simp

/-- The gradient of the row, factored as the kernels compute it: `u` is the gradient of the scaled row. -/
def factored (u : Fin n → EReal) (N e : ℝ) (i : Fin n) : EReal :=
  scale x N e * (u i - x i * scale x N e * Ideal.div (∑ k, u k * (x k * scale x N e)) (N : EReal))

/-- What differentiating the reciprocal root contributes, before the factor `x` (it is added twice). -/
def slope (u : Fin n → EReal) (N e : ℝ) : EReal :=
  Ideal.div ((∑ k, x k * u k) * (((-1 / 2 : ℝ) : EReal) * Ideal.div (scale x N e) (level x N e))) (N : EReal)

theorem double (a : EReal) (s : ℝ) : a * ((-s / 2 : ℝ) : EReal) + a * ((-s / 2 : ℝ) : EReal) = -(a * (s : EReal)) := by
  have e : ((-s / 2 : ℝ) : EReal) + ((-s / 2 : ℝ) : EReal) = ((-s : ℝ) : EReal) := by
    rw [← EReal.coe_add]; exact congrArg _ (by ring)
  induction a with
  | coe a => norm_cast; ring
  | top =>
    rcases lt_trichotomy s 0 with h | rfl | h
    · rw [EReal.top_mul_coe_of_pos (by linarith), EReal.top_mul_coe_of_neg h]; rfl
    · simp
    · rw [EReal.top_mul_coe_of_neg (by linarith), EReal.top_mul_coe_of_pos h]; rfl
  | bot =>
    rcases lt_trichotomy s 0 with h | rfl | h
    · rw [EReal.bot_mul_coe_of_pos (by linarith), EReal.bot_mul_coe_of_neg h]; rfl
    · simp
    · rw [EReal.bot_mul_coe_of_neg (by linarith), EReal.bot_mul_coe_of_pos h]; rfl

theorem factored_eq {N e : ℝ} (hN : 0 < N) (he : 0 < e) (u : Fin n → EReal) (i : Fin n) :
    factored x u N e i = u i * scale x N e + (x i * slope x u N e + slope x u N e * x i) := by
  unfold factored slope
  rcases cases x hN he with ⟨hl, hs⟩ | ⟨a, v, r, hx, hl, hs, hv, hr, h3⟩
  · rw [hl, hs]
    simp [Ideal.div, hN.ne']
  · have hm : ∑ k, u k * (x k * scale x N e) = (∑ k, x k * u k) * (r : EReal) := by
      rw [mul_comm, real_mul_sum _ hr.le, hs]
      exact Finset.sum_congr rfl fun k _ => by rw [mul_comm (x k) (u k), mul_comm (r : EReal), mul_assoc]
    rw [hm, hs, hl, Ideal.div_coe hv.ne', Ideal.div_coe hN.ne', Ideal.div_coe hN.ne']
    generalize ∑ k, x k * u k = t
    have e1 : t * (((-1 / 2 : ℝ) : EReal) * ((r : EReal) * ((1 / v : ℝ) : EReal))) * ((1 / N : ℝ) : EReal)
        = t * ((-(r * r * r / N) / 2 : ℝ) : EReal) := by
      rw [mul_assoc, ← EReal.coe_mul, ← EReal.coe_mul, ← EReal.coe_mul]
      refine congrArg (fun s : ℝ => t * (s : EReal)) ?_
      rw [← h3]; field_simp
    rw [e1, mul_comm _ (x i), ← mul_assoc (x i) t, double, sub_eq_add_neg, real_mul_add hr.le, mul_comm (r : EReal) (u i), mul_neg]
    refine congrArg (fun s => u i * (r : EReal) + -s) ?_
    have e2 : ((r * r * r / N : ℝ) : EReal) = (r : EReal) * ((r : EReal) * ((r : EReal) * ((1 / N : ℝ) : EReal))) := by
      rw [← EReal.coe_mul, ← EReal.coe_mul, ← EReal.coe_mul]; exact congrArg _ (by ring)
    rw [e2]
    ac_rfl

/-! The three literals the programs carry: the row length, the small number added to the mean square, minus one half. -/

/-- The small number, as written in single precision. -/
def eps : ℝ := 8796093 / 8796093022208

theorem eps_pos : 0 < eps := by unfold eps; norm_num
theorem ofBits_length : Ideal.ofBits .f32 0x45000000#32 = ((2048 : ℝ) : EReal) := by
  simp [Ideal.ofBits, Ideal.ieee]; norm_num; rw [← EReal.coe_mul]; norm_num
theorem ofBits_eps : Ideal.ofBits .f32 0x358637BD#32 = ((eps : ℝ) : EReal) := by
  unfold eps; simp [Ideal.ofBits, Ideal.ieee]; norm_num; rw [← EReal.coe_mul]; norm_num
theorem ofBits_minus_half : Ideal.ofBits .f32 0xBF000000#32 = ((-1 / 2 : ℝ) : EReal) := by
  simp [Ideal.ofBits, Ideal.ieee]; norm_num; rw [← EReal.coe_mul]; norm_num

end Cert.RmsNorm

end
-- ==== Proof.NormKernel.lean ====
/-
  The gradient through the first normalisation, kernel side: what one grid point's body computes from its blocks. The rows of
  the product line's gradient are one matrix product; the two outputs are the factored row gradient and this block's part of
  the gain's gradient added to what the points before left.
-/
module

public import proofs.«01_k».proof.Proof.Gen.NormIdeal.Value
public import proofs.«01_k».proof.Proof.RmsNorm

@[expose] public section
noncomputable section
namespace Cert.NormIdeal.Body
open Idealize.ShloMosaic Cert.NormIdeal Cert.NormIdeal.Gen Cert.Extended Cert.RmsNorm

set_option maxRecDepth 16384

variable (v3 : Vec Ideal S256x4096 .bf16) (v4 : Vec Ideal S2048x4096 .bf16) (v7 v28 : Vec Ideal S256x2048 .f32) (v25 v18 : Vec Ideal S1x2048 .f32)
variable (r : Fin 256) (l : Fin 2048)

theorem pay3_apply : k0_pay3 v3 v4 (ix2 r l) = ∑ k : Fin 4096, v3 (ix2 r k) * v4 (ix2 l k) := by
  pointwise [k0_pay3]

theorem pay4_apply (z : Fin 1) : k0_pay4 v7 (ix2 r z) = scale (fun k => v7 (ix2 r k)) 2048 eps := by
  pointwise [k0_pay4]
  rw [ofBits_length, ofBits_eps]
  rfl

theorem pay5_apply : k0_pay5 v7 (ix2 r l) = v7 (ix2 r l) * scale (fun k => v7 (ix2 r k)) 2048 eps := by
  pointwise [k0_pay5]
  rw [pay4_apply]

theorem pay6_apply (z : Fin 1) : k0_pay6 v3 v4 v7 v18 (ix2 z l) = v18 (ix2 z l)
    + ∑ r : Fin 256, k0_pay3 v3 v4 (ix2 r l) * (v7 (ix2 r l) * scale (fun k => v7 (ix2 r k)) 2048 eps) := by
  pointwise [k0_pay6]
  exact congrArg _ (Finset.sum_congr rfl fun k _ => congrArg _ (pay5_apply v7 k l))

theorem pay7_apply : k0_pay7 v3 v4 v25 (ix2 r l) = k0_pay3 v3 v4 (ix2 r l) * v25 (ix2 0 l) := by
  pointwise [k0_pay7]

theorem pay8_apply (z : Fin 1) : k0_pay8 v3 v4 v7 v25 (ix2 r z) = Ideal.div (∑ k : Fin 2048, k0_pay3 v3 v4 (ix2 r k) * v25 (ix2 0 k)
    * (v7 (ix2 r k) * scale (fun k => v7 (ix2 r k)) 2048 eps)) ((2048 : ℝ) : EReal) := by
  pointwise [k0_pay8]
  rw [ofBits_length]
  simp only [pay7_apply, pay5_apply]

theorem pay1_apply : k0_pay1 (k0_pay4 v7) (k0_pay5 v7) (k0_pay7 v3 v4 v25) v28 (k0_pay8 v3 v4 v7 v25) (ix2 r l)
    = v28 (ix2 r l) + factored (fun k => v7 (ix2 r k)) (fun k => k0_pay3 v3 v4 (ix2 r k) * v25 (ix2 0 k)) 2048 eps l := by
  pointwise [k0_pay1]
  rw [pay4_apply, pay5_apply, pay7_apply, pay8_apply]
  rfl

theorem hz2 : (![0, 0] : Fin 2 → Nat) = fun _ => 0 := funext fun a => by fin_cases a <;> rfl

variable (c : Dev nD) (i : grid0.Coords) (a1 : Memref sig .tc .vmem S256x4096 .bf16) (h1 : a1.IsWhole)
  (a2 : Memref sig .tc .vmem S2048x4096 .bf16) (h2 : a2.IsWhole) (a3 : Memref sig .tc .vmem S256x2048 .f32) (h3 : a3.IsWhole)
  (a4 : Memref sig .tc .vmem S256x2048 .f32) (h4 : a4.IsWhole) (a5 : Memref sig .tc .vmem S1x2048 .f32) (h5 : a5.IsWhole)
  (a6 : Memref sig .tc .vmem S8x128 .f32) (h6 : a6.IsWhole) (a7 : Memref sig .tc .vmem S256x2048 .f32) (h7 : a7.IsWhole)
  (a8 : Memref sig .tc .vmem S1x2048 .f32) (h8 : a8.IsWhole) (v6 : Vec Ideal S8x128 .f32)

/-- The row-gradient block, as the body leaves it. -/
abbrev rowBlock : FVec Ideal S256x2048 .f32 := k0_pay1 (k0_pay4 v7) (k0_pay5 v7) (k0_pay7 v3 v4 v25) v28 (k0_pay8 v3 v4 v7 v25)

/-- The first point starts the gain's gradient from zero … -/
theorem out_A (hc : cond0_0 i) :
    out0_A_6 c i a1 h1 a2 h2 a3 h3 a4 h4 a5 h5 a6 h6 a7 h7 a8 h8 hc v3 v4 v7 v28 v25 v6 = rowBlock v3 v4 v7 v28 v25
    ∧ out0_A_7 c i a1 h1 a2 h2 a3 h3 a4 h4 a5 h5 a6 h6 a7 h7 a8 h8 hc v3 v4 v7 v28 v25 v6 = k0_pay6 v3 v4 v7 (k0_pay2 (F := Ideal)) := by
  constructor
  · unfold out0_A_6
    rw [View.read_writes_eq_canon _ _ _ (cover0_A_6 c i a1 h1 a2 h2 a3 h3 a4 h4 a5 h5 a6 h6 a7 h7 a8 h8 hc v3 v4 v7 v28 v25 v6)]
    unfold kernelRun0_A
    dsimp only
    sl_unfold_words
    rw [View.canon_unit_zero hz2]
    simp only [View.readAt_eq_ld, h1.read_unread, h2.read_unread, h3.read_unread, h4.read_unread, h5.read_unread,
      View.ld_unit_zero (S := S256x4096) hz2, View.ld_unit_zero (S := S2048x4096) hz2, View.ld_unit_zero (S := S256x2048) hz2,
      View.ld_unit_zero (S := S1x2048) hz2]
  · unfold out0_A_7
    rw [View.read_writes_eq_canon _ _ _ (cover0_A_7 c i a1 h1 a2 h2 a3 h3 a4 h4 a5 h5 a6 h6 a7 h7 a8 h8 hc v3 v4 v7 v28 v25 v6)]
    unfold kernelRun0_A
    dsimp only
    sl_unfold_words
    rw [View.canon_cons_unit_zero (S := S1x2048) hz2]
    simp only [View.readAt_eq_ld, h1.read_unread, h2.read_unread, h3.read_unread, h4.read_unread, h5.read_unread,
      View.ld_unit_zero (S := S256x4096) hz2, View.ld_unit_zero (S := S2048x4096) hz2, View.ld_unit_zero (S := S256x2048) hz2,
      View.ld_unit_zero (S := S1x2048) hz2, View.readCov_unit_zero (S := S1x2048) _ hz2]

/-- … and every later point adds to what it finds. -/
theorem out_B (hc : ¬cond0_0 i) :
    out0_B_6 c i a1 h1 a2 h2 a3 h3 a4 h4 a5 h5 a6 h6 a7 h7 a8 h8 hc v3 v4 v7 v28 v25 v6 v18 = rowBlock v3 v4 v7 v28 v25
    ∧ out0_B_7 c i a1 h1 a2 h2 a3 h3 a4 h4 a5 h5 a6 h6 a7 h7 a8 h8 hc v3 v4 v7 v28 v25 v6 v18 = k0_pay6 v3 v4 v7 v18 := by
  constructor
  · unfold out0_B_6
    rw [View.read_writes_eq_canon _ _ _ (cover0_B_6 c i a1 h1 a2 h2 a3 h3 a4 h4 a5 h5 a6 h6 a7 h7 a8 h8 hc v3 v4 v7 v28 v25 v6 v18)]
    unfold kernelRun0_B
    dsimp only
    sl_unfold_words
    rw [View.canon_unit_zero hz2]
    simp only [View.readAt_eq_ld, h1.read_unread, h2.read_unread, h3.read_unread, h4.read_unread, h5.read_unread,
      View.ld_unit_zero (S := S256x4096) hz2, View.ld_unit_zero (S := S2048x4096) hz2, View.ld_unit_zero (S := S256x2048) hz2,
      View.ld_unit_zero (S := S1x2048) hz2]
  · unfold out0_B_7
    rw [View.read_writes_eq_canon _ _ _ (cover0_B_7 c i a1 h1 a2 h2 a3 h3 a4 h4 a5 h5 a6 h6 a7 h7 a8 h8 hc v3 v4 v7 v28 v25 v6 v18)]
    unfold kernelRun0_B
    dsimp only
    sl_unfold_words
    rw [View.canon_unit_zero hz2]
    simp only [View.readAt_eq_ld, h1.read_unread, h2.read_unread, h3.read_unread, h8.read_unread,
      View.ld_unit_zero (S := S256x4096) hz2, View.ld_unit_zero (S := S2048x4096) hz2, View.ld_unit_zero (S := S256x2048) hz2,
      View.ld_unit_zero (S := S1x2048) hz2]

end Cert.NormIdeal.Body

end
-- ==== Proof.NormValue.lean ====
/-
  The gradient through the first normalisation, kernel side: both result arrays as functions of the arguments. Grid point `t`
  has rows `256 t … 256 t + 255`; the row gradient is written back at every point, the gain's gradient once, after the last.
-/
module

public import proofs.«01_k».proof.Proof.NormKernel
public import Idealize.ShloMosaic.Lib.Pipeline.ValueKit.Basic

@[expose] public section

set_option maxRecDepth 16384

noncomputable section

namespace Cert.NormIdeal.Body

open Cert.NormIdeal Cert.NormIdeal.Gen Cert.Extended Cert.RmsNorm Idealize.ShloMosaic Idealize.ShloMosaic.TcCoe Idealize.SL.Sem
open Idealize.ShloMosaic.Pipeline (Dat)

/-- The gradient of the product line's input: row `s`, column `l`. -/
def back (D : S4096x4096.Idx → EReal) (W : S2048x4096.Idx → EReal) (s : Fin 4096) (l : Fin 2048) : EReal :=
  ∑ k : Fin 4096, D (ix2 s k) * W (ix2 l k)

/-- What row `s` is scaled by. -/
def rowScale (X : S4096x2048.Idx → EReal) (s : Fin 4096) : EReal := scale (fun k => X (ix2 s k)) 2048 eps

/-- Row `s`'s part of the gain's gradient at column `l`. -/
def part (D : S4096x4096.Idx → EReal) (W : S2048x4096.Idx → EReal) (X : S4096x2048.Idx → EReal) (l : Fin 2048) (s : Fin 4096) : EReal :=
  back D W s l * (X (ix2 s l) * rowScale X s)

/-- The row gradients, added to the gradient that came round the block. -/
def rowsResult (D : S4096x4096.Idx → EReal) (W : S2048x4096.Idx → EReal) (X H : S4096x2048.Idx → EReal) (G : S1x2048.Idx → EReal) :
    S4096x2048.Idx → EReal := fun j =>
  H j + factored (fun k => X (ix2 (j 0) k)) (fun k => back D W (j 0) k * G (ix2 0 k)) 2048 eps (j 1)

/-- The gain's gradient. -/
def gainResult (D : S4096x4096.Idx → EReal) (W : S2048x4096.Idx → EReal) (X : S4096x2048.Idx → EReal) : S1x2048.Idx → EReal := fun j =>
  ∑ s : Fin 4096, part D W X (j 1) s

variable (m : (ℓ : Loc nD τ sig) → Buf (Elt Ideal) ℓ) (c : Dev nD)

theorem V_v0 (j : S2048x4096.Idx) : V m c main_v0 j = m ((c : Thread nD τ).loc main_arg1) j := by
  unfold V
  after_results
  rfl

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = 0 ∧ win0_4.index t 1 = 0 := by decide +kernel
theorem index6 : ∀ t : Fin grid0.N, win0_6.index t 0 = t.val ∧ win0_6.index t 1 = 0 := by decide +kernel
theorem index7 : ∀ t : Fin grid0.N, win0_7.index t 0 = 0 ∧ win0_7.index t 1 = 0 := by decide +kernel

/-- Row `r` of point `t`'s rows. -/
def row (t : Fin cfg0.N) (r : Fin 256) : Fin 4096 := ⟨t.val * 256 + r.val, by have : t.val < 16 := t.isLt; omega⟩

theorem blk0_apply (t : Fin cfg0.N) (r : Fin 256) (k : Fin 4096) :
    (iblk m c 0 t : Vec Ideal S256x4096 .bf16) (ix2 r k) = m ((c : Thread nD τ).loc main_arg0) (ix2 (row t r) k) := by
  unfold iblk
  rw [View.read_apply]
  show V m c main_arg0 _ = _
  rw [V_main_arg0]
  refine congrArg (m ((c : Thread nD τ).loc main_arg0)) (funext fun a => Fin.ext ?_)
  fin_cases a
  · show win0_0.index t 0 * 256 + 1 * r.val = t.val * 256 + r.val; rw [(index0 t).1]; omega
  · show win0_0.index t 1 * 4096 + 1 * k.val = k.val; rw [(index0 t).2]; omega

theorem blk1_apply (t : Fin cfg0.N) (l : Fin 2048) (k : Fin 4096) :
    (iblk m c 1 t : Vec Ideal S2048x4096 .bf16) (ix2 l k) = m ((c : Thread nD τ).loc main_arg1) (ix2 l k) := by
  unfold iblk
  rw [View.read_apply]
  show V m c main_v0 _ = _
  rw [V_v0]
  refine congrArg (m ((c : Thread nD τ).loc main_arg1)) (funext fun a => Fin.ext ?_)
  fin_cases a
  · show win0_1.index t 0 * 2048 + 1 * l.val = l.val; rw [(index1 t).1]; omega
  · show win0_1.index t 1 * 4096 + 1 * k.val = k.val; rw [(index1 t).2]; omega

theorem blk2_apply (t : Fin cfg0.N) (r : Fin 256) (l : Fin 2048) :
    (iblk m c 2 t : Vec Ideal S256x2048 .f32) (ix2 r l) = m ((c : Thread nD τ).loc main_arg2) (ix2 (row t r) l) := by
  unfold iblk
  rw [View.read_apply]
  show V m c main_arg2 _ = _
  rw [V_main_arg2]
  refine congrArg (m ((c : Thread nD τ).loc main_arg2)) (funext fun a => Fin.ext ?_)
  fin_cases a
  · show win0_2.index t 0 * 256 + 1 * r.val = t.val * 256 + r.val; rw [(index2 t).1]; omega
  · show win0_2.index t 1 * 2048 + 1 * l.val = l.val; rw [(index2 t).2]; omega

theorem blk3_apply (t : Fin cfg0.N) (r : Fin 256) (l : Fin 2048) :
    (iblk m c 3 t : Vec Ideal S256x2048 .f32) (ix2 r l) = m ((c : Thread nD τ).loc main_arg3) (ix2 (row t r) l) := by
  unfold iblk
  rw [View.read_apply]
  show V m c main_arg3 _ = _
  rw [V_main_arg3]
  refine congrArg (m ((c : Thread nD τ).loc main_arg3)) (funext fun a => Fin.ext ?_)
  fin_cases a
  · show win0_3.index t 0 * 256 + 1 * r.val = t.val * 256 + r.val; rw [(index3 t).1]; omega
  · show win0_3.index t 1 * 2048 + 1 * l.val = l.val; rw [(index3 t).2]; omega

theorem blk4_apply (t : Fin cfg0.N) (z : Fin 1) (l : Fin 2048) :
    (iblk m c 4 t : Vec Ideal S1x2048 .f32) (ix2 z l) = m ((c : Thread nD τ).loc main_arg4) (ix2 z l) := by
  unfold iblk
  rw [View.read_apply]
  show V m c main_arg4 _ = _
  rw [V_main_arg4]
  refine congrArg (m ((c : Thread nD τ).loc main_arg4)) (funext fun a => Fin.ext ?_)
  fin_cases a
  · show win0_4.index t 0 * 1 + 1 * z.val = z.val; rw [(index4 t).1]; omega
  · show win0_4.index t 1 * 2048 + 1 * l.val = l.val; rw [(index4 t).2]; omega

/-- The arguments as arrays. -/
abbrev A0 : S4096x4096.Idx → EReal := m ((c : Thread nD τ).loc main_arg0)
abbrev A1 : S2048x4096.Idx → EReal := m ((c : Thread nD τ).loc main_arg1)
abbrev A2 : S4096x2048.Idx → EReal := m ((c : Thread nD τ).loc main_arg2)
abbrev A3 : S4096x2048.Idx → EReal := m ((c : Thread nD τ).loc main_arg3)
abbrev A4 : S1x2048.Idx → EReal := m ((c : Thread nD τ).loc main_arg4)

theorem product (t : Fin cfg0.N) (r : Fin 256) (l : Fin 2048) :
    k0_pay3 (iblk m c 0 t : Vec Ideal S256x4096 .bf16) (iblk m c 1 t : Vec Ideal S2048x4096 .bf16) (ix2 r l) = back (A0 m c) (A1 m c) (row t r) l := by
  rw [pay3_apply]
  exact Finset.sum_congr rfl fun k _ => congrArg₂ _ (blk0_apply m c t r k) (blk1_apply m c t l k)

theorem rowBlock_eq (t : Fin cfg0.N) (r : Fin 256) (l : Fin 2048) :
    rowBlock (iblk m c 0 t) (iblk m c 1 t) (iblk m c 2 t) (iblk m c 3 t) (iblk m c 4 t) (ix2 r l)
      = rowsResult (A0 m c) (A1 m c) (A2 m c) (A3 m c) (A4 m c) (ix2 (row t r) l) := by
  refine (pay1_apply _ _ _ _ _ r l).trans ?_
  simp only [product, blk2_apply, blk3_apply, blk4_apply]
  rfl

/-- What point `t` adds to the gain's gradient. -/
theorem tile_eq (t : Fin cfg0.N) (z : Fin 1) (l : Fin 2048) (v : Vec Ideal S1x2048 .f32) :
    k0_pay6 (iblk m c 0 t) (iblk m c 1 t) (iblk m c 2 t) v (ix2 z l)
      = v (ix2 z l) + ∑ r : Fin 256, past 4096 (part (A0 m c) (A1 m c) (A2 m c) l) (t.val * 256 + r.val) := by
  refine (pay6_apply _ _ _ _ l z).trans ?_
  refine congrArg _ (Finset.sum_congr rfl fun r _ => ?_)
  refine Eq.trans ?_ (past_lt _ (row t r).isLt).symm
  simp only [product, blk2_apply]
  rfl

/-- After point `n` the gain's gradient block holds the sum over the rows so far. -/
theorem gain_eq : ∀ (n : ℕ) (h : n < cfg0.N) (z : Fin 1) (l : Fin 2048),
    (outsAt0 m c n h).2 (ix2 z l) = ∑ k ∈ Finset.range ((n + 1) * 256), past 4096 (part (A0 m c) (A1 m c) (A2 m c) l) k
  | 0, h, z, l => by
    rw [outsAt0_A m c ⟨0, h⟩ rfl, sum_tiles]
    dsimp only
    rw [(out_A ..).2, tile_eq]
    refine congrArg₂ _ ?_ rfl
    rw [Nat.zero_mul, Finset.range_zero, Finset.sum_empty]
    pointwise [k0_pay2]
  | n + 1, h, z, l => by
    have hB : ¬(⟨n + 1, h⟩ : Fin cfg0.N).val % 16 = 0 := by have h' : n + 1 < 16 := h; dsimp only; omega
    rw [outsAt0_B m c ⟨n + 1, h⟩ hB, sum_tiles]
    dsimp only
    rw [(out_B ..).2, tile_eq]
    exact congrArg₂ _ (gain_eq n _ z l) rfl

theorem rows_eq (t : Fin cfg0.N) (r : Fin 256) (l : Fin 2048) :
    (outsAt0 m c t.val t.isLt).1 (ix2 r l) = rowsResult (A0 m c) (A1 m c) (A2 m c) (A3 m c) (A4 m c) (ix2 (row t r) l) := by
  by_cases h : t.val % 16 = 0
  · rw [outsAt0_A m c t h]; dsimp only; rw [(out_A ..).1, rowBlock_eq]
  · rw [outsAt0_B m c t h]; dsimp only; rw [(out_B ..).1, rowBlock_eq]

theorem flushed6_eq (t : Fin cfg0.N) (_ : (cfg0.win 6).flush t = true) : (dats m 0 c).flushed 6 t
    = ((cfg0.win 6).blk t).view.read (Elt Ideal) (rowsResult (A0 m c) (A1 m c) (A2 m c) (A3 m c) (A4 m c)) := by
  rw [Value.flushed6]
  funext y
  obtain ⟨r, l, rfl⟩ : ∃ (r : Fin 256) (l : Fin 2048), y = ix2 r l := ⟨y 0, y 1, eq_ix2 y⟩
  rw [View.read_apply]
  refine (rows_eq m c t r l).trans (congrArg (rowsResult (A0 m c) (A1 m c) (A2 m c) (A3 m c) (A4 m c)) (funext fun a => Fin.ext ?_))
  fin_cases a
  · show t.val * 256 + r.val = win0_6.index t 0 * 256 + 1 * r.val; rw [(index6 t).1]; omega
  · show l.val = win0_6.index t 1 * 2048 + 1 * l.val; rw [(index6 t).2]; omega

theorem flushed7_eq (t : Fin cfg0.N) (hf : (cfg0.win 7).flush t = true) : (dats m 0 c).flushed 7 t
    = ((cfg0.win 7).blk t).view.read (Elt Ideal) (gainResult (A0 m c) (A1 m c) (A2 m c)) := by
  rw [Value.flushed7]
  funext y
  obtain ⟨z, l, rfl⟩ : ∃ (z : Fin 1) (l : Fin 2048), y = ix2 z l := ⟨y 0, y 1, eq_ix2 y⟩
  have ht : t.val = 15 := by have := (flush0_7 t).mp hf; have : t.val < 16 := t.isLt; omega
  rw [View.read_apply]
  refine (gain_eq m c t.val t.isLt z l).trans ?_
  rw [ht, show (15 + 1) * 256 = 4096 from rfl, sum_past]
  refine congrArg (gainResult (A0 m c) (A1 m c) (A2 m c)) (a₁ := ix2 z l) (funext fun a => Fin.ext ?_)
  fin_cases a
  · show z.val = win0_7.index t 0 * 1 + 1 * z.val; rw [(index7 t).1]; omega
  · show l.val = win0_7.index t 1 * 2048 + 1 * l.val; rw [(index7 t).2]; omega

theorem final6 : (dats m 0 c).arrAt 6 cfg0.N = rowsResult (A0 m c) (A1 m c) (A2 m c) (A3 m c) (A4 m c) :=
  (dats m 0 c).arrAt_eq_of_cover 6 _ (flushed6_eq m c) fun j => by
    have h0 : (j 0).val < 4096 := (j 0).isLt
    have h1 : (j 1).val < 2048 := (j 1).isLt
    have ht : (j 0).val / 256 < cfg0.N := by rw [show cfg0.N = 16 from N_0]; omega
    refine ⟨⟨(j 0).val / 256, ht⟩, flush0_6 _, ?_⟩
    show j ∈ ((View.whole main_v1_0).slice (win0_6.rect (⟨(j 0).val / 256, ht⟩ : Fin cfg0.N))).set
    rw [View.set_slice_whole, Pipeline.Window.mem_rect_iff win0_6 _ _ rfl]
    intro a
    fin_cases a
    · show win0_6.index _ 0 * 256 ≤ (j 0).val ∧ (j 0).val < win0_6.index _ 0 * 256 + 256
      rw [(index6 _).1]; show (j 0).val / 256 * 256 ≤ (j 0).val ∧ (j 0).val < (j 0).val / 256 * 256 + 256; omega
    · show win0_6.index _ 1 * 2048 ≤ (j 1).val ∧ (j 1).val < win0_6.index _ 1 * 2048 + 2048
      rw [(index6 _).2]; omega

theorem final7 : (dats m 0 c).arrAt 7 cfg0.N = gainResult (A0 m c) (A1 m c) (A2 m c) :=
  (dats m 0 c).arrAt_eq_of_cover 7 _ (flushed7_eq m c) fun j => by
    have h0 : (j 0).val < 1 := (j 0).isLt
    have h1 : (j 1).val < 2048 := (j 1).isLt
    have ht : 15 < cfg0.N := by rw [show cfg0.N = 16 from N_0]; omega
    refine ⟨⟨15, ht⟩, (flush0_7 _).mpr rfl, ?_⟩
    show j ∈ ((View.whole main_v1_1).slice (win0_7.rect (⟨15, ht⟩ : Fin cfg0.N))).set
    rw [View.set_slice_whole, Pipeline.Window.mem_rect_iff win0_7 _ _ rfl]
    intro a
    fin_cases a
    · show win0_7.index _ 0 * 1 ≤ (j 0).val ∧ (j 0).val < win0_7.index _ 0 * 1 + 1
      rw [(index7 _).1]; omega
    · show win0_7.index _ 1 * 2048 ≤ (j 1).val ∧ (j 1).val < win0_7.index _ 1 * 2048 + 2048
      rw [(index7 _).2]; omega

/-- The run, read: both result arrays, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1_0) = rowsResult (A0 m c) (A1 m c) (A2 m c) (A3 m c) (A4 m c)
      ∧ r.2.mem ((c : Thread nD τ).loc main_v1_1) = gainResult (A0 m c) (A1 m c) (A2 m c)
      ∧ r.2.mem ((c : Thread nD τ).loc main_arg0) = (A0 m c)
      ∧ r.2.mem ((c : Thread nD τ).loc main_arg1) = (A1 m c)
      ∧ r.2.mem ((c : Thread nD τ).loc main_arg2) = (A2 m c)
      ∧ r.2.mem ((c : Thread nD τ).loc main_arg3) = (A3 m c)
      ∧ r.2.mem ((c : Thread nD τ).loc main_arg4) = (A4 m c)
      ∧ r.2.mem ((c : Thread nD τ).loc main_arg5) = m ((c : Thread nD τ).loc main_arg5) :=
  (θ_run defs _ _).mono (fun _ h c => ⟨(h c).1.trans (final6 m c), (h c).2.1.trans (final7 m c), (h c).2.2⟩) (Value.run_blocks m ρ)

end Cert.NormIdeal.Body

end
-- ==== Proof.NormReference.lean ====
/-
  The gradient through the first normalisation, reference side: differentiating the normalised row's product with the
  gain and the product line gives the two arrays the kernel leaves (`rowsResult`, `gainResult` of NormValue.lean), on all
  arguments.
-/
module

public import proofs.«01_k».proof.Proof.NormValue
public import proofs.«01_k».proof.Proof.Gen.NormRefIdeal.Read

@[expose] public section

set_option maxRecDepth 16384

noncomputable section

namespace Cert.NormRefIdeal.Body

open Cert.NormRefIdeal Cert.NormRefIdeal.Gen Cert.NormRefIdeal.Read Cert.Extended Cert.RmsNorm Idealize.ShloMosaic
open Cert.NormIdeal.Body (back rowScale part rowsResult gainResult)

variable (D : S4096x4096.Idx → EReal) (W : S2048x4096.Idx → EReal) (X H : S4096x2048.Idx → EReal) (G : S1x2048.Idx → EReal)

theorem level_apply (s : Fin 4096) (z : Fin 1) : val_main_v7 (F := Ideal) X (ix2 s z) = level (fun k => X (ix2 s k)) 2048 eps := by
  rw [val_main_v7_apply, val_main_v5_apply, val_main_v3_apply, val_main_v2_apply, val_main_v4_apply, val_main_v6_apply]
  have e : ∀ k, idx_main_v2 (idx_main_v3 (ix2 s z)) k = ix2 s k := fun k => funext fun a => by fin_cases a <;> rfl
  simp only [e]
  show Ideal.div (Ideal.ofBits .f32 0x00000000#32 + ∑ k : Fin 2048, X (ix2 s k) * X (ix2 s k)) (Ideal.ofBits .f32 0x45000000#32)
    + Ideal.ofBits .f32 0x358637BD#32 = _
  rw [Ideal.ofBits_zero_f32, zero_add, ofBits_length, ofBits_eps]
  rfl

theorem scale_apply (s : Fin 4096) (z : Fin 1) : val_main_v8 (F := Ideal) X (ix2 s z) = rowScale X s := by
  rw [val_main_v8_apply, level_apply]
  rfl

theorem back_apply (s : Fin 4096) (l : Fin 2048) : val_main_v19 (F := Ideal) D W (ix2 s l) = back D W s l := by
  rw [val_main_v19_apply]
  exact Finset.sum_congr rfl fun k _ => congrArg₂ (fun a b : EReal => a * b)
    (congrArg D (funext fun a => by fin_cases a <;> rfl)) (congrArg W (funext fun a => by fin_cases a <;> rfl))

theorem gained_apply (s : Fin 4096) (l : Fin 2048) : val_main_v24 (F := Ideal) D W G (ix2 s l) = back D W s l * G (ix2 0 l) := by
  rw [val_main_v24_apply, val_main_v23_apply, val_main_v14_apply, val_main_v0_apply, back_apply]
  exact congrArg (fun i => back D W s l * G i) (funext fun a => by
    fin_cases a
    · rfl
    · exact Fin.ext (by show l.val % 2048 = l.val; have := l.isLt; omega))

theorem slope_apply (s : Fin 4096) : val_main_v35 (F := Ideal) D W X G (ix1 s)
    = slope (fun k => X (ix2 s k)) (fun k => back D W s k * G (ix2 0 k)) 2048 eps := by
  rw [val_main_v35_apply, Fin.sum_univ_one, val_main_v34_apply, val_main_v32_apply, val_main_v28_apply, val_main_v27_apply,
    val_main_v11_apply, val_main_v9_apply, val_main_v10_apply, val_main_v33_apply]
  have e1 : idx_main_v35 (ix1 s) 0 = ix2 s 0 := funext fun a => by fin_cases a <;> rfl
  have e2 : ∀ k, idx_main_v27 (idx_main_v28 (ix2 s 0)) k = ix2 s k := fun k => funext fun a => by
    fin_cases a
    · exact Fin.ext (by show s.val * 1 + 0 = s.val; omega)
    · rfl
  rw [e1, scale_apply, level_apply]
  simp only [e2, val_main_v26_apply, gained_apply]
  show Ideal.ofBits .f32 0x00000000#32 + Ideal.div ((Ideal.ofBits .f32 0x00000000#32
      + ∑ k : Fin 2048, X (ix2 s k) * (back D W s k * G (ix2 0 k)))
    * (Ideal.ofBits .f32 0xBF000000#32 * Ideal.div (rowScale X s) (level (fun k => X (ix2 s k)) 2048 eps))) (Ideal.ofBits .f32 0x45000000#32) = _
  rw [Ideal.ofBits_zero_f32, zero_add, zero_add, ofBits_length, ofBits_minus_half]
  rfl

/-- The row gradients. -/
theorem reads_rows : val_main_v40 (F := Ideal) D W X H G = rowsResult D W X H G := by
  funext j
  obtain ⟨s, l, rfl⟩ : ∃ (s : Fin 4096) (l : Fin 2048), j = ix2 s l := ⟨j 0, j 1, eq_ix2 j⟩
  rw [val_main_v40_apply, val_main_v38_apply, val_main_v31_apply, val_main_v30_apply, val_main_v37_apply, val_main_v39_apply,
    val_main_v36_apply, val_main_v29_apply, gained_apply]
  have e1 : idx_main_v36 (ix2 s l) = ix1 s := funext fun a => by fin_cases a <;> rfl
  have e2 : idx_main_v29 (ix2 s l) = ix2 s 0 := funext fun a => by fin_cases a <;> rfl
  rw [e1, e2, slope_apply, scale_apply]
  unfold rowsResult
  refine Eq.trans ?_ (congrArg (H (ix2 s l) + ·) (factored_eq (fun k => X (ix2 s k)) (by norm_num) eps_pos _ l).symm)
  show (H (ix2 s l) + _) + _ + _ = H (ix2 s l) + (_ + (_ + _))
  rw [add_assoc, add_assoc]
  rfl

/-- The gain's gradient. -/
theorem reads_gain : val_main_v41 (F := Ideal) D W X = gainResult D W X := by
  funext j
  obtain ⟨z, l, rfl⟩ : ∃ (z : Fin 1) (l : Fin 2048), j = ix2 z l := ⟨j 0, j 1, eq_ix2 j⟩
  rw [val_main_v41_apply, val_main_v25_apply, Fin.sum_univ_one, val_main_v22_apply, val_main_v21_apply]
  have e : ∀ s, idx_main_v21 (idx_main_v22 (idx_main_v25 (idx_main_v41 (ix2 z l)) 0)) s = ix2 s l := fun s => funext fun a => by
    fin_cases a
    · rfl
    · exact Fin.ext (by show 0 * 2048 + l.val = l.val; omega)
  show Ideal.ofBits .f32 0x00000000#32 + (Ideal.ofBits .f32 0x00000000#32 + _) = ∑ s : Fin 4096, part D W X l s
  rw [Ideal.ofBits_zero_f32, zero_add, zero_add]
  refine Finset.sum_congr rfl fun s _ => ?_
  rw [e, val_main_v20_apply, val_main_v13_apply, val_main_v12_apply, back_apply]
  have e2 : idx_main_v12 (ix2 s l) = ix2 s 0 := funext fun a => by fin_cases a <;> rfl
  rw [e2, scale_apply]
  exact mul_comm _ _

end Cert.NormRefIdeal.Body

end
-- ==== Proof.NormClaim.lean ====
/-
  The gradient through the first normalisation: the value claim, on all arguments.
-/
module

public import proofs.«01_k».proof.Defs
public import proofs.«01_k».proof.Proof.NormReference
public import Idealize.ShloMosaic.Lib.Quiescent

@[expose] public section

set_option maxRecDepth 16384

noncomputable section

namespace Cert.NormClaim

open Idealize.ShloMosaic Idealize.SL.Sem
open Cert.NormIdeal.Body (rowsResult gainResult A0 A1 A2 A3 A4)

theorem algebraic : Cert.algebraic_NormIdeal_NormRefIdeal := by
  intro m g m' g' _ hargs
  refine ⟨fun c => rowsResult (A0 m c) (A1 m c) (A2 m c) (A3 m c) (A4 m c), fun c => gainResult (A0 m c) (A1 m c) (A2 m c),
    Cert.NormIdeal.Body.run m g,
    (θ_run Cert.NormRefIdeal.defs _ _).mono (fun r h c => ⟨?_, ?_, (h c).2.2⟩) (Cert.NormRefIdeal.Value.run m' g')⟩
  all_goals obtain ⟨e0, e1, e2, e3, e4, _⟩ := hargs c
  · rw [(h c).1, Cert.NormRefIdeal.Read.val_main_v40_eq, e0, e1, e2, e3, e4]
    exact Cert.NormRefIdeal.Body.reads_rows _ _ _ _ _
  · rw [(h c).2.1, Cert.NormRefIdeal.Read.val_main_v41_eq, e0, e1, e2]
    exact Cert.NormRefIdeal.Body.reads_gain _ _ _

/-- The reference's run keeps its arguments; its machine has no semaphore. -/
theorem reference_frame : Cert.quiescent_NormRefIdeal := fun m g _ =>
  (θ_run Cert.NormRefIdeal.defs _ _).mono (fun r h => ⟨fun c => (h c).2.2, sem_eq_zero_of_no_sems rfl r.2⟩) (Cert.NormRefIdeal.Value.run m g)

end Cert.NormClaim

end
-- ==== Proof.Running.lean ====
/-
  A product accumulated over the grid: one point in `K` starts a sum of `b` terms, each later one adds `b` more; what
  is then held after `j + 1` of them is the sum of the first `(j + 1) b` terms.
-/
module

public import proofs.«01_k».proof.Proof.Extended
public import Idealize.ShloMosaic.Lib.Pointwise.Index

@[expose] public section

noncomputable section

namespace Cert.Running

open Idealize.ShloMosaic Cert.Extended

/-- An array of two axes as a function of two natural numbers, zero outside. -/
def entry {p q : ℕ} (A : (⟨2, ![p, q]⟩ : Shape).Idx → EReal) (i j : ℕ) : EReal :=
  if h : i < p ∧ j < q then A (ix2 ⟨i, h.1⟩ ⟨j, h.2⟩) else 0

theorem entry_val {p q : ℕ} (A : (⟨2, ![p, q]⟩ : Shape).Idx → EReal) (i : Fin p) (j : Fin q) : entry A i.val j.val = A (ix2 i j) :=
  dif_pos ⟨i.isLt, j.isLt⟩

theorem entry_lt {p q : ℕ} (A : (⟨2, ![p, q]⟩ : Shape).Idx → EReal) {i j : ℕ} (hi : i < p) (hj : j < q) :
    entry A i j = A (ix2 ⟨i, hi⟩ ⟨j, hj⟩) := dif_pos ⟨hi, hj⟩

/-- The product of two arrays over their rows: every row's product of its two entries, summed. -/
def outer {n p q : ℕ} (A : (⟨2, ![n, p]⟩ : Shape).Idx → EReal) (B : (⟨2, ![n, q]⟩ : Shape).Idx → EReal) :
    (⟨2, ![p, q]⟩ : Shape).Idx → EReal := fun j => ∑ s : Fin n, A (ix2 s (j 0)) * B (ix2 s (j 1))

/-- Its terms, by natural numbers. -/
theorem outer_entry {n p q : ℕ} (A : (⟨2, ![n, p]⟩ : Shape).Idx → EReal) (B : (⟨2, ![n, q]⟩ : Shape).Idx → EReal) (i : Fin p) (j : Fin q) :
    ∑ s ∈ Finset.range n, entry A s i.val * entry B s j.val = outer A B (ix2 i j) := by
  rw [← Fin.sum_univ_eq_sum_range (fun s => entry A s i.val * entry B s j.val)]
  exact Finset.sum_congr rfl fun s _ => by rw [entry_val, entry_val]; rfl

/-- Both offsets of a whole block are zero. -/
theorem hz2 : (![0, 0] : Fin 2 → Nat) = fun _ => 0 := funext fun a => by fin_cases a <;> rfl

/-- The running sum; `f q` are the terms of the `q`-th run of `K` points. -/
theorem held {ι : Type*} {N K b : ℕ} (a : ∀ n, n < N → ι → EReal) (f : ℕ → ι → ℕ → EReal)
    (first : ∀ n h, n % K = 0 → ∀ i, a n h i = ∑ r : Fin b, f (n / K) i r.val)
    (later : ∀ n h, ¬(n + 1) % K = 0 → ∀ i,
      a (n + 1) h i = a n (Nat.lt_of_succ_lt h) i + ∑ r : Fin b, f ((n + 1) / K) i ((n + 1) % K * b + r.val)) :
    ∀ n h i, a n h i = ∑ k ∈ Finset.range ((n % K + 1) * b), f (n / K) i k := by
  intro n
  induction n with
  | zero =>
    intro h i
    rw [first 0 h (Nat.zero_mod _), Nat.zero_mod, Nat.zero_add, Nat.one_mul, ← Fin.sum_univ_eq_sum_range]
  | succ n ih =>
    intro h i
    by_cases hn : (n + 1) % K = 0
    · rw [first _ h hn, hn, Nat.zero_add, Nat.one_mul, ← Fin.sum_univ_eq_sum_range]
    · have hd : ¬K ∣ n + 1 := fun e => hn (Nat.mod_eq_zero_of_dvd e)
      have hq : (n + 1) / K = n / K := by rw [Nat.succ_div, if_neg hd, Nat.add_zero]
      have hr : (n + 1) % K = n % K + 1 := by
        have e1 := Nat.div_add_mod (n + 1) K
        have e2 := Nat.div_add_mod n K
        rw [hq] at e1
        omega
      rw [later n h hn, ih, hq, hr, sum_tiles (f (n / K) i) (n % K + 1) b]

end Cert.Running

end
-- ==== Proof.InWValue.lean ====
/-
  The gradient of the weights into the mixers, kernel side: grid point `4 q + j` adds the part of rows
  `1024 j … 1024 j + 1023` to block `q` of the product; the last of the four writes the block out.
-/
module

public import proofs.«01_k».proof.Proof.Gen.InWIdeal.Value
public import proofs.«01_k».proof.Proof.Running
public import Idealize.ShloMosaic.Lib.Pipeline.ValueKit.Basic

@[expose] public section

set_option maxRecDepth 16384

noncomputable section

namespace Cert.InWIdeal.Body

open Cert.InWIdeal Cert.InWIdeal.Gen Cert.Running Idealize.ShloMosaic Idealize.ShloMosaic.TcCoe Idealize.SL.Sem

section
variable (v3 : Vec Ideal S1024x512 .bf16) (v4 : Vec Ideal S1024x4096 .bf16) (v6 : Vec Ideal S512x4096 .f32) (l : Fin 512) (k : Fin 4096)

theorem pay1_apply : k0_pay1 (F := Ideal) (ix2 l k) = 0 := by
  pointwise [k0_pay1]

theorem pay2_apply : k0_pay2 v3 v4 v6 (ix2 l k) = v6 (ix2 l k) + ∑ r : Fin 1024, v3 (ix2 r l) * v4 (ix2 r k) := by
  pointwise [k0_pay2]

theorem pay3_apply : k0_pay3 v6 (ix2 l k) = v6 (ix2 l k) := by
  pointwise [k0_pay3]
end

section
variable (c : Dev nD) (i : grid0.Coords) (a3 : Memref sig .tc .vmem S1024x512 .bf16) (h3 : a3.IsWhole)
  (a4 : Memref sig .tc .vmem S1024x4096 .bf16) (h4 : a4.IsWhole) (a5 : Memref sig .tc .vmem S8x128 .f32) (h5 : a5.IsWhole)
  (a6 : Memref sig .tc .vmem S512x4096 .bf16) (h6 : a6.IsWhole) (a7 : Memref sig .tc .vmem S512x4096 .f32) (h7 : a7.IsWhole)
  (x0 : Vec Ideal S1024x512 .bf16) (x1 : Vec Ideal S1024x4096 .bf16) (x2 : Vec Ideal S8x128 .f32) (xs : Vec Ideal S512x4096 .f32)

/-- The first of four points starts the sum. -/
theorem held_A (hc : cond0_0 i) (hd : ¬cond0_1 i) :
    sout0_A_0 c i a3 h3 a4 h4 a5 h5 a6 h6 a7 h7 hc hd x0 x1 x2 = k0_pay2 x0 x1 (k0_pay1 (F := Ideal)) := by
  unfold sout0_A_0
  rw [View.read_writes_eq_canon _ _ _ (scover0_A_0 c i a3 h3 a4 h4 a5 h5 a6 h6 a7 h7 hc hd x0 x1 x2)]
  unfold kernelRun0_A
  dsimp only
  sl_unfold_words
  rw [View.canon_cons_unit_zero (S := S512x4096) hz2]
  simp only [View.readAt_eq_ld, h3.read_unread, h4.read_unread, View.ld_unit_zero (S := S1024x512) hz2,
    View.ld_unit_zero (S := S1024x4096) hz2, View.readCov_unit_zero (S := S512x4096) _ hz2]

/-- A middle point adds to it. -/
theorem held_B (hc : ¬cond0_0 i) (hd : ¬cond0_1 i) :
    sout0_B_0 c i a3 h3 a4 h4 a5 h5 a6 h6 a7 h7 hc hd x0 x1 x2 xs = k0_pay2 x0 x1 xs := by
  unfold sout0_B_0
  rw [View.read_writes_eq_canon _ _ _ (scover0_B_0 c i a3 h3 a4 h4 a5 h5 a6 h6 a7 h7 hc hd x0 x1 x2 xs)]
  unfold kernelRun0_B
  dsimp only
  sl_unfold_words
  rw [View.canon_unit_zero hz2]
  simp only [View.readAt_eq_ld, h3.read_unread, h4.read_unread, h7.read_unread, View.ld_unit_zero (S := S1024x512) hz2,
    View.ld_unit_zero (S := S1024x4096) hz2, View.ld_unit_zero (S := S512x4096) hz2]

/-- The last adds to it and writes it out. -/
theorem held_C (hc : ¬cond0_0 i) (hd : cond0_1 i) :
    sout0_C_0 c i a3 h3 a4 h4 a5 h5 a6 h6 a7 h7 hc hd x0 x1 x2 xs = k0_pay2 x0 x1 xs
    ∧ out0_C_3 c i a3 h3 a4 h4 a5 h5 a6 h6 a7 h7 hc hd x0 x1 x2 xs = k0_pay3 (k0_pay2 x0 x1 xs) := by
  constructor
  · unfold sout0_C_0
    rw [View.read_writes_eq_canon _ _ _ (scover0_C_0 c i a3 h3 a4 h4 a5 h5 a6 h6 a7 h7 hc hd x0 x1 x2 xs)]
    unfold kernelRun0_C
    dsimp only
    sl_unfold_words
    rw [View.canon_unit_zero hz2]
    simp only [View.readAt_eq_ld, h3.read_unread, h4.read_unread, h7.read_unread, View.ld_unit_zero (S := S1024x512) hz2,
      View.ld_unit_zero (S := S1024x4096) hz2, View.ld_unit_zero (S := S512x4096) hz2]
  · unfold out0_C_3
    rw [View.read_writes_eq_canon _ _ _ (cover0_C_3 c i a3 h3 a4 h4 a5 h5 a6 h6 a7 h7 hc hd x0 x1 x2 xs)]
    unfold kernelRun0_C
    dsimp only
    sl_unfold_words
    rw [View.canon_unit_zero hz2]
    simp only [View.readAt_eq_ld, h3.read_unread, h4.read_unread, h7.read_unread, View.ld_unit_zero (S := S1024x512) hz2,
      View.ld_unit_zero (S := S1024x4096) hz2, View.ld_unit_zero (S := S512x4096) hz2, View.readCov_unit_zero (S := S512x4096) _ hz2]

end

variable (m : (ℓ : Loc nD τ sig) → Buf (Elt Ideal) ℓ) (c : Dev nD)

/-- The arguments as arrays. -/
abbrev A0 : S4096x2048.Idx → EReal := m ((c : Thread nD τ).loc main_arg0)
abbrev A1 : S4096x4096.Idx → EReal := m ((c : Thread nD τ).loc main_arg1)

theorem index0 : ∀ t : Fin grid0.N, win0_0.index t 0 = t.val % 4 ∧ win0_0.index t 1 = t.val / 4 := by decide +kernel
theorem index1 : ∀ t : Fin grid0.N, win0_1.index t 0 = t.val % 4 ∧ win0_1.index t 1 = 0 := by decide +kernel

theorem blk0_apply (t : Fin cfg0.N) (r : Fin 1024) (l : Fin 512) :
    (iblk m c 0 t : Vec Ideal S1024x512 .bf16) (ix2 r l) = entry (A0 m c) (t.val % 4 * 1024 + r.val) (t.val / 4 * 512 + l.val) := by
  have ht : t.val < 16 := t.isLt
  rw [entry_lt _ (by omega) (by omega)]
  unfold iblk
  rw [View.read_apply]
  show V m c main_arg0 _ = _
  rw [V_main_arg0]
  refine congrArg (A0 m c) (funext fun a => Fin.ext ?_)
  fin_cases a
  · show win0_0.index t 0 * 1024 + 1 * r.val = t.val % 4 * 1024 + r.val; rw [(index0 t).1]; omega
  · show win0_0.index t 1 * 512 + 1 * l.val = t.val / 4 * 512 + l.val; rw [(index0 t).2]; omega

theorem blk1_apply (t : Fin cfg0.N) (r : Fin 1024) (k : Fin 4096) :
    (iblk m c 1 t : Vec Ideal S1024x4096 .bf16) (ix2 r k) = entry (A1 m c) (t.val % 4 * 1024 + r.val) k.val := by
  have ht : t.val < 16 := t.isLt
  rw [entry_lt _ (by omega) k.isLt]
  unfold iblk
  rw [View.read_apply]
  show V m c main_arg1 _ = _
  rw [V_main_arg1]
  refine congrArg (A1 m c) (funext fun a => Fin.ext ?_)
  fin_cases a
  · show win0_1.index t 0 * 1024 + 1 * r.val = t.val % 4 * 1024 + r.val; rw [(index1 t).1]; omega
  · show win0_1.index t 1 * 4096 + 1 * k.val = k.val; rw [(index1 t).2]; omega

/-- Term `s` of the sum at place `i` of block `q`. -/
def term (q : ℕ) (i : S512x4096.Idx) (s : ℕ) : EReal := entry (A0 m c) s (q * 512 + (i 0).val) * entry (A1 m c) s (i 1).val

/-- One point's addition. -/
theorem step (t : Fin cfg0.N) (xs : Vec Ideal S512x4096 .f32) (i : S512x4096.Idx) :
    k0_pay2 (iblk m c 0 t) (iblk m c 1 t) xs i = xs i + ∑ r : Fin 1024, term m c (t.val / 4) i (t.val % 4 * 1024 + r.val) := by
  obtain ⟨l, k, rfl⟩ : ∃ (l : Fin 512) (k : Fin 4096), i = ix2 l k := ⟨i 0, i 1, eq_ix2 i⟩
  refine (pay2_apply _ _ _ l k).trans ?_
  simp only [blk0_apply, blk1_apply]
  rfl

/-- What is held after point `n`. -/
theorem held_eq : ∀ n h (i : S512x4096.Idx), (outsAt0 m c n h).2 i = ∑ s ∈ Finset.range ((n % 4 + 1) * 1024), term m c (n / 4) i s := by
  refine held (N := cfg0.N) (fun n h i => (outsAt0 m c n h).2 i) _ (fun n h h0 i => ?_) (fun n h h0 i => ?_)
  · show (outsAt0 m c n h).2 i = _
    rw [outsAt0_A m c ⟨n, h⟩ h0 (by show ¬n % 4 = 3; omega)]
    dsimp only
    rw [held_A, step]
    obtain ⟨l, k, rfl⟩ : ∃ (l : Fin 512) (k : Fin 4096), i = ix2 l k := ⟨i 0, i 1, eq_ix2 i⟩
    rw [pay1_apply, zero_add]
    simp only [h0, Nat.zero_mul, Nat.zero_add]
  · show (outsAt0 m c (n + 1) h).2 i = (outsAt0 m c n _).2 i + _
    by_cases h1 : (n + 1) % 4 = 3
    · rw [outsAt0_C m c ⟨n + 1, h⟩ h0 h1]
      dsimp only
      rw [(held_C ..).1, step]
      rfl
    · rw [outsAt0_B m c ⟨n + 1, h⟩ h0 h1]
      dsimp only
      rw [held_B, step]
      rfl

/-- What the last of the four writes is what is then held. -/
theorem written (t : Fin cfg0.N) (h1 : t.val % 4 = 3) : (outsAt0 m c t.val t.isLt).1 = k0_pay3 (outsAt0 m c t.val t.isLt).2 := by
  rw [outsAt0_C m c t (by omega) h1]
  dsimp only
  rw [(held_C ..).1, (held_C ..).2]

theorem result_eq : Value.G3 m c = outer (A0 m c) (A1 m c) := by
  funext j
  obtain ⟨p, k, rfl⟩ : ∃ (p : Fin 2048) (k : Fin 4096), j = ix2 p k := ⟨j 0, j 1, eq_ix2 j⟩
  have hp := p.isLt
  have hk := k.isLt
  have e : Value.pt3Of (ix2 p k) = 4 * (p.val / 512) + 3 := by
    show 4 * (1 * (p.val / 512 - 0) + 1 * (k.val / 4096 - 0)) + 3 = _
    omega
  have ht : Value.pt3Of (ix2 p k) < cfg0.N := by rw [e, show cfg0.N = 16 from N_0]; omega
  unfold Value.G3
  rw [dif_pos ht, ← Value.outsAt0_sweep m c _ ht, written m c ⟨_, ht⟩ (by show Value.pt3Of (ix2 p k) % 4 = 3; omega)]
  obtain ⟨l, q, hl⟩ : ∃ (l : Fin 512) (q : Fin 4096), Value.loc3Of (ix2 p k) = ix2 l q := ⟨_, _, eq_ix2 _⟩
  have e0 : l.val = p.val % 512 := (congrArg (fun i => (i 0).val) hl).symm
  have e1 : q.val = k.val % 4096 := (congrArg (fun i => (i 1).val) hl).symm
  have f0 : Value.pt3Of (ix2 p k) / 4 * 512 + l.val = p.val := by omega
  have f1 : q.val = k.val := by omega
  rw [hl, pay3_apply, held_eq, show (Value.pt3Of (ix2 p k) % 4 + 1) * 1024 = 4096 by omega, ← outer_entry, ← f0, ← f1]
  rfl

/-- The run, read: the result array, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = outer (A0 m c) (A1 m c)
      ∧ r.2.mem ((c : Thread nD τ).loc main_arg0) = A0 m c
      ∧ r.2.mem ((c : Thread nD τ).loc main_arg1) = A1 m c
      ∧ r.2.mem ((c : Thread nD τ).loc main_arg2) = m ((c : Thread nD τ).loc main_arg2) :=
  (θ_run defs _ _).mono (fun _ h c => ⟨(h c).1.trans (result_eq m c), (h c).2⟩) (Value.run m ρ)

end Cert.InWIdeal.Body

end
-- ==== Proof.InWClaim.lean ====
/-
  The gradient of the weights into the mixers: the reference differentiates the product; its result is the kernel's
  (`outer` of InWValue.lean) on all arguments.
-/
module

public import proofs.«01_k».proof.Defs
public import proofs.«01_k».proof.Proof.InWValue
public import proofs.«01_k».proof.Proof.Gen.InWRefIdeal.Read
public import Idealize.ShloMosaic.Lib.Quiescent

@[expose] public section

set_option maxRecDepth 16384

noncomputable section

namespace Cert.InWClaim

open Idealize.ShloMosaic Idealize.SL.Sem
open Cert.InWIdeal.Body (A0 A1)
open Cert.Running (outer)
open Cert.InWRefIdeal Cert.InWRefIdeal.Gen Cert.InWRefIdeal.Read

theorem reads (A : S4096x2048.Idx → EReal) (B : S4096x4096.Idx → EReal) : val_main_v6 (F := Ideal) A B = outer A B := by
  funext j
  obtain ⟨p, k, rfl⟩ : ∃ (p : Fin 2048) (k : Fin 4096), j = ix2 p k := ⟨j 0, j 1, eq_ix2 j⟩
  refine (val_main_v6_apply (F := Ideal) A B _).trans ?_
  show val_main_v5 (F := Ideal) A B (ix2 p k) = _
  rw [val_main_v5_apply, val_main_v4_apply]
  refine Finset.sum_congr rfl fun s _ => (mul_comm _ _).trans ?_
  rw [val_main_v1_apply, val_main_v3_apply]
  have e0 : ridx_main_v4 (idx_main_v5 (ix2 p k)) s = ix2 s p := funext fun a => by fin_cases a <;> rfl
  have e1 : lidx_main_v4 (idx_main_v5 (ix2 p k)) s = ix2 s k := funext fun a => by fin_cases a <;> rfl
  rw [e0, e1]
  rfl

theorem algebraic : Cert.algebraic_InWIdeal_InWRefIdeal := by
  intro m g m' g' _ hargs
  refine ⟨fun c => outer (A0 m c) (A1 m c), Cert.InWIdeal.Body.run m g,
    (θ_run Cert.InWRefIdeal.defs _ _).mono (fun r h c => ⟨?_, (h c).2⟩) (Cert.InWRefIdeal.Value.run m' g')⟩
  obtain ⟨e0, e1, _⟩ := hargs c
  rw [(h c).1, val_main_v6_eq, e0, e1]
  exact reads _ _

/-- The reference's run keeps its arguments; its machine has no semaphore. -/
theorem reference_frame : Cert.quiescent_InWRefIdeal := fun m g _ =>
  (θ_run Cert.InWRefIdeal.defs _ _).mono (fun r h => ⟨fun c => (h c).2, sem_eq_zero_of_no_sems rfl r.2⟩) (Cert.InWRefIdeal.Value.run m g)

end Cert.InWClaim

end
-- ==== Proof.InProjValue.lean ====
/-
  The first normalisation and the product line into the mixers, kernel side: grid point `t` normalises rows
  `256 t … 256 t + 255` and multiplies them by the whole weight matrix; nothing is carried between points.
-/
module

public import proofs.«01_k».proof.Proof.Gen.InProjIdeal.Value
public import proofs.«01_k».proof.Proof.RmsNorm
public import Idealize.ShloMosaic.Lib.Pipeline.ValueKit.Basic

@[expose] public section

set_option maxRecDepth 16384

noncomputable section

namespace Cert.InProjIdeal.Body

open Cert.InProjIdeal Cert.InProjIdeal.Gen Cert.Extended Cert.RmsNorm Idealize.ShloMosaic Idealize.ShloMosaic.TcCoe Idealize.SL.Sem
open Idealize.ShloMosaic.Pipeline (Dat)

/-- The normalised rows times the gain. -/
def normed (X : S4096x2048.Idx → EReal) (G : S1x2048.Idx → EReal) : S4096x2048.Idx → EReal := fun j =>
  X j * scale (fun k => X (ix2 (j 0) k)) 2048 eps * G (ix2 0 (j 1))

/-- Their product with the weights. -/
def projected (X : S4096x2048.Idx → EReal) (G : S1x2048.Idx → EReal) (W : S2048x4096.Idx → EReal) : S4096x4096.Idx → EReal := fun j =>
  ∑ k : Fin 2048, normed X G (ix2 (j 0) k) * W (ix2 k (j 1))

section
variable (v0 : Vec Ideal S256x2048 .f32) (v11 : Vec Ideal S1x2048 .f32) (v16 : Vec Ideal S2048x4096 .bf16) (r : Fin 256)

theorem pay1_apply (l : Fin 2048) : k0_pay1 v0 v11 (ix2 r l) = v0 (ix2 r l) * scale (fun k => v0 (ix2 r k)) 2048 eps * v11 (ix2 0 l) := by
  pointwise [k0_pay1]
  rw [ofBits_length, ofBits_eps]
  rfl

theorem pay2_apply (l : Fin 4096) : k0_pay2 v0 v11 v16 (ix2 r l) = ∑ k : Fin 2048, k0_pay1 v0 v11 (ix2 r k) * v16 (ix2 k l) := by
  pointwise [k0_pay2]
end

variable (m : (ℓ : Loc nD τ sig) → Buf (Elt Ideal) ℓ) (c : Dev nD)

/-- The arguments as arrays. -/
abbrev A0 : S4096x2048.Idx → EReal := m ((c : Thread nD τ).loc main_arg0)
abbrev A1 : S1x2048.Idx → EReal := m ((c : Thread nD τ).loc main_arg1)
abbrev A2 : S2048x4096.Idx → EReal := m ((c : Thread nD τ).loc main_arg2)

theorem V_v0 (j : S2048x4096.Idx) : V m c main_v0 j = A2 m c j := by
  unfold V
  after_results
  rfl

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel

/-- Row `r` of point `t`'s rows. -/
def row (t : Fin cfg0.N) (r : Fin 256) : Fin 4096 := ⟨t.val * 256 + r.val, by have : t.val < 16 := t.isLt; omega⟩

theorem blk0_apply (t : Fin cfg0.N) (r : Fin 256) (l : Fin 2048) :
    (iblk m c 0 t : Vec Ideal S256x2048 .f32) (ix2 r l) = A0 m c (ix2 (row t r) l) := by
  unfold iblk
  rw [View.read_apply]
  show V m c main_arg0 _ = _
  rw [V_main_arg0]
  refine congrArg (A0 m c) (funext fun a => Fin.ext ?_)
  fin_cases a
  · show win0_0.index t 0 * 256 + 1 * r.val = t.val * 256 + r.val; rw [(index0 t).1]; omega
  · show win0_0.index t 1 * 2048 + 1 * l.val = l.val; rw [(index0 t).2]; omega

theorem blk1_apply (t : Fin cfg0.N) (z : Fin 1) (l : Fin 2048) :
    (iblk m c 1 t : Vec Ideal S1x2048 .f32) (ix2 z l) = A1 m c (ix2 z l) := by
  unfold iblk
  rw [View.read_apply]
  show V m c main_arg1 _ = _
  rw [V_main_arg1]
  refine congrArg (A1 m c) (funext fun a => Fin.ext ?_)
  fin_cases a
  · show win0_1.index t 0 * 1 + 1 * z.val = z.val; rw [(index1 t).1]; omega
  · show win0_1.index t 1 * 2048 + 1 * l.val = l.val; rw [(index1 t).2]; omega

theorem blk2_apply (t : Fin cfg0.N) (k : Fin 2048) (l : Fin 4096) :
    (iblk m c 2 t : Vec Ideal S2048x4096 .bf16) (ix2 k l) = A2 m c (ix2 k l) := by
  unfold iblk
  rw [View.read_apply]
  show V m c main_v0 _ = _
  rw [V_v0]
  refine congrArg (A2 m c) (funext fun a => Fin.ext ?_)
  fin_cases a
  · show win0_2.index t 0 * 2048 + 1 * k.val = k.val; rw [(index2 t).1]; omega
  · show win0_2.index t 1 * 4096 + 1 * l.val = l.val; rw [(index2 t).2]; omega

theorem normed_eq (t : Fin cfg0.N) (r : Fin 256) (l : Fin 2048) :
    k0_pay1 (iblk m c 0 t) (iblk m c 1 t) (ix2 r l) = normed (A0 m c) (A1 m c) (ix2 (row t r) l) := by
  refine (pay1_apply _ _ r l).trans ?_
  simp only [blk0_apply, blk1_apply]
  rfl

theorem projected_eq (t : Fin cfg0.N) (r : Fin 256) (l : Fin 4096) :
    k0_pay2 (iblk m c 0 t) (iblk m c 1 t) (iblk m c 2 t) (ix2 r l) = projected (A0 m c) (A1 m c) (A2 m c) (ix2 (row t r) l) := by
  refine (pay2_apply _ _ _ r l).trans ?_
  simp only [normed_eq, blk2_apply]
  rfl

theorem hz2 : (![0, 0] : Fin 2 → Nat) = fun _ => 0 := funext fun a => by fin_cases a <;> rfl

theorem out4_eq (x0 : Vec Ideal S256x2048 .f32) (x1 x2 x3) : out0_4 x0 x1 x2 x3 = k0_pay1 x0 x1 := by
  unfold out0_4
  rw [View.canon_unit_zero hz2, View.ld_unit_zero (S := S256x2048) hz2, View.ld_unit_zero (S := S1x2048) hz2]

theorem out5_eq (x0 : Vec Ideal S256x2048 .f32) (x1 x2 x3) : out0_5 x0 x1 x2 x3 = k0_pay2 x0 x1 x2 := by
  unfold out0_5
  rw [View.canon_unit_zero hz2, View.ld_unit_zero (S := S256x2048) hz2, View.ld_unit_zero (S := S1x2048) hz2, View.ld_unit_zero (S := S2048x4096) hz2]

theorem flushed4_eq (t : Fin cfg0.N) (_ : (cfg0.win 4).flush t = true) : (dats m 0 c).flushed 4 t
    = ((cfg0.win 4).blk t).view.read (Elt Ideal) (normed (A0 m c) (A1 m c)) := by
  rw [Value.flushed4, out4_eq]
  funext y
  obtain ⟨r, l, rfl⟩ : ∃ (r : Fin 256) (l : Fin 2048), y = ix2 r l := ⟨y 0, y 1, eq_ix2 y⟩
  rw [View.read_apply]
  refine (normed_eq m c t r l).trans (congrArg (normed (A0 m c) (A1 m c)) (funext fun a => Fin.ext ?_))
  fin_cases a
  · show t.val * 256 + r.val = win0_4.index t 0 * 256 + 1 * r.val; rw [(index4 t).1]; omega
  · show l.val = win0_4.index t 1 * 2048 + 1 * l.val; rw [(index4 t).2]; omega

theorem flushed5_eq (t : Fin cfg0.N) (_ : (cfg0.win 5).flush t = true) : (dats m 0 c).flushed 5 t
    = ((cfg0.win 5).blk t).view.read (Elt Ideal) (projected (A0 m c) (A1 m c) (A2 m c)) := by
  rw [Value.flushed5, out5_eq]
  funext y
  obtain ⟨r, l, rfl⟩ : ∃ (r : Fin 256) (l : Fin 4096), y = ix2 r l := ⟨y 0, y 1, eq_ix2 y⟩
  rw [View.read_apply]
  refine (projected_eq m c t r l).trans (congrArg (projected (A0 m c) (A1 m c) (A2 m c)) (funext fun a => Fin.ext ?_))
  fin_cases a
  · show t.val * 256 + r.val = win0_5.index t 0 * 256 + 1 * r.val; rw [(index5 t).1]; omega
  · show l.val = win0_5.index t 1 * 4096 + 1 * l.val; rw [(index5 t).2]; omega

theorem final4 : (dats m 0 c).arrAt 4 cfg0.N = normed (A0 m c) (A1 m c) :=
  (dats m 0 c).arrAt_eq_of_cover 4 _ (flushed4_eq m c) fun j => by
    have h0 : (j 0).val < 4096 := (j 0).isLt
    have h1 : (j 1).val < 2048 := (j 1).isLt
    have ht : (j 0).val / 256 < cfg0.N := by rw [show cfg0.N = 16 from N_0]; omega
    refine ⟨⟨(j 0).val / 256, ht⟩, flush0_4 _, ?_⟩
    show j ∈ ((View.whole main_v1_0).slice (win0_4.rect (⟨(j 0).val / 256, ht⟩ : Fin cfg0.N))).set
    rw [View.set_slice_whole, Pipeline.Window.mem_rect_iff win0_4 _ _ rfl]
    intro a
    fin_cases a
    · show win0_4.index _ 0 * 256 ≤ (j 0).val ∧ (j 0).val < win0_4.index _ 0 * 256 + 256
      rw [(index4 _).1]; show (j 0).val / 256 * 256 ≤ (j 0).val ∧ (j 0).val < (j 0).val / 256 * 256 + 256; omega
    · show win0_4.index _ 1 * 2048 ≤ (j 1).val ∧ (j 1).val < win0_4.index _ 1 * 2048 + 2048
      rw [(index4 _).2]; omega

theorem final5 : (dats m 0 c).arrAt 5 cfg0.N = projected (A0 m c) (A1 m c) (A2 m c) :=
  (dats m 0 c).arrAt_eq_of_cover 5 _ (flushed5_eq m c) fun j => by
    have h0 : (j 0).val < 4096 := (j 0).isLt
    have h1 : (j 1).val < 4096 := (j 1).isLt
    have ht : (j 0).val / 256 < cfg0.N := by rw [show cfg0.N = 16 from N_0]; omega
    refine ⟨⟨(j 0).val / 256, ht⟩, flush0_5 _, ?_⟩
    show j ∈ ((View.whole main_v1_1).slice (win0_5.rect (⟨(j 0).val / 256, ht⟩ : Fin cfg0.N))).set
    rw [View.set_slice_whole, Pipeline.Window.mem_rect_iff win0_5 _ _ rfl]
    intro a
    fin_cases a
    · show win0_5.index _ 0 * 256 ≤ (j 0).val ∧ (j 0).val < win0_5.index _ 0 * 256 + 256
      rw [(index5 _).1]; show (j 0).val / 256 * 256 ≤ (j 0).val ∧ (j 0).val < (j 0).val / 256 * 256 + 256; omega
    · show win0_5.index _ 1 * 4096 ≤ (j 1).val ∧ (j 1).val < win0_5.index _ 1 * 4096 + 4096
      rw [(index5 _).2]; omega

/-- The run, read: both result arrays, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1_0) = normed (A0 m c) (A1 m c)
      ∧ r.2.mem ((c : Thread nD τ).loc main_v1_1) = projected (A0 m c) (A1 m c) (A2 m c)
      ∧ r.2.mem ((c : Thread nD τ).loc main_arg0) = A0 m c
      ∧ r.2.mem ((c : Thread nD τ).loc main_arg1) = A1 m c
      ∧ r.2.mem ((c : Thread nD τ).loc main_arg2) = A2 m c
      ∧ r.2.mem ((c : Thread nD τ).loc main_arg3) = m ((c : Thread nD τ).loc main_arg3) :=
  (θ_run defs _ _).mono (fun _ h c => ⟨(h c).1.trans (final4 m c), (h c).2.1.trans (final5 m c), (h c).2.2⟩) (Value.run_blocks m ρ)

end Cert.InProjIdeal.Body

end
-- ==== Proof.InProjClaim.lean ====
/-
  The first normalisation and the product line into the mixers: the reference's two results are the kernel's
  (`normed`, `projected` of InProjValue.lean) on all arguments.
-/
module

public import proofs.«01_k».proof.Defs
public import proofs.«01_k».proof.Proof.InProjValue
public import proofs.«01_k».proof.Proof.Gen.InProjRefIdeal.Read
public import Idealize.ShloMosaic.Lib.Quiescent

@[expose] public section

set_option maxRecDepth 16384

noncomputable section

namespace Cert.InProjRefIdeal.Body

open Cert.InProjRefIdeal Cert.InProjRefIdeal.Gen Cert.InProjRefIdeal.Read Cert.Extended Cert.RmsNorm Idealize.ShloMosaic
open Cert.InProjIdeal.Body (normed projected)

variable (X : S4096x2048.Idx → EReal) (G : S1x2048.Idx → EReal) (W : S2048x4096.Idx → EReal)

theorem scale_apply (s : Fin 4096) (z : Fin 1) : val_main_v8 (F := Ideal) X (ix2 s z) = scale (fun k => X (ix2 s k)) 2048 eps := by
  rw [val_main_v8_apply, val_main_v7_apply, val_main_v5_apply, val_main_v3_apply, val_main_v2_apply, val_main_v4_apply, val_main_v6_apply]
  have e : ∀ k, idx_main_v2 (idx_main_v3 (ix2 s z)) k = ix2 s k := fun k => funext fun a => by fin_cases a <;> rfl
  simp only [e]
  show Ideal.rsqrt (Ideal.div (Ideal.ofBits .f32 0x00000000#32 + ∑ k : Fin 2048, X (ix2 s k) * X (ix2 s k)) (Ideal.ofBits .f32 0x45000000#32)
    + Ideal.ofBits .f32 0x358637BD#32) = _
  rw [Ideal.ofBits_zero_f32, zero_add, ofBits_length, ofBits_eps]
  rfl

theorem normed_apply (s : Fin 4096) (l : Fin 2048) : val_main_v13 (F := Ideal) X G (ix2 s l) = normed X G (ix2 s l) := by
  rw [val_main_v13_apply, val_main_v10_apply, val_main_v9_apply, val_main_v12_apply, val_main_v11_apply, val_main_v0_apply]
  have e : idx_main_v9 (ix2 s l) = ix2 s 0 := funext fun a => by fin_cases a <;> rfl
  rw [e, scale_apply]
  exact congrArg (fun i => X (ix2 s l) * scale (fun k => X (ix2 s k)) 2048 eps * G i) (funext fun a => by
    fin_cases a
    · rfl
    · exact Fin.ext (by show l.val % 2048 = l.val; have := l.isLt; omega))

theorem reads_normed : val_main_v14 (F := Ideal) X G = normed X G := by
  funext j
  obtain ⟨s, l, rfl⟩ : ∃ (s : Fin 4096) (l : Fin 2048), j = ix2 s l := ⟨j 0, j 1, eq_ix2 j⟩
  exact (val_main_v14_apply (F := Ideal) X G _).trans (normed_apply X G s l)

theorem reads_projected : val_main_v15 (F := Ideal) X G W = projected X G W := by
  funext j
  obtain ⟨s, l, rfl⟩ : ∃ (s : Fin 4096) (l : Fin 4096), j = ix2 s l := ⟨j 0, j 1, eq_ix2 j⟩
  rw [val_main_v15_apply]
  refine Finset.sum_congr rfl fun k _ => ?_
  have e : lidx_main_v15 (ix2 s l) k = ix2 s k := funext fun a => by fin_cases a <;> rfl
  rw [e, normed_apply]
  exact congrArg (fun i => normed X G (ix2 s k) * W i) (funext fun a => by fin_cases a <;> rfl)

end Cert.InProjRefIdeal.Body

namespace Cert.InProjClaim

open Idealize.ShloMosaic Idealize.SL.Sem
open Cert.InProjIdeal.Body (normed projected A0 A1 A2)

theorem algebraic : Cert.algebraic_InProjIdeal_InProjRefIdeal := by
  intro m g m' g' _ hargs
  refine ⟨fun c => normed (A0 m c) (A1 m c), fun c => projected (A0 m c) (A1 m c) (A2 m c), Cert.InProjIdeal.Body.run m g,
    (θ_run Cert.InProjRefIdeal.defs _ _).mono (fun r h c => ⟨?_, ?_, (h c).2.2⟩) (Cert.InProjRefIdeal.Value.run m' g')⟩
  all_goals obtain ⟨e0, e1, e2, _⟩ := hargs c
  · rw [(h c).1, Cert.InProjRefIdeal.Read.val_main_v14_eq, e0, e1]
    exact Cert.InProjRefIdeal.Body.reads_normed _ _
  · rw [(h c).2.1, Cert.InProjRefIdeal.Read.val_main_v15_eq, e0, e1, e2]
    exact Cert.InProjRefIdeal.Body.reads_projected _ _ _

/-- The reference's run keeps its arguments; its machine has no semaphore. -/
theorem reference_frame : Cert.quiescent_InProjRefIdeal := fun m g _ =>
  (θ_run Cert.InProjRefIdeal.defs _ _).mono (fun r h => ⟨fun c => (h c).2.2, sem_eq_zero_of_no_sems rfl r.2⟩) (Cert.InProjRefIdeal.Value.run m g)

end Cert.InProjClaim

end
-- ==== Proof.Adam.lean ====
/-
  One step of the optimiser at one entry, as both programs write it: the gradient's running means, and the change of the
  weight. The literals stay the programs' words, the same on both sides.
-/
module

public import proofs.«01_k».proof.Proof.Running
public import Idealize.ShloMosaic.Lib.StackMember
public import Idealize.ShloMosaic.Lib.Pipeline.ValueKit.Acc
public import Idealize.ShloMosaic.Lib.Pipeline.ValueKit.Geometry
public import Idealize.ShloMosaic.Lib.Pipeline.ValueKit.Tiles

@[expose] public section

noncomputable section

namespace Cert.Adam

open Idealize.ShloMosaic Idealize.ShloMosaic.StackMember

def mean (m g : EReal) : EReal := Ideal.ofBits .f32 0x3F666666#32 * m + Ideal.ofBits .f32 0x3DCCCCCD#32 * g
def square (v g : EReal) : EReal := Ideal.ofBits .f32 0x3F7FBE77#32 * v + Ideal.ofBits .f32 0x3A83126F#32 * (g * g)
def change (w m v g : EReal) : EReal :=
  Ideal.ofBits .f32 0xBA83126F#32 * (Ideal.div (Ideal.div (mean m g) (Ideal.ofBits .f32 0x3F26BD02#32))
    (Ideal.sqrt (Ideal.div (square v g) (Ideal.ofBits .f32 0x3C231ACC#32)) + Ideal.ofBits .f32 0x322BCC77#32)
    + Ideal.ofBits .f32 0x3C23D70A#32 * w)

/-- A device's own part and the seven others, added one after the other. -/
theorem parts_eq (o : EReal) (p : Fin 7 → EReal) : o + p 0 + p 1 + p 2 + p 3 + p 4 + p 5 + p 6 = o + ∑ k, p k := by
  rw [Fin.sum_univ_seven]
  simp only [add_assoc]

variable {G r : ℕ} {d : Fin r → ℕ}

/-- The gradient of an array: a device's own part and the stack of the others'. -/
def grad (O : (⟨r, d⟩ : Shape).Idx → EReal) (L : (⟨r + 1, Matrix.vecCons G d⟩ : Shape).Idx → EReal) (j : (⟨r, d⟩ : Shape).Idx) : EReal :=
  O j + ∑ k : Fin G, memberAt L k j

theorem grad_congr {a b : ℕ} {O : (⟨2, ![a, b]⟩ : Shape).Idx → EReal} {L : (⟨3, ![7, a, b]⟩ : Shape).Idx → EReal}
    {a' b' : ℕ} {O' : (⟨2, ![a', b']⟩ : Shape).Idx → EReal} {L' : (⟨3, ![7, a', b']⟩ : Shape).Idx → EReal}
    {i : Fin a} {k : Fin b} {i' : Fin a'} {k' : Fin b'} (ho : O (ix2 i k) = O' (ix2 i' k'))
    (hl : ∀ g : Fin 7, L (ix3 g i k) = L' (ix3 g i' k')) : grad O L (ix2 i k) = grad O' L' (ix2 i' k') :=
  congrArg₂ (· + ·) ho (Finset.sum_congr rfl fun g _ =>
    (congrArg L (cons_ix2 g i k)).trans ((hl g).trans (congrArg L' (cons_ix2 g i' k')).symm))

variable (W M V O : (⟨r, d⟩ : Shape).Idx → EReal) (L : (⟨r + 1, Matrix.vecCons G d⟩ : Shape).Idx → EReal)

/-- The step over whole arrays. -/
def means : (⟨r, d⟩ : Shape).Idx → EReal := fun j => mean (M j) (grad O L j)
def squares : (⟨r, d⟩ : Shape).Idx → EReal := fun j => square (V j) (grad O L j)
def changes : (⟨r, d⟩ : Shape).Idx → EReal := fun j => change (W j) (M j) (V j) (grad O L j)

section Blocks
variable {a b a' b' : ℕ} {W M V O : (⟨2, ![a, b]⟩ : Shape).Idx → EReal} {L : (⟨3, ![7, a, b]⟩ : Shape).Idx → EReal}
variable {W' M' V' O' : (⟨2, ![a', b']⟩ : Shape).Idx → EReal} {L' : (⟨3, ![7, a', b']⟩ : Shape).Idx → EReal}
variable {i : Fin a} {k : Fin b} {i' : Fin a'} {k' : Fin b'}

/-- The step of a block at an entry is the whole arrays' at the entry it is cut from. -/
theorem means_congr (hm : M (ix2 i k) = M' (ix2 i' k')) (hg : grad O L (ix2 i k) = grad O' L' (ix2 i' k')) :
    means M O L (ix2 i k) = means M' O' L' (ix2 i' k') := congrArg₂ mean hm hg
theorem squares_congr (hv : V (ix2 i k) = V' (ix2 i' k')) (hg : grad O L (ix2 i k) = grad O' L' (ix2 i' k')) :
    squares V O L (ix2 i k) = squares V' O' L' (ix2 i' k') := congrArg₂ square hv hg
theorem changes_congr (hw : W (ix2 i k) = W' (ix2 i' k')) (hm : M (ix2 i k) = M' (ix2 i' k')) (hv : V (ix2 i k) = V' (ix2 i' k'))
    (hg : grad O L (ix2 i k) = grad O' L' (ix2 i' k')) : changes W M V O L (ix2 i k) = changes W' M' V' O' L' (ix2 i' k') := by
  unfold changes; rw [hw, hm, hv, hg]

end Blocks

/-- A load of one member of a stack, its unit axis dropped. -/
theorem ld_member {e : EltTy} (X : (⟨r + 1, Matrix.vecCons G d⟩ : Shape).Idx → Elt Ideal e) (g : Fin G) (off : Fin (r + 1) → ℕ)
    (inb : ∀ a, off a + (Matrix.vecCons 1 d : Fin (r + 1) → ℕ) a ≤ (⟨r + 1, Matrix.vecCons G d⟩ : Shape).size a)
    (hc : (⟨r + 1, Matrix.vecCons 1 d⟩ : Shape).ShapeCasts ⟨r, d⟩) (h0 : off 0 = g.val) (hs : ∀ a : Fin r, off a.succ = 0)
    (j : (⟨r, d⟩ : Shape).Idx) :
    shapeCast ⟨r, d⟩ (View.ld X (Rect.unit (s := ⟨r + 1, Matrix.vecCons G d⟩) off (Matrix.vecCons 1 d) inb)) hc j = memberAt X g j := by
  refine (shapeCast_dropUnit_apply d _ hc j).trans ?_
  rw [View.ld_apply]
  refine congrArg X (funext fun a => Fin.ext ?_)
  rw [Rect.idx_unit_val]
  refine Fin.cases ?_ (fun a => ?_) a
  · rw [h0]; rfl
  · rw [hs, zero_add]; rfl

/-- The members of a stack of seven [a, b] arrays, loaded one by one and added to the device's own part. -/
theorem grad_ld {a b : ℕ} (O : (⟨2, ![a, b]⟩ : Shape).Idx → EReal) (X : (⟨3, ![7, a, b]⟩ : Shape).Idx → Elt Ideal .bf16)
    (inb : ∀ g : Fin 7, ∀ i, (![g.val, 0, 0] : Fin 3 → ℕ) i + (![1, a, b] : Fin 3 → ℕ) i ≤ (⟨3, ![7, a, b]⟩ : Shape).size i)
    (hc : (⟨3, ![1, a, b]⟩ : Shape).ShapeCasts ⟨2, ![a, b]⟩) (j : (⟨2, ![a, b]⟩ : Shape).Idx) (p : Fin 7 → EReal)
    (hp : ∀ g : Fin 7, p g = shapeCast ⟨2, ![a, b]⟩ (View.ld X (Rect.unit (s := ⟨3, ![7, a, b]⟩) ![g.val, 0, 0] ![1, a, b] (inb g))) hc j) :
    O j + p 0 + p 1 + p 2 + p 3 + p 4 + p 5 + p 6 = grad O X j :=
  (parts_eq _ _).trans (congrArg (O j + ·) (Finset.sum_congr rfl fun g _ => (hp g).trans
    (ld_member X g ![g.val, 0, 0] (inb g) hc rfl (fun a => by fin_cases a <;> rfl) j)))

end Cert.Adam

end
-- ==== Proof.AdamStep.lean ====
/-
  One step of the optimiser over a whole array, as the kernel's body writes it, at any values: the eight devices' parts added
  one after the other, the two running means and the change of the weight.
-/
module

public import Idealize.ShloMosaic.Lib.Pipeline.FrameBody
public import Idealize.ShloMosaic.Lib.Pipeline.Value
public import Idealize.ShloMosaic.Lib.Writes
public import proofs.«01_k».proof.Proof.Adam

@[expose] public section

noncomputable section

namespace Cert.AdamStep

open Idealize.ShloMosaic

variable {F : FTy → Type} [FloatOps F] {S : Shape}

/-- A store over a whole buffer leaves its payload. -/
theorem written {sig : RefSig} {κ : Kind} {sp : Space} {e : EltTy} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit off S.size inb, w⟩]) = w :=
  (View.read_writes_eq_canon v f _ fun y => ⟨_, List.mem_singleton_self _, by
    subst h; exact (Rect.set_whole S).symm ▸ Finset.mem_univ y⟩).trans (View.canon_unit_zero h inb w)

theorem hz3 : (![0, 0, 0] : Fin 3 → ℕ) = fun _ => 0 := funext fun a => by fin_cases a <;> rfl

/-- A member of a stack has the stack's entries without the unit axis. -/
theorem dropUnit {n : ℕ} (d : Fin n → ℕ) : (⟨n + 1, Matrix.vecCons 1 d⟩ : Shape).ShapeCasts ⟨n, d⟩ := by
  show ∏ a, d a = ∏ a, (Matrix.vecCons 1 d : Fin (n + 1) → ℕ) a
  rw [Fin.prod_univ_succ]; simp

/-- An entry everywhere. -/
def every (S : Shape) (w : BitVec 32) : FVec F S .f32 := broadcast S (Scalar.ofBits .f32 w : F .f32)

def meanV (m g : FVec F S .f32) : FVec F S .f32 := addf (mulf (every S 0x3F666666#32) m) (mulf (every S 0x3DCCCCCD#32) g)
def squareV (v g : FVec F S .f32) : FVec F S .f32 := addf (mulf (every S 0x3F7FBE77#32) v) (mulf (every S 0x3A83126F#32) (mulf g g))
def changeV (w m v g : FVec F S .f32) : FVec F S .f32 :=
  mulf (every S 0xBA83126F#32) (addf (divf (divf (meanV m g) (every S 0x3F26BD02#32))
    (addf (sqrt (divf (squareV v g) (every S 0x3C231ACC#32))) (every S 0x322BCC77#32))) (mulf (every S 0x3C23D70A#32) w))

section Rank2
variable (a b : ℕ)

/-- The load of a whole array. -/
def load2 (X : Vec F ⟨2, ![a, b]⟩ .f32) : Vec F ⟨2, ![a, b]⟩ .f32 :=
  View.ld X (Rect.unit (s := ⟨2, ![a, b]⟩) ![0, 0] ![a, b] (by intro i; fin_cases i <;> simp))

/-- The load the body reshapes to its own shape. -/
def held2 (X : Vec F ⟨2, ![a, b]⟩ .f32) : FVec F ⟨2, ![a, b]⟩ .f32 := shapeCast ⟨2, ![a, b]⟩ (load2 a b X) rfl

/-- The load of a device's part. -/
def part2 (L : Vec F ⟨3, ![8, a, b]⟩ .f32) (k : ℕ) (hk : k < 8) : FVec F ⟨2, ![a, b]⟩ .f32 :=
  shapeCast ⟨2, ![a, b]⟩ (View.ld L (Rect.unit (s := ⟨3, ![8, a, b]⟩) ![k, 0, 0] ![1, a, b] (by intro i; fin_cases i <;> simp; omega)))
    (dropUnit _)

/-- The eight parts, one after the other. -/
def sum2 (L : Vec F ⟨3, ![8, a, b]⟩ .f32) : FVec F ⟨2, ![a, b]⟩ .f32 :=
  addf (addf (addf (addf (addf (addf (addf (part2 a b L 0 (by decide)) (part2 a b L 1 (by decide))) (part2 a b L 2 (by decide)))
    (part2 a b L 3 (by decide))) (part2 a b L 4 (by decide))) (part2 a b L 5 (by decide))) (part2 a b L 6 (by decide))) (part2 a b L 7 (by decide))

variable (W M V : FVec F ⟨2, ![a, b]⟩ .f32) (L : Vec F ⟨3, ![8, a, b]⟩ .f32)
def mean2 : FVec F ⟨2, ![a, b]⟩ .f32 := meanV M (sum2 a b L)
def square2 : FVec F ⟨2, ![a, b]⟩ .f32 := squareV V (sum2 a b L)
def change2 : FVec F ⟨2, ![a, b]⟩ .f32 := changeV W M V (sum2 a b L)

end Rank2

section Rank3
variable (a b c : ℕ)

def load3 (X : Vec F ⟨3, ![a, b, c]⟩ .f32) : Vec F ⟨3, ![a, b, c]⟩ .f32 :=
  View.ld X (Rect.unit (s := ⟨3, ![a, b, c]⟩) ![0, 0, 0] ![a, b, c] (by intro i; fin_cases i <;> simp))

def held3 (X : Vec F ⟨3, ![a, b, c]⟩ .f32) : FVec F ⟨3, ![a, b, c]⟩ .f32 := shapeCast ⟨3, ![a, b, c]⟩ (load3 a b c X) rfl

/-- These parts are sent as bf16. -/
def part3 (L : Vec F ⟨4, ![8, a, b, c]⟩ .bf16) (k : ℕ) (hk : k < 8) : FVec F ⟨3, ![a, b, c]⟩ .f32 :=
  extf .f32 (shapeCast ⟨3, ![a, b, c]⟩ (View.ld L (Rect.unit (s := ⟨4, ![8, a, b, c]⟩) ![k, 0, 0, 0] ![1, a, b, c]
    (by intro i; fin_cases i <;> simp; omega))) (dropUnit _) : FVec F ⟨3, ![a, b, c]⟩ .bf16) (by decide)

def sum3 (L : Vec F ⟨4, ![8, a, b, c]⟩ .bf16) : FVec F ⟨3, ![a, b, c]⟩ .f32 :=
  addf (addf (addf (addf (addf (addf (addf (part3 a b c L 0 (by decide)) (part3 a b c L 1 (by decide))) (part3 a b c L 2 (by decide)))
    (part3 a b c L 3 (by decide))) (part3 a b c L 4 (by decide))) (part3 a b c L 5 (by decide))) (part3 a b c L 6 (by decide)))
    (part3 a b c L 7 (by decide))

variable (W M V : FVec F ⟨3, ![a, b, c]⟩ .f32) (L : Vec F ⟨4, ![8, a, b, c]⟩ .bf16)
def mean3 : FVec F ⟨3, ![a, b, c]⟩ .f32 := meanV M (sum3 a b c L)
def square3 : FVec F ⟨3, ![a, b, c]⟩ .f32 := squareV V (sum3 a b c L)
def change3 : FVec F ⟨3, ![a, b, c]⟩ .f32 := changeV W M V (sum3 a b c L)

end Rank3

end Cert.AdamStep

end
-- ==== Proof.AdamSmallData.lean ====
/-
  The optimiser's step for the eleven small weights: what the region finds and what each buffer holds, at any values.
-/
module

public import proofs.«01_k».proof.Proof.Gen.AdamRowsIdeal.Launch
public import proofs.«01_k».proof.Proof.Gen.AdamRowsIdeal.Points
public import proofs.«01_k».proof.Proof.AdamStep
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.AdamSmall

open Cert.AdamRowsIdeal Cert.AdamRowsIdeal.Gen Cert.AdamStep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write `main_v0` to `main_v8` only: the region finds any other array as launched. -/
theorem kept (c : Dev nD) (b : Ref sig .tc) (h : b ≠ main_v0 ∧ b ≠ main_v1 ∧ b ≠ main_v2 ∧ b ≠ main_v3 ∧ b ≠ main_v4 ∧ b ≠ main_v5
    ∧ b ≠ main_v6 ∧ b ≠ main_v7 ∧ b ≠ main_v8) : V m c b = m ((c : Thread nD τ).loc b) :=
  StableHlo.after_of_forall_not_mem (b := Proc.devRef .tc b) _ _ (List.forall_iff_forall_mem.mp (by
    obtain ⟨h0, h1, h2, h3, h4, h5, h6, h7, h8⟩ := h
    simp only [hostOps0, List.Forall, StableHlo.unary_writes, StableHlo.reshape_writes, Finset.mem_singleton]
    refine ⟨?_, ?_, ?_, ?_, ?_, ?_, ?_, ?_, ?_⟩
    all_goals exact StableHlo.devRef_ne_of_ne (by assumption)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The pipeline's proof data -/

/-- What each buffer holds after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => iblk m c 37 t
    | ⟨38, _⟩ => iblk m c 38 t
    | ⟨39, _⟩ => iblk m c 39 t
    | ⟨40, _⟩ => iblk m c 40 t
    | ⟨41, _⟩ => iblk m c 41 t
    | ⟨42, _⟩ => iblk m c 42 t
    | ⟨43, _⟩ => iblk m c 43 t
    | ⟨44, _⟩ => iblk m c 44 t
    | ⟨45, _⟩ => sum2 1 2048 (iblk m c 33 t)
    | ⟨46, _⟩ => sum2 1 1024 (iblk m c 34 t)
    | ⟨47, _⟩ => sum2 64 64 (iblk m c 35 t)
    | ⟨48, _⟩ => sum2 64 64 (iblk m c 36 t)
    | ⟨49, _⟩ => sum2 1 64 (iblk m c 37 t)
    | ⟨50, _⟩ => sum3 64 16 64 (iblk m c 38 t)
    | ⟨51, _⟩ => sum3 64 16 64 (iblk m c 39 t)
    | ⟨52, _⟩ => sum3 64 16 64 (iblk m c 40 t)
    | ⟨53, _⟩ => sum3 64 16 64 (iblk m c 41 t)
    | ⟨54, _⟩ => sum2 1 1024 (iblk m c 42 t)
    | ⟨55, _⟩ => sum2 1 2048 (iblk m c 43 t)
    | ⟨56, _⟩ => change2 1 2048 (load2 1 2048 (iblk m c 0 t)) (load2 1 2048 (iblk m c 11 t)) (load2 1 2048 (iblk m c 22 t)) (iblk m c 33 t)
    | ⟨57, _⟩ => change2 1 1024 (load2 1 1024 (iblk m c 1 t)) (load2 1 1024 (iblk m c 12 t)) (load2 1 1024 (iblk m c 23 t)) (iblk m c 34 t)
    | ⟨58, _⟩ => change2 64 64 (load2 64 64 (iblk m c 2 t)) (load2 64 64 (iblk m c 13 t)) (load2 64 64 (iblk m c 24 t)) (iblk m c 35 t)
    | ⟨59, _⟩ => change2 64 64 (load2 64 64 (iblk m c 3 t)) (load2 64 64 (iblk m c 14 t)) (load2 64 64 (iblk m c 25 t)) (iblk m c 36 t)
    | ⟨60, _⟩ => change2 1 64 (load2 1 64 (iblk m c 4 t)) (load2 1 64 (iblk m c 15 t)) (load2 1 64 (iblk m c 26 t)) (iblk m c 37 t)
    | ⟨61, _⟩ => change3 64 16 64 (held3 64 16 64 (iblk m c 5 t)) (held3 64 16 64 (iblk m c 16 t)) (held3 64 16 64 (iblk m c 27 t)) (iblk m c 38 t)
    | ⟨62, _⟩ => change3 64 16 64 (held3 64 16 64 (iblk m c 6 t)) (held3 64 16 64 (iblk m c 17 t)) (held3 64 16 64 (iblk m c 28 t)) (iblk m c 39 t)
    | ⟨63, _⟩ => change3 64 16 64 (load3 64 16 64 (iblk m c 7 t)) (load3 64 16 64 (iblk m c 18 t)) (load3 64 16 64 (iblk m c 29 t)) (iblk m c 40 t)
    | ⟨64, _⟩ => change3 64 16 64 (load3 64 16 64 (iblk m c 8 t)) (load3 64 16 64 (iblk m c 19 t)) (load3 64 16 64 (iblk m c 30 t)) (iblk m c 41 t)
    | ⟨65, _⟩ => change2 1 1024 (load2 1 1024 (iblk m c 9 t)) (load2 1 1024 (iblk m c 20 t)) (load2 1 1024 (iblk m c 31 t)) (iblk m c 42 t)
    | ⟨66, _⟩ => change2 1 2048 (held2 1 2048 (iblk m c 10 t)) (held2 1 2048 (iblk m c 21 t)) (held2 1 2048 (iblk m c 32 t)) (iblk m c 43 t)
    | ⟨67, _⟩ => mean2 1 2048 (load2 1 2048 (iblk m c 11 t)) (iblk m c 33 t)
    | ⟨68, _⟩ => mean2 1 1024 (load2 1 1024 (iblk m c 12 t)) (iblk m c 34 t)
    | ⟨69, _⟩ => mean2 64 64 (load2 64 64 (iblk m c 13 t)) (iblk m c 35 t)
    | ⟨70, _⟩ => mean2 64 64 (load2 64 64 (iblk m c 14 t)) (iblk m c 36 t)
    | ⟨71, _⟩ => mean2 1 64 (load2 1 64 (iblk m c 15 t)) (iblk m c 37 t)
    | ⟨72, _⟩ => mean3 64 16 64 (held3 64 16 64 (iblk m c 16 t)) (iblk m c 38 t)
    | ⟨73, _⟩ => mean3 64 16 64 (held3 64 16 64 (iblk m c 17 t)) (iblk m c 39 t)
    | ⟨74, _⟩ => mean3 64 16 64 (load3 64 16 64 (iblk m c 18 t)) (iblk m c 40 t)
    | ⟨75, _⟩ => mean3 64 16 64 (load3 64 16 64 (iblk m c 19 t)) (iblk m c 41 t)
    | ⟨76, _⟩ => mean2 1 1024 (load2 1 1024 (iblk m c 20 t)) (iblk m c 42 t)
    | ⟨77, _⟩ => mean2 1 2048 (held2 1 2048 (iblk m c 21 t)) (iblk m c 43 t)
    | ⟨78, _⟩ => square2 1 2048 (load2 1 2048 (iblk m c 22 t)) (iblk m c 33 t)
    | ⟨79, _⟩ => square2 1 1024 (load2 1 1024 (iblk m c 23 t)) (iblk m c 34 t)
    | ⟨80, _⟩ => square2 64 64 (load2 64 64 (iblk m c 24 t)) (iblk m c 35 t)
    | ⟨81, _⟩ => square2 64 64 (load2 64 64 (iblk m c 25 t)) (iblk m c 36 t)
    | ⟨82, _⟩ => square2 1 64 (load2 1 64 (iblk m c 26 t)) (iblk m c 37 t)
    | ⟨83, _⟩ => square3 64 16 64 (held3 64 16 64 (iblk m c 27 t)) (iblk m c 38 t)
    | ⟨84, _⟩ => square3 64 16 64 (held3 64 16 64 (iblk m c 28 t)) (iblk m c 39 t)
    | ⟨85, _⟩ => square3 64 16 64 (load3 64 16 64 (iblk m c 29 t)) (iblk m c 40 t)
    | ⟨86, _⟩ => square3 64 16 64 (load3 64 16 64 (iblk m c 30 t)) (iblk m c 41 t)
    | ⟨87, _⟩ => square2 1 1024 (load2 1 1024 (iblk m c 31 t)) (iblk m c 42 t)
    | ⟨88, _⟩ => square2 1 2048 (held2 1 2048 (iblk m c 32 t)) (iblk m c 43 t)
    | ⟨89, _⟩ => sum2 1 128 (iblk m c 44 t)
    | ⟨_ + 90, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = iblk m c 32 t := by dsimp only [dats]
theorem after0_33 (c : Dev nD) (t : Fin cfg0.N) : (dats m 0 c).after 33 t = iblk m c 33 t := by dsimp only [dats]
theorem after0_34 (c : Dev nD) (t : Fin cfg0.N) : (dats m 0 c).after 34 t = iblk m c 34 t := by dsimp only [dats]
theorem after0_35 (c : Dev nD) (t : Fin cfg0.N) : (dats m 0 c).after 35 t = iblk m c 35 t := by dsimp only [dats]
theorem after0_36 (c : Dev nD) (t : Fin cfg0.N) : (dats m 0 c).after 36 t = iblk m c 36 t := by dsimp only [dats]
theorem after0_37 (c : Dev nD) (t : Fin cfg0.N) : (dats m 0 c).after 37 t = iblk m c 37 t := by dsimp only [dats]
theorem after0_38 (c : Dev nD) (t : Fin cfg0.N) : (dats m 0 c).after 38 t = iblk m c 38 t := by dsimp only [dats]
theorem after0_39 (c : Dev nD) (t : Fin cfg0.N) : (dats m 0 c).after 39 t = iblk m c 39 t := by dsimp only [dats]
theorem after0_40 (c : Dev nD) (t : Fin cfg0.N) : (dats m 0 c).after 40 t = iblk m c 40 t := by dsimp only [dats]
theorem after0_41 (c : Dev nD) (t : Fin cfg0.N) : (dats m 0 c).after 41 t = iblk m c 41 t := by dsimp only [dats]
theorem after0_42 (c : Dev nD) (t : Fin cfg0.N) : (dats m 0 c).after 42 t = iblk m c 42 t := by dsimp only [dats]
theorem after0_43 (c : Dev nD) (t : Fin cfg0.N) : (dats m 0 c).after 43 t = iblk m c 43 t := by dsimp only [dats]
theorem after0_44 (c : Dev nD) (t : Fin cfg0.N) : (dats m 0 c).after 44 t = iblk m c 44 t := by dsimp only [dats]
theorem after0_45 (c : Dev nD) (t : Fin cfg0.N) : (dats m 0 c).after 45 t = sum2 1 2048 (iblk m c 33 t) := by dsimp only [dats]
theorem after0_46 (c : Dev nD) (t : Fin cfg0.N) : (dats m 0 c).after 46 t = sum2 1 1024 (iblk m c 34 t) := by dsimp only [dats]
theorem after0_47 (c : Dev nD) (t : Fin cfg0.N) : (dats m 0 c).after 47 t = sum2 64 64 (iblk m c 35 t) := by dsimp only [dats]
theorem after0_48 (c : Dev nD) (t : Fin cfg0.N) : (dats m 0 c).after 48 t = sum2 64 64 (iblk m c 36 t) := by dsimp only [dats]
theorem after0_49 (c : Dev nD) (t : Fin cfg0.N) : (dats m 0 c).after 49 t = sum2 1 64 (iblk m c 37 t) := by dsimp only [dats]
theorem after0_50 (c : Dev nD) (t : Fin cfg0.N) : (dats m 0 c).after 50 t = sum3 64 16 64 (iblk m c 38 t) := by dsimp only [dats]
theorem after0_51 (c : Dev nD) (t : Fin cfg0.N) : (dats m 0 c).after 51 t = sum3 64 16 64 (iblk m c 39 t) := by dsimp only [dats]
theorem after0_52 (c : Dev nD) (t : Fin cfg0.N) : (dats m 0 c).after 52 t = sum3 64 16 64 (iblk m c 40 t) := by dsimp only [dats]
theorem after0_53 (c : Dev nD) (t : Fin cfg0.N) : (dats m 0 c).after 53 t = sum3 64 16 64 (iblk m c 41 t) := by dsimp only [dats]
theorem after0_54 (c : Dev nD) (t : Fin cfg0.N) : (dats m 0 c).after 54 t = sum2 1 1024 (iblk m c 42 t) := by dsimp only [dats]
theorem after0_55 (c : Dev nD) (t : Fin cfg0.N) : (dats m 0 c).after 55 t = sum2 1 2048 (iblk m c 43 t) := by dsimp only [dats]
theorem after0_56 (c : Dev nD) (t : Fin cfg0.N) : (dats m 0 c).after 56 t = change2 1 2048 (load2 1 2048 (iblk m c 0 t)) (load2 1 2048 (iblk m c 11 t)) (load2 1 2048 (iblk m c 22 t)) (iblk m c 33 t) := by dsimp only [dats]
theorem after0_57 (c : Dev nD) (t : Fin cfg0.N) : (dats m 0 c).after 57 t = change2 1 1024 (load2 1 1024 (iblk m c 1 t)) (load2 1 1024 (iblk m c 12 t)) (load2 1 1024 (iblk m c 23 t)) (iblk m c 34 t) := by dsimp only [dats]
theorem after0_58 (c : Dev nD) (t : Fin cfg0.N) : (dats m 0 c).after 58 t = change2 64 64 (load2 64 64 (iblk m c 2 t)) (load2 64 64 (iblk m c 13 t)) (load2 64 64 (iblk m c 24 t)) (iblk m c 35 t) := by dsimp only [dats]
theorem after0_59 (c : Dev nD) (t : Fin cfg0.N) : (dats m 0 c).after 59 t = change2 64 64 (load2 64 64 (iblk m c 3 t)) (load2 64 64 (iblk m c 14 t)) (load2 64 64 (iblk m c 25 t)) (iblk m c 36 t) := by dsimp only [dats]
theorem after0_60 (c : Dev nD) (t : Fin cfg0.N) : (dats m 0 c).after 60 t = change2 1 64 (load2 1 64 (iblk m c 4 t)) (load2 1 64 (iblk m c 15 t)) (load2 1 64 (iblk m c 26 t)) (iblk m c 37 t) := by dsimp only [dats]
theorem after0_61 (c : Dev nD) (t : Fin cfg0.N) : (dats m 0 c).after 61 t = change3 64 16 64 (held3 64 16 64 (iblk m c 5 t)) (held3 64 16 64 (iblk m c 16 t)) (held3 64 16 64 (iblk m c 27 t)) (iblk m c 38 t) := by dsimp only [dats]
theorem after0_62 (c : Dev nD) (t : Fin cfg0.N) : (dats m 0 c).after 62 t = change3 64 16 64 (held3 64 16 64 (iblk m c 6 t)) (held3 64 16 64 (iblk m c 17 t)) (held3 64 16 64 (iblk m c 28 t)) (iblk m c 39 t) := by dsimp only [dats]
theorem after0_63 (c : Dev nD) (t : Fin cfg0.N) : (dats m 0 c).after 63 t = change3 64 16 64 (load3 64 16 64 (iblk m c 7 t)) (load3 64 16 64 (iblk m c 18 t)) (load3 64 16 64 (iblk m c 29 t)) (iblk m c 40 t) := by dsimp only [dats]
theorem after0_64 (c : Dev nD) (t : Fin cfg0.N) : (dats m 0 c).after 64 t = change3 64 16 64 (load3 64 16 64 (iblk m c 8 t)) (load3 64 16 64 (iblk m c 19 t)) (load3 64 16 64 (iblk m c 30 t)) (iblk m c 41 t) := by dsimp only [dats]
theorem after0_65 (c : Dev nD) (t : Fin cfg0.N) : (dats m 0 c).after 65 t = change2 1 1024 (load2 1 1024 (iblk m c 9 t)) (load2 1 1024 (iblk m c 20 t)) (load2 1 1024 (iblk m c 31 t)) (iblk m c 42 t) := by dsimp only [dats]
theorem after0_66 (c : Dev nD) (t : Fin cfg0.N) : (dats m 0 c).after 66 t = change2 1 2048 (held2 1 2048 (iblk m c 10 t)) (held2 1 2048 (iblk m c 21 t)) (held2 1 2048 (iblk m c 32 t)) (iblk m c 43 t) := by dsimp only [dats]
theorem after0_67 (c : Dev nD) (t : Fin cfg0.N) : (dats m 0 c).after 67 t = mean2 1 2048 (load2 1 2048 (iblk m c 11 t)) (iblk m c 33 t) := by dsimp only [dats]
theorem after0_68 (c : Dev nD) (t : Fin cfg0.N) : (dats m 0 c).after 68 t = mean2 1 1024 (load2 1 1024 (iblk m c 12 t)) (iblk m c 34 t) := by dsimp only [dats]
theorem after0_69 (c : Dev nD) (t : Fin cfg0.N) : (dats m 0 c).after 69 t = mean2 64 64 (load2 64 64 (iblk m c 13 t)) (iblk m c 35 t) := by dsimp only [dats]
theorem after0_70 (c : Dev nD) (t : Fin cfg0.N) : (dats m 0 c).after 70 t = mean2 64 64 (load2 64 64 (iblk m c 14 t)) (iblk m c 36 t) := by dsimp only [dats]
theorem after0_71 (c : Dev nD) (t : Fin cfg0.N) : (dats m 0 c).after 71 t = mean2 1 64 (load2 1 64 (iblk m c 15 t)) (iblk m c 37 t) := by dsimp only [dats]
theorem after0_72 (c : Dev nD) (t : Fin cfg0.N) : (dats m 0 c).after 72 t = mean3 64 16 64 (held3 64 16 64 (iblk m c 16 t)) (iblk m c 38 t) := by dsimp only [dats]
theorem after0_73 (c : Dev nD) (t : Fin cfg0.N) : (dats m 0 c).after 73 t = mean3 64 16 64 (held3 64 16 64 (iblk m c 17 t)) (iblk m c 39 t) := by dsimp only [dats]
theorem after0_74 (c : Dev nD) (t : Fin cfg0.N) : (dats m 0 c).after 74 t = mean3 64 16 64 (load3 64 16 64 (iblk m c 18 t)) (iblk m c 40 t) := by dsimp only [dats]
theorem after0_75 (c : Dev nD) (t : Fin cfg0.N) : (dats m 0 c).after 75 t = mean3 64 16 64 (load3 64 16 64 (iblk m c 19 t)) (iblk m c 41 t) := by dsimp only [dats]
theorem after0_76 (c : Dev nD) (t : Fin cfg0.N) : (dats m 0 c).after 76 t = mean2 1 1024 (load2 1 1024 (iblk m c 20 t)) (iblk m c 42 t) := by dsimp only [dats]
theorem after0_77 (c : Dev nD) (t : Fin cfg0.N) : (dats m 0 c).after 77 t = mean2 1 2048 (held2 1 2048 (iblk m c 21 t)) (iblk m c 43 t) := by dsimp only [dats]
theorem after0_78 (c : Dev nD) (t : Fin cfg0.N) : (dats m 0 c).after 78 t = square2 1 2048 (load2 1 2048 (iblk m c 22 t)) (iblk m c 33 t) := by dsimp only [dats]
theorem after0_79 (c : Dev nD) (t : Fin cfg0.N) : (dats m 0 c).after 79 t = square2 1 1024 (load2 1 1024 (iblk m c 23 t)) (iblk m c 34 t) := by dsimp only [dats]
theorem after0_80 (c : Dev nD) (t : Fin cfg0.N) : (dats m 0 c).after 80 t = square2 64 64 (load2 64 64 (iblk m c 24 t)) (iblk m c 35 t) := by dsimp only [dats]
theorem after0_81 (c : Dev nD) (t : Fin cfg0.N) : (dats m 0 c).after 81 t = square2 64 64 (load2 64 64 (iblk m c 25 t)) (iblk m c 36 t) := by dsimp only [dats]
theorem after0_82 (c : Dev nD) (t : Fin cfg0.N) : (dats m 0 c).after 82 t = square2 1 64 (load2 1 64 (iblk m c 26 t)) (iblk m c 37 t) := by dsimp only [dats]
theorem after0_83 (c : Dev nD) (t : Fin cfg0.N) : (dats m 0 c).after 83 t = square3 64 16 64 (held3 64 16 64 (iblk m c 27 t)) (iblk m c 38 t) := by dsimp only [dats]
theorem after0_84 (c : Dev nD) (t : Fin cfg0.N) : (dats m 0 c).after 84 t = square3 64 16 64 (held3 64 16 64 (iblk m c 28 t)) (iblk m c 39 t) := by dsimp only [dats]
theorem after0_85 (c : Dev nD) (t : Fin cfg0.N) : (dats m 0 c).after 85 t = square3 64 16 64 (load3 64 16 64 (iblk m c 29 t)) (iblk m c 40 t) := by dsimp only [dats]
theorem after0_86 (c : Dev nD) (t : Fin cfg0.N) : (dats m 0 c).after 86 t = square3 64 16 64 (load3 64 16 64 (iblk m c 30 t)) (iblk m c 41 t) := by dsimp only [dats]
theorem after0_87 (c : Dev nD) (t : Fin cfg0.N) : (dats m 0 c).after 87 t = square2 1 1024 (load2 1 1024 (iblk m c 31 t)) (iblk m c 42 t) := by dsimp only [dats]
theorem after0_88 (c : Dev nD) (t : Fin cfg0.N) : (dats m 0 c).after 88 t = square2 1 2048 (held2 1 2048 (iblk m c 32 t)) (iblk m c 43 t) := by dsimp only [dats]
theorem after0_89 (c : Dev nD) (t : Fin cfg0.N) : (dats m 0 c).after 89 t = sum2 1 128 (iblk m c 44 t) := by dsimp only [dats]

/-- Each input's buffer holds its block at the point. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl) (fun t => by rw [after0_14]; unfold Dat.blockOf iblk; rw [A_eq]; try rfl) t d).trans
    (by unfold Dat.fetched Dat.blockOf iblk; rw [A_eq]; try rfl)
theorem before0_15 (c : Dev nD) (t : Fin cfg0.N) (d) : (dats m 0 c).before 15 t d = iblk m c 15 t :=
  ((dats m 0 c).before_in_eq_fetched 15 rfl (fun _ => rfl) (fun _ _ _ => rfl) (fun t => by rw [after0_15]; unfold Dat.blockOf iblk; rw [A_eq]; try rfl) t d).trans
    (by unfold Dat.fetched Dat.blockOf iblk; rw [A_eq]; try rfl)
theorem before0_16 (c : Dev nD) (t : Fin cfg0.N) (d) : (dats m 0 c).before 16 t d = iblk m c 16 t :=
  ((dats m 0 c).before_in_eq_fetched 16 rfl (fun _ => rfl) (fun _ _ _ => rfl) (fun t => by rw [after0_16]; unfold Dat.blockOf iblk; rw [A_eq]; try rfl) t d).trans
    (by unfold Dat.fetched Dat.blockOf iblk; rw [A_eq]; try rfl)
theorem before0_17 (c : Dev nD) (t : Fin cfg0.N) (d) : (dats m 0 c).before 17 t d = iblk m c 17 t :=
  ((dats m 0 c).before_in_eq_fetched 17 rfl (fun _ => rfl) (fun _ _ _ => rfl) (fun t => by rw [after0_17]; unfold Dat.blockOf iblk; rw [A_eq]; try rfl) t d).trans
    (by unfold Dat.fetched Dat.blockOf iblk; rw [A_eq]; try rfl)
theorem before0_18 (c : Dev nD) (t : Fin cfg0.N) (d) : (dats m 0 c).before 18 t d = iblk m c 18 t :=
  ((dats m 0 c).before_in_eq_fetched 18 rfl (fun _ => rfl) (fun _ _ _ => rfl) (fun t => by rw [after0_18]; unfold Dat.blockOf iblk; rw [A_eq]; try rfl) t d).trans
    (by unfold Dat.fetched Dat.blockOf iblk; rw [A_eq]; try rfl)
theorem before0_19 (c : Dev nD) (t : Fin cfg0.N) (d) : (dats m 0 c).before 19 t d = iblk m c 19 t :=
  ((dats m 0 c).before_in_eq_fetched 19 rfl (fun _ => rfl) (fun _ _ _ => rfl) (fun t => by rw [after0_19]; unfold Dat.blockOf iblk; rw [A_eq]; try rfl) t d).trans
    (by unfold Dat.fetched Dat.blockOf iblk; rw [A_eq]; try rfl)
theorem before0_20 (c : Dev nD) (t : Fin cfg0.N) (d) : (dats m 0 c).before 20 t d = iblk m c 20 t :=
  ((dats m 0 c).before_in_eq_fetched 20 rfl (fun _ => rfl) (fun _ _ _ => rfl) (fun t => by rw [after0_20]; unfold Dat.blockOf iblk; rw [A_eq]; try rfl) t d).trans
    (by unfold Dat.fetched Dat.blockOf iblk; rw [A_eq]; try rfl)
theorem before0_21 (c : Dev nD) (t : Fin cfg0.N) (d) : (dats m 0 c).before 21 t d = iblk m c 21 t :=
  ((dats m 0 c).before_in_eq_fetched 21 rfl (fun _ => rfl) (fun _ _ _ => rfl) (fun t => by rw [after0_21]; unfold Dat.blockOf iblk; rw [A_eq]; try rfl) t d).trans
    (by unfold Dat.fetched Dat.blockOf iblk; rw [A_eq]; try rfl)
theorem before0_22 (c : Dev nD) (t : Fin cfg0.N) (d) : (dats m 0 c).before 22 t d = iblk m c 22 t :=
  ((dats m 0 c).before_in_eq_fetched 22 rfl (fun _ => rfl) (fun _ _ _ => rfl) (fun t => by rw [after0_22]; unfold Dat.blockOf iblk; rw [A_eq]; try rfl) t d).trans
    (by unfold Dat.fetched Dat.blockOf iblk; rw [A_eq]; try rfl)
theorem before0_23 (c : Dev nD) (t : Fin cfg0.N) (d) : (dats m 0 c).before 23 t d = iblk m c 23 t :=
  ((dats m 0 c).before_in_eq_fetched 23 rfl (fun _ => rfl) (fun _ _ _ => rfl) (fun t => by rw [after0_23]; unfold Dat.blockOf iblk; rw [A_eq]; try rfl) t d).trans
    (by unfold Dat.fetched Dat.blockOf iblk; rw [A_eq]; try rfl)
theorem before0_24 (c : Dev nD) (t : Fin cfg0.N) (d) : (dats m 0 c).before 24 t d = iblk m c 24 t :=
  ((dats m 0 c).before_in_eq_fetched 24 rfl (fun _ => rfl) (fun _ _ _ => rfl) (fun t => by rw [after0_24]; unfold Dat.blockOf iblk; rw [A_eq]; try rfl) t d).trans
    (by unfold Dat.fetched Dat.blockOf iblk; rw [A_eq]; try rfl)
theorem before0_25 (c : Dev nD) (t : Fin cfg0.N) (d) : (dats m 0 c).before 25 t d = iblk m c 25 t :=
  ((dats m 0 c).before_in_eq_fetched 25 rfl (fun _ => rfl) (fun _ _ _ => rfl) (fun t => by rw [after0_25]; unfold Dat.blockOf iblk; rw [A_eq]; try rfl) t d).trans
    (by unfold Dat.fetched Dat.blockOf iblk; rw [A_eq]; try rfl)
theorem before0_26 (c : Dev nD) (t : Fin cfg0.N) (d) : (dats m 0 c).before 26 t d = iblk m c 26 t :=
  ((dats m 0 c).before_in_eq_fetched 26 rfl (fun _ => rfl) (fun _ _ _ => rfl) (fun t => by rw [after0_26]; unfold Dat.blockOf iblk; rw [A_eq]; try rfl) t d).trans
    (by unfold Dat.fetched Dat.blockOf iblk; rw [A_eq]; try rfl)
theorem before0_27 (c : Dev nD) (t : Fin cfg0.N) (d) : (dats m 0 c).before 27 t d = iblk m c 27 t :=
  ((dats m 0 c).before_in_eq_fetched 27 rfl (fun _ => rfl) (fun _ _ _ => rfl) (fun t => by rw [after0_27]; unfold Dat.blockOf iblk; rw [A_eq]; try rfl) t d).trans
    (by unfold Dat.fetched Dat.blockOf iblk; rw [A_eq]; try rfl)
theorem before0_28 (c : Dev nD) (t : Fin cfg0.N) (d) : (dats m 0 c).before 28 t d = iblk m c 28 t :=
  ((dats m 0 c).before_in_eq_fetched 28 rfl (fun _ => rfl) (fun _ _ _ => rfl) (fun t => by rw [after0_28]; unfold Dat.blockOf iblk; rw [A_eq]; try rfl) t d).trans
    (by unfold Dat.fetched Dat.blockOf iblk; rw [A_eq]; try rfl)
theorem before0_29 (c : Dev nD) (t : Fin cfg0.N) (d) : (dats m 0 c).before 29 t d = iblk m c 29 t :=
  ((dats m 0 c).before_in_eq_fetched 29 rfl (fun _ => rfl) (fun _ _ _ => rfl) (fun t => by rw [after0_29]; unfold Dat.blockOf iblk; rw [A_eq]; try rfl) t d).trans
    (by unfold Dat.fetched Dat.blockOf iblk; rw [A_eq]; try rfl)
theorem before0_30 (c : Dev nD) (t : Fin cfg0.N) (d) : (dats m 0 c).before 30 t d = iblk m c 30 t :=
  ((dats m 0 c).before_in_eq_fetched 30 rfl (fun _ => rfl) (fun _ _ _ => rfl) (fun t => by rw [after0_30]; unfold Dat.blockOf iblk; rw [A_eq]; try rfl) t d).trans
    (by unfold Dat.fetched Dat.blockOf iblk; rw [A_eq]; try rfl)
theorem before0_31 (c : Dev nD) (t : Fin cfg0.N) (d) : (dats m 0 c).before 31 t d = iblk m c 31 t :=
  ((dats m 0 c).before_in_eq_fetched 31 rfl (fun _ => rfl) (fun _ _ _ => rfl) (fun t => by rw [after0_31]; unfold Dat.blockOf iblk; rw [A_eq]; try rfl) t d).trans
    (by unfold Dat.fetched Dat.blockOf iblk; rw [A_eq]; try rfl)
theorem before0_32 (c : Dev nD) (t : Fin cfg0.N) (d) : (dats m 0 c).before 32 t d = iblk m c 32 t :=
  ((dats m 0 c).before_in_eq_fetched 32 rfl (fun _ => rfl) (fun _ _ _ => rfl) (fun t => by rw [after0_32]; unfold Dat.blockOf iblk; rw [A_eq]; try rfl) t d).trans
    (by unfold Dat.fetched Dat.blockOf iblk; rw [A_eq]; try rfl)
theorem before0_33 (c : Dev nD) (t : Fin cfg0.N) (d) : (dats m 0 c).before 33 t d = iblk m c 33 t :=
  ((dats m 0 c).before_in_eq_fetched 33 rfl (fun _ => rfl) (fun _ _ _ => rfl) (fun t => by rw [after0_33]; unfold Dat.blockOf iblk; rw [A_eq]; try rfl) t d).trans
    (by unfold Dat.fetched Dat.blockOf iblk; rw [A_eq]; try rfl)
theorem before0_34 (c : Dev nD) (t : Fin cfg0.N) (d) : (dats m 0 c).before 34 t d = iblk m c 34 t :=
  ((dats m 0 c).before_in_eq_fetched 34 rfl (fun _ => rfl) (fun _ _ _ => rfl) (fun t => by rw [after0_34]; unfold Dat.blockOf iblk; rw [A_eq]; try rfl) t d).trans
    (by unfold Dat.fetched Dat.blockOf iblk; rw [A_eq]; try rfl)
theorem before0_35 (c : Dev nD) (t : Fin cfg0.N) (d) : (dats m 0 c).before 35 t d = iblk m c 35 t :=
  ((dats m 0 c).before_in_eq_fetched 35 rfl (fun _ => rfl) (fun _ _ _ => rfl) (fun t => by rw [after0_35]; unfold Dat.blockOf iblk; rw [A_eq]; try rfl) t d).trans
    (by unfold Dat.fetched Dat.blockOf iblk; rw [A_eq]; try rfl)
theorem before0_36 (c : Dev nD) (t : Fin cfg0.N) (d) : (dats m 0 c).before 36 t d = iblk m c 36 t :=
  ((dats m 0 c).before_in_eq_fetched 36 rfl (fun _ => rfl) (fun _ _ _ => rfl) (fun t => by rw [after0_36]; unfold Dat.blockOf iblk; rw [A_eq]; try rfl) t d).trans
    (by unfold Dat.fetched Dat.blockOf iblk; rw [A_eq]; try rfl)
theorem before0_37 (c : Dev nD) (t : Fin cfg0.N) (d) : (dats m 0 c).before 37 t d = iblk m c 37 t :=
  ((dats m 0 c).before_in_eq_fetched 37 rfl (fun _ => rfl) (fun _ _ _ => rfl) (fun t => by rw [after0_37]; unfold Dat.blockOf iblk; rw [A_eq]; try rfl) t d).trans
    (by unfold Dat.fetched Dat.blockOf iblk; rw [A_eq]; try rfl)
theorem before0_38 (c : Dev nD) (t : Fin cfg0.N) (d) : (dats m 0 c).before 38 t d = iblk m c 38 t :=
  ((dats m 0 c).before_in_eq_fetched 38 rfl (fun _ => rfl) (fun _ _ _ => rfl) (fun t => by rw [after0_38]; unfold Dat.blockOf iblk; rw [A_eq]; try rfl) t d).trans
    (by unfold Dat.fetched Dat.blockOf iblk; rw [A_eq]; try rfl)
theorem before0_39 (c : Dev nD) (t : Fin cfg0.N) (d) : (dats m 0 c).before 39 t d = iblk m c 39 t :=
  ((dats m 0 c).before_in_eq_fetched 39 rfl (fun _ => rfl) (fun _ _ _ => rfl) (fun t => by rw [after0_39]; unfold Dat.blockOf iblk; rw [A_eq]; try rfl) t d).trans
    (by unfold Dat.fetched Dat.blockOf iblk; rw [A_eq]; try rfl)
theorem before0_40 (c : Dev nD) (t : Fin cfg0.N) (d) : (dats m 0 c).before 40 t d = iblk m c 40 t :=
  ((dats m 0 c).before_in_eq_fetched 40 rfl (fun _ => rfl) (fun _ _ _ => rfl) (fun t => by rw [after0_40]; unfold Dat.blockOf iblk; rw [A_eq]; try rfl) t d).trans
    (by unfold Dat.fetched Dat.blockOf iblk; rw [A_eq]; try rfl)
theorem before0_41 (c : Dev nD) (t : Fin cfg0.N) (d) : (dats m 0 c).before 41 t d = iblk m c 41 t :=
  ((dats m 0 c).before_in_eq_fetched 41 rfl (fun _ => rfl) (fun _ _ _ => rfl) (fun t => by rw [after0_41]; unfold Dat.blockOf iblk; rw [A_eq]; try rfl) t d).trans
    (by unfold Dat.fetched Dat.blockOf iblk; rw [A_eq]; try rfl)
theorem before0_42 (c : Dev nD) (t : Fin cfg0.N) (d) : (dats m 0 c).before 42 t d = iblk m c 42 t :=
  ((dats m 0 c).before_in_eq_fetched 42 rfl (fun _ => rfl) (fun _ _ _ => rfl) (fun t => by rw [after0_42]; unfold Dat.blockOf iblk; rw [A_eq]; try rfl) t d).trans
    (by unfold Dat.fetched Dat.blockOf iblk; rw [A_eq]; try rfl)
theorem before0_43 (c : Dev nD) (t : Fin cfg0.N) (d) : (dats m 0 c).before 43 t d = iblk m c 43 t :=
  ((dats m 0 c).before_in_eq_fetched 43 rfl (fun _ => rfl) (fun _ _ _ => rfl) (fun t => by rw [after0_43]; unfold Dat.blockOf iblk; rw [A_eq]; try rfl) t d).trans
    (by unfold Dat.fetched Dat.blockOf iblk; rw [A_eq]; try rfl)
theorem before0_44 (c : Dev nD) (t : Fin cfg0.N) (d) : (dats m 0 c).before 44 t d = iblk m c 44 t :=
  ((dats m 0 c).before_in_eq_fetched 44 rfl (fun _ => rfl) (fun _ _ _ => rfl) (fun t => by rw [after0_44]; unfold Dat.blockOf iblk; rw [A_eq]; try rfl) t d).trans
    (by unfold Dat.fetched Dat.blockOf iblk; rw [A_eq]; try rfl)
end Cert.AdamSmall

end
-- ==== Proof.AdamSmallPoint.lean ====
/-
  The optimiser's step for the eleven small weights: what the body is called with and leaves, window by window.
-/
module

public import proofs.«01_k».proof.Proof.Gen.AdamRowsIdeal.Launch
public import proofs.«01_k».proof.Proof.Gen.AdamRowsIdeal.Points
public import proofs.«01_k».proof.Proof.AdamSmallData
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.AdamSmall

open Cert.AdamRowsIdeal Cert.AdamRowsIdeal.Gen Cert.AdamStep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d))
    ∗ (∃ d, owns (c : Thread nD τ) (st0_48 t) fullShare ((dats m 0 c).before 48 t d))
    ∗ (∃ d, owns (c : Thread nD τ) (st0_49 t) fullShare ((dats m 0 c).before 49 t d))
    ∗ (∃ d, owns (c : Thread nD τ) (st0_50 t) fullShare ((dats m 0 c).before 50 t d))
    ∗ (∃ d, owns (c : Thread nD τ) (st0_51 t) fullShare ((dats m 0 c).before 51 t d))
    ∗ (∃ d, owns (c : Thread nD τ) (st0_52 t) fullShare ((dats m 0 c).before 52 t d))
    ∗ (∃ d, owns (c : Thread nD τ) (st0_53 t) fullShare ((dats m 0 c).before 53 t d))
    ∗ (∃ d, owns (c : Thread nD τ) (st0_54 t) fullShare ((dats m 0 c).before 54 t d))
    ∗ (∃ d, owns (c : Thread nD τ) (st0_55 t) fullShare ((dats m 0 c).before 55 t d))
    ∗ (∃ d, owns (c : Thread nD τ) (st0_56 t) fullShare ((dats m 0 c).before 56 t d))
    ∗ (∃ d, owns (c : Thread nD τ) (st0_57 t) fullShare ((dats m 0 c).before 57 t d))
    ∗ (∃ d, owns (c : Thread nD τ) (st0_58 t) fullShare ((dats m 0 c).before 58 t d))
    ∗ (∃ d, owns (c : Thread nD τ) (st0_59 t) fullShare ((dats m 0 c).before 59 t d))
    ∗ (∃ d, owns (c : Thread nD τ) (st0_60 t) fullShare ((dats m 0 c).before 60 t d))
    ∗ (∃ d, owns (c : Thread nD τ) (st0_61 t) fullShare ((dats m 0 c).before 61 t d))
    ∗ (∃ d, owns (c : Thread nD τ) (st0_62 t) fullShare ((dats m 0 c).before 62 t d))
    ∗ (∃ d, owns (c : Thread nD τ) (st0_63 t) fullShare ((dats m 0 c).before 63 t d))
    ∗ (∃ d, owns (c : Thread nD τ) (st0_64 t) fullShare ((dats m 0 c).before 64 t d))
    ∗ (∃ d, owns (c : Thread nD τ) (st0_65 t) fullShare ((dats m 0 c).before 65 t d))
    ∗ (∃ d, owns (c : Thread nD τ) (st0_66 t) fullShare ((dats m 0 c).before 66 t d))
    ∗ (∃ d, owns (c : Thread nD τ) (st0_67 t) fullShare ((dats m 0 c).before 67 t d))
    ∗ (∃ d, owns (c : Thread nD τ) (st0_68 t) fullShare ((dats m 0 c).before 68 t d))
    ∗ (∃ d, owns (c : Thread nD τ) (st0_69 t) fullShare ((dats m 0 c).before 69 t d))
    ∗ (∃ d, owns (c : Thread nD τ) (st0_70 t) fullShare ((dats m 0 c).before 70 t d))
    ∗ (∃ d, owns (c : Thread nD τ) (st0_71 t) fullShare ((dats m 0 c).before 71 t d))
    ∗ (∃ d, owns (c : Thread nD τ) (st0_72 t) fullShare ((dats m 0 c).before 72 t d))
    ∗ (∃ d, owns (c : Thread nD τ) (st0_73 t) fullShare ((dats m 0 c).before 73 t d))
    ∗ (∃ d, owns (c : Thread nD τ) (st0_74 t) fullShare ((dats m 0 c).before 74 t d))
    ∗ (∃ d, owns (c : Thread nD τ) (st0_75 t) fullShare ((dats m 0 c).before 75 t d))
    ∗ (∃ d, owns (c : Thread nD τ) (st0_76 t) fullShare ((dats m 0 c).before 76 t d))
    ∗ (∃ d, owns (c : Thread nD τ) (st0_77 t) fullShare ((dats m 0 c).before 77 t d))
    ∗ (∃ d, owns (c : Thread nD τ) (st0_78 t) fullShare ((dats m 0 c).before 78 t d))
    ∗ (∃ d, owns (c : Thread nD τ) (st0_79 t) fullShare ((dats m 0 c).before 79 t d))
    ∗ (∃ d, owns (c : Thread nD τ) (st0_80 t) fullShare ((dats m 0 c).before 80 t d))
    ∗ (∃ d, owns (c : Thread nD τ) (st0_81 t) fullShare ((dats m 0 c).before 81 t d))
    ∗ (∃ d, owns (c : Thread nD τ) (st0_82 t) fullShare ((dats m 0 c).before 82 t d))
    ∗ (∃ d, owns (c : Thread nD τ) (st0_83 t) fullShare ((dats m 0 c).before 83 t d))
    ∗ (∃ d, owns (c : Thread nD τ) (st0_84 t) fullShare ((dats m 0 c).before 84 t d))
    ∗ (∃ d, owns (c : Thread nD τ) (st0_85 t) fullShare ((dats m 0 c).before 85 t d))
    ∗ (∃ d, owns (c : Thread nD τ) (st0_86 t) fullShare ((dats m 0 c).before 86 t d))
    ∗ (∃ d, owns (c : Thread nD τ) (st0_87 t) fullShare ((dats m 0 c).before 87 t d))
    ∗ (∃ d, owns (c : Thread nD τ) (st0_88 t) fullShare ((dats m 0 c).before 88 t d))
    ∗ (∃ d, owns (c : Thread nD τ) (st0_89 t) fullShare ((dats m 0 c).before 89 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t)
    ∗ owns (c : Thread nD τ) (st0_48 t) fullShare ((dats m 0 c).after 48 t)
    ∗ owns (c : Thread nD τ) (st0_49 t) fullShare ((dats m 0 c).after 49 t)
    ∗ owns (c : Thread nD τ) (st0_50 t) fullShare ((dats m 0 c).after 50 t)
    ∗ owns (c : Thread nD τ) (st0_51 t) fullShare ((dats m 0 c).after 51 t)
    ∗ owns (c : Thread nD τ) (st0_52 t) fullShare ((dats m 0 c).after 52 t)
    ∗ owns (c : Thread nD τ) (st0_53 t) fullShare ((dats m 0 c).after 53 t)
    ∗ owns (c : Thread nD τ) (st0_54 t) fullShare ((dats m 0 c).after 54 t)
    ∗ owns (c : Thread nD τ) (st0_55 t) fullShare ((dats m 0 c).after 55 t)
    ∗ owns (c : Thread nD τ) (st0_56 t) fullShare ((dats m 0 c).after 56 t)
    ∗ owns (c : Thread nD τ) (st0_57 t) fullShare ((dats m 0 c).after 57 t)
    ∗ owns (c : Thread nD τ) (st0_58 t) fullShare ((dats m 0 c).after 58 t)
    ∗ owns (c : Thread nD τ) (st0_59 t) fullShare ((dats m 0 c).after 59 t)
    ∗ owns (c : Thread nD τ) (st0_60 t) fullShare ((dats m 0 c).after 60 t)
    ∗ owns (c : Thread nD τ) (st0_61 t) fullShare ((dats m 0 c).after 61 t)
    ∗ owns (c : Thread nD τ) (st0_62 t) fullShare ((dats m 0 c).after 62 t)
    ∗ owns (c : Thread nD τ) (st0_63 t) fullShare ((dats m 0 c).after 63 t)
    ∗ owns (c : Thread nD τ) (st0_64 t) fullShare ((dats m 0 c).after 64 t)
    ∗ owns (c : Thread nD τ) (st0_65 t) fullShare ((dats m 0 c).after 65 t)
    ∗ owns (c : Thread nD τ) (st0_66 t) fullShare ((dats m 0 c).after 66 t)
    ∗ owns (c : Thread nD τ) (st0_67 t) fullShare ((dats m 0 c).after 67 t)
    ∗ owns (c : Thread nD τ) (st0_68 t) fullShare ((dats m 0 c).after 68 t)
    ∗ owns (c : Thread nD τ) (st0_69 t) fullShare ((dats m 0 c).after 69 t)
    ∗ owns (c : Thread nD τ) (st0_70 t) fullShare ((dats m 0 c).after 70 t)
    ∗ owns (c : Thread nD τ) (st0_71 t) fullShare ((dats m 0 c).after 71 t)
    ∗ owns (c : Thread nD τ) (st0_72 t) fullShare ((dats m 0 c).after 72 t)
    ∗ owns (c : Thread nD τ) (st0_73 t) fullShare ((dats m 0 c).after 73 t)
    ∗ owns (c : Thread nD τ) (st0_74 t) fullShare ((dats m 0 c).after 74 t)
    ∗ owns (c : Thread nD τ) (st0_75 t) fullShare ((dats m 0 c).after 75 t)
    ∗ owns (c : Thread nD τ) (st0_76 t) fullShare ((dats m 0 c).after 76 t)
    ∗ owns (c : Thread nD τ) (st0_77 t) fullShare ((dats m 0 c).after 77 t)
    ∗ owns (c : Thread nD τ) (st0_78 t) fullShare ((dats m 0 c).after 78 t)
    ∗ owns (c : Thread nD τ) (st0_79 t) fullShare ((dats m 0 c).after 79 t)
    ∗ owns (c : Thread nD τ) (st0_80 t) fullShare ((dats m 0 c).after 80 t)
    ∗ owns (c : Thread nD τ) (st0_81 t) fullShare ((dats m 0 c).after 81 t)
    ∗ owns (c : Thread nD τ) (st0_82 t) fullShare ((dats m 0 c).after 82 t)
    ∗ owns (c : Thread nD τ) (st0_83 t) fullShare ((dats m 0 c).after 83 t)
    ∗ owns (c : Thread nD τ) (st0_84 t) fullShare ((dats m 0 c).after 84 t)
    ∗ owns (c : Thread nD τ) (st0_85 t) fullShare ((dats m 0 c).after 85 t)
    ∗ owns (c : Thread nD τ) (st0_86 t) fullShare ((dats m 0 c).after 86 t)
    ∗ owns (c : Thread nD τ) (st0_87 t) fullShare ((dats m 0 c).after 87 t)
    ∗ owns (c : Thread nD τ) (st0_88 t) fullShare ((dats m 0 c).after 88 t)
    ∗ owns (c : Thread nD τ) (st0_89 t) fullShare ((dats m 0 c).after 89 t))

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

end Cert.AdamSmall

end
-- ==== Proof.AdamSmallKernel.lean ====
/-
  The optimiser's step for the eleven small weights: the one body, run over whole buffers.
-/
module

public import proofs.«01_k».proof.Proof.Gen.AdamRowsIdeal.Skeleton
public import proofs.«01_k».proof.Proof.AdamStep
public import proofs.«01_k».proof.Proof.Running
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.AdamSmall

open Cert.AdamRowsIdeal Cert.AdamRowsIdeal.Gen Cert.AdamStep Cert.Running
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole buffers: the inputs' stay as they were and each output's ends at its step of the inputs'. -/
theorem sound_kernel (c : Dev nD) (E : Set ℕ) (arg0 : Memref sig .tc .vmem S1x2048 .f32) (harg0 : arg0.IsWhole) (arg1 : Memref sig .tc .vmem S1x1024 .f32) (harg1 : arg1.IsWhole) (arg2 : Memref sig .tc .vmem S64x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x16x64 .f32) (harg5 : arg5.IsWhole) (arg6 : Memref sig .tc .vmem S64x16x64 .f32) (harg6 : arg6.IsWhole) (arg7 : Memref sig .tc .vmem S64x16x64 .f32) (harg7 : arg7.IsWhole) (arg8 : Memref sig .tc .vmem S64x16x64 .f32) (harg8 : arg8.IsWhole) (arg9 : Memref sig .tc .vmem S1x1024 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x1024 .f32) (harg12 : arg12.IsWhole) (arg13 : Memref sig .tc .vmem S64x64 .f32) (harg13 : arg13.IsWhole) (arg14 : Memref sig .tc .vmem S64x64 .f32) (harg14 : arg14.IsWhole) (arg15 : Memref sig .tc .vmem S1x64 .f32) (harg15 : arg15.IsWhole) (arg16 : Memref sig .tc .vmem S64x16x64 .f32) (harg16 : arg16.IsWhole) (arg17 : Memref sig .tc .vmem S64x16x64 .f32) (harg17 : arg17.IsWhole) (arg18 : Memref sig .tc .vmem S64x16x64 .f32) (harg18 : arg18.IsWhole) (arg19 : Memref sig .tc .vmem S64x16x64 .f32) (harg19 : arg19.IsWhole) (arg20 : Memref sig .tc .vmem S1x1024 .f32) (harg20 : arg20.IsWhole) (arg21 : Memref sig .tc .vmem S1x2048 .f32) (harg21 : arg21.IsWhole) (arg22 : Memref sig .tc .vmem S1x2048 .f32) (harg22 : arg22.IsWhole) (arg23 : Memref sig .tc .vmem S1x1024 .f32) (harg23 : arg23.IsWhole) (arg24 : Memref sig .tc .vmem S64x64 .f32) (harg24 : arg24.IsWhole) (arg25 : Memref sig .tc .vmem S64x64 .f32) (harg25 : arg25.IsWhole) (arg26 : Memref sig .tc .vmem S1x64 .f32) (harg26 : arg26.IsWhole) (arg27 : Memref sig .tc .vmem S64x16x64 .f32) (harg27 : arg27.IsWhole) (arg28 : Memref sig .tc .vmem S64x16x64 .f32) (harg28 : arg28.IsWhole) (arg29 : Memref sig .tc .vmem S64x16x64 .f32) (harg29 : arg29.IsWhole) (arg30 : Memref sig .tc .vmem S64x16x64 .f32) (harg30 : arg30.IsWhole) (arg31 : Memref sig .tc .vmem S1x1024 .f32) (harg31 : arg31.IsWhole) (arg32 : Memref sig .tc .vmem S1x2048 .f32) (harg32 : arg32.IsWhole) (arg33 : Memref sig .tc .vmem S8x1x2048 .f32) (harg33 : arg33.IsWhole) (arg34 : Memref sig .tc .vmem S8x1x1024 .f32) (harg34 : arg34.IsWhole) (arg35 : Memref sig .tc .vmem S8x64x64 .f32) (harg35 : arg35.IsWhole) (arg36 : Memref sig .tc .vmem S8x64x64 .f32) (harg36 : arg36.IsWhole) (arg37 : Memref sig .tc .vmem S8x1x64 .f32) (harg37 : arg37.IsWhole) (arg38 : Memref sig .tc .vmem S8x64x16x64 .bf16) (harg38 : arg38.IsWhole) (arg39 : Memref sig .tc .vmem S8x64x16x64 .bf16) (harg39 : arg39.IsWhole) (arg40 : Memref sig .tc .vmem S8x64x16x64 .bf16) (harg40 : arg40.IsWhole) (arg41 : Memref sig .tc .vmem S8x64x16x64 .bf16) (harg41 : arg41.IsWhole) (arg42 : Memref sig .tc .vmem S8x1x1024 .f32) (harg42 : arg42.IsWhole) (arg43 : Memref sig .tc .vmem S8x1x2048 .f32) (harg43 : arg43.IsWhole) (arg44 : Memref sig .tc .vmem S8x1x128 .f32) (harg44 : arg44.IsWhole) (arg45 : Memref sig .tc .vmem S1x2048 .f32) (harg45 : arg45.IsWhole) (arg46 : Memref sig .tc .vmem S1x1024 .f32) (harg46 : arg46.IsWhole) (arg47 : Memref sig .tc .vmem S64x64 .f32) (harg47 : arg47.IsWhole) (arg48 : Memref sig .tc .vmem S64x64 .f32) (harg48 : arg48.IsWhole) (arg49 : Memref sig .tc .vmem S1x64 .f32) (harg49 : arg49.IsWhole) (arg50 : Memref sig .tc .vmem S64x16x64 .f32) (harg50 : arg50.IsWhole) (arg51 : Memref sig .tc .vmem S64x16x64 .f32) (harg51 : arg51.IsWhole) (arg52 : Memref sig .tc .vmem S64x16x64 .f32) (harg52 : arg52.IsWhole) (arg53 : Memref sig .tc .vmem S64x16x64 .f32) (harg53 : arg53.IsWhole) (arg54 : Memref sig .tc .vmem S1x1024 .f32) (harg54 : arg54.IsWhole) (arg55 : Memref sig .tc .vmem S1x2048 .f32) (harg55 : arg55.IsWhole) (arg56 : Memref sig .tc .vmem S1x2048 .f32) (harg56 : arg56.IsWhole) (arg57 : Memref sig .tc .vmem S1x1024 .f32) (harg57 : arg57.IsWhole) (arg58 : Memref sig .tc .vmem S64x64 .f32) (harg58 : arg58.IsWhole) (arg59 : Memref sig .tc .vmem S64x64 .f32) (harg59 : arg59.IsWhole) (arg60 : Memref sig .tc .vmem S1x64 .f32) (harg60 : arg60.IsWhole) (arg61 : Memref sig .tc .vmem S64x16x64 .f32) (harg61 : arg61.IsWhole) (arg62 : Memref sig .tc .vmem S64x16x64 .f32) (harg62 : arg62.IsWhole) (arg63 : Memref sig .tc .vmem S64x16x64 .f32) (harg63 : arg63.IsWhole) (arg64 : Memref sig .tc .vmem S64x16x64 .f32) (harg64 : arg64.IsWhole) (arg65 : Memref sig .tc .vmem S1x1024 .f32) (harg65 : arg65.IsWhole) (arg66 : Memref sig .tc .vmem S1x2048 .f32) (harg66 : arg66.IsWhole) (arg67 : Memref sig .tc .vmem S1x2048 .f32) (harg67 : arg67.IsWhole) (arg68 : Memref sig .tc .vmem S1x1024 .f32) (harg68 : arg68.IsWhole) (arg69 : Memref sig .tc .vmem S64x64 .f32) (harg69 : arg69.IsWhole) (arg70 : Memref sig .tc .vmem S64x64 .f32) (harg70 : arg70.IsWhole) (arg71 : Memref sig .tc .vmem S1x64 .f32) (harg71 : arg71.IsWhole) (arg72 : Memref sig .tc .vmem S64x16x64 .f32) (harg72 : arg72.IsWhole) (arg73 : Memref sig .tc .vmem S64x16x64 .f32) (harg73 : arg73.IsWhole) (arg74 : Memref sig .tc .vmem S64x16x64 .f32) (harg74 : arg74.IsWhole) (arg75 : Memref sig .tc .vmem S64x16x64 .f32) (harg75 : arg75.IsWhole) (arg76 : Memref sig .tc .vmem S1x1024 .f32) (harg76 : arg76.IsWhole) (arg77 : Memref sig .tc .vmem S1x2048 .f32) (harg77 : arg77.IsWhole) (arg78 : Memref sig .tc .vmem S1x2048 .f32) (harg78 : arg78.IsWhole) (arg79 : Memref sig .tc .vmem S1x1024 .f32) (harg79 : arg79.IsWhole) (arg80 : Memref sig .tc .vmem S64x64 .f32) (harg80 : arg80.IsWhole) (arg81 : Memref sig .tc .vmem S64x64 .f32) (harg81 : arg81.IsWhole) (arg82 : Memref sig .tc .vmem S1x64 .f32) (harg82 : arg82.IsWhole) (arg83 : Memref sig .tc .vmem S64x16x64 .f32) (harg83 : arg83.IsWhole) (arg84 : Memref sig .tc .vmem S64x16x64 .f32) (harg84 : arg84.IsWhole) (arg85 : Memref sig .tc .vmem S64x16x64 .f32) (harg85 : arg85.IsWhole) (arg86 : Memref sig .tc .vmem S64x16x64 .f32) (harg86 : arg86.IsWhole) (arg87 : Memref sig .tc .vmem S1x1024 .f32) (harg87 : arg87.IsWhole) (arg88 : Memref sig .tc .vmem S1x2048 .f32) (harg88 : arg88.IsWhole) (arg89 : Memref sig .tc .vmem S1x128 .f32) (harg89 : arg89.IsWhole)
    (x0 : Vec F S1x2048 .f32) (x1 : Vec F S1x1024 .f32) (x2 : Vec F S64x64 .f32) (x3 : Vec F S64x64 .f32) (x4 : Vec F S1x64 .f32) (x5 : Vec F S64x16x64 .f32) (x6 : Vec F S64x16x64 .f32) (x7 : Vec F S64x16x64 .f32) (x8 : Vec F S64x16x64 .f32) (x9 : Vec F S1x1024 .f32) (x10 : Vec F S1x2048 .f32) (x11 : Vec F S1x2048 .f32) (x12 : Vec F S1x1024 .f32) (x13 : Vec F S64x64 .f32) (x14 : Vec F S64x64 .f32) (x15 : Vec F S1x64 .f32) (x16 : Vec F S64x16x64 .f32) (x17 : Vec F S64x16x64 .f32) (x18 : Vec F S64x16x64 .f32) (x19 : Vec F S64x16x64 .f32) (x20 : Vec F S1x1024 .f32) (x21 : Vec F S1x2048 .f32) (x22 : Vec F S1x2048 .f32) (x23 : Vec F S1x1024 .f32) (x24 : Vec F S64x64 .f32) (x25 : Vec F S64x64 .f32) (x26 : Vec F S1x64 .f32) (x27 : Vec F S64x16x64 .f32) (x28 : Vec F S64x16x64 .f32) (x29 : Vec F S64x16x64 .f32) (x30 : Vec F S64x16x64 .f32) (x31 : Vec F S1x1024 .f32) (x32 : Vec F S1x2048 .f32) (x33 : Vec F S8x1x2048 .f32) (x34 : Vec F S8x1x1024 .f32) (x35 : Vec F S8x64x64 .f32) (x36 : Vec F S8x64x64 .f32) (x37 : Vec F S8x1x64 .f32) (x38 : Vec F S8x64x16x64 .bf16) (x39 : Vec F S8x64x16x64 .bf16) (x40 : Vec F S8x64x16x64 .bf16) (x41 : Vec F S8x64x16x64 .bf16) (x42 : Vec F S8x1x1024 .f32) (x43 : Vec F S8x1x2048 .f32) (x44 : Vec F S8x1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ owns (c : Thread nD τ) arg39 fullShare x39 ∗ owns (c : Thread nD τ) arg40 fullShare x40 ∗ owns (c : Thread nD τ) arg41 fullShare x41 ∗ owns (c : Thread nD τ) arg42 fullShare x42 ∗ owns (c : Thread nD τ) arg43 fullShare x43 ∗ owns (c : Thread nD τ) arg44 fullShare x44 ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d) ∗ (∃ d, owns (c : Thread nD τ) arg54 fullShare d) ∗ (∃ d, owns (c : Thread nD τ) arg55 fullShare d) ∗ (∃ d, owns (c : Thread nD τ) arg56 fullShare d) ∗ (∃ d, owns (c : Thread nD τ) arg57 fullShare d) ∗ (∃ d, owns (c : Thread nD τ) arg58 fullShare d) ∗ (∃ d, owns (c : Thread nD τ) arg59 fullShare d) ∗ (∃ d, owns (c : Thread nD τ) arg60 fullShare d) ∗ (∃ d, owns (c : Thread nD τ) arg61 fullShare d) ∗ (∃ d, owns (c : Thread nD τ) arg62 fullShare d) ∗ (∃ d, owns (c : Thread nD τ) arg63 fullShare d) ∗ (∃ d, owns (c : Thread nD τ) arg64 fullShare d) ∗ (∃ d, owns (c : Thread nD τ) arg65 fullShare d) ∗ (∃ d, owns (c : Thread nD τ) arg66 fullShare d) ∗ (∃ d, owns (c : Thread nD τ) arg67 fullShare d) ∗ (∃ d, owns (c : Thread nD τ) arg68 fullShare d) ∗ (∃ d, owns (c : Thread nD τ) arg69 fullShare d) ∗ (∃ d, owns (c : Thread nD τ) arg70 fullShare d) ∗ (∃ d, owns (c : Thread nD τ) arg71 fullShare d) ∗ (∃ d, owns (c : Thread nD τ) arg72 fullShare d) ∗ (∃ d, owns (c : Thread nD τ) arg73 fullShare d) ∗ (∃ d, owns (c : Thread nD τ) arg74 fullShare d) ∗ (∃ d, owns (c : Thread nD τ) arg75 fullShare d) ∗ (∃ d, owns (c : Thread nD τ) arg76 fullShare d) ∗ (∃ d, owns (c : Thread nD τ) arg77 fullShare d) ∗ (∃ d, owns (c : Thread nD τ) arg78 fullShare d) ∗ (∃ d, owns (c : Thread nD τ) arg79 fullShare d) ∗ (∃ d, owns (c : Thread nD τ) arg80 fullShare d) ∗ (∃ d, owns (c : Thread nD τ) arg81 fullShare d) ∗ (∃ d, owns (c : Thread nD τ) arg82 fullShare d) ∗ (∃ d, owns (c : Thread nD τ) arg83 fullShare d) ∗ (∃ d, owns (c : Thread nD τ) arg84 fullShare d) ∗ (∃ d, owns (c : Thread nD τ) arg85 fullShare d) ∗ (∃ d, owns (c : Thread nD τ) arg86 fullShare d) ∗ (∃ d, owns (c : Thread nD τ) arg87 fullShare d) ∗ (∃ d, owns (c : Thread nD τ) arg88 fullShare d) ∗ (∃ d, owns (c : Thread nD τ) arg89 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ owns (c : Thread nD τ) arg39 fullShare x39 ∗ owns (c : Thread nD τ) arg40 fullShare x40 ∗ owns (c : Thread nD τ) arg41 fullShare x41 ∗ owns (c : Thread nD τ) arg42 fullShare x42 ∗ owns (c : Thread nD τ) arg43 fullShare x43 ∗ owns (c : Thread nD τ) arg44 fullShare x44 ∗ owns (c : Thread nD τ) arg45 fullShare (sum2 1 2048 x33) ∗ owns (c : Thread nD τ) arg46 fullShare (sum2 1 1024 x34) ∗ owns (c : Thread nD τ) arg47 fullShare (sum2 64 64 x35) ∗ owns (c : Thread nD τ) arg48 fullShare (sum2 64 64 x36) ∗ owns (c : Thread nD τ) arg49 fullShare (sum2 1 64 x37) ∗ owns (c : Thread nD τ) arg50 fullShare (sum3 64 16 64 x38) ∗ owns (c : Thread nD τ) arg51 fullShare (sum3 64 16 64 x39) ∗ owns (c : Thread nD τ) arg52 fullShare (sum3 64 16 64 x40) ∗ owns (c : Thread nD τ) arg53 fullShare (sum3 64 16 64 x41) ∗ owns (c : Thread nD τ) arg54 fullShare (sum2 1 1024 x42) ∗ owns (c : Thread nD τ) arg55 fullShare (sum2 1 2048 x43) ∗ owns (c : Thread nD τ) arg56 fullShare (change2 1 2048 (load2 1 2048 x0) (load2 1 2048 x11) (load2 1 2048 x22) x33) ∗ owns (c : Thread nD τ) arg57 fullShare (change2 1 1024 (load2 1 1024 x1) (load2 1 1024 x12) (load2 1 1024 x23) x34) ∗ owns (c : Thread nD τ) arg58 fullShare (change2 64 64 (load2 64 64 x2) (load2 64 64 x13) (load2 64 64 x24) x35) ∗ owns (c : Thread nD τ) arg59 fullShare (change2 64 64 (load2 64 64 x3) (load2 64 64 x14) (load2 64 64 x25) x36) ∗ owns (c : Thread nD τ) arg60 fullShare (change2 1 64 (load2 1 64 x4) (load2 1 64 x15) (load2 1 64 x26) x37) ∗ owns (c : Thread nD τ) arg61 fullShare (change3 64 16 64 (held3 64 16 64 x5) (held3 64 16 64 x16) (held3 64 16 64 x27) x38) ∗ owns (c : Thread nD τ) arg62 fullShare (change3 64 16 64 (held3 64 16 64 x6) (held3 64 16 64 x17) (held3 64 16 64 x28) x39) ∗ owns (c : Thread nD τ) arg63 fullShare (change3 64 16 64 (load3 64 16 64 x7) (load3 64 16 64 x18) (load3 64 16 64 x29) x40) ∗ owns (c : Thread nD τ) arg64 fullShare (change3 64 16 64 (load3 64 16 64 x8) (load3 64 16 64 x19) (load3 64 16 64 x30) x41) ∗ owns (c : Thread nD τ) arg65 fullShare (change2 1 1024 (load2 1 1024 x9) (load2 1 1024 x20) (load2 1 1024 x31) x42) ∗ owns (c : Thread nD τ) arg66 fullShare (change2 1 2048 (held2 1 2048 x10) (held2 1 2048 x21) (held2 1 2048 x32) x43) ∗ owns (c : Thread nD τ) arg67 fullShare (mean2 1 2048 (load2 1 2048 x11) x33) ∗ owns (c : Thread nD τ) arg68 fullShare (mean2 1 1024 (load2 1 1024 x12) x34) ∗ owns (c : Thread nD τ) arg69 fullShare (mean2 64 64 (load2 64 64 x13) x35) ∗ owns (c : Thread nD τ) arg70 fullShare (mean2 64 64 (load2 64 64 x14) x36) ∗ owns (c : Thread nD τ) arg71 fullShare (mean2 1 64 (load2 1 64 x15) x37) ∗ owns (c : Thread nD τ) arg72 fullShare (mean3 64 16 64 (held3 64 16 64 x16) x38) ∗ owns (c : Thread nD τ) arg73 fullShare (mean3 64 16 64 (held3 64 16 64 x17) x39) ∗ owns (c : Thread nD τ) arg74 fullShare (mean3 64 16 64 (load3 64 16 64 x18) x40) ∗ owns (c : Thread nD τ) arg75 fullShare (mean3 64 16 64 (load3 64 16 64 x19) x41) ∗ owns (c : Thread nD τ) arg76 fullShare (mean2 1 1024 (load2 1 1024 x20) x42) ∗ owns (c : Thread nD τ) arg77 fullShare (mean2 1 2048 (held2 1 2048 x21) x43) ∗ owns (c : Thread nD τ) arg78 fullShare (square2 1 2048 (load2 1 2048 x22) x33) ∗ owns (c : Thread nD τ) arg79 fullShare (square2 1 1024 (load2 1 1024 x23) x34) ∗ owns (c : Thread nD τ) arg80 fullShare (square2 64 64 (load2 64 64 x24) x35) ∗ owns (c : Thread nD τ) arg81 fullShare (square2 64 64 (load2 64 64 x25) x36) ∗ owns (c : Thread nD τ) arg82 fullShare (square2 1 64 (load2 1 64 x26) x37) ∗ owns (c : Thread nD τ) arg83 fullShare (square3 64 16 64 (held3 64 16 64 x27) x38) ∗ owns (c : Thread nD τ) arg84 fullShare (square3 64 16 64 (held3 64 16 64 x28) x39) ∗ owns (c : Thread nD τ) arg85 fullShare (square3 64 16 64 (load3 64 16 64 x29) x40) ∗ owns (c : Thread nD τ) arg86 fullShare (square3 64 16 64 (load3 64 16 64 x30) x41) ∗ owns (c : Thread nD τ) arg87 fullShare (square2 1 1024 (load2 1 1024 x31) x42) ∗ owns (c : Thread nD τ) arg88 fullShare (square2 1 2048 (held2 1 2048 x32) x43) ∗ owns (c : Thread nD τ) arg89 fullShare (sum2 1 128 x44)) -∗ K ⟨⟩))
      ⊢ wp frame (wpE (defs₀ (F := F)) Variants.none c none) E (cc0_adamw_small arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 arg73 harg73 arg74 harg74 arg75 harg75 arg76 harg76 arg77 harg77 arg78 harg78 arg79 harg79 arg80 harg80 arg81 harg81 arg82 harg82 arg83 harg83 arg84 harg84 arg85 harg85 arg86 harg86 arg87 harg87 arg88 harg88 arg89 harg89) K := by
  simp only [cc0_adamw_small_eq_skeleton]; unfold cc0_adamw_small_skel
  simp only [k0_part22_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩, ⟨%f40, %hf40, H40⟩, ⟨%f41, %hf41, H41⟩, ⟨%f42, %hf42, H42⟩, ⟨%f43, %hf43, H43⟩, ⟨%f44, %hf44, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩, ⟨%d56, %f56, -, H56⟩, ⟨%d57, %f57, -, H57⟩, ⟨%d58, %f58, -, H58⟩, ⟨%d59, %f59, -, H59⟩, ⟨%d60, %f60, -, H60⟩, ⟨%d61, %f61, -, H61⟩, ⟨%d62, %f62, -, H62⟩, ⟨%d63, %f63, -, H63⟩, ⟨%d64, %f64, -, H64⟩, ⟨%d65, %f65, -, H65⟩, ⟨%d66, %f66, -, H66⟩, ⟨%d67, %f67, -, H67⟩, ⟨%d68, %f68, -, H68⟩, ⟨%d69, %f69, -, H69⟩, ⟨%d70, %f70, -, H70⟩, ⟨%d71, %f71, -, H71⟩, ⟨%d72, %f72, -, H72⟩, ⟨%d73, %f73, -, H73⟩, ⟨%d74, %f74, -, H74⟩, ⟨%d75, %f75, -, H75⟩, ⟨%d76, %f76, -, H76⟩, ⟨%d77, %f77, -, H77⟩, ⟨%d78, %f78, -, H78⟩, ⟨%d79, %f79, -, H79⟩, ⟨%d80, %f80, -, H80⟩, ⟨%d81, %f81, -, H81⟩, ⟨%d82, %f82, -, H82⟩, ⟨%d83, %f83, -, H83⟩, ⟨%d84, %f84, -, H84⟩, ⟨%d85, %f85, -, H85⟩, ⟨%d86, %f86, -, H86⟩, ⟨%d87, %f87, -, H87⟩, ⟨%d88, %f88, -, H88⟩, ⟨%d89, %f89, -, H89⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34 hf35 hf36 hf37 hf38 hf39 hf40 hf41 hf42 hf43 hf44
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  isplitl [H35]
  · iexists f35; isplitr; · ipureintro; rfl
    iexact H35
  isplitl [H36]
  · iexists f36; isplitr; · ipureintro; rfl
    iexact H36
  isplitl [H37]
  · iexists f37; isplitr; · ipureintro; rfl
    iexact H37
  isplitl [H38]
  · iexists f38; isplitr; · ipureintro; rfl
    iexact H38
  isplitl [H39]
  · iexists f39; isplitr; · ipureintro; rfl
    iexact H39
  isplitl [H40]
  · iexists f40; isplitr; · ipureintro; rfl
    iexact H40
  isplitl [H41]
  · iexists f41; isplitr; · ipureintro; rfl
    iexact H41
  isplitl [H42]
  · iexists f42; isplitr; · ipureintro; rfl
    iexact H42
  isplitl [H43]
  · iexists f43; isplitr; · ipureintro; rfl
    iexact H43
  isplitl [H44]
  · iexists f44; isplitr; · ipureintro; rfl
    iexact H44
  isplitl [H45]
  · iexists _; isplitr
    swap; · iexact H45
    ipureintro
    refine (written _ _ hz2 _ _).trans ?_
    rfl
  isplitl [H46]
  · iexists _; isplitr
    swap; · iexact H46
    ipureintro
    refine (written _ _ hz2 _ _).trans ?_
    rfl
  isplitl [H47]
  · iexists _; isplitr
    swap; · iexact H47
    ipureintro
    refine (written _ _ hz2 _ _).trans ?_
    rfl
  isplitl [H48]
  · iexists _; isplitr
    swap; · iexact H48
    ipureintro
    refine (written _ _ hz2 _ _).trans ?_
    rfl
  isplitl [H49]
  · iexists _; isplitr
    swap; · iexact H49
    ipureintro
    refine (written _ _ hz2 _ _).trans ?_
    rfl
  isplitl [H50]
  · iexists _; isplitr
    swap; · iexact H50
    ipureintro
    refine (written _ _ hz3 _ _).trans ?_
    rfl
  isplitl [H51]
  · iexists _; isplitr
    swap; · iexact H51
    ipureintro
    refine (written _ _ hz3 _ _).trans ?_
    rfl
  isplitl [H52]
  · iexists _; isplitr
    swap; · iexact H52
    ipureintro
    refine (written _ _ hz3 _ _).trans ?_
    rfl
  isplitl [H53]
  · iexists _; isplitr
    swap; · iexact H53
    ipureintro
    refine (written _ _ hz3 _ _).trans ?_
    rfl
  isplitl [H54]
  · iexists _; isplitr
    swap; · iexact H54
    ipureintro
    refine (written _ _ hz2 _ _).trans ?_
    rfl
  isplitl [H55]
  · iexists _; isplitr
    swap; · iexact H55
    ipureintro
    refine (written _ _ hz2 _ _).trans ?_
    rfl
  isplitl [H56]
  · iexists _; isplitr
    swap; · iexact H56
    ipureintro
    refine (written _ _ hz2 _ _).trans ?_
    rfl
  isplitl [H57]
  · iexists _; isplitr
    swap; · iexact H57
    ipureintro
    refine (written _ _ hz2 _ _).trans ?_
    rfl
  isplitl [H58]
  · iexists _; isplitr
    swap; · iexact H58
    ipureintro
    refine (written _ _ hz2 _ _).trans ?_
    rfl
  isplitl [H59]
  · iexists _; isplitr
    swap; · iexact H59
    ipureintro
    refine (written _ _ hz2 _ _).trans ?_
    rfl
  isplitl [H60]
  · iexists _; isplitr
    swap; · iexact H60
    ipureintro
    refine (written _ _ hz2 _ _).trans ?_
    rfl
  isplitl [H61]
  · iexists _; isplitr
    swap; · iexact H61
    ipureintro
    refine (written _ _ hz3 _ _).trans ?_
    rfl
  isplitl [H62]
  · iexists _; isplitr
    swap; · iexact H62
    ipureintro
    refine (written _ _ hz3 _ _).trans ?_
    rfl
  isplitl [H63]
  · iexists _; isplitr
    swap; · iexact H63
    ipureintro
    refine (written _ _ hz3 _ _).trans ?_
    rfl
  isplitl [H64]
  · iexists _; isplitr
    swap; · iexact H64
    ipureintro
    refine (written _ _ hz3 _ _).trans ?_
    rfl
  isplitl [H65]
  · iexists _; isplitr
    swap; · iexact H65
    ipureintro
    refine (written _ _ hz2 _ _).trans ?_
    rfl
  isplitl [H66]
  · iexists _; isplitr
    swap; · iexact H66
    ipureintro
    refine (written _ _ hz2 _ _).trans ?_
    rfl
  isplitl [H67]
  · iexists _; isplitr
    swap; · iexact H67
    ipureintro
    refine (written _ _ hz2 _ _).trans ?_
    rfl
  isplitl [H68]
  · iexists _; isplitr
    swap; · iexact H68
    ipureintro
    refine (written _ _ hz2 _ _).trans ?_
    rfl
  isplitl [H69]
  · iexists _; isplitr
    swap; · iexact H69
    ipureintro
    refine (written _ _ hz2 _ _).trans ?_
    rfl
  isplitl [H70]
  · iexists _; isplitr
    swap; · iexact H70
    ipureintro
    refine (written _ _ hz2 _ _).trans ?_
    rfl
  isplitl [H71]
  · iexists _; isplitr
    swap; · iexact H71
    ipureintro
    refine (written _ _ hz2 _ _).trans ?_
    rfl
  isplitl [H72]
  · iexists _; isplitr
    swap; · iexact H72
    ipureintro
    refine (written _ _ hz3 _ _).trans ?_
    rfl
  isplitl [H73]
  · iexists _; isplitr
    swap; · iexact H73
    ipureintro
    refine (written _ _ hz3 _ _).trans ?_
    rfl
  isplitl [H74]
  · iexists _; isplitr
    swap; · iexact H74
    ipureintro
    refine (written _ _ hz3 _ _).trans ?_
    rfl
  isplitl [H75]
  · iexists _; isplitr
    swap; · iexact H75
    ipureintro
    refine (written _ _ hz3 _ _).trans ?_
    rfl
  isplitl [H76]
  · iexists _; isplitr
    swap; · iexact H76
    ipureintro
    refine (written _ _ hz2 _ _).trans ?_
    rfl
  isplitl [H77]
  · iexists _; isplitr
    swap; · iexact H77
    ipureintro
    refine (written _ _ hz2 _ _).trans ?_
    rfl
  isplitl [H78]
  · iexists _; isplitr
    swap; · iexact H78
    ipureintro
    refine (written _ _ hz2 _ _).trans ?_
    rfl
  isplitl [H79]
  · iexists _; isplitr
    swap; · iexact H79
    ipureintro
    refine (written _ _ hz2 _ _).trans ?_
    rfl
  isplitl [H80]
  · iexists _; isplitr
    swap; · iexact H80
    ipureintro
    refine (written _ _ hz2 _ _).trans ?_
    rfl
  isplitl [H81]
  · iexists _; isplitr
    swap; · iexact H81
    ipureintro
    refine (written _ _ hz2 _ _).trans ?_
    rfl
  isplitl [H82]
  · iexists _; isplitr
    swap; · iexact H82
    ipureintro
    refine (written _ _ hz2 _ _).trans ?_
    rfl
  isplitl [H83]
  · iexists _; isplitr
    swap; · iexact H83
    ipureintro
    refine (written _ _ hz3 _ _).trans ?_
    rfl
  isplitl [H84]
  · iexists _; isplitr
    swap; · iexact H84
    ipureintro
    refine (written _ _ hz3 _ _).trans ?_
    rfl
  isplitl [H85]
  · iexists _; isplitr
    swap; · iexact H85
    ipureintro
    refine (written _ _ hz3 _ _).trans ?_
    rfl
  isplitl [H86]
  · iexists _; isplitr
    swap; · iexact H86
    ipureintro
    refine (written _ _ hz3 _ _).trans ?_
    rfl
  isplitl [H87]
  · iexists _; isplitr
    swap; · iexact H87
    ipureintro
    refine (written _ _ hz2 _ _).trans ?_
    rfl
  isplitl [H88]
  · iexists _; isplitr
    swap; · iexact H88
    ipureintro
    refine (written _ _ hz2 _ _).trans ?_
    rfl
  iexists _; isplitr
  swap; · iexact H89
  ipureintro
  refine (written _ _ hz2 _ _).trans ?_
  rfl

end Cert.AdamSmall

end
-- ==== Proof.AdamSmallBody.lean ====
/-
  The optimiser's step for the eleven small weights: the body at its point.
-/
module

public import proofs.«01_k».proof.Proof.Gen.AdamRowsIdeal.Launch
public import proofs.«01_k».proof.Proof.Gen.AdamRowsIdeal.Points
public import proofs.«01_k».proof.Proof.AdamSmallPoint
public import proofs.«01_k».proof.Proof.AdamSmallKernel
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.AdamSmall

open Cert.AdamRowsIdeal Cert.AdamRowsIdeal.Gen Cert.AdamStep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35, before0_36, before0_37, before0_38, before0_39, before0_40, before0_41, before0_42, before0_43, before0_44]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42, after0_43, after0_44, after0_45, after0_46, after0_47, after0_48, after0_49, after0_50, after0_51, after0_52, after0_53, after0_54, after0_55, after0_56, after0_57, after0_58, after0_59, after0_60, after0_61, after0_62, after0_63, after0_64, after0_65, after0_66, after0_67, after0_68, after0_69, after0_70, after0_71, after0_72, after0_73, after0_74, after0_75, after0_76, after0_77, after0_78, after0_79, after0_80, after0_81, after0_82, after0_83, after0_84, after0_85, after0_86, after0_87, after0_88, after0_89]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩, ⟨%d60, H60⟩, ⟨%d61, H61⟩, ⟨%d62, H62⟩, ⟨%d63, H63⟩, ⟨%d64, H64⟩, ⟨%d65, H65⟩, ⟨%d66, H66⟩, ⟨%d67, H67⟩, ⟨%d68, H68⟩, ⟨%d69, H69⟩, ⟨%d70, H70⟩, ⟨%d71, H71⟩, ⟨%d72, H72⟩, ⟨%d73, H73⟩, ⟨%d74, H74⟩, ⟨%d75, H75⟩, ⟨%d76, H76⟩, ⟨%d77, H77⟩, ⟨%d78, H78⟩, ⟨%d79, H79⟩, ⟨%d80, H80⟩, ⟨%d81, H81⟩, ⟨%d82, H82⟩, ⟨%d83, H83⟩, ⟨%d84, H84⟩, ⟨%d85, H85⟩, ⟨%d86, H86⟩, ⟨%d87, H87⟩, ⟨%d88, H88⟩, ⟨%d89, H89⟩⟩
  iapply (AdamSmall.sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t) (iblk m c 41 t) (iblk m c 42 t) (iblk m c 43 t) (iblk m c 44 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  isplitl [H59]; · iexists _; iexact H59
  isplitl [H60]; · iexists _; iexact H60
  isplitl [H61]; · iexists _; iexact H61
  isplitl [H62]; · iexists _; iexact H62
  isplitl [H63]; · iexists _; iexact H63
  isplitl [H64]; · iexists _; iexact H64
  isplitl [H65]; · iexists _; iexact H65
  isplitl [H66]; · iexists _; iexact H66
  isplitl [H67]; · iexists _; iexact H67
  isplitl [H68]; · iexists _; iexact H68
  isplitl [H69]; · iexists _; iexact H69
  isplitl [H70]; · iexists _; iexact H70
  isplitl [H71]; · iexists _; iexact H71
  isplitl [H72]; · iexists _; iexact H72
  isplitl [H73]; · iexists _; iexact H73
  isplitl [H74]; · iexists _; iexact H74
  isplitl [H75]; · iexists _; iexact H75
  isplitl [H76]; · iexists _; iexact H76
  isplitl [H77]; · iexists _; iexact H77
  isplitl [H78]; · iexists _; iexact H78
  isplitl [H79]; · iexists _; iexact H79
  isplitl [H80]; · iexists _; iexact H80
  isplitl [H81]; · iexists _; iexact H81
  isplitl [H82]; · iexists _; iexact H82
  isplitl [H83]; · iexists _; iexact H83
  isplitl [H84]; · iexists _; iexact H84
  isplitl [H85]; · iexists _; iexact H85
  isplitl [H86]; · iexists _; iexact H86
  isplitl [H87]; · iexists _; iexact H87
  isplitl [H88]; · iexists _; iexact H88
  isplitl [H89]; · iexists _; iexact H89
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, H66, H67, H68, H69, H70, H71, H72, H73, H74, H75, H76, H77, H78, H79, H80, H81, H82, H83, H84, H85, H86, H87, H88, H89⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  isplitl [H62]; · iexact H62
  isplitl [H63]; · iexact H63
  isplitl [H64]; · iexact H64
  isplitl [H65]; · iexact H65
  isplitl [H66]; · iexact H66
  isplitl [H67]; · iexact H67
  isplitl [H68]; · iexact H68
  isplitl [H69]; · iexact H69
  isplitl [H70]; · iexact H70
  isplitl [H71]; · iexact H71
  isplitl [H72]; · iexact H72
  isplitl [H73]; · iexact H73
  isplitl [H74]; · iexact H74
  isplitl [H75]; · iexact H75
  isplitl [H76]; · iexact H76
  isplitl [H77]; · iexact H77
  isplitl [H78]; · iexact H78
  isplitl [H79]; · iexact H79
  isplitl [H80]; · iexact H80
  isplitl [H81]; · iexact H81
  isplitl [H82]; · iexact H82
  isplitl [H83]; · iexact H83
  isplitl [H84]; · iexact H84
  isplitl [H85]; · iexact H85
  isplitl [H86]; · iexact H86
  isplitl [H87]; · iexact H87
  isplitl [H88]; · iexact H88
  iexact H89

end Cert.AdamSmall

end
-- ==== Proof.AdamSmallFrame.lean ====
/-
  The optimiser's step for the eleven small weights: the run of the one call, at any values.
-/
module

public import proofs.«01_k».proof.Proof.Gen.AdamRowsIdeal.Launch
public import proofs.«01_k».proof.Proof.Gen.AdamRowsIdeal.Points
public import proofs.«01_k».proof.Proof.AdamSmallBody
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.AdamSmall

open Cert.AdamRowsIdeal Cert.AdamRowsIdeal.Gen Cert.AdamStep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 12000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  beta_reduce
  unfold bodyPost
  exact .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

end Cert.AdamSmall

end
-- ==== Proof.AdamSmallRun.lean ====
/-
  The optimiser's step for the eleven small weights: the run keeps its arguments.
-/
module

public import proofs.«01_k».proof.Defs
public import proofs.«01_k».proof.Proof.AdamSmallFrame

@[expose] public section

set_option maxRecDepth 16384

noncomputable section

namespace Cert.AdamSmall

open Idealize.ShloMosaic Idealize.ShloMosaic.TcCoe Idealize.SL.Sem

section Run
open Cert.AdamRowsIdeal Cert.AdamRowsIdeal.Gen

variable {F : FTy → Type} [FloatOps F] (m : (ℓ : Loc nD τ sig) → Buf (Elt F) ℓ)

/-- The arguments are as launched. -/
def Kept (M : (ℓ : Loc nD τ sig) → Buf (Elt F) ℓ) (c : Dev nD) : Prop :=
  M ((c.tc : Thread nD τ).loc main_arg0) = m ((c.tc : Thread nD τ).loc main_arg0)
    ∧ M ((c.tc : Thread nD τ).loc main_arg1) = m ((c.tc : Thread nD τ).loc main_arg1)
    ∧ M ((c.tc : Thread nD τ).loc main_arg2) = m ((c.tc : Thread nD τ).loc main_arg2)
    ∧ M ((c.tc : Thread nD τ).loc main_arg3) = m ((c.tc : Thread nD τ).loc main_arg3)
    ∧ M ((c.tc : Thread nD τ).loc main_arg4) = m ((c.tc : Thread nD τ).loc main_arg4)
    ∧ M ((c.tc : Thread nD τ).loc main_arg5) = m ((c.tc : Thread nD τ).loc main_arg5)
    ∧ M ((c.tc : Thread nD τ).loc main_arg6) = m ((c.tc : Thread nD τ).loc main_arg6)
    ∧ M ((c.tc : Thread nD τ).loc main_arg7) = m ((c.tc : Thread nD τ).loc main_arg7)
    ∧ M ((c.tc : Thread nD τ).loc main_arg8) = m ((c.tc : Thread nD τ).loc main_arg8)
    ∧ M ((c.tc : Thread nD τ).loc main_arg9) = m ((c.tc : Thread nD τ).loc main_arg9)
    ∧ M ((c.tc : Thread nD τ).loc main_arg10) = m ((c.tc : Thread nD τ).loc main_arg10)
    ∧ M ((c.tc : Thread nD τ).loc main_arg11) = m ((c.tc : Thread nD τ).loc main_arg11)
    ∧ M ((c.tc : Thread nD τ).loc main_arg12) = m ((c.tc : Thread nD τ).loc main_arg12)
    ∧ M ((c.tc : Thread nD τ).loc main_arg13) = m ((c.tc : Thread nD τ).loc main_arg13)
    ∧ M ((c.tc : Thread nD τ).loc main_arg14) = m ((c.tc : Thread nD τ).loc main_arg14)
    ∧ M ((c.tc : Thread nD τ).loc main_arg15) = m ((c.tc : Thread nD τ).loc main_arg15)
    ∧ M ((c.tc : Thread nD τ).loc main_arg16) = m ((c.tc : Thread nD τ).loc main_arg16)
    ∧ M ((c.tc : Thread nD τ).loc main_arg17) = m ((c.tc : Thread nD τ).loc main_arg17)
    ∧ M ((c.tc : Thread nD τ).loc main_arg18) = m ((c.tc : Thread nD τ).loc main_arg18)
    ∧ M ((c.tc : Thread nD τ).loc main_arg19) = m ((c.tc : Thread nD τ).loc main_arg19)
    ∧ M ((c.tc : Thread nD τ).loc main_arg20) = m ((c.tc : Thread nD τ).loc main_arg20)
    ∧ M ((c.tc : Thread nD τ).loc main_arg21) = m ((c.tc : Thread nD τ).loc main_arg21)
    ∧ M ((c.tc : Thread nD τ).loc main_arg22) = m ((c.tc : Thread nD τ).loc main_arg22)
    ∧ M ((c.tc : Thread nD τ).loc main_arg23) = m ((c.tc : Thread nD τ).loc main_arg23)
    ∧ M ((c.tc : Thread nD τ).loc main_arg24) = m ((c.tc : Thread nD τ).loc main_arg24)
    ∧ M ((c.tc : Thread nD τ).loc main_arg25) = m ((c.tc : Thread nD τ).loc main_arg25)
    ∧ M ((c.tc : Thread nD τ).loc main_arg26) = m ((c.tc : Thread nD τ).loc main_arg26)
    ∧ M ((c.tc : Thread nD τ).loc main_arg27) = m ((c.tc : Thread nD τ).loc main_arg27)
    ∧ M ((c.tc : Thread nD τ).loc main_arg28) = m ((c.tc : Thread nD τ).loc main_arg28)
    ∧ M ((c.tc : Thread nD τ).loc main_arg29) = m ((c.tc : Thread nD τ).loc main_arg29)
    ∧ M ((c.tc : Thread nD τ).loc main_arg30) = m ((c.tc : Thread nD τ).loc main_arg30)
    ∧ M ((c.tc : Thread nD τ).loc main_arg31) = m ((c.tc : Thread nD τ).loc main_arg31)
    ∧ M ((c.tc : Thread nD τ).loc main_arg32) = m ((c.tc : Thread nD τ).loc main_arg32)
    ∧ M ((c.tc : Thread nD τ).loc main_arg33) = m ((c.tc : Thread nD τ).loc main_arg33)
    ∧ M ((c.tc : Thread nD τ).loc main_arg34) = m ((c.tc : Thread nD τ).loc main_arg34)
    ∧ M ((c.tc : Thread nD τ).loc main_arg35) = m ((c.tc : Thread nD τ).loc main_arg35)
    ∧ M ((c.tc : Thread nD τ).loc main_arg36) = m ((c.tc : Thread nD τ).loc main_arg36)
    ∧ M ((c.tc : Thread nD τ).loc main_arg37) = m ((c.tc : Thread nD τ).loc main_arg37)
    ∧ M ((c.tc : Thread nD τ).loc main_arg38) = m ((c.tc : Thread nD τ).loc main_arg38)
    ∧ M ((c.tc : Thread nD τ).loc main_arg39) = m ((c.tc : Thread nD τ).loc main_arg39)
    ∧ M ((c.tc : Thread nD τ).loc main_arg40) = m ((c.tc : Thread nD τ).loc main_arg40)
    ∧ M ((c.tc : Thread nD τ).loc main_arg41) = m ((c.tc : Thread nD τ).loc main_arg41)
    ∧ M ((c.tc : Thread nD τ).loc main_arg42) = m ((c.tc : Thread nD τ).loc main_arg42)
    ∧ M ((c.tc : Thread nD τ).loc main_arg43) = m ((c.tc : Thread nD τ).loc main_arg43)
    ∧ M ((c.tc : Thread nD τ).loc main_arg44) = m ((c.tc : Thread nD τ).loc main_arg44)

variable {m} in
set_option maxHeartbeats 4000000 in
theorem kept_of {r : _} (h : Pipeline.FramePost cfgs (dats m) 0 (V m) r) (c : Dev nD) : Kept m r.2.mem c :=
  have staged (w : Fin cfg0.W) (hw : (cfg0.win w).isOut = false) := ((h c).1 w).trans (((dats m 0 c).arrAt_in w hw _).trans (A_eq m c w))
  have other (b : Ref sig .tc) (hb) (hm) := ((h c).2 b (Pipeline.mem_restRefs_of b hb hm))
  ⟨(staged 0 rfl).trans (kept m c main_arg0 (by decide)),
    (staged 1 rfl).trans (kept m c main_arg1 (by decide)),
    (staged 2 rfl).trans (kept m c main_arg2 (by decide)),
    (staged 3 rfl).trans (kept m c main_arg3 (by decide)),
    (staged 4 rfl).trans (kept m c main_arg4 (by decide)),
    (other main_arg5 (by decide) (by decide)).trans (kept m c main_arg5 (by decide)),
    (other main_arg6 (by decide) (by decide)).trans (kept m c main_arg6 (by decide)),
    (staged 7 rfl).trans (kept m c main_arg7 (by decide)),
    (staged 8 rfl).trans (kept m c main_arg8 (by decide)),
    (staged 9 rfl).trans (kept m c main_arg9 (by decide)),
    (other main_arg10 (by decide) (by decide)).trans (kept m c main_arg10 (by decide)),
    (staged 11 rfl).trans (kept m c main_arg11 (by decide)),
    (staged 12 rfl).trans (kept m c main_arg12 (by decide)),
    (staged 13 rfl).trans (kept m c main_arg13 (by decide)),
    (staged 14 rfl).trans (kept m c main_arg14 (by decide)),
    (staged 15 rfl).trans (kept m c main_arg15 (by decide)),
    (other main_arg16 (by decide) (by decide)).trans (kept m c main_arg16 (by decide)),
    (other main_arg17 (by decide) (by decide)).trans (kept m c main_arg17 (by decide)),
    (staged 18 rfl).trans (kept m c main_arg18 (by decide)),
    (staged 19 rfl).trans (kept m c main_arg19 (by decide)),
    (staged 20 rfl).trans (kept m c main_arg20 (by decide)),
    (other main_arg21 (by decide) (by decide)).trans (kept m c main_arg21 (by decide)),
    (staged 22 rfl).trans (kept m c main_arg22 (by decide)),
    (staged 23 rfl).trans (kept m c main_arg23 (by decide)),
    (staged 24 rfl).trans (kept m c main_arg24 (by decide)),
    (staged 25 rfl).trans (kept m c main_arg25 (by decide)),
    (staged 26 rfl).trans (kept m c main_arg26 (by decide)),
    (other main_arg27 (by decide) (by decide)).trans (kept m c main_arg27 (by decide)),
    (other main_arg28 (by decide) (by decide)).trans (kept m c main_arg28 (by decide)),
    (staged 29 rfl).trans (kept m c main_arg29 (by decide)),
    (staged 30 rfl).trans (kept m c main_arg30 (by decide)),
    (staged 31 rfl).trans (kept m c main_arg31 (by decide)),
    (other main_arg32 (by decide) (by decide)).trans (kept m c main_arg32 (by decide)),
    (staged 33 rfl).trans (kept m c main_arg33 (by decide)),
    (staged 34 rfl).trans (kept m c main_arg34 (by decide)),
    (staged 35 rfl).trans (kept m c main_arg35 (by decide)),
    (staged 36 rfl).trans (kept m c main_arg36 (by decide)),
    (staged 37 rfl).trans (kept m c main_arg37 (by decide)),
    (staged 38 rfl).trans (kept m c main_arg38 (by decide)),
    (staged 39 rfl).trans (kept m c main_arg39 (by decide)),
    (staged 40 rfl).trans (kept m c main_arg40 (by decide)),
    (staged 41 rfl).trans (kept m c main_arg41 (by decide)),
    (staged 42 rfl).trans (kept m c main_arg42 (by decide)),
    (staged 43 rfl).trans (kept m c main_arg43 (by decide)),
    (staged 44 rfl).trans (kept m c main_arg44 (by decide))⟩

theorem frame (ρ : Dev nD → PrngReg) : θ_run defs (onTc (τ := τ) (main (F := F))) ⟨m, fun _ => 0, ρ⟩
    fun r => (∀ c : Dev nD, Kept m r.2.mem c) ∧ r.2.sem = fun _ => 0 :=
  (θ_run defs _ _).mono (fun _ h => ⟨kept_of h.1, h.2⟩) (run_main_quiescent m ρ)

end Run

theorem rowsIdeal_frame : Cert.quiescent_AdamRowsIdeal := fun m g _ => frame (F := Ideal) m g

end Cert.AdamSmall

end
-- ==== Proof.AdamSmallRows.lean ====
/-
  The optimiser's step for the eleven small weights: the run of the program of one text with it, `AdamRows`.
-/
module

public import proofs.«01_k».proof.Proof.AdamSmallRun
public import proofs.«01_k».proof.Proof.Gen.AdamRows

@[expose] public section

set_option maxRecDepth 16384
set_option maxHeartbeats 20000000

noncomputable section

namespace Cert.AdamSmall

open Idealize.ShloMosaic Idealize.ShloMosaic.TcCoe Idealize.SL.Sem

/-! ## The program of this text -/

section Same
variable {F : FTy → Type} [FloatOps F]

theorem rows_bodies : Cert.AdamRows.defs₀ (F := F) = Cert.AdamRowsIdeal.defs₀ (F := F) := by
  funext p
  cases p with
  | tc =>
    funext l
    have e : l = (0 : Fin 1) := Fin.eq_zero l
    subst e
    rfl
  | scScalar _ => rfl
  | scVector _ _ => rfl

theorem rows_defs : Cert.AdamRows.defs (F := F) = Cert.AdamRowsIdeal.defs (F := F) := congrArg (Pipeline.defs Cert.AdamRowsIdeal.pcfgs) rows_bodies

end Same

theorem rows_frame : Cert.quiescent_AdamRows := fun m g _ => by
  have h := frame (F := Bits) m g
  rw [← rows_defs] at h
  exact h

end Cert.AdamSmall

end
-- ==== Proof.AdamSmallStates.lean ====
/-
  The optimiser's step for the eleven small weights: the run of the program of one text with it, `AdamStates`.
-/
module

public import proofs.«01_k».proof.Proof.AdamSmallRun
public import proofs.«01_k».proof.Proof.Gen.AdamStates

@[expose] public section

set_option maxRecDepth 16384
set_option maxHeartbeats 20000000

noncomputable section

namespace Cert.AdamSmall

open Idealize.ShloMosaic Idealize.ShloMosaic.TcCoe Idealize.SL.Sem

/-! ## The program of this text -/

section Same
variable {F : FTy → Type} [FloatOps F]

theorem states_bodies : Cert.AdamStates.defs₀ (F := F) = Cert.AdamRowsIdeal.defs₀ (F := F) := by
  funext p
  cases p with
  | tc =>
    funext l
    have e : l = (0 : Fin 1) := Fin.eq_zero l
    subst e
    rfl
  | scScalar _ => rfl
  | scVector _ _ => rfl

theorem states_defs : Cert.AdamStates.defs (F := F) = Cert.AdamRowsIdeal.defs (F := F) := congrArg (Pipeline.defs Cert.AdamRowsIdeal.pcfgs) states_bodies

end Same

theorem states_frame : Cert.quiescent_AdamStates := fun m g _ => by
  have h := frame (F := Bits) m g
  rw [← states_defs] at h
  exact h

end Cert.AdamSmall

end
-- ==== Proof.AdamSmallStatesIdeal.lean ====
/-
  The optimiser's step for the eleven small weights: the run of the program of one text with it, `AdamStatesIdeal`.
-/
module

public import proofs.«01_k».proof.Proof.AdamSmallRun
public import proofs.«01_k».proof.Proof.Gen.AdamStatesIdeal

@[expose] public section

set_option maxRecDepth 16384
set_option maxHeartbeats 20000000

noncomputable section

namespace Cert.AdamSmall

open Idealize.ShloMosaic Idealize.ShloMosaic.TcCoe Idealize.SL.Sem

/-! ## The program of this text -/

section Same
variable {F : FTy → Type} [FloatOps F]

theorem statesIdeal_bodies : Cert.AdamStatesIdeal.defs₀ (F := F) = Cert.AdamRowsIdeal.defs₀ (F := F) := by
  funext p
  cases p with
  | tc =>
    funext l
    have e : l = (0 : Fin 1) := Fin.eq_zero l
    subst e
    rfl
  | scScalar _ => rfl
  | scVector _ _ => rfl

theorem statesIdeal_defs : Cert.AdamStatesIdeal.defs (F := F) = Cert.AdamRowsIdeal.defs (F := F) := congrArg (Pipeline.defs Cert.AdamRowsIdeal.pcfgs) statesIdeal_bodies

end Same

theorem statesIdeal_frame : Cert.quiescent_AdamStatesIdeal := fun m g _ => by
  have h := frame (F := Ideal) m g
  rw [← statesIdeal_defs] at h
  exact h

end Cert.AdamSmall

end
-- ==== Proof.AdamSmallValue.lean ====
/-
  The optimiser's step for the eleven small weights: each array the call leaves, at any values.
-/
module

public import proofs.«01_k».proof.Proof.AdamSmallData
public import Idealize.ShloMosaic.Lib.Pipeline.ValueKit.Geometry

@[expose] public section

set_option maxRecDepth 16384

noncomputable section

namespace Cert.AdamSmall

open Cert.AdamRowsIdeal Cert.AdamRowsIdeal.Gen Cert.AdamStep
open Idealize.ShloMosaic Idealize.ShloMosaic.TcCoe Idealize.SL.Sem
open Idealize.ShloMosaic.Pipeline (Window)

variable {F : FTy → Type} [FloatOps F] (m : (ℓ : Loc nD τ sig) → Buf (Elt F) ℓ) (c : Dev nD)

/-- The one point. -/
abbrev point : Fin cfg0.N := ⟨0, by decide⟩

/-- The host turns the last two axes of `b_re`, `b_im` and their two means, and gives the final gain and its two means a unit axis. -/
abbrev turn (X : Vec F S64x64x16 .f32) : Vec F S64x16x64 .f32 := transpose S64x16x64 [0, 2, 1] X transposes_S64x64x16_S64x16x64_0_2_1
abbrev row (X : Vec F S2048 .f32) : Vec F S1x2048 .f32 := shapeCast S1x2048 X shapeCasts_S2048_S1x2048

theorem V_v0 : V m c main_v0 = turn (m ((c : Thread nD τ).loc main_arg5)) := by unfold V; after_results
theorem V_v1 : V m c main_v1 = turn (m ((c : Thread nD τ).loc main_arg6)) := by unfold V; after_results
theorem V_v2 : V m c main_v2 = row (m ((c : Thread nD τ).loc main_arg10)) := by unfold V; after_results; rfl
theorem V_v3 : V m c main_v3 = turn (m ((c : Thread nD τ).loc main_arg16)) := by unfold V; after_results
theorem V_v4 : V m c main_v4 = turn (m ((c : Thread nD τ).loc main_arg17)) := by unfold V; after_results
theorem V_v5 : V m c main_v5 = row (m ((c : Thread nD τ).loc main_arg21)) := by unfold V; after_results; rfl
theorem V_v6 : V m c main_v6 = turn (m ((c : Thread nD τ).loc main_arg27)) := by unfold V; after_results
theorem V_v7 : V m c main_v7 = turn (m ((c : Thread nD τ).loc main_arg28)) := by unfold V; after_results
theorem V_v8 : V m c main_v8 = row (m ((c : Thread nD τ).loc main_arg32)) := by unfold V; after_results; rfl

/-- Each input's block is the whole array. -/
theorem whole (w : Fin cfg0.W) (h : ∀ a, (cfg0.win w).index point a = 0) (a) (y : ((cfg0.win w).xblock (cfg0.grid.coords point)).Idx) :
    (((cfg0.win w).rect point).emb y a : ℕ) = y a := Window.rect_emb_val_of_index_zero _ _ a (h a) y

theorem in0 : (iblk m c 0 point : Vec F ⟨2, ![1, 2048]⟩ .f32) = m ((c : Thread nD τ).loc main_arg0) :=
  (funext fun y => congrArg (V m c main_arg0) (funext fun a => Fin.ext (whole 0 (by decide +kernel) a y))).trans (kept m c main_arg0 (by decide))
theorem in1 : (iblk m c 1 point : Vec F ⟨2, ![1, 1024]⟩ .f32) = m ((c : Thread nD τ).loc main_arg1) :=
  (funext fun y => congrArg (V m c main_arg1) (funext fun a => Fin.ext (whole 1 (by decide +kernel) a y))).trans (kept m c main_arg1 (by decide))
theorem in2 : (iblk m c 2 point : Vec F ⟨2, ![64, 64]⟩ .f32) = m ((c : Thread nD τ).loc main_arg2) :=
  (funext fun y => congrArg (V m c main_arg2) (funext fun a => Fin.ext (whole 2 (by decide +kernel) a y))).trans (kept m c main_arg2 (by decide))
theorem in3 : (iblk m c 3 point : Vec F ⟨2, ![64, 64]⟩ .f32) = m ((c : Thread nD τ).loc main_arg3) :=
  (funext fun y => congrArg (V m c main_arg3) (funext fun a => Fin.ext (whole 3 (by decide +kernel) a y))).trans (kept m c main_arg3 (by decide))
theorem in4 : (iblk m c 4 point : Vec F ⟨2, ![1, 64]⟩ .f32) = m ((c : Thread nD τ).loc main_arg4) :=
  (funext fun y => congrArg (V m c main_arg4) (funext fun a => Fin.ext (whole 4 (by decide +kernel) a y))).trans (kept m c main_arg4 (by decide))
theorem in5 : (iblk m c 5 point : Vec F ⟨3, ![64, 16, 64]⟩ .f32) = turn (m ((c : Thread nD τ).loc main_arg5)) :=
  (funext fun y => congrArg (V m c main_v0) (funext fun a => Fin.ext (whole 5 (by decide +kernel) a y))).trans (V_v0 m c)
theorem in6 : (iblk m c 6 point : Vec F ⟨3, ![64, 16, 64]⟩ .f32) = turn (m ((c : Thread nD τ).loc main_arg6)) :=
  (funext fun y => congrArg (V m c main_v1) (funext fun a => Fin.ext (whole 6 (by decide +kernel) a y))).trans (V_v1 m c)
theorem in7 : (iblk m c 7 point : Vec F ⟨3, ![64, 16, 64]⟩ .f32) = m ((c : Thread nD τ).loc main_arg7) :=
  (funext fun y => congrArg (V m c main_arg7) (funext fun a => Fin.ext (whole 7 (by decide +kernel) a y))).trans (kept m c main_arg7 (by decide))
theorem in8 : (iblk m c 8 point : Vec F ⟨3, ![64, 16, 64]⟩ .f32) = m ((c : Thread nD τ).loc main_arg8) :=
  (funext fun y => congrArg (V m c main_arg8) (funext fun a => Fin.ext (whole 8 (by decide +kernel) a y))).trans (kept m c main_arg8 (by decide))
theorem in9 : (iblk m c 9 point : Vec F ⟨2, ![1, 1024]⟩ .f32) = m ((c : Thread nD τ).loc main_arg9) :=
  (funext fun y => congrArg (V m c main_arg9) (funext fun a => Fin.ext (whole 9 (by decide +kernel) a y))).trans (kept m c main_arg9 (by decide))
theorem in10 : (iblk m c 10 point : Vec F ⟨2, ![1, 2048]⟩ .f32) = row (m ((c : Thread nD τ).loc main_arg10)) :=
  (funext fun y => congrArg (V m c main_v2) (funext fun a => Fin.ext (whole 10 (by decide +kernel) a y))).trans (V_v2 m c)
theorem in11 : (iblk m c 11 point : Vec F ⟨2, ![1, 2048]⟩ .f32) = m ((c : Thread nD τ).loc main_arg11) :=
  (funext fun y => congrArg (V m c main_arg11) (funext fun a => Fin.ext (whole 11 (by decide +kernel) a y))).trans (kept m c main_arg11 (by decide))
theorem in12 : (iblk m c 12 point : Vec F ⟨2, ![1, 1024]⟩ .f32) = m ((c : Thread nD τ).loc main_arg12) :=
  (funext fun y => congrArg (V m c main_arg12) (funext fun a => Fin.ext (whole 12 (by decide +kernel) a y))).trans (kept m c main_arg12 (by decide))
theorem in13 : (iblk m c 13 point : Vec F ⟨2, ![64, 64]⟩ .f32) = m ((c : Thread nD τ).loc main_arg13) :=
  (funext fun y => congrArg (V m c main_arg13) (funext fun a => Fin.ext (whole 13 (by decide +kernel) a y))).trans (kept m c main_arg13 (by decide))
theorem in14 : (iblk m c 14 point : Vec F ⟨2, ![64, 64]⟩ .f32) = m ((c : Thread nD τ).loc main_arg14) :=
  (funext fun y => congrArg (V m c main_arg14) (funext fun a => Fin.ext (whole 14 (by decide +kernel) a y))).trans (kept m c main_arg14 (by decide))
theorem in15 : (iblk m c 15 point : Vec F ⟨2, ![1, 64]⟩ .f32) = m ((c : Thread nD τ).loc main_arg15) :=
  (funext fun y => congrArg (V m c main_arg15) (funext fun a => Fin.ext (whole 15 (by decide +kernel) a y))).trans (kept m c main_arg15 (by decide))
theorem in16 : (iblk m c 16 point : Vec F ⟨3, ![64, 16, 64]⟩ .f32) = turn (m ((c : Thread nD τ).loc main_arg16)) :=
  (funext fun y => congrArg (V m c main_v3) (funext fun a => Fin.ext (whole 16 (by decide +kernel) a y))).trans (V_v3 m c)
theorem in17 : (iblk m c 17 point : Vec F ⟨3, ![64, 16, 64]⟩ .f32) = turn (m ((c : Thread nD τ).loc main_arg17)) :=
  (funext fun y => congrArg (V m c main_v4) (funext fun a => Fin.ext (whole 17 (by decide +kernel) a y))).trans (V_v4 m c)
theorem in18 : (iblk m c 18 point : Vec F ⟨3, ![64, 16, 64]⟩ .f32) = m ((c : Thread nD τ).loc main_arg18) :=
  (funext fun y => congrArg (V m c main_arg18) (funext fun a => Fin.ext (whole 18 (by decide +kernel) a y))).trans (kept m c main_arg18 (by decide))
theorem in19 : (iblk m c 19 point : Vec F ⟨3, ![64, 16, 64]⟩ .f32) = m ((c : Thread nD τ).loc main_arg19) :=
  (funext fun y => congrArg (V m c main_arg19) (funext fun a => Fin.ext (whole 19 (by decide +kernel) a y))).trans (kept m c main_arg19 (by decide))
theorem in20 : (iblk m c 20 point : Vec F ⟨2, ![1, 1024]⟩ .f32) = m ((c : Thread nD τ).loc main_arg20) :=
  (funext fun y => congrArg (V m c main_arg20) (funext fun a => Fin.ext (whole 20 (by decide +kernel) a y))).trans (kept m c main_arg20 (by decide))
theorem in21 : (iblk m c 21 point : Vec F ⟨2, ![1, 2048]⟩ .f32) = row (m ((c : Thread nD τ).loc main_arg21)) :=
  (funext fun y => congrArg (V m c main_v5) (funext fun a => Fin.ext (whole 21 (by decide +kernel) a y))).trans (V_v5 m c)
theorem in22 : (iblk m c 22 point : Vec F ⟨2, ![1, 2048]⟩ .f32) = m ((c : Thread nD τ).loc main_arg22) :=
  (funext fun y => congrArg (V m c main_arg22) (funext fun a => Fin.ext (whole 22 (by decide +kernel) a y))).trans (kept m c main_arg22 (by decide))
theorem in23 : (iblk m c 23 point : Vec F ⟨2, ![1, 1024]⟩ .f32) = m ((c : Thread nD τ).loc main_arg23) :=
  (funext fun y => congrArg (V m c main_arg23) (funext fun a => Fin.ext (whole 23 (by decide +kernel) a y))).trans (kept m c main_arg23 (by decide))
theorem in24 : (iblk m c 24 point : Vec F ⟨2, ![64, 64]⟩ .f32) = m ((c : Thread nD τ).loc main_arg24) :=
  (funext fun y => congrArg (V m c main_arg24) (funext fun a => Fin.ext (whole 24 (by decide +kernel) a y))).trans (kept m c main_arg24 (by decide))
theorem in25 : (iblk m c 25 point : Vec F ⟨2, ![64, 64]⟩ .f32) = m ((c : Thread nD τ).loc main_arg25) :=
  (funext fun y => congrArg (V m c main_arg25) (funext fun a => Fin.ext (whole 25 (by decide +kernel) a y))).trans (kept m c main_arg25 (by decide))
theorem in26 : (iblk m c 26 point : Vec F ⟨2, ![1, 64]⟩ .f32) = m ((c : Thread nD τ).loc main_arg26) :=
  (funext fun y => congrArg (V m c main_arg26) (funext fun a => Fin.ext (whole 26 (by decide +kernel) a y))).trans (kept m c main_arg26 (by decide))
theorem in27 : (iblk m c 27 point : Vec F ⟨3, ![64, 16, 64]⟩ .f32) = turn (m ((c : Thread nD τ).loc main_arg27)) :=
  (funext fun y => congrArg (V m c main_v6) (funext fun a => Fin.ext (whole 27 (by decide +kernel) a y))).trans (V_v6 m c)
theorem in28 : (iblk m c 28 point : Vec F ⟨3, ![64, 16, 64]⟩ .f32) = turn (m ((c : Thread nD τ).loc main_arg28)) :=
  (funext fun y => congrArg (V m c main_v7) (funext fun a => Fin.ext (whole 28 (by decide +kernel) a y))).trans (V_v7 m c)
theorem in29 : (iblk m c 29 point : Vec F ⟨3, ![64, 16, 64]⟩ .f32) = m ((c : Thread nD τ).loc main_arg29) :=
  (funext fun y => congrArg (V m c main_arg29) (funext fun a => Fin.ext (whole 29 (by decide +kernel) a y))).trans (kept m c main_arg29 (by decide))
theorem in30 : (iblk m c 30 point : Vec F ⟨3, ![64, 16, 64]⟩ .f32) = m ((c : Thread nD τ).loc main_arg30) :=
  (funext fun y => congrArg (V m c main_arg30) (funext fun a => Fin.ext (whole 30 (by decide +kernel) a y))).trans (kept m c main_arg30 (by decide))
theorem in31 : (iblk m c 31 point : Vec F ⟨2, ![1, 1024]⟩ .f32) = m ((c : Thread nD τ).loc main_arg31) :=
  (funext fun y => congrArg (V m c main_arg31) (funext fun a => Fin.ext (whole 31 (by decide +kernel) a y))).trans (kept m c main_arg31 (by decide))
theorem in32 : (iblk m c 32 point : Vec F ⟨2, ![1, 2048]⟩ .f32) = row (m ((c : Thread nD τ).loc main_arg32)) :=
  (funext fun y => congrArg (V m c main_v8) (funext fun a => Fin.ext (whole 32 (by decide +kernel) a y))).trans (V_v8 m c)
theorem in33 : (iblk m c 33 point : Vec F ⟨3, ![8, 1, 2048]⟩ .f32) = m ((c : Thread nD τ).loc main_arg33) :=
  (funext fun y => congrArg (V m c main_arg33) (funext fun a => Fin.ext (whole 33 (by decide +kernel) a y))).trans (kept m c main_arg33 (by decide))
theorem in34 : (iblk m c 34 point : Vec F ⟨3, ![8, 1, 1024]⟩ .f32) = m ((c : Thread nD τ).loc main_arg34) :=
  (funext fun y => congrArg (V m c main_arg34) (funext fun a => Fin.ext (whole 34 (by decide +kernel) a y))).trans (kept m c main_arg34 (by decide))
theorem in35 : (iblk m c 35 point : Vec F ⟨3, ![8, 64, 64]⟩ .f32) = m ((c : Thread nD τ).loc main_arg35) :=
  (funext fun y => congrArg (V m c main_arg35) (funext fun a => Fin.ext (whole 35 (by decide +kernel) a y))).trans (kept m c main_arg35 (by decide))
theorem in36 : (iblk m c 36 point : Vec F ⟨3, ![8, 64, 64]⟩ .f32) = m ((c : Thread nD τ).loc main_arg36) :=
  (funext fun y => congrArg (V m c main_arg36) (funext fun a => Fin.ext (whole 36 (by decide +kernel) a y))).trans (kept m c main_arg36 (by decide))
theorem in37 : (iblk m c 37 point : Vec F ⟨3, ![8, 1, 64]⟩ .f32) = m ((c : Thread nD τ).loc main_arg37) :=
  (funext fun y => congrArg (V m c main_arg37) (funext fun a => Fin.ext (whole 37 (by decide +kernel) a y))).trans (kept m c main_arg37 (by decide))
theorem in38 : (iblk m c 38 point : Vec F ⟨4, ![8, 64, 16, 64]⟩ .bf16) = m ((c : Thread nD τ).loc main_arg38) :=
  (funext fun y => congrArg (V m c main_arg38) (funext fun a => Fin.ext (whole 38 (by decide +kernel) a y))).trans (kept m c main_arg38 (by decide))
theorem in39 : (iblk m c 39 point : Vec F ⟨4, ![8, 64, 16, 64]⟩ .bf16) = m ((c : Thread nD τ).loc main_arg39) :=
  (funext fun y => congrArg (V m c main_arg39) (funext fun a => Fin.ext (whole 39 (by decide +kernel) a y))).trans (kept m c main_arg39 (by decide))
theorem in40 : (iblk m c 40 point : Vec F ⟨4, ![8, 64, 16, 64]⟩ .bf16) = m ((c : Thread nD τ).loc main_arg40) :=
  (funext fun y => congrArg (V m c main_arg40) (funext fun a => Fin.ext (whole 40 (by decide +kernel) a y))).trans (kept m c main_arg40 (by decide))
theorem in41 : (iblk m c 41 point : Vec F ⟨4, ![8, 64, 16, 64]⟩ .bf16) = m ((c : Thread nD τ).loc main_arg41) :=
  (funext fun y => congrArg (V m c main_arg41) (funext fun a => Fin.ext (whole 41 (by decide +kernel) a y))).trans (kept m c main_arg41 (by decide))
theorem in42 : (iblk m c 42 point : Vec F ⟨3, ![8, 1, 1024]⟩ .f32) = m ((c : Thread nD τ).loc main_arg42) :=
  (funext fun y => congrArg (V m c main_arg42) (funext fun a => Fin.ext (whole 42 (by decide +kernel) a y))).trans (kept m c main_arg42 (by decide))
theorem in43 : (iblk m c 43 point : Vec F ⟨3, ![8, 1, 2048]⟩ .f32) = m ((c : Thread nD τ).loc main_arg43) :=
  (funext fun y => congrArg (V m c main_arg43) (funext fun a => Fin.ext (whole 43 (by decide +kernel) a y))).trans (kept m c main_arg43 (by decide))
theorem in44 : (iblk m c 44 point : Vec F ⟨3, ![8, 1, 128]⟩ .f32) = m ((c : Thread nD τ).loc main_arg44) :=
  (funext fun y => congrArg (V m c main_arg44) (funext fun a => Fin.ext (whole 44 (by decide +kernel) a y))).trans (kept m c main_arg44 (by decide))

/-- Each output's one write-back is of the whole array. -/
theorem final45 : (dats m 0 c).arrAt 45 cfg0.N = sum2 1 2048 (m ((c : Thread nD τ).loc main_arg33)) :=
  ((dats m 0 c).arrAt_eq_of_after_last 45 point (by decide +kernel) ((dats m 0 c).after 45 point) fun _ => rfl).trans (by rw [after0_45, in33])
theorem final56 : (dats m 0 c).arrAt 56 cfg0.N = change2 1 2048 (load2 1 2048 (m ((c : Thread nD τ).loc main_arg0))) (load2 1 2048 (m ((c : Thread nD τ).loc main_arg11))) (load2 1 2048 (m ((c : Thread nD τ).loc main_arg22))) (m ((c : Thread nD τ).loc main_arg33)) :=
  ((dats m 0 c).arrAt_eq_of_after_last 56 point (by decide +kernel) ((dats m 0 c).after 56 point) fun _ => rfl).trans (by rw [after0_56, in0, in11, in22, in33])
theorem final67 : (dats m 0 c).arrAt 67 cfg0.N = mean2 1 2048 (load2 1 2048 (m ((c : Thread nD τ).loc main_arg11))) (m ((c : Thread nD τ).loc main_arg33)) :=
  ((dats m 0 c).arrAt_eq_of_after_last 67 point (by decide +kernel) ((dats m 0 c).after 67 point) fun _ => rfl).trans (by rw [after0_67, in11, in33])
theorem final78 : (dats m 0 c).arrAt 78 cfg0.N = square2 1 2048 (load2 1 2048 (m ((c : Thread nD τ).loc main_arg22))) (m ((c : Thread nD τ).loc main_arg33)) :=
  ((dats m 0 c).arrAt_eq_of_after_last 78 point (by decide +kernel) ((dats m 0 c).after 78 point) fun _ => rfl).trans (by rw [after0_78, in22, in33])
theorem final46 : (dats m 0 c).arrAt 46 cfg0.N = sum2 1 1024 (m ((c : Thread nD τ).loc main_arg34)) :=
  ((dats m 0 c).arrAt_eq_of_after_last 46 point (by decide +kernel) ((dats m 0 c).after 46 point) fun _ => rfl).trans (by rw [after0_46, in34])
theorem final57 : (dats m 0 c).arrAt 57 cfg0.N = change2 1 1024 (load2 1 1024 (m ((c : Thread nD τ).loc main_arg1))) (load2 1 1024 (m ((c : Thread nD τ).loc main_arg12))) (load2 1 1024 (m ((c : Thread nD τ).loc main_arg23))) (m ((c : Thread nD τ).loc main_arg34)) :=
  ((dats m 0 c).arrAt_eq_of_after_last 57 point (by decide +kernel) ((dats m 0 c).after 57 point) fun _ => rfl).trans (by rw [after0_57, in1, in12, in23, in34])
theorem final68 : (dats m 0 c).arrAt 68 cfg0.N = mean2 1 1024 (load2 1 1024 (m ((c : Thread nD τ).loc main_arg12))) (m ((c : Thread nD τ).loc main_arg34)) :=
  ((dats m 0 c).arrAt_eq_of_after_last 68 point (by decide +kernel) ((dats m 0 c).after 68 point) fun _ => rfl).trans (by rw [after0_68, in12, in34])
theorem final79 : (dats m 0 c).arrAt 79 cfg0.N = square2 1 1024 (load2 1 1024 (m ((c : Thread nD τ).loc main_arg23))) (m ((c : Thread nD τ).loc main_arg34)) :=
  ((dats m 0 c).arrAt_eq_of_after_last 79 point (by decide +kernel) ((dats m 0 c).after 79 point) fun _ => rfl).trans (by rw [after0_79, in23, in34])
theorem final47 : (dats m 0 c).arrAt 47 cfg0.N = sum2 64 64 (m ((c : Thread nD τ).loc main_arg35)) :=
  ((dats m 0 c).arrAt_eq_of_after_last 47 point (by decide +kernel) ((dats m 0 c).after 47 point) fun _ => rfl).trans (by rw [after0_47, in35])
theorem final58 : (dats m 0 c).arrAt 58 cfg0.N = change2 64 64 (load2 64 64 (m ((c : Thread nD τ).loc main_arg2))) (load2 64 64 (m ((c : Thread nD τ).loc main_arg13))) (load2 64 64 (m ((c : Thread nD τ).loc main_arg24))) (m ((c : Thread nD τ).loc main_arg35)) :=
  ((dats m 0 c).arrAt_eq_of_after_last 58 point (by decide +kernel) ((dats m 0 c).after 58 point) fun _ => rfl).trans (by rw [after0_58, in2, in13, in24, in35])
theorem final69 : (dats m 0 c).arrAt 69 cfg0.N = mean2 64 64 (load2 64 64 (m ((c : Thread nD τ).loc main_arg13))) (m ((c : Thread nD τ).loc main_arg35)) :=
  ((dats m 0 c).arrAt_eq_of_after_last 69 point (by decide +kernel) ((dats m 0 c).after 69 point) fun _ => rfl).trans (by rw [after0_69, in13, in35])
theorem final80 : (dats m 0 c).arrAt 80 cfg0.N = square2 64 64 (load2 64 64 (m ((c : Thread nD τ).loc main_arg24))) (m ((c : Thread nD τ).loc main_arg35)) :=
  ((dats m 0 c).arrAt_eq_of_after_last 80 point (by decide +kernel) ((dats m 0 c).after 80 point) fun _ => rfl).trans (by rw [after0_80, in24, in35])
theorem final48 : (dats m 0 c).arrAt 48 cfg0.N = sum2 64 64 (m ((c : Thread nD τ).loc main_arg36)) :=
  ((dats m 0 c).arrAt_eq_of_after_last 48 point (by decide +kernel) ((dats m 0 c).after 48 point) fun _ => rfl).trans (by rw [after0_48, in36])
theorem final59 : (dats m 0 c).arrAt 59 cfg0.N = change2 64 64 (load2 64 64 (m ((c : Thread nD τ).loc main_arg3))) (load2 64 64 (m ((c : Thread nD τ).loc main_arg14))) (load2 64 64 (m ((c : Thread nD τ).loc main_arg25))) (m ((c : Thread nD τ).loc main_arg36)) :=
  ((dats m 0 c).arrAt_eq_of_after_last 59 point (by decide +kernel) ((dats m 0 c).after 59 point) fun _ => rfl).trans (by rw [after0_59, in3, in14, in25, in36])
theorem final70 : (dats m 0 c).arrAt 70 cfg0.N = mean2 64 64 (load2 64 64 (m ((c : Thread nD τ).loc main_arg14))) (m ((c : Thread nD τ).loc main_arg36)) :=
  ((dats m 0 c).arrAt_eq_of_after_last 70 point (by decide +kernel) ((dats m 0 c).after 70 point) fun _ => rfl).trans (by rw [after0_70, in14, in36])
theorem final81 : (dats m 0 c).arrAt 81 cfg0.N = square2 64 64 (load2 64 64 (m ((c : Thread nD τ).loc main_arg25))) (m ((c : Thread nD τ).loc main_arg36)) :=
  ((dats m 0 c).arrAt_eq_of_after_last 81 point (by decide +kernel) ((dats m 0 c).after 81 point) fun _ => rfl).trans (by rw [after0_81, in25, in36])
theorem final49 : (dats m 0 c).arrAt 49 cfg0.N = sum2 1 64 (m ((c : Thread nD τ).loc main_arg37)) :=
  ((dats m 0 c).arrAt_eq_of_after_last 49 point (by decide +kernel) ((dats m 0 c).after 49 point) fun _ => rfl).trans (by rw [after0_49, in37])
theorem final60 : (dats m 0 c).arrAt 60 cfg0.N = change2 1 64 (load2 1 64 (m ((c : Thread nD τ).loc main_arg4))) (load2 1 64 (m ((c : Thread nD τ).loc main_arg15))) (load2 1 64 (m ((c : Thread nD τ).loc main_arg26))) (m ((c : Thread nD τ).loc main_arg37)) :=
  ((dats m 0 c).arrAt_eq_of_after_last 60 point (by decide +kernel) ((dats m 0 c).after 60 point) fun _ => rfl).trans (by rw [after0_60, in4, in15, in26, in37])
theorem final71 : (dats m 0 c).arrAt 71 cfg0.N = mean2 1 64 (load2 1 64 (m ((c : Thread nD τ).loc main_arg15))) (m ((c : Thread nD τ).loc main_arg37)) :=
  ((dats m 0 c).arrAt_eq_of_after_last 71 point (by decide +kernel) ((dats m 0 c).after 71 point) fun _ => rfl).trans (by rw [after0_71, in15, in37])
theorem final82 : (dats m 0 c).arrAt 82 cfg0.N = square2 1 64 (load2 1 64 (m ((c : Thread nD τ).loc main_arg26))) (m ((c : Thread nD τ).loc main_arg37)) :=
  ((dats m 0 c).arrAt_eq_of_after_last 82 point (by decide +kernel) ((dats m 0 c).after 82 point) fun _ => rfl).trans (by rw [after0_82, in26, in37])
theorem final50 : (dats m 0 c).arrAt 50 cfg0.N = sum3 64 16 64 (m ((c : Thread nD τ).loc main_arg38)) :=
  ((dats m 0 c).arrAt_eq_of_after_last 50 point (by decide +kernel) ((dats m 0 c).after 50 point) fun _ => rfl).trans (by rw [after0_50, in38])
theorem final61 : (dats m 0 c).arrAt 61 cfg0.N = change3 64 16 64 (held3 64 16 64 (turn (m ((c : Thread nD τ).loc main_arg5)))) (held3 64 16 64 (turn (m ((c : Thread nD τ).loc main_arg16)))) (held3 64 16 64 (turn (m ((c : Thread nD τ).loc main_arg27)))) (m ((c : Thread nD τ).loc main_arg38)) :=
  ((dats m 0 c).arrAt_eq_of_after_last 61 point (by decide +kernel) ((dats m 0 c).after 61 point) fun _ => rfl).trans (by rw [after0_61, in5, in16, in27, in38])
theorem final72 : (dats m 0 c).arrAt 72 cfg0.N = mean3 64 16 64 (held3 64 16 64 (turn (m ((c : Thread nD τ).loc main_arg16)))) (m ((c : Thread nD τ).loc main_arg38)) :=
  ((dats m 0 c).arrAt_eq_of_after_last 72 point (by decide +kernel) ((dats m 0 c).after 72 point) fun _ => rfl).trans (by rw [after0_72, in16, in38])
theorem final83 : (dats m 0 c).arrAt 83 cfg0.N = square3 64 16 64 (held3 64 16 64 (turn (m ((c : Thread nD τ).loc main_arg27)))) (m ((c : Thread nD τ).loc main_arg38)) :=
  ((dats m 0 c).arrAt_eq_of_after_last 83 point (by decide +kernel) ((dats m 0 c).after 83 point) fun _ => rfl).trans (by rw [after0_83, in27, in38])
theorem final51 : (dats m 0 c).arrAt 51 cfg0.N = sum3 64 16 64 (m ((c : Thread nD τ).loc main_arg39)) :=
  ((dats m 0 c).arrAt_eq_of_after_last 51 point (by decide +kernel) ((dats m 0 c).after 51 point) fun _ => rfl).trans (by rw [after0_51, in39])
theorem final62 : (dats m 0 c).arrAt 62 cfg0.N = change3 64 16 64 (held3 64 16 64 (turn (m ((c : Thread nD τ).loc main_arg6)))) (held3 64 16 64 (turn (m ((c : Thread nD τ).loc main_arg17)))) (held3 64 16 64 (turn (m ((c : Thread nD τ).loc main_arg28)))) (m ((c : Thread nD τ).loc main_arg39)) :=
  ((dats m 0 c).arrAt_eq_of_after_last 62 point (by decide +kernel) ((dats m 0 c).after 62 point) fun _ => rfl).trans (by rw [after0_62, in6, in17, in28, in39])
theorem final73 : (dats m 0 c).arrAt 73 cfg0.N = mean3 64 16 64 (held3 64 16 64 (turn (m ((c : Thread nD τ).loc main_arg17)))) (m ((c : Thread nD τ).loc main_arg39)) :=
  ((dats m 0 c).arrAt_eq_of_after_last 73 point (by decide +kernel) ((dats m 0 c).after 73 point) fun _ => rfl).trans (by rw [after0_73, in17, in39])
theorem final84 : (dats m 0 c).arrAt 84 cfg0.N = square3 64 16 64 (held3 64 16 64 (turn (m ((c : Thread nD τ).loc main_arg28)))) (m ((c : Thread nD τ).loc main_arg39)) :=
  ((dats m 0 c).arrAt_eq_of_after_last 84 point (by decide +kernel) ((dats m 0 c).after 84 point) fun _ => rfl).trans (by rw [after0_84, in28, in39])
theorem final52 : (dats m 0 c).arrAt 52 cfg0.N = sum3 64 16 64 (m ((c : Thread nD τ).loc main_arg40)) :=
  ((dats m 0 c).arrAt_eq_of_after_last 52 point (by decide +kernel) ((dats m 0 c).after 52 point) fun _ => rfl).trans (by rw [after0_52, in40])
theorem final63 : (dats m 0 c).arrAt 63 cfg0.N = change3 64 16 64 (load3 64 16 64 (m ((c : Thread nD τ).loc main_arg7))) (load3 64 16 64 (m ((c : Thread nD τ).loc main_arg18))) (load3 64 16 64 (m ((c : Thread nD τ).loc main_arg29))) (m ((c : Thread nD τ).loc main_arg40)) :=
  ((dats m 0 c).arrAt_eq_of_after_last 63 point (by decide +kernel) ((dats m 0 c).after 63 point) fun _ => rfl).trans (by rw [after0_63, in7, in18, in29, in40])
theorem final74 : (dats m 0 c).arrAt 74 cfg0.N = mean3 64 16 64 (load3 64 16 64 (m ((c : Thread nD τ).loc main_arg18))) (m ((c : Thread nD τ).loc main_arg40)) :=
  ((dats m 0 c).arrAt_eq_of_after_last 74 point (by decide +kernel) ((dats m 0 c).after 74 point) fun _ => rfl).trans (by rw [after0_74, in18, in40])
theorem final85 : (dats m 0 c).arrAt 85 cfg0.N = square3 64 16 64 (load3 64 16 64 (m ((c : Thread nD τ).loc main_arg29))) (m ((c : Thread nD τ).loc main_arg40)) :=
  ((dats m 0 c).arrAt_eq_of_after_last 85 point (by decide +kernel) ((dats m 0 c).after 85 point) fun _ => rfl).trans (by rw [after0_85, in29, in40])
theorem final53 : (dats m 0 c).arrAt 53 cfg0.N = sum3 64 16 64 (m ((c : Thread nD τ).loc main_arg41)) :=
  ((dats m 0 c).arrAt_eq_of_after_last 53 point (by decide +kernel) ((dats m 0 c).after 53 point) fun _ => rfl).trans (by rw [after0_53, in41])
theorem final64 : (dats m 0 c).arrAt 64 cfg0.N = change3 64 16 64 (load3 64 16 64 (m ((c : Thread nD τ).loc main_arg8))) (load3 64 16 64 (m ((c : Thread nD τ).loc main_arg19))) (load3 64 16 64 (m ((c : Thread nD τ).loc main_arg30))) (m ((c : Thread nD τ).loc main_arg41)) :=
  ((dats m 0 c).arrAt_eq_of_after_last 64 point (by decide +kernel) ((dats m 0 c).after 64 point) fun _ => rfl).trans (by rw [after0_64, in8, in19, in30, in41])
theorem final75 : (dats m 0 c).arrAt 75 cfg0.N = mean3 64 16 64 (load3 64 16 64 (m ((c : Thread nD τ).loc main_arg19))) (m ((c : Thread nD τ).loc main_arg41)) :=
  ((dats m 0 c).arrAt_eq_of_after_last 75 point (by decide +kernel) ((dats m 0 c).after 75 point) fun _ => rfl).trans (by rw [after0_75, in19, in41])
theorem final86 : (dats m 0 c).arrAt 86 cfg0.N = square3 64 16 64 (load3 64 16 64 (m ((c : Thread nD τ).loc main_arg30))) (m ((c : Thread nD τ).loc main_arg41)) :=
  ((dats m 0 c).arrAt_eq_of_after_last 86 point (by decide +kernel) ((dats m 0 c).after 86 point) fun _ => rfl).trans (by rw [after0_86, in30, in41])
theorem final54 : (dats m 0 c).arrAt 54 cfg0.N = sum2 1 1024 (m ((c : Thread nD τ).loc main_arg42)) :=
  ((dats m 0 c).arrAt_eq_of_after_last 54 point (by decide +kernel) ((dats m 0 c).after 54 point) fun _ => rfl).trans (by rw [after0_54, in42])
theorem final65 : (dats m 0 c).arrAt 65 cfg0.N = change2 1 1024 (load2 1 1024 (m ((c : Thread nD τ).loc main_arg9))) (load2 1 1024 (m ((c : Thread nD τ).loc main_arg20))) (load2 1 1024 (m ((c : Thread nD τ).loc main_arg31))) (m ((c : Thread nD τ).loc main_arg42)) :=
  ((dats m 0 c).arrAt_eq_of_after_last 65 point (by decide +kernel) ((dats m 0 c).after 65 point) fun _ => rfl).trans (by rw [after0_65, in9, in20, in31, in42])
theorem final76 : (dats m 0 c).arrAt 76 cfg0.N = mean2 1 1024 (load2 1 1024 (m ((c : Thread nD τ).loc main_arg20))) (m ((c : Thread nD τ).loc main_arg42)) :=
  ((dats m 0 c).arrAt_eq_of_after_last 76 point (by decide +kernel) ((dats m 0 c).after 76 point) fun _ => rfl).trans (by rw [after0_76, in20, in42])
theorem final87 : (dats m 0 c).arrAt 87 cfg0.N = square2 1 1024 (load2 1 1024 (m ((c : Thread nD τ).loc main_arg31))) (m ((c : Thread nD τ).loc main_arg42)) :=
  ((dats m 0 c).arrAt_eq_of_after_last 87 point (by decide +kernel) ((dats m 0 c).after 87 point) fun _ => rfl).trans (by rw [after0_87, in31, in42])
theorem final55 : (dats m 0 c).arrAt 55 cfg0.N = sum2 1 2048 (m ((c : Thread nD τ).loc main_arg43)) :=
  ((dats m 0 c).arrAt_eq_of_after_last 55 point (by decide +kernel) ((dats m 0 c).after 55 point) fun _ => rfl).trans (by rw [after0_55, in43])
theorem final66 : (dats m 0 c).arrAt 66 cfg0.N = change2 1 2048 (held2 1 2048 (row (m ((c : Thread nD τ).loc main_arg10)))) (held2 1 2048 (row (m ((c : Thread nD τ).loc main_arg21)))) (held2 1 2048 (row (m ((c : Thread nD τ).loc main_arg32)))) (m ((c : Thread nD τ).loc main_arg43)) :=
  ((dats m 0 c).arrAt_eq_of_after_last 66 point (by decide +kernel) ((dats m 0 c).after 66 point) fun _ => rfl).trans (by rw [after0_66, in10, in21, in32, in43])
theorem final77 : (dats m 0 c).arrAt 77 cfg0.N = mean2 1 2048 (held2 1 2048 (row (m ((c : Thread nD τ).loc main_arg21)))) (m ((c : Thread nD τ).loc main_arg43)) :=
  ((dats m 0 c).arrAt_eq_of_after_last 77 point (by decide +kernel) ((dats m 0 c).after 77 point) fun _ => rfl).trans (by rw [after0_77, in21, in43])
theorem final88 : (dats m 0 c).arrAt 88 cfg0.N = square2 1 2048 (held2 1 2048 (row (m ((c : Thread nD τ).loc main_arg32)))) (m ((c : Thread nD τ).loc main_arg43)) :=
  ((dats m 0 c).arrAt_eq_of_after_last 88 point (by decide +kernel) ((dats m 0 c).after 88 point) fun _ => rfl).trans (by rw [after0_88, in32, in43])
theorem final89 : (dats m 0 c).arrAt 89 cfg0.N = sum2 1 128 (m ((c : Thread nD τ).loc main_arg44)) :=
  ((dats m 0 c).arrAt_eq_of_after_last 89 point (by decide +kernel) ((dats m 0 c).after 89 point) fun _ => rfl).trans (by rw [after0_89, in44])

end Cert.AdamSmall

end
-- ==== Proof.AdamStepIdeal.lean ====
/-
  One step of the optimiser over a whole array, over the reals: the parts added one after the other are their sum, the step
  is the reference's, and an axis read in another order does not matter to it.
-/
module

public import proofs.«01_k».proof.Proof.AdamStep
public import proofs.«01_k».proof.Proof.Running

@[expose] public section

noncomputable section

namespace Cert.AdamStep

open Idealize.ShloMosaic Idealize.ShloMosaic.StackMember Cert.Running

theorem parts8 (p : Fin 8 → EReal) : p 0 + p 1 + p 2 + p 3 + p 4 + p 5 + p 6 + p 7 = ∑ k : Fin 8, p k := by
  rw [Fin.sum_univ_eight]

section Rank2
variable (a b : ℕ)

theorem load2_eq (X : Vec Ideal ⟨2, ![a, b]⟩ .f32) : load2 (F := Ideal) a b X = X :=
  View.ld_unit_zero (S := ⟨2, ![a, b]⟩) hz2 _ X

theorem held2_eq (X : Vec Ideal ⟨2, ![a, b]⟩ .f32) : held2 (F := Ideal) a b X = X :=
  (shapeCast_self _ _).trans (load2_eq a b X)

theorem part2_apply (L : Vec Ideal ⟨3, ![8, a, b]⟩ .f32) (k : Fin 8) (j : (⟨2, ![a, b]⟩ : Shape).Idx) :
    part2 (F := Ideal) a b L k.val k.isLt j = memberAt L k j :=
  Adam.ld_member L k ![k.val, 0, 0] _ _ rfl (fun i => by fin_cases i <;> rfl) j

theorem sum2_apply (L : Vec Ideal ⟨3, ![8, a, b]⟩ .f32) (j : (⟨2, ![a, b]⟩ : Shape).Idx) :
    sum2 (F := Ideal) a b L j = ∑ k : Fin 8, memberAt L k j :=
  (parts8 fun k => part2 (F := Ideal) a b L k.val k.isLt j).trans (Finset.sum_congr rfl fun k _ => part2_apply a b L k j)

/-- The reference's sum over the devices. -/
theorem reduced2 (L : Vec Ideal ⟨3, ![8, a, b]⟩ .f32) (h' : (⟨3, ![8, a, b]⟩ : Shape).ReducesTo [0] ⟨2, ![a, b]⟩)
    (h : (⟨3, ![8, a, b]⟩ : Shape).Reduces [0] ⟨2, ![a, b]⟩) (h0 : 0 < (⟨0, ![]⟩ : Shape).numel) :
    Host.reduceAdd (F := Ideal) L (constant ⟨0, ![]⟩ .f32 0x00000000#32) h' h0 = sum2 a b L := by
  funext j
  simp only [Host.reduceAdd, Ideal.hostReduceAdd_def]
  rw [Ideal.hostReduceAdd_single h' h, sum2_apply]
  refine (congrArg (· + _) Ideal.ofBits_zero_f32).trans ((zero_add _).trans (Finset.sum_congr rfl fun k _ => ?_))
  exact congrArg L (funext fun i => Fin.ext (by fin_cases i <;> rfl))

end Rank2

section Rank3
variable (a b c : ℕ)

theorem load3_eq (X : Vec Ideal ⟨3, ![a, b, c]⟩ .f32) : load3 (F := Ideal) a b c X = X :=
  View.ld_unit_zero (S := ⟨3, ![a, b, c]⟩) hz3 _ X

theorem held3_eq (X : Vec Ideal ⟨3, ![a, b, c]⟩ .f32) : held3 (F := Ideal) a b c X = X :=
  (shapeCast_self _ _).trans (load3_eq a b c X)

theorem part3_apply (L : Vec Ideal ⟨4, ![8, a, b, c]⟩ .bf16) (k : Fin 8) (j : (⟨3, ![a, b, c]⟩ : Shape).Idx) :
    part3 (F := Ideal) a b c L k.val k.isLt j = memberAt L k j :=
  Adam.ld_member L k ![k.val, 0, 0, 0] _ _ rfl (fun i => by fin_cases i <;> rfl) j

theorem sum3_apply (L : Vec Ideal ⟨4, ![8, a, b, c]⟩ .bf16) (j : (⟨3, ![a, b, c]⟩ : Shape).Idx) :
    sum3 (F := Ideal) a b c L j = ∑ k : Fin 8, memberAt L k j :=
  (parts8 fun k => part3 (F := Ideal) a b c L k.val k.isLt j).trans (Finset.sum_congr rfl fun k _ => part3_apply a b c L k j)

theorem reduced3 (L : Vec Ideal ⟨4, ![8, a, b, c]⟩ .bf16) (h' : (⟨4, ![8, a, b, c]⟩ : Shape).ReducesTo [0] ⟨3, ![a, b, c]⟩)
    (h : (⟨4, ![8, a, b, c]⟩ : Shape).Reduces [0] ⟨3, ![a, b, c]⟩) (h0 : 0 < (⟨0, ![]⟩ : Shape).numel) (hl : FTy.bits .bf16 < FTy.bits .f32) :
    Host.reduceAdd (F := Ideal) (extf .f32 L hl) (constant ⟨0, ![]⟩ .f32 0x00000000#32) h' h0 = sum3 a b c L := by
  funext j
  simp only [Host.reduceAdd, Ideal.hostReduceAdd_def]
  rw [Ideal.hostReduceAdd_single h' h, sum3_apply]
  refine (congrArg (· + _) Ideal.ofBits_zero_f32).trans ((zero_add _).trans (Finset.sum_congr rfl fun k _ => ?_))
  exact congrArg L (funext fun i => Fin.ext (by fin_cases i <;> rfl))

end Rank3

/-! ## The reference's step -/

section Host
variable {S : Shape} (h : (⟨0, ![]⟩ : Shape).BroadcastsInDim S ![]) {W W' M M' V V' G G' : FVec Ideal S .f32}

theorem mean_of (hM : M = M') (hG : G = G') : addf (mulf (broadcastInDim S ![] h (constant (F := Ideal) ⟨0, ![]⟩ .f32 0x3F666666#32)) M)
    (mulf (broadcastInDim S ![] h (constant (F := Ideal) ⟨0, ![]⟩ .f32 0x3DCCCCCD#32)) G) = meanV M' G' := by
  subst hM hG; rfl

theorem square_of (hV : V = V') (hG : G = G') : addf (mulf (broadcastInDim S ![] h (constant (F := Ideal) ⟨0, ![]⟩ .f32 0x3F7FBE77#32)) V)
    (mulf (broadcastInDim S ![] h (constant (F := Ideal) ⟨0, ![]⟩ .f32 0x3A83126F#32)) (mulf G G)) = squareV V' G' := by
  subst hV hG; rfl

theorem change_of (hW : W = W') (hM : M = M') (hV : V = V') (hG : G = G') :
    mulf (broadcastInDim S ![] h (constant (F := Ideal) ⟨0, ![]⟩ .f32 0xBA83126F#32))
      (addf (Host.divf (Host.divf
          (addf (mulf (broadcastInDim S ![] h (constant (F := Ideal) ⟨0, ![]⟩ .f32 0x3F666666#32)) M)
            (mulf (broadcastInDim S ![] h (constant (F := Ideal) ⟨0, ![]⟩ .f32 0x3DCCCCCD#32)) G))
          (broadcastInDim S ![] h (constant (F := Ideal) ⟨0, ![]⟩ .f32 0x3F26BD02#32)))
        (addf (Host.sqrt (Host.divf
            (addf (mulf (broadcastInDim S ![] h (constant (F := Ideal) ⟨0, ![]⟩ .f32 0x3F7FBE77#32)) V)
              (mulf (broadcastInDim S ![] h (constant (F := Ideal) ⟨0, ![]⟩ .f32 0x3A83126F#32)) (mulf G G)))
            (broadcastInDim S ![] h (constant (F := Ideal) ⟨0, ![]⟩ .f32 0x3C231ACC#32))))
          (broadcastInDim S ![] h (constant (F := Ideal) ⟨0, ![]⟩ .f32 0x322BCC77#32))))
        (mulf (broadcastInDim S ![] h (constant (F := Ideal) ⟨0, ![]⟩ .f32 0x3C23D70A#32)) W)) = changeV W' M' V' G' := by
  subst hW hM hV hG; rfl

end Host

end Cert.AdamStep

end
-- ==== Proof.AdamStatesClaim.lean ====
/-
  The whole call of the small step: `a_re`, `a_im`, `b_re`, `b_im`, `c_re`, `c_im`, against the reference that adds the eight
  parts in one sum and steps each weight.
-/
module

public import proofs.«01_k».proof.Proof.AdamSmallStatesIdeal
public import proofs.«01_k».proof.Proof.AdamSmallValue
public import proofs.«01_k».proof.Proof.AdamStepIdeal
public import proofs.«01_k».proof.Proof.Gen.AdamStatesRefIdeal.Run
public import Idealize.ShloMosaic.Lib.Quiescent

@[expose] public section

set_option maxRecDepth 16384

noncomputable section

namespace Cert.AdamStatesClaim

open Idealize.ShloMosaic Idealize.SL.Sem Cert.AdamStep Cert.AdamSmall
open Cert.AdamStatesRefIdeal Cert.AdamStatesRefIdeal.Gen Cert.AdamStatesRefIdeal.Value

/-- The reference steps `b_re` and `b_im` in the arguments' order of axes and turns each result. -/
abbrev turnBack (X : FVec Ideal S64x16x64 .f32) : FVec Ideal S64x64x16 .f32 := transpose S64x64x16 [0, 2, 1] X transposes_S64x16x64_S64x64x16_0_2_1
abbrev turned (X : FVec Ideal S64x64x16 .f32) : FVec Ideal S64x16x64 .f32 := turn (F := Ideal) X

/-- The entry a turned array has at an index. -/
def crossed (j : S64x16x64.Idx) : S64x64x16.Idx := fun a => match a with
  | ⟨0, _⟩ => ⟨(j 0).val, (j 0).isLt⟩
  | ⟨1, _⟩ => ⟨(j 2).val, (j 2).isLt⟩
  | ⟨2, _⟩ => ⟨(j 1).val, (j 1).isLt⟩

theorem turned_back (X : FVec Ideal S64x16x64 .f32) : turned (turnBack X) = X := by
  funext j
  refine (transpose_apply _ (turnBack X) _ j (crossed j) (fun b => by fin_cases b <;> rfl)).trans ?_
  exact transpose_apply _ X _ (crossed j) j (fun b => by fin_cases b <;> rfl)

theorem turned_mean (M : FVec Ideal S64x64x16 .f32) (G : FVec Ideal S64x16x64 .f32) {M' : FVec Ideal S64x16x64 .f32} (hM : turned M = M') :
    turned (meanV M (turnBack G)) = meanV M' G := by
  have e : turned (meanV M (turnBack G)) = meanV (turned M) (turned (turnBack G)) := rfl
  rw [e, turned_back, hM]

theorem turned_square (V : FVec Ideal S64x64x16 .f32) (G : FVec Ideal S64x16x64 .f32) {V' : FVec Ideal S64x16x64 .f32} (hV : turned V = V') :
    turned (squareV V (turnBack G)) = squareV V' G := by
  have e : turned (squareV V (turnBack G)) = squareV (turned V) (turned (turnBack G)) := rfl
  rw [e, turned_back, hV]

theorem turned_change (W M V : FVec Ideal S64x64x16 .f32) (G : FVec Ideal S64x16x64 .f32) {W' M' V' : FVec Ideal S64x16x64 .f32}
    (hW : turned W = W') (hM : turned M = M') (hV : turned V = V') : turned (changeV W M V (turnBack G)) = changeV W' M' V' G := by
  have e : turned (changeV W M V (turnBack G)) = changeV (turned W) (turned M) (turned V) (turned (turnBack G)) := rfl
  rw [e, turned_back, hW, hM, hV]

set_option maxHeartbeats 4000000 in
theorem algebraic : Cert.algebraic_AdamStatesIdeal_AdamStatesRefIdeal := by
  intro m g m' g' _ hargs
  refine ⟨fun c => (dats m 0 c).arrAt 47 Cert.AdamRowsIdeal.cfg0.N,
    fun c => (dats m 0 c).arrAt 58 Cert.AdamRowsIdeal.cfg0.N,
    fun c => (dats m 0 c).arrAt 69 Cert.AdamRowsIdeal.cfg0.N,
    fun c => (dats m 0 c).arrAt 80 Cert.AdamRowsIdeal.cfg0.N,
    fun c => (dats m 0 c).arrAt 48 Cert.AdamRowsIdeal.cfg0.N,
    fun c => (dats m 0 c).arrAt 59 Cert.AdamRowsIdeal.cfg0.N,
    fun c => (dats m 0 c).arrAt 70 Cert.AdamRowsIdeal.cfg0.N,
    fun c => (dats m 0 c).arrAt 81 Cert.AdamRowsIdeal.cfg0.N,
    fun c => (dats m 0 c).arrAt 50 Cert.AdamRowsIdeal.cfg0.N,
    fun c => (dats m 0 c).arrAt 61 Cert.AdamRowsIdeal.cfg0.N,
    fun c => (dats m 0 c).arrAt 72 Cert.AdamRowsIdeal.cfg0.N,
    fun c => (dats m 0 c).arrAt 83 Cert.AdamRowsIdeal.cfg0.N,
    fun c => (dats m 0 c).arrAt 51 Cert.AdamRowsIdeal.cfg0.N,
    fun c => (dats m 0 c).arrAt 62 Cert.AdamRowsIdeal.cfg0.N,
    fun c => (dats m 0 c).arrAt 73 Cert.AdamRowsIdeal.cfg0.N,
    fun c => (dats m 0 c).arrAt 84 Cert.AdamRowsIdeal.cfg0.N,
    fun c => (dats m 0 c).arrAt 52 Cert.AdamRowsIdeal.cfg0.N,
    fun c => (dats m 0 c).arrAt 63 Cert.AdamRowsIdeal.cfg0.N,
    fun c => (dats m 0 c).arrAt 74 Cert.AdamRowsIdeal.cfg0.N,
    fun c => (dats m 0 c).arrAt 85 Cert.AdamRowsIdeal.cfg0.N,
    fun c => (dats m 0 c).arrAt 53 Cert.AdamRowsIdeal.cfg0.N,
    fun c => (dats m 0 c).arrAt 64 Cert.AdamRowsIdeal.cfg0.N,
    fun c => (dats m 0 c).arrAt 75 Cert.AdamRowsIdeal.cfg0.N,
    fun c => (dats m 0 c).arrAt 86 Cert.AdamRowsIdeal.cfg0.N,
    ?_, (θ_run Cert.AdamStatesRefIdeal.defs _ _).mono (fun r h c => ?_) (run m' g')⟩
  · have hk := run_main m g
    rw [← statesIdeal_defs] at hk
    refine (θ_run Cert.AdamStatesIdeal.defs _ _).mono (fun r h c => ?_) hk
    exact ⟨(h c).1 47, (h c).1 58, (h c).1 69, (h c).1 80, (h c).1 48, (h c).1 59, (h c).1 70, (h c).1 81, (h c).1 50, (h c).1 61, (h c).1 72, (h c).1 83, (h c).1 51, (h c).1 62, (h c).1 73, (h c).1 84, (h c).1 52, (h c).1 63, (h c).1 74, (h c).1 85, (h c).1 53, (h c).1 64, (h c).1 75, (h c).1 86, kept_of h c⟩
  · obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44⟩ := hargs c
    obtain ⟨h47, h58, h69, h80, h48, h59, h70, h81, h50, h61, h72, h83, h51, h62, h73, h84, h52, h63, h74, h85, h53, h64, h75, h86, hrest⟩ := h c
    have s2 := (reduced2 64 64 _ reducesTo_S8x64x64_S64x64_d0 (by decide) h_S_).trans (congrArg (sum2 (F := Ideal) 64 64) e35)
    have s3 := (reduced2 64 64 _ reducesTo_S8x64x64_S64x64_d0 (by decide) h_S_).trans (congrArg (sum2 (F := Ideal) 64 64) e36)
    have s5 := (reduced3 64 16 64 _ reducesTo_S8x64x16x64_S64x16x64_d0 (by decide) h_S_ bitsLt_bf16_f32).trans (congrArg (sum3 (F := Ideal) 64 16 64) e38)
    have s6 := (reduced3 64 16 64 _ reducesTo_S8x64x16x64_S64x16x64_d0 (by decide) h_S_ bitsLt_bf16_f32).trans (congrArg (sum3 (F := Ideal) 64 16 64) e39)
    have s7 := (reduced3 64 16 64 _ reducesTo_S8x64x16x64_S64x16x64_d0 (by decide) h_S_ bitsLt_bf16_f32).trans (congrArg (sum3 (F := Ideal) 64 16 64) e40)
    have s8 := (reduced3 64 16 64 _ reducesTo_S8x64x16x64_S64x16x64_d0 (by decide) h_S_ bitsLt_bf16_f32).trans (congrArg (sum3 (F := Ideal) 64 16 64) e41)
    exact ⟨h47.trans ((s2).trans (final47 m c).symm),
      h58.trans ((change_of _ (e2.trans (load2_eq 64 64 _).symm) (e13.trans (load2_eq 64 64 _).symm) (e24.trans (load2_eq 64 64 _).symm) s2).trans (final58 m c).symm),
      h69.trans ((mean_of _ (e13.trans (load2_eq 64 64 _).symm) s2).trans (final69 m c).symm),
      h80.trans ((square_of _ (e24.trans (load2_eq 64 64 _).symm) s2).trans (final80 m c).symm),
      h48.trans ((s3).trans (final48 m c).symm),
      h59.trans ((change_of _ (e3.trans (load2_eq 64 64 _).symm) (e14.trans (load2_eq 64 64 _).symm) (e25.trans (load2_eq 64 64 _).symm) s3).trans (final59 m c).symm),
      h70.trans ((mean_of _ (e14.trans (load2_eq 64 64 _).symm) s3).trans (final70 m c).symm),
      h81.trans ((square_of _ (e25.trans (load2_eq 64 64 _).symm) s3).trans (final81 m c).symm),
      h50.trans (((congrArg (fun X => turned (turnBack X)) s5).trans (turned_back _)).trans (final50 m c).symm),
      h61.trans (((congrArg (turned) (change_of _ e5 e16 e27 (congrArg turnBack s5))).trans (turned_change _ _ _ _ (held3_eq 64 16 64 _).symm (held3_eq 64 16 64 _).symm (held3_eq 64 16 64 _).symm)).trans (final61 m c).symm),
      h72.trans (((congrArg (turned) (mean_of _ e16 (congrArg turnBack s5))).trans (turned_mean _ _ (held3_eq 64 16 64 _).symm)).trans (final72 m c).symm),
      h83.trans (((congrArg (turned) (square_of _ e27 (congrArg turnBack s5))).trans (turned_square _ _ (held3_eq 64 16 64 _).symm)).trans (final83 m c).symm),
      h51.trans (((congrArg (fun X => turned (turnBack X)) s6).trans (turned_back _)).trans (final51 m c).symm),
      h62.trans (((congrArg (turned) (change_of _ e6 e17 e28 (congrArg turnBack s6))).trans (turned_change _ _ _ _ (held3_eq 64 16 64 _).symm (held3_eq 64 16 64 _).symm (held3_eq 64 16 64 _).symm)).trans (final62 m c).symm),
      h73.trans (((congrArg (turned) (mean_of _ e17 (congrArg turnBack s6))).trans (turned_mean _ _ (held3_eq 64 16 64 _).symm)).trans (final73 m c).symm),
      h84.trans (((congrArg (turned) (square_of _ e28 (congrArg turnBack s6))).trans (turned_square _ _ (held3_eq 64 16 64 _).symm)).trans (final84 m c).symm),
      h52.trans ((s7).trans (final52 m c).symm),
      h63.trans ((change_of _ (e7.trans (load3_eq 64 16 64 _).symm) (e18.trans (load3_eq 64 16 64 _).symm) (e29.trans (load3_eq 64 16 64 _).symm) s7).trans (final63 m c).symm),
      h74.trans ((mean_of _ (e18.trans (load3_eq 64 16 64 _).symm) s7).trans (final74 m c).symm),
      h85.trans ((square_of _ (e29.trans (load3_eq 64 16 64 _).symm) s7).trans (final85 m c).symm),
      h53.trans ((s8).trans (final53 m c).symm),
      h64.trans ((change_of _ (e8.trans (load3_eq 64 16 64 _).symm) (e19.trans (load3_eq 64 16 64 _).symm) (e30.trans (load3_eq 64 16 64 _).symm) s8).trans (final64 m c).symm),
      h75.trans ((mean_of _ (e19.trans (load3_eq 64 16 64 _).symm) s8).trans (final75 m c).symm),
      h86.trans ((square_of _ (e30.trans (load3_eq 64 16 64 _).symm) s8).trans (final86 m c).symm), hrest⟩

/-- The reference's run keeps its arguments; its machine has no semaphore. -/
theorem reference_frame : Cert.quiescent_AdamStatesRefIdeal := fun m g _ =>
  (θ_run Cert.AdamStatesRefIdeal.defs _ _).mono (fun r h => ⟨fun c => (h c).2.2.2.2.2.2.2.2.2.2.2.2.2.2.2.2.2.2.2.2.2.2.2.2, sem_eq_zero_of_no_sems rfl r.2⟩) (run m g)

end Cert.AdamStatesClaim

end
-- ==== Proof.AdamRowsClaim.lean ====
/-
  The whole call of the small step: `norm_gain`, `pool_scale`, `log_dt`, `d_skip`, the final gain and the loss, against the
  reference that adds the eight parts in one sum and steps each weight.
-/
module

public import proofs.«01_k».proof.Proof.AdamSmallRun
public import proofs.«01_k».proof.Proof.AdamSmallValue
public import proofs.«01_k».proof.Proof.AdamStepIdeal
public import proofs.«01_k».proof.Proof.Gen.AdamRowsRefIdeal.Run
public import Idealize.ShloMosaic.Lib.Quiescent

@[expose] public section

set_option maxRecDepth 16384

noncomputable section

namespace Cert.AdamRowsClaim

open Idealize.ShloMosaic Idealize.SL.Sem Cert.AdamStep Cert.AdamSmall
open Cert.AdamRowsRefIdeal Cert.AdamRowsRefIdeal.Gen Cert.AdamRowsRefIdeal.Value

/-- The reference steps the final gain as a vector and gives each result a unit axis. -/
abbrev lift (X : FVec Ideal S2048 .f32) : FVec Ideal S1x2048 .f32 := broadcastInDim S1x2048 ![1] bcast_S2048_S1x2048_1 X
abbrev unlift (X : FVec Ideal S1x2048 .f32) : FVec Ideal S2048 .f32 := shapeCast S2048 X shapeCasts_S1x2048_S2048

/-- The vector's entry at a position of the row. -/
def entry (j : S1x2048.Idx) : S2048.Idx := fun a => match a with
  | ⟨0, _⟩ => ⟨(j 1).val, (j 1).isLt⟩

theorem entry_pos (j : S1x2048.Idx) : (S2048.rowMajor (entry j)).val = (S1x2048.rowMajor j).val := by
  rewrite [Shape.rowMajor_val_one, Shape.rowMajor_val_two]
  have h0 : (j 0).val < 1 := (j 0).isLt
  show (j 1).val = (j 0).val * 2048 + (j 1).val
  omega

theorem lift_apply (X : FVec Ideal S2048 .f32) (j : S1x2048.Idx) : lift X j = X (entry j) :=
  congrArg X (funext fun a => by fin_cases a; rfl)

theorem lift_eq (X : FVec Ideal S2048 .f32) : lift X = row (F := Ideal) X := by
  funext j
  exact (lift_apply X j).trans (shapeCast_apply X _ j (entry j) (entry_pos j)).symm

theorem lifted_back (X : FVec Ideal S1x2048 .f32) : lift (unlift X) = X := by
  funext j
  exact (lift_apply _ j).trans (shapeCast_apply X _ (entry j) j (entry_pos j).symm)

theorem lifted_mean (M : FVec Ideal S2048 .f32) (G : FVec Ideal S1x2048 .f32) {M' : FVec Ideal S1x2048 .f32} (hM : row (F := Ideal) M = M') :
    lift (meanV M (unlift G)) = meanV M' G := by
  have e : lift (meanV M (unlift G)) = meanV (lift M) (lift (unlift G)) := rfl
  rw [e, lifted_back, lift_eq, hM]

theorem lifted_square (V : FVec Ideal S2048 .f32) (G : FVec Ideal S1x2048 .f32) {V' : FVec Ideal S1x2048 .f32} (hV : row (F := Ideal) V = V') :
    lift (squareV V (unlift G)) = squareV V' G := by
  have e : lift (squareV V (unlift G)) = squareV (lift V) (lift (unlift G)) := rfl
  rw [e, lifted_back, lift_eq, hV]

theorem lifted_change (W M V : FVec Ideal S2048 .f32) (G : FVec Ideal S1x2048 .f32) {W' M' V' : FVec Ideal S1x2048 .f32}
    (hW : row (F := Ideal) W = W') (hM : row (F := Ideal) M = M') (hV : row (F := Ideal) V = V') :
    lift (changeV W M V (unlift G)) = changeV W' M' V' G := by
  have e : lift (changeV W M V (unlift G)) = changeV (lift W) (lift M) (lift V) (lift (unlift G)) := rfl
  rw [e, lifted_back, lift_eq, lift_eq, lift_eq, hW, hM, hV]

set_option maxHeartbeats 4000000 in
theorem algebraic : Cert.algebraic_AdamRowsIdeal_AdamRowsRefIdeal := by
  intro m g m' g' _ hargs
  refine ⟨fun c => (dats m 0 c).arrAt 45 Cert.AdamRowsIdeal.cfg0.N,
    fun c => (dats m 0 c).arrAt 56 Cert.AdamRowsIdeal.cfg0.N,
    fun c => (dats m 0 c).arrAt 67 Cert.AdamRowsIdeal.cfg0.N,
    fun c => (dats m 0 c).arrAt 78 Cert.AdamRowsIdeal.cfg0.N,
    fun c => (dats m 0 c).arrAt 46 Cert.AdamRowsIdeal.cfg0.N,
    fun c => (dats m 0 c).arrAt 57 Cert.AdamRowsIdeal.cfg0.N,
    fun c => (dats m 0 c).arrAt 68 Cert.AdamRowsIdeal.cfg0.N,
    fun c => (dats m 0 c).arrAt 79 Cert.AdamRowsIdeal.cfg0.N,
    fun c => (dats m 0 c).arrAt 49 Cert.AdamRowsIdeal.cfg0.N,
    fun c => (dats m 0 c).arrAt 60 Cert.AdamRowsIdeal.cfg0.N,
    fun c => (dats m 0 c).arrAt 71 Cert.AdamRowsIdeal.cfg0.N,
    fun c => (dats m 0 c).arrAt 82 Cert.AdamRowsIdeal.cfg0.N,
    fun c => (dats m 0 c).arrAt 54 Cert.AdamRowsIdeal.cfg0.N,
    fun c => (dats m 0 c).arrAt 65 Cert.AdamRowsIdeal.cfg0.N,
    fun c => (dats m 0 c).arrAt 76 Cert.AdamRowsIdeal.cfg0.N,
    fun c => (dats m 0 c).arrAt 87 Cert.AdamRowsIdeal.cfg0.N,
    fun c => (dats m 0 c).arrAt 55 Cert.AdamRowsIdeal.cfg0.N,
    fun c => (dats m 0 c).arrAt 66 Cert.AdamRowsIdeal.cfg0.N,
    fun c => (dats m 0 c).arrAt 77 Cert.AdamRowsIdeal.cfg0.N,
    fun c => (dats m 0 c).arrAt 88 Cert.AdamRowsIdeal.cfg0.N,
    fun c => (dats m 0 c).arrAt 89 Cert.AdamRowsIdeal.cfg0.N,
    ?_, (θ_run Cert.AdamRowsRefIdeal.defs _ _).mono (fun r h c => ?_) (run m' g')⟩
  · exact (θ_run Cert.AdamRowsIdeal.defs _ _).mono (fun r h c => ⟨(h c).1 45, (h c).1 56, (h c).1 67, (h c).1 78, (h c).1 46, (h c).1 57, (h c).1 68, (h c).1 79, (h c).1 49, (h c).1 60, (h c).1 71, (h c).1 82, (h c).1 54, (h c).1 65, (h c).1 76, (h c).1 87, (h c).1 55, (h c).1 66, (h c).1 77, (h c).1 88, (h c).1 89, kept_of h c⟩) (run_main m g)
  · obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44⟩ := hargs c
    obtain ⟨h45, h56, h67, h78, h46, h57, h68, h79, h49, h60, h71, h82, h54, h65, h76, h87, h55, h66, h77, h88, h89, hrest⟩ := h c
    have s0 := (reduced2 1 2048 _ reducesTo_S8x1x2048_S1x2048_d0 (by decide) h_S_).trans (congrArg (sum2 (F := Ideal) 1 2048) e33)
    have s1 := (reduced2 1 1024 _ reducesTo_S8x1x1024_S1x1024_d0 (by decide) h_S_).trans (congrArg (sum2 (F := Ideal) 1 1024) e34)
    have s4 := (reduced2 1 64 _ reducesTo_S8x1x64_S1x64_d0 (by decide) h_S_).trans (congrArg (sum2 (F := Ideal) 1 64) e37)
    have s9 := (reduced2 1 1024 _ reducesTo_S8x1x1024_S1x1024_d0 (by decide) h_S_).trans (congrArg (sum2 (F := Ideal) 1 1024) e42)
    have s10 := (reduced2 1 2048 _ reducesTo_S8x1x2048_S1x2048_d0 (by decide) h_S_).trans (congrArg (sum2 (F := Ideal) 1 2048) e43)
    have sl := (reduced2 1 128 _ reducesTo_S8x1x128_S1x128_d0 (by decide) h_S_).trans (congrArg (sum2 (F := Ideal) 1 128) e44)
    exact ⟨h45.trans ((s0).trans (final45 m c).symm),
      h56.trans ((change_of _ (e0.trans (load2_eq 1 2048 _).symm) (e11.trans (load2_eq 1 2048 _).symm) (e22.trans (load2_eq 1 2048 _).symm) s0).trans (final56 m c).symm),
      h67.trans ((mean_of _ (e11.trans (load2_eq 1 2048 _).symm) s0).trans (final67 m c).symm),
      h78.trans ((square_of _ (e22.trans (load2_eq 1 2048 _).symm) s0).trans (final78 m c).symm),
      h46.trans ((s1).trans (final46 m c).symm),
      h57.trans ((change_of _ (e1.trans (load2_eq 1 1024 _).symm) (e12.trans (load2_eq 1 1024 _).symm) (e23.trans (load2_eq 1 1024 _).symm) s1).trans (final57 m c).symm),
      h68.trans ((mean_of _ (e12.trans (load2_eq 1 1024 _).symm) s1).trans (final68 m c).symm),
      h79.trans ((square_of _ (e23.trans (load2_eq 1 1024 _).symm) s1).trans (final79 m c).symm),
      h49.trans ((s4).trans (final49 m c).symm),
      h60.trans ((change_of _ (e4.trans (load2_eq 1 64 _).symm) (e15.trans (load2_eq 1 64 _).symm) (e26.trans (load2_eq 1 64 _).symm) s4).trans (final60 m c).symm),
      h71.trans ((mean_of _ (e15.trans (load2_eq 1 64 _).symm) s4).trans (final71 m c).symm),
      h82.trans ((square_of _ (e26.trans (load2_eq 1 64 _).symm) s4).trans (final82 m c).symm),
      h54.trans ((s9).trans (final54 m c).symm),
      h65.trans ((change_of _ (e9.trans (load2_eq 1 1024 _).symm) (e20.trans (load2_eq 1 1024 _).symm) (e31.trans (load2_eq 1 1024 _).symm) s9).trans (final65 m c).symm),
      h76.trans ((mean_of _ (e20.trans (load2_eq 1 1024 _).symm) s9).trans (final76 m c).symm),
      h87.trans ((square_of _ (e31.trans (load2_eq 1 1024 _).symm) s9).trans (final87 m c).symm),
      h55.trans (((congrArg (fun X => lift (unlift X)) s10).trans (lifted_back _)).trans (final55 m c).symm),
      h66.trans (((congrArg (lift) (change_of _ e10 e21 e32 (congrArg unlift s10))).trans (lifted_change _ _ _ _ (held2_eq 1 2048 _).symm (held2_eq 1 2048 _).symm (held2_eq 1 2048 _).symm)).trans (final66 m c).symm),
      h77.trans (((congrArg (lift) (mean_of _ e21 (congrArg unlift s10))).trans (lifted_mean _ _ (held2_eq 1 2048 _).symm)).trans (final77 m c).symm),
      h88.trans (((congrArg (lift) (square_of _ e32 (congrArg unlift s10))).trans (lifted_square _ _ (held2_eq 1 2048 _).symm)).trans (final88 m c).symm),
      h89.trans ((sl).trans (final89 m c).symm), hrest⟩

/-- The reference's run keeps its arguments; its machine has no semaphore. -/
theorem reference_frame : Cert.quiescent_AdamRowsRefIdeal := fun m g _ =>
  (θ_run Cert.AdamRowsRefIdeal.defs _ _).mono (fun r h => ⟨fun c => (h c).2.2.2.2.2.2.2.2.2.2.2.2.2.2.2.2.2.2.2.2.2, sem_eq_zero_of_no_sems rfl r.2⟩) (run m g)

end Cert.AdamRowsClaim

end
-- ==== Proof.AdamOutValue.lean ====
/-
  The optimiser's step for `w_out`, kernel side: one point steps all rows.
-/
module

public import proofs.«01_k».proof.Proof.Gen.AdamOutIdeal.Value
public import proofs.«01_k».proof.Proof.Adam

@[expose] public section

set_option maxRecDepth 16384

noncomputable section

namespace Cert.AdamOutIdeal.Body

open Cert.AdamOutIdeal Cert.AdamOutIdeal.Gen Cert.Adam Cert.Running Idealize.ShloMosaic Idealize.ShloMosaic.TcCoe Idealize.SL.Sem
open Idealize.ShloMosaic.StackMember

variable (x0 x1 x2 : Vec Ideal S256x2048 .f32) (x3 : Vec Ideal S256x2048 .bf16) (x4 : Vec Ideal S7x256x2048 .bf16)

/-- A point's four blocks. -/
theorem given_eq : k0_pay6 x0 x1 x2 x3 x4 = grad x3 x4 := by
  funext y
  unfold k0_pay6
  rw [View.ld_unit_zero (S := S256x2048) hz2]
  exact grad_ld x3 x4 (by decide) shapeCasts_S1x256x2048_S256x2048 y (fun g => shapeCast S256x2048 (View.ld x4 (Rect.unit (s := S7x256x2048)
    ![g.val, 0, 0] S1x256x2048.size (by revert g; decide))) shapeCasts_S1x256x2048_S256x2048 y) fun g => rfl

theorem out5_eq : out0_5 x0 x1 x2 x3 x4 = grad x3 x4 := by
  unfold out0_5; rw [View.canon_unit_zero hz2, given_eq]

theorem out6_eq : out0_6 x0 x1 x2 x3 x4 = changes x0 x1 x2 x3 x4 := by
  unfold out0_6 k0_pay7; rw [View.canon_unit_zero hz2, given_eq]; simp only [View.ld_unit_zero (S := S256x2048) hz2]; rfl

theorem out7_eq : out0_7 x0 x1 x2 x3 x4 = means x1 x3 x4 := by
  unfold out0_7 k0_pay7; rw [View.canon_unit_zero hz2, given_eq]; simp only [View.ld_unit_zero (S := S256x2048) hz2]; rfl

theorem out8_eq : out0_8 x0 x1 x2 x3 x4 = squares x2 x3 x4 := by
  unfold out0_8; rw [View.canon_unit_zero hz2, given_eq]; simp only [View.ld_unit_zero (S := S256x2048) hz2]; rfl

variable (m : (ℓ : Loc nD τ sig) → Buf (Elt Ideal) ℓ) (c : Dev nD)

/-- The arguments as arrays: the weights, their two means, the device's own part of the gradient and the others' parts. -/
abbrev A0 : S256x2048.Idx → EReal := m ((c : Thread nD τ).loc main_arg0)
abbrev A1 : S256x2048.Idx → EReal := m ((c : Thread nD τ).loc main_arg1)
abbrev A2 : S256x2048.Idx → EReal := m ((c : Thread nD τ).loc main_arg2)
abbrev A3 : S256x2048.Idx → EReal := m ((c : Thread nD τ).loc main_arg3)
abbrev A4 : S7x256x2048.Idx → EReal := m ((c : Thread nD τ).loc main_arg4)

theorem index0 : ∀ t : Fin cfg0.N, win0_0.index t = ![0, 0] := (by decide +kernel : ∀ t : Fin grid0.N, _)
theorem index4 : ∀ t : Fin cfg0.N, win0_4.index t = ![0, 0, 0] := (by decide +kernel : ∀ t : Fin grid0.N, _)

/-- The only point's blocks are the whole arrays. -/
theorem blk0_eq (t : Fin cfg0.N) : (iblk m c 0 t : Vec Ideal S256x2048 .f32) = A0 m c := by
  funext y; unfold iblk; rw [View.read_apply]; show V m c main_arg0 _ = _; rw [V_main_arg0]; blk_ext [index0]
theorem blk1_eq (t : Fin cfg0.N) : (iblk m c 1 t : Vec Ideal S256x2048 .f32) = A1 m c := by
  funext y; unfold iblk; rw [View.read_apply]; show V m c main_arg1 _ = _; rw [V_main_arg1]; blk_ext [show win0_1.index t = _ from index0 t]
theorem blk2_eq (t : Fin cfg0.N) : (iblk m c 2 t : Vec Ideal S256x2048 .f32) = A2 m c := by
  funext y; unfold iblk; rw [View.read_apply]; show V m c main_arg2 _ = _; rw [V_main_arg2]; blk_ext [show win0_2.index t = _ from index0 t]
theorem blk3_eq (t : Fin cfg0.N) : (iblk m c 3 t : Vec Ideal S256x2048 .bf16) = A3 m c := by
  funext y; unfold iblk; rw [View.read_apply]; show V m c main_arg3 _ = _; rw [V_main_arg3]; blk_ext [show win0_3.index t = _ from index0 t]
theorem blk4_eq (t : Fin cfg0.N) : (iblk m c 4 t : Vec Ideal S7x256x2048 .bf16) = A4 m c := by
  funext y; unfold iblk; rw [View.read_apply]; show V m c main_arg4 _ = _; rw [V_main_arg4]; blk_ext [index4]

theorem final5 : (dats m 0 c).arrAt 5 cfg0.N = grad (A3 m c) (A4 m c) :=
  (dats m 0 c).arrAt_eq_of_covers 5 _ (by decide +kernel) fun t hf y => by
    blk_simp
    rw [after0_5, out5_eq, blk3_eq, blk4_eq]
    refine congrArg (grad (A3 m c) (A4 m c)) ?_
    blk_ext [show win0_5.index t = _ from index0 t]

theorem final6 : (dats m 0 c).arrAt 6 cfg0.N = changes (A0 m c) (A1 m c) (A2 m c) (A3 m c) (A4 m c) :=
  (dats m 0 c).arrAt_eq_of_covers 6 _ (by decide +kernel) fun t hf y => by
    blk_simp
    rw [after0_6, out6_eq, blk0_eq, blk1_eq, blk2_eq, blk3_eq, blk4_eq]
    refine congrArg (changes (A0 m c) (A1 m c) (A2 m c) (A3 m c) (A4 m c)) ?_
    blk_ext [show win0_6.index t = _ from index0 t]

theorem final7 : (dats m 0 c).arrAt 7 cfg0.N = means (A1 m c) (A3 m c) (A4 m c) :=
  (dats m 0 c).arrAt_eq_of_covers 7 _ (by decide +kernel) fun t hf y => by
    blk_simp
    rw [after0_7, out7_eq, blk1_eq, blk3_eq, blk4_eq]
    refine congrArg (means (A1 m c) (A3 m c) (A4 m c)) ?_
    blk_ext [show win0_7.index t = _ from index0 t]

theorem final8 : (dats m 0 c).arrAt 8 cfg0.N = squares (A2 m c) (A3 m c) (A4 m c) :=
  (dats m 0 c).arrAt_eq_of_covers 8 _ (by decide +kernel) fun t hf y => by
    blk_simp
    rw [after0_8, out8_eq, blk2_eq, blk3_eq, blk4_eq]
    refine congrArg (squares (A2 m c) (A3 m c) (A4 m c)) ?_
    blk_ext [show win0_8.index t = _ from index0 t]

/-- The run, read: the gradient, the change, the two means, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = grad (A3 m c) (A4 m c)
      ∧ r.2.mem ((c : Thread nD τ).loc main_v0_1) = changes (A0 m c) (A1 m c) (A2 m c) (A3 m c) (A4 m c)
      ∧ r.2.mem ((c : Thread nD τ).loc main_v0_2) = means (A1 m c) (A3 m c) (A4 m c)
      ∧ r.2.mem ((c : Thread nD τ).loc main_v0_3) = squares (A2 m c) (A3 m c) (A4 m c)
      ∧ r.2.mem ((c : Thread nD τ).loc main_arg0) = A0 m c
      ∧ r.2.mem ((c : Thread nD τ).loc main_arg1) = A1 m c
      ∧ r.2.mem ((c : Thread nD τ).loc main_arg2) = A2 m c
      ∧ r.2.mem ((c : Thread nD τ).loc main_arg3) = A3 m c
      ∧ r.2.mem ((c : Thread nD τ).loc main_arg4) = A4 m c :=
  (θ_run defs _ _).mono (fun _ h c => ⟨(h c).1.trans (final5 m c), (h c).2.1.trans (final6 m c), (h c).2.2.1.trans (final7 m c),
    (h c).2.2.2.1.trans (final8 m c), (h c).2.2.2.2⟩) (Value.run_blocks m ρ)

end Cert.AdamOutIdeal.Body

end
-- ==== Proof.AdamOutClaim.lean ====
/-
  The optimiser's step for `w_out`: the reference adds the seven landed parts in one sum, then steps the same way, on all
  arguments.
-/
module

public import proofs.«01_k».proof.Defs
public import proofs.«01_k».proof.Proof.AdamOutValue
public import proofs.«01_k».proof.Proof.Gen.AdamOutRefIdeal.Read
public import Idealize.ShloMosaic.Lib.Quiescent

@[expose] public section

set_option maxRecDepth 16384

noncomputable section

namespace Cert.AdamOutClaim

open Idealize.ShloMosaic Idealize.SL.Sem Cert.Adam
open Cert.AdamOutIdeal.Body (A0 A1 A2 A3 A4)
open Cert.AdamOutRefIdeal Cert.AdamOutRefIdeal.Gen Cert.AdamOutRefIdeal.Read

variable (x0 x1 x2 x3 : S256x2048.Idx → EReal) (x4 : S7x256x2048.Idx → EReal)

theorem reads_grad : val_main_v3 (F := Ideal) x3 x4 = grad x3 x4 := by
  funext j
  have h0 : val_main_cst (F := Ideal) (Shape.Idx.first h_S_) = 0 := Ideal.ofBits_zero_f32
  rw [val_main_v3_apply, val_main_v2_apply, h0, zero_add]
  refine congrArg (x3 j + ·) (Finset.sum_congr rfl fun k _ => congrArg x4 (funext fun a => ?_))
  fin_cases a <;> rfl

theorem reads_means : val_main_v8 (F := Ideal) x1 x3 x4 = means x1 x3 x4 := by
  funext j
  simp only [val_main_v8_apply, val_main_v7_apply, reads_grad]
  rfl

theorem reads_squares : val_main_v14 (F := Ideal) x2 x3 x4 = squares x2 x3 x4 := by
  funext j
  simp only [val_main_v14_apply, val_main_v13_apply, val_main_v11_apply, reads_grad]
  rfl

theorem reads_changes : val_main_v27 (F := Ideal) x0 x1 x2 x3 x4 = changes x0 x1 x2 x3 x4 := by
  funext j
  simp only [val_main_v27_apply, val_main_v25_apply, val_main_v22_apply, val_main_v21_apply, val_main_v19_apply,
    val_main_v18_apply, val_main_v16_apply, reads_means, reads_squares]
  rfl

theorem algebraic : Cert.algebraic_AdamOutIdeal_AdamOutRefIdeal := by
  intro m g m' g' _ hargs
  refine ⟨fun c => grad (A3 m c) (A4 m c), fun c => changes (A0 m c) (A1 m c) (A2 m c) (A3 m c) (A4 m c),
    fun c => means (A1 m c) (A3 m c) (A4 m c), fun c => squares (A2 m c) (A3 m c) (A4 m c), Cert.AdamOutIdeal.Body.run m g,
    (θ_run Cert.AdamOutRefIdeal.defs _ _).mono (fun r h c => ?_) (Cert.AdamOutRefIdeal.Value.run m' g')⟩
  obtain ⟨e0, e1, e2, e3, e4⟩ := hargs c
  obtain ⟨h3, h27, h8, h14, hrest⟩ := h c
  rw [val_main_v3_eq, e3, e4, reads_grad] at h3
  rw [val_main_v27_eq, e0, e1, e2, e3, e4, reads_changes] at h27
  rw [val_main_v8_eq, e1, e3, e4, reads_means] at h8
  rw [val_main_v14_eq, e2, e3, e4, reads_squares] at h14
  exact ⟨h3, h27, h8, h14, hrest⟩

/-- The reference's run keeps its arguments; its machine has no semaphore. -/
theorem reference_frame : Cert.quiescent_AdamOutRefIdeal := fun m g _ =>
  (θ_run Cert.AdamOutRefIdeal.defs _ _).mono (fun r h => ⟨fun c => (h c).2.2.2.2, sem_eq_zero_of_no_sems rfl r.2⟩) (Cert.AdamOutRefIdeal.Value.run m g)

end Cert.AdamOutClaim

end
-- ==== Proof.AdamPleGateClaim.lean ====
/-
  The optimiser's step for `w_ple_gate`: the program and its reference have the texts of the step for `w_out`, and so its
  runs.
-/
module

public import proofs.«01_k».proof.Proof.AdamOutClaim
public import proofs.«01_k».proof.Proof.Gen.AdamPleGateIdeal
public import proofs.«01_k».proof.Proof.Gen.AdamPleGateRefIdeal

@[expose] public section

set_option maxRecDepth 16384

noncomputable section

namespace Cert.AdamPleGateClaim

open Idealize.ShloMosaic Idealize.SL.Sem

/-- The two programs' bodies are one function. -/
theorem bodies_eq : Cert.AdamPleGateIdeal.defs₀ (F := Ideal) = Cert.AdamOutIdeal.defs₀ (F := Ideal) := by
  funext p
  cases p with
  | tc =>
    funext l
    have e : l = (0 : Fin 1) := Fin.eq_zero l
    subst e
    rfl
  | scScalar _ => rfl
  | scVector _ _ => rfl

theorem defs_eq : Cert.AdamPleGateIdeal.defs (F := Ideal) = Cert.AdamOutIdeal.defs (F := Ideal) :=
  congrArg (Pipeline.defs Cert.AdamOutIdeal.pcfgs) bodies_eq

theorem algebraic : Cert.algebraic_AdamPleGateIdeal_AdamPleGateRefIdeal := by
  intro m g m' g' h hargs
  obtain ⟨v0, v1, v2, v3, hv, hr⟩ := AdamOutClaim.algebraic m g m' g' h hargs
  rw [← defs_eq] at hv
  exact ⟨v0, v1, v2, v3, hv, hr⟩

theorem reference_frame : Cert.quiescent_AdamPleGateRefIdeal := AdamOutClaim.reference_frame

end Cert.AdamPleGateClaim

end
-- ==== Proof.AdamGluValue.lean ====
/-
  The optimiser's step for the rows of `w_glu`, kernel side: point `t` steps rows `256 t … 256 t + 255`.
-/
module

public import proofs.«01_k».proof.Proof.Gen.AdamGluIdeal.Value
public import proofs.«01_k».proof.Proof.Adam

@[expose] public section

set_option maxRecDepth 16384

noncomputable section

namespace Cert.AdamGluIdeal.Body

open Cert.AdamGluIdeal Cert.AdamGluIdeal.Gen Cert.Adam Cert.Running Idealize.ShloMosaic Idealize.ShloMosaic.TcCoe Idealize.SL.Sem
open Idealize.ShloMosaic.StackMember

variable (x0 x1 x2 : Vec Ideal S256x256 .f32) (x3 : Vec Ideal S256x256 .bf16) (x4 : Vec Ideal S7x256x256 .bf16)

/-- A point's four blocks. -/
theorem given_eq : k0_pay6 x0 x1 x2 x3 x4 = grad x3 x4 := by
  funext y
  unfold k0_pay6
  rw [View.ld_unit_zero (S := S256x256) hz2]
  exact grad_ld x3 x4 (by decide) shapeCasts_S1x256x256_S256x256 y (fun g => shapeCast S256x256 (View.ld x4 (Rect.unit (s := S7x256x256)
    ![g.val, 0, 0] S1x256x256.size (by revert g; decide))) shapeCasts_S1x256x256_S256x256 y) fun g => rfl

theorem out5_eq : out0_5 x0 x1 x2 x3 x4 = grad x3 x4 := by
  unfold out0_5; rw [View.canon_unit_zero hz2, given_eq]

theorem out6_eq : out0_6 x0 x1 x2 x3 x4 = changes x0 x1 x2 x3 x4 := by
  unfold out0_6 k0_pay7; rw [View.canon_unit_zero hz2, given_eq]; simp only [View.ld_unit_zero (S := S256x256) hz2]; rfl

theorem out7_eq : out0_7 x0 x1 x2 x3 x4 = means x1 x3 x4 := by
  unfold out0_7 k0_pay7; rw [View.canon_unit_zero hz2, given_eq]; simp only [View.ld_unit_zero (S := S256x256) hz2]; rfl

theorem out8_eq : out0_8 x0 x1 x2 x3 x4 = squares x2 x3 x4 := by
  unfold out0_8; rw [View.canon_unit_zero hz2, given_eq]; simp only [View.ld_unit_zero (S := S256x256) hz2]; rfl

variable (m : (ℓ : Loc nD τ sig) → Buf (Elt Ideal) ℓ) (c : Dev nD)

/-- The arguments as arrays: the weights, their two means, the device's own part of the gradient and the others' parts. -/
abbrev A0 : S1024x256.Idx → EReal := m ((c : Thread nD τ).loc main_arg0)
abbrev A1 : S1024x256.Idx → EReal := m ((c : Thread nD τ).loc main_arg1)
abbrev A2 : S1024x256.Idx → EReal := m ((c : Thread nD τ).loc main_arg2)
abbrev A3 : S1024x256.Idx → EReal := m ((c : Thread nD τ).loc main_arg3)
abbrev A4 : S7x1024x256.Idx → EReal := m ((c : Thread nD τ).loc main_arg4)

theorem index0 : ∀ t : Fin cfg0.N, win0_0.index t = ![t.val, 0] := (by decide +kernel : ∀ t : Fin grid0.N, _)
theorem index4 : ∀ t : Fin cfg0.N, win0_4.index t = ![0, t.val, 0] := (by decide +kernel : ∀ t : Fin grid0.N, _)

/-- Row `r` of point `t`'s rows. -/
def row (t : Fin cfg0.N) (r : Fin 256) : Fin 1024 := ⟨t.val * 256 + r.val, by have : t.val < 4 := t.isLt; omega⟩

theorem blk0_apply (t : Fin cfg0.N) (r l : Fin 256) :
    (iblk m c 0 t : Vec Ideal S256x256 .f32) (ix2 r l) = A0 m c (ix2 (row t r) l) := by
  unfold iblk; rw [View.read_apply]; show V m c main_arg0 _ = _; rw [V_main_arg0]; blk_ext [index0, row]
theorem blk1_apply (t : Fin cfg0.N) (r l : Fin 256) :
    (iblk m c 1 t : Vec Ideal S256x256 .f32) (ix2 r l) = A1 m c (ix2 (row t r) l) := by
  unfold iblk; rw [View.read_apply]; show V m c main_arg1 _ = _; rw [V_main_arg1]; blk_ext [show win0_1.index t = _ from index0 t, row]
theorem blk2_apply (t : Fin cfg0.N) (r l : Fin 256) :
    (iblk m c 2 t : Vec Ideal S256x256 .f32) (ix2 r l) = A2 m c (ix2 (row t r) l) := by
  unfold iblk; rw [View.read_apply]; show V m c main_arg2 _ = _; rw [V_main_arg2]; blk_ext [show win0_2.index t = _ from index0 t, row]
theorem blk3_apply (t : Fin cfg0.N) (r l : Fin 256) :
    (iblk m c 3 t : Vec Ideal S256x256 .bf16) (ix2 r l) = A3 m c (ix2 (row t r) l) := by
  unfold iblk; rw [View.read_apply]; show V m c main_arg3 _ = _; rw [V_main_arg3]; blk_ext [show win0_3.index t = _ from index0 t, row]
theorem blk4_apply (t : Fin cfg0.N) (g : Fin 7) (r l : Fin 256) :
    (iblk m c 4 t : Vec Ideal S7x256x256 .bf16) (ix3 g r l) = A4 m c (ix3 g (row t r) l) := by
  unfold iblk; rw [View.read_apply]; show V m c main_arg4 _ = _; rw [V_main_arg4]; blk_ext [index4, row]

theorem grad_blk (t : Fin cfg0.N) (r l : Fin 256) :
    grad (iblk m c 3 t : Vec Ideal S256x256 .bf16) (iblk m c 4 t : Vec Ideal S7x256x256 .bf16) (ix2 r l)
      = grad (A3 m c) (A4 m c) (ix2 (row t r) l) :=
  grad_congr (blk3_apply m c t r l) fun g => blk4_apply m c t g r l

theorem final5 : (dats m 0 c).arrAt 5 cfg0.N = grad (A3 m c) (A4 m c) :=
  (dats m 0 c).arrAt_eq_of_covers 5 _ (by decide +kernel) fun t hf y => by
    obtain ⟨r, l, rfl⟩ : ∃ (r l : Fin 256), y = ix2 r l := ⟨y 0, y 1, eq_ix2 y⟩
    blk_simp
    rw [after0_5, out5_eq]
    refine (grad_blk m c t r l).trans (congrArg (grad (A3 m c) (A4 m c)) ?_)
    blk_ext [show win0_5.index t = _ from index0 t, row]

theorem final6 : (dats m 0 c).arrAt 6 cfg0.N = changes (A0 m c) (A1 m c) (A2 m c) (A3 m c) (A4 m c) :=
  (dats m 0 c).arrAt_eq_of_covers 6 _ (by decide +kernel) fun t hf y => by
    obtain ⟨r, l, rfl⟩ : ∃ (r l : Fin 256), y = ix2 r l := ⟨y 0, y 1, eq_ix2 y⟩
    blk_simp
    rw [after0_6, out6_eq]
    refine (changes_congr (blk0_apply m c t r l) (blk1_apply m c t r l) (blk2_apply m c t r l) (grad_blk m c t r l)).trans
      (congrArg (changes (A0 m c) (A1 m c) (A2 m c) (A3 m c) (A4 m c)) ?_)
    blk_ext [show win0_6.index t = _ from index0 t, row]

theorem final7 : (dats m 0 c).arrAt 7 cfg0.N = means (A1 m c) (A3 m c) (A4 m c) :=
  (dats m 0 c).arrAt_eq_of_covers 7 _ (by decide +kernel) fun t hf y => by
    obtain ⟨r, l, rfl⟩ : ∃ (r l : Fin 256), y = ix2 r l := ⟨y 0, y 1, eq_ix2 y⟩
    blk_simp
    rw [after0_7, out7_eq]
    refine (means_congr (blk1_apply m c t r l) (grad_blk m c t r l)).trans (congrArg (means (A1 m c) (A3 m c) (A4 m c)) ?_)
    blk_ext [show win0_7.index t = _ from index0 t, row]

theorem final8 : (dats m 0 c).arrAt 8 cfg0.N = squares (A2 m c) (A3 m c) (A4 m c) :=
  (dats m 0 c).arrAt_eq_of_covers 8 _ (by decide +kernel) fun t hf y => by
    obtain ⟨r, l, rfl⟩ : ∃ (r l : Fin 256), y = ix2 r l := ⟨y 0, y 1, eq_ix2 y⟩
    blk_simp
    rw [after0_8, out8_eq]
    refine (squares_congr (blk2_apply m c t r l) (grad_blk m c t r l)).trans (congrArg (squares (A2 m c) (A3 m c) (A4 m c)) ?_)
    blk_ext [show win0_8.index t = _ from index0 t, row]

/-- The run, read: the gradient, the change, the two means, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = grad (A3 m c) (A4 m c)
      ∧ r.2.mem ((c : Thread nD τ).loc main_v0_1) = changes (A0 m c) (A1 m c) (A2 m c) (A3 m c) (A4 m c)
      ∧ r.2.mem ((c : Thread nD τ).loc main_v0_2) = means (A1 m c) (A3 m c) (A4 m c)
      ∧ r.2.mem ((c : Thread nD τ).loc main_v0_3) = squares (A2 m c) (A3 m c) (A4 m c)
      ∧ r.2.mem ((c : Thread nD τ).loc main_arg0) = A0 m c
      ∧ r.2.mem ((c : Thread nD τ).loc main_arg1) = A1 m c
      ∧ r.2.mem ((c : Thread nD τ).loc main_arg2) = A2 m c
      ∧ r.2.mem ((c : Thread nD τ).loc main_arg3) = A3 m c
      ∧ r.2.mem ((c : Thread nD τ).loc main_arg4) = A4 m c :=
  (θ_run defs _ _).mono (fun _ h c => ⟨(h c).1.trans (final5 m c), (h c).2.1.trans (final6 m c), (h c).2.2.1.trans (final7 m c),
    (h c).2.2.2.1.trans (final8 m c), (h c).2.2.2.2⟩) (Value.run_blocks m ρ)

end Cert.AdamGluIdeal.Body

end
-- ==== Proof.AdamPleValue.lean ====
/-
  The optimiser's step for `w_ple`, kernel side: one point steps all rows, with the body of a tile of `w_glu`.
-/
module

public import proofs.«01_k».proof.Proof.Gen.AdamPleIdeal.Value
public import proofs.«01_k».proof.Proof.AdamGluValue

@[expose] public section

set_option maxRecDepth 16384

noncomputable section

namespace Cert.AdamPleIdeal.Body

open Cert.AdamPleIdeal Cert.AdamPleIdeal.Gen Cert.Adam Cert.Running Idealize.ShloMosaic Idealize.ShloMosaic.TcCoe Idealize.SL.Sem
open Idealize.ShloMosaic.StackMember

variable (x0 x1 x2 : Vec Ideal S256x256 .f32) (x3 : Vec Ideal S256x256 .bf16) (x4 : Vec Ideal S7x256x256 .bf16)

/-- The body is the one of a tile of `w_glu`. -/
theorem out5_eq : out0_5 x0 x1 x2 x3 x4 = grad x3 x4 := AdamGluIdeal.Body.out5_eq x0 x1 x2 x3 x4
theorem out6_eq : out0_6 x0 x1 x2 x3 x4 = changes x0 x1 x2 x3 x4 := AdamGluIdeal.Body.out6_eq x0 x1 x2 x3 x4
theorem out7_eq : out0_7 x0 x1 x2 x3 x4 = means x1 x3 x4 := AdamGluIdeal.Body.out7_eq x0 x1 x2 x3 x4
theorem out8_eq : out0_8 x0 x1 x2 x3 x4 = squares x2 x3 x4 := AdamGluIdeal.Body.out8_eq x0 x1 x2 x3 x4

variable (m : (ℓ : Loc nD τ sig) → Buf (Elt Ideal) ℓ) (c : Dev nD)

/-- The arguments as arrays: the weights, their two means, the device's own part of the gradient and the others' parts. -/
abbrev A0 : S256x256.Idx → EReal := m ((c : Thread nD τ).loc main_arg0)
abbrev A1 : S256x256.Idx → EReal := m ((c : Thread nD τ).loc main_arg1)
abbrev A2 : S256x256.Idx → EReal := m ((c : Thread nD τ).loc main_arg2)
abbrev A3 : S256x256.Idx → EReal := m ((c : Thread nD τ).loc main_arg3)
abbrev A4 : S7x256x256.Idx → EReal := m ((c : Thread nD τ).loc main_arg4)

theorem index0 : ∀ t : Fin cfg0.N, win0_0.index t = ![0, 0] := (by decide +kernel : ∀ t : Fin grid0.N, _)
theorem index4 : ∀ t : Fin cfg0.N, win0_4.index t = ![0, 0, 0] := (by decide +kernel : ∀ t : Fin grid0.N, _)

/-- The only point's blocks are the whole arrays. -/
theorem blk0_eq (t : Fin cfg0.N) : (iblk m c 0 t : Vec Ideal S256x256 .f32) = A0 m c := by
  funext y; unfold iblk; rw [View.read_apply]; show V m c main_arg0 _ = _; rw [V_main_arg0]; blk_ext [index0]
theorem blk1_eq (t : Fin cfg0.N) : (iblk m c 1 t : Vec Ideal S256x256 .f32) = A1 m c := by
  funext y; unfold iblk; rw [View.read_apply]; show V m c main_arg1 _ = _; rw [V_main_arg1]; blk_ext [show win0_1.index t = _ from index0 t]
theorem blk2_eq (t : Fin cfg0.N) : (iblk m c 2 t : Vec Ideal S256x256 .f32) = A2 m c := by
  funext y; unfold iblk; rw [View.read_apply]; show V m c main_arg2 _ = _; rw [V_main_arg2]; blk_ext [show win0_2.index t = _ from index0 t]
theorem blk3_eq (t : Fin cfg0.N) : (iblk m c 3 t : Vec Ideal S256x256 .bf16) = A3 m c := by
  funext y; unfold iblk; rw [View.read_apply]; show V m c main_arg3 _ = _; rw [V_main_arg3]; blk_ext [show win0_3.index t = _ from index0 t]
theorem blk4_eq (t : Fin cfg0.N) : (iblk m c 4 t : Vec Ideal S7x256x256 .bf16) = A4 m c := by
  funext y; unfold iblk; rw [View.read_apply]; show V m c main_arg4 _ = _; rw [V_main_arg4]; blk_ext [index4]

theorem final5 : (dats m 0 c).arrAt 5 cfg0.N = grad (A3 m c) (A4 m c) :=
  (dats m 0 c).arrAt_eq_of_covers 5 _ (by decide +kernel) fun t hf y => by
    blk_simp
    rw [after0_5, out5_eq, blk3_eq, blk4_eq]
    refine congrArg (grad (A3 m c) (A4 m c)) ?_
    blk_ext [show win0_5.index t = _ from index0 t]

theorem final6 : (dats m 0 c).arrAt 6 cfg0.N = changes (A0 m c) (A1 m c) (A2 m c) (A3 m c) (A4 m c) :=
  (dats m 0 c).arrAt_eq_of_covers 6 _ (by decide +kernel) fun t hf y => by
    blk_simp
    rw [after0_6, out6_eq, blk0_eq, blk1_eq, blk2_eq, blk3_eq, blk4_eq]
    refine congrArg (changes (A0 m c) (A1 m c) (A2 m c) (A3 m c) (A4 m c)) ?_
    blk_ext [show win0_6.index t = _ from index0 t]

theorem final7 : (dats m 0 c).arrAt 7 cfg0.N = means (A1 m c) (A3 m c) (A4 m c) :=
  (dats m 0 c).arrAt_eq_of_covers 7 _ (by decide +kernel) fun t hf y => by
    blk_simp
    rw [after0_7, out7_eq, blk1_eq, blk3_eq, blk4_eq]
    refine congrArg (means (A1 m c) (A3 m c) (A4 m c)) ?_
    blk_ext [show win0_7.index t = _ from index0 t]

theorem final8 : (dats m 0 c).arrAt 8 cfg0.N = squares (A2 m c) (A3 m c) (A4 m c) :=
  (dats m 0 c).arrAt_eq_of_covers 8 _ (by decide +kernel) fun t hf y => by
    blk_simp
    rw [after0_8, out8_eq, blk2_eq, blk3_eq, blk4_eq]
    refine congrArg (squares (A2 m c) (A3 m c) (A4 m c)) ?_
    blk_ext [show win0_8.index t = _ from index0 t]

/-- The run, read: the gradient, the change, the two means, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = grad (A3 m c) (A4 m c)
      ∧ r.2.mem ((c : Thread nD τ).loc main_v0_1) = changes (A0 m c) (A1 m c) (A2 m c) (A3 m c) (A4 m c)
      ∧ r.2.mem ((c : Thread nD τ).loc main_v0_2) = means (A1 m c) (A3 m c) (A4 m c)
      ∧ r.2.mem ((c : Thread nD τ).loc main_v0_3) = squares (A2 m c) (A3 m c) (A4 m c)
      ∧ r.2.mem ((c : Thread nD τ).loc main_arg0) = A0 m c
      ∧ r.2.mem ((c : Thread nD τ).loc main_arg1) = A1 m c
      ∧ r.2.mem ((c : Thread nD τ).loc main_arg2) = A2 m c
      ∧ r.2.mem ((c : Thread nD τ).loc main_arg3) = A3 m c
      ∧ r.2.mem ((c : Thread nD τ).loc main_arg4) = A4 m c :=
  (θ_run defs _ _).mono (fun _ h c => ⟨(h c).1.trans (final5 m c), (h c).2.1.trans (final6 m c), (h c).2.2.1.trans (final7 m c),
    (h c).2.2.2.1.trans (final8 m c), (h c).2.2.2.2⟩) (Value.run_blocks m ρ)

end Cert.AdamPleIdeal.Body

end
-- ==== Proof.AdamPleClaim.lean ====
/-
  The optimiser's step for `w_ple`: the reference adds the seven landed parts in one sum, then steps the same way, on all
  arguments.
-/
module

public import proofs.«01_k».proof.Defs
public import proofs.«01_k».proof.Proof.AdamPleValue
public import proofs.«01_k».proof.Proof.Gen.AdamPleRefIdeal.Read
public import Idealize.ShloMosaic.Lib.Quiescent

@[expose] public section

set_option maxRecDepth 16384

noncomputable section

namespace Cert.AdamPleClaim

open Idealize.ShloMosaic Idealize.SL.Sem Cert.Adam
open Cert.AdamPleIdeal.Body (A0 A1 A2 A3 A4)
open Cert.AdamPleRefIdeal Cert.AdamPleRefIdeal.Gen Cert.AdamPleRefIdeal.Read

variable (x0 x1 x2 x3 : S256x256.Idx → EReal) (x4 : S7x256x256.Idx → EReal)

theorem reads_grad : val_main_v3 (F := Ideal) x3 x4 = grad x3 x4 := by
  funext j
  have h0 : val_main_cst (F := Ideal) (Shape.Idx.first h_S_) = 0 := Ideal.ofBits_zero_f32
  rw [val_main_v3_apply, val_main_v2_apply, h0, zero_add]
  refine congrArg (x3 j + ·) (Finset.sum_congr rfl fun k _ => congrArg x4 (funext fun a => ?_))
  fin_cases a <;> rfl

theorem reads_means : val_main_v8 (F := Ideal) x1 x3 x4 = means x1 x3 x4 := by
  funext j
  simp only [val_main_v8_apply, val_main_v7_apply, reads_grad]
  rfl

theorem reads_squares : val_main_v14 (F := Ideal) x2 x3 x4 = squares x2 x3 x4 := by
  funext j
  simp only [val_main_v14_apply, val_main_v13_apply, val_main_v11_apply, reads_grad]
  rfl

theorem reads_changes : val_main_v27 (F := Ideal) x0 x1 x2 x3 x4 = changes x0 x1 x2 x3 x4 := by
  funext j
  simp only [val_main_v27_apply, val_main_v25_apply, val_main_v22_apply, val_main_v21_apply, val_main_v19_apply,
    val_main_v18_apply, val_main_v16_apply, reads_means, reads_squares]
  rfl

theorem algebraic : Cert.algebraic_AdamPleIdeal_AdamPleRefIdeal := by
  intro m g m' g' _ hargs
  refine ⟨fun c => grad (A3 m c) (A4 m c), fun c => changes (A0 m c) (A1 m c) (A2 m c) (A3 m c) (A4 m c),
    fun c => means (A1 m c) (A3 m c) (A4 m c), fun c => squares (A2 m c) (A3 m c) (A4 m c), Cert.AdamPleIdeal.Body.run m g,
    (θ_run Cert.AdamPleRefIdeal.defs _ _).mono (fun r h c => ?_) (Cert.AdamPleRefIdeal.Value.run m' g')⟩
  obtain ⟨e0, e1, e2, e3, e4⟩ := hargs c
  obtain ⟨h3, h27, h8, h14, hrest⟩ := h c
  rw [val_main_v3_eq, e3, e4, reads_grad] at h3
  rw [val_main_v27_eq, e0, e1, e2, e3, e4, reads_changes] at h27
  rw [val_main_v8_eq, e1, e3, e4, reads_means] at h8
  rw [val_main_v14_eq, e2, e3, e4, reads_squares] at h14
  exact ⟨h3, h27, h8, h14, hrest⟩

/-- The reference's run keeps its arguments; its machine has no semaphore. -/
theorem reference_frame : Cert.quiescent_AdamPleRefIdeal := fun m g _ =>
  (θ_run Cert.AdamPleRefIdeal.defs _ _).mono (fun r h => ⟨fun c => (h c).2.2.2.2, sem_eq_zero_of_no_sems rfl r.2⟩) (Cert.AdamPleRefIdeal.Value.run m g)

end Cert.AdamPleClaim

end
-- ==== Proof.AdamGluClaim.lean ====
/-
  The optimiser's step for `w_glu`: the reference adds the seven landed parts in one sum, then steps the same way, on all
  arguments.
-/
module

public import proofs.«01_k».proof.Defs
public import proofs.«01_k».proof.Proof.AdamGluValue
public import proofs.«01_k».proof.Proof.Gen.AdamGluRefIdeal.Read
public import Idealize.ShloMosaic.Lib.Quiescent

@[expose] public section

set_option maxRecDepth 16384

noncomputable section

namespace Cert.AdamGluClaim

open Idealize.ShloMosaic Idealize.SL.Sem Cert.Adam
open Cert.AdamGluIdeal.Body (A0 A1 A2 A3 A4)
open Cert.AdamGluRefIdeal Cert.AdamGluRefIdeal.Gen Cert.AdamGluRefIdeal.Read

variable (x0 x1 x2 x3 : S1024x256.Idx → EReal) (x4 : S7x1024x256.Idx → EReal)

theorem reads_grad : val_main_v3 (F := Ideal) x3 x4 = grad x3 x4 := by
  funext j
  have h0 : val_main_cst (F := Ideal) (Shape.Idx.first h_S_) = 0 := Ideal.ofBits_zero_f32
  rw [val_main_v3_apply, val_main_v2_apply, h0, zero_add]
  refine congrArg (x3 j + ·) (Finset.sum_congr rfl fun k _ => congrArg x4 (funext fun a => ?_))
  fin_cases a <;> rfl

theorem reads_means : val_main_v8 (F := Ideal) x1 x3 x4 = means x1 x3 x4 := by
  funext j
  simp only [val_main_v8_apply, val_main_v7_apply, reads_grad]
  rfl

theorem reads_squares : val_main_v14 (F := Ideal) x2 x3 x4 = squares x2 x3 x4 := by
  funext j
  simp only [val_main_v14_apply, val_main_v13_apply, val_main_v11_apply, reads_grad]
  rfl

theorem reads_changes : val_main_v27 (F := Ideal) x0 x1 x2 x3 x4 = changes x0 x1 x2 x3 x4 := by
  funext j
  simp only [val_main_v27_apply, val_main_v25_apply, val_main_v22_apply, val_main_v21_apply, val_main_v19_apply,
    val_main_v18_apply, val_main_v16_apply, reads_means, reads_squares]
  rfl

theorem algebraic : Cert.algebraic_AdamGluIdeal_AdamGluRefIdeal := by
  intro m g m' g' _ hargs
  refine ⟨fun c => grad (A3 m c) (A4 m c), fun c => changes (A0 m c) (A1 m c) (A2 m c) (A3 m c) (A4 m c),
    fun c => means (A1 m c) (A3 m c) (A4 m c), fun c => squares (A2 m c) (A3 m c) (A4 m c), Cert.AdamGluIdeal.Body.run m g,
    (θ_run Cert.AdamGluRefIdeal.defs _ _).mono (fun r h c => ?_) (Cert.AdamGluRefIdeal.Value.run m' g')⟩
  obtain ⟨e0, e1, e2, e3, e4⟩ := hargs c
  obtain ⟨h3, h27, h8, h14, hrest⟩ := h c
  rw [val_main_v3_eq, e3, e4, reads_grad] at h3
  rw [val_main_v27_eq, e0, e1, e2, e3, e4, reads_changes] at h27
  rw [val_main_v8_eq, e1, e3, e4, reads_means] at h8
  rw [val_main_v14_eq, e2, e3, e4, reads_squares] at h14
  exact ⟨h3, h27, h8, h14, hrest⟩

/-- The reference's run keeps its arguments; its machine has no semaphore. -/
theorem reference_frame : Cert.quiescent_AdamGluRefIdeal := fun m g _ =>
  (θ_run Cert.AdamGluRefIdeal.defs _ _).mono (fun r h => ⟨fun c => (h c).2.2.2.2, sem_eq_zero_of_no_sems rfl r.2⟩) (Cert.AdamGluRefIdeal.Value.run m g)

end Cert.AdamGluClaim

end
-- ==== Proof.AdamPoolValue.lean ====
/-
  The optimiser's step for `w_pool`, kernel side: one point steps the four groups' rows, laid one after the other.
-/
module

public import proofs.«01_k».proof.Proof.Gen.AdamPoolIdeal.Value
public import proofs.«01_k».proof.Proof.Adam

@[expose] public section

set_option maxRecDepth 16384

noncomputable section

namespace Cert.AdamPoolIdeal.Body

open Cert.AdamPoolIdeal Cert.AdamPoolIdeal.Gen Cert.Adam Cert.Running Idealize.ShloMosaic Idealize.ShloMosaic.TcCoe Idealize.SL.Sem
open Idealize.ShloMosaic.StackMember

variable (x0 x1 x2 : Vec Ideal S128x256 .f32) (x3 : Vec Ideal S128x256 .bf16) (x4 : Vec Ideal S7x128x256 .bf16)

/-- The only point's four blocks. -/
theorem given_eq : k0_pay6 x0 x1 x2 x3 x4 = grad x3 x4 := by
  funext y
  unfold k0_pay6
  rw [View.ld_unit_zero (S := S128x256) hz2]
  exact (grad_ld (shapeCast S128x256 x3 shapeCasts_S128x256_S128x256) x4 (by decide) shapeCasts_S1x128x256_S128x256 y
    (fun g => shapeCast S128x256 (View.ld x4 (Rect.unit (s := S7x128x256) ![g.val, 0, 0] S1x128x256.size (by revert g; decide)))
      shapeCasts_S1x128x256_S128x256 y) fun g => rfl).trans (by rw [shapeCast_self])

theorem out5_eq : out0_5 x0 x1 x2 x3 x4 = grad x3 x4 := by
  unfold out0_5; rw [View.canon_unit_zero hz2, given_eq]

theorem out6_eq : out0_6 x0 x1 x2 x3 x4 = changes x0 x1 x2 x3 x4 := by
  unfold out0_6 k0_pay7 k0_pay3 k0_pay1 k0_pay2 k0_pay5; rw [View.canon_unit_zero hz2, given_eq]; simp only [View.ld_unit_zero (S := S128x256) hz2, shapeCast_self]; rfl

theorem out7_eq : out0_7 x0 x1 x2 x3 x4 = means x1 x3 x4 := by
  unfold out0_7 k0_pay7 k0_pay1 k0_pay5; rw [View.canon_unit_zero hz2, given_eq]; simp only [View.ld_unit_zero (S := S128x256) hz2, shapeCast_self]; rfl

theorem out8_eq : out0_8 x0 x1 x2 x3 x4 = squares x2 x3 x4 := by
  unfold out0_8 k0_pay2; rw [View.canon_unit_zero hz2, given_eq]; simp only [View.ld_unit_zero (S := S128x256) hz2, shapeCast_self]; rfl

variable (m : (ℓ : Loc nD τ sig) → Buf (Elt Ideal) ℓ) (c : Dev nD)

/-- The groups of an array laid one after the other. -/
abbrev flat (X : S4x32x256.Idx → EReal) : S128x256.Idx → EReal := shapeCast S128x256 X shapeCasts_S4x32x256_S128x256
abbrev flats (X : S7x4x32x256.Idx → EReal) : S7x128x256.Idx → EReal := shapeCast S7x128x256 X shapeCasts_S7x4x32x256_S7x128x256

/-- The arguments as arrays, flat: the weights, their two means, the device's own part of the gradient and the others' parts. -/
abbrev A0 : S128x256.Idx → EReal := flat (m ((c : Thread nD τ).loc main_arg0))
abbrev A1 : S128x256.Idx → EReal := flat (m ((c : Thread nD τ).loc main_arg1))
abbrev A2 : S128x256.Idx → EReal := flat (m ((c : Thread nD τ).loc main_arg2))
abbrev A3 : S128x256.Idx → EReal := flat (m ((c : Thread nD τ).loc main_arg3))
abbrev A4 : S7x128x256.Idx → EReal := flats (m ((c : Thread nD τ).loc main_arg4))

theorem V_v0 : V m c main_v0 = A0 m c := by unfold V; after_results; rfl
theorem V_v1 : V m c main_v1 = A1 m c := by unfold V; after_results; rfl
theorem V_v2 : V m c main_v2 = A2 m c := by unfold V; after_results; rfl
theorem V_v3 : V m c main_v3 = A3 m c := by unfold V; after_results; rfl
theorem V_v4 : V m c main_v4 = A4 m c := by unfold V; after_results; rfl

theorem index0 : ∀ t : Fin cfg0.N, win0_0.index t = ![0, 0] := (by decide +kernel : ∀ t : Fin grid0.N, _)
theorem index4 : ∀ t : Fin cfg0.N, win0_4.index t = ![0, 0, 0] := (by decide +kernel : ∀ t : Fin grid0.N, _)

/-- The only point's blocks are the whole arrays. -/
theorem blk0_eq (t : Fin cfg0.N) : (iblk m c 0 t : Vec Ideal S128x256 .f32) = A0 m c := by
  funext y; unfold iblk; rw [View.read_apply]; show V m c main_v0 _ = _; rw [V_v0]; blk_ext [index0]
theorem blk1_eq (t : Fin cfg0.N) : (iblk m c 1 t : Vec Ideal S128x256 .f32) = A1 m c := by
  funext y; unfold iblk; rw [View.read_apply]; show V m c main_v1 _ = _; rw [V_v1]; blk_ext [show win0_1.index t = _ from index0 t]
theorem blk2_eq (t : Fin cfg0.N) : (iblk m c 2 t : Vec Ideal S128x256 .f32) = A2 m c := by
  funext y; unfold iblk; rw [View.read_apply]; show V m c main_v2 _ = _; rw [V_v2]; blk_ext [show win0_2.index t = _ from index0 t]
theorem blk3_eq (t : Fin cfg0.N) : (iblk m c 3 t : Vec Ideal S128x256 .bf16) = A3 m c := by
  funext y; unfold iblk; rw [View.read_apply]; show V m c main_v3 _ = _; rw [V_v3]; blk_ext [show win0_3.index t = _ from index0 t]
theorem blk4_eq (t : Fin cfg0.N) : (iblk m c 4 t : Vec Ideal S7x128x256 .bf16) = A4 m c := by
  funext y; unfold iblk; rw [View.read_apply]; show V m c main_v4 _ = _; rw [V_v4]; blk_ext [index4]

theorem final5 : (dats m 0 c).arrAt 5 cfg0.N = grad (A3 m c) (A4 m c) :=
  (dats m 0 c).arrAt_eq_of_covers 5 _ (by decide +kernel) fun t hf y => by
    blk_simp
    rw [after0_5, out5_eq, blk3_eq, blk4_eq]
    refine congrArg (grad (A3 m c) (A4 m c)) ?_
    blk_ext [show win0_5.index t = _ from index0 t]

theorem final6 : (dats m 0 c).arrAt 6 cfg0.N = changes (A0 m c) (A1 m c) (A2 m c) (A3 m c) (A4 m c) :=
  (dats m 0 c).arrAt_eq_of_covers 6 _ (by decide +kernel) fun t hf y => by
    blk_simp
    rw [after0_6, out6_eq, blk0_eq, blk1_eq, blk2_eq, blk3_eq, blk4_eq]
    refine congrArg (changes (A0 m c) (A1 m c) (A2 m c) (A3 m c) (A4 m c)) ?_
    blk_ext [show win0_6.index t = _ from index0 t]

theorem final7 : (dats m 0 c).arrAt 7 cfg0.N = means (A1 m c) (A3 m c) (A4 m c) :=
  (dats m 0 c).arrAt_eq_of_covers 7 _ (by decide +kernel) fun t hf y => by
    blk_simp
    rw [after0_7, out7_eq, blk1_eq, blk3_eq, blk4_eq]
    refine congrArg (means (A1 m c) (A3 m c) (A4 m c)) ?_
    blk_ext [show win0_7.index t = _ from index0 t]

theorem final8 : (dats m 0 c).arrAt 8 cfg0.N = squares (A2 m c) (A3 m c) (A4 m c) :=
  (dats m 0 c).arrAt_eq_of_covers 8 _ (by decide +kernel) fun t hf y => by
    blk_simp
    rw [after0_8, out8_eq, blk2_eq, blk3_eq, blk4_eq]
    refine congrArg (squares (A2 m c) (A3 m c) (A4 m c)) ?_
    blk_ext [show win0_8.index t = _ from index0 t]

/-- The run, read: the gradient, the change, the two means, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v5_0) = grad (A3 m c) (A4 m c)
      ∧ r.2.mem ((c : Thread nD τ).loc main_v5_1) = changes (A0 m c) (A1 m c) (A2 m c) (A3 m c) (A4 m c)
      ∧ r.2.mem ((c : Thread nD τ).loc main_v5_2) = means (A1 m c) (A3 m c) (A4 m c)
      ∧ r.2.mem ((c : Thread nD τ).loc main_v5_3) = squares (A2 m c) (A3 m c) (A4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2.1.trans (final7 m c),
    (h c).2.2.2.1.trans (final8 m c), (h c).2.2.2.2⟩) (Value.run_blocks m ρ)

end Cert.AdamPoolIdeal.Body

end
-- ==== Proof.AdamPoolClaim.lean ====
/-
  The optimiser's step for `w_pool`: the reference adds the seven landed parts in one sum and steps the four groups; laid one
  after the other they are the kernel's rows, on all arguments.
-/
module

public import proofs.«01_k».proof.Defs
public import proofs.«01_k».proof.Proof.AdamPoolValue
public import proofs.«01_k».proof.Proof.Gen.AdamPoolRefIdeal.Read
public import Idealize.ShloMosaic.Lib.Quiescent

@[expose] public section

set_option maxRecDepth 16384

noncomputable section

namespace Cert.AdamPoolClaim

open Idealize.ShloMosaic Idealize.SL.Sem Cert.Adam
open Cert.AdamPoolIdeal.Body (flat flats A0 A1 A2 A3 A4)
open Cert.AdamPoolRefIdeal Cert.AdamPoolRefIdeal.Gen Cert.AdamPoolRefIdeal.Read

variable (x0 x1 x2 x3 : S4x32x256.Idx → EReal) (x4 : S7x4x32x256.Idx → EReal)

theorem reads_grad : val_main_v3 (F := Ideal) x3 x4 = grad x3 x4 := by
  funext j
  have h0 : val_main_cst (F := Ideal) (Shape.Idx.first h_S_) = 0 := Ideal.ofBits_zero_f32
  rw [val_main_v3_apply, val_main_v2_apply, h0, zero_add]
  refine congrArg (x3 j + ·) (Finset.sum_congr rfl fun k _ => congrArg x4 (funext fun a => ?_))
  fin_cases a <;> rfl

theorem reads_means : val_main_v8 (F := Ideal) x1 x3 x4 = means x1 x3 x4 := by
  funext j
  simp only [val_main_v8_apply, val_main_v7_apply, reads_grad]
  rfl

theorem reads_squares : val_main_v14 (F := Ideal) x2 x3 x4 = squares x2 x3 x4 := by
  funext j
  simp only [val_main_v14_apply, val_main_v13_apply, val_main_v11_apply, reads_grad]
  rfl

theorem reads_changes : val_main_v27 (F := Ideal) x0 x1 x2 x3 x4 = changes x0 x1 x2 x3 x4 := by
  funext j
  simp only [val_main_v27_apply, val_main_v25_apply, val_main_v22_apply, val_main_v21_apply, val_main_v19_apply,
    val_main_v18_apply, val_main_v16_apply, reads_means, reads_squares]
  rfl

/-- Row `r` of the flat array is row `r mod 32` of group `r / 32`. -/
theorem flat_apply (X : S4x32x256.Idx → EReal) (i : S128x256.Idx) : flat X i = X (idx_main_v28 i) :=
  shapeCast_apply X _ i (idx_main_v28 i) (by
    rewrite [Shape.rowMajor_val_three, Shape.rowMajor_val_two]
    have h0 : (i 0).val < 128 := (i 0).isLt
    have h1 : (i 1).val < 256 := (i 1).isLt
    show (((i 0).val * 256 + (i 1).val) / 8192 * 32 + ((i 0).val * 256 + (i 1).val) / 256 % 32) * 256
      + ((i 0).val * 256 + (i 1).val) % 256 = (i 0).val * 256 + (i 1).val
    omega)

theorem flats_apply (i : S128x256.Idx) (k : Fin 7) : StackMember.memberAt (flats x4) k i = StackMember.memberAt x4 k (idx_main_v28 i) :=
  shapeCast_apply x4 _ _ _ (by
    rewrite [Shape.rowMajor_val_four, Shape.rowMajor_val_three]
    have h0 : (i 0).val < 128 := (i 0).isLt
    have h1 : (i 1).val < 256 := (i 1).isLt
    show ((k.val * 4 + ((i 0).val * 256 + (i 1).val) / 8192) * 32 + ((i 0).val * 256 + (i 1).val) / 256 % 32) * 256
      + ((i 0).val * 256 + (i 1).val) % 256 = (k.val * 128 + (i 0).val) * 256 + (i 1).val
    omega)

theorem grad_flat (i : S128x256.Idx) : grad (flat x3) (flats x4) i = grad x3 x4 (idx_main_v28 i) :=
  congrArg₂ (· + ·) (flat_apply x3 i) (Finset.sum_congr rfl fun k _ => flats_apply x4 i k)

theorem flat_grad : val_main_v28 (F := Ideal) x3 x4 = grad (flat x3) (flats x4) := by
  funext i
  rw [val_main_v28_apply, reads_grad, grad_flat]

theorem flat_changes : val_main_v29 (F := Ideal) x0 x1 x2 x3 x4 = changes (flat x0) (flat x1) (flat x2) (flat x3) (flats x4) := by
  funext i
  rw [val_main_v29_apply, reads_changes]
  unfold changes
  rw [grad_flat, flat_apply, flat_apply, flat_apply]

theorem flat_means : val_main_v30 (F := Ideal) x1 x3 x4 = means (flat x1) (flat x3) (flats x4) := by
  funext i
  rw [val_main_v30_apply, reads_means]
  unfold means
  rw [grad_flat, flat_apply]

theorem flat_squares : val_main_v31 (F := Ideal) x2 x3 x4 = squares (flat x2) (flat x3) (flats x4) := by
  funext i
  rw [val_main_v31_apply, reads_squares]
  unfold squares
  rw [grad_flat, flat_apply]

theorem algebraic : Cert.algebraic_AdamPoolIdeal_AdamPoolRefIdeal := by
  intro m g m' g' _ hargs
  refine ⟨fun c => grad (A3 m c) (A4 m c), fun c => changes (A0 m c) (A1 m c) (A2 m c) (A3 m c) (A4 m c),
    fun c => means (A1 m c) (A3 m c) (A4 m c), fun c => squares (A2 m c) (A3 m c) (A4 m c), Cert.AdamPoolIdeal.Body.run m g,
    (θ_run Cert.AdamPoolRefIdeal.defs _ _).mono (fun r h c => ?_) (Cert.AdamPoolRefIdeal.Value.run m' g')⟩
  obtain ⟨e0, e1, e2, e3, e4⟩ := hargs c
  obtain ⟨h28, h29, h30, h31, hrest⟩ := h c
  rw [val_main_v28_eq, e3, e4, flat_grad] at h28
  rw [val_main_v29_eq, e0, e1, e2, e3, e4, flat_changes] at h29
  rw [val_main_v30_eq, e1, e3, e4, flat_means] at h30
  rw [val_main_v31_eq, e2, e3, e4, flat_squares] at h31
  exact ⟨h28, h29, h30, h31, hrest⟩

/-- The reference's run keeps its arguments; its machine has no semaphore. -/
theorem reference_frame : Cert.quiescent_AdamPoolRefIdeal := fun m g _ =>
  (θ_run Cert.AdamPoolRefIdeal.defs _ _).mono (fun r h => ⟨fun c => (h c).2.2.2.2, sem_eq_zero_of_no_sems rfl r.2⟩) (Cert.AdamPoolRefIdeal.Value.run m g)

end Cert.AdamPoolClaim

end
-- ==== Proof.AdamInValue.lean ====
/-
  The optimiser's step for the rows of `w_in`, kernel side: point `t` steps rows `256 t … 256 t + 255`.
-/
module

public import proofs.«01_k».proof.Proof.Gen.AdamInIdeal.Value
public import proofs.«01_k».proof.Proof.Adam

@[expose] public section

set_option maxRecDepth 16384

noncomputable section

namespace Cert.AdamInIdeal.Body

open Cert.AdamInIdeal Cert.AdamInIdeal.Gen Cert.Adam Cert.Running Idealize.ShloMosaic Idealize.ShloMosaic.TcCoe Idealize.SL.Sem
open Idealize.ShloMosaic.StackMember

variable (x0 x1 x2 : Vec Ideal S256x512 .f32) (x3 : Vec Ideal S256x512 .bf16) (x4 : Vec Ideal S7x256x512 .bf16)

/-- A point's four blocks. -/
theorem given_eq : k0_pay6 x0 x1 x2 x3 x4 = grad x3 x4 := by
  funext y
  unfold k0_pay6
  rw [View.ld_unit_zero (S := S256x512) hz2]
  exact grad_ld x3 x4 (by decide) shapeCasts_S1x256x512_S256x512 y (fun g => shapeCast S256x512 (View.ld x4 (Rect.unit (s := S7x256x512)
    ![g.val, 0, 0] S1x256x512.size (by revert g; decide))) shapeCasts_S1x256x512_S256x512 y) fun g => rfl

theorem out5_eq : out0_5 x0 x1 x2 x3 x4 = grad x3 x4 := by
  unfold out0_5; rw [View.canon_unit_zero hz2, given_eq]

theorem out6_eq : out0_6 x0 x1 x2 x3 x4 = changes x0 x1 x2 x3 x4 := by
  unfold out0_6 k0_pay7; rw [View.canon_unit_zero hz2, given_eq]; simp only [View.ld_unit_zero (S := S256x512) hz2]; rfl

theorem out7_eq : out0_7 x0 x1 x2 x3 x4 = means x1 x3 x4 := by
  unfold out0_7 k0_pay7; rw [View.canon_unit_zero hz2, given_eq]; simp only [View.ld_unit_zero (S := S256x512) hz2]; rfl

theorem out8_eq : out0_8 x0 x1 x2 x3 x4 = squares x2 x3 x4 := by
  unfold out0_8; rw [View.canon_unit_zero hz2, given_eq]; simp only [View.ld_unit_zero (S := S256x512) hz2]; rfl

variable (m : (ℓ : Loc nD τ sig) → Buf (Elt Ideal) ℓ) (c : Dev nD)

/-- The arguments as arrays: the weights, their two means, the device's own part of the gradient and the others' parts. -/
abbrev A0 : S2048x512.Idx → EReal := m ((c : Thread nD τ).loc main_arg0)
abbrev A1 : S2048x512.Idx → EReal := m ((c : Thread nD τ).loc main_arg1)
abbrev A2 : S2048x512.Idx → EReal := m ((c : Thread nD τ).loc main_arg2)
abbrev A3 : S2048x512.Idx → EReal := m ((c : Thread nD τ).loc main_arg3)
abbrev A4 : S7x2048x512.Idx → EReal := m ((c : Thread nD τ).loc main_arg4)

theorem index0 : ∀ t : Fin cfg0.N, win0_0.index t = ![t.val, 0] := (by decide +kernel : ∀ t : Fin grid0.N, _)
theorem index4 : ∀ t : Fin cfg0.N, win0_4.index t = ![0, t.val, 0] := (by decide +kernel : ∀ t : Fin grid0.N, _)

/-- Row `r` of point `t`'s rows. -/
def row (t : Fin cfg0.N) (r : Fin 256) : Fin 2048 := ⟨t.val * 256 + r.val, by have : t.val < 8 := t.isLt; omega⟩

theorem blk0_apply (t : Fin cfg0.N) (r : Fin 256) (l : Fin 512) :
    (iblk m c 0 t : Vec Ideal S256x512 .f32) (ix2 r l) = A0 m c (ix2 (row t r) l) := by
  unfold iblk; rw [View.read_apply]; show V m c main_arg0 _ = _; rw [V_main_arg0]; blk_ext [index0, row]
theorem blk1_apply (t : Fin cfg0.N) (r : Fin 256) (l : Fin 512) :
    (iblk m c 1 t : Vec Ideal S256x512 .f32) (ix2 r l) = A1 m c (ix2 (row t r) l) := by
  unfold iblk; rw [View.read_apply]; show V m c main_arg1 _ = _; rw [V_main_arg1]; blk_ext [show win0_1.index t = _ from index0 t, row]
theorem blk2_apply (t : Fin cfg0.N) (r : Fin 256) (l : Fin 512) :
    (iblk m c 2 t : Vec Ideal S256x512 .f32) (ix2 r l) = A2 m c (ix2 (row t r) l) := by
  unfold iblk; rw [View.read_apply]; show V m c main_arg2 _ = _; rw [V_main_arg2]; blk_ext [show win0_2.index t = _ from index0 t, row]
theorem blk3_apply (t : Fin cfg0.N) (r : Fin 256) (l : Fin 512) :
    (iblk m c 3 t : Vec Ideal S256x512 .bf16) (ix2 r l) = A3 m c (ix2 (row t r) l) := by
  unfold iblk; rw [View.read_apply]; show V m c main_arg3 _ = _; rw [V_main_arg3]; blk_ext [show win0_3.index t = _ from index0 t, row]
theorem blk4_apply (t : Fin cfg0.N) (g : Fin 7) (r : Fin 256) (l : Fin 512) :
    (iblk m c 4 t : Vec Ideal S7x256x512 .bf16) (ix3 g r l) = A4 m c (ix3 g (row t r) l) := by
  unfold iblk; rw [View.read_apply]; show V m c main_arg4 _ = _; rw [V_main_arg4]; blk_ext [index4, row]

theorem grad_blk (t : Fin cfg0.N) (r : Fin 256) (l : Fin 512) :
    grad (iblk m c 3 t : Vec Ideal S256x512 .bf16) (iblk m c 4 t : Vec Ideal S7x256x512 .bf16) (ix2 r l)
      = grad (A3 m c) (A4 m c) (ix2 (row t r) l) :=
  grad_congr (blk3_apply m c t r l) fun g => blk4_apply m c t g r l

theorem final5 : (dats m 0 c).arrAt 5 cfg0.N = grad (A3 m c) (A4 m c) :=
  (dats m 0 c).arrAt_eq_of_covers 5 _ (by decide +kernel) fun t hf y => by
    obtain ⟨r, l, rfl⟩ : ∃ (r : Fin 256) (l : Fin 512), y = ix2 r l := ⟨y 0, y 1, eq_ix2 y⟩
    blk_simp
    rw [after0_5, out5_eq]
    refine (grad_blk m c t r l).trans (congrArg (grad (A3 m c) (A4 m c)) ?_)
    blk_ext [show win0_5.index t = _ from index0 t, row]

theorem final6 : (dats m 0 c).arrAt 6 cfg0.N = changes (A0 m c) (A1 m c) (A2 m c) (A3 m c) (A4 m c) :=
  (dats m 0 c).arrAt_eq_of_covers 6 _ (by decide +kernel) fun t hf y => by
    obtain ⟨r, l, rfl⟩ : ∃ (r : Fin 256) (l : Fin 512), y = ix2 r l := ⟨y 0, y 1, eq_ix2 y⟩
    blk_simp
    rw [after0_6, out6_eq]
    refine (changes_congr (blk0_apply m c t r l) (blk1_apply m c t r l) (blk2_apply m c t r l) (grad_blk m c t r l)).trans
      (congrArg (changes (A0 m c) (A1 m c) (A2 m c) (A3 m c) (A4 m c)) ?_)
    blk_ext [show win0_6.index t = _ from index0 t, row]

theorem final7 : (dats m 0 c).arrAt 7 cfg0.N = means (A1 m c) (A3 m c) (A4 m c) :=
  (dats m 0 c).arrAt_eq_of_covers 7 _ (by decide +kernel) fun t hf y => by
    obtain ⟨r, l, rfl⟩ : ∃ (r : Fin 256) (l : Fin 512), y = ix2 r l := ⟨y 0, y 1, eq_ix2 y⟩
    blk_simp
    rw [after0_7, out7_eq]
    refine (means_congr (blk1_apply m c t r l) (grad_blk m c t r l)).trans (congrArg (means (A1 m c) (A3 m c) (A4 m c)) ?_)
    blk_ext [show win0_7.index t = _ from index0 t, row]

theorem final8 : (dats m 0 c).arrAt 8 cfg0.N = squares (A2 m c) (A3 m c) (A4 m c) :=
  (dats m 0 c).arrAt_eq_of_covers 8 _ (by decide +kernel) fun t hf y => by
    obtain ⟨r, l, rfl⟩ : ∃ (r : Fin 256) (l : Fin 512), y = ix2 r l := ⟨y 0, y 1, eq_ix2 y⟩
    blk_simp
    rw [after0_8, out8_eq]
    refine (squares_congr (blk2_apply m c t r l) (grad_blk m c t r l)).trans (congrArg (squares (A2 m c) (A3 m c) (A4 m c)) ?_)
    blk_ext [show win0_8.index t = _ from index0 t, row]

/-- The run, read: the gradient, the change, the two means, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = grad (A3 m c) (A4 m c)
      ∧ r.2.mem ((c : Thread nD τ).loc main_v0_1) = changes (A0 m c) (A1 m c) (A2 m c) (A3 m c) (A4 m c)
      ∧ r.2.mem ((c : Thread nD τ).loc main_v0_2) = means (A1 m c) (A3 m c) (A4 m c)
      ∧ r.2.mem ((c : Thread nD τ).loc main_v0_3) = squares (A2 m c) (A3 m c) (A4 m c)
      ∧ r.2.mem ((c : Thread nD τ).loc main_arg0) = A0 m c
      ∧ r.2.mem ((c : Thread nD τ).loc main_arg1) = A1 m c
      ∧ r.2.mem ((c : Thread nD τ).loc main_arg2) = A2 m c
      ∧ r.2.mem ((c : Thread nD τ).loc main_arg3) = A3 m c
      ∧ r.2.mem ((c : Thread nD τ).loc main_arg4) = A4 m c :=
  (θ_run defs _ _).mono (fun _ h c => ⟨(h c).1.trans (final5 m c), (h c).2.1.trans (final6 m c), (h c).2.2.1.trans (final7 m c),
    (h c).2.2.2.1.trans (final8 m c), (h c).2.2.2.2⟩) (Value.run_blocks m ρ)

end Cert.AdamInIdeal.Body

end
-- ==== Proof.AdamInClaim.lean ====
/-
  The optimiser's step for `w_in`: the reference adds the seven landed parts in one sum, then steps the same way, on all
  arguments.
-/
module

public import proofs.«01_k».proof.Defs
public import proofs.«01_k».proof.Proof.AdamInValue
public import proofs.«01_k».proof.Proof.Gen.AdamInRefIdeal.Read
public import Idealize.ShloMosaic.Lib.Quiescent

@[expose] public section

set_option maxRecDepth 16384

noncomputable section

namespace Cert.AdamInClaim

open Idealize.ShloMosaic Idealize.SL.Sem Cert.Adam
open Cert.AdamInIdeal.Body (A0 A1 A2 A3 A4)
open Cert.AdamInRefIdeal Cert.AdamInRefIdeal.Gen Cert.AdamInRefIdeal.Read

variable (x0 x1 x2 x3 : S2048x512.Idx → EReal) (x4 : S7x2048x512.Idx → EReal)

theorem reads_grad : val_main_v3 (F := Ideal) x3 x4 = grad x3 x4 := by
  funext j
  have h0 : val_main_cst (F := Ideal) (Shape.Idx.first h_S_) = 0 := Ideal.ofBits_zero_f32
  rw [val_main_v3_apply, val_main_v2_apply, h0, zero_add]
  refine congrArg (x3 j + ·) (Finset.sum_congr rfl fun k _ => congrArg x4 (funext fun a => ?_))
  fin_cases a <;> rfl

theorem reads_means : val_main_v8 (F := Ideal) x1 x3 x4 = means x1 x3 x4 := by
  funext j
  simp only [val_main_v8_apply, val_main_v7_apply, reads_grad]
  rfl

theorem reads_squares : val_main_v14 (F := Ideal) x2 x3 x4 = squares x2 x3 x4 := by
  funext j
  simp only [val_main_v14_apply, val_main_v13_apply, val_main_v11_apply, reads_grad]
  rfl

theorem reads_changes : val_main_v27 (F := Ideal) x0 x1 x2 x3 x4 = changes x0 x1 x2 x3 x4 := by
  funext j
  simp only [val_main_v27_apply, val_main_v25_apply, val_main_v22_apply, val_main_v21_apply, val_main_v19_apply,
    val_main_v18_apply, val_main_v16_apply, reads_means, reads_squares]
  rfl

theorem algebraic : Cert.algebraic_AdamInIdeal_AdamInRefIdeal := by
  intro m g m' g' _ hargs
  refine ⟨fun c => grad (A3 m c) (A4 m c), fun c => changes (A0 m c) (A1 m c) (A2 m c) (A3 m c) (A4 m c),
    fun c => means (A1 m c) (A3 m c) (A4 m c), fun c => squares (A2 m c) (A3 m c) (A4 m c), Cert.AdamInIdeal.Body.run m g,
    (θ_run Cert.AdamInRefIdeal.defs _ _).mono (fun r h c => ?_) (Cert.AdamInRefIdeal.Value.run m' g')⟩
  obtain ⟨e0, e1, e2, e3, e4⟩ := hargs c
  obtain ⟨h3, h27, h8, h14, hrest⟩ := h c
  rw [val_main_v3_eq, e3, e4, reads_grad] at h3
  rw [val_main_v27_eq, e0, e1, e2, e3, e4, reads_changes] at h27
  rw [val_main_v8_eq, e1, e3, e4, reads_means] at h8
  rw [val_main_v14_eq, e2, e3, e4, reads_squares] at h14
  exact ⟨h3, h27, h8, h14, hrest⟩

/-- The reference's run keeps its arguments; its machine has no semaphore. -/
theorem reference_frame : Cert.quiescent_AdamInRefIdeal := fun m g _ =>
  (θ_run Cert.AdamInRefIdeal.defs _ _).mono (fun r h => ⟨fun c => (h c).2.2.2.2, sem_eq_zero_of_no_sems rfl r.2⟩) (Cert.AdamInRefIdeal.Value.run m g)

end Cert.AdamInClaim

end
-- ==== Proof.Gating.lean ====
/-
  The logistic gate on extended reals, as the kernels spell it and as the reference does, and the literals around it.
-/
module

public import proofs.«01_k».proof.Proof.RmsNorm

@[expose] public section

noncomputable section

namespace Cert.Gating

open Idealize.ShloMosaic

/-- The gate: one over one plus the exponential of the negated line. -/
def gate (z : EReal) : EReal := Ideal.div 1 (1 + Ideal.exp (-z))

theorem ofBits_half : Ideal.ofBits .f32 0x3F000000#32 = ((1 / 2 : ℝ) : EReal) := by
  simp [Ideal.ofBits, Ideal.ieee]; norm_num; rw [← EReal.coe_mul]; norm_num
theorem ofBits_two : Ideal.ofBits .f32 0x40000000#32 = ((2 : ℝ) : EReal) := by
  simp [Ideal.ofBits, Ideal.ieee]; norm_num; rw [← EReal.coe_mul]; norm_num
theorem ofBits_per_length : Ideal.ofBits .f32 0x3A000000#32 = ((1 / 2048 : ℝ) : EReal) := by
  simp [Ideal.ofBits, Ideal.ieee]; norm_num; rw [← EReal.coe_mul]; norm_num
theorem ofBits_half_per_length : Ideal.ofBits .f32 0x39800000#32 = ((1 / 4096 : ℝ) : EReal) := by
  simp [Ideal.ofBits, Ideal.ieee]; norm_num; rw [← EReal.coe_mul]; norm_num

/-- The kernels negate by subtracting from zero. -/
theorem gate_sub (z : EReal) : Ideal.div 1 (1 + Ideal.exp (0 - z)) = gate z := by rw [zero_sub]; rfl

/-! One row of the loss head: `h` the residual line, `e` the embedding's line, `q` the line that gates it, `g` the final
  gain, `y` the row it is compared with. -/

section
variable (h e q g y : Fin 2048 → EReal)
open Cert.RmsNorm

/-- The row the head normalises. -/
def mixed (k : Fin 2048) : EReal := h k + e k * gate (q k)

/-- It, normalised. -/
def normed (k : Fin 2048) : EReal := mixed h e q k * scale (mixed h e q) 2048 eps

/-- The difference whose mean square is the loss. -/
def err (k : Fin 2048) : EReal := normed h e q k * g k - y k

/-- The row's sum of squares. -/
def squares : EReal := ∑ k, err h e q g y k * err h e q g y k

/-- The gradient of the scaled row: the difference over the row length. -/
def given (k : Fin 2048) : EReal := err h e q g y k * ((1 / 2048 : ℝ) : EReal)

/-- The gradient of the row before the normalisation. -/
def backward (k : Fin 2048) : EReal := factored (mixed h e q) (fun k => given h e q g y k * g k) 2048 eps k

end

/-- A value times its gate; the pool's half of the mixers' output (mixed `x`, scale `p`, gate's line `a`); the state space
    mixer's half (line `u`, its own gate's line `v`, gate's line `b`). -/
def silu (z : EReal) : EReal := z * gate z
def pooled (x p a : EReal) : EReal := x * p * silu a
def blended (u v b : EReal) : EReal := u * gate v * silu b

/-- The derivative of a value times its gate. -/
def slope (z : EReal) : EReal := gate z * (1 + z * (1 - gate z))

theorem gate_top : gate ⊤ = 1 := by
  show Ideal.div 1 (1 + Ideal.exp ⊥) = 1
  rw [Ideal.exp_bot, add_zero, ← EReal.coe_one, Ideal.div_coe one_ne_zero, ← EReal.coe_mul]
  norm_num

theorem gate_bot : gate ⊥ = 0 := by
  show Ideal.div 1 (1 + Ideal.exp ⊤) = 0
  rw [Ideal.exp_top, ← EReal.coe_one, EReal.add_top_of_ne_bot (EReal.coe_ne_bot 1)]
  unfold Ideal.div
  rw [if_neg EReal.top_ne_zero, EReal.inv_top, mul_zero]

theorem gate_coe (r : ℝ) : gate r = ((1 / (1 + Real.exp (-r)) : ℝ) : EReal) := by
  have h : 1 + Real.exp (-r) ≠ 0 := by positivity
  show Ideal.div 1 (1 + Ideal.exp (-(r : EReal))) = _
  rw [← EReal.coe_neg, Ideal.exp_coe, ← EReal.coe_one, ← EReal.coe_add, Ideal.div_coe h, ← EReal.coe_mul, one_mul]

/-- A gate is a real number, whatever its line holds. -/
theorem gate_real (z : EReal) : ∃ r : ℝ, gate z = r := by
  induction z with
  | bot => exact ⟨0, gate_bot⟩
  | top => exact ⟨1, gate_top⟩
  | coe r => exact ⟨_, gate_coe r⟩

/-- The product rule for a value times its gate, against a real gradient. -/
theorem slope_eq (c : ℝ) (z : EReal) : (c : EReal) * gate z + z * c * (gate z * (1 - gate z)) = c * slope z := by
  unfold slope
  induction z with
  | bot => rw [gate_bot]; simp
  | top => rw [gate_top, ← EReal.coe_one, ← EReal.coe_sub, sub_self]; simp
  | coe r =>
    rw [gate_coe]
    generalize 1 / (1 + Real.exp (-r)) = g
    norm_cast
    ring

end Cert.Gating

end
-- ==== Proof.Gelu.lean ====
/-
  The slope of the tanh form of GELU: the kernel's expanded polynomial and the reference's differentiated cube are one
  function of a real gradient and any line, infinite ones included.
-/
module

public import proofs.«01_k».proof.Proof.Gating

@[expose] public section

noncomputable section

namespace Cert.Gelu

open Idealize.ShloMosaic

theorem ofBits_three : Ideal.ofBits .f32 0x40400000#32 = ((3 : ℝ) : EReal) := by
  simp [Ideal.ofBits, Ideal.ieee]
  norm_num
  rw [← EReal.coe_mul]
  norm_num

theorem ofBits_numerator : Ideal.ofBits .f32 0x472EAB00#32 = ((44715 : ℝ) : EReal) := by
  simp [Ideal.ofBits, Ideal.ieee]
  norm_num
  rw [← EReal.coe_mul]
  norm_num

theorem ofBits_million : Ideal.ofBits .f32 0x49742400#32 = ((1000000 : ℝ) : EReal) := by
  simp [Ideal.ofBits, Ideal.ieee]
  norm_num
  rw [← EReal.coe_mul]
  norm_num

/-- The root of two over pi as the programs write it. -/
theorem ofBits_root : Ideal.ofBits .f32 0x3F4C422A#32 = ((13386282 / 16777216 : ℝ) : EReal) := by
  simp [Ideal.ofBits, Ideal.ieee]
  norm_num
  rw [← EReal.coe_mul]
  norm_num

/-- The polynomial inside the tanh, and the tanh. -/
def inner (y : EReal) : EReal := y + ((8943 / 200000 : ℝ) : EReal) * y * y * y
def squash (y : EReal) : EReal := Ideal.tanh (((13386282 / 16777216 : ℝ) : EReal) * inner y)

/-- The slope as the kernel writes it. -/
def slope (y : EReal) : EReal :=
  ((1 / 2 : ℝ) : EReal) * (1 + squash y)
    + ((1 / 2 : ℝ) : EReal) * y * (1 - squash y * squash y) * ((13386282 / 16777216 : ℝ) : EReal)
      * (1 + ((26829 / 200000 : ℝ) : EReal) * y * y)

theorem inner_eq (y : EReal) : y + Ideal.div (((44715 : ℝ) : EReal) * (y * y * y)) ((1000000 : ℝ) : EReal) = inner y := by
  unfold inner
  rw [Ideal.div_coe (by norm_num), show ((8943 / 200000 : ℝ) : EReal) = ((44715 : ℝ) : EReal) * ((1 / 1000000 : ℝ) : EReal) by
    rw [← EReal.coe_mul]; norm_num]
  refine congrArg (y + ·) ?_
  ac_rfl

theorem squash_top : squash ⊤ = 1 := by
  unfold squash inner
  simp only [EReal.coe_mul_top_of_pos (show (0 : ℝ) < 8943 / 200000 by norm_num), EReal.top_mul_top, EReal.top_add_top,
    EReal.coe_mul_top_of_pos (show (0 : ℝ) < 13386282 / 16777216 by norm_num), Ideal.tanh_top]

theorem squash_bot : squash ⊥ = -1 := by
  unfold squash inner
  simp only [EReal.coe_mul_bot_of_pos (show (0 : ℝ) < 8943 / 200000 by norm_num), EReal.bot_mul_bot, EReal.top_mul_bot, EReal.bot_add,
    EReal.coe_mul_bot_of_pos (show (0 : ℝ) < 13386282 / 16777216 by norm_num), Ideal.tanh_bot]

theorem squash_coe (r : ℝ) : ∃ t : ℝ, squash r = t := by
  unfold squash inner
  simp only [← EReal.coe_mul, ← EReal.coe_add, Ideal.tanh_coe]
  exact ⟨_, rfl⟩

/-- The reference's derivative of the product of the halved line and `1 + tanh`, against a real gradient. -/
theorem slope_eq (c : ℝ) (y : EReal) :
    ((13386282 / 16777216 : ℝ) : EReal) * ((((1 / 2 : ℝ) : EReal) * y) * c * ((1 + squash y) * (1 - squash y)))
      + ((44715 : ℝ) : EReal) * Ideal.div (((13386282 / 16777216 : ℝ) : EReal) * ((((1 / 2 : ℝ) : EReal) * y) * c
          * ((1 + squash y) * (1 - squash y)))) ((1000000 : ℝ) : EReal) * (((3 : ℝ) : EReal) * (y * y))
      + ((1 / 2 : ℝ) : EReal) * (c * (1 + squash y)) = c * slope y := by
  rw [Ideal.div_coe (by norm_num)]
  unfold slope
  induction y with
  | bot =>
    rw [squash_bot, ← EReal.coe_one, ← EReal.coe_neg]
    simp only [← EReal.coe_mul, ← EReal.coe_add, ← EReal.coe_sub]
    norm_num
  | top =>
    rw [squash_top, ← EReal.coe_one]
    simp only [← EReal.coe_mul, ← EReal.coe_add, ← EReal.coe_sub]
    norm_num
    norm_cast
    ring
  | coe r =>
    obtain ⟨t, ht⟩ := squash_coe r
    rw [ht, ← EReal.coe_one]
    simp only [← EReal.coe_mul, ← EReal.coe_add, ← EReal.coe_sub]
    refine congrArg _ ?_
    ring

end Cert.Gelu

end
-- ==== Proof.GluDValue.lean ====
/-
  The GLU's data gradient, kernel side: grid point `t` is rows `1024 t … 1024 t + 1023` of the gradient against the weights'
  rows, times the slope of the activation at the saved line.
-/
module

public import proofs.«01_k».proof.Proof.Gen.GluDIdeal.Value
public import proofs.«01_k».proof.Proof.Gelu
public import Idealize.ShloMosaic.Lib.Pipeline.ValueKit.Acc
public import Idealize.ShloMosaic.Lib.Pipeline.ValueKit.Geometry
public import Idealize.ShloMosaic.Lib.Pipeline.ValueKit.Tiles

@[expose] public section

set_option maxRecDepth 16384

noncomputable section

namespace Cert.GluDIdeal.Body

open Cert.GluDIdeal Cert.GluDIdeal.Gen Cert.Gelu Idealize.ShloMosaic Idealize.ShloMosaic.TcCoe Idealize.SL.Sem

/-- The gradient against the weights' rows, times the slope. -/
def against (D : S4096x2048.Idx → EReal) (W : S1024x2048.Idx → EReal) (s : Fin 4096) (l : Fin 1024) : EReal :=
  ∑ k : Fin 2048, D (ix2 s k) * W (ix2 l k)
def result (D : S4096x2048.Idx → EReal) (W : S1024x2048.Idx → EReal) (Y : S4096x1024.Idx → EReal) : S4096x1024.Idx → EReal :=
  fun j => against D W (j 0) (j 1) * Gelu.slope (Y j)

theorem pay2_apply (v3 v4 : Vec Ideal S1024x2048 .bf16) (r l : Fin 1024) :
    k0_pay2 v3 v4 (k0_pay1 (F := Ideal)) (ix2 r l) = ∑ k : Fin 2048, v3 (ix2 r k) * v4 (ix2 l k) := by
  have h : k0_pay2 v3 v4 (k0_pay1 (F := Ideal)) (ix2 r l)
      = k0_pay1 (F := Ideal) (ix2 r l) + ∑ k : Fin 2048, v3 (ix2 r k) * v4 (ix2 l k) := by
    pointwise [k0_pay2]
  have h0 : k0_pay1 (F := Ideal) (ix2 r l) = 0 := by pointwise [k0_pay1]
  rw [h, h0, zero_add]

theorem named_a : Named.named (F := Ideal) κ "gelu_a" (φ := .f32) 0x3D372713#32 = ((8943 / 200000 : ℝ) : EReal) :=
  IdealRules.named_const.ideal_named_scalar _ _ _ _ rfl
theorem named_3a : Named.named (F := Ideal) κ "gelu_3a" (φ := .f32) 0x3E095D4F#32 = ((26829 / 200000 : ℝ) : EReal) :=
  IdealRules.named_const.ideal_named_scalar _ _ _ _ rfl

theorem pay3_apply (v15 v16 : Vec Ideal S1024x1024 .f32) (i : S1024x1024.Idx) :
    k0_pay3 v15 v16 i = v15 i * Gelu.slope (v16 i) := by
  unfold Gelu.slope Gelu.squash Gelu.inner
  rw [← named_a, ← named_3a, ← ofBits_root, ← Gating.ofBits_half, ← Ideal.ofBits_one_f32]
  rfl

variable (m : (ℓ : Loc nD τ sig) → Buf (Elt Ideal) ℓ) (c : Dev nD)

/-- The arguments as arrays. -/
abbrev A0 : S4096x2048.Idx → EReal := m ((c : Thread nD τ).loc main_arg0)
abbrev A1 : S1024x2048.Idx → EReal := m ((c : Thread nD τ).loc main_arg1)
abbrev A2 : S4096x1024.Idx → EReal := m ((c : Thread nD τ).loc main_arg2)

theorem V_v0 (j : S1024x2048.Idx) : V m c main_v0 j = A1 m c j := by
  unfold V
  after_results
  rfl

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index4 : ∀ t : Fin cfg0.N, win0_4.index t = ![t.val, 0] := (by decide +kernel : ∀ t : Fin grid0.N, _)

/-- Row `r` of point `t`'s rows. -/
def row (t : Fin cfg0.N) (r : Fin 1024) : Fin 4096 := ⟨t.val * 1024 + r.val, by have : t.val < 4 := t.isLt; omega⟩

theorem blk0_apply (t : Fin cfg0.N) (r : Fin 1024) (k : Fin 2048) :
    (iblk m c 0 t : Vec Ideal S1024x2048 .bf16) (ix2 r k) = A0 m c (ix2 (row t r) k) := by
  unfold iblk; rw [View.read_apply]; show V m c main_arg0 _ = _; rw [V_main_arg0]; blk_ext [index0, row]
theorem blk1_apply (t : Fin cfg0.N) (l : Fin 1024) (k : Fin 2048) :
    (iblk m c 1 t : Vec Ideal S1024x2048 .bf16) (ix2 l k) = A1 m c (ix2 l k) := by
  unfold iblk; rw [View.read_apply]; show V m c main_v0 _ = _; rw [V_v0]; blk_ext [index1]
theorem blk2_apply (t : Fin cfg0.N) (r l : Fin 1024) :
    (iblk m c 2 t : Vec Ideal S1024x1024 .f32) (ix2 r l) = A2 m c (ix2 (row t r) l) := by
  unfold iblk; rw [View.read_apply]; show V m c main_arg2 _ = _; rw [V_main_arg2]; blk_ext [index2, row]

theorem outs_eq (t : Fin cfg0.N) : outsAt0 m c t
    = k0_pay3 (k0_pay2 (iblk m c 0 t) (iblk m c 1 t) (k0_pay1 (F := Ideal))) (iblk m c 2 t) := by
  unfold outsAt0; frame_out

theorem outs_apply (t : Fin cfg0.N) (r l : Fin 1024) :
    outsAt0 m c t (ix2 r l) = result (A0 m c) (A1 m c) (A2 m c) (ix2 (row t r) l) := by
  rw [outs_eq, pay3_apply, pay2_apply]
  simp only [blk0_apply, blk1_apply, blk2_apply]
  rfl

theorem final4 : (dats m 0 c).arrAt 4 cfg0.N = result (A0 m c) (A1 m c) (A2 m c) :=
  (dats m 0 c).arrAt_eq_of_covers 4 _ (by decide +kernel) fun t hf y => by
    obtain ⟨r, l, rfl⟩ : ∃ (r l : Fin 1024), y = ix2 r l := ⟨y 0, y 1, eq_ix2 y⟩
    blk_simp
    rw [after0_4]
    refine (outs_apply m c t r l).trans (congrArg (result (A0 m c) (A1 m c) (A2 m c)) ?_)
    blk_ext [index4, row]

/-- The run, read: the gradient, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1) = result (A0 m c) (A1 m c) (A2 m c)
      ∧ r.2.mem ((c : Thread nD τ).loc main_arg0) = A0 m c
      ∧ r.2.mem ((c : Thread nD τ).loc main_arg1) = A1 m c
      ∧ r.2.mem ((c : Thread nD τ).loc main_arg2) = A2 m c
      ∧ r.2.mem ((c : Thread nD τ).loc main_arg3) = m ((c : Thread nD τ).loc main_arg3) :=
  (θ_run defs _ _).mono (fun _ h c => ⟨(h c).1.trans (final4 m c), (h c).2⟩) (Value.run_blocks m ρ)

end Cert.GluDIdeal.Body

end
-- ==== Proof.GluDClaim.lean ====
/-
  The GLU's data gradient: the reference has the kernel's function where the gradient and the weights hold real numbers; the
  saved line may hold anything. The value claim and the reference's run.
-/
module

public import proofs.«01_k».proof.Defs
public import proofs.«01_k».proof.Proof.Finite
public import proofs.«01_k».proof.Proof.Extended
public import proofs.«01_k».proof.Proof.GluDValue
public import proofs.«01_k».proof.Proof.Gen.GluDRefIdeal.Read
public import proofs.«01_k».proof.Proof.Gen.Pre_glu_finite
public import Idealize.ShloMosaic.Lib.Quiescent

@[expose] public section

set_option maxRecDepth 16384

noncomputable section

namespace Cert.GluDClaim

open Idealize.ShloMosaic Idealize.SL.Sem
open Cert.GluDIdeal.Body (against result A0 A1 A2)
open Cert.GluDRefIdeal Cert.GluDRefIdeal.Gen Cert.GluDRefIdeal.Read

theorem reads_against (D : S4096x2048.Idx → EReal) (W : S1024x2048.Idx → EReal) (s : Fin 4096) (l : Fin 1024) :
    val_main_v25 (F := Ideal) D W (ix2 s l) = against D W s l := by
  refine (val_main_v25_apply D W _).trans (Finset.sum_congr rfl fun k _ => ?_)
  have e0 : lidx_main_v25 (ix2 s l) k = ix2 s k := funext fun a => by fin_cases a <;> rfl
  have e1 : ridx_main_v25 (ix2 s l) k = ix2 l k := funext fun a => by fin_cases a <;> rfl
  rw [val_main_v24_apply, e0, e1]
  rfl

theorem reads_squash (Y : S4096x1024.Idx → EReal) (i : S4096x1024.Idx) : val_main_v14 (F := Ideal) Y i = Gelu.squash (Y i) := by
  unfold Gelu.squash
  rw [← Gelu.inner_eq, ← Gelu.ofBits_root, ← Gelu.ofBits_million, ← Gelu.ofBits_numerator]
  rfl

theorem against_real (D : S4096x2048.Idx → EReal) (W : S1024x2048.Idx → EReal) (hD : ∀ i, ∃ r : ℝ, D i = r) (hW : ∀ i, ∃ r : ℝ, W i = r)
    (s : Fin 4096) (l : Fin 1024) : ∃ r : ℝ, against D W s l = r := by
  choose d hd using hD
  choose w hw using hW
  refine ⟨∑ k : Fin 2048, d (ix2 s k) * w (ix2 l k), ?_⟩
  unfold against
  rw [Extended.coe_sum]
  simp only [hd, hw, EReal.coe_mul]

theorem reads (D : S4096x2048.Idx → EReal) (W : S1024x2048.Idx → EReal) (Y : S4096x1024.Idx → EReal)
    (hD : ∀ i, ∃ r : ℝ, D i = r) (hW : ∀ i, ∃ r : ℝ, W i = r) : val_main_v39 (F := Ideal) D W Y = result D W Y := by
  funext j
  obtain ⟨s, l, rfl⟩ : ∃ (s : Fin 4096) (l : Fin 1024), j = ix2 s l := ⟨j 0, j 1, eq_ix2 j⟩
  obtain ⟨r, hr⟩ := against_real D W hD hW s l
  show _ = against D W s l * Gelu.slope (Y (ix2 s l))
  rw [hr, ← Gelu.slope_eq, ← hr, ← reads_against, ← reads_squash, ← Gelu.ofBits_root, ← Gelu.ofBits_million, ← Gelu.ofBits_numerator,
    ← Gelu.ofBits_three, ← Gating.ofBits_half, ← Ideal.ofBits_one_f32]
  rfl

instance : Subsingleton Cert.Pre_glu_finite.S_.Idx := ⟨fun _ _ => funext fun a => a.elim0⟩

/-- What the precondition says: the gradient and the weights hold real numbers. -/
theorem real (D : S4096x2048.Idx → EReal) (W : S1024x2048.Idx → EReal) (Y : S4096x1024.Idx → EReal)
    (T : Cert.GluDIdeal.S8x128.Idx → EReal) (h : Cert.Pre_glu_finite.fn (F := Ideal) D W Y T = fun _ => 1#1) :
    (∀ i, ∃ r : ℝ, D i = r) ∧ ∀ i, ∃ r : ℝ, W i = r := by
  dsimp only [Cert.Pre_glu_finite.fn] at h
  obtain ⟨h0, h1⟩ := IntOp.andi_eq_one.1 (congrFun h fun a => a.elim0)
  exact ⟨fun i => ⟨_, Finite.real_of_abs_lt _ (Host.reduce_andi_all _ _ _ _ _ h0 i)⟩,
    fun i => ⟨_, Finite.real_of_abs_lt _ (Host.reduce_andi_all _ _ _ _ _ h1 i)⟩⟩

theorem algebraic : Cert.algebraic_GluDIdeal_GluDRefIdeal_pre_glu_finite := by
  intro m g m' g' hpre hargs
  refine ⟨fun c => result (A0 m c) (A1 m c) (A2 m c), Cert.GluDIdeal.Body.run m g,
    (θ_run Cert.GluDRefIdeal.defs _ _).mono (fun r h c => ⟨?_, (h c).2⟩) (Cert.GluDRefIdeal.Value.run m' g')⟩
  obtain ⟨e0, e1, e2, e3⟩ := hargs c
  obtain ⟨hD, hW⟩ := real _ _ _ _ (hpre c)
  rw [(h c).1, val_main_v39_eq, e0, e1, e2]
  exact reads _ _ _ hD hW

/-- The reference's run keeps its arguments; its machine has no semaphore. -/
theorem reference_frame : Cert.quiescent_GluDRefIdeal := fun m g _ =>
  (θ_run Cert.GluDRefIdeal.defs _ _).mono (fun r h => ⟨fun c => (h c).2, sem_eq_zero_of_no_sems rfl r.2⟩) (Cert.GluDRefIdeal.Value.run m g)

/-- The named constants stand for the programs' words. -/
theorem preserves : Cert.preserves_GluD_GluDIdeal :=
  ⟨IdealRules.named_const.statement Cert.GluDIdeal.κ "gelu_a" .f32 0x3D372713#32 _ rfl,
    IdealRules.named_const.statement Cert.GluDIdeal.κ "gelu_3a" .f32 0x3E095D4F#32 _ rfl⟩

end Cert.GluDClaim

end
-- ==== Proof.GateValue.lean ====
/-
  The gated mixers' gradient, kernel side: the gradients of the pooled lines, of the projection, of the state space mixer's
  lines and of the pool's scale, as functions of the arguments. Grid point `t` has rows `256 t … 256 t + 255`; the body
  stores the projection's gradient in four blocks of columns, its lines' gradient in two, and adds the scale's part.
-/
module

public import proofs.«01_k».proof.Proof.Gen.GateIdeal.Value
public import proofs.«01_k».proof.Proof.Gating
public import Idealize.ShloMosaic.Lib.Pipeline.ValueKit.Acc
public import Idealize.ShloMosaic.Lib.Pipeline.ValueKit.Geometry
public import Idealize.ShloMosaic.Lib.Pipeline.ValueKit.Tiles

@[expose] public section

set_option maxRecDepth 16384

noncomputable section

namespace Cert.GateIdeal.Body

open Cert.GateIdeal Cert.GateIdeal.Gen Cert.Gating Idealize.ShloMosaic Idealize.ShloMosaic.TcCoe Idealize.SL.Sem

section
variable (D : S4096x2048.Idx → EReal) (W : S2048x2048.Idx → EReal) (X : S4096x1024.Idx → EReal) (J : S4096x4096.Idx → EReal)
  (H : S4096x2048.Idx → EReal) (P : S1x1024.Idx → EReal)

/-- The gradient of the mixers' output at row `s`, column `l`, and its two halves. -/
def catGrad (s : Fin 4096) (l : Fin 2048) : EReal := ∑ k : Fin 2048, D (ix2 s k) * W (ix2 l k)
def poolGrad (s : Fin 4096) (k : Fin 1024) : EReal := catGrad D W s ⟨k.val, by omega⟩
def ssmGrad (s : Fin 4096) (k : Fin 1024) : EReal := catGrad D W s ⟨1024 + k.val, by omega⟩

/-- The gates' lines, and the two halves of the state space mixer's lines. -/
def poolGate (s : Fin 4096) (k : Fin 1024) : EReal := J (ix2 s ⟨1024 + k.val, by omega⟩)
def ssmGate (s : Fin 4096) (k : Fin 1024) : EReal := J (ix2 s ⟨3072 + k.val, by omega⟩)
def left (s : Fin 4096) (k : Fin 1024) : EReal := H (ix2 s ⟨k.val, by omega⟩)
def right (s : Fin 4096) (k : Fin 1024) : EReal := H (ix2 s ⟨1024 + k.val, by omega⟩)

/-- The gradient of the pooled lines, before their scale, and after. -/
def scaledAt (s : Fin 4096) (k : Fin 1024) : EReal := poolGrad D W s k * silu (poolGate J s k)
def pooledResult : S4096x1024.Idx → EReal := fun j => scaledAt D W J (j 0) (j 1) * P (ix2 0 (j 1))

/-- Row `s`'s part of the scale's gradient at column `k`, and the gradient. -/
def scalePart (k : Fin 1024) (s : Fin 4096) : EReal := scaledAt D W J s k * X (ix2 s k)
def scaleResult : S1x1024.Idx → EReal := fun j => ∑ s : Fin 4096, scalePart D W X J (j 1) s

/-- The gradients of the two gates' lines. -/
def poolGateGrad (s : Fin 4096) (k : Fin 1024) : EReal := poolGrad D W s k * X (ix2 s k) * P (ix2 0 k) * slope (poolGate J s k)
def ssmGateGrad (s : Fin 4096) (k : Fin 1024) : EReal :=
  ssmGrad D W s k * left H s k * gate (right H s k) * slope (ssmGate J s k)

/-- The projection's gradient: nothing from the mixers' inputs here, and the two gates'. -/
def projAt (s : Fin 4096) (l : Fin 4096) : EReal :=
  if l.val < 1024 then 0
  else if h1 : l.val < 2048 then poolGateGrad D W X J P s ⟨l.val - 1024, by omega⟩
  else if h2 : l.val < 3072 then 0
  else ssmGateGrad D W J H s ⟨l.val - 3072, by omega⟩
def projResult : S4096x4096.Idx → EReal := fun j => projAt D W X J H P (j 0) (j 1)

/-- The gradient of the state space mixer's two halves. -/
def leftGrad (s : Fin 4096) (k : Fin 1024) : EReal := ssmGrad D W s k * silu (ssmGate J s k) * gate (right H s k)
def rightGrad (s : Fin 4096) (k : Fin 1024) : EReal :=
  ssmGrad D W s k * silu (ssmGate J s k) * left H s k * gate (right H s k) * (1 - gate (right H s k))
def linesAt (s : Fin 4096) (l : Fin 2048) : EReal :=
  if h : l.val < 1024 then leftGrad D W J H s ⟨l.val, h⟩ else rightGrad D W J H s ⟨l.val - 1024, by omega⟩
def linesResult : S4096x2048.Idx → EReal := fun j => linesAt D W J H (j 0) (j 1)

theorem projAt_first (s : Fin 4096) (k : Fin 1024) : projAt D W X J H P s ⟨k.val, by omega⟩ = 0 := if_pos k.isLt
theorem projAt_second (s : Fin 4096) (k : Fin 1024) : projAt D W X J H P s ⟨1024 + k.val, by omega⟩ = poolGateGrad D W X J P s k := by
  unfold projAt
  rw [if_neg (by show ¬(1024 + k.val < 1024); omega), dif_pos (by show 1024 + k.val < 2048; omega)]
  exact congrArg (poolGateGrad D W X J P s) (Fin.ext (by show 1024 + k.val - 1024 = k.val; omega))
theorem projAt_third (s : Fin 4096) (k : Fin 1024) : projAt D W X J H P s ⟨2048 + k.val, by omega⟩ = 0 := by
  unfold projAt
  rw [if_neg (by show ¬(2048 + k.val < 1024); omega), dif_neg (by show ¬(2048 + k.val < 2048); omega),
    dif_pos (by show 2048 + k.val < 3072; omega)]
theorem projAt_fourth (s : Fin 4096) (k : Fin 1024) : projAt D W X J H P s ⟨3072 + k.val, by omega⟩ = ssmGateGrad D W J H s k := by
  unfold projAt
  rw [if_neg (by show ¬(3072 + k.val < 1024); omega), dif_neg (by show ¬(3072 + k.val < 2048); omega),
    dif_neg (by show ¬(3072 + k.val < 3072); omega)]
  exact congrArg (ssmGateGrad D W J H s) (Fin.ext (by show 3072 + k.val - 3072 = k.val; omega))
theorem linesAt_left (s : Fin 4096) (k : Fin 1024) : linesAt D W J H s ⟨k.val, by omega⟩ = leftGrad D W J H s k := dif_pos k.isLt
theorem linesAt_right (s : Fin 4096) (k : Fin 1024) : linesAt D W J H s ⟨1024 + k.val, by omega⟩ = rightGrad D W J H s k := by
  unfold linesAt
  rw [dif_neg (by show ¬(1024 + k.val < 1024); omega)]
  exact congrArg (rightGrad D W J H s) (Fin.ext (by show 1024 + k.val - 1024 = k.val; omega))
end

/-! What the body computes, at an index. -/

section
variable (v3 : Vec Ideal S256x2048 .bf16) (v4 : Vec Ideal S2048x2048 .bf16) (v7 : Vec Ideal S1x1024 .f32)
  (v8 v10 v46 v61 v62 : Vec Ideal S256x1024 .f32) (v26 : Vec Ideal S1x1024 .f32) (r : Fin 256) (k : Fin 1024) (l : Fin 2048)

theorem pay7_apply : k0_pay7 v3 v4 (ix2 r l) = ∑ q : Fin 2048, v3 (ix2 r q) * v4 (ix2 l q) := by
  pointwise [k0_pay7]

theorem pay8_apply : k0_pay8 v3 v4 (ix2 r k) = ∑ q : Fin 2048, v3 (ix2 r q) * v4 (ix2 ⟨k.val, by omega⟩ q) := by
  refine Eq.trans (b := k0_pay7 v3 v4 (ix2 r ⟨k.val, by omega⟩)) ?_ (pay7_apply _ _ _ _)
  refine congrArg (k0_pay7 v3 v4) (funext fun a => Fin.ext ?_)
  fin_cases a
  · exact Nat.zero_add _
  · exact Nat.zero_add _

theorem pay17_apply : k0_pay17 (k0_pay7 v3 v4) (ix2 r k) = ∑ q : Fin 2048, v3 (ix2 r q) * v4 (ix2 ⟨1024 + k.val, by omega⟩ q) := by
  refine Eq.trans (b := k0_pay7 v3 v4 (ix2 r ⟨1024 + k.val, by omega⟩)) ?_ (pay7_apply _ _ _ _)
  refine congrArg (k0_pay7 v3 v4) (funext fun a => Fin.ext ?_)
  fin_cases a
  · exact Nat.zero_add _
  · rfl

theorem pay9_apply : k0_pay9 v10 (ix2 r k) = gate (v10 (ix2 r k)) := by
  pointwise [k0_pay9]
  rw [gate_sub]

theorem pay10_apply : k0_pay10 v10 (ix2 r k) = slope (v10 (ix2 r k)) := by
  pointwise [k0_pay10]
  rw [pay9_apply]
  rfl

theorem pay11_apply : k0_pay11 v3 v4 v10 (ix2 r k) = k0_pay8 v3 v4 (ix2 r k) * silu (v10 (ix2 r k)) := by
  pointwise [k0_pay11]
  rw [pay9_apply]
  rfl

theorem pay12_apply (z : Fin 1) : k0_pay12 v3 v4 v8 v10 v26 (ix2 z k)
    = v26 (ix2 z k) + ∑ r : Fin 256, k0_pay11 v3 v4 v10 (ix2 r k) * v8 (ix2 r k) := by
  pointwise [k0_pay12]

theorem pay14_apply : k0_pay14 (k0_pay11 v3 v4 v10) (k0_pay13 v7) (ix2 r k) = k0_pay11 v3 v4 v10 (ix2 r k) * v7 (ix2 0 k) := by
  pointwise [k0_pay14, k0_pay13]

theorem pay15_apply : (k0_pay15 (F := Ideal)) (ix2 r k) = 0 := by
  pointwise [k0_pay15]

theorem pay2_apply : (k0_pay2 (F := Ideal)) (ix2 r k) = 0 := by
  pointwise [k0_pay2]

theorem pay16_apply : k0_pay16 v7 v8 (k0_pay8 v3 v4) (k0_pay10 v10) (ix2 r k)
    = k0_pay8 v3 v4 (ix2 r k) * v8 (ix2 r k) * v7 (ix2 0 k) * slope (v10 (ix2 r k)) := by
  pointwise [k0_pay16]
  rw [pay10_apply]

theorem pay18_apply : k0_pay18 v46 (ix2 r k) = gate (v46 (ix2 r k)) := by
  pointwise [k0_pay18]
  rw [gate_sub]

theorem pay19_apply : k0_pay19 v46 (ix2 r k) = silu (v46 (ix2 r k)) := by
  pointwise [k0_pay19]
  rw [pay18_apply]
  rfl

theorem pay20_apply : k0_pay20 v46 (ix2 r k) = slope (v46 (ix2 r k)) := by
  pointwise [k0_pay20]
  rw [pay18_apply]
  rfl

theorem pay21_apply : k0_pay21 v62 (ix2 r k) = gate (v62 (ix2 r k)) := by
  pointwise [k0_pay21]
  rw [gate_sub]

theorem pay3_apply : k0_pay3 (k0_pay17 (k0_pay7 v3 v4)) (k0_pay20 v46) v61 (k0_pay21 v62) (ix2 r k)
    = k0_pay17 (k0_pay7 v3 v4) (ix2 r k) * v61 (ix2 r k) * gate (v62 (ix2 r k)) * slope (v46 (ix2 r k)) := by
  pointwise [k0_pay3]
  rw [pay20_apply, pay21_apply]

theorem pay4_apply : k0_pay4 (k0_pay17 (k0_pay7 v3 v4)) (k0_pay19 v46) (k0_pay21 v62) (ix2 r k)
    = k0_pay17 (k0_pay7 v3 v4) (ix2 r k) * silu (v46 (ix2 r k)) * gate (v62 (ix2 r k)) := by
  pointwise [k0_pay4, k0_pay1]
  rw [pay19_apply, pay21_apply]

theorem pay5_apply : k0_pay5 (k0_pay17 (k0_pay7 v3 v4)) (k0_pay19 v46) v61 (k0_pay21 v62) (ix2 r k)
    = k0_pay17 (k0_pay7 v3 v4) (ix2 r k) * silu (v46 (ix2 r k)) * v61 (ix2 r k) * gate (v62 (ix2 r k)) * (1 - gate (v62 (ix2 r k))) := by
  pointwise [k0_pay5, k0_pay1]
  rw [pay19_apply, pay21_apply]
end

variable (m : (ℓ : Loc nD τ sig) → Buf (Elt Ideal) ℓ) (c : Dev nD)

/-- The arguments as arrays. -/
abbrev A0 : S4096x2048.Idx → EReal := m ((c : Thread nD τ).loc main_arg0)
abbrev A1 : S2048x2048.Idx → EReal := m ((c : Thread nD τ).loc main_arg1)
abbrev A2 : S4096x1024.Idx → EReal := m ((c : Thread nD τ).loc main_arg2)
abbrev A3 : S4096x4096.Idx → EReal := m ((c : Thread nD τ).loc main_arg3)
abbrev A4 : S4096x2048.Idx → EReal := m ((c : Thread nD τ).loc main_arg4)
abbrev A5 : S1x1024.Idx → EReal := m ((c : Thread nD τ).loc main_arg5)

theorem V_v0 (j : S2048x2048.Idx) : V m c main_v0 j = A1 m c j := by
  unfold V
  after_results
  rfl

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 1] := (by decide +kernel : ∀ t : Fin grid0.N, _)
theorem index4 : ∀ t : Fin cfg0.N, win0_4.index t = ![t.val, 3] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![0, 0] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![t.val, 0] := (by decide +kernel : ∀ t : Fin grid0.N, _)
theorem index11 : ∀ t : Fin cfg0.N, win0_11.index t = ![t.val, 0] := (by decide +kernel : ∀ t : Fin grid0.N, _)
theorem index12 : ∀ t : Fin cfg0.N, win0_12.index t = ![0, 0] := (by decide +kernel : ∀ t : Fin grid0.N, _)

/-- Row `r` of point `t`'s rows. -/
def row (t : Fin cfg0.N) (r : Fin 256) : Fin 4096 := ⟨t.val * 256 + r.val, by have : t.val < 16 := t.isLt; omega⟩

theorem blk0_apply (t : Fin cfg0.N) (r : Fin 256) (l : Fin 2048) :
    (iblk m c 0 t : Vec Ideal S256x2048 .bf16) (ix2 r l) = A0 m c (ix2 (row t r) l) := by
  unfold iblk
  rw [View.read_apply]
  show V m c main_arg0 _ = _
  rw [V_main_arg0]
  blk_ext [index0, row]

theorem blk1_apply (t : Fin cfg0.N) (k l : Fin 2048) :
    (iblk m c 1 t : Vec Ideal S2048x2048 .bf16) (ix2 k l) = A1 m c (ix2 k l) := by
  unfold iblk
  rw [View.read_apply]
  show V m c main_v0 _ = _
  rw [V_v0]
  blk_ext [index1]

theorem blk2_apply (t : Fin cfg0.N) (r : Fin 256) (k : Fin 1024) :
    (iblk m c 2 t : Vec Ideal S256x1024 .f32) (ix2 r k) = A2 m c (ix2 (row t r) k) := by
  unfold iblk
  rw [View.read_apply]
  show V m c main_arg2 _ = _
  rw [V_main_arg2]
  blk_ext [index2, row]

theorem blk3_apply (t : Fin cfg0.N) (r : Fin 256) (k : Fin 1024) :
    (iblk m c 3 t : Vec Ideal S256x1024 .f32) (ix2 r k) = A3 m c (ix2 (row t r) ⟨1024 + k.val, by omega⟩) := by
  unfold iblk
  rw [View.read_apply]
  show V m c main_arg3 _ = _
  rw [V_main_arg3]
  blk_ext [index3, row]

theorem blk4_apply (t : Fin cfg0.N) (r : Fin 256) (k : Fin 1024) :
    (iblk m c 4 t : Vec Ideal S256x1024 .f32) (ix2 r k) = A3 m c (ix2 (row t r) ⟨3072 + k.val, by omega⟩) := by
  unfold iblk
  rw [View.read_apply]
  show V m c main_arg3 _ = _
  rw [V_main_arg3]
  blk_ext [index4, row]

theorem blk5_apply (t : Fin cfg0.N) (r : Fin 256) (l : Fin 2048) :
    (iblk m c 5 t : Vec Ideal S256x2048 .f32) (ix2 r l) = A4 m c (ix2 (row t r) l) := by
  unfold iblk
  rw [View.read_apply]
  show V m c main_arg4 _ = _
  rw [V_main_arg4]
  blk_ext [index5, row]

theorem blk6_apply (t : Fin cfg0.N) (z : Fin 1) (k : Fin 1024) :
    (iblk m c 6 t : Vec Ideal S1x1024 .f32) (ix2 z k) = A5 m c (ix2 z k) := by
  unfold iblk
  rw [View.read_apply]
  show V m c main_arg5 _ = _
  rw [V_main_arg5]
  blk_ext [index6]

/-! The halves of point `t`'s block of the state space mixer's lines. -/

abbrev leftBlk (t : Fin cfg0.N) : Vec Ideal S256x1024 .f32 :=
  View.ld (iblk m c 5 t : Vec Ideal S256x2048 .f32) (Rect.unit ![0, 0] ![256, 1024] inb_S256x2048_S256x1024_0_0)
abbrev rightBlk (t : Fin cfg0.N) : Vec Ideal S256x1024 .f32 :=
  View.ld (iblk m c 5 t : Vec Ideal S256x2048 .f32) (Rect.unit ![0, 1024] ![256, 1024] inb_S256x2048_S256x1024_0_1024)

theorem leftBlk_apply (t : Fin cfg0.N) (r : Fin 256) (k : Fin 1024) : leftBlk m c t (ix2 r k) = left (A4 m c) (row t r) k := by
  refine (View.ld_unit_apply_of _ _ _ _ _ (ix2 r ⟨k.val, by omega⟩) fun a => ?_).trans (blk5_apply m c t r _)
  fin_cases a
  · exact (Nat.zero_add _).symm
  · exact (Nat.zero_add _).symm

theorem rightBlk_apply (t : Fin cfg0.N) (r : Fin 256) (k : Fin 1024) : rightBlk m c t (ix2 r k) = right (A4 m c) (row t r) k := by
  refine (View.ld_unit_apply_of _ _ _ _ _ (ix2 r ⟨1024 + k.val, by omega⟩) fun a => ?_).trans (blk5_apply m c t r _)
  fin_cases a
  · exact (Nat.zero_add _).symm
  · rfl

/-! The two halves of the output's gradient, and the lines of the gates, at point `t`. -/

theorem pool_eq (t : Fin cfg0.N) (r : Fin 256) (k : Fin 1024) :
    k0_pay8 (iblk m c 0 t) (iblk m c 1 t) (ix2 r k) = poolGrad (A0 m c) (A1 m c) (row t r) k := by
  rw [pay8_apply]
  exact Finset.sum_congr rfl fun q _ => congrArg₂ (fun a b : EReal => a * b) (blk0_apply m c t r q) (blk1_apply m c t _ q)

theorem ssm_eq (t : Fin cfg0.N) (r : Fin 256) (k : Fin 1024) :
    k0_pay17 (k0_pay7 (iblk m c 0 t) (iblk m c 1 t)) (ix2 r k) = ssmGrad (A0 m c) (A1 m c) (row t r) k := by
  rw [pay17_apply]
  exact Finset.sum_congr rfl fun q _ => congrArg₂ (fun a b : EReal => a * b) (blk0_apply m c t r q) (blk1_apply m c t _ q)

theorem scaled_eq (t : Fin cfg0.N) (r : Fin 256) (k : Fin 1024) :
    k0_pay11 (iblk m c 0 t) (iblk m c 1 t) (iblk m c 3 t) (ix2 r k) = scaledAt (A0 m c) (A1 m c) (A3 m c) (row t r) k := by
  rw [pay11_apply, pool_eq, blk3_apply]
  rfl

theorem pooled_block (t : Fin cfg0.N) (r : Fin 256) (k : Fin 1024) :
    k0_pay14 (k0_pay11 (iblk m c 0 t) (iblk m c 1 t) (iblk m c 3 t)) (k0_pay13 (iblk m c 6 t)) (ix2 r k)
      = pooledResult (A0 m c) (A1 m c) (A3 m c) (A5 m c) (ix2 (row t r) k) := by
  rw [pay14_apply, scaled_eq, blk6_apply]
  rfl

theorem pooled_eq (t : Fin cfg0.N) (r : Fin 256) (k : Fin 1024) :
    (outsAt0 m c t.val t.isLt).1 (ix2 r k) = pooledResult (A0 m c) (A1 m c) (A3 m c) (A5 m c) (ix2 (row t r) k) := by
  by_cases h : t.val % 16 = 0
  · rw [outsAt0_A m c t h]
    frame_out
    exact pooled_block m c t r k
  · rw [outsAt0_B m c t h]
    frame_out
    exact pooled_block m c t r k

/-- The four stores of the projection's gradient at point `t`, the last first. -/
abbrev projPieces (t : Fin cfg0.N) : List (View.Piece (Elt Ideal) S256x4096 .bf16) :=
  [⟨Rect.unit ![0, 3072] ![256, 1024] inb_S256x4096_S256x1024_0_3072,
      k0_pay3 (k0_pay17 (k0_pay7 (iblk m c 0 t) (iblk m c 1 t))) (k0_pay20 (iblk m c 4 t)) (leftBlk m c t) (k0_pay21 (rightBlk m c t))⟩,
    ⟨Rect.unit ![0, 2048] ![256, 1024] inb_S256x4096_S256x1024_0_2048, k0_pay2 (F := Ideal)⟩,
    ⟨Rect.unit ![0, 1024] ![256, 1024] inb_S256x4096_S256x1024_0_1024,
      k0_pay16 (iblk m c 6 t) (iblk m c 2 t) (k0_pay8 (iblk m c 0 t) (iblk m c 1 t)) (k0_pay10 (iblk m c 3 t))⟩,
    ⟨Rect.unit ![0, 0] ![256, 1024] inb_S256x4096_S256x1024_0_0, k0_pay15 (F := Ideal)⟩]

/-- The two stores of the lines' gradient, the last first. -/
abbrev linePieces (t : Fin cfg0.N) : List (View.Piece (Elt Ideal) S256x2048 .bf16) :=
  [⟨Rect.unit ![0, 1024] ![256, 1024] inb_S256x2048_S256x1024_0_1024,
      k0_pay5 (k0_pay17 (k0_pay7 (iblk m c 0 t) (iblk m c 1 t))) (k0_pay19 (iblk m c 4 t)) (leftBlk m c t) (k0_pay21 (rightBlk m c t))⟩,
    ⟨Rect.unit ![0, 0] ![256, 1024] inb_S256x2048_S256x1024_0_0,
      k0_pay4 (k0_pay17 (k0_pay7 (iblk m c 0 t) (iblk m c 1 t))) (k0_pay19 (iblk m c 4 t)) (k0_pay21 (rightBlk m c t))⟩]

theorem projPieces_apply (t : Fin cfg0.N) (r : Fin 256) (l : Fin 4096) :
    View.canon (projPieces m c t) (ix2 r l) = projAt (A0 m c) (A1 m c) (A2 m c) (A3 m c) (A4 m c) (A5 m c) (row t r) l := by
  canon_tiles x h
  all_goals
    obtain ⟨r', k, rfl⟩ : ∃ (r' : Fin 256) (k : Fin 1024), x = ix2 r' k := ⟨x 0, x 1, eq_ix2 x⟩
    obtain rfl : r = r' := Fin.ext h0
  · rw [show l = (⟨3072 + k.val, by omega⟩ : Fin 4096) from Fin.ext h1, projAt_fourth]
    refine (pay3_apply _ _ _ _ _ r k).trans ?_
    rw [ssm_eq, leftBlk_apply, rightBlk_apply, blk4_apply]
    rfl
  · rw [show l = (⟨2048 + k.val, by omega⟩ : Fin 4096) from Fin.ext h1, projAt_third]
    exact pay2_apply r k
  · rw [show l = (⟨1024 + k.val, by omega⟩ : Fin 4096) from Fin.ext h1, projAt_second]
    refine (pay16_apply _ _ _ _ _ r k).trans ?_
    rw [pool_eq, blk2_apply, blk6_apply, blk3_apply]
    rfl
  · rw [show l = (⟨k.val, by omega⟩ : Fin 4096) from Fin.ext h1, projAt_first]
    exact pay15_apply r k

theorem linePieces_apply (t : Fin cfg0.N) (r : Fin 256) (l : Fin 2048) :
    View.canon (linePieces m c t) (ix2 r l) = linesAt (A0 m c) (A1 m c) (A3 m c) (A4 m c) (row t r) l := by
  canon_tiles x h
  all_goals
    obtain ⟨r', k, rfl⟩ : ∃ (r' : Fin 256) (k : Fin 1024), x = ix2 r' k := ⟨x 0, x 1, eq_ix2 x⟩
    obtain rfl : r = r' := Fin.ext h0
  · rw [show l = (⟨1024 + k.val, by omega⟩ : Fin 2048) from Fin.ext h1, linesAt_right]
    refine (pay5_apply _ _ _ _ _ r k).trans ?_
    rw [ssm_eq, leftBlk_apply, rightBlk_apply, blk4_apply]
    rfl
  · rw [show l = (⟨k.val, by omega⟩ : Fin 2048) from Fin.ext h1, linesAt_left]
    refine (pay4_apply _ _ _ _ r k).trans ?_
    rw [ssm_eq, rightBlk_apply, blk4_apply]
    rfl

theorem proj_eq (t : Fin cfg0.N) (r : Fin 256) (l : Fin 4096) :
    (outsAt0 m c t.val t.isLt).2.1 (ix2 r l) = projResult (A0 m c) (A1 m c) (A2 m c) (A3 m c) (A4 m c) (A5 m c) (ix2 (row t r) l) := by
  by_cases h : t.val % 16 = 0
  · rw [outsAt0_A m c t h]
    frame_out
    exact projPieces_apply m c t r l
  · rw [outsAt0_B m c t h]
    frame_out
    exact projPieces_apply m c t r l

theorem lines_eq (t : Fin cfg0.N) (r : Fin 256) (l : Fin 2048) :
    (outsAt0 m c t.val t.isLt).2.2.1 (ix2 r l) = linesResult (A0 m c) (A1 m c) (A3 m c) (A4 m c) (ix2 (row t r) l) := by
  by_cases h : t.val % 16 = 0
  · rw [outsAt0_A m c t h]
    frame_out
    exact linePieces_apply m c t r l
  · rw [outsAt0_B m c t h]
    frame_out
    exact linePieces_apply m c t r l

/-- What point `t` adds to the scale's gradient. -/
def scaleTerm (t : Fin cfg0.N) (j : S1x1024.Idx) : EReal := ∑ r : Fin 256, scalePart (A0 m c) (A1 m c) (A2 m c) (A3 m c) (j 1) (row t r)

theorem scale_step (t : Fin cfg0.N) (v : Vec Ideal S1x1024 .f32) (j : S1x1024.Idx) :
    k0_pay12 (iblk m c 0 t) (iblk m c 1 t) (iblk m c 2 t) (iblk m c 3 t) v j = v j + scaleTerm m c t j := by
  obtain ⟨z, k, rfl⟩ : ∃ (z : Fin 1) (k : Fin 1024), j = ix2 z k := ⟨j 0, j 1, eq_ix2 j⟩
  rw [pay12_apply]
  exact congrArg (fun b : EReal => v (ix2 z k) + b)
    (Finset.sum_congr rfl fun r _ => congrArg₂ (fun a b : EReal => a * b) (scaled_eq m c t r k) (blk2_apply m c t r k))

theorem scale_zero (j : S1x1024.Idx) : k0_pay6 (F := Ideal) j = 0 := Ideal.ofBits_zero_f32

theorem scale_last (t : Fin cfg0.N) (ht : t.val + 1 = cfg0.N) (j : S1x1024.Idx) :
    (outsAt0 m c t.val t.isLt).2.2.2 j = scaleResult (A0 m c) (A1 m c) (A2 m c) (A3 m c) j := by
  rw [Pipeline.eq_sum_fin_of_reset_step_apply_last (fun n h => (outsAt0 m c n h).2.2.2) 16 (fun _ => 0) (scaleTerm m c)
    (fun t h j => by rw [outsAt0_A m c t h]; frame_out; rw [scale_step, scale_zero])
    (fun t h j => by rw [outsAt0_B m c t h]; frame_out; rw [scale_step]) (le_of_eq N_0) t ht j, zero_add]
  exact Fin.sum_mul_add_congr (S := 16) fun t r hl => rfl

theorem last_of_flush (t : Fin cfg0.N) (h : t.val % 16 = 15) : t.val + 1 = cfg0.N := by
  have h' : t.val < 16 := t.isLt
  have e : cfg0.N = 16 := N_0
  omega

theorem final9 : (dats m 0 c).arrAt 9 cfg0.N = pooledResult (A0 m c) (A1 m c) (A3 m c) (A5 m c) := by
  refine (dats m 0 c).arrAt_eq_of_covers 9 _ (by decide +kernel) fun t hf y => ?_
  obtain ⟨r, l, rfl⟩ : ∃ (r : Fin 256) (l : Fin 1024), y = ix2 r l := ⟨y 0, y 1, eq_ix2 y⟩
  blk_simp
  rw [after0_9]
  refine (pooled_eq m c t r l).trans (congrArg (pooledResult (A0 m c) (A1 m c) (A3 m c) (A5 m c)) ?_)
  blk_ext [index9, row]

theorem final10 : (dats m 0 c).arrAt 10 cfg0.N = projResult (A0 m c) (A1 m c) (A2 m c) (A3 m c) (A4 m c) (A5 m c) := by
  refine (dats m 0 c).arrAt_eq_of_covers 10 _ (by decide +kernel) fun t hf y => ?_
  obtain ⟨r, l, rfl⟩ : ∃ (r : Fin 256) (l : Fin 4096), y = ix2 r l := ⟨y 0, y 1, eq_ix2 y⟩
  blk_simp
  rw [after0_10]
  refine (proj_eq m c t r l).trans (congrArg (projResult (A0 m c) (A1 m c) (A2 m c) (A3 m c) (A4 m c) (A5 m c)) ?_)
  blk_ext [index10, row]

theorem final11 : (dats m 0 c).arrAt 11 cfg0.N = linesResult (A0 m c) (A1 m c) (A3 m c) (A4 m c) := by
  refine (dats m 0 c).arrAt_eq_of_covers 11 _ (by decide +kernel) fun t hf y => ?_
  obtain ⟨r, l, rfl⟩ : ∃ (r : Fin 256) (l : Fin 2048), y = ix2 r l := ⟨y 0, y 1, eq_ix2 y⟩
  blk_simp
  rw [after0_11]
  refine (lines_eq m c t r l).trans (congrArg (linesResult (A0 m c) (A1 m c) (A3 m c) (A4 m c)) ?_)
  blk_ext [index11, row]

theorem final12 : (dats m 0 c).arrAt 12 cfg0.N = scaleResult (A0 m c) (A1 m c) (A2 m c) (A3 m c) := by
  refine (dats m 0 c).arrAt_eq_of_covers 12 _ (by decide +kernel) fun t hf y => ?_
  have ht := last_of_flush t ((flush0_12 t).mp hf)
  obtain ⟨z, k, rfl⟩ : ∃ (z : Fin 1) (k : Fin 1024), y = ix2 z k := ⟨y 0, y 1, eq_ix2 y⟩
  blk_simp
  rw [after0_12]
  refine (scale_last m c t ht _).trans (congrArg (scaleResult (A0 m c) (A1 m c) (A2 m c) (A3 m c)) ?_)
  blk_ext [index12]

/-- The run, read: the four result arrays, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1_0) = pooledResult (A0 m c) (A1 m c) (A3 m c) (A5 m c)
      ∧ r.2.mem ((c : Thread nD τ).loc main_v1_1) = projResult (A0 m c) (A1 m c) (A2 m c) (A3 m c) (A4 m c) (A5 m c)
      ∧ r.2.mem ((c : Thread nD τ).loc main_v1_2) = linesResult (A0 m c) (A1 m c) (A3 m c) (A4 m c)
      ∧ r.2.mem ((c : Thread nD τ).loc main_v1_3) = scaleResult (A0 m c) (A1 m c) (A2 m c) (A3 m c)
      ∧ r.2.mem ((c : Thread nD τ).loc main_arg0) = A0 m c
      ∧ r.2.mem ((c : Thread nD τ).loc main_arg1) = A1 m c
      ∧ r.2.mem ((c : Thread nD τ).loc main_arg2) = A2 m c
      ∧ r.2.mem ((c : Thread nD τ).loc main_arg3) = A3 m c
      ∧ r.2.mem ((c : Thread nD τ).loc main_arg4) = A4 m c
      ∧ r.2.mem ((c : Thread nD τ).loc main_arg5) = A5 m c
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final9 m c), (h c).2.1.trans (final10 m c), (h c).2.2.1.trans (final11 m c),
    (h c).2.2.2.1.trans (final12 m c), (h c).2.2.2.2⟩) (Value.run_blocks m ρ)

end Cert.GateIdeal.Body

end
-- ==== Proof.GateReference.lean ====
/-
  The gated mixers' gradient, reference side: it has the kernel's functions, where the arrays that a gate's slope is
  multiplied by hold real numbers.
-/
module

public import proofs.«01_k».proof.Proof.GateValue
public import proofs.«01_k».proof.Proof.Extended
public import proofs.«01_k».proof.Proof.Gen.GateRefIdeal.Read
public import Idealize.ShloMosaic.Lib.KernelVsHost

@[expose] public section

set_option maxRecDepth 16384

noncomputable section

namespace Cert.GateRefIdeal.Body

open Cert.GateRefIdeal Cert.GateRefIdeal.Gen Cert.GateRefIdeal.Read Cert.Gating Idealize.ShloMosaic
open Cert.GateIdeal.Body (catGrad poolGrad ssmGrad poolGate ssmGate left right scaledAt pooledResult scalePart scaleResult
  poolGateGrad ssmGateGrad projAt projResult leftGrad rightGrad linesAt linesResult)

variable (D : S4096x2048.Idx → EReal) (W : S2048x2048.Idx → EReal) (X : S4096x1024.Idx → EReal) (J : S4096x4096.Idx → EReal)
  (H : S4096x2048.Idx → EReal) (P : S1x1024.Idx → EReal) (s : Fin 4096) (k : Fin 1024) (l : Fin 2048)

theorem spelled (z : EReal) : Ideal.div (Ideal.ofBits .f32 0x3F800000#32) (Ideal.ofBits .f32 0x3F800000#32 + Ideal.exp (-z)) = gate z := by
  rw [Ideal.ofBits_one_f32]
  rfl

theorem pool_line : val_main_v0 (F := Ideal) J (ix2 s k) = poolGate J s k :=
  (val_main_v0_apply (F := Ideal) J _).trans (congrArg J (funext fun a => by fin_cases a <;> rfl))
theorem ssm_line : val_main_v1 (F := Ideal) J (ix2 s k) = ssmGate J s k :=
  (val_main_v1_apply (F := Ideal) J _).trans (congrArg J (funext fun a => by fin_cases a <;> rfl))
theorem left_line : val_main_v8 (F := Ideal) H (ix2 s k) = left H s k :=
  (val_main_v8_apply (F := Ideal) H _).trans (congrArg H (funext fun a => by fin_cases a <;> rfl))
theorem right_line : val_main_v9 (F := Ideal) H (ix2 s k) = right H s k :=
  (val_main_v9_apply (F := Ideal) H _).trans (congrArg H (funext fun a => by fin_cases a <;> rfl))

theorem pool_gate : val_main_v6_2 (F := Ideal) J (ix2 s k) = gate (poolGate J s k) := by
  rw [← pool_line]
  exact spelled _
theorem ssm_gate : val_main_v20_2 (F := Ideal) J (ix2 s k) = gate (ssmGate J s k) := by
  rw [← ssm_line]
  exact spelled _
theorem right_gate : val_main_v15 (F := Ideal) H (ix2 s k) = gate (right H s k) := by
  rw [← right_line]
  exact spelled _

theorem pool_rest : val_main_v6_1 (F := Ideal) J (ix2 s k) = gate (poolGate J s k) * (1 - gate (poolGate J s k)) := by
  rw [← pool_gate]
  exact congrArg (fun o : EReal => val_main_v6_2 (F := Ideal) J (ix2 s k) * (o - val_main_v6_2 (F := Ideal) J (ix2 s k))) Ideal.ofBits_one_f32
theorem ssm_rest : val_main_v20_1 (F := Ideal) J (ix2 s k) = gate (ssmGate J s k) * (1 - gate (ssmGate J s k)) := by
  rw [← ssm_gate]
  exact congrArg (fun o : EReal => val_main_v20_2 (F := Ideal) J (ix2 s k) * (o - val_main_v20_2 (F := Ideal) J (ix2 s k))) Ideal.ofBits_one_f32
theorem right_rest : val_main_v18 (F := Ideal) H (ix2 s k) = gate (right H s k) * (1 - gate (right H s k)) := by
  rw [← right_gate]
  exact congrArg (fun o : EReal => val_main_v15 (F := Ideal) H (ix2 s k) * (o - val_main_v15 (F := Ideal) H (ix2 s k))) Ideal.ofBits_one_f32

theorem pool_silu : val_main_v6_0 (F := Ideal) J (ix2 s k) = silu (poolGate J s k) := by
  rw [val_main_v6_0_apply, pool_line, pool_gate]
  rfl
theorem ssm_silu : val_main_v20_0 (F := Ideal) J (ix2 s k) = silu (ssmGate J s k) := by
  rw [val_main_v20_0_apply, ssm_line, ssm_gate]
  rfl

theorem scale_line : val_main_v4 (F := Ideal) P (ix2 s k) = P (ix2 0 k) := by
  rw [val_main_v4_apply, val_main_v3_apply, val_main_v2_apply]
  exact congrArg P (funext fun a => by
    fin_cases a
    · rfl
    · exact Fin.ext (by show k.val % 1024 = k.val; have := k.isLt; omega))
theorem scale_line' : val_main_v43 (F := Ideal) P (ix2 s k) = P (ix2 0 k) := scale_line P s k

theorem cat_grad : val_main_v25 (F := Ideal) D W (ix2 s l) = catGrad D W s l := by
  rw [val_main_v25_apply]
  have e : ∀ q, lidx_main_v25 (ix2 s l) q = ix2 s q := fun q => funext fun a => by fin_cases a <;> rfl
  have e' : ∀ q, ridx_main_v25 (ix2 s l) q = ix2 l q := fun q => funext fun a => by fin_cases a <;> rfl
  simp only [e, e']
  rfl

theorem pool_grad : val_main_v26 (F := Ideal) D W (ix2 s k) = poolGrad D W s k := by
  rw [val_main_v26_apply]
  refine Eq.trans (congrArg (val_main_v25 (F := Ideal) D W) ?_) (cat_grad D W s ⟨k.val, by omega⟩)
  exact funext fun a => by fin_cases a <;> rfl
theorem ssm_grad : val_main_v27 (F := Ideal) D W (ix2 s k) = ssmGrad D W s k := by
  rw [val_main_v27_apply]
  refine Eq.trans (congrArg (val_main_v25 (F := Ideal) D W) ?_) (cat_grad D W s ⟨1024 + k.val, by omega⟩)
  exact funext fun a => by fin_cases a <;> rfl

theorem scaled : val_main_v38 (F := Ideal) D W J (ix2 s k) = scaledAt D W J s k := by
  rw [val_main_v38_apply, pool_grad, pool_silu]
  rfl

/-- The gradient of the pooled lines. -/
theorem reads_pooled : val_main_v49 (F := Ideal) D W J P = pooledResult D W J P := by
  funext j
  obtain ⟨s, k, rfl⟩ : ∃ (s : Fin 4096) (k : Fin 1024), j = ix2 s k := ⟨j 0, j 1, eq_ix2 j⟩
  rw [val_main_v49_apply, val_main_v44_apply, scaled, scale_line']
  rfl

/-- The gradient of the scale. -/
theorem reads_scale : val_main_v46 (F := Ideal) D W X J = scaleResult D W X J := by
  funext j
  obtain ⟨z, k, rfl⟩ : ∃ (z : Fin 1) (k : Fin 1024), j = ix2 z k := ⟨j 0, j 1, eq_ix2 j⟩
  rw [val_main_v46_apply, val_main_v45_apply, Fin.sum_univ_one, val_main_v42_apply, val_main_v41_apply]
  have e : ∀ s, idx_main_v41 (idx_main_v42 (idx_main_v45 (idx_main_v46 (ix2 z k)) 0)) s = ix2 s k := fun s => funext fun a => by
    fin_cases a
    · rfl
    · exact Fin.ext (by show 0 * 1024 + k.val = k.val; omega)
  simp only [e, val_main_v40_apply, scaled]
  refine (congrArg₂ (fun a b : EReal => a + b) Ideal.ofBits_zero_f32 (congrArg₂ (fun a b : EReal => a + b) Ideal.ofBits_zero_f32 rfl)).trans ?_
  rw [zero_add, zero_add]
  exact Finset.sum_congr rfl fun s _ => mul_comm _ _

/-! The gradients of the state space mixer's two halves. -/

theorem left_grad : val_main_v32 (F := Ideal) D W J H (ix2 s k) = leftGrad D W J H s k := by
  rw [val_main_v32_apply, val_main_v29_apply, ssm_grad, ssm_silu, right_gate]
  rfl

theorem right_grad : val_main_v33 (F := Ideal) D W J H (ix2 s k) = rightGrad D W J H s k := by
  rw [val_main_v33_apply, val_main_v31_apply, val_main_v29_apply, ssm_grad, ssm_silu, left_line, right_rest]
  show left H s k * (ssmGrad D W s k * silu (ssmGate J s k)) * (gate (right H s k) * (1 - gate (right H s k)))
    = ssmGrad D W s k * silu (ssmGate J s k) * left H s k * gate (right H s k) * (1 - gate (right H s k))
  rw [mul_comm (left H s k), mul_assoc _ (gate (right H s k))]

theorem padded_left : val_main_v35 (F := Ideal) D W J H (ix2 s l) = if h : l.val < 1024 then leftGrad D W J H s ⟨l.val, h⟩ else 0 := by
  unfold val_main_v35
  split
  · rename_i h
    refine (pad_apply_of_inside _ _ _ _ _ _ _ (ix2 s l) (ix2 s ⟨l.val, h⟩) fun a => ?_).trans (left_grad D W J H s _)
    fin_cases a
    · show s.val = 0 + s.val * (0 + 1); omega
    · show l.val = 0 + l.val * (0 + 1); omega
  · rename_i h
    refine (pad_apply_of_not_inside _ _ _ _ _ _ _ (ix2 s l) 1 fun hh => h ?_).trans Ideal.ofBits_zero_f32
    have h3 : (l.val - 0) / (0 + 1) < 1024 := hh.2.2
    simpa using h3

theorem padded_right : val_main_v34 (F := Ideal) D W J H (ix2 s l)
    = if h : l.val < 1024 then 0 else rightGrad D W J H s ⟨l.val - 1024, by omega⟩ := by
  unfold val_main_v34
  split
  · rename_i h
    refine (pad_apply_of_not_inside _ _ _ _ _ _ _ (ix2 s l) 1 fun hh => ?_).trans Ideal.ofBits_zero_f32
    have h1 : 1024 ≤ l.val := hh.1
    omega
  · rename_i h
    refine (pad_apply_of_inside _ _ _ _ _ _ _ (ix2 s l) (ix2 s ⟨l.val - 1024, by omega⟩) fun a => ?_).trans (right_grad D W J H s _)
    fin_cases a
    · show s.val = 0 + s.val * (0 + 1); omega
    · show l.val = 1024 + (l.val - 1024) * (0 + 1); omega

/-- The gradient of the state space mixer's lines. -/
theorem reads_lines : val_main_v51 (F := Ideal) D W J H = linesResult D W J H := by
  funext j
  obtain ⟨s, l, rfl⟩ : ∃ (s : Fin 4096) (l : Fin 2048), j = ix2 s l := ⟨j 0, j 1, eq_ix2 j⟩
  rw [val_main_v51_apply, val_main_v36_apply, padded_left, padded_right]
  show (if h : l.val < 1024 then (0 : EReal) else rightGrad D W J H s ⟨l.val - 1024, by omega⟩)
    + (if h : l.val < 1024 then leftGrad D W J H s ⟨l.val, h⟩ else 0) = linesAt D W J H s l
  unfold linesAt
  by_cases h : l.val < 1024
  · rw [dif_pos h, dif_pos h, dif_pos h, zero_add]
  · rw [dif_neg h, dif_neg h, dif_neg h, add_zero]

/-! The gates' lines. Their gradients are taken by the product rule, so the arrays they are multiplied by are real. -/

section
variable {D W X H P}

theorem real_mul {a b : EReal} (ha : ∃ r : ℝ, a = r) (hb : ∃ r : ℝ, b = r) : ∃ r : ℝ, a * b = r := by
  obtain ⟨x, rfl⟩ := ha
  obtain ⟨y, rfl⟩ := hb
  exact ⟨x * y, (EReal.coe_mul x y).symm⟩

theorem real_cat (hD : ∀ i, ∃ r : ℝ, D i = r) (hW : ∀ i, ∃ r : ℝ, W i = r) (s : Fin 4096) (l : Fin 2048) : ∃ r : ℝ, catGrad D W s l = r := by
  choose f hf using fun k : Fin 2048 => real_mul (hD (ix2 s k)) (hW (ix2 l k))
  exact ⟨∑ k, f k, (Finset.sum_congr rfl fun k _ => hf k).trans (Cert.Extended.coe_sum _ _).symm⟩

theorem pool_gate_grad (hD : ∀ i, ∃ r : ℝ, D i = r) (hW : ∀ i, ∃ r : ℝ, W i = r) (hX : ∀ i, ∃ r : ℝ, X i = r)
    (hP : ∀ i, ∃ r : ℝ, P i = r) : val_main_v39 (F := Ideal) D W X J P (ix2 s k) = poolGateGrad D W X J P s k := by
  rw [val_main_v39_apply, val_main_call3_v1_apply, val_main_call3_v2_apply, val_main_call3_v0_apply, val_main_v37_apply, val_main_v5_apply,
    scale_line, pool_line, pool_gate, pool_rest, pool_grad]
  obtain ⟨r, hr⟩ := real_mul (real_mul (hX (ix2 s k)) (hP (ix2 0 k))) (real_cat hD hW s ⟨k.val, by omega⟩)
  have e : X (ix2 s k) * P (ix2 0 k) * poolGrad D W s k = r := hr
  show X (ix2 s k) * P (ix2 0 k) * poolGrad D W s k * gate (poolGate J s k) + poolGate J s k * (X (ix2 s k) * P (ix2 0 k) * poolGrad D W s k)
    * (gate (poolGate J s k) * (1 - gate (poolGate J s k))) = poolGrad D W s k * X (ix2 s k) * P (ix2 0 k) * slope (poolGate J s k)
  rw [mul_assoc (poolGrad D W s k), mul_comm (poolGrad D W s k), e]
  exact slope_eq r _

theorem ssm_gate_grad (hD : ∀ i, ∃ r : ℝ, D i = r) (hW : ∀ i, ∃ r : ℝ, W i = r) (hH : ∀ i, ∃ r : ℝ, H i = r) :
    val_main_v30 (F := Ideal) D W J H (ix2 s k) = ssmGateGrad D W J H s k := by
  rw [val_main_v30_apply, val_main_call2_v1_apply, val_main_call2_v2_apply, val_main_call2_v0_apply, val_main_v28_apply, val_main_v19_apply,
    left_line, right_gate, ssm_line, ssm_gate, ssm_rest, ssm_grad]
  obtain ⟨r, hr⟩ := real_mul (real_mul (hH (ix2 s ⟨k.val, by omega⟩)) (gate_real (right H s k))) (real_cat hD hW s ⟨1024 + k.val, by omega⟩)
  have e : left H s k * gate (right H s k) * ssmGrad D W s k = r := hr
  show left H s k * gate (right H s k) * ssmGrad D W s k * gate (ssmGate J s k) + ssmGate J s k * (left H s k * gate (right H s k) * ssmGrad D W s k)
    * (gate (ssmGate J s k) * (1 - gate (ssmGate J s k))) = ssmGrad D W s k * left H s k * gate (right H s k) * slope (ssmGate J s k)
  rw [mul_assoc (ssmGrad D W s k), mul_comm (ssmGrad D W s k), e]
  exact slope_eq r _

theorem nothing : val_main_v47 (F := Ideal) (ix2 s k) = 0 := Ideal.ofBits_zero_f32

/-- The projection's gradient. -/
theorem reads_proj (hD : ∀ i, ∃ r : ℝ, D i = r) (hW : ∀ i, ∃ r : ℝ, W i = r) (hX : ∀ i, ∃ r : ℝ, X i = r)
    (hH : ∀ i, ∃ r : ℝ, H i = r) (hP : ∀ i, ∃ r : ℝ, P i = r) : val_main_v50 (F := Ideal) D W X J H P = projResult D W X J H P := by
  funext j
  obtain ⟨s, l, rfl⟩ : ∃ (s l : Fin 4096), j = ix2 s l := ⟨j 0, j 1, eq_ix2 j⟩
  refine Eq.trans (b := val_main_v48 (F := Ideal) D W X J H P (ix2 s l)) rfl ?_
  show _ = projAt D W X J H P s l
  unfold val_main_v48 projAt
  split
  · rename_i h0
    refine (concatenate_apply_piece 1 _ _ (ix2 s l) 0 (by simp) S4096x1024 (val_main_v47 (F := Ideal)) rfl rfl 0 rfl
      (ix2 s ⟨l.val, h0⟩) (fun b hb => ?_) ?_).trans (nothing s _)
    · fin_cases b
      · rfl
      · exact absurd rfl hb
    · exact Nat.zero_add _
  split
  · rename_i h0 h1
    refine (concatenate_apply_piece 1 _ _ (ix2 s l) 1 (by simp) S4096x1024 (val_main_v39 (F := Ideal) D W X J P) rfl rfl 1024 rfl
      (ix2 s ⟨l.val - 1024, by omega⟩) (fun b hb => ?_) ?_).trans (pool_gate_grad J s _ hD hW hX hP)
    · fin_cases b
      · rfl
      · exact absurd rfl hb
    · show 1024 + (l.val - 1024) = l.val
      omega
  split
  · rename_i h0 h1 h2
    refine (concatenate_apply_piece 1 _ _ (ix2 s l) 2 (by simp) S4096x1024 (val_main_v47 (F := Ideal)) rfl rfl 2048 rfl
      (ix2 s ⟨l.val - 2048, by omega⟩) (fun b hb => ?_) ?_).trans (nothing s _)
    · fin_cases b
      · rfl
      · exact absurd rfl hb
    · show 2048 + (l.val - 2048) = l.val
      omega
  · rename_i h0 h1 h2
    refine (concatenate_apply_piece 1 _ _ (ix2 s l) 3 (by simp) S4096x1024 (val_main_v30 (F := Ideal) D W J H) rfl rfl 3072 rfl
      (ix2 s ⟨l.val - 3072, by omega⟩) (fun b hb => ?_) ?_).trans (ssm_gate_grad J s _ hD hW hH)
    · fin_cases b
      · rfl
      · exact absurd rfl hb
    · show 3072 + (l.val - 3072) = l.val
      omega
end

end Cert.GateRefIdeal.Body

end
-- ==== Proof.GateClaim.lean ====
/-
  The gated mixers' gradient: the value claim. The precondition gives real arrays for what a gate's slope is multiplied by;
  the gates' own lines may hold anything.
-/
module

public import proofs.«01_k».proof.Defs
public import proofs.«01_k».proof.Proof.Finite
public import proofs.«01_k».proof.Proof.GateReference
public import proofs.«01_k».proof.Proof.Gen.Pre_gate_finite
public import Idealize.ShloMosaic.Lib.Quiescent

@[expose] public section

set_option maxRecDepth 16384

noncomputable section

namespace Cert.GateClaim

open Idealize.ShloMosaic Idealize.SL.Sem
open Cert.GateIdeal (S4096x2048 S2048x2048 S4096x1024 S4096x4096 S1x1024 S8x128)
open Cert.GateIdeal.Body (pooledResult projResult linesResult scaleResult A0 A1 A2 A3 A4 A5)

instance : Subsingleton Cert.Pre_gate_finite.S_.Idx := ⟨fun _ _ => funext fun a => a.elim0⟩

/-- What the precondition says: all arrays but the projection's lines hold real numbers. -/
theorem real (D : S4096x2048.Idx → EReal) (W : S2048x2048.Idx → EReal) (X : S4096x1024.Idx → EReal) (J : S4096x4096.Idx → EReal)
    (H : S4096x2048.Idx → EReal) (P : S1x1024.Idx → EReal) (T U : S8x128.Idx → EReal)
    (h : Cert.Pre_gate_finite.fn (F := Ideal) D W X J H P T U = fun _ => 1#1) :
    (∀ i, ∃ r : ℝ, D i = r) ∧ (∀ i, ∃ r : ℝ, W i = r) ∧ (∀ i, ∃ r : ℝ, X i = r) ∧ (∀ i, ∃ r : ℝ, H i = r) ∧ ∀ i, ∃ r : ℝ, P i = r := by
  dsimp only [Cert.Pre_gate_finite.fn, Cert.Pre_gate_finite.fn_part1] at h
  obtain ⟨h, h5⟩ := IntOp.andi_eq_one.1 (congrFun h fun a => a.elim0)
  obtain ⟨h, h4⟩ := IntOp.andi_eq_one.1 h
  obtain ⟨h, h2⟩ := IntOp.andi_eq_one.1 h
  obtain ⟨h0, h1⟩ := IntOp.andi_eq_one.1 h
  exact ⟨fun i => ⟨_, Finite.real_of_abs_lt _ (Host.reduce_andi_all _ _ _ _ _ h0 i)⟩,
    fun i => ⟨_, Finite.real_of_abs_lt _ (Host.reduce_andi_all _ _ _ _ _ h1 i)⟩,
    fun i => ⟨_, Finite.real_of_abs_lt _ (Host.reduce_andi_all _ _ _ _ _ h2 i)⟩,
    fun i => ⟨_, Finite.real_of_abs_lt _ (Host.reduce_andi_all _ _ _ _ _ h4 i)⟩,
    fun i => ⟨_, Finite.real_of_abs_lt _ (Host.reduce_andi_all _ _ _ _ _ h5 i)⟩⟩

theorem algebraic : Cert.algebraic_GateIdeal_GateRefIdeal_pre_gate_finite := by
  intro m g m' g' hpre hargs
  refine ⟨fun c => pooledResult (A0 m c) (A1 m c) (A3 m c) (A5 m c),
    fun c => projResult (A0 m c) (A1 m c) (A2 m c) (A3 m c) (A4 m c) (A5 m c),
    fun c => linesResult (A0 m c) (A1 m c) (A3 m c) (A4 m c),
    fun c => scaleResult (A0 m c) (A1 m c) (A2 m c) (A3 m c), Cert.GateIdeal.Body.run m g,
    (θ_run Cert.GateRefIdeal.defs _ _).mono (fun r h c => ⟨?_, ?_, ?_, ?_, (h c).2.2.2.2⟩) (Cert.GateRefIdeal.Value.run m' g')⟩
  all_goals
    obtain ⟨e0, e1, e2, e3, e4, e5, e6, e7⟩ := hargs c
    obtain ⟨hD, hW, hX, hH, hP⟩ := real _ _ _ _ _ _ _ _ (hpre c)
  · rw [(h c).1, Cert.GateRefIdeal.Read.val_main_v49_eq, e0, e1, e3, e5]
    exact Cert.GateRefIdeal.Body.reads_pooled _ _ _ _
  · rw [(h c).2.1, Cert.GateRefIdeal.Read.val_main_v50_eq, e0, e1, e2, e3, e4, e5]
    exact Cert.GateRefIdeal.Body.reads_proj _ hD hW hX hH hP
  · rw [(h c).2.2.1, Cert.GateRefIdeal.Read.val_main_v51_eq, e0, e1, e3, e4]
    exact Cert.GateRefIdeal.Body.reads_lines _ _ _ _
  · rw [(h c).2.2.2.1, Cert.GateRefIdeal.Read.val_main_v46_eq, e0, e1, e2, e3]
    exact Cert.GateRefIdeal.Body.reads_scale _ _ _ _

/-- The reference's run keeps its arguments; its machine has no semaphore. -/
theorem reference_frame : Cert.quiescent_GateRefIdeal := fun m g _ =>
  (θ_run Cert.GateRefIdeal.defs _ _).mono (fun r h => ⟨fun c => (h c).2.2.2.2, sem_eq_zero_of_no_sems rfl r.2⟩) (Cert.GateRefIdeal.Value.run m g)

end Cert.GateClaim

end
-- ==== Proof.GateOutValue.lean ====
/-
  The gated mixers and their projection, kernel side: the concatenated halves, the residual line and its copy, as functions
  of the arguments. Grid point `t` has rows `256 t … 256 t + 255`; the body stores the halves in one block and reads it back.
-/
module

public import proofs.«01_k».proof.Proof.Gen.GateOutIdeal.Value
public import proofs.«01_k».proof.Proof.Gating
public import Idealize.ShloMosaic.Lib.Pipeline.ValueKit.Acc
public import Idealize.ShloMosaic.Lib.Pipeline.ValueKit.Geometry
public import Idealize.ShloMosaic.Lib.Pipeline.ValueKit.Tiles

@[expose] public section

set_option maxRecDepth 16384

noncomputable section

namespace Cert.GateOutIdeal.Body

open Cert.GateOutIdeal Cert.GateOutIdeal.Gen Cert.Gating Idealize.ShloMosaic Idealize.ShloMosaic.TcCoe Idealize.SL.Sem

section
variable (X : S4096x1024.Idx → EReal) (J : S4096x4096.Idx → EReal) (H : S4096x2048.Idx → EReal) (P : S1x1024.Idx → EReal)
  (W : S2048x2048.Idx → EReal) (R : S4096x2048.Idx → EReal)

/-- The two halves of the mixers' output at row `s`, column `k`. -/
def poolHalf (s : Fin 4096) (k : Fin 1024) : EReal := pooled (X (ix2 s k)) (P (ix2 0 k)) (J (ix2 s ⟨1024 + k.val, by omega⟩))
def ssmHalf (s : Fin 4096) (k : Fin 1024) : EReal :=
  blended (H (ix2 s ⟨k.val, by omega⟩)) (H (ix2 s ⟨1024 + k.val, by omega⟩)) (J (ix2 s ⟨3072 + k.val, by omega⟩))

/-- The halves side by side. -/
def catAt (s : Fin 4096) (l : Fin 2048) : EReal :=
  if h : l.val < 1024 then poolHalf X J P s ⟨l.val, h⟩ else ssmHalf J H s ⟨l.val - 1024, by omega⟩
def catResult : S4096x2048.Idx → EReal := fun j => catAt X J H P (j 0) (j 1)

/-- The residual line after the mixers. -/
def lineResult : S4096x2048.Idx → EReal := fun j => R j + ∑ k : Fin 2048, catAt X J H P (j 0) k * W (ix2 k (j 1))

theorem catAt_left (s : Fin 4096) (k : Fin 1024) : catAt X J H P s ⟨k.val, by omega⟩ = poolHalf X J P s k := dif_pos k.isLt
theorem catAt_right (s : Fin 4096) (k : Fin 1024) : catAt X J H P s ⟨1024 + k.val, by omega⟩ = ssmHalf J H s k := by
  unfold catAt
  rw [dif_neg (by show ¬(1024 + k.val < 1024); omega)]
  exact congrArg (ssmHalf J H s) (Fin.ext (by show 1024 + k.val - 1024 = k.val; omega))
end

/-! What the body computes, at an index. -/

section
variable (v0 v9 v16 v25 v26 v24 v34 : Vec Ideal S256x1024 .f32) (v10 : Vec Ideal S1x1024 .f32) (v38 : Vec Ideal S256x2048 .f32)
  (v39 : Vec Ideal S256x2048 .bf16) (v41 : Vec Ideal S2048x2048 .bf16) (r : Fin 256) (k : Fin 1024) (l : Fin 2048)

theorem pay4_apply : k0_pay4 v0 v9 v10 (ix2 r k) = pooled (v9 (ix2 r k)) (v10 (ix2 0 k)) (v0 (ix2 r k)) := by
  pointwise [k0_pay4]
  rw [gate_sub]
  rfl

theorem pay5_apply : k0_pay5 v16 (ix2 r k) = silu (v16 (ix2 r k)) := by
  pointwise [k0_pay5]
  rw [gate_sub]
  rfl

theorem pay6_apply : k0_pay6 v25 v26 (ix2 r k) = v25 (ix2 r k) * gate (v26 (ix2 r k)) := by
  pointwise [k0_pay6]
  rw [gate_sub]

theorem pay1_apply : k0_pay1 (k0_pay5 v16) (k0_pay6 v25 v26) (ix2 r k) = blended (v25 (ix2 r k)) (v26 (ix2 r k)) (v16 (ix2 r k)) := by
  refine Eq.trans (b := k0_pay6 v25 v26 (ix2 r k) * k0_pay5 v16 (ix2 r k)) rfl ?_
  rw [pay5_apply, pay6_apply]
  rfl

theorem pay2_apply : k0_pay2 v38 v39 v41 (ix2 r l) = v38 (ix2 r l) + ∑ k : Fin 2048, v39 (ix2 r k) * v41 (ix2 k l) := by
  pointwise [k0_pay2]
end

variable (m : (ℓ : Loc nD τ sig) → Buf (Elt Ideal) ℓ) (c : Dev nD)

/-- The arguments as arrays. -/
abbrev A0 : S4096x1024.Idx → EReal := m ((c : Thread nD τ).loc main_arg0)
abbrev A1 : S4096x4096.Idx → EReal := m ((c : Thread nD τ).loc main_arg1)
abbrev A2 : S4096x2048.Idx → EReal := m ((c : Thread nD τ).loc main_arg2)
abbrev A3 : S1x1024.Idx → EReal := m ((c : Thread nD τ).loc main_arg3)
abbrev A4 : S2048x2048.Idx → EReal := m ((c : Thread nD τ).loc main_arg4)
abbrev A5 : S4096x2048.Idx → EReal := m ((c : Thread nD τ).loc main_arg5)

theorem V_v0 (j : S2048x2048.Idx) : V m c main_v0 j = A4 m c j := by
  unfold V
  after_results
  rfl

theorem index0 : ∀ t : Fin cfg0.N, win0_0.index t = ![t.val, 0] := (by decide +kernel : ∀ t : Fin grid0.N, _)
theorem index1 : ∀ t : Fin cfg0.N, win0_1.index t = ![t.val, 1] := (by decide +kernel : ∀ t : Fin grid0.N, _)
theorem index2 : ∀ t : Fin cfg0.N, win0_2.index t = ![t.val, 3] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![t.val, 0] := (by decide +kernel : ∀ t : Fin grid0.N, _)

/-- Row `r` of point `t`'s rows. -/
def row (t : Fin cfg0.N) (r : Fin 256) : Fin 4096 := ⟨t.val * 256 + r.val, by have : t.val < 16 := t.isLt; omega⟩

theorem blk0_apply (t : Fin cfg0.N) (r : Fin 256) (k : Fin 1024) :
    (iblk m c 0 t : Vec Ideal S256x1024 .f32) (ix2 r k) = A0 m c (ix2 (row t r) k) := by
  unfold iblk
  rw [View.read_apply]
  show V m c main_arg0 _ = _
  rw [V_main_arg0]
  blk_ext [index0, row]

theorem blk1_apply (t : Fin cfg0.N) (r : Fin 256) (k : Fin 1024) :
    (iblk m c 1 t : Vec Ideal S256x1024 .f32) (ix2 r k) = A1 m c (ix2 (row t r) ⟨1024 + k.val, by omega⟩) := by
  unfold iblk
  rw [View.read_apply]
  show V m c main_arg1 _ = _
  rw [V_main_arg1]
  blk_ext [index1, row]

theorem blk2_apply (t : Fin cfg0.N) (r : Fin 256) (k : Fin 1024) :
    (iblk m c 2 t : Vec Ideal S256x1024 .f32) (ix2 r k) = A1 m c (ix2 (row t r) ⟨3072 + k.val, by omega⟩) := by
  unfold iblk
  rw [View.read_apply]
  show V m c main_arg1 _ = _
  rw [V_main_arg1]
  blk_ext [index2, row]

theorem blk3_apply (t : Fin cfg0.N) (r : Fin 256) (l : Fin 2048) :
    (iblk m c 3 t : Vec Ideal S256x2048 .f32) (ix2 r l) = A2 m c (ix2 (row t r) l) := by
  unfold iblk
  rw [View.read_apply]
  show V m c main_arg2 _ = _
  rw [V_main_arg2]
  blk_ext [index3, row]

theorem blk4_apply (t : Fin cfg0.N) (z : Fin 1) (k : Fin 1024) :
    (iblk m c 4 t : Vec Ideal S1x1024 .f32) (ix2 z k) = A3 m c (ix2 z k) := by
  unfold iblk
  rw [View.read_apply]
  show V m c main_arg3 _ = _
  rw [V_main_arg3]
  blk_ext [index4]

theorem blk5_apply (t : Fin cfg0.N) (k : Fin 2048) (l : Fin 2048) :
    (iblk m c 5 t : Vec Ideal S2048x2048 .bf16) (ix2 k l) = A4 m c (ix2 k l) := by
  unfold iblk
  rw [View.read_apply]
  show V m c main_v0 _ = _
  rw [V_v0]
  blk_ext [index5]

theorem blk6_apply (t : Fin cfg0.N) (r : Fin 256) (l : Fin 2048) :
    (iblk m c 6 t : Vec Ideal S256x2048 .f32) (ix2 r l) = A5 m c (ix2 (row t r) l) := by
  unfold iblk
  rw [View.read_apply]
  show V m c main_arg5 _ = _
  rw [V_main_arg5]
  blk_ext [index6, row]

/-! The halves of point `t`'s block of the state space mixer's lines. -/

theorem first_apply (t : Fin cfg0.N) (r : Fin 256) (k : Fin 1024) :
    (View.ld (iblk m c 3 t : Vec Ideal S256x2048 .f32) (Rect.unit ![0, 0] ![256, 1024] inb_S256x2048_S256x1024_0_0)
      : Vec Ideal S256x1024 .f32) (ix2 r k) = A2 m c (ix2 (row t r) ⟨k.val, by omega⟩) := by
  refine (View.ld_unit_apply_of _ _ _ _ _ (ix2 r ⟨k.val, by omega⟩) fun a => ?_).trans (blk3_apply m c t r _)
  fin_cases a
  · exact (Nat.zero_add _).symm
  · exact (Nat.zero_add _).symm

theorem second_apply (t : Fin cfg0.N) (r : Fin 256) (k : Fin 1024) :
    (View.ld (iblk m c 3 t : Vec Ideal S256x2048 .f32) (Rect.unit ![0, 1024] ![256, 1024] inb_S256x2048_S256x1024_0_1024)
      : Vec Ideal S256x1024 .f32) (ix2 r k) = A2 m c (ix2 (row t r) ⟨1024 + k.val, by omega⟩) := by
  refine (View.ld_unit_apply_of _ _ _ _ _ (ix2 r ⟨1024 + k.val, by omega⟩) fun a => ?_).trans (blk3_apply m c t r _)
  fin_cases a
  · exact (Nat.zero_add _).symm
  · rfl

/-- The two stores of point `t`, the last first. -/
abbrev pieces (t : Fin cfg0.N) : List (View.Piece (Elt Ideal) S256x2048 .bf16) :=
  [⟨Rect.unit ![0, 1024] ![256, 1024] inb_S256x2048_S256x1024_0_1024,
      k0_pay1 (k0_pay5 (iblk m c 2 t))
        (k0_pay6 (View.ld (iblk m c 3 t) (Rect.unit ![0, 0] ![256, 1024] inb_S256x2048_S256x1024_0_0))
          (View.ld (iblk m c 3 t) (Rect.unit ![0, 1024] ![256, 1024] inb_S256x2048_S256x1024_0_1024)))⟩,
    ⟨Rect.unit ![0, 0] ![256, 1024] inb_S256x2048_S256x1024_0_0, k0_pay4 (iblk m c 1 t) (iblk m c 0 t) (iblk m c 4 t)⟩]

theorem pieces_apply (t : Fin cfg0.N) (r : Fin 256) (l : Fin 2048) :
    View.canon (pieces m c t) (ix2 r l) = catAt (A0 m c) (A1 m c) (A2 m c) (A3 m c) (row t r) l := by
  canon_tiles x h
  · obtain ⟨r', k, rfl⟩ : ∃ (r' : Fin 256) (k : Fin 1024), x = ix2 r' k := ⟨x 0, x 1, eq_ix2 x⟩
    obtain rfl : r = r' := Fin.ext h0
    rw [show l = (⟨1024 + k.val, by omega⟩ : Fin 2048) from Fin.ext h1, catAt_right]
    refine (pay1_apply _ _ _ r k).trans ?_
    rw [blk2_apply, first_apply, second_apply]
    rfl
  · obtain ⟨r', k, rfl⟩ : ∃ (r' : Fin 256) (k : Fin 1024), x = ix2 r' k := ⟨x 0, x 1, eq_ix2 x⟩
    obtain rfl : r = r' := Fin.ext h0
    rw [show l = (⟨k.val, by omega⟩ : Fin 2048) from Fin.ext h1, catAt_left]
    refine (pay4_apply _ _ _ r k).trans ?_
    rw [blk0_apply, blk1_apply, blk4_apply]
    rfl

theorem cat_eq (t : Fin cfg0.N) (r : Fin 256) (l : Fin 2048) :
    (outsAt0 m c t).1 (ix2 r l) = catResult (A0 m c) (A1 m c) (A2 m c) (A3 m c) (ix2 (row t r) l) := by
  unfold outsAt0
  frame_out
  exact pieces_apply m c t r l

/-- The block read back. -/
abbrev readBack (t : Fin cfg0.N) : Vec Ideal S256x2048 .bf16 :=
  (ms0_7 t).view.readCov (pieces m c t) (Rect.unit (s := S256x2048) ![0, 0] S256x2048.size inb_S256x2048_S256x2048_0_0).toLoadRect

theorem readBack_apply (t : Fin cfg0.N) (r : Fin 256) (l : Fin 2048) :
    readBack m c t (ix2 r l) = catAt (A0 m c) (A1 m c) (A2 m c) (A3 m c) (row t r) l := by
  refine (congrFun (View.readCov_eq_canon' _ _ _) _).trans ?_
  refine (congrArg (View.canon (pieces m c t)) (funext fun a => Fin.ext ?_)).trans (pieces_apply m c t r l)
  fin_cases a
  · show 0 + 1 * r.val = r.val; omega
  · show 0 + 1 * l.val = l.val; omega

theorem sum_eq (t : Fin cfg0.N) (r : Fin 256) (l : Fin 2048) : k0_pay2 (iblk m c 6 t) (readBack m c t) (iblk m c 5 t) (ix2 r l)
    = lineResult (A0 m c) (A1 m c) (A2 m c) (A3 m c) (A4 m c) (A5 m c) (ix2 (row t r) l) := by
  rw [pay2_apply]
  exact congrArg₂ (fun a b : EReal => a + b) (blk6_apply m c t r l)
    (Finset.sum_congr rfl fun k _ => congrArg₂ (fun a b : EReal => a * b) (readBack_apply m c t r k) (blk5_apply m c t k l))

theorem line_eq (t : Fin cfg0.N) (r : Fin 256) (l : Fin 2048) : (outsAt0 m c t).2.1 (ix2 r l)
    = lineResult (A0 m c) (A1 m c) (A2 m c) (A3 m c) (A4 m c) (A5 m c) (ix2 (row t r) l) := by
  unfold outsAt0
  frame_out
  exact sum_eq m c t r l

theorem copy_eq (t : Fin cfg0.N) (r : Fin 256) (l : Fin 2048) : (outsAt0 m c t).2.2 (ix2 r l)
    = lineResult (A0 m c) (A1 m c) (A2 m c) (A3 m c) (A4 m c) (A5 m c) (ix2 (row t r) l) := by
  unfold outsAt0
  frame_out
  exact sum_eq m c t r l

theorem final7 : (dats m 0 c).arrAt 7 cfg0.N = catResult (A0 m c) (A1 m c) (A2 m c) (A3 m c) := by
  refine (dats m 0 c).arrAt_eq_of_covers 7 _ (by decide +kernel) fun t hf y => ?_
  obtain ⟨r, l, rfl⟩ : ∃ (r : Fin 256) (l : Fin 2048), y = ix2 r l := ⟨y 0, y 1, eq_ix2 y⟩
  blk_simp
  rw [after0_7]
  refine (cat_eq m c t r l).trans (congrArg (catResult (A0 m c) (A1 m c) (A2 m c) (A3 m c)) ?_)
  blk_ext [index7, row]

theorem final8 : (dats m 0 c).arrAt 8 cfg0.N = lineResult (A0 m c) (A1 m c) (A2 m c) (A3 m c) (A4 m c) (A5 m c) := by
  refine (dats m 0 c).arrAt_eq_of_covers 8 _ (by decide +kernel) fun t hf y => ?_
  obtain ⟨r, l, rfl⟩ : ∃ (r : Fin 256) (l : Fin 2048), y = ix2 r l := ⟨y 0, y 1, eq_ix2 y⟩
  blk_simp
  rw [after0_8]
  refine (line_eq m c t r l).trans (congrArg (lineResult (A0 m c) (A1 m c) (A2 m c) (A3 m c) (A4 m c) (A5 m c)) ?_)
  blk_ext [index8, row]

theorem final9 : (dats m 0 c).arrAt 9 cfg0.N = lineResult (A0 m c) (A1 m c) (A2 m c) (A3 m c) (A4 m c) (A5 m c) := by
  refine (dats m 0 c).arrAt_eq_of_covers 9 _ (by decide +kernel) fun t hf y => ?_
  obtain ⟨r, l, rfl⟩ : ∃ (r : Fin 256) (l : Fin 2048), y = ix2 r l := ⟨y 0, y 1, eq_ix2 y⟩
  blk_simp
  rw [after0_9]
  refine (copy_eq m c t r l).trans (congrArg (lineResult (A0 m c) (A1 m c) (A2 m c) (A3 m c) (A4 m c) (A5 m c)) ?_)
  blk_ext [index9, row]

/-- The run, read: the three result arrays, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1_0) = catResult (A0 m c) (A1 m c) (A2 m c) (A3 m c)
      ∧ r.2.mem ((c : Thread nD τ).loc main_v1_1) = lineResult (A0 m c) (A1 m c) (A2 m c) (A3 m c) (A4 m c) (A5 m c)
      ∧ r.2.mem ((c : Thread nD τ).loc main_v1_2) = lineResult (A0 m c) (A1 m c) (A2 m c) (A3 m c) (A4 m c) (A5 m c)
      ∧ r.2.mem ((c : Thread nD τ).loc main_arg0) = A0 m c
      ∧ r.2.mem ((c : Thread nD τ).loc main_arg1) = A1 m c
      ∧ r.2.mem ((c : Thread nD τ).loc main_arg2) = A2 m c
      ∧ r.2.mem ((c : Thread nD τ).loc main_arg3) = A3 m c
      ∧ r.2.mem ((c : Thread nD τ).loc main_arg4) = A4 m c
      ∧ r.2.mem ((c : Thread nD τ).loc main_arg5) = A5 m c :=
  (θ_run defs _ _).mono (fun _ h c => ⟨(h c).1.trans (final7 m c), (h c).2.1.trans (final8 m c), (h c).2.2.1.trans (final9 m c),
    (h c).2.2.2⟩) (Value.run_blocks m ρ)

end Cert.GateOutIdeal.Body

end
-- ==== Proof.GateOutReference.lean ====
/-
  The gated mixers and their projection, reference side: the three results are the arrays the kernel leaves
  (GateOutValue.lean), on all arguments.
-/
module

public import proofs.«01_k».proof.Proof.GateOutValue
public import proofs.«01_k».proof.Proof.Gen.GateOutRefIdeal.Read

@[expose] public section

set_option maxRecDepth 16384

noncomputable section

namespace Cert.GateOutRefIdeal.Body

open Cert.GateOutRefIdeal Cert.GateOutRefIdeal.Gen Cert.GateOutRefIdeal.Read Cert.Gating Idealize.ShloMosaic
open Cert.GateOutIdeal.Body (poolHalf ssmHalf catAt catResult lineResult)

variable (X : S4096x1024.Idx → EReal) (J : S4096x4096.Idx → EReal) (H : S4096x2048.Idx → EReal) (P : S1x1024.Idx → EReal)
  (W : S2048x2048.Idx → EReal) (R : S4096x2048.Idx → EReal) (s : Fin 4096) (k : Fin 1024) (l : Fin 2048)

theorem scale_apply : val_main_v4 (F := Ideal) P (ix2 s k) = P (ix2 0 k) := by
  rw [val_main_v4_apply, val_main_v3_apply, val_main_v2_apply]
  exact congrArg P (funext fun a => by
    fin_cases a
    · rfl
    · exact Fin.ext (by show k.val % 1024 = k.val; have := k.isLt; omega))

theorem pool_gate_apply : val_main_v6 (F := Ideal) J (ix2 s k) = silu (J (ix2 s ⟨1024 + k.val, by omega⟩)) := by
  rw [val_main_v6_apply, val_main_call0_v5_apply, val_main_call0_v3_apply, val_main_call0_v1_apply, val_main_call0_v0_apply,
    val_main_v0_apply]
  have e : idx_main_v0 (ix2 s k) = ix2 s ⟨1024 + k.val, by omega⟩ := funext fun a => by fin_cases a <;> rfl
  rw [e]
  show J (ix2 s ⟨1024 + k.val, by omega⟩) * Ideal.div (Ideal.ofBits .f32 0x3F800000#32)
    (Ideal.ofBits .f32 0x3F800000#32 + Ideal.exp (-J (ix2 s ⟨1024 + k.val, by omega⟩))) = _
  rw [Ideal.ofBits_one_f32]
  rfl

theorem ssm_gate_apply : val_main_v17 (F := Ideal) J (ix2 s k) = silu (J (ix2 s ⟨3072 + k.val, by omega⟩)) := by
  rw [val_main_v17_apply, val_main_call1_v5_apply, val_main_call1_v3_apply, val_main_call1_v1_apply, val_main_call1_v0_apply,
    val_main_v1_apply]
  have e : idx_main_v1 (ix2 s k) = ix2 s ⟨3072 + k.val, by omega⟩ := funext fun a => by fin_cases a <;> rfl
  rw [e]
  show J (ix2 s ⟨3072 + k.val, by omega⟩) * Ideal.div (Ideal.ofBits .f32 0x3F800000#32)
    (Ideal.ofBits .f32 0x3F800000#32 + Ideal.exp (-J (ix2 s ⟨3072 + k.val, by omega⟩))) = _
  rw [Ideal.ofBits_one_f32]
  rfl

theorem line_gate_apply : val_main_v16 (F := Ideal) H (ix2 s k)
    = H (ix2 s ⟨k.val, by omega⟩) * gate (H (ix2 s ⟨1024 + k.val, by omega⟩)) := by
  rw [val_main_v16_apply, val_main_v15_apply, val_main_v13_apply, val_main_v11_apply, val_main_v10_apply, val_main_v9_apply,
    val_main_v8_apply]
  have e1 : idx_main_v8 (ix2 s k) = ix2 s ⟨k.val, by omega⟩ := funext fun a => by fin_cases a <;> rfl
  have e2 : idx_main_v9 (ix2 s k) = ix2 s ⟨1024 + k.val, by omega⟩ := funext fun a => by fin_cases a <;> rfl
  rw [e1, e2]
  show H (ix2 s ⟨k.val, by omega⟩) * Ideal.div (Ideal.ofBits .f32 0x3F800000#32)
    (Ideal.ofBits .f32 0x3F800000#32 + Ideal.exp (-H (ix2 s ⟨1024 + k.val, by omega⟩))) = _
  rw [Ideal.ofBits_one_f32]
  rfl

theorem pool_apply : val_main_v7 (F := Ideal) X J P (ix2 s k) = poolHalf X J P s k := by
  rw [val_main_v7_apply, val_main_v5_apply, scale_apply, pool_gate_apply]
  rfl

theorem ssm_apply : val_main_v18 (F := Ideal) J H (ix2 s k) = ssmHalf J H s k := by
  rw [val_main_v18_apply, line_gate_apply, ssm_gate_apply]
  rfl

theorem cat_apply : val_main_v19 (F := Ideal) X J H P (ix2 s l) = catAt X J H P s l := by
  unfold val_main_v19 catAt
  split
  · rename_i h
    refine (concatenate_pair_apply_left (t := S4096x2048) (s₁ := S4096x1024) (s₂ := S4096x1024) 1 _ _
      concatenates_S4096x1024_S4096x1024_S4096x2048_d1 (ix2 s l) rfl (ix2 s ⟨l.val, h⟩) fun a => ?_).trans (pool_apply X J P s _)
    fin_cases a <;> rfl
  · rename_i h
    refine (concatenate_pair_apply_right (t := S4096x2048) (s₁ := S4096x1024) (s₂ := S4096x1024) 1 _ _
      concatenates_S4096x1024_S4096x1024_S4096x2048_d1 (ix2 s l) rfl rfl (ix2 s ⟨l.val - 1024, by omega⟩) (fun a h' => ?_) ?_).trans
      (ssm_apply J H s _)
    · fin_cases a
      · rfl
      · exact absurd rfl h'
    · show l.val - 1024 + 1024 = l.val
      omega

/-- The halves side by side. -/
theorem reads_cat : val_main_v22 (F := Ideal) X J H P = catResult X J H P := by
  funext j
  obtain ⟨s, l, rfl⟩ : ∃ (s : Fin 4096) (l : Fin 2048), j = ix2 s l := ⟨j 0, j 1, eq_ix2 j⟩
  exact cat_apply X J H P s l

/-- The residual line after the mixers. -/
theorem reads_line : val_main_v21 (F := Ideal) X J H P W R = lineResult X J H P W R := by
  funext j
  obtain ⟨s, l, rfl⟩ : ∃ (s : Fin 4096) (l : Fin 2048), j = ix2 s l := ⟨j 0, j 1, eq_ix2 j⟩
  rw [val_main_v21_apply, val_main_v20_apply]
  have e : ∀ k, lidx_main_v20 (ix2 s l) k = ix2 s k := fun k => funext fun a => by fin_cases a <;> rfl
  have e' : ∀ k, ridx_main_v20 (ix2 s l) k = ix2 k l := fun k => funext fun a => by fin_cases a <;> rfl
  simp only [e, e', cat_apply]
  rfl

/-- Its copy. -/
theorem reads_copy : val_main_v23 (F := Ideal) X J H P W R = lineResult X J H P W R := reads_line X J H P W R

end Cert.GateOutRefIdeal.Body

end
-- ==== Proof.GateOutClaim.lean ====
/-
  The gated mixers and their projection: the value claim, on all arguments.
-/
module

public import proofs.«01_k».proof.Defs
public import proofs.«01_k».proof.Proof.GateOutReference
public import Idealize.ShloMosaic.Lib.Quiescent

@[expose] public section

set_option maxRecDepth 16384

noncomputable section

namespace Cert.GateOutClaim

open Idealize.ShloMosaic Idealize.SL.Sem
open Cert.GateOutIdeal.Body (catResult lineResult A0 A1 A2 A3 A4 A5)

theorem algebraic : Cert.algebraic_GateOutIdeal_GateOutRefIdeal := by
  intro m g m' g' _ hargs
  refine ⟨fun c => catResult (A0 m c) (A1 m c) (A2 m c) (A3 m c),
    fun c => lineResult (A0 m c) (A1 m c) (A2 m c) (A3 m c) (A4 m c) (A5 m c),
    fun c => lineResult (A0 m c) (A1 m c) (A2 m c) (A3 m c) (A4 m c) (A5 m c), Cert.GateOutIdeal.Body.run m g,
    (θ_run Cert.GateOutRefIdeal.defs _ _).mono (fun r h c => ⟨?_, ?_, ?_, (h c).2.2.2⟩) (Cert.GateOutRefIdeal.Value.run m' g')⟩
  all_goals obtain ⟨e0, e1, e2, e3, e4, e5⟩ := hargs c
  · rw [(h c).1, Cert.GateOutRefIdeal.Read.val_main_v22_eq, e0, e1, e2, e3]
    exact Cert.GateOutRefIdeal.Body.reads_cat _ _ _ _
  · rw [(h c).2.1, Cert.GateOutRefIdeal.Read.val_main_v21_eq, e0, e1, e2, e3, e4, e5]
    exact Cert.GateOutRefIdeal.Body.reads_line _ _ _ _ _ _
  · rw [(h c).2.2.1, Cert.GateOutRefIdeal.Read.val_main_v23_eq, e0, e1, e2, e3, e4, e5]
    exact Cert.GateOutRefIdeal.Body.reads_copy _ _ _ _ _ _

/-- The reference's run keeps its arguments; its machine has no semaphore. -/
theorem reference_frame : Cert.quiescent_GateOutRefIdeal := fun m g _ =>
  (θ_run Cert.GateOutRefIdeal.defs _ _).mono (fun r h => ⟨fun c => (h c).2.2.2, sem_eq_zero_of_no_sems rfl r.2⟩) (Cert.GateOutRefIdeal.Value.run m g)

end Cert.GateOutClaim

end
-- ==== Proof.GluProjValue.lean ====
/-
  The GLU's projection, kernel side: grid point `(i, j)` is the product of rows `1024 i … 1024 i + 1023` with columns
  `1024 j … 1024 j + 1023` of the weights; the accumulator starts at zero and one step of the contraction ends it.
-/
module

public import proofs.«01_k».proof.Proof.Gen.GluProjIdeal.Value
public import proofs.«01_k».proof.Proof.Running
public import Idealize.ShloMosaic.Lib.Pipeline.ValueKit.Basic

@[expose] public section

set_option maxRecDepth 16384

noncomputable section

namespace Cert.GluProjIdeal.Body

open Cert.GluProjIdeal Cert.GluProjIdeal.Gen Cert.Running Idealize.ShloMosaic Idealize.ShloMosaic.TcCoe Idealize.SL.Sem

/-- The product of rows and weights. -/
def product (X : S4096x1024.Idx → EReal) (W : S1024x2048.Idx → EReal) : S4096x2048.Idx → EReal := fun j =>
  ∑ k : Fin 1024, X (ix2 (j 0) k) * W (ix2 k (j 1))

theorem step_apply (v3 v4 : Vec Ideal S1024x1024 .bf16) (r l : Fin 1024) :
    k0_pay2 v3 v4 (k0_pay1 (F := Ideal)) (ix2 r l) = ∑ k : Fin 1024, v3 (ix2 r k) * v4 (ix2 k l) := by
  have h : k0_pay2 v3 v4 (k0_pay1 (F := Ideal)) (ix2 r l)
      = k0_pay1 (F := Ideal) (ix2 r l) + ∑ k : Fin 1024, v3 (ix2 r k) * v4 (ix2 k l) := by
    pointwise [k0_pay2]
  have h0 : k0_pay1 (F := Ideal) (ix2 r l) = 0 := by pointwise [k0_pay1]
  rw [h, h0, zero_add]

variable (m : (ℓ : Loc nD τ sig) → Buf (Elt Ideal) ℓ) (c : Dev nD)

/-- The arguments as arrays. -/
abbrev A0 : S4096x1024.Idx → EReal := m ((c : Thread nD τ).loc main_arg0)
abbrev A1 : S1024x2048.Idx → EReal := m ((c : Thread nD τ).loc main_arg1)

theorem V_v0 (j : S1024x2048.Idx) : V m c main_v0 j = A1 m c j := by
  unfold V
  after_results
  rfl

theorem index0 : ∀ t : Fin grid0.N, win0_0.index t 0 = t.val / 2 ∧ win0_0.index t 1 = 0 := by decide +kernel
theorem index1 : ∀ t : Fin grid0.N, win0_1.index t 0 = 0 ∧ win0_1.index t 1 = t.val % 2 := by decide +kernel
theorem index2 : ∀ t : Fin grid0.N, win0_2.index t 0 = t.val / 2 ∧ win0_2.index t 1 = t.val % 2 := by decide +kernel

/-- Row `r` of point `t`'s rows, and column `l` of its columns. -/
def row (t : Fin cfg0.N) (r : Fin 1024) : Fin 4096 := ⟨t.val / 2 * 1024 + r.val, by have : t.val < 8 := t.isLt; omega⟩
def col (t : Fin cfg0.N) (l : Fin 1024) : Fin 2048 := ⟨t.val % 2 * 1024 + l.val, by omega⟩

theorem blk0_apply (t : Fin cfg0.N) (r : Fin 1024) (l : Fin 1024) :
    (iblk m c 0 t : Vec Ideal S1024x1024 .bf16) (ix2 r l) = A0 m c (ix2 (row t r) l) := by
  unfold iblk
  rw [View.read_apply]
  show V m c main_arg0 _ = _
  rw [V_main_arg0]
  refine congrArg (A0 m c) (funext fun a => Fin.ext ?_)
  fin_cases a
  · show win0_0.index t 0 * 1024 + 1 * r.val = t.val / 2 * 1024 + r.val; rw [(index0 t).1]; omega
  · show win0_0.index t 1 * 1024 + 1 * l.val = l.val; rw [(index0 t).2]; omega

theorem blk1_apply (t : Fin cfg0.N) (k : Fin 1024) (l : Fin 1024) :
    (iblk m c 1 t : Vec Ideal S1024x1024 .bf16) (ix2 k l) = A1 m c (ix2 k (col t l)) := by
  unfold iblk
  rw [View.read_apply]
  show V m c main_v0 _ = _
  rw [V_v0]
  refine congrArg (A1 m c) (funext fun a => Fin.ext ?_)
  fin_cases a
  · show win0_1.index t 0 * 1024 + 1 * k.val = k.val; rw [(index1 t).1]; omega
  · show win0_1.index t 1 * 1024 + 1 * l.val = t.val % 2 * 1024 + l.val; rw [(index1 t).2]; omega

theorem product_eq (t : Fin cfg0.N) (r l : Fin 1024) :
    k0_pay2 (iblk m c 0 t) (iblk m c 1 t) (k0_pay1 (F := Ideal)) (ix2 r l) = product (A0 m c) (A1 m c) (ix2 (row t r) (col t l)) := by
  refine (step_apply _ _ r l).trans ?_
  simp only [blk0_apply, blk1_apply]
  rfl

theorem out_eq (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 hc1) (x0 x1 : Vec Ideal S1024x1024 .bf16) :
    out0_A_2 c i a3 h3 a4 h4 a5 h5 a6 h6 hc0 hc1 x0 x1 = k0_pay2 x0 x1 (k0_pay1 (F := Ideal)) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz2]
  simp only [View.readAt_eq_ld, h3.read_unread, h4.read_unread, View.ld_unit_zero (S := S1024x1024) hz2,
    View.readCov_unit_zero (S := S1024x1024) _ hz2]
  exact View.readCov_cons_toLoadRect _ _ _ _

theorem flushed2_eq (t : Fin cfg0.N) (_ : (cfg0.win 2).flush t = true) : (dats m 0 c).flushed 2 t
    = ((cfg0.win 2).blk t).view.read (Elt Ideal) (product (A0 m c) (A1 m c)) := by
  rw [Value.flushed2_A, out_eq]
  funext y
  obtain ⟨r, l, rfl⟩ : ∃ (r l : Fin 1024), y = ix2 r l := ⟨y 0, y 1, eq_ix2 y⟩
  rw [View.read_apply]
  refine (product_eq m c t r l).trans (congrArg (product (A0 m c) (A1 m c)) (funext fun a => Fin.ext ?_))
  fin_cases a
  · show t.val / 2 * 1024 + r.val = win0_2.index t 0 * 1024 + 1 * r.val; rw [(index2 t).1]; omega
  · show t.val % 2 * 1024 + l.val = win0_2.index t 1 * 1024 + 1 * l.val; rw [(index2 t).2]; omega

theorem final2 : (dats m 0 c).arrAt 2 cfg0.N = product (A0 m c) (A1 m c) :=
  (dats m 0 c).arrAt_eq_of_cover 2 _ (flushed2_eq m c) fun j => by
    have h0 : (j 0).val < 4096 := (j 0).isLt
    have h1 : (j 1).val < 2048 := (j 1).isLt
    have ht : (j 0).val / 1024 * 2 + (j 1).val / 1024 < cfg0.N := by rw [show cfg0.N = 8 from N_0]; omega
    refine ⟨⟨_, ht⟩, flush0_2 _, ?_⟩
    show j ∈ ((View.whole main_v1).slice (win0_2.rect (⟨_, ht⟩ : Fin cfg0.N))).set
    rw [View.set_slice_whole, Pipeline.Window.mem_rect_iff win0_2 _ _ rfl]
    intro a
    fin_cases a
    · show win0_2.index _ 0 * 1024 ≤ (j 0).val ∧ (j 0).val < win0_2.index _ 0 * 1024 + 1024
      rw [(index2 _).1]; dsimp only; omega
    · show win0_2.index _ 1 * 1024 ≤ (j 1).val ∧ (j 1).val < win0_2.index _ 1 * 1024 + 1024
      rw [(index2 _).2]; dsimp only; omega

/-- The run, read: the product, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1) = product (A0 m c) (A1 m c)
      ∧ r.2.mem ((c : Thread nD τ).loc main_arg0) = A0 m c
      ∧ r.2.mem ((c : Thread nD τ).loc main_arg1) = A1 m c :=
  (θ_run defs _ _).mono (fun _ h c => ⟨(h c).1.trans (final2 m c), (h c).2⟩) (Value.run_blocks m ρ)

end Cert.GluProjIdeal.Body

end
-- ==== Proof.GluProjClaim.lean ====
/-
  The GLU's projection: the reference is one product of the same rows and weights (`product` of GluProjValue.lean), on all
  arguments.
-/
module

public import proofs.«01_k».proof.Defs
public import proofs.«01_k».proof.Proof.GluProjValue
public import proofs.«01_k».proof.Proof.Gen.GluProjRefIdeal.Read
public import Idealize.ShloMosaic.Lib.Quiescent

@[expose] public section

set_option maxRecDepth 16384

noncomputable section

namespace Cert.GluProjClaim

open Idealize.ShloMosaic Idealize.SL.Sem
open Cert.GluProjIdeal.Body (product A0 A1)
open Cert.GluProjRefIdeal Cert.GluProjRefIdeal.Gen Cert.GluProjRefIdeal.Read

theorem reads (X : S4096x1024.Idx → EReal) (W : S1024x2048.Idx → EReal) : val_main_v1 (F := Ideal) X W = product X W := by
  funext j
  obtain ⟨s, l, rfl⟩ : ∃ (s : Fin 4096) (l : Fin 2048), j = ix2 s l := ⟨j 0, j 1, eq_ix2 j⟩
  refine (val_main_v1_apply X W _).trans ?_
  refine Finset.sum_congr rfl fun k _ => ?_
  have e0 : lidx_main_v1 (ix2 s l) k = ix2 s k := funext fun a => by fin_cases a <;> rfl
  have e1 : ridx_main_v1 (ix2 s l) k = ix2 k l := funext fun a => by fin_cases a <;> rfl
  rw [val_main_v0_apply, e0, e1]
  rfl

theorem algebraic : Cert.algebraic_GluProjIdeal_GluProjRefIdeal := by
  intro m g m' g' _ hargs
  refine ⟨fun c => product (A0 m c) (A1 m c), Cert.GluProjIdeal.Body.run m g,
    (θ_run Cert.GluProjRefIdeal.defs _ _).mono (fun r h c => ⟨?_, (h c).2⟩) (Cert.GluProjRefIdeal.Value.run m' g')⟩
  obtain ⟨e0, e1⟩ := hargs c
  rw [(h c).1, val_main_v1_eq, e0, e1]
  exact reads _ _

/-- The reference's run keeps its arguments; its machine has no semaphore. -/
theorem reference_frame : Cert.quiescent_GluProjRefIdeal := fun m g _ =>
  (θ_run Cert.GluProjRefIdeal.defs _ _).mono (fun r h => ⟨fun c => (h c).2, sem_eq_zero_of_no_sems rfl r.2⟩) (Cert.GluProjRefIdeal.Value.run m g)

end Cert.GluProjClaim

end
-- ==== Proof.OutWValue.lean ====
/-
  The gradient of the output weights, kernel side: four blocks of 512 rows of the product, each added up over four
  points.
-/
module

public import proofs.«01_k».proof.Proof.Gen.OutWIdeal.Value
public import proofs.«01_k».proof.Proof.Running
public import Idealize.ShloMosaic.Lib.Pipeline.ValueKit.Basic

@[expose] public section

set_option maxRecDepth 16384

noncomputable section

namespace Cert.OutWIdeal.Body

open Cert.OutWIdeal Cert.OutWIdeal.Gen Cert.Running Idealize.ShloMosaic Idealize.ShloMosaic.TcCoe Idealize.SL.Sem

section
variable (v3 : Vec Ideal S1024x512 .bf16) (v4 : Vec Ideal S1024x2048 .bf16) (v6 : Vec Ideal S512x2048 .f32) (l : Fin 512) (k : Fin 2048)

theorem pay1_apply : k0_pay1 (F := Ideal) (ix2 l k) = 0 := by
  pointwise [k0_pay1]

theorem pay2_apply : k0_pay2 v3 v4 v6 (ix2 l k) = v6 (ix2 l k) + ∑ r : Fin 1024, v3 (ix2 r l) * v4 (ix2 r k) := by
  pointwise [k0_pay2]

theorem pay3_apply : k0_pay3 v6 (ix2 l k) = v6 (ix2 l k) := by
  pointwise [k0_pay3]
end

section
variable (c : Dev nD) (i : grid0.Coords) (a3 : Memref sig .tc .vmem S1024x512 .bf16) (h3 : a3.IsWhole)
  (a4 : Memref sig .tc .vmem S1024x2048 .bf16) (h4 : a4.IsWhole) (a5 : Memref sig .tc .vmem S512x2048 .bf16) (h5 : a5.IsWhole)
  (a6 : Memref sig .tc .vmem S512x2048 .f32) (h6 : a6.IsWhole)
  (x0 : Vec Ideal S1024x512 .bf16) (x1 : Vec Ideal S1024x2048 .bf16) (xs : Vec Ideal S512x2048 .f32)

/-- The first of four points starts the sum. -/
theorem held_A (hc : cond0_0 i) (hd : ¬cond0_1 i) :
    sout0_A_0 c i a3 h3 a4 h4 a5 h5 a6 h6 hc hd x0 x1 = k0_pay2 x0 x1 (k0_pay1 (F := Ideal)) := by
  unfold sout0_A_0
  rw [View.read_writes_eq_canon _ _ _ (scover0_A_0 c i a3 h3 a4 h4 a5 h5 a6 h6 hc hd x0 x1)]
  unfold kernelRun0_A
  dsimp only
  sl_unfold_words
  rw [View.canon_cons_unit_zero (S := S512x2048) hz2]
  simp only [View.readAt_eq_ld, h3.read_unread, h4.read_unread, View.ld_unit_zero (S := S1024x512) hz2,
    View.ld_unit_zero (S := S1024x2048) hz2, View.readCov_unit_zero (S := S512x2048) _ hz2]

/-- A middle point adds to it. -/
theorem held_B (hc : ¬cond0_0 i) (hd : ¬cond0_1 i) :
    sout0_B_0 c i a3 h3 a4 h4 a5 h5 a6 h6 hc hd x0 x1 xs = k0_pay2 x0 x1 xs := by
  unfold sout0_B_0
  rw [View.read_writes_eq_canon _ _ _ (scover0_B_0 c i a3 h3 a4 h4 a5 h5 a6 h6 hc hd x0 x1 xs)]
  unfold kernelRun0_B
  dsimp only
  sl_unfold_words
  rw [View.canon_unit_zero hz2]
  simp only [View.readAt_eq_ld, h3.read_unread, h4.read_unread, h6.read_unread, View.ld_unit_zero (S := S1024x512) hz2,
    View.ld_unit_zero (S := S1024x2048) hz2, View.ld_unit_zero (S := S512x2048) hz2]

/-- The last adds to it and writes it out. -/
theorem held_C (hc : ¬cond0_0 i) (hd : cond0_1 i) :
    sout0_C_0 c i a3 h3 a4 h4 a5 h5 a6 h6 hc hd x0 x1 xs = k0_pay2 x0 x1 xs
    ∧ out0_C_2 c i a3 h3 a4 h4 a5 h5 a6 h6 hc hd x0 x1 xs = k0_pay3 (k0_pay2 x0 x1 xs) := by
  constructor
  · unfold sout0_C_0
    rw [View.read_writes_eq_canon _ _ _ (scover0_C_0 c i a3 h3 a4 h4 a5 h5 a6 h6 hc hd x0 x1 xs)]
    unfold kernelRun0_C
    dsimp only
    sl_unfold_words
    rw [View.canon_unit_zero hz2]
    simp only [View.readAt_eq_ld, h3.read_unread, h4.read_unread, h6.read_unread, View.ld_unit_zero (S := S1024x512) hz2,
      View.ld_unit_zero (S := S1024x2048) hz2, View.ld_unit_zero (S := S512x2048) hz2]
  · unfold out0_C_2
    rw [View.read_writes_eq_canon _ _ _ (cover0_C_2 c i a3 h3 a4 h4 a5 h5 a6 h6 hc hd x0 x1 xs)]
    unfold kernelRun0_C
    dsimp only
    sl_unfold_words
    rw [View.canon_unit_zero hz2]
    simp only [View.readAt_eq_ld, h3.read_unread, h4.read_unread, h6.read_unread, View.ld_unit_zero (S := S1024x512) hz2,
      View.ld_unit_zero (S := S1024x2048) hz2, View.ld_unit_zero (S := S512x2048) hz2, View.readCov_unit_zero (S := S512x2048) _ hz2]

end

variable (m : (ℓ : Loc nD τ sig) → Buf (Elt Ideal) ℓ) (c : Dev nD)

/-- The arguments as arrays. -/
abbrev A0 : S4096x2048.Idx → EReal := m ((c : Thread nD τ).loc main_arg0)
abbrev A1 : S4096x2048.Idx → EReal := m ((c : Thread nD τ).loc main_arg1)

theorem index0 : ∀ t : Fin grid0.N, win0_0.index t 0 = t.val % 4 ∧ win0_0.index t 1 = t.val / 4 := by decide +kernel
theorem index1 : ∀ t : Fin grid0.N, win0_1.index t 0 = t.val % 4 ∧ win0_1.index t 1 = 0 := by decide +kernel

theorem blk0_apply (t : Fin cfg0.N) (r : Fin 1024) (l : Fin 512) :
    (iblk m c 0 t : Vec Ideal S1024x512 .bf16) (ix2 r l) = entry (A0 m c) (t.val % 4 * 1024 + r.val) (t.val / 4 * 512 + l.val) := by
  have ht : t.val < 16 := t.isLt
  rw [entry_lt _ (by omega) (by omega)]
  unfold iblk
  rw [View.read_apply]
  show V m c main_arg0 _ = _
  rw [V_main_arg0]
  refine congrArg (A0 m c) (funext fun a => Fin.ext ?_)
  fin_cases a
  · show win0_0.index t 0 * 1024 + 1 * r.val = t.val % 4 * 1024 + r.val; rw [(index0 t).1]; omega
  · show win0_0.index t 1 * 512 + 1 * l.val = t.val / 4 * 512 + l.val; rw [(index0 t).2]; omega

theorem blk1_apply (t : Fin cfg0.N) (r : Fin 1024) (k : Fin 2048) :
    (iblk m c 1 t : Vec Ideal S1024x2048 .bf16) (ix2 r k) = entry (A1 m c) (t.val % 4 * 1024 + r.val) k.val := by
  have ht : t.val < 16 := t.isLt
  rw [entry_lt _ (by omega) k.isLt]
  unfold iblk
  rw [View.read_apply]
  show V m c main_arg1 _ = _
  rw [V_main_arg1]
  refine congrArg (A1 m c) (funext fun a => Fin.ext ?_)
  fin_cases a
  · show win0_1.index t 0 * 1024 + 1 * r.val = t.val % 4 * 1024 + r.val; rw [(index1 t).1]; omega
  · show win0_1.index t 1 * 2048 + 1 * k.val = k.val; rw [(index1 t).2]; omega

/-- Term `s` of the sum at place `i` of block `q`. -/
def term (q : ℕ) (i : S512x2048.Idx) (s : ℕ) : EReal := entry (A0 m c) s (q * 512 + (i 0).val) * entry (A1 m c) s (i 1).val

/-- One point's addition. -/
theorem step (t : Fin cfg0.N) (xs : Vec Ideal S512x2048 .f32) (i : S512x2048.Idx) :
    k0_pay2 (iblk m c 0 t) (iblk m c 1 t) xs i = xs i + ∑ r : Fin 1024, term m c (t.val / 4) i (t.val % 4 * 1024 + r.val) := by
  obtain ⟨l, k, rfl⟩ : ∃ (l : Fin 512) (k : Fin 2048), i = ix2 l k := ⟨i 0, i 1, eq_ix2 i⟩
  refine (pay2_apply _ _ _ l k).trans ?_
  simp only [blk0_apply, blk1_apply]
  rfl

/-- What is held after point `n`. -/
theorem held_eq : ∀ n h (i : S512x2048.Idx), (outsAt0 m c n h).2 i = ∑ s ∈ Finset.range ((n % 4 + 1) * 1024), term m c (n / 4) i s := by
  refine held (N := cfg0.N) (fun n h i => (outsAt0 m c n h).2 i) _ (fun n h h0 i => ?_) (fun n h h0 i => ?_)
  · show (outsAt0 m c n h).2 i = _
    rw [outsAt0_A m c ⟨n, h⟩ h0 (by show ¬n % 4 = 3; omega)]
    dsimp only
    rw [held_A, step]
    obtain ⟨l, k, rfl⟩ : ∃ (l : Fin 512) (k : Fin 2048), i = ix2 l k := ⟨i 0, i 1, eq_ix2 i⟩
    rw [pay1_apply, zero_add]
    simp only [h0, Nat.zero_mul, Nat.zero_add]
  · show (outsAt0 m c (n + 1) h).2 i = (outsAt0 m c n _).2 i + _
    by_cases h1 : (n + 1) % 4 = 3
    · rw [outsAt0_C m c ⟨n + 1, h⟩ h0 h1]
      dsimp only
      rw [(held_C ..).1, step]
      rfl
    · rw [outsAt0_B m c ⟨n + 1, h⟩ h0 h1]
      dsimp only
      rw [held_B, step]
      rfl

/-- What the last of the four writes is what is then held. -/
theorem written (t : Fin cfg0.N) (h1 : t.val % 4 = 3) : (outsAt0 m c t.val t.isLt).1 = k0_pay3 (outsAt0 m c t.val t.isLt).2 := by
  rw [outsAt0_C m c t (by omega) h1]
  dsimp only
  rw [(held_C ..).1, (held_C ..).2]

theorem result_eq : Value.G2 m c = outer (A0 m c) (A1 m c) := by
  funext j
  obtain ⟨p, k, rfl⟩ : ∃ (p : Fin 2048) (k : Fin 2048), j = ix2 p k := ⟨j 0, j 1, eq_ix2 j⟩
  have hp := p.isLt
  have hk := k.isLt
  have e : Value.pt2Of (ix2 p k) = 4 * (p.val / 512) + 3 := by
    show 4 * (1 * (p.val / 512 - 0) + 1 * (k.val / 2048 - 0)) + 3 = _
    omega
  have ht : Value.pt2Of (ix2 p k) < cfg0.N := by rw [e, show cfg0.N = 16 from N_0]; omega
  unfold Value.G2
  rw [dif_pos ht, ← Value.outsAt0_sweep m c _ ht, written m c ⟨_, ht⟩ (by show Value.pt2Of (ix2 p k) % 4 = 3; omega)]
  obtain ⟨l, q, hl⟩ : ∃ (l : Fin 512) (q : Fin 2048), Value.loc2Of (ix2 p k) = ix2 l q := ⟨_, _, eq_ix2 _⟩
  have e0 : l.val = p.val % 512 := (congrArg (fun i => (i 0).val) hl).symm
  have e1 : q.val = k.val % 2048 := (congrArg (fun i => (i 1).val) hl).symm
  have f0 : Value.pt2Of (ix2 p k) / 4 * 512 + l.val = p.val := by omega
  have f1 : q.val = k.val := by omega
  rw [hl, pay3_apply, held_eq, show (Value.pt2Of (ix2 p k) % 4 + 1) * 1024 = 4096 by omega, ← outer_entry, ← f0, ← f1]
  rfl

/-- The run, read: the result array, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = outer (A0 m c) (A1 m c)
      ∧ r.2.mem ((c : Thread nD τ).loc main_arg0) = A0 m c
      ∧ r.2.mem ((c : Thread nD τ).loc main_arg1) = A1 m c :=
  (θ_run defs _ _).mono (fun _ h c => ⟨(h c).1.trans (result_eq m c), (h c).2⟩) (Value.run m ρ)

end Cert.OutWIdeal.Body

end
-- ==== Proof.GluWValue.lean ====
/-
  The gradient of the linear unit's weights, kernel side: two blocks of 512 rows of the product, each added up over
  four points.
-/
module

public import proofs.«01_k».proof.Proof.Gen.GluWIdeal.Value
public import proofs.«01_k».proof.Proof.Running
public import Idealize.ShloMosaic.Lib.Pipeline.ValueKit.Basic

@[expose] public section

set_option maxRecDepth 16384

noncomputable section

namespace Cert.GluWIdeal.Body

open Cert.GluWIdeal Cert.GluWIdeal.Gen Cert.Running Idealize.ShloMosaic Idealize.ShloMosaic.TcCoe Idealize.SL.Sem

section
variable (v3 : Vec Ideal S1024x512 .bf16) (v4 : Vec Ideal S1024x2048 .bf16) (v6 : Vec Ideal S512x2048 .f32) (l : Fin 512) (k : Fin 2048)

theorem pay1_apply : k0_pay1 (F := Ideal) (ix2 l k) = 0 := by
  pointwise [k0_pay1]

theorem pay2_apply : k0_pay2 v3 v4 v6 (ix2 l k) = v6 (ix2 l k) + ∑ r : Fin 1024, v3 (ix2 r l) * v4 (ix2 r k) := by
  pointwise [k0_pay2]

theorem pay3_apply : k0_pay3 v6 (ix2 l k) = v6 (ix2 l k) := by
  pointwise [k0_pay3]
end

section
variable (c : Dev nD) (i : grid0.Coords) (a3 : Memref sig .tc .vmem S1024x512 .bf16) (h3 : a3.IsWhole)
  (a4 : Memref sig .tc .vmem S1024x2048 .bf16) (h4 : a4.IsWhole) (a5 : Memref sig .tc .vmem S512x2048 .bf16) (h5 : a5.IsWhole)
  (a6 : Memref sig .tc .vmem S512x2048 .f32) (h6 : a6.IsWhole)
  (x0 : Vec Ideal S1024x512 .bf16) (x1 : Vec Ideal S1024x2048 .bf16) (xs : Vec Ideal S512x2048 .f32)

/-- The first of four points starts the sum. -/
theorem held_A (hc : cond0_0 i) (hd : ¬cond0_1 i) :
    sout0_A_0 c i a3 h3 a4 h4 a5 h5 a6 h6 hc hd x0 x1 = k0_pay2 x0 x1 (k0_pay1 (F := Ideal)) := by
  unfold sout0_A_0
  rw [View.read_writes_eq_canon _ _ _ (scover0_A_0 c i a3 h3 a4 h4 a5 h5 a6 h6 hc hd x0 x1)]
  unfold kernelRun0_A
  dsimp only
  sl_unfold_words
  rw [View.canon_cons_unit_zero (S := S512x2048) hz2]
  simp only [View.readAt_eq_ld, h3.read_unread, h4.read_unread, View.ld_unit_zero (S := S1024x512) hz2,
    View.ld_unit_zero (S := S1024x2048) hz2, View.readCov_unit_zero (S := S512x2048) _ hz2]

/-- A middle point adds to it. -/
theorem held_B (hc : ¬cond0_0 i) (hd : ¬cond0_1 i) :
    sout0_B_0 c i a3 h3 a4 h4 a5 h5 a6 h6 hc hd x0 x1 xs = k0_pay2 x0 x1 xs := by
  unfold sout0_B_0
  rw [View.read_writes_eq_canon _ _ _ (scover0_B_0 c i a3 h3 a4 h4 a5 h5 a6 h6 hc hd x0 x1 xs)]
  unfold kernelRun0_B
  dsimp only
  sl_unfold_words
  rw [View.canon_unit_zero hz2]
  simp only [View.readAt_eq_ld, h3.read_unread, h4.read_unread, h6.read_unread, View.ld_unit_zero (S := S1024x512) hz2,
    View.ld_unit_zero (S := S1024x2048) hz2, View.ld_unit_zero (S := S512x2048) hz2]

/-- The last adds to it and writes it out. -/
theorem held_C (hc : ¬cond0_0 i) (hd : cond0_1 i) :
    sout0_C_0 c i a3 h3 a4 h4 a5 h5 a6 h6 hc hd x0 x1 xs = k0_pay2 x0 x1 xs
    ∧ out0_C_2 c i a3 h3 a4 h4 a5 h5 a6 h6 hc hd x0 x1 xs = k0_pay3 (k0_pay2 x0 x1 xs) := by
  constructor
  · unfold sout0_C_0
    rw [View.read_writes_eq_canon _ _ _ (scover0_C_0 c i a3 h3 a4 h4 a5 h5 a6 h6 hc hd x0 x1 xs)]
    unfold kernelRun0_C
    dsimp only
    sl_unfold_words
    rw [View.canon_unit_zero hz2]
    simp only [View.readAt_eq_ld, h3.read_unread, h4.read_unread, h6.read_unread, View.ld_unit_zero (S := S1024x512) hz2,
      View.ld_unit_zero (S := S1024x2048) hz2, View.ld_unit_zero (S := S512x2048) hz2]
  · unfold out0_C_2
    rw [View.read_writes_eq_canon _ _ _ (cover0_C_2 c i a3 h3 a4 h4 a5 h5 a6 h6 hc hd x0 x1 xs)]
    unfold kernelRun0_C
    dsimp only
    sl_unfold_words
    rw [View.canon_unit_zero hz2]
    simp only [View.readAt_eq_ld, h3.read_unread, h4.read_unread, h6.read_unread, View.ld_unit_zero (S := S1024x512) hz2,
      View.ld_unit_zero (S := S1024x2048) hz2, View.ld_unit_zero (S := S512x2048) hz2, View.readCov_unit_zero (S := S512x2048) _ hz2]

end

variable (m : (ℓ : Loc nD τ sig) → Buf (Elt Ideal) ℓ) (c : Dev nD)

/-- The arguments as arrays. -/
abbrev A0 : S4096x1024.Idx → EReal := m ((c : Thread nD τ).loc main_arg0)
abbrev A1 : S4096x2048.Idx → EReal := m ((c : Thread nD τ).loc main_arg1)

theorem index0 : ∀ t : Fin grid0.N, win0_0.index t 0 = t.val % 4 ∧ win0_0.index t 1 = t.val / 4 := by decide +kernel
theorem index1 : ∀ t : Fin grid0.N, win0_1.index t 0 = t.val % 4 ∧ win0_1.index t 1 = 0 := by decide +kernel

theorem blk0_apply (t : Fin cfg0.N) (r : Fin 1024) (l : Fin 512) :
    (iblk m c 0 t : Vec Ideal S1024x512 .bf16) (ix2 r l) = entry (A0 m c) (t.val % 4 * 1024 + r.val) (t.val / 4 * 512 + l.val) := by
  have ht : t.val < 8 := t.isLt
  rw [entry_lt _ (by omega) (by omega)]
  unfold iblk
  rw [View.read_apply]
  show V m c main_arg0 _ = _
  rw [V_main_arg0]
  refine congrArg (A0 m c) (funext fun a => Fin.ext ?_)
  fin_cases a
  · show win0_0.index t 0 * 1024 + 1 * r.val = t.val % 4 * 1024 + r.val; rw [(index0 t).1]; omega
  · show win0_0.index t 1 * 512 + 1 * l.val = t.val / 4 * 512 + l.val; rw [(index0 t).2]; omega

theorem blk1_apply (t : Fin cfg0.N) (r : Fin 1024) (k : Fin 2048) :
    (iblk m c 1 t : Vec Ideal S1024x2048 .bf16) (ix2 r k) = entry (A1 m c) (t.val % 4 * 1024 + r.val) k.val := by
  have ht : t.val < 8 := t.isLt
  rw [entry_lt _ (by omega) k.isLt]
  unfold iblk
  rw [View.read_apply]
  show V m c main_arg1 _ = _
  rw [V_main_arg1]
  refine congrArg (A1 m c) (funext fun a => Fin.ext ?_)
  fin_cases a
  · show win0_1.index t 0 * 1024 + 1 * r.val = t.val % 4 * 1024 + r.val; rw [(index1 t).1]; omega
  · show win0_1.index t 1 * 2048 + 1 * k.val = k.val; rw [(index1 t).2]; omega

/-- Term `s` of the sum at place `i` of block `q`. -/
def term (q : ℕ) (i : S512x2048.Idx) (s : ℕ) : EReal := entry (A0 m c) s (q * 512 + (i 0).val) * entry (A1 m c) s (i 1).val

/-- One point's addition. -/
theorem step (t : Fin cfg0.N) (xs : Vec Ideal S512x2048 .f32) (i : S512x2048.Idx) :
    k0_pay2 (iblk m c 0 t) (iblk m c 1 t) xs i = xs i + ∑ r : Fin 1024, term m c (t.val / 4) i (t.val % 4 * 1024 + r.val) := by
  obtain ⟨l, k, rfl⟩ : ∃ (l : Fin 512) (k : Fin 2048), i = ix2 l k := ⟨i 0, i 1, eq_ix2 i⟩
  refine (pay2_apply _ _ _ l k).trans ?_
  simp only [blk0_apply, blk1_apply]
  rfl

/-- What is held after point `n`. -/
theorem held_eq : ∀ n h (i : S512x2048.Idx), (outsAt0 m c n h).2 i = ∑ s ∈ Finset.range ((n % 4 + 1) * 1024), term m c (n / 4) i s := by
  refine held (N := cfg0.N) (fun n h i => (outsAt0 m c n h).2 i) _ (fun n h h0 i => ?_) (fun n h h0 i => ?_)
  · show (outsAt0 m c n h).2 i = _
    rw [outsAt0_A m c ⟨n, h⟩ h0 (by show ¬n % 4 = 3; omega)]
    dsimp only
    rw [held_A, step]
    obtain ⟨l, k, rfl⟩ : ∃ (l : Fin 512) (k : Fin 2048), i = ix2 l k := ⟨i 0, i 1, eq_ix2 i⟩
    rw [pay1_apply, zero_add]
    simp only [h0, Nat.zero_mul, Nat.zero_add]
  · show (outsAt0 m c (n + 1) h).2 i = (outsAt0 m c n _).2 i + _
    by_cases h1 : (n + 1) % 4 = 3
    · rw [outsAt0_C m c ⟨n + 1, h⟩ h0 h1]
      dsimp only
      rw [(held_C ..).1, step]
      rfl
    · rw [outsAt0_B m c ⟨n + 1, h⟩ h0 h1]
      dsimp only
      rw [held_B, step]
      rfl

/-- What the last of the four writes is what is then held. -/
theorem written (t : Fin cfg0.N) (h1 : t.val % 4 = 3) : (outsAt0 m c t.val t.isLt).1 = k0_pay3 (outsAt0 m c t.val t.isLt).2 := by
  rw [outsAt0_C m c t (by omega) h1]
  dsimp only
  rw [(held_C ..).1, (held_C ..).2]

theorem result_eq : Value.G2 m c = outer (A0 m c) (A1 m c) := by
  funext j
  obtain ⟨p, k, rfl⟩ : ∃ (p : Fin 1024) (k : Fin 2048), j = ix2 p k := ⟨j 0, j 1, eq_ix2 j⟩
  have hp := p.isLt
  have hk := k.isLt
  have e : Value.pt2Of (ix2 p k) = 4 * (p.val / 512) + 3 := by
    show 4 * (1 * (p.val / 512 - 0) + 1 * (k.val / 2048 - 0)) + 3 = _
    omega
  have ht : Value.pt2Of (ix2 p k) < cfg0.N := by rw [e, show cfg0.N = 8 from N_0]; omega
  unfold Value.G2
  rw [dif_pos ht, ← Value.outsAt0_sweep m c _ ht, written m c ⟨_, ht⟩ (by show Value.pt2Of (ix2 p k) % 4 = 3; omega)]
  obtain ⟨l, q, hl⟩ : ∃ (l : Fin 512) (q : Fin 2048), Value.loc2Of (ix2 p k) = ix2 l q := ⟨_, _, eq_ix2 _⟩
  have e0 : l.val = p.val % 512 := (congrArg (fun i => (i 0).val) hl).symm
  have e1 : q.val = k.val % 2048 := (congrArg (fun i => (i 1).val) hl).symm
  have f0 : Value.pt2Of (ix2 p k) / 4 * 512 + l.val = p.val := by omega
  have f1 : q.val = k.val := by omega
  rw [hl, pay3_apply, held_eq, show (Value.pt2Of (ix2 p k) % 4 + 1) * 1024 = 4096 by omega, ← outer_entry, ← f0, ← f1]
  rfl

/-- The run, read: the result array, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = outer (A0 m c) (A1 m c)
      ∧ r.2.mem ((c : Thread nD τ).loc main_arg0) = A0 m c
      ∧ r.2.mem ((c : Thread nD τ).loc main_arg1) = A1 m c :=
  (θ_run defs _ _).mono (fun _ h c => ⟨(h c).1.trans (result_eq m c), (h c).2⟩) (Value.run m ρ)

end Cert.GluWIdeal.Body

end
-- ==== Proof.PleWValue.lean ====
/-
  The gradient of the embedding's weights, kernel side: one block, added up over four points; the embedding arrives in
  single precision.
-/
module

public import proofs.«01_k».proof.Proof.Gen.PleWIdeal.Value
public import proofs.«01_k».proof.Proof.Running
public import Idealize.ShloMosaic.Lib.Pipeline.ValueKit.Basic

@[expose] public section

set_option maxRecDepth 16384

noncomputable section

namespace Cert.PleWIdeal.Body

open Cert.PleWIdeal Cert.PleWIdeal.Gen Cert.Running Idealize.ShloMosaic Idealize.ShloMosaic.TcCoe Idealize.SL.Sem

section
variable (v3 : Vec Ideal S1024x256 .f32) (v4 : Vec Ideal S1024x2048 .bf16) (v6 : Vec Ideal S256x2048 .f32) (l : Fin 256) (k : Fin 2048)

theorem pay1_apply : k0_pay1 (F := Ideal) (ix2 l k) = 0 := by
  pointwise [k0_pay1]

theorem pay2_apply : k0_pay2 v3 v4 v6 (ix2 l k) = v6 (ix2 l k) + ∑ r : Fin 1024, v3 (ix2 r l) * v4 (ix2 r k) := by
  pointwise [k0_pay2]

theorem pay3_apply : k0_pay3 v6 (ix2 l k) = v6 (ix2 l k) := by
  pointwise [k0_pay3]
end

section
variable (c : Dev nD) (i : grid0.Coords) (a3 : Memref sig .tc .vmem S1024x256 .f32) (h3 : a3.IsWhole)
  (a4 : Memref sig .tc .vmem S1024x2048 .bf16) (h4 : a4.IsWhole) (a5 : Memref sig .tc .vmem S256x2048 .bf16) (h5 : a5.IsWhole)
  (a6 : Memref sig .tc .vmem S256x2048 .f32) (h6 : a6.IsWhole)
  (x0 : Vec Ideal S1024x256 .f32) (x1 : Vec Ideal S1024x2048 .bf16) (xs : Vec Ideal S256x2048 .f32)

/-- The first of four points starts the sum. -/
theorem held_A (hc : cond0_0 i) (hd : ¬cond0_1 i) :
    sout0_A_0 c i a3 h3 a4 h4 a5 h5 a6 h6 hc hd x0 x1 = k0_pay2 x0 x1 (k0_pay1 (F := Ideal)) := by
  unfold sout0_A_0
  rw [View.read_writes_eq_canon _ _ _ (scover0_A_0 c i a3 h3 a4 h4 a5 h5 a6 h6 hc hd x0 x1)]
  unfold kernelRun0_A
  dsimp only
  sl_unfold_words
  rw [View.canon_cons_unit_zero (S := S256x2048) hz2]
  simp only [View.readAt_eq_ld, h3.read_unread, h4.read_unread, View.ld_unit_zero (S := S1024x256) hz2,
    View.ld_unit_zero (S := S1024x2048) hz2, View.readCov_unit_zero (S := S256x2048) _ hz2]

/-- A middle point adds to it. -/
theorem held_B (hc : ¬cond0_0 i) (hd : ¬cond0_1 i) :
    sout0_B_0 c i a3 h3 a4 h4 a5 h5 a6 h6 hc hd x0 x1 xs = k0_pay2 x0 x1 xs := by
  unfold sout0_B_0
  rw [View.read_writes_eq_canon _ _ _ (scover0_B_0 c i a3 h3 a4 h4 a5 h5 a6 h6 hc hd x0 x1 xs)]
  unfold kernelRun0_B
  dsimp only
  sl_unfold_words
  rw [View.canon_unit_zero hz2]
  simp only [View.readAt_eq_ld, h3.read_unread, h4.read_unread, h6.read_unread, View.ld_unit_zero (S := S1024x256) hz2,
    View.ld_unit_zero (S := S1024x2048) hz2, View.ld_unit_zero (S := S256x2048) hz2]

/-- The last adds to it and writes it out. -/
theorem held_C (hc : ¬cond0_0 i) (hd : cond0_1 i) :
    sout0_C_0 c i a3 h3 a4 h4 a5 h5 a6 h6 hc hd x0 x1 xs = k0_pay2 x0 x1 xs
    ∧ out0_C_2 c i a3 h3 a4 h4 a5 h5 a6 h6 hc hd x0 x1 xs = k0_pay3 (k0_pay2 x0 x1 xs) := by
  constructor
  · unfold sout0_C_0
    rw [View.read_writes_eq_canon _ _ _ (scover0_C_0 c i a3 h3 a4 h4 a5 h5 a6 h6 hc hd x0 x1 xs)]
    unfold kernelRun0_C
    dsimp only
    sl_unfold_words
    rw [View.canon_unit_zero hz2]
    simp only [View.readAt_eq_ld, h3.read_unread, h4.read_unread, h6.read_unread, View.ld_unit_zero (S := S1024x256) hz2,
      View.ld_unit_zero (S := S1024x2048) hz2, View.ld_unit_zero (S := S256x2048) hz2]
  · unfold out0_C_2
    rw [View.read_writes_eq_canon _ _ _ (cover0_C_2 c i a3 h3 a4 h4 a5 h5 a6 h6 hc hd x0 x1 xs)]
    unfold kernelRun0_C
    dsimp only
    sl_unfold_words
    rw [View.canon_unit_zero hz2]
    simp only [View.readAt_eq_ld, h3.read_unread, h4.read_unread, h6.read_unread, View.ld_unit_zero (S := S1024x256) hz2,
      View.ld_unit_zero (S := S1024x2048) hz2, View.ld_unit_zero (S := S256x2048) hz2, View.readCov_unit_zero (S := S256x2048) _ hz2]

end

variable (m : (ℓ : Loc nD τ sig) → Buf (Elt Ideal) ℓ) (c : Dev nD)

/-- The arguments as arrays. -/
abbrev A0 : S4096x256.Idx → EReal := m ((c : Thread nD τ).loc main_arg0)
abbrev A1 : S4096x2048.Idx → EReal := m ((c : Thread nD τ).loc main_arg1)

theorem index0 : ∀ t : Fin grid0.N, win0_0.index t 0 = t.val % 4 ∧ win0_0.index t 1 = t.val / 4 := by decide +kernel
theorem index1 : ∀ t : Fin grid0.N, win0_1.index t 0 = t.val % 4 ∧ win0_1.index t 1 = 0 := by decide +kernel

theorem blk0_apply (t : Fin cfg0.N) (r : Fin 1024) (l : Fin 256) :
    (iblk m c 0 t : Vec Ideal S1024x256 .f32) (ix2 r l) = entry (A0 m c) (t.val % 4 * 1024 + r.val) (t.val / 4 * 256 + l.val) := by
  have ht : t.val < 4 := t.isLt
  rw [entry_lt _ (by omega) (by omega)]
  unfold iblk
  rw [View.read_apply]
  show V m c main_arg0 _ = _
  rw [V_main_arg0]
  refine congrArg (A0 m c) (funext fun a => Fin.ext ?_)
  fin_cases a
  · show win0_0.index t 0 * 1024 + 1 * r.val = t.val % 4 * 1024 + r.val; rw [(index0 t).1]; omega
  · show win0_0.index t 1 * 256 + 1 * l.val = t.val / 4 * 256 + l.val; rw [(index0 t).2]; omega

theorem blk1_apply (t : Fin cfg0.N) (r : Fin 1024) (k : Fin 2048) :
    (iblk m c 1 t : Vec Ideal S1024x2048 .bf16) (ix2 r k) = entry (A1 m c) (t.val % 4 * 1024 + r.val) k.val := by
  have ht : t.val < 4 := t.isLt
  rw [entry_lt _ (by omega) k.isLt]
  unfold iblk
  rw [View.read_apply]
  show V m c main_arg1 _ = _
  rw [V_main_arg1]
  refine congrArg (A1 m c) (funext fun a => Fin.ext ?_)
  fin_cases a
  · show win0_1.index t 0 * 1024 + 1 * r.val = t.val % 4 * 1024 + r.val; rw [(index1 t).1]; omega
  · show win0_1.index t 1 * 2048 + 1 * k.val = k.val; rw [(index1 t).2]; omega

/-- Term `s` of the sum at place `i` of block `q`. -/
def term (q : ℕ) (i : S256x2048.Idx) (s : ℕ) : EReal := entry (A0 m c) s (q * 256 + (i 0).val) * entry (A1 m c) s (i 1).val

/-- One point's addition. -/
theorem step (t : Fin cfg0.N) (xs : Vec Ideal S256x2048 .f32) (i : S256x2048.Idx) :
    k0_pay2 (iblk m c 0 t) (iblk m c 1 t) xs i = xs i + ∑ r : Fin 1024, term m c (t.val / 4) i (t.val % 4 * 1024 + r.val) := by
  obtain ⟨l, k, rfl⟩ : ∃ (l : Fin 256) (k : Fin 2048), i = ix2 l k := ⟨i 0, i 1, eq_ix2 i⟩
  refine (pay2_apply _ _ _ l k).trans ?_
  simp only [blk0_apply, blk1_apply]
  rfl

/-- What is held after point `n`. -/
theorem held_eq : ∀ n h (i : S256x2048.Idx), (outsAt0 m c n h).2 i = ∑ s ∈ Finset.range ((n % 4 + 1) * 1024), term m c (n / 4) i s := by
  refine held (N := cfg0.N) (fun n h i => (outsAt0 m c n h).2 i) _ (fun n h h0 i => ?_) (fun n h h0 i => ?_)
  · show (outsAt0 m c n h).2 i = _
    rw [outsAt0_A m c ⟨n, h⟩ h0 (by show ¬n % 4 = 3; omega)]
    dsimp only
    rw [held_A, step]
    obtain ⟨l, k, rfl⟩ : ∃ (l : Fin 256) (k : Fin 2048), i = ix2 l k := ⟨i 0, i 1, eq_ix2 i⟩
    rw [pay1_apply, zero_add]
    simp only [h0, Nat.zero_mul, Nat.zero_add]
  · show (outsAt0 m c (n + 1) h).2 i = (outsAt0 m c n _).2 i + _
    by_cases h1 : (n + 1) % 4 = 3
    · rw [outsAt0_C m c ⟨n + 1, h⟩ h0 h1]
      dsimp only
      rw [(held_C ..).1, step]
      rfl
    · rw [outsAt0_B m c ⟨n + 1, h⟩ h0 h1]
      dsimp only
      rw [held_B, step]
      rfl

/-- What the last of the four writes is what is then held. -/
theorem written (t : Fin cfg0.N) (h1 : t.val % 4 = 3) : (outsAt0 m c t.val t.isLt).1 = k0_pay3 (outsAt0 m c t.val t.isLt).2 := by
  rw [outsAt0_C m c t (by omega) h1]
  dsimp only
  rw [(held_C ..).1, (held_C ..).2]

theorem result_eq : Value.G2 m c = outer (A0 m c) (A1 m c) := by
  funext j
  obtain ⟨p, k, rfl⟩ : ∃ (p : Fin 256) (k : Fin 2048), j = ix2 p k := ⟨j 0, j 1, eq_ix2 j⟩
  have hp := p.isLt
  have hk := k.isLt
  have e : Value.pt2Of (ix2 p k) = 4 * (p.val / 256) + 3 := by
    show 4 * (1 * (p.val / 256 - 0) + 1 * (k.val / 2048 - 0)) + 3 = _
    omega
  have ht : Value.pt2Of (ix2 p k) < cfg0.N := by rw [e, show cfg0.N = 4 from N_0]; omega
  unfold Value.G2
  rw [dif_pos ht, ← Value.outsAt0_sweep m c _ ht, written m c ⟨_, ht⟩ (by show Value.pt2Of (ix2 p k) % 4 = 3; omega)]
  obtain ⟨l, q, hl⟩ : ∃ (l : Fin 256) (q : Fin 2048), Value.loc2Of (ix2 p k) = ix2 l q := ⟨_, _, eq_ix2 _⟩
  have e0 : l.val = p.val % 256 := (congrArg (fun i => (i 0).val) hl).symm
  have e1 : q.val = k.val % 2048 := (congrArg (fun i => (i 1).val) hl).symm
  have f0 : Value.pt2Of (ix2 p k) / 4 * 256 + l.val = p.val := by omega
  have f1 : q.val = k.val := by omega
  rw [hl, pay3_apply, held_eq, show (Value.pt2Of (ix2 p k) % 4 + 1) * 1024 = 4096 by omega, ← outer_entry, ← f0, ← f1]
  rfl

/-- The run, read: the result array, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = outer (A0 m c) (A1 m c)
      ∧ r.2.mem ((c : Thread nD τ).loc main_arg0) = A0 m c
      ∧ r.2.mem ((c : Thread nD τ).loc main_arg1) = A1 m c :=
  (θ_run defs _ _).mono (fun _ h c => ⟨(h c).1.trans (result_eq m c), (h c).2⟩) (Value.run m ρ)

end Cert.PleWIdeal.Body

end
-- ==== Proof.WeightClaims.lean ====
/-
  The gradients of the weights of three products: each reference differentiates its product; the result is the
  kernel's, the product of the two arrays over their rows.
-/
module

public import proofs.«01_k».proof.Defs
public import proofs.«01_k».proof.Proof.OutWValue
public import proofs.«01_k».proof.Proof.GluWValue
public import proofs.«01_k».proof.Proof.PleWValue
public import proofs.«01_k».proof.Proof.Gen.OutWRefIdeal.Read
public import proofs.«01_k».proof.Proof.Gen.GluWRefIdeal.Read
public import proofs.«01_k».proof.Proof.Gen.PleWRefIdeal.Read
public import Idealize.ShloMosaic.Lib.Quiescent

@[expose] public section

set_option maxRecDepth 16384

noncomputable section

open Idealize.ShloMosaic Idealize.SL.Sem
open Cert.Running (outer)

namespace Cert.OutWClaim

open Cert.OutWRefIdeal Cert.OutWRefIdeal.Gen Cert.OutWRefIdeal.Read
open Cert.OutWIdeal.Body (A0 A1)

theorem reads (A : S4096x2048.Idx → EReal) (B : S4096x2048.Idx → EReal) : val_main_v6 (F := Ideal) A B = outer A B := by
  funext j
  obtain ⟨p, k, rfl⟩ : ∃ (p : Fin 2048) (k : Fin 2048), j = ix2 p k := ⟨j 0, j 1, eq_ix2 j⟩
  refine (val_main_v6_apply (F := Ideal) A B _).trans ?_
  show val_main_v5 (F := Ideal) A B (ix2 p k) = _
  rw [val_main_v5_apply, val_main_v4_apply]
  refine Finset.sum_congr rfl fun s _ => (mul_comm _ _).trans ?_
  rw [val_main_v1_apply, val_main_v3_apply]
  have e0 : ridx_main_v4 (idx_main_v5 (ix2 p k)) s = ix2 s p := funext fun a => by fin_cases a <;> rfl
  have e1 : lidx_main_v4 (idx_main_v5 (ix2 p k)) s = ix2 s k := funext fun a => by fin_cases a <;> rfl
  rw [e0, e1]
  rfl

theorem algebraic : Cert.algebraic_OutWIdeal_OutWRefIdeal := by
  intro m g m' g' _ hargs
  refine ⟨fun c => outer (A0 m c) (A1 m c), Cert.OutWIdeal.Body.run m g,
    (θ_run Cert.OutWRefIdeal.defs _ _).mono (fun r h c => ⟨?_, (h c).2⟩) (Cert.OutWRefIdeal.Value.run m' g')⟩
  obtain ⟨e0, e1⟩ := hargs c
  rw [(h c).1, val_main_v6_eq, e0, e1]
  exact reads _ _

/-- The reference's run keeps its arguments; its machine has no semaphore. -/
theorem reference_frame : Cert.quiescent_OutWRefIdeal := fun m g _ =>
  (θ_run Cert.OutWRefIdeal.defs _ _).mono (fun r h => ⟨fun c => (h c).2, sem_eq_zero_of_no_sems rfl r.2⟩) (Cert.OutWRefIdeal.Value.run m g)

end Cert.OutWClaim

namespace Cert.GluWClaim

open Cert.GluWRefIdeal Cert.GluWRefIdeal.Gen Cert.GluWRefIdeal.Read
open Cert.GluWIdeal.Body (A0 A1)

theorem reads (A : S4096x1024.Idx → EReal) (B : S4096x2048.Idx → EReal) : val_main_v6 (F := Ideal) A B = outer A B := by
  funext j
  obtain ⟨p, k, rfl⟩ : ∃ (p : Fin 1024) (k : Fin 2048), j = ix2 p k := ⟨j 0, j 1, eq_ix2 j⟩
  refine (val_main_v6_apply (F := Ideal) A B _).trans ?_
  show val_main_v5 (F := Ideal) A B (ix2 p k) = _
  rw [val_main_v5_apply, val_main_v4_apply]
  refine Finset.sum_congr rfl fun s _ => (mul_comm _ _).trans ?_
  rw [val_main_v1_apply, val_main_v3_apply]
  have e0 : ridx_main_v4 (idx_main_v5 (ix2 p k)) s = ix2 s p := funext fun a => by fin_cases a <;> rfl
  have e1 : lidx_main_v4 (idx_main_v5 (ix2 p k)) s = ix2 s k := funext fun a => by fin_cases a <;> rfl
  rw [e0, e1]
  rfl

theorem algebraic : Cert.algebraic_GluWIdeal_GluWRefIdeal := by
  intro m g m' g' _ hargs
  refine ⟨fun c => outer (A0 m c) (A1 m c), Cert.GluWIdeal.Body.run m g,
    (θ_run Cert.GluWRefIdeal.defs _ _).mono (fun r h c => ⟨?_, (h c).2⟩) (Cert.GluWRefIdeal.Value.run m' g')⟩
  obtain ⟨e0, e1⟩ := hargs c
  rw [(h c).1, val_main_v6_eq, e0, e1]
  exact reads _ _

/-- The reference's run keeps its arguments; its machine has no semaphore. -/
theorem reference_frame : Cert.quiescent_GluWRefIdeal := fun m g _ =>
  (θ_run Cert.GluWRefIdeal.defs _ _).mono (fun r h => ⟨fun c => (h c).2, sem_eq_zero_of_no_sems rfl r.2⟩) (Cert.GluWRefIdeal.Value.run m g)

end Cert.GluWClaim

namespace Cert.PleWClaim

open Cert.PleWRefIdeal Cert.PleWRefIdeal.Gen Cert.PleWRefIdeal.Read
open Cert.PleWIdeal.Body (A0 A1)

theorem reads (A : S4096x256.Idx → EReal) (B : S4096x2048.Idx → EReal) : val_main_v5 (F := Ideal) A B = outer A B := by
  funext j
  obtain ⟨p, k, rfl⟩ : ∃ (p : Fin 256) (k : Fin 2048), j = ix2 p k := ⟨j 0, j 1, eq_ix2 j⟩
  refine (val_main_v5_apply (F := Ideal) A B _).trans ?_
  show val_main_v4 (F := Ideal) A B (ix2 p k) = _
  rw [val_main_v4_apply, val_main_v3_apply]
  refine Finset.sum_congr rfl fun s _ => (mul_comm _ _).trans ?_
  rw [val_main_v2_apply]
  have e0 : ridx_main_v3 (idx_main_v4 (ix2 p k)) s = ix2 s p := funext fun a => by fin_cases a <;> rfl
  have e1 : lidx_main_v3 (idx_main_v4 (ix2 p k)) s = ix2 s k := funext fun a => by fin_cases a <;> rfl
  rw [e0, e1]
  rfl

theorem algebraic : Cert.algebraic_PleWIdeal_PleWRefIdeal := by
  intro m g m' g' _ hargs
  refine ⟨fun c => outer (A0 m c) (A1 m c), Cert.PleWIdeal.Body.run m g,
    (θ_run Cert.PleWRefIdeal.defs _ _).mono (fun r h c => ⟨?_, (h c).2⟩) (Cert.PleWRefIdeal.Value.run m' g')⟩
  obtain ⟨e0, e1⟩ := hargs c
  rw [(h c).1, val_main_v5_eq, e0, e1]
  exact reads _ _

/-- The reference's run keeps its arguments; its machine has no semaphore. -/
theorem reference_frame : Cert.quiescent_PleWRefIdeal := fun m g _ =>
  (θ_run Cert.PleWRefIdeal.defs _ _).mono (fun r h => ⟨fun c => (h c).2, sem_eq_zero_of_no_sems rfl r.2⟩) (Cert.PleWRefIdeal.Value.run m g)

end Cert.PleWClaim

end
-- ==== Proof.PleGateWClaim.lean ====
/-
  The gradient of the gate's weights: the program and its reference have the texts of the output weights' gradient, and
  so its runs.
-/
module

public import proofs.«01_k».proof.Proof.WeightClaims
public import proofs.«01_k».proof.Proof.Gen.PleGateWIdeal
public import proofs.«01_k».proof.Proof.Gen.PleGateWRefIdeal

@[expose] public section

set_option maxRecDepth 16384

noncomputable section

namespace Cert.PleGateWClaim

open Idealize.ShloMosaic Idealize.SL.Sem

/-- The two programs' bodies are one function. -/
theorem bodies_eq : Cert.PleGateWIdeal.defs₀ (F := Ideal) = Cert.OutWIdeal.defs₀ (F := Ideal) := by
  funext p
  cases p with
  | tc =>
    funext l
    have e : l = (0 : Fin 1) := Fin.eq_zero l
    subst e
    rfl
  | scScalar _ => rfl
  | scVector _ _ => rfl

theorem defs_eq : Cert.PleGateWIdeal.defs (F := Ideal) = Cert.OutWIdeal.defs (F := Ideal) :=
  congrArg (Pipeline.defs Cert.OutWIdeal.pcfgs) bodies_eq

theorem algebraic : Cert.algebraic_PleGateWIdeal_PleGateWRefIdeal := by
  intro m g m' g' h hargs
  obtain ⟨v, hv, hr⟩ := OutWClaim.algebraic m g m' g' h hargs
  rw [← defs_eq] at hv
  exact ⟨v, hv, hr⟩

theorem reference_frame : Cert.quiescent_PleGateWRefIdeal := OutWClaim.reference_frame

end Cert.PleGateWClaim

end
-- ==== Proof.PleHValue.lean ====
/-
  The gradient through the embedding's gate, kernel side: grid point `t` adds to rows `512 t … 512 t + 511` of the
  gradient their product with the transposed weights.
-/
module

public import proofs.«01_k».proof.Proof.Gen.PleHIdeal.Value
public import proofs.«01_k».proof.Proof.Running
public import Idealize.ShloMosaic.Lib.Pipeline.ValueKit.Basic

@[expose] public section

set_option maxRecDepth 16384

noncomputable section

namespace Cert.PleHIdeal.Body

open Cert.PleHIdeal Cert.PleHIdeal.Gen Cert.Running Idealize.ShloMosaic Idealize.ShloMosaic.TcCoe Idealize.SL.Sem

/-- The gradient that came in, plus the product with the transposed weights. -/
def added (Q : S4096x2048.Idx → EReal) (W : S2048x2048.Idx → EReal) (H : S4096x2048.Idx → EReal) : S4096x2048.Idx → EReal := fun j =>
  H j + ∑ k : Fin 2048, Q (ix2 (j 0) k) * W (ix2 (j 1) k)

section
variable (v0 : Vec Ideal S512x2048 .f32) (v1 : Vec Ideal S512x2048 .bf16) (v2 : Vec Ideal S2048x2048 .bf16) (r : Fin 512) (l : Fin 2048)

theorem pay1_apply : k0_pay1 v0 v1 v2 (ix2 r l) = v0 (ix2 r l) + ∑ k : Fin 2048, v1 (ix2 r k) * v2 (ix2 l k) := by
  pointwise [k0_pay1]

theorem pay2_apply : k0_pay2 v0 v1 v2 (ix2 r l) = k0_pay1 v0 v1 v2 (ix2 r l) := by
  pointwise [k0_pay2]
end

variable (m : (ℓ : Loc nD τ sig) → Buf (Elt Ideal) ℓ) (c : Dev nD)

/-- The arguments as arrays. -/
abbrev A0 : S4096x2048.Idx → EReal := m ((c : Thread nD τ).loc main_arg0)
abbrev A1 : S2048x2048.Idx → EReal := m ((c : Thread nD τ).loc main_arg1)
abbrev A2 : S4096x2048.Idx → EReal := m ((c : Thread nD τ).loc main_arg2)

theorem V_v0 (j : S2048x2048.Idx) : V m c main_v0 j = A1 m c j := by
  unfold V
  after_results
  rfl

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel

/-- Row `r` of point `t`'s rows. -/
def row (t : Fin cfg0.N) (r : Fin 512) : Fin 4096 := ⟨t.val * 512 + r.val, by have : t.val < 8 := t.isLt; omega⟩

theorem blk0_apply (t : Fin cfg0.N) (r : Fin 512) (l : Fin 2048) :
    (iblk m c 0 t : Vec Ideal S512x2048 .bf16) (ix2 r l) = A0 m c (ix2 (row t r) l) := by
  unfold iblk
  rw [View.read_apply]
  show V m c main_arg0 _ = _
  rw [V_main_arg0]
  refine congrArg (A0 m c) (funext fun a => Fin.ext ?_)
  fin_cases a
  · show win0_0.index t 0 * 512 + 1 * r.val = t.val * 512 + r.val; rw [(index0 t).1]; omega
  · show win0_0.index t 1 * 2048 + 1 * l.val = l.val; rw [(index0 t).2]; omega

theorem blk1_apply (t : Fin cfg0.N) (k : Fin 2048) (l : Fin 2048) :
    (iblk m c 1 t : Vec Ideal S2048x2048 .bf16) (ix2 k l) = A1 m c (ix2 k l) := by
  unfold iblk
  rw [View.read_apply]
  show V m c main_v0 _ = _
  rw [V_v0]
  refine congrArg (A1 m c) (funext fun a => Fin.ext ?_)
  fin_cases a
  · show win0_1.index t 0 * 2048 + 1 * k.val = k.val; rw [(index1 t).1]; omega
  · show win0_1.index t 1 * 2048 + 1 * l.val = l.val; rw [(index1 t).2]; omega

theorem blk2_apply (t : Fin cfg0.N) (r : Fin 512) (l : Fin 2048) :
    (iblk m c 2 t : Vec Ideal S512x2048 .f32) (ix2 r l) = A2 m c (ix2 (row t r) l) := by
  unfold iblk
  rw [View.read_apply]
  show V m c main_arg2 _ = _
  rw [V_main_arg2]
  refine congrArg (A2 m c) (funext fun a => Fin.ext ?_)
  fin_cases a
  · show win0_2.index t 0 * 512 + 1 * r.val = t.val * 512 + r.val; rw [(index2 t).1]; omega
  · show win0_2.index t 1 * 2048 + 1 * l.val = l.val; rw [(index2 t).2]; omega

theorem added_eq (t : Fin cfg0.N) (r : Fin 512) (l : Fin 2048) :
    k0_pay1 (iblk m c 2 t) (iblk m c 0 t) (iblk m c 1 t) (ix2 r l) = added (A0 m c) (A1 m c) (A2 m c) (ix2 (row t r) l) := by
  refine (pay1_apply _ _ _ r l).trans ?_
  simp only [blk0_apply, blk1_apply, blk2_apply]
  rfl

theorem rounded_eq (t : Fin cfg0.N) (r : Fin 512) (l : Fin 2048) :
    k0_pay2 (iblk m c 2 t) (iblk m c 0 t) (iblk m c 1 t) (ix2 r l) = added (A0 m c) (A1 m c) (A2 m c) (ix2 (row t r) l) :=
  (pay2_apply _ _ _ r l).trans (added_eq m c t r l)

theorem out_eq (x0 : Vec Ideal S512x2048 .bf16) (x1 : Vec Ideal S2048x2048 .bf16) (x2 : Vec Ideal S512x2048 .f32) :
    out0_3 x0 x1 x2 = k0_pay1 x2 x0 x1 ∧ out0_4 x0 x1 x2 = k0_pay2 x2 x0 x1 := by
  constructor
  · unfold out0_3
    rw [View.canon_unit_zero hz2]
    simp only [View.ld_unit_zero (S := S512x2048) hz2, View.ld_unit_zero (S := S2048x2048) hz2]
  · unfold out0_4
    rw [View.canon_unit_zero hz2]
    simp only [View.ld_unit_zero (S := S512x2048) hz2, View.ld_unit_zero (S := S2048x2048) hz2]

theorem flushed3_eq (t : Fin cfg0.N) (_ : (cfg0.win 3).flush t = true) : (dats m 0 c).flushed 3 t
    = ((cfg0.win 3).blk t).view.read (Elt Ideal) (added (A0 m c) (A1 m c) (A2 m c)) := by
  rw [Value.flushed3, (out_eq ..).1]
  funext y
  obtain ⟨r, l, rfl⟩ : ∃ (r : Fin 512) (l : Fin 2048), y = ix2 r l := ⟨y 0, y 1, eq_ix2 y⟩
  rw [View.read_apply]
  refine (added_eq m c t r l).trans (congrArg (added (A0 m c) (A1 m c) (A2 m c)) (funext fun a => Fin.ext ?_))
  fin_cases a
  · show t.val * 512 + r.val = win0_3.index t 0 * 512 + 1 * r.val; rw [(index3 t).1]; omega
  · show l.val = win0_3.index t 1 * 2048 + 1 * l.val; rw [(index3 t).2]; omega

theorem flushed4_eq (t : Fin cfg0.N) (_ : (cfg0.win 4).flush t = true) : (dats m 0 c).flushed 4 t
    = ((cfg0.win 4).blk t).view.read (Elt Ideal) (added (A0 m c) (A1 m c) (A2 m c)) := by
  rw [Value.flushed4, (out_eq ..).2]
  funext y
  obtain ⟨r, l, rfl⟩ : ∃ (r : Fin 512) (l : Fin 2048), y = ix2 r l := ⟨y 0, y 1, eq_ix2 y⟩
  rw [View.read_apply]
  refine (rounded_eq m c t r l).trans (congrArg (added (A0 m c) (A1 m c) (A2 m c)) (funext fun a => Fin.ext ?_))
  fin_cases a
  · show t.val * 512 + r.val = win0_4.index t 0 * 512 + 1 * r.val; rw [(index4 t).1]; omega
  · show l.val = win0_4.index t 1 * 2048 + 1 * l.val; rw [(index4 t).2]; omega

theorem final3 : (dats m 0 c).arrAt 3 cfg0.N = added (A0 m c) (A1 m c) (A2 m c) :=
  (dats m 0 c).arrAt_eq_of_cover 3 _ (flushed3_eq m c) fun j => by
    have h0 : (j 0).val < 4096 := (j 0).isLt
    have h1 : (j 1).val < 2048 := (j 1).isLt
    have ht : (j 0).val / 512 < cfg0.N := by rw [show cfg0.N = 8 from N_0]; omega
    refine ⟨⟨(j 0).val / 512, ht⟩, flush0_3 _, ?_⟩
    show j ∈ ((View.whole main_v1_0).slice (win0_3.rect (⟨(j 0).val / 512, ht⟩ : Fin cfg0.N))).set
    rw [View.set_slice_whole, Pipeline.Window.mem_rect_iff win0_3 _ _ rfl]
    intro a
    fin_cases a
    · show win0_3.index _ 0 * 512 ≤ (j 0).val ∧ (j 0).val < win0_3.index _ 0 * 512 + 512
      rw [(index3 _).1]; show (j 0).val / 512 * 512 ≤ (j 0).val ∧ (j 0).val < (j 0).val / 512 * 512 + 512; omega
    · show win0_3.index _ 1 * 2048 ≤ (j 1).val ∧ (j 1).val < win0_3.index _ 1 * 2048 + 2048
      rw [(index3 _).2]; omega

theorem final4 : (dats m 0 c).arrAt 4 cfg0.N = added (A0 m c) (A1 m c) (A2 m c) :=
  (dats m 0 c).arrAt_eq_of_cover 4 _ (flushed4_eq m c) fun j => by
    have h0 : (j 0).val < 4096 := (j 0).isLt
    have h1 : (j 1).val < 2048 := (j 1).isLt
    have ht : (j 0).val / 512 < cfg0.N := by rw [show cfg0.N = 8 from N_0]; omega
    refine ⟨⟨(j 0).val / 512, ht⟩, flush0_4 _, ?_⟩
    show j ∈ ((View.whole main_v1_1).slice (win0_4.rect (⟨(j 0).val / 512, ht⟩ : Fin cfg0.N))).set
    rw [View.set_slice_whole, Pipeline.Window.mem_rect_iff win0_4 _ _ rfl]
    intro a
    fin_cases a
    · show win0_4.index _ 0 * 512 ≤ (j 0).val ∧ (j 0).val < win0_4.index _ 0 * 512 + 512
      rw [(index4 _).1]; show (j 0).val / 512 * 512 ≤ (j 0).val ∧ (j 0).val < (j 0).val / 512 * 512 + 512; omega
    · show win0_4.index _ 1 * 2048 ≤ (j 1).val ∧ (j 1).val < win0_4.index _ 1 * 2048 + 2048
      rw [(index4 _).2]; omega

/-- The run, read: both result arrays, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1_0) = added (A0 m c) (A1 m c) (A2 m c)
      ∧ r.2.mem ((c : Thread nD τ).loc main_v1_1) = added (A0 m c) (A1 m c) (A2 m c)
      ∧ r.2.mem ((c : Thread nD τ).loc main_arg0) = A0 m c
      ∧ r.2.mem ((c : Thread nD τ).loc main_arg1) = A1 m c
      ∧ r.2.mem ((c : Thread nD τ).loc main_arg2) = A2 m c :=
  (θ_run defs _ _).mono (fun _ h c => ⟨(h c).1.trans (final3 m c), (h c).2.1.trans (final4 m c), (h c).2.2⟩) (Value.run_blocks m ρ)

end Cert.PleHIdeal.Body

end
-- ==== Proof.PleHClaim.lean ====
/-
  The gradient through the embedding's gate: the reference differentiates the rows and their product; its result is the
  kernel's (`added` of PleHValue.lean) on all arguments.
-/
module

public import proofs.«01_k».proof.Defs
public import proofs.«01_k».proof.Proof.PleHValue
public import proofs.«01_k».proof.Proof.Gen.PleHRefIdeal.Read
public import Idealize.ShloMosaic.Lib.Quiescent

@[expose] public section

set_option maxRecDepth 16384

noncomputable section

namespace Cert.PleHClaim

open Idealize.ShloMosaic Idealize.SL.Sem
open Cert.PleHIdeal.Body (added A0 A1 A2)
open Cert.PleHRefIdeal Cert.PleHRefIdeal.Gen Cert.PleHRefIdeal.Read

theorem reads (Q : S4096x2048.Idx → EReal) (W : S2048x2048.Idx → EReal) (H : S4096x2048.Idx → EReal) :
    val_main_v4 (F := Ideal) Q W H = added Q W H := by
  funext j
  obtain ⟨s, l, rfl⟩ : ∃ (s : Fin 4096) (l : Fin 2048), j = ix2 s l := ⟨j 0, j 1, eq_ix2 j⟩
  refine (val_main_v4_apply (F := Ideal) Q W H _).trans (congrArg (fun x : EReal => H (ix2 s l) + x) ?_)
  rw [val_main_v3_apply]
  refine Finset.sum_congr rfl fun k _ => ?_
  have e0 : lidx_main_v3 (ix2 s l) k = ix2 s k := funext fun a => by fin_cases a <;> rfl
  have e1 : ridx_main_v3 (ix2 s l) k = ix2 l k := funext fun a => by fin_cases a <;> rfl
  rw [val_main_v2_apply, e0, e1]
  rfl

theorem algebraic : Cert.algebraic_PleHIdeal_PleHRefIdeal := by
  intro m g m' g' _ hargs
  refine ⟨fun c => added (A0 m c) (A1 m c) (A2 m c), fun c => added (A0 m c) (A1 m c) (A2 m c), Cert.PleHIdeal.Body.run m g,
    (θ_run Cert.PleHRefIdeal.defs _ _).mono (fun r h c => ⟨?_, ?_, (h c).2.2⟩) (Cert.PleHRefIdeal.Value.run m' g')⟩
  all_goals obtain ⟨e0, e1, e2⟩ := hargs c
  · rw [(h c).1, val_main_v4_eq, e0, e1, e2]
    exact reads _ _ _
  · rw [(h c).2.1, val_main_v5_eq, e0, e1, e2]
    exact (funext fun j => val_main_v5_apply (F := Ideal) _ _ _ j).trans (reads _ _ _)

/-- The reference's run keeps its arguments; its machine has no semaphore. -/
theorem reference_frame : Cert.quiescent_PleHRefIdeal := fun m g _ =>
  (θ_run Cert.PleHRefIdeal.defs _ _).mono (fun r h => ⟨fun c => (h c).2.2, sem_eq_zero_of_no_sems rfl r.2⟩) (Cert.PleHRefIdeal.Value.run m g)

end Cert.PleHClaim

end
-- ==== Proof.PleKernel.lean ====
/-
  The loss head, kernel side: what one grid point's body computes from its blocks, one row at a time.
-/
module

public import proofs.«01_k».proof.Proof.Gen.PleIdeal.Value
public import proofs.«01_k».proof.Proof.Gating

@[expose] public section
noncomputable section
namespace Cert.PleIdeal.Body
open Idealize.ShloMosaic Cert.PleIdeal Cert.PleIdeal.Gen Cert.RmsNorm Cert.Gating

set_option maxRecDepth 16384

variable (v3 : Vec Ideal S256x256 .f32) (v5 v8 : Vec Ideal S256x2048 .bf16) (v10 : Vec Ideal S2048x2048 .bf16)
  (v20 v36 : Vec Ideal S256x2048 .f32) (v33 v51 : Vec Ideal S1x2048 .f32) (v41 : Vec Ideal S1x1 .f32) (r : Fin 256) (l : Fin 2048)

/-- The rows of a block: the residual line, the embedding's line, its gate's line, the gain, the target. -/
def hRow (r : Fin 256) (l : Fin 2048) : EReal := v20 (ix2 r l)
def eRow (r : Fin 256) (l : Fin 2048) : EReal := ∑ k : Fin 256, v3 (ix2 r k) * v5 (ix2 k l)
def qRow (r : Fin 256) (l : Fin 2048) : EReal := ∑ k : Fin 2048, v8 (ix2 r k) * v10 (ix2 k l)
def gRow (l : Fin 2048) : EReal := v33 (ix2 0 l)
def yRow (r : Fin 256) (l : Fin 2048) : EReal := v36 (ix2 r l)

theorem pay4_apply : k0_pay4 v3 v5 (ix2 r l) = eRow v3 v5 r l := by
  unfold eRow
  pointwise [k0_pay4]

theorem pay5_apply : k0_pay5 v8 v10 (ix2 r l) = gate (qRow v8 v10 r l) := by
  unfold qRow
  pointwise [k0_pay5]
  rw [← gate_sub]

theorem pay6_apply : k0_pay6 v3 v5 v8 v10 v20 (ix2 r l) = mixed (hRow v20 r) (eRow v3 v5 r) (qRow v8 v10 r) l := by
  pointwise [k0_pay6]
  rw [pay4_apply, pay5_apply]
  rfl

theorem pay7_apply (z : Fin 1) : k0_pay7 v3 v5 v8 v10 v20 (ix2 r z) = scale (mixed (hRow v20 r) (eRow v3 v5 r) (qRow v8 v10 r)) 2048 eps := by
  pointwise [k0_pay7]
  rw [ofBits_length, ofBits_eps]
  simp only [pay6_apply]
  rfl

theorem pay8_apply : k0_pay8 v3 v5 v8 v10 v20 (ix2 r l) = normed (hRow v20 r) (eRow v3 v5 r) (qRow v8 v10 r) l := by
  pointwise [k0_pay8]
  rw [pay6_apply, pay7_apply]
  rfl

theorem pay9_apply : k0_pay9 v3 v5 v8 v10 v20 v33 (ix2 r l) = normed (hRow v20 r) (eRow v3 v5 r) (qRow v8 v10 r) l * gRow v33 l := by
  pointwise [k0_pay9]
  rw [pay8_apply]
  rfl

theorem pay10_apply : k0_pay10 (k0_pay9 v3 v5 v8 v10 v20 v33) v36 (ix2 r l)
    = err (hRow v20 r) (eRow v3 v5 r) (qRow v8 v10 r) (gRow v33) (yRow v36 r) l := by
  pointwise [k0_pay10]
  rw [pay9_apply]
  rfl

theorem pay11_apply (z z' : Fin 1) : k0_pay11 (k0_pay9 v3 v5 v8 v10 v20 v33) v36 v41 (ix2 z z')
    = v41 (ix2 z z') + ∑ r : Fin 256, ((1 / 4096 : ℝ) : EReal) * squares (hRow v20 r) (eRow v3 v5 r) (qRow v8 v10 r) (gRow v33) (yRow v36 r) := by
  pointwise [k0_pay11]
  rw [ofBits_half_per_length, real_mul_sum _ (by norm_num)]
  simp only [pay10_apply]
  rfl

theorem pay12_apply : k0_pay12 (k0_pay9 v3 v5 v8 v10 v20 v33) v36 (ix2 r l)
    = given (hRow v20 r) (eRow v3 v5 r) (qRow v8 v10 r) (gRow v33) (yRow v36 r) l := by
  pointwise [k0_pay12]
  rw [pay10_apply, ofBits_per_length]
  rfl

theorem pay13_apply (z : Fin 1) : k0_pay13 (k0_pay8 v3 v5 v8 v10 v20) (k0_pay9 v3 v5 v8 v10 v20 v33) v36 v51 (ix2 z l)
    = v51 (ix2 z l) + ∑ r : Fin 256, given (hRow v20 r) (eRow v3 v5 r) (qRow v8 v10 r) (gRow v33) (yRow v36 r) l
        * normed (hRow v20 r) (eRow v3 v5 r) (qRow v8 v10 r) l := by
  pointwise [k0_pay13]
  simp only [pay12_apply, pay8_apply]

/-- The gradient of the residual line, as the body leaves it; then the embedding's line's and its gate's. -/
abbrev backBlock : FVec Ideal S256x2048 .f32 := k0_pay14 (k0_pay7 v3 v5 v8 v10 v20) (k0_pay8 v3 v5 v8 v10 v20) v33 (k0_pay9 v3 v5 v8 v10 v20 v33) v36
abbrev lineBlock : FVec Ideal S256x2048 .bf16 := k0_pay15 (k0_pay5 v8 v10) (k0_pay7 v3 v5 v8 v10 v20) (k0_pay8 v3 v5 v8 v10 v20) v33 (k0_pay9 v3 v5 v8 v10 v20 v33) v36
abbrev gateBlock : FVec Ideal S256x2048 .bf16 := k0_pay1 (k0_pay4 v3 v5) (k0_pay5 v8 v10) (backBlock v3 v5 v8 v10 v20 v36 v33)

theorem pay14_apply : backBlock v3 v5 v8 v10 v20 v36 v33 (ix2 r l)
    = backward (hRow v20 r) (eRow v3 v5 r) (qRow v8 v10 r) (gRow v33) (yRow v36 r) l := by
  pointwise [backBlock, k0_pay14]
  rw [ofBits_length]
  simp only [pay12_apply, pay8_apply, pay7_apply]
  rfl

theorem pay15_apply : lineBlock v3 v5 v8 v10 v20 v36 v33 (ix2 r l)
    = backward (hRow v20 r) (eRow v3 v5 r) (qRow v8 v10 r) (gRow v33) (yRow v36 r) l * gate (qRow v8 v10 r l) := by
  refine Eq.trans (b := backBlock v3 v5 v8 v10 v20 v36 v33 (ix2 r l) * k0_pay5 v8 v10 (ix2 r l)) rfl ?_
  rw [pay14_apply, pay5_apply]

theorem pay1_apply : gateBlock v3 v5 v8 v10 v20 v36 v33 (ix2 r l)
    = backward (hRow v20 r) (eRow v3 v5 r) (qRow v8 v10 r) (gRow v33) (yRow v36 r) l * eRow v3 v5 r l * gate (qRow v8 v10 r l)
      * (1 - gate (qRow v8 v10 r l)) := by
  refine Eq.trans (b := backBlock v3 v5 v8 v10 v20 v36 v33 (ix2 r l) * k0_pay4 v3 v5 (ix2 r l) * k0_pay5 v8 v10 (ix2 r l)
    * (Ideal.ofBits .f32 0x3F800000#32 - k0_pay5 v8 v10 (ix2 r l))) rfl ?_
  rw [pay14_apply, pay5_apply, pay4_apply, Ideal.ofBits_one_f32]

end Cert.PleIdeal.Body

end
-- ==== Proof.PleValue.lean ====
/-
  The loss head, kernel side: the five result arrays as functions of the arguments. Grid point `t` has rows
  `256 t … 256 t + 255`; three row gradients are written back at every point, the gain's gradient and the loss once, after
  the last.
-/
module

public import proofs.«01_k».proof.Proof.PleKernel
public import Idealize.ShloMosaic.Lib.Pipeline.ValueKit.Acc
public import Idealize.ShloMosaic.Lib.Pipeline.ValueKit.Geometry

@[expose] public section

set_option maxRecDepth 16384

noncomputable section

namespace Cert.PleIdeal.Body

open Cert.PleIdeal Cert.PleIdeal.Gen Cert.RmsNorm Cert.Gating Idealize.ShloMosaic Idealize.ShloMosaic.TcCoe Idealize.SL.Sem

section
variable (H : S4096x2048.Idx → EReal) (P : S4096x256.Idx → EReal) (Wg : S2048x2048.Idx → EReal) (Wp : S256x2048.Idx → EReal)
  (Y : S4096x2048.Idx → EReal) (G : S1x2048.Idx → EReal) (s : Fin 4096)

/-- Row `s` of the residual line, of the embedding's line, of its gate's line and of the target; the gain. -/
def hAt (l : Fin 2048) : EReal := H (ix2 s l)
def eAt (l : Fin 2048) : EReal := ∑ k : Fin 256, P (ix2 s k) * Wp (ix2 k l)
def qAt (l : Fin 2048) : EReal := ∑ k : Fin 2048, H (ix2 s k) * Wg (ix2 k l)
def gAt (l : Fin 2048) : EReal := G (ix2 0 l)
def yAt (l : Fin 2048) : EReal := Y (ix2 s l)

/-- The gradient of the residual line through the head. -/
def backResult : S4096x2048.Idx → EReal := fun j =>
  backward (hAt H (j 0)) (eAt P Wp (j 0)) (qAt H Wg (j 0)) (gAt G) (yAt Y (j 0)) (j 1)

/-- The gradient of the embedding's line, and of its gate's. -/
def lineResult : S4096x2048.Idx → EReal := fun j => backResult H P Wg Wp Y G j * gate (qAt H Wg (j 0) (j 1))
def gateResult : S4096x2048.Idx → EReal := fun j =>
  backResult H P Wg Wp Y G j * eAt P Wp (j 0) (j 1) * gate (qAt H Wg (j 0) (j 1)) * (1 - gate (qAt H Wg (j 0) (j 1)))

/-- Row `s`'s part of the gain's gradient at column `l`, and of the loss. -/
def gainPart (l : Fin 2048) (s : Fin 4096) : EReal :=
  given (hAt H s) (eAt P Wp s) (qAt H Wg s) (gAt G) (yAt Y s) l * normed (hAt H s) (eAt P Wp s) (qAt H Wg s) l
def lossPart (s : Fin 4096) : EReal := ((1 / 4096 : ℝ) : EReal) * squares (hAt H s) (eAt P Wp s) (qAt H Wg s) (gAt G) (yAt Y s)

/-- The gain's gradient and the loss. -/
def gainResult : S1x2048.Idx → EReal := fun j => ∑ s : Fin 4096, gainPart H P Wg Wp Y G (j 1) s
def lossResult : S1x1.Idx → EReal := fun _ => ∑ s : Fin 4096, lossPart H P Wg Wp Y G s
end

variable (m : (ℓ : Loc nD τ sig) → Buf (Elt Ideal) ℓ) (c : Dev nD)

/-- The arguments as arrays. -/
abbrev A0 : S4096x2048.Idx → EReal := m ((c : Thread nD τ).loc main_arg0)
abbrev A1 : S4096x256.Idx → EReal := m ((c : Thread nD τ).loc main_arg1)
abbrev A2 : S2048x2048.Idx → EReal := m ((c : Thread nD τ).loc main_arg2)
abbrev A3 : S256x2048.Idx → EReal := m ((c : Thread nD τ).loc main_arg3)
abbrev A4 : S4096x2048.Idx → EReal := m ((c : Thread nD τ).loc main_arg4)
abbrev A5 : S1x2048.Idx → EReal := m ((c : Thread nD τ).loc main_arg5)

theorem V_v0 (j : S4096x2048.Idx) : V m c main_v0 j = A0 m c j := by
  unfold V
  after_results
  rfl
theorem V_v1 (j : S2048x2048.Idx) : V m c main_v1 j = A2 m c j := by
  unfold V
  after_results
  rfl
theorem V_v2 (j : S256x2048.Idx) : V m c main_v2 j = A3 m c j := by
  unfold V
  after_results
  rfl

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index5 : ∀ t : Fin cfg0.N, win0_5.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index6 : ∀ t : Fin cfg0.N, win0_6.index t = ![0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0] := (by decide +kernel : ∀ t : Fin grid0.N, _)

/-- Row `r` of point `t`'s rows. -/
def row (t : Fin cfg0.N) (r : Fin 256) : Fin 4096 := ⟨t.val * 256 + r.val, by have : t.val < 16 := t.isLt; omega⟩

theorem blk0_apply (t : Fin cfg0.N) (r : Fin 256) (l : Fin 2048) :
    (iblk m c 0 t : Vec Ideal S256x2048 .f32) (ix2 r l) = A0 m c (ix2 (row t r) l) := by
  unfold iblk
  rw [View.read_apply]
  show V m c main_arg0 _ = _
  rw [V_main_arg0]
  blk_ext [index0, row]

theorem blk1_apply (t : Fin cfg0.N) (r : Fin 256) (l : Fin 2048) :
    (iblk m c 1 t : Vec Ideal S256x2048 .bf16) (ix2 r l) = A0 m c (ix2 (row t r) l) := by
  unfold iblk
  rw [View.read_apply]
  show V m c main_v0 _ = _
  rw [V_v0]
  blk_ext [index1, row]

theorem blk2_apply (t : Fin cfg0.N) (r : Fin 256) (l : Fin 256) :
    (iblk m c 2 t : Vec Ideal S256x256 .f32) (ix2 r l) = A1 m c (ix2 (row t r) l) := by
  unfold iblk
  rw [View.read_apply]
  show V m c main_arg1 _ = _
  rw [V_main_arg1]
  blk_ext [index2, row]

theorem blk3_apply (t : Fin cfg0.N) (k : Fin 2048) (l : Fin 2048) :
    (iblk m c 3 t : Vec Ideal S2048x2048 .bf16) (ix2 k l) = A2 m c (ix2 k l) := by
  unfold iblk
  rw [View.read_apply]
  show V m c main_v1 _ = _
  rw [V_v1]
  blk_ext [index3]

theorem blk4_apply (t : Fin cfg0.N) (k : Fin 256) (l : Fin 2048) :
    (iblk m c 4 t : Vec Ideal S256x2048 .bf16) (ix2 k l) = A3 m c (ix2 k l) := by
  unfold iblk
  rw [View.read_apply]
  show V m c main_v2 _ = _
  rw [V_v2]
  blk_ext [index4]

theorem blk5_apply (t : Fin cfg0.N) (r : Fin 256) (l : Fin 2048) :
    (iblk m c 5 t : Vec Ideal S256x2048 .f32) (ix2 r l) = A4 m c (ix2 (row t r) l) := by
  unfold iblk
  rw [View.read_apply]
  show V m c main_arg4 _ = _
  rw [V_main_arg4]
  blk_ext [index5, row]

theorem blk6_apply (t : Fin cfg0.N) (z : Fin 1) (l : Fin 2048) :
    (iblk m c 6 t : Vec Ideal S1x2048 .f32) (ix2 z l) = A5 m c (ix2 z l) := by
  unfold iblk
  rw [View.read_apply]
  show V m c main_arg5 _ = _
  rw [V_main_arg5]
  blk_ext [index6]

/-! The rows of point `t`'s blocks are rows of the arrays. -/

theorem hRow_eq (t : Fin cfg0.N) (r : Fin 256) : hRow (iblk m c 0 t) r = hAt (A0 m c) (row t r) := funext fun l => blk0_apply m c t r l
theorem eRow_eq (t : Fin cfg0.N) (r : Fin 256) : eRow (iblk m c 2 t) (iblk m c 4 t) r = eAt (A1 m c) (A3 m c) (row t r) :=
  funext fun l => Finset.sum_congr rfl fun k _ => congrArg₂ _ (blk2_apply m c t r k) (blk4_apply m c t k l)
theorem qRow_eq (t : Fin cfg0.N) (r : Fin 256) : qRow (iblk m c 1 t) (iblk m c 3 t) r = qAt (A0 m c) (A2 m c) (row t r) :=
  funext fun l => Finset.sum_congr rfl fun k _ => congrArg₂ _ (blk1_apply m c t r k) (blk3_apply m c t k l)
theorem gRow_eq (t : Fin cfg0.N) : gRow (iblk m c 6 t) = gAt (A5 m c) := funext fun l => blk6_apply m c t 0 l
theorem yRow_eq (t : Fin cfg0.N) (r : Fin 256) : yRow (iblk m c 5 t) r = yAt (A4 m c) (row t r) := funext fun l => blk5_apply m c t r l

/-! What point `t` leaves in each block. -/

theorem back_eq (t : Fin cfg0.N) (r : Fin 256) (l : Fin 2048) :
    backBlock (iblk m c 2 t) (iblk m c 4 t) (iblk m c 1 t) (iblk m c 3 t) (iblk m c 0 t) (iblk m c 5 t) (iblk m c 6 t) (ix2 r l)
      = backResult (A0 m c) (A1 m c) (A2 m c) (A3 m c) (A4 m c) (A5 m c) (ix2 (row t r) l) := by
  rw [pay14_apply, hRow_eq, eRow_eq, qRow_eq, gRow_eq, yRow_eq]
  rfl

theorem rows_eq (t : Fin cfg0.N) (r : Fin 256) (l : Fin 2048) :
    (outsAt0 m c t.val t.isLt).2.2.1 (ix2 r l) = backResult (A0 m c) (A1 m c) (A2 m c) (A3 m c) (A4 m c) (A5 m c) (ix2 (row t r) l) := by
  by_cases h : t.val % 16 = 0
  · rw [outsAt0_A m c t h]; frame_out; exact back_eq m c t r l
  · rw [outsAt0_B m c t h]; frame_out; exact back_eq m c t r l

theorem line_eq (t : Fin cfg0.N) (r : Fin 256) (l : Fin 2048) :
    lineBlock (iblk m c 2 t) (iblk m c 4 t) (iblk m c 1 t) (iblk m c 3 t) (iblk m c 0 t) (iblk m c 5 t) (iblk m c 6 t) (ix2 r l)
      = lineResult (A0 m c) (A1 m c) (A2 m c) (A3 m c) (A4 m c) (A5 m c) (ix2 (row t r) l) := by
  rw [pay15_apply, hRow_eq, eRow_eq, qRow_eq, gRow_eq, yRow_eq]
  rfl

theorem lines_eq (t : Fin cfg0.N) (r : Fin 256) (l : Fin 2048) :
    (outsAt0 m c t.val t.isLt).1 (ix2 r l) = lineResult (A0 m c) (A1 m c) (A2 m c) (A3 m c) (A4 m c) (A5 m c) (ix2 (row t r) l) := by
  by_cases h : t.val % 16 = 0
  · rw [outsAt0_A m c t h]; frame_out; exact line_eq m c t r l
  · rw [outsAt0_B m c t h]; frame_out; exact line_eq m c t r l

theorem gate_eq (t : Fin cfg0.N) (r : Fin 256) (l : Fin 2048) :
    gateBlock (iblk m c 2 t) (iblk m c 4 t) (iblk m c 1 t) (iblk m c 3 t) (iblk m c 0 t) (iblk m c 5 t) (iblk m c 6 t) (ix2 r l)
      = gateResult (A0 m c) (A1 m c) (A2 m c) (A3 m c) (A4 m c) (A5 m c) (ix2 (row t r) l) := by
  rw [pay1_apply, hRow_eq, eRow_eq, qRow_eq, gRow_eq, yRow_eq]
  rfl

theorem gates_eq (t : Fin cfg0.N) (r : Fin 256) (l : Fin 2048) :
    (outsAt0 m c t.val t.isLt).2.1 (ix2 r l) = gateResult (A0 m c) (A1 m c) (A2 m c) (A3 m c) (A4 m c) (A5 m c) (ix2 (row t r) l) := by
  by_cases h : t.val % 16 = 0
  · rw [outsAt0_A m c t h]; frame_out; exact gate_eq m c t r l
  · rw [outsAt0_B m c t h]; frame_out; exact gate_eq m c t r l

/-- What point `t` adds to the gain's gradient, and to the loss. -/
def gainTerm (t : Fin cfg0.N) (j : S1x2048.Idx) : EReal := ∑ r : Fin 256, gainPart (A0 m c) (A1 m c) (A2 m c) (A3 m c) (A4 m c) (A5 m c) (j 1) (row t r)
def lossTerm (t : Fin cfg0.N) (_ : S1x1.Idx) : EReal := ∑ r : Fin 256, lossPart (A0 m c) (A1 m c) (A2 m c) (A3 m c) (A4 m c) (A5 m c) (row t r)

theorem gain_step (t : Fin cfg0.N) (v : Vec Ideal S1x2048 .f32) (j : S1x2048.Idx) :
    k0_pay13 (k0_pay8 (iblk m c 2 t) (iblk m c 4 t) (iblk m c 1 t) (iblk m c 3 t) (iblk m c 0 t))
      (k0_pay9 (iblk m c 2 t) (iblk m c 4 t) (iblk m c 1 t) (iblk m c 3 t) (iblk m c 0 t) (iblk m c 6 t)) (iblk m c 5 t) v j
      = v j + gainTerm m c t j := by
  obtain ⟨z, l, rfl⟩ : ∃ (z : Fin 1) (l : Fin 2048), j = ix2 z l := ⟨j 0, j 1, eq_ix2 j⟩
  rw [pay13_apply]
  simp only [hRow_eq, eRow_eq, qRow_eq, gRow_eq, yRow_eq]
  rfl

theorem loss_step (t : Fin cfg0.N) (v : Vec Ideal S1x1 .f32) (j : S1x1.Idx) :
    k0_pay11 (k0_pay9 (iblk m c 2 t) (iblk m c 4 t) (iblk m c 1 t) (iblk m c 3 t) (iblk m c 0 t) (iblk m c 6 t)) (iblk m c 5 t) v j
      = v j + lossTerm m c t j := by
  obtain ⟨z, l, rfl⟩ : ∃ (z l : Fin 1), j = ix2 z l := ⟨j 0, j 1, eq_ix2 j⟩
  rw [pay11_apply]
  simp only [hRow_eq, eRow_eq, qRow_eq, gRow_eq, yRow_eq]
  rfl

theorem gain_zero (j : S1x2048.Idx) : k0_pay2 (F := Ideal) j = 0 := Ideal.ofBits_zero_f32
theorem loss_zero (j : S1x1.Idx) : k0_pay3 (F := Ideal) j = 0 := Ideal.ofBits_zero_f32

theorem gain_last (t : Fin cfg0.N) (ht : t.val + 1 = cfg0.N) (j : S1x2048.Idx) :
    (outsAt0 m c t.val t.isLt).2.2.2.1 j = gainResult (A0 m c) (A1 m c) (A2 m c) (A3 m c) (A4 m c) (A5 m c) j := by
  rw [Pipeline.eq_sum_fin_of_reset_step_apply_last (fun n h => (outsAt0 m c n h).2.2.2.1) 16 (fun _ => 0) (gainTerm m c)
    (fun t h j => by rw [outsAt0_A m c t h]; frame_out; rw [gain_step, gain_zero])
    (fun t h j => by rw [outsAt0_B m c t h]; frame_out; rw [gain_step]) (le_of_eq N_0) t ht j, zero_add]
  exact Fin.sum_mul_add_congr (S := 16) fun t r hl => rfl

theorem loss_last (t : Fin cfg0.N) (ht : t.val + 1 = cfg0.N) (j : S1x1.Idx) :
    (outsAt0 m c t.val t.isLt).2.2.2.2 j = lossResult (A0 m c) (A1 m c) (A2 m c) (A3 m c) (A4 m c) (A5 m c) j := by
  rw [Pipeline.eq_sum_fin_of_reset_step_apply_last (fun n h => (outsAt0 m c n h).2.2.2.2) 16 (fun _ => 0) (lossTerm m c)
    (fun t h j => by rw [outsAt0_A m c t h]; frame_out; rw [loss_step, loss_zero])
    (fun t h j => by rw [outsAt0_B m c t h]; frame_out; rw [loss_step]) (le_of_eq N_0) t ht j, zero_add]
  exact Fin.sum_mul_add_congr (S := 16) fun t r hl => rfl

theorem last_of_flush (t : Fin cfg0.N) (h : t.val % 16 = 15) : t.val + 1 = cfg0.N := by
  have h' : t.val < 16 := t.isLt
  have e : cfg0.N = 16 := N_0
  omega

theorem final7 : (dats m 0 c).arrAt 7 cfg0.N = lineResult (A0 m c) (A1 m c) (A2 m c) (A3 m c) (A4 m c) (A5 m c) := by
  refine (dats m 0 c).arrAt_eq_of_covers 7 _ (by decide +kernel) fun t hf y => ?_
  obtain ⟨r, l, rfl⟩ : ∃ (r : Fin 256) (l : Fin 2048), y = ix2 r l := ⟨y 0, y 1, eq_ix2 y⟩
  blk_simp
  rw [after0_7]
  refine (lines_eq m c t r l).trans (congrArg (lineResult (A0 m c) (A1 m c) (A2 m c) (A3 m c) (A4 m c) (A5 m c)) ?_)
  blk_ext [index7, row]

theorem final8 : (dats m 0 c).arrAt 8 cfg0.N = gateResult (A0 m c) (A1 m c) (A2 m c) (A3 m c) (A4 m c) (A5 m c) := by
  refine (dats m 0 c).arrAt_eq_of_covers 8 _ (by decide +kernel) fun t hf y => ?_
  obtain ⟨r, l, rfl⟩ : ∃ (r : Fin 256) (l : Fin 2048), y = ix2 r l := ⟨y 0, y 1, eq_ix2 y⟩
  blk_simp
  rw [after0_8]
  refine (gates_eq m c t r l).trans (congrArg (gateResult (A0 m c) (A1 m c) (A2 m c) (A3 m c) (A4 m c) (A5 m c)) ?_)
  blk_ext [index8, row]

theorem final9 : (dats m 0 c).arrAt 9 cfg0.N = backResult (A0 m c) (A1 m c) (A2 m c) (A3 m c) (A4 m c) (A5 m c) := by
  refine (dats m 0 c).arrAt_eq_of_covers 9 _ (by decide +kernel) fun t hf y => ?_
  obtain ⟨r, l, rfl⟩ : ∃ (r : Fin 256) (l : Fin 2048), y = ix2 r l := ⟨y 0, y 1, eq_ix2 y⟩
  blk_simp
  rw [after0_9]
  refine (rows_eq m c t r l).trans (congrArg (backResult (A0 m c) (A1 m c) (A2 m c) (A3 m c) (A4 m c) (A5 m c)) ?_)
  blk_ext [index9, row]

theorem final10 : (dats m 0 c).arrAt 10 cfg0.N = gainResult (A0 m c) (A1 m c) (A2 m c) (A3 m c) (A4 m c) (A5 m c) := by
  refine (dats m 0 c).arrAt_eq_of_covers 10 _ (by decide +kernel) fun t hf y => ?_
  have ht := last_of_flush t ((flush0_10 t).mp hf)
  blk_simp
  rw [after0_10]
  refine (gain_last m c t ht _).trans (congrArg (gainResult (A0 m c) (A1 m c) (A2 m c) (A3 m c) (A4 m c) (A5 m c)) ?_)
  blk_ext [index10]

theorem final11 : (dats m 0 c).arrAt 11 cfg0.N = lossResult (A0 m c) (A1 m c) (A2 m c) (A3 m c) (A4 m c) (A5 m c) := by
  refine (dats m 0 c).arrAt_eq_of_covers 11 _ (by decide +kernel) fun t hf y => ?_
  have ht := last_of_flush t ((flush0_11 t).mp hf)
  blk_simp
  rw [after0_11]
  refine (loss_last m c t ht _).trans (congrArg (lossResult (A0 m c) (A1 m c) (A2 m c) (A3 m c) (A4 m c) (A5 m c)) ?_)
  blk_ext [index11]

/-- The run, read: the five result arrays, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v3_0) = lineResult (A0 m c) (A1 m c) (A2 m c) (A3 m c) (A4 m c) (A5 m c)
      ∧ r.2.mem ((c : Thread nD τ).loc main_v3_1) = gateResult (A0 m c) (A1 m c) (A2 m c) (A3 m c) (A4 m c) (A5 m c)
      ∧ r.2.mem ((c : Thread nD τ).loc main_v3_2) = backResult (A0 m c) (A1 m c) (A2 m c) (A3 m c) (A4 m c) (A5 m c)
      ∧ r.2.mem ((c : Thread nD τ).loc main_v3_3) = gainResult (A0 m c) (A1 m c) (A2 m c) (A3 m c) (A4 m c) (A5 m c)
      ∧ r.2.mem ((c : Thread nD τ).loc main_v3_4) = lossResult (A0 m c) (A1 m c) (A2 m c) (A3 m c) (A4 m c) (A5 m c)
      ∧ r.2.mem ((c : Thread nD τ).loc main_arg0) = A0 m c
      ∧ r.2.mem ((c : Thread nD τ).loc main_arg1) = A1 m c
      ∧ r.2.mem ((c : Thread nD τ).loc main_arg2) = A2 m c
      ∧ r.2.mem ((c : Thread nD τ).loc main_arg3) = A3 m c
      ∧ r.2.mem ((c : Thread nD τ).loc main_arg4) = A4 m c
      ∧ r.2.mem ((c : Thread nD τ).loc main_arg5) = A5 m c :=
  (θ_run defs _ _).mono (fun _ h c => ⟨(h c).1.trans (final7 m c), (h c).2.1.trans (final8 m c), (h c).2.2.1.trans (final9 m c),
    (h c).2.2.2.1.trans (final10 m c), (h c).2.2.2.2.1.trans (final11 m c), (h c).2.2.2.2.2⟩) (Value.run_blocks m ρ)

end Cert.PleIdeal.Body

end
-- ==== Proof.PleReference.lean ====
/-
  The loss head, reference side: the loss and its gradients are the five arrays the kernel leaves (PleValue.lean), on all
  arguments.
-/
module

public import proofs.«01_k».proof.Proof.PleValue
public import proofs.«01_k».proof.Proof.Gen.PleRefIdeal.Read

@[expose] public section

set_option maxRecDepth 16384

noncomputable section

namespace Cert.PleRefIdeal.Body

open Cert.PleRefIdeal Cert.PleRefIdeal.Gen Cert.PleRefIdeal.Read Cert.RmsNorm Cert.Gating Idealize.ShloMosaic
open Cert.PleIdeal.Body (hAt eAt qAt gAt yAt backResult lineResult gateResult gainResult lossResult gainPart lossPart)

variable (H : S4096x2048.Idx → EReal) (P : S4096x256.Idx → EReal) (Wg : S2048x2048.Idx → EReal) (Wp : S256x2048.Idx → EReal)
  (Y : S4096x2048.Idx → EReal) (G : S1x2048.Idx → EReal) (s : Fin 4096) (l : Fin 2048)

theorem e_apply : val_main_v0 (F := Ideal) P Wp (ix2 s l) = eAt P Wp s l := by
  rw [val_main_v0_apply]
  exact Finset.sum_congr rfl fun k _ => congrArg₂ (fun a b : EReal => a * b)
    (congrArg P (funext fun a => by fin_cases a <;> rfl)) (congrArg Wp (funext fun a => by fin_cases a <;> rfl))

theorem q_apply : val_main_v1 (F := Ideal) H Wg (ix2 s l) = qAt H Wg s l := by
  rw [val_main_v1_apply]
  exact Finset.sum_congr rfl fun k _ => congrArg₂ (fun a b : EReal => a * b)
    (congrArg H (funext fun a => by fin_cases a <;> rfl)) (congrArg Wg (funext fun a => by fin_cases a <;> rfl))

theorem gate_apply : val_main_v7 (F := Ideal) H Wg (ix2 s l) = gate (qAt H Wg s l) := by
  rw [val_main_v7_apply, val_main_v5_apply, val_main_v3_apply, val_main_v2_apply, q_apply]
  show Ideal.div (Ideal.ofBits .f32 0x3F800000#32) (Ideal.ofBits .f32 0x3F800000#32 + Ideal.exp (-qAt H Wg s l)) = _
  rw [Ideal.ofBits_one_f32]
  rfl

theorem gate_slope_apply : val_main_v10 (F := Ideal) H Wg (ix2 s l) = gate (qAt H Wg s l) * (1 - gate (qAt H Wg s l)) := by
  rw [val_main_v10_apply, val_main_v9_apply, gate_apply]
  show gate (qAt H Wg s l) * (Ideal.ofBits .f32 0x3F800000#32 - gate (qAt H Wg s l)) = _
  rw [Ideal.ofBits_one_f32]

theorem mixed_apply : val_main_v12 (F := Ideal) H P Wg Wp (ix2 s l) = mixed (hAt H s) (eAt P Wp s) (qAt H Wg s) l := by
  rw [val_main_v12_apply, val_main_v11_apply, e_apply, gate_apply]
  rfl

theorem level_apply (z : Fin 1) : val_main_v20 (F := Ideal) H P Wg Wp (ix2 s z)
    = level (mixed (hAt H s) (eAt P Wp s) (qAt H Wg s)) 2048 eps := by
  rw [val_main_v20_apply, val_main_v18_apply, val_main_v16_apply, val_main_v15_apply, val_main_v17_apply, val_main_v19_apply]
  have e : ∀ k, idx_main_v15 (idx_main_v16 (ix2 s z)) k = ix2 s k := fun k => funext fun a => by fin_cases a <;> rfl
  simp only [e, val_main_v14_apply, mixed_apply]
  show Ideal.div (Ideal.ofBits .f32 0x00000000#32 + ∑ k : Fin 2048, mixed (hAt H s) (eAt P Wp s) (qAt H Wg s) k
    * mixed (hAt H s) (eAt P Wp s) (qAt H Wg s) k) (Ideal.ofBits .f32 0x45000000#32) + Ideal.ofBits .f32 0x358637BD#32 = _
  rw [Ideal.ofBits_zero_f32, zero_add, ofBits_length, ofBits_eps]
  rfl

theorem scale_apply (z : Fin 1) : val_main_v21 (F := Ideal) H P Wg Wp (ix2 s z)
    = scale (mixed (hAt H s) (eAt P Wp s) (qAt H Wg s)) 2048 eps := by
  rw [val_main_v21_apply, level_apply]
  rfl

theorem normed_apply : val_main_v26 (F := Ideal) H P Wg Wp (ix2 s l) = normed (hAt H s) (eAt P Wp s) (qAt H Wg s) l := by
  rw [val_main_v26_apply, val_main_v25_apply, mixed_apply]
  have e : idx_main_v25 (ix2 s l) = ix2 s 0 := funext fun a => by fin_cases a <;> rfl
  rw [e, scale_apply]
  rfl

theorem gain_row : val_main_v28 (F := Ideal) G (ix2 s l) = gAt G l := by
  rw [val_main_v28_apply, val_main_v27_apply, val_main_v13_apply]
  exact congrArg G (funext fun a => by
    fin_cases a
    · rfl
    · exact Fin.ext (by show l.val % 2048 = l.val; have := l.isLt; omega))

theorem gain_row' : val_main_v48 (F := Ideal) G (ix2 s l) = gAt G l := gain_row G s l

theorem err_apply : val_main_v30 (F := Ideal) H P Wg Wp Y G (ix2 s l)
    = err (hAt H s) (eAt P Wp s) (qAt H Wg s) (gAt G) (yAt Y s) l := by
  rw [val_main_v30_apply, val_main_v29_apply, normed_apply, gain_row]
  rfl

theorem given_apply : val_main_v44 (F := Ideal) H P Wg Wp Y G (ix2 s l)
    = given (hAt H s) (eAt P Wp s) (qAt H Wg s) (gAt G) (yAt Y s) l := by
  rw [val_main_v44_apply, val_main_v33_apply, err_apply]
  show Ideal.div (Ideal.ofBits .f32 0x3F000000#32 * Ideal.ofBits .f32 0x3F800000#32) (Ideal.ofBits .f32 0x45000000#32)
    * (Ideal.ofBits .f32 0x40000000#32 * err (hAt H s) (eAt P Wp s) (qAt H Wg s) (gAt G) (yAt Y s) l) = _
  rw [ofBits_half, Ideal.ofBits_one_f32, ofBits_length, ofBits_two, mul_one, Ideal.div_coe (by norm_num), ← EReal.coe_mul, ← mul_assoc,
    ← EReal.coe_mul, mul_comm]
  unfold given
  refine congrArg (fun r : ℝ => err (hAt H s) (eAt P Wp s) (qAt H Wg s) (gAt G) (yAt Y s) l * (r : EReal)) ?_
  norm_num

theorem gained_apply : val_main_v49 (F := Ideal) H P Wg Wp Y G (ix2 s l)
    = given (hAt H s) (eAt P Wp s) (qAt H Wg s) (gAt G) (yAt Y s) l * gAt G l := by
  rw [val_main_v49_apply, given_apply, gain_row']
  rfl

theorem slope_apply : val_main_v59 (F := Ideal) H P Wg Wp Y G (ix1 s) = slope (mixed (hAt H s) (eAt P Wp s) (qAt H Wg s))
    (fun k => given (hAt H s) (eAt P Wp s) (qAt H Wg s) (gAt G) (yAt Y s) k * gAt G k) 2048 eps := by
  rw [val_main_v59_apply, Fin.sum_univ_one, val_main_v58_apply, val_main_v56_apply, val_main_v53_apply, val_main_v52_apply,
    val_main_v24_apply, val_main_v22_apply, val_main_v23_apply, val_main_v57_apply]
  have e1 : idx_main_v59 (ix1 s) 0 = ix2 s 0 := funext fun a => by fin_cases a <;> rfl
  have e2 : ∀ k, idx_main_v52 (idx_main_v53 (ix2 s 0)) k = ix2 s k := fun k => funext fun a => by
    fin_cases a
    · exact Fin.ext (by show s.val * 1 + 0 = s.val; omega)
    · rfl
  rw [e1, scale_apply, level_apply]
  simp only [e2, val_main_v51_apply, gained_apply, mixed_apply]
  show Ideal.ofBits .f32 0x00000000#32 + Ideal.div ((Ideal.ofBits .f32 0x00000000#32 + ∑ k : Fin 2048, mixed (hAt H s) (eAt P Wp s) (qAt H Wg s) k
      * (given (hAt H s) (eAt P Wp s) (qAt H Wg s) (gAt G) (yAt Y s) k * gAt G k))
    * (Ideal.ofBits .f32 0xBF000000#32 * Ideal.div (scale (mixed (hAt H s) (eAt P Wp s) (qAt H Wg s)) 2048 eps)
      (level (mixed (hAt H s) (eAt P Wp s) (qAt H Wg s)) 2048 eps))) (Ideal.ofBits .f32 0x45000000#32) = _
  rw [Ideal.ofBits_zero_f32, zero_add, zero_add, ofBits_length, ofBits_minus_half]
  rfl

theorem back_apply : val_main_v64 (F := Ideal) H P Wg Wp Y G (ix2 s l) = backResult H P Wg Wp Y G (ix2 s l) := by
  rw [val_main_v64_apply, val_main_v62_apply, val_main_v55_apply, val_main_v54_apply, val_main_v61_apply, val_main_v63_apply,
    val_main_v60_apply, gained_apply, mixed_apply]
  have e1 : idx_main_v60 (ix2 s l) = ix1 s := funext fun a => by fin_cases a <;> rfl
  have e2 : idx_main_v54 (ix2 s l) = ix2 s 0 := funext fun a => by fin_cases a <;> rfl
  rw [e1, e2, slope_apply, scale_apply]
  refine Eq.trans ?_ (factored_eq (mixed (hAt H s) (eAt P Wp s) (qAt H Wg s)) (N := 2048) (by norm_num) eps_pos
    (fun k => given (hAt H s) (eAt P Wp s) (qAt H Wg s) (gAt G) (yAt Y s) k * gAt G k) l).symm
  exact add_assoc (_ : EReal) _ _

/-- The residual line's gradient. -/
theorem reads_back : val_main_v64 (F := Ideal) H P Wg Wp Y G = backResult H P Wg Wp Y G := by
  funext j
  obtain ⟨s, l, rfl⟩ : ∃ (s : Fin 4096) (l : Fin 2048), j = ix2 s l := ⟨j 0, j 1, eq_ix2 j⟩
  exact back_apply H P Wg Wp Y G s l

/-- The embedding's line's gradient. -/
theorem reads_line : val_main_v69 (F := Ideal) H P Wg Wp Y G = lineResult H P Wg Wp Y G := by
  funext j
  obtain ⟨s, l, rfl⟩ : ∃ (s : Fin 4096) (l : Fin 2048), j = ix2 s l := ⟨j 0, j 1, eq_ix2 j⟩
  refine (val_main_v69_apply (F := Ideal) H P Wg Wp Y G _).trans ?_
  show val_main_v67 (F := Ideal) H P Wg Wp Y G (ix2 s l) = _
  rw [val_main_v67_apply, back_apply, gate_apply]
  rfl

/-- Its gate's line's gradient. -/
theorem reads_gate : val_main_v70 (F := Ideal) H P Wg Wp Y G = gateResult H P Wg Wp Y G := by
  funext j
  obtain ⟨s, l, rfl⟩ : ∃ (s : Fin 4096) (l : Fin 2048), j = ix2 s l := ⟨j 0, j 1, eq_ix2 j⟩
  refine (val_main_v70_apply (F := Ideal) H P Wg Wp Y G _).trans ?_
  show val_main_v68 (F := Ideal) H P Wg Wp Y G (ix2 s l) = _
  rw [val_main_v68_apply, val_main_v66_apply, e_apply, back_apply, gate_slope_apply]
  show (eAt P Wp s l * backResult H P Wg Wp Y G (ix2 s l)) * (gate (qAt H Wg s l) * (1 - gate (qAt H Wg s l)))
    = backResult H P Wg Wp Y G (ix2 s l) * eAt P Wp s l * gate (qAt H Wg s l) * (1 - gate (qAt H Wg s l))
  rw [mul_comm (eAt P Wp s l), mul_assoc (_ * _) (gate _)]

/-- The gain's gradient. -/
theorem reads_gain : val_main_v65 (F := Ideal) H P Wg Wp Y G = gainResult H P Wg Wp Y G := by
  funext j
  obtain ⟨z, l, rfl⟩ : ∃ (z : Fin 1) (l : Fin 2048), j = ix2 z l := ⟨j 0, j 1, eq_ix2 j⟩
  rw [val_main_v65_apply, val_main_v50_apply, Fin.sum_univ_one, val_main_v47_apply, val_main_v46_apply]
  have e : ∀ s, idx_main_v46 (idx_main_v47 (idx_main_v50 (idx_main_v65 (ix2 z l)) 0)) s = ix2 s l := fun s => funext fun a => by
    fin_cases a
    · rfl
    · exact Fin.ext (by show 0 * 2048 + l.val = l.val; omega)
  show Ideal.ofBits .f32 0x00000000#32 + (Ideal.ofBits .f32 0x00000000#32 + _) = ∑ s : Fin 4096, gainPart H P Wg Wp Y G l s
  rw [Ideal.ofBits_zero_f32, zero_add, zero_add]
  refine Finset.sum_congr rfl fun s _ => ?_
  rw [e, val_main_v45_apply, normed_apply, given_apply]
  exact mul_comm (_ : EReal) _

theorem squares_apply : val_main_v36 (F := Ideal) H P Wg Wp Y G (ix1 s)
    = squares (hAt H s) (eAt P Wp s) (qAt H Wg s) (gAt G) (yAt Y s) * ((1 / 2048 : ℝ) : EReal) := by
  rw [val_main_v36_apply, val_main_v34_apply]
  have e : ∀ k, idx_main_v34 (ix1 s) k = ix2 s k := fun k => funext fun a => by fin_cases a <;> rfl
  simp only [e, val_main_v31_apply, err_apply]
  show Ideal.div (Ideal.ofBits .f32 0x00000000#32 + squares (hAt H s) (eAt P Wp s) (qAt H Wg s) (gAt G) (yAt Y s))
    (Ideal.ofBits .f32 0x45000000#32) = _
  rw [Ideal.ofBits_zero_f32, zero_add, ofBits_length, Ideal.div_coe (by norm_num)]

theorem loss_apply (i : S_.Idx) : val_main_v38 (F := Ideal) H P Wg Wp Y G i = ∑ s : Fin 4096, lossPart H P Wg Wp Y G s := by
  rw [val_main_v38_apply, val_main_v37_apply]
  have e : ∑ j : S4096.Idx, val_main_v36 (F := Ideal) H P Wg Wp Y G j = ∑ s : Fin 4096, val_main_v36 (F := Ideal) H P Wg Wp Y G (ix1 s) :=
    (Fintype.sum_bijective (fun s : Fin 4096 => (ix1 s : S4096.Idx))
      ⟨fun _ _ h => congrFun h 0, fun j => ⟨j 0, (eq_ix1 j).symm⟩⟩ _ _ fun _ => rfl).symm
  rw [e]
  show Ideal.ofBits .f32 0x3F000000#32 * (Ideal.ofBits .f32 0x00000000#32
    + ∑ s : Fin 4096, val_main_v36 (F := Ideal) H P Wg Wp Y G (ix1 s)) = _
  rw [Ideal.ofBits_zero_f32, zero_add, ofBits_half]
  simp only [squares_apply]
  refine (real_mul_sum _ (by norm_num) _).trans ?_
  refine Finset.sum_congr rfl fun s _ => ?_
  rw [mul_comm (squares _ _ _ _ _), ← mul_assoc, ← EReal.coe_mul]
  unfold lossPart
  refine congrArg₂ (fun (r : ℝ) (q : EReal) => (r : EReal) * q) (by norm_num) rfl

/-- The loss. -/
theorem reads_loss : val_main_v71 (F := Ideal) H P Wg Wp Y G = lossResult H P Wg Wp Y G :=
  funext fun _ => loss_apply H P Wg Wp Y G _

end Cert.PleRefIdeal.Body

end
-- ==== Proof.PleClaim.lean ====
/-
  The gated embedding and the loss head: the value claim, on all arguments.
-/
module

public import proofs.«01_k».proof.Defs
public import proofs.«01_k».proof.Proof.PleReference
public import Idealize.ShloMosaic.Lib.Quiescent

@[expose] public section

set_option maxRecDepth 16384

noncomputable section

namespace Cert.PleClaim

open Idealize.ShloMosaic Idealize.SL.Sem
open Cert.PleIdeal.Body (lineResult gateResult backResult gainResult lossResult A0 A1 A2 A3 A4 A5)

theorem algebraic : Cert.algebraic_PleIdeal_PleRefIdeal := by
  intro m g m' g' _ hargs
  refine ⟨fun c => lineResult (A0 m c) (A1 m c) (A2 m c) (A3 m c) (A4 m c) (A5 m c),
    fun c => gateResult (A0 m c) (A1 m c) (A2 m c) (A3 m c) (A4 m c) (A5 m c),
    fun c => backResult (A0 m c) (A1 m c) (A2 m c) (A3 m c) (A4 m c) (A5 m c),
    fun c => gainResult (A0 m c) (A1 m c) (A2 m c) (A3 m c) (A4 m c) (A5 m c),
    fun c => lossResult (A0 m c) (A1 m c) (A2 m c) (A3 m c) (A4 m c) (A5 m c), Cert.PleIdeal.Body.run m g,
    (θ_run Cert.PleRefIdeal.defs _ _).mono (fun r h c => ⟨?_, ?_, ?_, ?_, ?_, (h c).2.2.2.2.2⟩) (Cert.PleRefIdeal.Value.run m' g')⟩
  all_goals obtain ⟨e0, e1, e2, e3, e4, e5⟩ := hargs c
  · rw [(h c).1, Cert.PleRefIdeal.Read.val_main_v69_eq, e0, e1, e2, e3, e4, e5]
    exact Cert.PleRefIdeal.Body.reads_line _ _ _ _ _ _
  · rw [(h c).2.1, Cert.PleRefIdeal.Read.val_main_v70_eq, e0, e1, e2, e3, e4, e5]
    exact Cert.PleRefIdeal.Body.reads_gate _ _ _ _ _ _
  · rw [(h c).2.2.1, Cert.PleRefIdeal.Read.val_main_v64_eq, e0, e1, e2, e3, e4, e5]
    exact Cert.PleRefIdeal.Body.reads_back _ _ _ _ _ _
  · rw [(h c).2.2.2.1, Cert.PleRefIdeal.Read.val_main_v65_eq, e0, e1, e2, e3, e4, e5]
    exact Cert.PleRefIdeal.Body.reads_gain _ _ _ _ _ _
  · rw [(h c).2.2.2.2.1, Cert.PleRefIdeal.Read.val_main_v71_eq, e0, e1, e2, e3, e4, e5]
    exact Cert.PleRefIdeal.Body.reads_loss _ _ _ _ _ _

/-- The reference's run keeps its arguments; its machine has no semaphore. -/
theorem reference_frame : Cert.quiescent_PleRefIdeal := fun m g _ =>
  (θ_run Cert.PleRefIdeal.defs _ _).mono (fun r h => ⟨fun c => (h c).2.2.2.2.2, sem_eq_zero_of_no_sems rfl r.2⟩) (Cert.PleRefIdeal.Value.run m g)

end Cert.PleClaim

end
-- ==== Proof.lean ====
module

public import proofs.«01_k».proof.Defs
public import proofs.«01_k».proof.Proof.Gen.Pre_gate_finite
public import proofs.«01_k».proof.Proof.Gen.Pre_glu_finite
public import proofs.«01_k».proof.Proof.Gen.Pool.Frame
public import proofs.«01_k».proof.Proof.Gen.PoolIdeal.Frame
public import proofs.«01_k».proof.Proof.PoolClaim
public import proofs.«01_k».proof.Proof.Gen.Norm.Frame
public import proofs.«01_k».proof.Proof.Gen.NormIdeal.Frame
public import proofs.«01_k».proof.Proof.NormClaim
public import proofs.«01_k».proof.Proof.Gen.InW.Frame
public import proofs.«01_k».proof.Proof.Gen.InWIdeal.Frame
public import proofs.«01_k».proof.Proof.InWClaim
public import proofs.«01_k».proof.Proof.Gen.InProj.Frame
public import proofs.«01_k».proof.Proof.Gen.InProjIdeal.Frame
public import proofs.«01_k».proof.Proof.InProjClaim
public import proofs.«01_k».proof.Proof.AdamSmallRows
public import proofs.«01_k».proof.Proof.AdamSmallStates
public import proofs.«01_k».proof.Proof.AdamStatesClaim
public import proofs.«01_k».proof.Proof.AdamRowsClaim
public import proofs.«01_k».proof.Proof.Gen.AdamRowsRefIdeal.Run
public import proofs.«01_k».proof.Proof.Gen.AdamStatesRefIdeal.Run
public import proofs.«01_k».proof.Proof.Gen.AdamRows
public import proofs.«01_k».proof.Proof.Gen.AdamStates
public import proofs.«01_k».proof.Proof.Gen.AdamStatesIdeal
public import proofs.«01_k».proof.Proof.Gen.AdamRowsIdeal.Skeleton
public import proofs.«01_k».proof.Proof.Gen.AdamRowsIdeal.Points
public import proofs.«01_k».proof.Proof.Gen.AdamRowsIdeal.Launch
public import proofs.«01_k».proof.Proof.AdamPleGateClaim
public import proofs.«01_k».proof.Proof.AdamPleClaim
public import proofs.«01_k».proof.Proof.AdamOutClaim
public import proofs.«01_k».proof.Proof.AdamGluClaim
public import proofs.«01_k».proof.Proof.AdamPoolClaim
public import proofs.«01_k».proof.Proof.AdamInClaim
public import proofs.«01_k».proof.Proof.Gen.AdamIn.Frame
public import proofs.«01_k».proof.Proof.Gen.AdamInIdeal.Value
public import proofs.«01_k».proof.Proof.Gen.AdamInRefIdeal.Read
public import proofs.«01_k».proof.Proof.Gen.AdamPool.Frame
public import proofs.«01_k».proof.Proof.Gen.AdamPoolIdeal.Value
public import proofs.«01_k».proof.Proof.Gen.AdamPoolRefIdeal.Read
public import proofs.«01_k».proof.Proof.Gen.AdamGlu.Frame
public import proofs.«01_k».proof.Proof.Gen.AdamGluIdeal.Value
public import proofs.«01_k».proof.Proof.Gen.AdamGluRefIdeal.Read
public import proofs.«01_k».proof.Proof.Gen.AdamOut.Frame
public import proofs.«01_k».proof.Proof.Gen.AdamOutIdeal.Value
public import proofs.«01_k».proof.Proof.Gen.AdamOutRefIdeal.Read
public import proofs.«01_k».proof.Proof.Gen.AdamPle.Frame
public import proofs.«01_k».proof.Proof.Gen.AdamPleIdeal.Value
public import proofs.«01_k».proof.Proof.Gen.AdamPleRefIdeal.Read
public import proofs.«01_k».proof.Proof.Gen.AdamPleGate.Frame
public import proofs.«01_k».proof.Proof.Gen.AdamPleGateIdeal.Value
public import proofs.«01_k».proof.Proof.Gen.AdamPleGateRefIdeal.Read
public import proofs.«01_k».proof.Proof.GluDClaim
public import proofs.«01_k».proof.Proof.GateClaim
public import proofs.«01_k».proof.Proof.GateOutClaim
public import proofs.«01_k».proof.Proof.GluProjClaim
public import proofs.«01_k».proof.Proof.WeightClaims
public import proofs.«01_k».proof.Proof.PleGateWClaim
public import proofs.«01_k».proof.Proof.PleHClaim
public import proofs.«01_k».proof.Proof.PleClaim
public import proofs.«01_k».proof.Proof.Gen.Ple.Frame
public import proofs.«01_k».proof.Proof.Gen.PleIdeal.Frame
public import proofs.«01_k».proof.Proof.Gen.PleIdeal.Value
public import proofs.«01_k».proof.Proof.Gen.PleRefIdeal.Run
public import proofs.«01_k».proof.Proof.Gen.PleRefIdeal.Read
public import proofs.«01_k».proof.Proof.Gen.PleH.Frame
public import proofs.«01_k».proof.Proof.Gen.PleHIdeal.Frame
public import proofs.«01_k».proof.Proof.Gen.PleHIdeal.Value
public import proofs.«01_k».proof.Proof.Gen.PleHRefIdeal.Run
public import proofs.«01_k».proof.Proof.Gen.PleHRefIdeal.Read
public import proofs.«01_k».proof.Proof.Gen.PleGateW.Frame
public import proofs.«01_k».proof.Proof.Gen.PleGateWIdeal.Frame
public import proofs.«01_k».proof.Proof.Gen.PleGateWIdeal.Value
public import proofs.«01_k».proof.Proof.Gen.PleGateWRefIdeal.Run
public import proofs.«01_k».proof.Proof.Gen.PleGateWRefIdeal.Read
public import proofs.«01_k».proof.Proof.Gen.PleW.Frame
public import proofs.«01_k».proof.Proof.Gen.PleWIdeal.Frame
public import proofs.«01_k».proof.Proof.Gen.PleWIdeal.Value
public import proofs.«01_k».proof.Proof.Gen.PleWRefIdeal.Run
public import proofs.«01_k».proof.Proof.Gen.PleWRefIdeal.Read
public import proofs.«01_k».proof.Proof.Gen.OutW.Frame
public import proofs.«01_k».proof.Proof.Gen.OutWIdeal.Frame
public import proofs.«01_k».proof.Proof.Gen.OutWIdeal.Value
public import proofs.«01_k».proof.Proof.Gen.OutWRefIdeal.Run
public import proofs.«01_k».proof.Proof.Gen.OutWRefIdeal.Read
public import proofs.«01_k».proof.Proof.Gen.GluW.Frame
public import proofs.«01_k».proof.Proof.Gen.GluWIdeal.Frame
public import proofs.«01_k».proof.Proof.Gen.GluWIdeal.Value
public import proofs.«01_k».proof.Proof.Gen.GluWRefIdeal.Run
public import proofs.«01_k».proof.Proof.Gen.GluWRefIdeal.Read
public import proofs.«01_k».proof.Proof.Gen.GluProj.Frame
public import proofs.«01_k».proof.Proof.Gen.GluProjIdeal.Frame
public import proofs.«01_k».proof.Proof.Gen.GluProjIdeal.Value
public import proofs.«01_k».proof.Proof.Gen.GluProjRefIdeal.Run
public import proofs.«01_k».proof.Proof.Gen.GluProjRefIdeal.Read
public import proofs.«01_k».proof.Proof.Gen.GateOut.Frame
public import proofs.«01_k».proof.Proof.Gen.GateOutIdeal.Frame
public import proofs.«01_k».proof.Proof.Gen.GateOutIdeal.Value
public import proofs.«01_k».proof.Proof.Gen.GateOutRefIdeal.Run
public import proofs.«01_k».proof.Proof.Gen.GateOutRefIdeal.Read
public import proofs.«01_k».proof.Proof.Gen.Gate.Frame
public import proofs.«01_k».proof.Proof.Gen.GateIdeal.Frame
public import proofs.«01_k».proof.Proof.Gen.GateIdeal.Value
public import proofs.«01_k».proof.Proof.Gen.GateRefIdeal.Run
public import proofs.«01_k».proof.Proof.Gen.GateRefIdeal.Read
public import proofs.«01_k».proof.Proof.Gen.GluD.Frame
public import proofs.«01_k».proof.Proof.Gen.GluDIdeal.Frame
public import proofs.«01_k».proof.Proof.Gen.GluDIdeal.Value
public import proofs.«01_k».proof.Proof.Gen.GluDRefIdeal.Run
public import proofs.«01_k».proof.Proof.Gen.GluDRefIdeal.Read
public import Idealize.ShloMosaic.Adequacy
public import Idealize.ShloMosaic.Init

@[expose] public section

noncomputable section

namespace Cert.Proof

open Idealize.ShloMosaic Idealize.SL.Sem

theorem claim : Cert.Claim := ⟨Cert.Pool.Gen.facts, Cert.PoolIdeal.Gen.facts, Cert.PoolRefIdeal.Gen.facts,
  Cert.Norm.Gen.facts, Cert.NormIdeal.Gen.facts, Cert.NormRefIdeal.Gen.facts,
  Cert.InW.Gen.facts, Cert.InWIdeal.Gen.facts, Cert.InWRefIdeal.Gen.facts,
  Cert.InProj.Gen.facts, Cert.InProjIdeal.Gen.facts, Cert.InProjRefIdeal.Gen.facts,
  Cert.Ple.Gen.facts, Cert.PleIdeal.Gen.facts, Cert.PleRefIdeal.Gen.facts,
  Cert.PleH.Gen.facts, Cert.PleHIdeal.Gen.facts, Cert.PleHRefIdeal.Gen.facts,
  Cert.PleGateW.Gen.facts, Cert.PleGateWIdeal.Gen.facts, Cert.PleGateWRefIdeal.Gen.facts,
  Cert.PleW.Gen.facts, Cert.PleWIdeal.Gen.facts, Cert.PleWRefIdeal.Gen.facts,
  Cert.OutW.Gen.facts, Cert.OutWIdeal.Gen.facts, Cert.OutWRefIdeal.Gen.facts,
  Cert.GluW.Gen.facts, Cert.GluWIdeal.Gen.facts, Cert.GluWRefIdeal.Gen.facts,
  Cert.GluProj.Gen.facts, Cert.GluProjIdeal.Gen.facts, Cert.GluProjRefIdeal.Gen.facts,
  Cert.GateOut.Gen.facts, Cert.GateOutIdeal.Gen.facts, Cert.GateOutRefIdeal.Gen.facts,
  Cert.Gate.Gen.facts, Cert.GateIdeal.Gen.facts, Cert.GateRefIdeal.Gen.facts,
  Cert.GluD.Gen.facts, Cert.GluDIdeal.Gen.facts, Cert.GluDRefIdeal.Gen.facts,
  Cert.AdamIn.Gen.facts, Cert.AdamInIdeal.Gen.facts, Cert.AdamInRefIdeal.Gen.facts,
  Cert.AdamPool.Gen.facts, Cert.AdamPoolIdeal.Gen.facts, Cert.AdamPoolRefIdeal.Gen.facts,
  Cert.AdamGlu.Gen.facts, Cert.AdamGluIdeal.Gen.facts, Cert.AdamGluRefIdeal.Gen.facts,
  Cert.AdamOut.Gen.facts, Cert.AdamOutIdeal.Gen.facts, Cert.AdamOutRefIdeal.Gen.facts,
  Cert.AdamPle.Gen.facts, Cert.AdamPleIdeal.Gen.facts, Cert.AdamPleRefIdeal.Gen.facts,
  Cert.AdamPleGate.Gen.facts, Cert.AdamPleGateIdeal.Gen.facts, Cert.AdamPleGateRefIdeal.Gen.facts,
  Cert.AdamRows.Gen.facts, Cert.AdamRowsIdeal.Gen.facts, Cert.AdamRowsRefIdeal.Gen.facts,
  Cert.AdamStates.Gen.facts, Cert.AdamStatesIdeal.Gen.facts, Cert.AdamStatesRefIdeal.Gen.facts,
  Cert.Pre_pool_finite.Gen.facts, Cert.Pre_gate_finite.Gen.facts, Cert.Pre_glu_finite.Gen.facts,
  fun m ρ _ => Cert.Pool.Gen.frame m ρ, fun m ρ _ => Cert.PoolIdeal.Gen.frame m ρ, fun m ρ _ => Cert.PoolIdeal.Gen.frame m ρ,
  PoolClaim.reference_frame, fun m ρ _ => PoolClaim.reference_frame m ρ trivial,
  fun m ρ _ => Cert.Norm.Gen.frame m ρ, fun m ρ _ => Cert.NormIdeal.Gen.frame m ρ,
  NormClaim.reference_frame,
  fun m ρ _ => Cert.InW.Gen.frame m ρ, fun m ρ _ => Cert.InWIdeal.Gen.frame m ρ,
  InWClaim.reference_frame,
  fun m ρ _ => Cert.InProj.Gen.frame m ρ, fun m ρ _ => Cert.InProjIdeal.Gen.frame m ρ,
  InProjClaim.reference_frame,
  fun m ρ _ => Cert.Ple.Gen.frame m ρ, fun m ρ _ => Cert.PleIdeal.Gen.frame m ρ,
  PleClaim.reference_frame,
  fun m ρ _ => Cert.PleH.Gen.frame m ρ, fun m ρ _ => Cert.PleHIdeal.Gen.frame m ρ,
  PleHClaim.reference_frame,
  fun m ρ _ => Cert.PleGateW.Gen.frame m ρ, fun m ρ _ => Cert.PleGateWIdeal.Gen.frame m ρ,
  PleGateWClaim.reference_frame,
  fun m ρ _ => Cert.PleW.Gen.frame m ρ, fun m ρ _ => Cert.PleWIdeal.Gen.frame m ρ,
  PleWClaim.reference_frame,
  fun m ρ _ => Cert.OutW.Gen.frame m ρ, fun m ρ _ => Cert.OutWIdeal.Gen.frame m ρ,
  OutWClaim.reference_frame,
  fun m ρ _ => Cert.GluW.Gen.frame m ρ, fun m ρ _ => Cert.GluWIdeal.Gen.frame m ρ,
  GluWClaim.reference_frame,
  fun m ρ _ => Cert.GluProj.Gen.frame m ρ, fun m ρ _ => Cert.GluProjIdeal.Gen.frame m ρ,
  GluProjClaim.reference_frame,
  fun m ρ _ => Cert.GateOut.Gen.frame m ρ, fun m ρ _ => Cert.GateOutIdeal.Gen.frame m ρ,
  GateOutClaim.reference_frame,
  fun m ρ _ => Cert.Gate.Gen.frame m ρ, fun m ρ _ => Cert.GateIdeal.Gen.frame m ρ, fun m ρ _ => Cert.GateIdeal.Gen.frame m ρ,
  GateClaim.reference_frame, fun m ρ _ => GateClaim.reference_frame m ρ trivial,
  fun m ρ _ => Cert.GluD.Gen.frame m ρ, fun m ρ _ => Cert.GluDIdeal.Gen.frame m ρ, fun m ρ _ => Cert.GluDIdeal.Gen.frame m ρ,
  GluDClaim.reference_frame, fun m ρ _ => GluDClaim.reference_frame m ρ trivial,
  fun m ρ _ => Cert.AdamIn.Gen.frame m ρ, fun m ρ _ => Cert.AdamInIdeal.Gen.frame m ρ,
  AdamInClaim.reference_frame,
  fun m ρ _ => Cert.AdamPool.Gen.frame m ρ, fun m ρ _ => Cert.AdamPoolIdeal.Gen.frame m ρ,
  AdamPoolClaim.reference_frame,
  fun m ρ _ => Cert.AdamGlu.Gen.frame m ρ, fun m ρ _ => Cert.AdamGluIdeal.Gen.frame m ρ,
  AdamGluClaim.reference_frame,
  fun m ρ _ => Cert.AdamOut.Gen.frame m ρ, fun m ρ _ => Cert.AdamOutIdeal.Gen.frame m ρ,
  AdamOutClaim.reference_frame,
  fun m ρ _ => Cert.AdamPle.Gen.frame m ρ, fun m ρ _ => Cert.AdamPleIdeal.Gen.frame m ρ,
  AdamPleClaim.reference_frame,
  fun m ρ _ => Cert.AdamPleGate.Gen.frame m ρ, fun m ρ _ => Cert.AdamPleGateIdeal.Gen.frame m ρ,
  AdamPleGateClaim.reference_frame,
  AdamSmall.rows_frame, AdamSmall.rowsIdeal_frame, AdamRowsClaim.reference_frame,
  AdamSmall.states_frame, AdamSmall.statesIdeal_frame, AdamStatesClaim.reference_frame,
  trivial, PoolClaim.algebraic,
  trivial, NormClaim.algebraic,
  trivial, InWClaim.algebraic,
  trivial, InProjClaim.algebraic,
  trivial, PleClaim.algebraic,
  trivial, PleHClaim.algebraic,
  trivial, PleGateWClaim.algebraic,
  trivial, PleWClaim.algebraic,
  trivial, OutWClaim.algebraic,
  trivial, GluWClaim.algebraic,
  trivial, GluProjClaim.algebraic,
  trivial, GateOutClaim.algebraic,
  trivial, GateClaim.algebraic,
  GluDClaim.preserves, GluDClaim.algebraic,
  trivial, AdamInClaim.algebraic,
  trivial, AdamPoolClaim.algebraic,
  trivial, AdamGluClaim.algebraic,
  trivial, AdamOutClaim.algebraic,
  trivial, AdamPleClaim.algebraic,
  trivial, AdamPleGateClaim.algebraic,
  trivial, AdamRowsClaim.algebraic,
  trivial, AdamStatesClaim.algebraic⟩

end Cert.Proof

end
